-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.1 = (fun _ => 1#1)
    ∧ (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6))).2.2.2.2.2.2 = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.1 = (fun _ => 1#1)
    ∧ (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6))).2.2.2.2.2.2 = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v500) = v0 c
          ∧ r.2.mem ((c.tc : Thread Cert.ReferenceIdeal.nD Cert.ReferenceIdeal.τ).loc Cert.ReferenceIdeal.main_v549) = v1 c
          ∧ r.2.mem ((c.tc : Thread Cert.ReferenceIdeal.nD Cert.ReferenceIdeal.τ).loc Cert.ReferenceIdeal.main_v547) = v2 c
          ∧ r.2.mem ((c.tc : Thread Cert.ReferenceIdeal.nD Cert.ReferenceIdeal.τ).loc Cert.ReferenceIdeal.main_v554) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v10) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v43) = v0 c
          ∧ r.2.mem ((c.tc : Thread Cert.Reference6Ideal.nD Cert.Reference6Ideal.τ).loc Cert.Reference6Ideal.main_v44) = v1 c
          ∧ r.2.mem ((c.tc : Thread Cert.Reference6Ideal.nD Cert.Reference6Ideal.τ).loc Cert.Reference6Ideal.main_v45) = v2 c
          ∧ r.2.mem ((c.tc : Thread Cert.Reference6Ideal.nD Cert.Reference6Ideal.τ).loc Cert.Reference6Ideal.main_v48) = v3 c
          ∧ r.2.mem ((c.tc : Thread Cert.Reference6Ideal.nD Cert.Reference6Ideal.τ).loc Cert.Reference6Ideal.main_v51) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v52_0)) (v1 : (c : Dev Cert.Kernel7Ideal.nD) → Buf (Elt Ideal) ((c.tc : Thread Cert.Kernel7Ideal.nD Cert.Kernel7Ideal.τ).loc Cert.Kernel7Ideal.main_v52_1)) (v2 : (c : Dev Cert.Kernel7Ideal.nD) → Buf (Elt Ideal) ((c.tc : Thread Cert.Kernel7Ideal.nD Cert.Kernel7Ideal.τ).loc Cert.Kernel7Ideal.main_v52_2)) (v3 : (c : Dev Cert.Kernel7Ideal.nD) → Buf (Elt Ideal) ((c.tc : Thread Cert.Kernel7Ideal.nD Cert.Kernel7Ideal.τ).loc Cert.Kernel7Ideal.main_v52_3)) (v4 : (c : Dev Cert.Kernel7Ideal.nD) → Buf (Elt Ideal) ((c.tc : Thread Cert.Kernel7Ideal.nD Cert.Kernel7Ideal.τ).loc Cert.Kernel7Ideal.main_v52_4)) (v5 : (c : Dev Cert.Kernel7Ideal.nD) → Buf (Elt Ideal) ((c.tc : Thread Cert.Kernel7Ideal.nD Cert.Kernel7Ideal.τ).loc Cert.Kernel7Ideal.main_v52_5)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v52_0) = v0 c
          ∧ r.2.mem ((c.tc : Thread Cert.Kernel7Ideal.nD Cert.Kernel7Ideal.τ).loc Cert.Kernel7Ideal.main_v52_1) = v1 c
          ∧ r.2.mem ((c.tc : Thread Cert.Kernel7Ideal.nD Cert.Kernel7Ideal.τ).loc Cert.Kernel7Ideal.main_v52_2) = v2 c
          ∧ r.2.mem ((c.tc : Thread Cert.Kernel7Ideal.nD Cert.Kernel7Ideal.τ).loc Cert.Kernel7Ideal.main_v52_3) = v3 c
          ∧ r.2.mem ((c.tc : Thread Cert.Kernel7Ideal.nD Cert.Kernel7Ideal.τ).loc Cert.Kernel7Ideal.main_v52_4) = v4 c
          ∧ r.2.mem ((c.tc : Thread Cert.Kernel7Ideal.nD Cert.Kernel7Ideal.τ).loc Cert.Kernel7Ideal.main_v52_5) = v5 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v92) = v0 c
          ∧ r.2.mem ((c.tc : Thread Cert.Reference7Ideal.nD Cert.Reference7Ideal.τ).loc Cert.Reference7Ideal.main_v95) = v1 c
          ∧ r.2.mem ((c.tc : Thread Cert.Reference7Ideal.nD Cert.Reference7Ideal.τ).loc Cert.Reference7Ideal.main_v98) = v2 c
          ∧ r.2.mem ((c.tc : Thread Cert.Reference7Ideal.nD Cert.Reference7Ideal.τ).loc Cert.Reference7Ideal.main_v101) = v3 c
          ∧ r.2.mem ((c.tc : Thread Cert.Reference7Ideal.nD Cert.Reference7Ideal.τ).loc Cert.Reference7Ideal.main_v102) = v4 c
          ∧ r.2.mem ((c.tc : Thread Cert.Reference7Ideal.nD Cert.Reference7Ideal.τ).loc Cert.Reference7Ideal.main_v103) = v5 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v7) = v0 c
          ∧ r.2.mem ((c.tc : Thread Cert.Reference8Ideal.nD Cert.Reference8Ideal.τ).loc Cert.Reference8Ideal.main_v8) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
-- ==== Pre_finite.lean ====
abbrev S8x2048x128 : Shape := ⟨3, ![8, 2048, 128]⟩
abbrev S8x2304x128 : Shape := ⟨3, ![8, 2304, 128]⟩
abbrev S2x8 : Shape := ⟨2, ![2, 8]⟩
abbrev S_ : Shape := ⟨0, ![]⟩

class Facts : Prop where
  bcast_S_S8x2048x128 : S_.BroadcastsInDim S8x2048x128 (![] : Fin 0 → Fin S8x2048x128.rank)
  bcast_S_S8x2304x128 : S_.BroadcastsInDim S8x2304x128 (![] : Fin 0 → Fin S8x2304x128.rank)
  bcast_S_S2x8 : S_.BroadcastsInDim S2x8 (![] : Fin 0 → Fin S2x8.rank)

variable [Facts]

def fn {F : FTy → Type} [FloatOps F] (main_arg0 : FVec F S8x2048x128 .bf16) (main_arg1 : FVec F S8x2304x128 .bf16) (main_arg2 : FVec F S8x2304x128 .bf16) (main_arg3 : FVec F S2x8 .f32) (main_arg4 : FVec F S8x2048x128 .f32) : IVec S8x2048x128 1 × IVec S8x2304x128 1 × IVec S8x2304x128 1 × IVec S2x8 1 × IVec S8x2048x128 1 :=
  let main_v0 : FVec F S8x2048x128 .bf16 := Host.absf main_arg0
  let main_cst : FVec F S_ .bf16 := constant S_ .bf16 0x7F80#16
  let main_v1 : FVec F S8x2048x128 .bf16 := broadcastInDim S8x2048x128 ![] bcast_S_S8x2048x128 main_cst
  let main_v2 : IVec S8x2048x128 1 := cmpf .olt main_v0 main_v1
  let main_v3 : FVec F S8x2304x128 .bf16 := Host.absf main_arg1
  let main_cst_0 : FVec F S_ .bf16 := constant S_ .bf16 0x7F80#16
  let main_v4 : FVec F S8x2304x128 .bf16 := broadcastInDim S8x2304x128 ![] bcast_S_S8x2304x128 main_cst_0
  let main_v5 : IVec S8x2304x128 1 := cmpf .olt main_v3 main_v4
  let main_v6 : FVec F S8x2304x128 .bf16 := Host.absf main_arg2
  let main_cst_1 : FVec F S_ .bf16 := constant S_ .bf16 0x7F80#16
  let main_v7 : FVec F S8x2304x128 .bf16 := broadcastInDim S8x2304x128 ![] bcast_S_S8x2304x128 main_cst_1
  let main_v8 : IVec S8x2304x128 1 := cmpf .olt main_v6 main_v7
  let main_v9 : FVec F S2x8 .f32 := Host.absf main_arg3
  let main_cst_2 : FVec F S_ .f32 := constant S_ .f32 0x7F800000#32
  let main_v10 : FVec F S2x8 .f32 := broadcastInDim S2x8 ![] bcast_S_S2x8 main_cst_2
  let main_v11 : IVec S2x8 1 := cmpf .olt main_v9 main_v10
  let main_v12 : FVec F S8x2048x128 .f32 := Host.absf main_arg4
  let main_cst_3 : FVec F S_ .f32 := constant S_ .f32 0x7F800000#32
  let main_v13 : FVec F S8x2048x128 .f32 := broadcastInDim S8x2048x128 ![] bcast_S_S8x2048x128 main_cst_3
  let main_v14 : IVec S8x2048x128 1 := cmpf .olt main_v12 main_v13
  (main_v2, main_v5, main_v8, main_v11, main_v14)
-- ==== Pre_finite7.lean ====
abbrev S2048x2048 : Shape := ⟨2, ![2048, 2048]⟩
abbrev S1x3x2048 : Shape := ⟨3, ![1, 3, 2048]⟩
abbrev S1x2048 : Shape := ⟨2, ![1, 2048]⟩
abbrev S8x704x2048 : Shape := ⟨3, ![8, 704, 2048]⟩
abbrev S_ : Shape := ⟨0, ![]⟩

class Facts : Prop where
  bcast_S_S2048x2048 : S_.BroadcastsInDim S2048x2048 (![] : Fin 0 → Fin S2048x2048.rank)
  bcast_S_S1x3x2048 : S_.BroadcastsInDim S1x3x2048 (![] : Fin 0 → Fin S1x3x2048.rank)
  bcast_S_S1x2048 : S_.BroadcastsInDim S1x2048 (![] : Fin 0 → Fin S1x2048.rank)
  bcast_S_S8x704x2048 : S_.BroadcastsInDim S8x704x2048 (![] : Fin 0 → Fin S8x704x2048.rank)

variable [Facts]

def fn_part1 {F : FTy → Type} [FloatOps F] (main_arg6 : FVec F S8x704x2048 .bf16) (main_v2 : IVec S2048x2048 1) (main_v5 : IVec S2048x2048 1) (main_v8 : IVec S1x3x2048 1) (main_v11 : IVec S1x2048 1) (main_v14 : IVec S8x704x2048 1) (main_v17 : IVec S8x704x2048 1) : IVec S2048x2048 1 × IVec S2048x2048 1 × IVec S1x3x2048 1 × IVec S1x2048 1 × IVec S8x704x2048 1 × IVec S8x704x2048 1 × IVec S8x704x2048 1 :=
  let main_v18 : FVec F S8x704x2048 .bf16 := Host.absf main_arg6
  let main_cst_5 : FVec F S_ .bf16 := constant S_ .bf16 0x7F80#16
  let main_v19 : FVec F S8x704x2048 .bf16 := broadcastInDim S8x704x2048 ![] bcast_S_S8x704x2048 main_cst_5
  let main_v20 : IVec S8x704x2048 1 := cmpf .olt main_v18 main_v19
  (main_v2, main_v5, main_v8, main_v11, main_v14, main_v17, main_v20)

def fn {F : FTy → Type} [FloatOps F] (main_arg0 : FVec F S2048x2048 .f32) (main_arg1 : FVec F S2048x2048 .f32) (main_arg2 : FVec F S1x3x2048 .f32) (main_arg3 : FVec F S1x2048 .f32) (main_arg4 : FVec F S8x704x2048 .bf16) (main_arg5 : FVec F S8x704x2048 .bf16) (main_arg6 : FVec F S8x704x2048 .bf16) : IVec S2048x2048 1 × IVec S2048x2048 1 × IVec S1x3x2048 1 × IVec S1x2048 1 × IVec S8x704x2048 1 × IVec S8x704x2048 1 × IVec S8x704x2048 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_v3 : FVec F S2048x2048 .f32 := Host.absf main_arg1
  let main_cst_0 : FVec F S_ .f32 := constant S_ .f32 0x7F800000#32
  let main_v4 : FVec F S2048x2048 .f32 := broadcastInDim S2048x2048 ![] bcast_S_S2048x2048 main_cst_0
  let main_v5 : IVec S2048x2048 1 := cmpf .olt main_v3 main_v4
  let main_v6 : FVec F S1x3x2048 .f32 := Host.absf main_arg2
  let main_cst_1 : FVec F S_ .f32 := constant S_ .f32 0x7F800000#32
  let main_v7 : FVec F S1x3x2048 .f32 := broadcastInDim S1x3x2048 ![] bcast_S_S1x3x2048 main_cst_1
  let main_v8 : IVec S1x3x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S8x704x2048 .bf16 := Host.absf main_arg4
  let main_cst_3 : FVec F S_ .bf16 := constant S_ .bf16 0x7F80#16
  let main_v13 : FVec F S8x704x2048 .bf16 := broadcastInDim S8x704x2048 ![] bcast_S_S8x704x2048 main_cst_3
  let main_v14 : IVec S8x704x2048 1 := cmpf .olt main_v12 main_v13
  let main_v15 : FVec F S8x704x2048 .bf16 := Host.absf main_arg5
  let main_cst_4 : FVec F S_ .bf16 := constant S_ .bf16 0x7F80#16
  let main_v16 : FVec F S8x704x2048 .bf16 := broadcastInDim S8x704x2048 ![] bcast_S_S8x704x2048 main_cst_4
  let main_v17 : IVec S8x704x2048 1 := cmpf .olt main_v15 main_v16
  fn_part1 (F := F) main_arg6 main_v2 main_v5 main_v8 main_v11 main_v14 main_v17
-- ==== Kernel.lean ====
abbrev S8x2048x128 : Shape := ⟨3, ![8, 2048, 128]⟩
abbrev S8x2304x128 : Shape := ⟨3, ![8, 2304, 128]⟩
abbrev S2x8 : Shape := ⟨2, ![2, 8]⟩
abbrev S8x8x128 : Shape := ⟨3, ![8, 8, 128]⟩
abbrev S1x512x128 : Shape := ⟨3, ![1, 512, 128]⟩
abbrev S1x768x128 : Shape := ⟨3, ![1, 768, 128]⟩
abbrev S1x2048x128 : Shape := ⟨3, ![1, 2048, 128]⟩
abbrev S1x8x128 : Shape := ⟨3, ![1, 8, 128]⟩
abbrev S2048x128 : Shape := ⟨2, ![2048, 128]⟩
abbrev S8x128 : Shape := ⟨2, ![8, 128]⟩
abbrev S768x128 : Shape := ⟨2, ![768, 128]⟩
abbrev S512x128 : Shape := ⟨2, ![512, 128]⟩
abbrev S768x512 : Shape := ⟨2, ![768, 512]⟩
abbrev S1x1 : Shape := ⟨2, ![1, 1]⟩
abbrev S1x1x128 : Shape := ⟨3, ![1, 1, 128]⟩
abbrev S1x128 : Shape := ⟨2, ![1, 128]⟩
abbrev S1x768x512 : Shape := ⟨3, ![1, 768, 512]⟩
abbrev S1 : Shape := ⟨1, ![1]⟩
abbrev S1x1x1 : Shape := ⟨3, ![1, 1, 1]⟩

abbrev nBuf : Space → Nat
  | .hbm => 9
  | .vmem => 16
  | .smem => 1
  | _ => 0

abbrev bufTy : (tb : Table) → Fin (tcTables nBuf tb) → BufTy
  | .hbm, ⟨0, _⟩ => ⟨S8x2048x128, .bf16⟩
  | .hbm, ⟨1, _⟩ => ⟨S8x2304x128, .bf16⟩
  | .hbm, ⟨2, _⟩ => ⟨S8x2304x128, .bf16⟩
  | .hbm, ⟨3, _⟩ => ⟨S2x8, .f32⟩
  | .hbm, ⟨4, _⟩ => ⟨S8x2048x128, .f32⟩
  | .hbm, ⟨5, _⟩ => ⟨S8x2048x128, .f32⟩
  | .hbm, ⟨6, _⟩ => ⟨S8x2304x128, .f32⟩
  | .hbm, ⟨7, _⟩ => ⟨S8x2304x128, .f32⟩
  | .hbm, ⟨8, _⟩ => ⟨S8x8x128, .f32⟩
  | .local _ .vmem, ⟨0, _⟩ => ⟨S1x512x128, .bf16⟩
  | .local _ .vmem, ⟨1, _⟩ => ⟨S1x512x128, .bf16⟩
  | .local _ .vmem, ⟨2, _⟩ => ⟨S1x768x128, .bf16⟩
  | .local _ .vmem, ⟨3, _⟩ => ⟨S1x768x128, .bf16⟩
  | .local _ .vmem, ⟨4, _⟩ => ⟨S1x768x128, .bf16⟩
  | .local _ .vmem, ⟨5, _⟩ => ⟨S1x768x128, .bf16⟩
  | .local _ .vmem, ⟨6, _⟩ => ⟨S1x512x128, .f32⟩
  | .local _ .vmem, ⟨7, _⟩ => ⟨S1x512x128, .f32⟩
  | .local _ .vmem, ⟨8, _⟩ => ⟨S1x2048x128, .f32⟩
  | .local _ .vmem, ⟨9, _⟩ => ⟨S1x2048x128, .f32⟩
  | .local _ .vmem, ⟨10, _⟩ => ⟨S1x768x128, .f32⟩
  | .local _ .vmem, ⟨11, _⟩ => ⟨S1x768x128, .f32⟩
  | .local _ .vmem, ⟨12, _⟩ => ⟨S1x768x128, .f32⟩
  | .local _ .vmem, ⟨13, _⟩ => ⟨S1x768x128, .f32⟩
  | .local _ .vmem, ⟨14, _⟩ => ⟨S1x8x128, .f32⟩
  | .local _ .vmem, ⟨15, _⟩ => ⟨S1x8x128, .f32⟩
  | .local _ .smem, ⟨0, _⟩ => ⟨S2x8, .f32⟩
  | _, _ => ⟨S8x2048x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![8, 3, 4], ![false, false, false]⟩

def k0_off1 (i : grid0.Coords) : Fin 2 → Nat :=
  let c0_16 : Index := 0#32
  let arg0 : BitVec 32 := BitVec.ofNat 32 (i 0).val
  let v29 : Index := Scalar.indexCast arg0
  ![0, v29.toNat]
def k0_off2 (i : grid0.Coords) : Fin 2 → Nat :=
  let c1 : Index := 1#32
  let arg0 : BitVec 32 := BitVec.ofNat 32 (i 0).val
  let v31 : Index := Scalar.indexCast arg0
  ![1, v31.toNat]
def k0_mult1 (i : grid0.Coords) : BitVec 32 :=
  let arg2 : BitVec 32 := BitVec.ofNat 32 (i 2).val
  let c512_i32_37 : BitVec 32 := 512#32
  let v74 : BitVec 32 := Scalar.muli arg2 c512_i32_37
  v74
def k0_off3 (i : grid0.Coords) : Fin 3 → Nat :=
  let c0_38 : Index := 0#32
  let arg2 : BitVec 32 := BitVec.ofNat 32 (i 2).val
  let c512_i32_37 : BitVec 32 := 512#32
  let v74 : BitVec 32 := Scalar.muli arg2 c512_i32_37
  let v75 : BitVec 32 := v74
  let v76 : Index := Scalar.indexCast v75
  let c0_39 : Index := 0#32
  ![0, v76.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x768x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x768x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x768x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x768x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]
-- ==== ReferenceIdeal.lean ====
abbrev S8x2048x128 : Shape := ⟨3, ![8, 2048, 128]⟩
abbrev S8x2304x128 : Shape := ⟨3, ![8, 2304, 128]⟩
abbrev S2x8 : Shape := ⟨2, ![2, 8]⟩
abbrev S8x256x128 : Shape := ⟨3, ![8, 256, 128]⟩
abbrev S1x8 : Shape := ⟨2, ![1, 8]⟩
abbrev S8 : Shape := ⟨1, ![8]⟩
abbrev S256 : Shape := ⟨1, ![256]⟩
abbrev S8x1 : Shape := ⟨2, ![8, 1]⟩
abbrev S_ : Shape := ⟨0, ![]⟩
abbrev S1x256 : Shape := ⟨2, ![1, 256]⟩
abbrev S8x256 : Shape := ⟨2, ![8, 256]⟩
abbrev S8x256x1 : Shape := ⟨3, ![8, 256, 1]⟩
abbrev S8x128x128 : Shape := ⟨3, ![8, 128, 128]⟩
abbrev S16x128x128 : Shape := ⟨3, ![16, 128, 128]⟩
abbrev S16 : Shape := ⟨1, ![16]⟩
abbrev S16x2048x128 : Shape := ⟨3, ![16, 2048, 128]⟩
abbrev S16x16x128x128 : Shape := ⟨4, ![16, 16, 128, 128]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S16x1x1 : Shape := ⟨3, ![16, 1, 1]⟩
abbrev S1x128x128 : Shape := ⟨3, ![1, 128, 128]⟩
abbrev S16x1 : Shape := ⟨2, ![16, 1]⟩
abbrev S16x128 : Shape := ⟨2, ![16, 128]⟩
abbrev S16x1x128x128 : Shape := ⟨4, ![16, 1, 128, 128]⟩
abbrev S16x1x128x1 : Shape := ⟨4, ![16, 1, 128, 1]⟩
abbrev S0x16x128x128 : Shape := ⟨4, ![0, 16, 128, 128]⟩
abbrev S1x16x128x128 : Shape := ⟨4, ![1, 16, 128, 128]⟩
abbrev S8x128x256 : Shape := ⟨3, ![8, 128, 256]⟩
abbrev S8x2 : Shape := ⟨2, ![8, 2]⟩
abbrev S8x6 : Shape := ⟨2, ![8, 6]⟩
abbrev S8x8 : Shape := ⟨2, ![8, 8]⟩
abbrev S8x8x1 : Shape := ⟨3, ![8, 8, 1]⟩
abbrev S8x8x128 : Shape := ⟨3, ![8, 8, 128]⟩

abbrev nBuf : Space → Nat
  | .hbm => 640
  | .vmem => 0
  | .smem => 0
  | _ => 0

abbrev hbmTy0_0 (i : Nat) : BufTy := match i % 128 with
  | 0 => ⟨S8x2048x128, .bf16⟩
  | 1 => ⟨S8x2304x128, .bf16⟩
  | 2 => ⟨S8x2304x128, .bf16⟩
  | 3 => ⟨S2x8, .f32⟩
  | 4 => ⟨S8x2048x128, .f32⟩
  | 5 => ⟨S8x2048x128, .f32⟩
  | 6 => ⟨S8x2304x128, .f32⟩
  | 7 => ⟨S8x2304x128, .f32⟩
  | 8 => ⟨S8x256x128, .f32⟩
  | 9 => ⟨S8x256x128, .f32⟩
  | 10 => ⟨S1x8, .f32⟩
  | 11 => ⟨S8, .f32⟩
  | 12 => ⟨S1x8, .f32⟩
  | 13 => ⟨S8, .f32⟩
  | 14 => ⟨S256, .f32⟩
  | 15 => ⟨S8x1, .f32⟩
  | 16 => ⟨S_, .f32⟩
  | 17 => ⟨S256, .f32⟩
  | 18 => ⟨S256, .f32⟩
  | 19 => ⟨S1x256, .f32⟩
  | 20 => ⟨S8x256, .f32⟩
  | 21 => ⟨S8x256, .f32⟩
  | 22 => ⟨S8x256, .f32⟩
  | 23 => ⟨S8x256, .f32⟩
  | 24 => ⟨S8x1, .f32⟩
  | 25 => ⟨S1x256, .f32⟩
  | 26 => ⟨S8x256, .f32⟩
  | 27 => ⟨S8x256, .f32⟩
  | 28 => ⟨S8x256, .f32⟩
  | 29 => ⟨S8x256, .f32⟩
  | 30 => ⟨S8x256x1, .f32⟩
  | 31 => ⟨S8x256x128, .f32⟩
  | 32 => ⟨S8x256x128, .f32⟩
  | 33 => ⟨S8x128x128, .f32⟩
  | 34 => ⟨S8x256x1, .f32⟩
  | 35 => ⟨S8x256x128, .f32⟩
  | 36 => ⟨S8x256x128, .f32⟩
  | 37 => ⟨S8x128x128, .f32⟩
  | 38 => ⟨S16x128x128, .f32⟩
  | 39 => ⟨S8x2048x128, .f32⟩
  | 40 => ⟨S8x2048x128, .f32⟩
  | 41 => ⟨S16, .f32⟩
  | 42 => ⟨S8x2048x128, .f32⟩
  | 43 => ⟨S16x2048x128, .f32⟩
  | 44 => ⟨S8x2048x128, .f32⟩
  | 45 => ⟨S16x2048x128, .f32⟩
  | 46 => ⟨S8x2048x128, .f32⟩
  | 47 => ⟨S16x2048x128, .f32⟩
  | 48 => ⟨S16x16x128x128, .f32⟩
  | 49 => ⟨S16x16x128x128, .f32⟩
  | 50 => ⟨S16x16x128x128, .f32⟩
  | 51 => ⟨S128, .f32⟩
  | 52 => ⟨S128x1, .f32⟩
  | 53 => ⟨S1x128, .f32⟩
  | 54 => ⟨S128x128, .f32⟩
  | 55 => ⟨S128x128, .f32⟩
  | 56 => ⟨S128x128, .f32⟩
  | 57 => ⟨S_, .f32⟩
  | 58 => ⟨S128x128, .f32⟩
  | 59 => ⟨S128x128, .i1⟩
  | 60 => ⟨S16x1x1, .f32⟩
  | 61 => ⟨S_, .f32⟩
  | 62 => ⟨S128x128, .f32⟩
  | 63 => ⟨S128x128, .f32⟩
  | 64 => ⟨S1x128x128, .f32⟩
  | 65 => ⟨S16x128x128, .f32⟩
  | 66 => ⟨S16x128x128, .f32⟩
  | 67 => ⟨S16x128x128, .f32⟩
  | 68 => ⟨S16x128x128, .f32⟩
  | 69 => ⟨S_, .f32⟩
  | 70 => ⟨S_, .f32⟩
  | 71 => ⟨S16x128x128, .i1⟩
  | 72 => ⟨S16x128x128, .f32⟩
  | 73 => ⟨S16x128x128, .f32⟩
  | 74 => ⟨S_, .f32⟩
  | 75 => ⟨S16x128x128, .f32⟩
  | 76 => ⟨S16x1, .f32⟩
  | 77 => ⟨S_, .f32⟩
  | 78 => ⟨S128, .f32⟩
  | 79 => ⟨S128, .f32⟩
  | 80 => ⟨S1x128, .f32⟩
  | 81 => ⟨S16x128, .f32⟩
  | 82 => ⟨S16x128, .f32⟩
  | 83 => ⟨S16x128, .f32⟩
  | 84 => ⟨S16x128, .f32⟩
  | 85 => ⟨S16x1, .f32⟩
  | 86 => ⟨S_, .f32⟩
  | 87 => ⟨S128, .f32⟩
  | 88 => ⟨S128, .f32⟩
  | 89 => ⟨S1x128, .f32⟩
  | 90 => ⟨S16x128, .f32⟩
  | 91 => ⟨S16x128, .f32⟩
  | 92 => ⟨S16x128, .f32⟩
  | 93 => ⟨S16x128, .f32⟩
  | 94 => ⟨S_, .f32⟩
  | 95 => ⟨S16, .f32⟩
  | 96 => ⟨S16, .f32⟩
  | 97 => ⟨S16, .f32⟩
  | 98 => ⟨S16x16x128x128, .f32⟩
  | 99 => ⟨S16x1x128x128, .f32⟩
  | 100 => ⟨S16x16x128x128, .f32⟩
  | 101 => ⟨S16x16x128x128, .f32⟩
  | 102 => ⟨S16x16x128x128, .f32⟩
  | 103 => ⟨S16x1x128x1, .f32⟩
  | 104 => ⟨S16x16x128x128, .f32⟩
  | 105 => ⟨S16x16x128x128, .f32⟩
  | 106 => ⟨S16x16x128x128, .f32⟩
  | 107 => ⟨S16x16x128x128, .f32⟩
  | 108 => ⟨S16x1x1, .f32⟩
  | 109 => ⟨S0x16x128x128, .f32⟩
  | 110 => ⟨S16x16x128x128, .f32⟩
  | 111 => ⟨S_, .f32⟩
  | 112 => ⟨S0x16x128x128, .f32⟩
  | 113 => ⟨S1x16x128x128, .f32⟩
  | 114 => ⟨S16x128x128, .f32⟩
  | 115 => ⟨S16x128x128, .f32⟩
  | 116 => ⟨S16x128x128, .f32⟩
  | 117 => ⟨S16x128x128, .f32⟩
  | 118 => ⟨S1x16x128x128, .f32⟩
  | 119 => ⟨S16x128x128, .f32⟩
  | 120 => ⟨S16x128x128, .f32⟩
  | 121 => ⟨S16x128x128, .f32⟩
  | 122 => ⟨S16x128x128, .f32⟩
  | 123 => ⟨S1x16x128x128, .f32⟩
  | 124 => ⟨S16x128x128, .f32⟩
  | 125 => ⟨S16x128x128, .f32⟩
  | 126 => ⟨S16x128x128, .f32⟩
  | 127 => ⟨S16x128x128, .f32⟩
  | _ => ⟨S8x2048x128, .bf16⟩

abbrev hbmTy0_1 (i : Nat) : BufTy := match i % 128 with
  | 0 => ⟨S1x16x128x128, .f32⟩
  | 1 => ⟨S16x128x128, .f32⟩
  | 2 => ⟨S16x128x128, .f32⟩
  | 3 => ⟨S16x128x128, .f32⟩
  | 4 => ⟨S16x128x128, .f32⟩
  | 5 => ⟨S1x16x128x128, .f32⟩
  | 6 => ⟨S16x128x128, .f32⟩
  | 7 => ⟨S16x128x128, .f32⟩
  | 8 => ⟨S16x128x128, .f32⟩
  | 9 => ⟨S16x128x128, .f32⟩
  | 10 => ⟨S1x16x128x128, .f32⟩
  | 11 => ⟨S16x128x128, .f32⟩
  | 12 => ⟨S16x128x128, .f32⟩
  | 13 => ⟨S16x128x128, .f32⟩
  | 14 => ⟨S16x128x128, .f32⟩
  | 15 => ⟨S1x16x128x128, .f32⟩
  | 16 => ⟨S16x128x128, .f32⟩
  | 17 => ⟨S16x128x128, .f32⟩
  | 18 => ⟨S16x128x128, .f32⟩
  | 19 => ⟨S16x128x128, .f32⟩
  | 20 => ⟨S1x16x128x128, .f32⟩
  | 21 => ⟨S16x128x128, .f32⟩
  | 22 => ⟨S16x128x128, .f32⟩
  | 23 => ⟨S16x128x128, .f32⟩
  | 24 => ⟨S16x128x128, .f32⟩
  | 25 => ⟨S1x16x128x128, .f32⟩
  | 26 => ⟨S16x128x128, .f32⟩
  | 27 => ⟨S16x128x128, .f32⟩
  | 28 => ⟨S16x128x128, .f32⟩
  | 29 => ⟨S16x128x128, .f32⟩
  | 30 => ⟨S1x16x128x128, .f32⟩
  | 31 => ⟨S16x128x128, .f32⟩
  | 32 => ⟨S16x128x128, .f32⟩
  | 33 => ⟨S16x128x128, .f32⟩
  | 34 => ⟨S16x128x128, .f32⟩
  | 35 => ⟨S1x16x128x128, .f32⟩
  | 36 => ⟨S16x128x128, .f32⟩
  | 37 => ⟨S16x128x128, .f32⟩
  | 38 => ⟨S16x128x128, .f32⟩
  | 39 => ⟨S16x128x128, .f32⟩
  | 40 => ⟨S1x16x128x128, .f32⟩
  | 41 => ⟨S16x128x128, .f32⟩
  | 42 => ⟨S16x128x128, .f32⟩
  | 43 => ⟨S16x128x128, .f32⟩
  | 44 => ⟨S16x128x128, .f32⟩
  | 45 => ⟨S1x16x128x128, .f32⟩
  | 46 => ⟨S16x128x128, .f32⟩
  | 47 => ⟨S16x128x128, .f32⟩
  | 48 => ⟨S16x128x128, .f32⟩
  | 49 => ⟨S16x128x128, .f32⟩
  | 50 => ⟨S1x16x128x128, .f32⟩
  | 51 => ⟨S16x128x128, .f32⟩
  | 52 => ⟨S16x128x128, .f32⟩
  | 53 => ⟨S16x128x128, .f32⟩
  | 54 => ⟨S16x128x128, .f32⟩
  | 55 => ⟨S1x16x128x128, .f32⟩
  | 56 => ⟨S16x128x128, .f32⟩
  | 57 => ⟨S16x128x128, .f32⟩
  | 58 => ⟨S16x128x128, .f32⟩
  | 59 => ⟨S16x128x128, .f32⟩
  | 60 => ⟨S1x16x128x128, .f32⟩
  | 61 => ⟨S16x128x128, .f32⟩
  | 62 => ⟨S16x128x128, .f32⟩
  | 63 => ⟨S16x128x128, .f32⟩
  | 64 => ⟨S16x128x128, .f32⟩
  | 65 => ⟨S1x16x128x128, .f32⟩
  | 66 => ⟨S1x16x128x128, .f32⟩
  | 67 => ⟨S1x16x128x128, .f32⟩
  | 68 => ⟨S1x16x128x128, .f32⟩
  | 69 => ⟨S1x16x128x128, .f32⟩
  | 70 => ⟨S1x16x128x128, .f32⟩
  | 71 => ⟨S1x16x128x128, .f32⟩
  | 72 => ⟨S1x16x128x128, .f32⟩
  | 73 => ⟨S1x16x128x128, .f32⟩
  | 74 => ⟨S1x16x128x128, .f32⟩
  | 75 => ⟨S1x16x128x128, .f32⟩
  | 76 => ⟨S1x16x128x128, .f32⟩
  | 77 => ⟨S1x16x128x128, .f32⟩
  | 78 => ⟨S1x16x128x128, .f32⟩
  | 79 => ⟨S1x16x128x128, .f32⟩
  | 80 => ⟨S1x16x128x128, .f32⟩
  | 81 => ⟨S16x16x128x128, .f32⟩
  | 82 => ⟨S16x16x128x128, .f32⟩
  | 83 => ⟨S16x1x128x1, .f32⟩
  | 84 => ⟨S16x16x128x128, .f32⟩
  | 85 => ⟨S16x16x128x128, .f32⟩
  | 86 => ⟨S16x16x128x128, .f32⟩
  | 87 => ⟨S16x16x128x128, .f32⟩
  | 88 => ⟨S16x2048x128, .f32⟩
  | 89 => ⟨S8x2048x128, .f32⟩
  | 90 => ⟨S8x2048x128, .f32⟩
  | 91 => ⟨S8x2048x128, .f32⟩
  | 92 => ⟨S8x2048x128, .f32⟩
  | 93 => ⟨S8x2048x128, .f32⟩
  | 94 => ⟨S8x2048x128, .f32⟩
  | 95 => ⟨S8x2048x128, .f32⟩
  | 96 => ⟨S_, .f32⟩
  | 97 => ⟨S16x2048x128, .f32⟩
  | 98 => ⟨S_, .f32⟩
  | 99 => ⟨S16x2048x128, .f32⟩
  | 100 => ⟨S16x2048x128, .f32⟩
  | 101 => ⟨S16x16x128x128, .f32⟩
  | 102 => ⟨S16x16x128x128, .f32⟩
  | 103 => ⟨S16x16x128x128, .f32⟩
  | 104 => ⟨S16x16x128x128, .f32⟩
  | 105 => ⟨S16x16x128x128, .f32⟩
  | 106 => ⟨S_, .f32⟩
  | 107 => ⟨S16x128, .f32⟩
  | 108 => ⟨S16x1x128x1, .f32⟩
  | 109 => ⟨S16x16x128x128, .f32⟩
  | 110 => ⟨S16x16x128x128, .f32⟩
  | 111 => ⟨S_, .f32⟩
  | 112 => ⟨S16x128, .f32⟩
  | 113 => ⟨S_, .f32⟩
  | 114 => ⟨S16x128x128, .f32⟩
  | 115 => ⟨S_, .f32⟩
  | 116 => ⟨S16, .f32⟩
  | 117 => ⟨S16x16x128x128, .f32⟩
  | 118 => ⟨S0x16x128x128, .f32⟩
  | 119 => ⟨S16x16x128x128, .f32⟩
  | 120 => ⟨S0x16x128x128, .f32⟩
  | 121 => ⟨S_, .f32⟩
  | 122 => ⟨S0x16x128x128, .f32⟩
  | 123 => ⟨S1x16x128x128, .f32⟩
  | 124 => ⟨S16x128x128, .f32⟩
  | 125 => ⟨S1x16x128x128, .f32⟩
  | 126 => ⟨S16x128x128, .f32⟩
  | 127 => ⟨S16x128x128, .f32⟩
  | _ => ⟨S8x2048x128, .bf16⟩

abbrev hbmTy0_2 (i : Nat) : BufTy := match i % 128 with
  | 0 => ⟨S_, .f32⟩
  | 1 => ⟨S16, .f32⟩
  | 2 => ⟨S16x1x1, .f32⟩
  | 3 => ⟨S16x128x128, .f32⟩
  | 4 => ⟨S16x128x128, .f32⟩
  | 5 => ⟨S16x128x128, .f32⟩
  | 6 => ⟨S_, .f32⟩
  | 7 => ⟨S16, .f32⟩
  | 8 => ⟨S16, .f32⟩
  | 9 => ⟨S1x16x128x128, .f32⟩
  | 10 => ⟨S16x128x128, .f32⟩
  | 11 => ⟨S1x16x128x128, .f32⟩
  | 12 => ⟨S16x128x128, .f32⟩
  | 13 => ⟨S16x128x128, .f32⟩
  | 14 => ⟨S_, .f32⟩
  | 15 => ⟨S16, .f32⟩
  | 16 => ⟨S16x1x1, .f32⟩
  | 17 => ⟨S16x128x128, .f32⟩
  | 18 => ⟨S16x128x128, .f32⟩
  | 19 => ⟨S16x128x128, .f32⟩
  | 20 => ⟨S_, .f32⟩
  | 21 => ⟨S16, .f32⟩
  | 22 => ⟨S16, .f32⟩
  | 23 => ⟨S1x16x128x128, .f32⟩
  | 24 => ⟨S16x128x128, .f32⟩
  | 25 => ⟨S1x16x128x128, .f32⟩
  | 26 => ⟨S16x128x128, .f32⟩
  | 27 => ⟨S16x128x128, .f32⟩
  | 28 => ⟨S_, .f32⟩
  | 29 => ⟨S16, .f32⟩
  | 30 => ⟨S16x1x1, .f32⟩
  | 31 => ⟨S16x128x128, .f32⟩
  | 32 => ⟨S16x128x128, .f32⟩
  | 33 => ⟨S16x128x128, .f32⟩
  | 34 => ⟨S_, .f32⟩
  | 35 => ⟨S16, .f32⟩
  | 36 => ⟨S16, .f32⟩
  | 37 => ⟨S1x16x128x128, .f32⟩
  | 38 => ⟨S16x128x128, .f32⟩
  | 39 => ⟨S1x16x128x128, .f32⟩
  | 40 => ⟨S16x128x128, .f32⟩
  | 41 => ⟨S16x128x128, .f32⟩
  | 42 => ⟨S_, .f32⟩
  | 43 => ⟨S16, .f32⟩
  | 44 => ⟨S16x1x1, .f32⟩
  | 45 => ⟨S16x128x128, .f32⟩
  | 46 => ⟨S16x128x128, .f32⟩
  | 47 => ⟨S16x128x128, .f32⟩
  | 48 => ⟨S_, .f32⟩
  | 49 => ⟨S16, .f32⟩
  | 50 => ⟨S16, .f32⟩
  | 51 => ⟨S1x16x128x128, .f32⟩
  | 52 => ⟨S16x128x128, .f32⟩
  | 53 => ⟨S1x16x128x128, .f32⟩
  | 54 => ⟨S16x128x128, .f32⟩
  | 55 => ⟨S16x128x128, .f32⟩
  | 56 => ⟨S_, .f32⟩
  | 57 => ⟨S16, .f32⟩
  | 58 => ⟨S16x1x1, .f32⟩
  | 59 => ⟨S16x128x128, .f32⟩
  | 60 => ⟨S16x128x128, .f32⟩
  | 61 => ⟨S16x128x128, .f32⟩
  | 62 => ⟨S_, .f32⟩
  | 63 => ⟨S16, .f32⟩
  | 64 => ⟨S16, .f32⟩
  | 65 => ⟨S1x16x128x128, .f32⟩
  | 66 => ⟨S16x128x128, .f32⟩
  | 67 => ⟨S1x16x128x128, .f32⟩
  | 68 => ⟨S16x128x128, .f32⟩
  | 69 => ⟨S16x128x128, .f32⟩
  | 70 => ⟨S_, .f32⟩
  | 71 => ⟨S16, .f32⟩
  | 72 => ⟨S16x1x1, .f32⟩
  | 73 => ⟨S16x128x128, .f32⟩
  | 74 => ⟨S16x128x128, .f32⟩
  | 75 => ⟨S16x128x128, .f32⟩
  | 76 => ⟨S_, .f32⟩
  | 77 => ⟨S16, .f32⟩
  | 78 => ⟨S16, .f32⟩
  | 79 => ⟨S1x16x128x128, .f32⟩
  | 80 => ⟨S16x128x128, .f32⟩
  | 81 => ⟨S1x16x128x128, .f32⟩
  | 82 => ⟨S16x128x128, .f32⟩
  | 83 => ⟨S16x128x128, .f32⟩
  | 84 => ⟨S_, .f32⟩
  | 85 => ⟨S16, .f32⟩
  | 86 => ⟨S16x1x1, .f32⟩
  | 87 => ⟨S16x128x128, .f32⟩
  | 88 => ⟨S16x128x128, .f32⟩
  | 89 => ⟨S16x128x128, .f32⟩
  | 90 => ⟨S_, .f32⟩
  | 91 => ⟨S16, .f32⟩
  | 92 => ⟨S16, .f32⟩
  | 93 => ⟨S1x16x128x128, .f32⟩
  | 94 => ⟨S16x128x128, .f32⟩
  | 95 => ⟨S1x16x128x128, .f32⟩
  | 96 => ⟨S16x128x128, .f32⟩
  | 97 => ⟨S16x128x128, .f32⟩
  | 98 => ⟨S_, .f32⟩
  | 99 => ⟨S16, .f32⟩
  | 100 => ⟨S16x1x1, .f32⟩
  | 101 => ⟨S16x128x128, .f32⟩
  | 102 => ⟨S16x128x128, .f32⟩
  | 103 => ⟨S16x128x128, .f32⟩
  | 104 => ⟨S_, .f32⟩
  | 105 => ⟨S16, .f32⟩
  | 106 => ⟨S16, .f32⟩
  | 107 => ⟨S1x16x128x128, .f32⟩
  | 108 => ⟨S16x128x128, .f32⟩
  | 109 => ⟨S1x16x128x128, .f32⟩
  | 110 => ⟨S16x128x128, .f32⟩
  | 111 => ⟨S16x128x128, .f32⟩
  | 112 => ⟨S_, .f32⟩
  | 113 => ⟨S16, .f32⟩
  | 114 => ⟨S16x1x1, .f32⟩
  | 115 => ⟨S16x128x128, .f32⟩
  | 116 => ⟨S16x128x128, .f32⟩
  | 117 => ⟨S16x128x128, .f32⟩
  | 118 => ⟨S_, .f32⟩
  | 119 => ⟨S16, .f32⟩
  | 120 => ⟨S16, .f32⟩
  | 121 => ⟨S1x16x128x128, .f32⟩
  | 122 => ⟨S16x128x128, .f32⟩
  | 123 => ⟨S1x16x128x128, .f32⟩
  | 124 => ⟨S16x128x128, .f32⟩
  | 125 => ⟨S16x128x128, .f32⟩
  | 126 => ⟨S_, .f32⟩
  | 127 => ⟨S16, .f32⟩
  | _ => ⟨S8x2048x128, .bf16⟩

abbrev hbmTy0_3 (i : Nat) : BufTy := match i % 128 with
  | 0 => ⟨S16x1x1, .f32⟩
  | 1 => ⟨S16x128x128, .f32⟩
  | 2 => ⟨S16x128x128, .f32⟩
  | 3 => ⟨S16x128x128, .f32⟩
  | 4 => ⟨S_, .f32⟩
  | 5 => ⟨S16, .f32⟩
  | 6 => ⟨S16, .f32⟩
  | 7 => ⟨S1x16x128x128, .f32⟩
  | 8 => ⟨S16x128x128, .f32⟩
  | 9 => ⟨S1x16x128x128, .f32⟩
  | 10 => ⟨S16x128x128, .f32⟩
  | 11 => ⟨S16x128x128, .f32⟩
  | 12 => ⟨S_, .f32⟩
  | 13 => ⟨S16, .f32⟩
  | 14 => ⟨S16x1x1, .f32⟩
  | 15 => ⟨S16x128x128, .f32⟩
  | 16 => ⟨S16x128x128, .f32⟩
  | 17 => ⟨S16x128x128, .f32⟩
  | 18 => ⟨S_, .f32⟩
  | 19 => ⟨S16, .f32⟩
  | 20 => ⟨S16, .f32⟩
  | 21 => ⟨S1x16x128x128, .f32⟩
  | 22 => ⟨S16x128x128, .f32⟩
  | 23 => ⟨S1x16x128x128, .f32⟩
  | 24 => ⟨S16x128x128, .f32⟩
  | 25 => ⟨S16x128x128, .f32⟩
  | 26 => ⟨S_, .f32⟩
  | 27 => ⟨S16, .f32⟩
  | 28 => ⟨S16x1x1, .f32⟩
  | 29 => ⟨S16x128x128, .f32⟩
  | 30 => ⟨S16x128x128, .f32⟩
  | 31 => ⟨S16x128x128, .f32⟩
  | 32 => ⟨S_, .f32⟩
  | 33 => ⟨S16, .f32⟩
  | 34 => ⟨S16, .f32⟩
  | 35 => ⟨S1x16x128x128, .f32⟩
  | 36 => ⟨S16x128x128, .f32⟩
  | 37 => ⟨S1x16x128x128, .f32⟩
  | 38 => ⟨S16x128x128, .f32⟩
  | 39 => ⟨S16x128x128, .f32⟩
  | 40 => ⟨S_, .f32⟩
  | 41 => ⟨S16, .f32⟩
  | 42 => ⟨S16x1x1, .f32⟩
  | 43 => ⟨S16x128x128, .f32⟩
  | 44 => ⟨S16x128x128, .f32⟩
  | 45 => ⟨S16x128x128, .f32⟩
  | 46 => ⟨S_, .f32⟩
  | 47 => ⟨S16, .f32⟩
  | 48 => ⟨S16, .f32⟩
  | 49 => ⟨S1x16x128x128, .f32⟩
  | 50 => ⟨S16x128x128, .f32⟩
  | 51 => ⟨S1x16x128x128, .f32⟩
  | 52 => ⟨S16x128x128, .f32⟩
  | 53 => ⟨S16x128x128, .f32⟩
  | 54 => ⟨S_, .f32⟩
  | 55 => ⟨S16, .f32⟩
  | 56 => ⟨S16x1x1, .f32⟩
  | 57 => ⟨S16x128x128, .f32⟩
  | 58 => ⟨S16x128x128, .f32⟩
  | 59 => ⟨S16x128x128, .f32⟩
  | 60 => ⟨S_, .f32⟩
  | 61 => ⟨S16, .f32⟩
  | 62 => ⟨S16, .f32⟩
  | 63 => ⟨S1x16x128x128, .f32⟩
  | 64 => ⟨S16x128x128, .f32⟩
  | 65 => ⟨S1x16x128x128, .f32⟩
  | 66 => ⟨S16x128x128, .f32⟩
  | 67 => ⟨S16x128x128, .f32⟩
  | 68 => ⟨S_, .f32⟩
  | 69 => ⟨S16, .f32⟩
  | 70 => ⟨S16x1x1, .f32⟩
  | 71 => ⟨S16x128x128, .f32⟩
  | 72 => ⟨S16x128x128, .f32⟩
  | 73 => ⟨S16x128x128, .f32⟩
  | 74 => ⟨S_, .f32⟩
  | 75 => ⟨S16, .f32⟩
  | 76 => ⟨S16, .f32⟩
  | 77 => ⟨S1x16x128x128, .f32⟩
  | 78 => ⟨S16x128x128, .f32⟩
  | 79 => ⟨S1x16x128x128, .f32⟩
  | 80 => ⟨S16x128x128, .f32⟩
  | 81 => ⟨S16x128x128, .f32⟩
  | 82 => ⟨S_, .f32⟩
  | 83 => ⟨S16, .f32⟩
  | 84 => ⟨S16x1x1, .f32⟩
  | 85 => ⟨S16x128x128, .f32⟩
  | 86 => ⟨S16x128x128, .f32⟩
  | 87 => ⟨S16x128x128, .f32⟩
  | 88 => ⟨S_, .f32⟩
  | 89 => ⟨S16, .f32⟩
  | 90 => ⟨S16, .f32⟩
  | 91 => ⟨S1x16x128x128, .f32⟩
  | 92 => ⟨S1x16x128x128, .f32⟩
  | 93 => ⟨S1x16x128x128, .f32⟩
  | 94 => ⟨S1x16x128x128, .f32⟩
  | 95 => ⟨S1x16x128x128, .f32⟩
  | 96 => ⟨S1x16x128x128, .f32⟩
  | 97 => ⟨S1x16x128x128, .f32⟩
  | 98 => ⟨S1x16x128x128, .f32⟩
  | 99 => ⟨S1x16x128x128, .f32⟩
  | 100 => ⟨S1x16x128x128, .f32⟩
  | 101 => ⟨S1x16x128x128, .f32⟩
  | 102 => ⟨S1x16x128x128, .f32⟩
  | 103 => ⟨S1x16x128x128, .f32⟩
  | 104 => ⟨S1x16x128x128, .f32⟩
  | 105 => ⟨S1x16x128x128, .f32⟩
  | 106 => ⟨S1x16x128x128, .f32⟩
  | 107 => ⟨S16x16x128x128, .f32⟩
  | 108 => ⟨S16x16x128x128, .f32⟩
  | 109 => ⟨S16x16x128x128, .f32⟩
  | 110 => ⟨S16x16x128x128, .f32⟩
  | 111 => ⟨S16x16x128x128, .f32⟩
  | 112 => ⟨S16x16x128x128, .f32⟩
  | 113 => ⟨S16x16x128x128, .f32⟩
  | 114 => ⟨S16x16x128x128, .f32⟩
  | 115 => ⟨S_, .f32⟩
  | 116 => ⟨S16x128, .f32⟩
  | 117 => ⟨S16x1x128x1, .f32⟩
  | 118 => ⟨S16x16x128x128, .f32⟩
  | 119 => ⟨S16x16x128x128, .f32⟩
  | 120 => ⟨S_, .f32⟩
  | 121 => ⟨S16x128, .f32⟩
  | 122 => ⟨S16x16x128x128, .f32⟩
  | 123 => ⟨S16x16x128x128, .f32⟩
  | 124 => ⟨S16x16x128x128, .f32⟩
  | 125 => ⟨S16x16x128x128, .f32⟩
  | 126 => ⟨S16x16x128x128, .f32⟩
  | 127 => ⟨S_, .f32⟩
  | _ => ⟨S8x2048x128, .bf16⟩

abbrev hbmTy0_4 (i : Nat) : BufTy := match i % 128 with
  | 0 => ⟨S16x128x128, .f32⟩
  | 1 => ⟨S16x1x128x128, .f32⟩
  | 2 => ⟨S16x16x128x128, .f32⟩
  | 3 => ⟨S16x16x128x128, .f32⟩
  | 4 => ⟨S_, .f32⟩
  | 5 => ⟨S16x128x128, .f32⟩
  | 6 => ⟨S16x16x128x128, .f32⟩
  | 7 => ⟨S16x16x128x128, .f32⟩
  | 8 => ⟨S16x16x128x128, .f32⟩
  | 9 => ⟨S16x16x128x128, .f32⟩
  | 10 => ⟨S16, .f32⟩
  | 11 => ⟨S_, .f32⟩
  | 12 => ⟨S16, .f32⟩
  | 13 => ⟨S16, .f32⟩
  | 14 => ⟨S16x128, .f32⟩
  | 15 => ⟨S16x128, .f32⟩
  | 16 => ⟨S16x128, .f32⟩
  | 17 => ⟨S_, .f32⟩
  | 18 => ⟨S16, .f32⟩
  | 19 => ⟨S16x1, .f32⟩
  | 20 => ⟨S_, .f32⟩
  | 21 => ⟨S16, .f32⟩
  | 22 => ⟨S16, .f32⟩
  | 23 => ⟨S16x128, .f32⟩
  | 24 => ⟨S16x128, .f32⟩
  | 25 => ⟨S16x128, .f32⟩
  | 26 => ⟨S_, .f32⟩
  | 27 => ⟨S16, .f32⟩
  | 28 => ⟨S16x1, .f32⟩
  | 29 => ⟨S_, .f32⟩
  | 30 => ⟨S16, .f32⟩
  | 31 => ⟨S16, .f32⟩
  | 32 => ⟨S_, .f32⟩
  | 33 => ⟨S16x128x128, .f32⟩
  | 34 => ⟨S16x128x128, .f32⟩
  | 35 => ⟨S16x128x128, .f32⟩
  | 36 => ⟨S16x128x128, .f32⟩
  | 37 => ⟨S16x128x128, .f32⟩
  | 38 => ⟨S_, .f32⟩
  | 39 => ⟨S16, .f32⟩
  | 40 => ⟨S16x1x1, .f32⟩
  | 41 => ⟨S_, .f32⟩
  | 42 => ⟨S16, .f32⟩
  | 43 => ⟨S16, .f32⟩
  | 44 => ⟨S16x2048x128, .f32⟩
  | 45 => ⟨S16x2048x128, .f32⟩
  | 46 => ⟨S16x2048x128, .f32⟩
  | 47 => ⟨S8x2048x128, .f32⟩
  | 48 => ⟨S8x2048x128, .f32⟩
  | 49 => ⟨S8x2048x128, .f32⟩
  | 50 => ⟨S8x2048x128, .f32⟩
  | 51 => ⟨S8x2048x128, .f32⟩
  | 52 => ⟨S8x2048x128, .f32⟩
  | 53 => ⟨S8x2048x128, .f32⟩
  | 54 => ⟨S8x2048x128, .f32⟩
  | 55 => ⟨S8x2048x128, .f32⟩
  | 56 => ⟨S8x2048x128, .f32⟩
  | 57 => ⟨S8x2048x128, .f32⟩
  | 58 => ⟨S8x2048x128, .f32⟩
  | 59 => ⟨S2x8, .f32⟩
  | 60 => ⟨S_, .f32⟩
  | 61 => ⟨S8x2304x128, .f32⟩
  | 62 => ⟨S_, .f32⟩
  | 63 => ⟨S8x2304x128, .f32⟩
  | 64 => ⟨S8x128x128, .f32⟩
  | 65 => ⟨S8x128x128, .f32⟩
  | 66 => ⟨S8x128x256, .f32⟩
  | 67 => ⟨S8x256x128, .f32⟩
  | 68 => ⟨S8x128x256, .f32⟩
  | 69 => ⟨S8x256x128, .f32⟩
  | 70 => ⟨S8x256x128, .f32⟩
  | 71 => ⟨S8x256x128, .f32⟩
  | 72 => ⟨S8x256x128, .f32⟩
  | 73 => ⟨S_, .f32⟩
  | 74 => ⟨S8x256, .f32⟩
  | 75 => ⟨S8x256x1, .f32⟩
  | 76 => ⟨S_, .f32⟩
  | 77 => ⟨S8x256, .f32⟩
  | 78 => ⟨S8x128x256, .f32⟩
  | 79 => ⟨S8x256x128, .f32⟩
  | 80 => ⟨S8x256x128, .f32⟩
  | 81 => ⟨S8x128x256, .f32⟩
  | 82 => ⟨S8x256x128, .f32⟩
  | 83 => ⟨S8x256x128, .f32⟩
  | 84 => ⟨S8x256x128, .f32⟩
  | 85 => ⟨S8x256x128, .f32⟩
  | 86 => ⟨S8x256x128, .f32⟩
  | 87 => ⟨S_, .f32⟩
  | 88 => ⟨S8x256, .f32⟩
  | 89 => ⟨S8x256x1, .f32⟩
  | 90 => ⟨S_, .f32⟩
  | 91 => ⟨S8x256, .f32⟩
  | 92 => ⟨S8x256, .f32⟩
  | 93 => ⟨S8x256, .f32⟩
  | 94 => ⟨S8x256, .f32⟩
  | 95 => ⟨S_, .f32⟩
  | 96 => ⟨S8, .f32⟩
  | 97 => ⟨S8x1, .f32⟩
  | 98 => ⟨S_, .f32⟩
  | 99 => ⟨S8, .f32⟩
  | 100 => ⟨S8x256, .f32⟩
  | 101 => ⟨S8x256, .f32⟩
  | 102 => ⟨S8x256, .f32⟩
  | 103 => ⟨S_, .f32⟩
  | 104 => ⟨S8, .f32⟩
  | 105 => ⟨S8x1, .f32⟩
  | 106 => ⟨S_, .f32⟩
  | 107 => ⟨S8, .f32⟩
  | 108 => ⟨S1x8, .f32⟩
  | 109 => ⟨S_, .f32⟩
  | 110 => ⟨S2x8, .f32⟩
  | 111 => ⟨S2x8, .f32⟩
  | 112 => ⟨S1x8, .f32⟩
  | 113 => ⟨S_, .f32⟩
  | 114 => ⟨S2x8, .f32⟩
  | 115 => ⟨S2x8, .f32⟩
  | 116 => ⟨S_, .f32⟩
  | 117 => ⟨S8x2304x128, .f32⟩
  | 118 => ⟨S8x2304x128, .f32⟩
  | 119 => ⟨S_, .f32⟩
  | 120 => ⟨S8x2304x128, .f32⟩
  | 121 => ⟨S8x2304x128, .f32⟩
  | 122 => ⟨S8x2, .f32⟩
  | 123 => ⟨S_, .f32⟩
  | 124 => ⟨S8x6, .f32⟩
  | 125 => ⟨S8x8, .f32⟩
  | 126 => ⟨S8x8x1, .f32⟩
  | 127 => ⟨S8x8x128, .f32⟩
  | _ => ⟨S8x2048x128, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8x2048x128, .bf16⟩

abbrev bufTy : (tb : Table) → Fin (tcTables nBuf tb) → BufTy
  | .hbm, ⟨i, _⟩ => hbmTy i
  | _, _ => ⟨S8x2048x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_cst_0 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_cst_1 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_cst_2 : Ref sig .tc := ⟨.hbm, 69, rfl⟩
abbrev main_call3_v0 : Ref sig .tc := ⟨.hbm, 70, rfl⟩
abbrev main_v61_1 : Ref sig .tc := ⟨.hbm, 71, rfl⟩
abbrev main_call3_v2 : Ref sig .tc := ⟨.hbm, 72, rfl⟩
abbrev main_v61_0 : Ref sig .tc := ⟨.hbm, 73, rfl⟩
abbrev main_call3_cst : Ref sig .tc := ⟨.hbm, 74, rfl⟩
abbrev main_v61_2 : Ref sig .tc := ⟨.hbm, 75, rfl⟩
abbrev main_v62 : Ref sig .tc := ⟨.hbm, 76, rfl⟩
abbrev main_cst_3 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_4 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_cst_5 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_6 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_v107 : Ref sig .tc := ⟨.hbm, 125, rfl⟩
abbrev main_v108 : Ref sig .tc := ⟨.hbm, 126, rfl⟩
abbrev main_v109 : Ref sig .tc := ⟨.hbm, 127, rfl⟩
abbrev main_v110 : Ref sig .tc := ⟨.hbm, 128, rfl⟩
abbrev main_v111 : Ref sig .tc := ⟨.hbm, 129, rfl⟩
abbrev main_v112 : Ref sig .tc := ⟨.hbm, 130, rfl⟩
abbrev main_v113 : Ref sig .tc := ⟨.hbm, 131, rfl⟩
abbrev main_v114 : Ref sig .tc := ⟨.hbm, 132, rfl⟩
abbrev main_v115 : Ref sig .tc := ⟨.hbm, 133, rfl⟩
abbrev main_v116 : Ref sig .tc := ⟨.hbm, 134, rfl⟩
abbrev main_v117 : Ref sig .tc := ⟨.hbm, 135, rfl⟩
abbrev main_v118 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩
abbrev main_v124 : Ref sig .tc := ⟨.hbm, 142, rfl⟩
abbrev main_v125 : Ref sig .tc := ⟨.hbm, 143, rfl⟩
abbrev main_v126 : Ref sig .tc := ⟨.hbm, 144, rfl⟩
abbrev main_v127 : Ref sig .tc := ⟨.hbm, 145, rfl⟩
abbrev main_v128 : Ref sig .tc := ⟨.hbm, 146, rfl⟩
abbrev main_v129 : Ref sig .tc := ⟨.hbm, 147, rfl⟩
abbrev main_v130 : Ref sig .tc := ⟨.hbm, 148, rfl⟩
abbrev main_v131 : Ref sig .tc := ⟨.hbm, 149, rfl⟩
abbrev main_v132 : Ref sig .tc := ⟨.hbm, 150, rfl⟩
abbrev main_v133 : Ref sig .tc := ⟨.hbm, 151, rfl⟩
abbrev main_v134 : Ref sig .tc := ⟨.hbm, 152, rfl⟩
abbrev main_v135 : Ref sig .tc := ⟨.hbm, 153, rfl⟩
abbrev main_v136 : Ref sig .tc := ⟨.hbm, 154, rfl⟩
abbrev main_v137 : Ref sig .tc := ⟨.hbm, 155, rfl⟩
abbrev main_v138 : Ref sig .tc := ⟨.hbm, 156, rfl⟩
abbrev main_v139 : Ref sig .tc := ⟨.hbm, 157, rfl⟩
abbrev main_v140 : Ref sig .tc := ⟨.hbm, 158, rfl⟩
abbrev main_v141 : Ref sig .tc := ⟨.hbm, 159, rfl⟩
abbrev main_v142 : Ref sig .tc := ⟨.hbm, 160, rfl⟩
abbrev main_v143 : Ref sig .tc := ⟨.hbm, 161, rfl⟩
abbrev main_v144 : Ref sig .tc := ⟨.hbm, 162, rfl⟩
abbrev main_v145 : Ref sig .tc := ⟨.hbm, 163, rfl⟩
abbrev main_v146 : Ref sig .tc := ⟨.hbm, 164, rfl⟩
abbrev main_v147 : Ref sig .tc := ⟨.hbm, 165, rfl⟩
abbrev main_v148 : Ref sig .tc := ⟨.hbm, 166, rfl⟩
abbrev main_v149 : Ref sig .tc := ⟨.hbm, 167, rfl⟩
abbrev main_v150 : Ref sig .tc := ⟨.hbm, 168, rfl⟩
abbrev main_v151 : Ref sig .tc := ⟨.hbm, 169, rfl⟩
abbrev main_v152 : Ref sig .tc := ⟨.hbm, 170, rfl⟩
abbrev main_v153 : Ref sig .tc := ⟨.hbm, 171, rfl⟩
abbrev main_v154 : Ref sig .tc := ⟨.hbm, 172, rfl⟩
abbrev main_v155 : Ref sig .tc := ⟨.hbm, 173, rfl⟩
abbrev main_v156 : Ref sig .tc := ⟨.hbm, 174, rfl⟩
abbrev main_v157 : Ref sig .tc := ⟨.hbm, 175, rfl⟩
abbrev main_v158 : Ref sig .tc := ⟨.hbm, 176, rfl⟩
abbrev main_v159 : Ref sig .tc := ⟨.hbm, 177, rfl⟩
abbrev main_v160 : Ref sig .tc := ⟨.hbm, 178, rfl⟩
abbrev main_v161 : Ref sig .tc := ⟨.hbm, 179, rfl⟩
abbrev main_v162 : Ref sig .tc := ⟨.hbm, 180, rfl⟩
abbrev main_v163 : Ref sig .tc := ⟨.hbm, 181, rfl⟩
abbrev main_v164 : Ref sig .tc := ⟨.hbm, 182, rfl⟩
abbrev main_v165 : Ref sig .tc := ⟨.hbm, 183, rfl⟩
abbrev main_v166 : Ref sig .tc := ⟨.hbm, 184, rfl⟩
abbrev main_v167 : Ref sig .tc := ⟨.hbm, 185, rfl⟩
abbrev main_v168 : Ref sig .tc := ⟨.hbm, 186, rfl⟩
abbrev main_v169 : Ref sig .tc := ⟨.hbm, 187, rfl⟩
abbrev main_v170 : Ref sig .tc := ⟨.hbm, 188, rfl⟩
abbrev main_v171 : Ref sig .tc := ⟨.hbm, 189, rfl⟩
abbrev main_v172 : Ref sig .tc := ⟨.hbm, 190, rfl⟩
abbrev main_v173 : Ref sig .tc := ⟨.hbm, 191, rfl⟩
abbrev main_v174 : Ref sig .tc := ⟨.hbm, 192, rfl⟩
abbrev main_v175 : Ref sig .tc := ⟨.hbm, 193, rfl⟩
abbrev main_v176 : Ref sig .tc := ⟨.hbm, 194, rfl⟩
abbrev main_v177 : Ref sig .tc := ⟨.hbm, 195, rfl⟩
abbrev main_v178 : Ref sig .tc := ⟨.hbm, 196, rfl⟩
abbrev main_v179 : Ref sig .tc := ⟨.hbm, 197, rfl⟩
abbrev main_v180 : Ref sig .tc := ⟨.hbm, 198, rfl⟩
abbrev main_v181 : Ref sig .tc := ⟨.hbm, 199, rfl⟩
abbrev main_v182 : Ref sig .tc := ⟨.hbm, 200, rfl⟩
abbrev main_v183 : Ref sig .tc := ⟨.hbm, 201, rfl⟩
abbrev main_v184 : Ref sig .tc := ⟨.hbm, 202, rfl⟩
abbrev main_v185 : Ref sig .tc := ⟨.hbm, 203, rfl⟩
abbrev main_v186 : Ref sig .tc := ⟨.hbm, 204, rfl⟩
abbrev main_v187 : Ref sig .tc := ⟨.hbm, 205, rfl⟩
abbrev main_v188 : Ref sig .tc := ⟨.hbm, 206, rfl⟩
abbrev main_v189 : Ref sig .tc := ⟨.hbm, 207, rfl⟩
abbrev main_v190 : Ref sig .tc := ⟨.hbm, 208, rfl⟩
abbrev main_v191 : Ref sig .tc := ⟨.hbm, 209, rfl⟩
abbrev main_v192 : Ref sig .tc := ⟨.hbm, 210, rfl⟩
abbrev main_v193 : Ref sig .tc := ⟨.hbm, 211, rfl⟩
abbrev main_v194 : Ref sig .tc := ⟨.hbm, 212, rfl⟩
abbrev main_v195 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_v201 : Ref sig .tc := ⟨.hbm, 219, rfl⟩
abbrev main_v202 : Ref sig .tc := ⟨.hbm, 220, rfl⟩
abbrev main_v203 : Ref sig .tc := ⟨.hbm, 221, rfl⟩
abbrev main_v204 : Ref sig .tc := ⟨.hbm, 222, rfl⟩
abbrev main_v205 : Ref sig .tc := ⟨.hbm, 223, rfl⟩
abbrev main_cst_7 : Ref sig .tc := ⟨.hbm, 224, rfl⟩
abbrev main_v206 : Ref sig .tc := ⟨.hbm, 225, rfl⟩
abbrev main_cst_8 : Ref sig .tc := ⟨.hbm, 226, rfl⟩
abbrev main_v207 : Ref sig .tc := ⟨.hbm, 227, rfl⟩
abbrev main_v208 : Ref sig .tc := ⟨.hbm, 228, rfl⟩
abbrev main_v209 : Ref sig .tc := ⟨.hbm, 229, rfl⟩
abbrev main_v210 : Ref sig .tc := ⟨.hbm, 230, rfl⟩
abbrev main_v211 : Ref sig .tc := ⟨.hbm, 231, rfl⟩
abbrev main_v212 : Ref sig .tc := ⟨.hbm, 232, rfl⟩
abbrev main_v213 : Ref sig .tc := ⟨.hbm, 233, rfl⟩
abbrev main_cst_9 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_cst_10 : Ref sig .tc := ⟨.hbm, 239, rfl⟩
abbrev main_v218 : Ref sig .tc := ⟨.hbm, 240, rfl⟩
abbrev main_cst_11 : Ref sig .tc := ⟨.hbm, 241, rfl⟩
abbrev main_v219 : Ref sig .tc := ⟨.hbm, 242, rfl⟩
abbrev main_cst_12 : Ref sig .tc := ⟨.hbm, 243, rfl⟩
abbrev main_v220 : Ref sig .tc := ⟨.hbm, 244, rfl⟩
abbrev main_v221 : Ref sig .tc := ⟨.hbm, 245, rfl⟩
abbrev main_v222 : Ref sig .tc := ⟨.hbm, 246, rfl⟩
abbrev main_v223 : Ref sig .tc := ⟨.hbm, 247, rfl⟩
abbrev main_v224 : Ref sig .tc := ⟨.hbm, 248, rfl⟩
abbrev main_cst_13 : Ref sig .tc := ⟨.hbm, 249, rfl⟩
abbrev main_v225 : Ref sig .tc := ⟨.hbm, 250, rfl⟩
abbrev main_v226 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_cst_14 : Ref sig .tc := ⟨.hbm, 256, rfl⟩
abbrev main_v231 : Ref sig .tc := ⟨.hbm, 257, rfl⟩
abbrev main_v232 : Ref sig .tc := ⟨.hbm, 258, rfl⟩
abbrev main_v233 : Ref sig .tc := ⟨.hbm, 259, rfl⟩
abbrev main_v234 : Ref sig .tc := ⟨.hbm, 260, rfl⟩
abbrev main_v235 : Ref sig .tc := ⟨.hbm, 261, rfl⟩
abbrev main_cst_15 : Ref sig .tc := ⟨.hbm, 262, rfl⟩
abbrev main_v236 : Ref sig .tc := ⟨.hbm, 263, rfl⟩
abbrev main_v237 : Ref sig .tc := ⟨.hbm, 264, rfl⟩
abbrev main_v238 : Ref sig .tc := ⟨.hbm, 265, rfl⟩
abbrev main_v239 : Ref sig .tc := ⟨.hbm, 266, rfl⟩
abbrev main_v240 : Ref sig .tc := ⟨.hbm, 267, rfl⟩
abbrev main_v241 : Ref sig .tc := ⟨.hbm, 268, rfl⟩
abbrev main_v242 : Ref sig .tc := ⟨.hbm, 269, rfl⟩
abbrev main_cst_16 : Ref sig .tc := ⟨.hbm, 270, rfl⟩
abbrev main_v243 : Ref sig .tc := ⟨.hbm, 271, rfl⟩
abbrev main_v244 : Ref sig .tc := ⟨.hbm, 272, rfl⟩
abbrev main_v245 : Ref sig .tc := ⟨.hbm, 273, rfl⟩
abbrev main_v246 : Ref sig .tc := ⟨.hbm, 274, rfl⟩
abbrev main_v247 : Ref sig .tc := ⟨.hbm, 275, rfl⟩
abbrev main_cst_17 : Ref sig .tc := ⟨.hbm, 276, rfl⟩
abbrev main_v248 : Ref sig .tc := ⟨.hbm, 277, rfl⟩
abbrev main_v249 : Ref sig .tc := ⟨.hbm, 278, rfl⟩
abbrev main_v250 : Ref sig .tc := ⟨.hbm, 279, rfl⟩
abbrev main_v251 : Ref sig .tc := ⟨.hbm, 280, rfl⟩
abbrev main_v252 : Ref sig .tc := ⟨.hbm, 281, rfl⟩
abbrev main_v253 : Ref sig .tc := ⟨.hbm, 282, rfl⟩
abbrev main_v254 : Ref sig .tc := ⟨.hbm, 283, rfl⟩
abbrev main_cst_18 : Ref sig .tc := ⟨.hbm, 284, rfl⟩
abbrev main_v255 : Ref sig .tc := ⟨.hbm, 285, rfl⟩
abbrev main_v256 : Ref sig .tc := ⟨.hbm, 286, rfl⟩
abbrev main_v257 : Ref sig .tc := ⟨.hbm, 287, rfl⟩
abbrev main_v258 : Ref sig .tc := ⟨.hbm, 288, rfl⟩
abbrev main_v259 : Ref sig .tc := ⟨.hbm, 289, rfl⟩
abbrev main_cst_19 : Ref sig .tc := ⟨.hbm, 290, rfl⟩
abbrev main_v260 : Ref sig .tc := ⟨.hbm, 291, rfl⟩
abbrev main_v261 : Ref sig .tc := ⟨.hbm, 292, rfl⟩
abbrev main_v262 : Ref sig .tc := ⟨.hbm, 293, rfl⟩
abbrev main_v263 : Ref sig .tc := ⟨.hbm, 294, rfl⟩
abbrev main_v264 : Ref sig .tc := ⟨.hbm, 295, rfl⟩
abbrev main_v265 : Ref sig .tc := ⟨.hbm, 296, rfl⟩
abbrev main_v266 : Ref sig .tc := ⟨.hbm, 297, rfl⟩
abbrev main_cst_20 : Ref sig .tc := ⟨.hbm, 298, rfl⟩
abbrev main_v267 : Ref sig .tc := ⟨.hbm, 299, rfl⟩
abbrev main_v268 : Ref sig .tc := ⟨.hbm, 300, rfl⟩
abbrev main_v269 : Ref sig .tc := ⟨.hbm, 301, rfl⟩
abbrev main_v270 : Ref sig .tc := ⟨.hbm, 302, rfl⟩
abbrev main_v271 : Ref sig .tc := ⟨.hbm, 303, rfl⟩
abbrev main_cst_21 : Ref sig .tc := ⟨.hbm, 304, rfl⟩
abbrev main_v272 : Ref sig .tc := ⟨.hbm, 305, rfl⟩
abbrev main_v273 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_cst_22 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_cst_23 : Ref sig .tc := ⟨.hbm, 318, rfl⟩
abbrev main_v284 : Ref sig .tc := ⟨.hbm, 319, rfl⟩
abbrev main_v285 : Ref sig .tc := ⟨.hbm, 320, rfl⟩
abbrev main_v286 : Ref sig .tc := ⟨.hbm, 321, rfl⟩
abbrev main_v287 : Ref sig .tc := ⟨.hbm, 322, rfl⟩
abbrev main_v288 : Ref sig .tc := ⟨.hbm, 323, rfl⟩
abbrev main_v289 : Ref sig .tc := ⟨.hbm, 324, rfl⟩
abbrev main_v290 : Ref sig .tc := ⟨.hbm, 325, rfl⟩
abbrev main_cst_24 : Ref sig .tc := ⟨.hbm, 326, rfl⟩
abbrev main_v291 : Ref sig .tc := ⟨.hbm, 327, rfl⟩
abbrev main_v292 : Ref sig .tc := ⟨.hbm, 328, rfl⟩
abbrev main_v293 : Ref sig .tc := ⟨.hbm, 329, rfl⟩
abbrev main_v294 : Ref sig .tc := ⟨.hbm, 330, rfl⟩
abbrev main_v295 : Ref sig .tc := ⟨.hbm, 331, rfl⟩
abbrev main_cst_25 : Ref sig .tc := ⟨.hbm, 332, rfl⟩
abbrev main_v296 : Ref sig .tc := ⟨.hbm, 333, rfl⟩
abbrev main_v297 : Ref sig .tc := ⟨.hbm, 334, rfl⟩
abbrev main_v298 : Ref sig .tc := ⟨.hbm, 335, rfl⟩
abbrev main_v299 : Ref sig .tc := ⟨.hbm, 336, rfl⟩
abbrev main_v300 : Ref sig .tc := ⟨.hbm, 337, rfl⟩
abbrev main_v301 : Ref sig .tc := ⟨.hbm, 338, rfl⟩
abbrev main_v302 : Ref sig .tc := ⟨.hbm, 339, rfl⟩
abbrev main_cst_26 : Ref sig .tc := ⟨.hbm, 340, rfl⟩
abbrev main_v303 : Ref sig .tc := ⟨.hbm, 341, rfl⟩
abbrev main_v304 : Ref sig .tc := ⟨.hbm, 342, rfl⟩
abbrev main_v305 : Ref sig .tc := ⟨.hbm, 343, rfl⟩
abbrev main_v306 : Ref sig .tc := ⟨.hbm, 344, rfl⟩
abbrev main_v307 : Ref sig .tc := ⟨.hbm, 345, rfl⟩
abbrev main_cst_27 : Ref sig .tc := ⟨.hbm, 346, rfl⟩
abbrev main_v308 : Ref sig .tc := ⟨.hbm, 347, rfl⟩
abbrev main_v309 : Ref sig .tc := ⟨.hbm, 348, rfl⟩
abbrev main_v310 : Ref sig .tc := ⟨.hbm, 349, rfl⟩
abbrev main_v311 : Ref sig .tc := ⟨.hbm, 350, rfl⟩
abbrev main_v312 : Ref sig .tc := ⟨.hbm, 351, rfl⟩
abbrev main_v313 : Ref sig .tc := ⟨.hbm, 352, rfl⟩
abbrev main_v314 : Ref sig .tc := ⟨.hbm, 353, rfl⟩
abbrev main_cst_28 : Ref sig .tc := ⟨.hbm, 354, rfl⟩
abbrev main_v315 : Ref sig .tc := ⟨.hbm, 355, rfl⟩
abbrev main_v316 : Ref sig .tc := ⟨.hbm, 356, rfl⟩
abbrev main_v317 : Ref sig .tc := ⟨.hbm, 357, rfl⟩
abbrev main_v318 : Ref sig .tc := ⟨.hbm, 358, rfl⟩
abbrev main_v319 : Ref sig .tc := ⟨.hbm, 359, rfl⟩
abbrev main_cst_29 : Ref sig .tc := ⟨.hbm, 360, rfl⟩
abbrev main_v320 : Ref sig .tc := ⟨.hbm, 361, rfl⟩
abbrev main_v321 : Ref sig .tc := ⟨.hbm, 362, rfl⟩
abbrev main_v322 : Ref sig .tc := ⟨.hbm, 363, rfl⟩
abbrev main_v323 : Ref sig .tc := ⟨.hbm, 364, rfl⟩
abbrev main_v324 : Ref sig .tc := ⟨.hbm, 365, rfl⟩
abbrev main_v325 : Ref sig .tc := ⟨.hbm, 366, rfl⟩
abbrev main_v326 : Ref sig .tc := ⟨.hbm, 367, rfl⟩
abbrev main_cst_30 : Ref sig .tc := ⟨.hbm, 368, rfl⟩
abbrev main_v327 : Ref sig .tc := ⟨.hbm, 369, rfl⟩
abbrev main_v328 : Ref sig .tc := ⟨.hbm, 370, rfl⟩
abbrev main_v329 : Ref sig .tc := ⟨.hbm, 371, rfl⟩
abbrev main_v330 : Ref sig .tc := ⟨.hbm, 372, rfl⟩
abbrev main_v331 : Ref sig .tc := ⟨.hbm, 373, rfl⟩
abbrev main_cst_31 : Ref sig .tc := ⟨.hbm, 374, rfl⟩
abbrev main_v332 : Ref sig .tc := ⟨.hbm, 375, rfl⟩
abbrev main_v333 : Ref sig .tc := ⟨.hbm, 376, rfl⟩
abbrev main_v334 : Ref sig .tc := ⟨.hbm, 377, rfl⟩
abbrev main_v335 : Ref sig .tc := ⟨.hbm, 378, rfl⟩
abbrev main_v336 : Ref sig .tc := ⟨.hbm, 379, rfl⟩
abbrev main_v337 : Ref sig .tc := ⟨.hbm, 380, rfl⟩
abbrev main_v338 : Ref sig .tc := ⟨.hbm, 381, rfl⟩
abbrev main_cst_32 : Ref sig .tc := ⟨.hbm, 382, rfl⟩
abbrev main_v339 : Ref sig .tc := ⟨.hbm, 383, rfl⟩
abbrev main_v340 : Ref sig .tc := ⟨.hbm, 384, rfl⟩
abbrev main_v341 : Ref sig .tc := ⟨.hbm, 385, rfl⟩
abbrev main_v342 : Ref sig .tc := ⟨.hbm, 386, rfl⟩
abbrev main_v343 : Ref sig .tc := ⟨.hbm, 387, rfl⟩
abbrev main_cst_33 : Ref sig .tc := ⟨.hbm, 388, rfl⟩
abbrev main_v344 : Ref sig .tc := ⟨.hbm, 389, rfl⟩
abbrev main_v345 : Ref sig .tc := ⟨.hbm, 390, rfl⟩
abbrev main_v346 : Ref sig .tc := ⟨.hbm, 391, rfl⟩
abbrev main_v347 : Ref sig .tc := ⟨.hbm, 392, rfl⟩
abbrev main_v348 : Ref sig .tc := ⟨.hbm, 393, rfl⟩
abbrev main_v349 : Ref sig .tc := ⟨.hbm, 394, rfl⟩
abbrev main_v350 : Ref sig .tc := ⟨.hbm, 395, rfl⟩
abbrev main_cst_34 : Ref sig .tc := ⟨.hbm, 396, rfl⟩
abbrev main_v351 : Ref sig .tc := ⟨.hbm, 397, rfl⟩
abbrev main_v352 : Ref sig .tc := ⟨.hbm, 398, rfl⟩
abbrev main_v353 : Ref sig .tc := ⟨.hbm, 399, rfl⟩
abbrev main_v354 : Ref sig .tc := ⟨.hbm, 400, rfl⟩
abbrev main_v355 : Ref sig .tc := ⟨.hbm, 401, rfl⟩
abbrev main_cst_35 : Ref sig .tc := ⟨.hbm, 402, rfl⟩
abbrev main_v356 : Ref sig .tc := ⟨.hbm, 403, rfl⟩
abbrev main_v357 : Ref sig .tc := ⟨.hbm, 404, rfl⟩
abbrev main_v358 : Ref sig .tc := ⟨.hbm, 405, rfl⟩
abbrev main_v359 : Ref sig .tc := ⟨.hbm, 406, rfl⟩
abbrev main_v360 : Ref sig .tc := ⟨.hbm, 407, rfl⟩
abbrev main_v361 : Ref sig .tc := ⟨.hbm, 408, rfl⟩
abbrev main_v362 : Ref sig .tc := ⟨.hbm, 409, rfl⟩
abbrev main_cst_36 : Ref sig .tc := ⟨.hbm, 410, rfl⟩
abbrev main_v363 : Ref sig .tc := ⟨.hbm, 411, rfl⟩
abbrev main_v364 : Ref sig .tc := ⟨.hbm, 412, rfl⟩
abbrev main_v365 : Ref sig .tc := ⟨.hbm, 413, rfl⟩
abbrev main_v366 : Ref sig .tc := ⟨.hbm, 414, rfl⟩
abbrev main_v367 : Ref sig .tc := ⟨.hbm, 415, rfl⟩
abbrev main_cst_37 : Ref sig .tc := ⟨.hbm, 416, rfl⟩
abbrev main_v368 : Ref sig .tc := ⟨.hbm, 417, rfl⟩
abbrev main_v369 : Ref sig .tc := ⟨.hbm, 418, rfl⟩
abbrev main_v370 : Ref sig .tc := ⟨.hbm, 419, rfl⟩
abbrev main_v371 : Ref sig .tc := ⟨.hbm, 420, rfl⟩
abbrev main_v372 : Ref sig .tc := ⟨.hbm, 421, rfl⟩
abbrev main_v373 : Ref sig .tc := ⟨.hbm, 422, rfl⟩
abbrev main_v374 : Ref sig .tc := ⟨.hbm, 423, rfl⟩
abbrev main_cst_38 : Ref sig .tc := ⟨.hbm, 424, rfl⟩
abbrev main_v375 : Ref sig .tc := ⟨.hbm, 425, rfl⟩
abbrev main_v376 : Ref sig .tc := ⟨.hbm, 426, rfl⟩
abbrev main_v377 : Ref sig .tc := ⟨.hbm, 427, rfl⟩
abbrev main_v378 : Ref sig .tc := ⟨.hbm, 428, rfl⟩
abbrev main_v379 : Ref sig .tc := ⟨.hbm, 429, rfl⟩
abbrev main_cst_39 : Ref sig .tc := ⟨.hbm, 430, rfl⟩
abbrev main_v380 : Ref sig .tc := ⟨.hbm, 431, rfl⟩
abbrev main_v381 : Ref sig .tc := ⟨.hbm, 432, rfl⟩
abbrev main_v382 : Ref sig .tc := ⟨.hbm, 433, rfl⟩
abbrev main_v383 : Ref sig .tc := ⟨.hbm, 434, rfl⟩
abbrev main_v384 : Ref sig .tc := ⟨.hbm, 435, rfl⟩
abbrev main_v385 : Ref sig .tc := ⟨.hbm, 436, rfl⟩
abbrev main_v386 : Ref sig .tc := ⟨.hbm, 437, rfl⟩
abbrev main_cst_40 : Ref sig .tc := ⟨.hbm, 438, rfl⟩
abbrev main_v387 : Ref sig .tc := ⟨.hbm, 439, rfl⟩
abbrev main_v388 : Ref sig .tc := ⟨.hbm, 440, rfl⟩
abbrev main_v389 : Ref sig .tc := ⟨.hbm, 441, rfl⟩
abbrev main_v390 : Ref sig .tc := ⟨.hbm, 442, rfl⟩
abbrev main_v391 : Ref sig .tc := ⟨.hbm, 443, rfl⟩
abbrev main_cst_41 : Ref sig .tc := ⟨.hbm, 444, rfl⟩
abbrev main_v392 : Ref sig .tc := ⟨.hbm, 445, rfl⟩
abbrev main_v393 : Ref sig .tc := ⟨.hbm, 446, rfl⟩
abbrev main_v394 : Ref sig .tc := ⟨.hbm, 447, rfl⟩
abbrev main_v395 : Ref sig .tc := ⟨.hbm, 448, rfl⟩
abbrev main_v396 : Ref sig .tc := ⟨.hbm, 449, rfl⟩
abbrev main_v397 : Ref sig .tc := ⟨.hbm, 450, rfl⟩
abbrev main_v398 : Ref sig .tc := ⟨.hbm, 451, rfl⟩
abbrev main_cst_42 : Ref sig .tc := ⟨.hbm, 452, rfl⟩
abbrev main_v399 : Ref sig .tc := ⟨.hbm, 453, rfl⟩
abbrev main_v400 : Ref sig .tc := ⟨.hbm, 454, rfl⟩
abbrev main_v401 : Ref sig .tc := ⟨.hbm, 455, rfl⟩
abbrev main_v402 : Ref sig .tc := ⟨.hbm, 456, rfl⟩
abbrev main_v403 : Ref sig .tc := ⟨.hbm, 457, rfl⟩
abbrev main_cst_43 : Ref sig .tc := ⟨.hbm, 458, rfl⟩
abbrev main_v404 : Ref sig .tc := ⟨.hbm, 459, rfl⟩
abbrev main_v405 : Ref sig .tc := ⟨.hbm, 460, rfl⟩
abbrev main_v406 : Ref sig .tc := ⟨.hbm, 461, rfl⟩
abbrev main_v407 : Ref sig .tc := ⟨.hbm, 462, rfl⟩
abbrev main_v408 : Ref sig .tc := ⟨.hbm, 463, rfl⟩
abbrev main_v409 : Ref sig .tc := ⟨.hbm, 464, rfl⟩
abbrev main_v410 : Ref sig .tc := ⟨.hbm, 465, rfl⟩
abbrev main_cst_44 : Ref sig .tc := ⟨.hbm, 466, rfl⟩
abbrev main_v411 : Ref sig .tc := ⟨.hbm, 467, rfl⟩
abbrev main_v412 : Ref sig .tc := ⟨.hbm, 468, rfl⟩
abbrev main_v413 : Ref sig .tc := ⟨.hbm, 469, rfl⟩
abbrev main_v414 : Ref sig .tc := ⟨.hbm, 470, rfl⟩
abbrev main_v415 : Ref sig .tc := ⟨.hbm, 471, rfl⟩
abbrev main_cst_45 : Ref sig .tc := ⟨.hbm, 472, rfl⟩
abbrev main_v416 : Ref sig .tc := ⟨.hbm, 473, rfl⟩
abbrev main_v417 : Ref sig .tc := ⟨.hbm, 474, rfl⟩
abbrev main_v418 : Ref sig .tc := ⟨.hbm, 475, rfl⟩
abbrev main_v419 : Ref sig .tc := ⟨.hbm, 476, rfl⟩
abbrev main_v420 : Ref sig .tc := ⟨.hbm, 477, rfl⟩
abbrev main_v421 : Ref sig .tc := ⟨.hbm, 478, rfl⟩
abbrev main_v422 : Ref sig .tc := ⟨.hbm, 479, rfl⟩
abbrev main_v423 : Ref sig .tc := ⟨.hbm, 480, rfl⟩
abbrev main_v424 : Ref sig .tc := ⟨.hbm, 481, rfl⟩
abbrev main_v425 : Ref sig .tc := ⟨.hbm, 482, rfl⟩
abbrev main_v426 : Ref sig .tc := ⟨.hbm, 483, rfl⟩
abbrev main_v427 : Ref sig .tc := ⟨.hbm, 484, rfl⟩
abbrev main_v428 : Ref sig .tc := ⟨.hbm, 485, rfl⟩
abbrev main_v429 : Ref sig .tc := ⟨.hbm, 486, rfl⟩
abbrev main_v430 : Ref sig .tc := ⟨.hbm, 487, rfl⟩
abbrev main_v431 : Ref sig .tc := ⟨.hbm, 488, rfl⟩
abbrev main_v432 : Ref sig .tc := ⟨.hbm, 489, rfl⟩
abbrev main_v433 : Ref sig .tc := ⟨.hbm, 490, rfl⟩
abbrev main_v434 : Ref sig .tc := ⟨.hbm, 491, rfl⟩
abbrev main_v435 : Ref sig .tc := ⟨.hbm, 492, rfl⟩
abbrev main_v436 : Ref sig .tc := ⟨.hbm, 493, rfl⟩
abbrev main_v437 : Ref sig .tc := ⟨.hbm, 494, rfl⟩
abbrev main_v438 : Ref sig .tc := ⟨.hbm, 495, rfl⟩
abbrev main_v439 : Ref sig .tc := ⟨.hbm, 496, rfl⟩
abbrev main_v440 : Ref sig .tc := ⟨.hbm, 497, rfl⟩
abbrev main_v441 : Ref sig .tc := ⟨.hbm, 498, rfl⟩
abbrev main_cst_46 : Ref sig .tc := ⟨.hbm, 499, rfl⟩
abbrev main_v442 : Ref sig .tc := ⟨.hbm, 500, rfl⟩
abbrev main_v443 : Ref sig .tc := ⟨.hbm, 501, rfl⟩
abbrev main_v444 : Ref sig .tc := ⟨.hbm, 502, rfl⟩
abbrev main_v445 : Ref sig .tc := ⟨.hbm, 503, rfl⟩
abbrev main_cst_47 : Ref sig .tc := ⟨.hbm, 504, rfl⟩
abbrev main_v446 : Ref sig .tc := ⟨.hbm, 505, rfl⟩
abbrev main_v447 : Ref sig .tc := ⟨.hbm, 506, rfl⟩
abbrev main_v448 : Ref sig .tc := ⟨.hbm, 507, rfl⟩
abbrev main_v449 : Ref sig .tc := ⟨.hbm, 508, rfl⟩
abbrev main_v450 : Ref sig .tc := ⟨.hbm, 509, rfl⟩
abbrev main_v451 : Ref sig .tc := ⟨.hbm, 510, rfl⟩
abbrev main_cst_48 : Ref sig .tc := ⟨.hbm, 511, rfl⟩
abbrev main_v452 : Ref sig .tc := ⟨.hbm, 512, rfl⟩
abbrev main_v453 : Ref sig .tc := ⟨.hbm, 513, rfl⟩
abbrev main_v454 : Ref sig .tc := ⟨.hbm, 514, rfl⟩
abbrev main_v455 : Ref sig .tc := ⟨.hbm, 515, rfl⟩
abbrev main_cst_49 : Ref sig .tc := ⟨.hbm, 516, rfl⟩
abbrev main_v456 : Ref sig .tc := ⟨.hbm, 517, rfl⟩
abbrev main_v457 : Ref sig .tc := ⟨.hbm, 518, rfl⟩
abbrev main_v458 : Ref sig .tc := ⟨.hbm, 519, rfl⟩
abbrev main_v459 : Ref sig .tc := ⟨.hbm, 520, rfl⟩
abbrev main_v460 : Ref sig .tc := ⟨.hbm, 521, rfl⟩
abbrev main_v461 : Ref sig .tc := ⟨.hbm, 522, rfl⟩
abbrev main_cst_50 : Ref sig .tc := ⟨.hbm, 523, rfl⟩
abbrev main_v462 : Ref sig .tc := ⟨.hbm, 524, rfl⟩
abbrev main_v463 : Ref sig .tc := ⟨.hbm, 525, rfl⟩
abbrev main_v464 : Ref sig .tc := ⟨.hbm, 526, rfl⟩
abbrev main_v465 : Ref sig .tc := ⟨.hbm, 527, rfl⟩
abbrev main_v466 : Ref sig .tc := ⟨.hbm, 528, rfl⟩
abbrev main_cst_51 : Ref sig .tc := ⟨.hbm, 529, rfl⟩
abbrev main_v467 : Ref sig .tc := ⟨.hbm, 530, rfl⟩
abbrev main_v468 : Ref sig .tc := ⟨.hbm, 531, rfl⟩
abbrev main_cst_52 : Ref sig .tc := ⟨.hbm, 532, rfl⟩
abbrev main_v469 : Ref sig .tc := ⟨.hbm, 533, rfl⟩
abbrev main_v470 : Ref sig .tc := ⟨.hbm, 534, rfl⟩
abbrev main_v471 : Ref sig .tc := ⟨.hbm, 535, rfl⟩
abbrev main_v472 : Ref sig .tc := ⟨.hbm, 536, rfl⟩
abbrev main_v473 : Ref sig .tc := ⟨.hbm, 537, rfl⟩
abbrev main_cst_53 : Ref sig .tc := ⟨.hbm, 538, rfl⟩
abbrev main_v474 : Ref sig .tc := ⟨.hbm, 539, rfl⟩
abbrev main_v475 : Ref sig .tc := ⟨.hbm, 540, rfl⟩
abbrev main_cst_54 : Ref sig .tc := ⟨.hbm, 541, rfl⟩
abbrev main_v476 : Ref sig .tc := ⟨.hbm, 542, rfl⟩
abbrev main_v477 : Ref sig .tc := ⟨.hbm, 543, rfl⟩
abbrev main_call6_cst : Ref sig .tc := ⟨.hbm, 544, rfl⟩
abbrev main_call6_v0 : Ref sig .tc := ⟨.hbm, 545, rfl⟩
abbrev main_v478 : Ref sig .tc := ⟨.hbm, 546, rfl⟩
abbrev main_v479 : Ref sig .tc := ⟨.hbm, 547, rfl⟩
abbrev main_v480 : Ref sig .tc := ⟨.hbm, 548, rfl⟩
abbrev main_v481 : Ref sig .tc := ⟨.hbm, 549, rfl⟩
abbrev main_cst_55 : Ref sig .tc := ⟨.hbm, 550, rfl⟩
abbrev main_v482 : Ref sig .tc := ⟨.hbm, 551, rfl⟩
abbrev main_v483 : Ref sig .tc := ⟨.hbm, 552, rfl⟩
abbrev main_cst_56 : Ref sig .tc := ⟨.hbm, 553, rfl⟩
abbrev main_v484 : Ref sig .tc := ⟨.hbm, 554, rfl⟩
abbrev main_v485 : Ref sig .tc := ⟨.hbm, 555, rfl⟩
abbrev main_v486 : Ref sig .tc := ⟨.hbm, 556, rfl⟩
abbrev main_v487 : Ref sig .tc := ⟨.hbm, 557, rfl⟩
abbrev main_v488 : Ref sig .tc := ⟨.hbm, 558, rfl⟩
abbrev main_v489 : Ref sig .tc := ⟨.hbm, 559, rfl⟩
abbrev main_v490 : Ref sig .tc := ⟨.hbm, 560, rfl⟩
abbrev main_v491 : Ref sig .tc := ⟨.hbm, 561, rfl⟩
abbrev main_v492 : Ref sig .tc := ⟨.hbm, 562, rfl⟩
abbrev main_v493 : Ref sig .tc := ⟨.hbm, 563, rfl⟩
abbrev main_v494 : Ref sig .tc := ⟨.hbm, 564, rfl⟩
abbrev main_v495 : Ref sig .tc := ⟨.hbm, 565, rfl⟩
abbrev main_v496 : Ref sig .tc := ⟨.hbm, 566, rfl⟩
abbrev main_v497 : Ref sig .tc := ⟨.hbm, 567, rfl⟩
abbrev main_v498 : Ref sig .tc := ⟨.hbm, 568, rfl⟩
abbrev main_v499 : Ref sig .tc := ⟨.hbm, 569, rfl⟩
abbrev main_v500 : Ref sig .tc := ⟨.hbm, 570, rfl⟩
abbrev main_v501 : Ref sig .tc := ⟨.hbm, 571, rfl⟩
abbrev main_cst_57 : Ref sig .tc := ⟨.hbm, 572, rfl⟩
abbrev main_v502 : Ref sig .tc := ⟨.hbm, 573, rfl⟩
abbrev main_cst_58 : Ref sig .tc := ⟨.hbm, 574, rfl⟩
abbrev main_v503 : Ref sig .tc := ⟨.hbm, 575, rfl⟩
abbrev main_v504 : Ref sig .tc := ⟨.hbm, 576, rfl⟩
abbrev main_v505 : Ref sig .tc := ⟨.hbm, 577, rfl⟩
abbrev main_v506 : Ref sig .tc := ⟨.hbm, 578, rfl⟩
abbrev main_v507 : Ref sig .tc := ⟨.hbm, 579, rfl⟩
abbrev main_v508 : Ref sig .tc := ⟨.hbm, 580, rfl⟩
abbrev main_v509 : Ref sig .tc := ⟨.hbm, 581, rfl⟩
abbrev main_v510 : Ref sig .tc := ⟨.hbm, 582, rfl⟩
abbrev main_v511 : Ref sig .tc := ⟨.hbm, 583, rfl⟩
abbrev main_v512 : Ref sig .tc := ⟨.hbm, 584, rfl⟩
abbrev main_cst_59 : Ref sig .tc := ⟨.hbm, 585, rfl⟩
abbrev main_v513 : Ref sig .tc := ⟨.hbm, 586, rfl⟩
abbrev main_v514 : Ref sig .tc := ⟨.hbm, 587, rfl⟩
abbrev main_cst_60 : Ref sig .tc := ⟨.hbm, 588, rfl⟩
abbrev main_v515 : Ref sig .tc := ⟨.hbm, 589, rfl⟩
abbrev main_v516 : Ref sig .tc := ⟨.hbm, 590, rfl⟩
abbrev main_v517 : Ref sig .tc := ⟨.hbm, 591, rfl⟩
abbrev main_v518 : Ref sig .tc := ⟨.hbm, 592, rfl⟩
abbrev main_v519 : Ref sig .tc := ⟨.hbm, 593, rfl⟩
abbrev main_v520 : Ref sig .tc := ⟨.hbm, 594, rfl⟩
abbrev main_v521 : Ref sig .tc := ⟨.hbm, 595, rfl⟩
abbrev main_v522 : Ref sig .tc := ⟨.hbm, 596, rfl⟩
abbrev main_v523 : Ref sig .tc := ⟨.hbm, 597, rfl⟩
abbrev main_v524 : Ref sig .tc := ⟨.hbm, 598, rfl⟩
abbrev main_cst_61 : Ref sig .tc := ⟨.hbm, 599, rfl⟩
abbrev main_v525 : Ref sig .tc := ⟨.hbm, 600, rfl⟩
abbrev main_v526 : Ref sig .tc := ⟨.hbm, 601, rfl⟩
abbrev main_cst_62 : Ref sig .tc := ⟨.hbm, 602, rfl⟩
abbrev main_v527 : Ref sig .tc := ⟨.hbm, 603, rfl⟩
abbrev main_v528 : Ref sig .tc := ⟨.hbm, 604, rfl⟩
abbrev main_v529 : Ref sig .tc := ⟨.hbm, 605, rfl⟩
abbrev main_v530 : Ref sig .tc := ⟨.hbm, 606, rfl⟩
abbrev main_cst_63 : Ref sig .tc := ⟨.hbm, 607, rfl⟩
abbrev main_v531 : Ref sig .tc := ⟨.hbm, 608, rfl⟩
abbrev main_v532 : Ref sig .tc := ⟨.hbm, 609, rfl⟩
abbrev main_cst_64 : Ref sig .tc := ⟨.hbm, 610, rfl⟩
abbrev main_v533 : Ref sig .tc := ⟨.hbm, 611, rfl⟩
abbrev main_v534 : Ref sig .tc := ⟨.hbm, 612, rfl⟩
abbrev main_v535 : Ref sig .tc := ⟨.hbm, 613, rfl⟩
abbrev main_v536 : Ref sig .tc := ⟨.hbm, 614, rfl⟩
abbrev main_cst_65 : Ref sig .tc := ⟨.hbm, 615, rfl⟩
abbrev main_v537 : Ref sig .tc := ⟨.hbm, 616, rfl⟩
abbrev main_v538 : Ref sig .tc := ⟨.hbm, 617, rfl⟩
abbrev main_cst_66 : Ref sig .tc := ⟨.hbm, 618, rfl⟩
abbrev main_v539 : Ref sig .tc := ⟨.hbm, 619, rfl⟩
abbrev main_v540 : Ref sig .tc := ⟨.hbm, 620, rfl⟩
abbrev main_cst_67 : Ref sig .tc := ⟨.hbm, 621, rfl⟩
abbrev main_v541 : Ref sig .tc := ⟨.hbm, 622, rfl⟩
abbrev main_v542 : Ref sig .tc := ⟨.hbm, 623, rfl⟩
abbrev main_v543 : Ref sig .tc := ⟨.hbm, 624, rfl⟩
abbrev main_cst_68 : Ref sig .tc := ⟨.hbm, 625, rfl⟩
abbrev main_v544 : Ref sig .tc := ⟨.hbm, 626, rfl⟩
abbrev main_v545 : Ref sig .tc := ⟨.hbm, 627, rfl⟩
abbrev main_cst_69 : Ref sig .tc := ⟨.hbm, 628, rfl⟩
abbrev main_v546 : Ref sig .tc := ⟨.hbm, 629, rfl⟩
abbrev main_v547 : Ref sig .tc := ⟨.hbm, 630, rfl⟩
abbrev main_cst_70 : Ref sig .tc := ⟨.hbm, 631, rfl⟩
abbrev main_v548 : Ref sig .tc := ⟨.hbm, 632, rfl⟩
abbrev main_v549 : Ref sig .tc := ⟨.hbm, 633, rfl⟩
abbrev main_v550 : Ref sig .tc := ⟨.hbm, 634, rfl⟩
abbrev main_cst_71 : Ref sig .tc := ⟨.hbm, 635, rfl⟩
abbrev main_v551 : Ref sig .tc := ⟨.hbm, 636, rfl⟩
abbrev main_v552 : Ref sig .tc := ⟨.hbm, 637, rfl⟩
abbrev main_v553 : Ref sig .tc := ⟨.hbm, 638, rfl⟩
abbrev main_v554 : Ref sig .tc := ⟨.hbm, 639, rfl⟩

abbrev nD : Nat := 1
abbrev τ : Topo := Topo.v7x

variable {F : FTy → Type} [FloatOps F]
-- ==== Kernel2.lean ====
abbrev S8x2048x704 : Shape := ⟨3, ![8, 2048, 704]⟩
abbrev S2048x2048 : Shape := ⟨2, ![2048, 2048]⟩
abbrev S8x704x2048 : Shape := ⟨3, ![8, 704, 2048]⟩
abbrev S1x2048x704 : Shape := ⟨3, ![1, 2048, 704]⟩
abbrev S1x704x2048 : Shape := ⟨3, ![1, 704, 2048]⟩
abbrev S2048x704 : Shape := ⟨2, ![2048, 704]⟩
abbrev S704x2048 : Shape := ⟨2, ![704, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8x2048x704, .bf16⟩
  | .hbm, ⟨1, _⟩ => ⟨S2048x2048, .bf16⟩
  | .hbm, ⟨2, _⟩ => ⟨S8x704x2048, .bf16⟩
  | .local _ .vmem, ⟨0, _⟩ => ⟨S1x2048x704, .bf16⟩
  | .local _ .vmem, ⟨1, _⟩ => ⟨S1x2048x704, .bf16⟩
  | .local _ .vmem, ⟨2, _⟩ => ⟨S2048x2048, .bf16⟩
  | .local _ .vmem, ⟨3, _⟩ => ⟨S1x704x2048, .bf16⟩
  | .local _ .vmem, ⟨4, _⟩ => ⟨S1x704x2048, .bf16⟩
  | _, _ => ⟨S8x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference2Ideal.lean ====
abbrev S8x2048x704 : Shape := ⟨3, ![8, 2048, 704]⟩
abbrev S2048x2048 : Shape := ⟨2, ![2048, 2048]⟩
abbrev S2048x8x704 : Shape := ⟨3, ![2048, 8, 704]⟩
abbrev S2048x5632 : Shape := ⟨2, ![2048, 5632]⟩
abbrev S_ : Shape := ⟨0, ![]⟩
abbrev S5632x2048 : Shape := ⟨2, ![5632, 2048]⟩
abbrev S8x704x2048 : Shape := ⟨3, ![8, 704, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8x2048x704, .bf16⟩
  | .hbm, ⟨1, _⟩ => ⟨S2048x2048, .bf16⟩
  | .hbm, ⟨2, _⟩ => ⟨S8x2048x704, .f32⟩
  | .hbm, ⟨3, _⟩ => ⟨S2048x2048, .f32⟩
  | .hbm, ⟨4, _⟩ => ⟨S2048x8x704, .f32⟩
  | .hbm, ⟨5, _⟩ => ⟨S2048x5632, .f32⟩
  | .hbm, ⟨6, _⟩ => ⟨S_, .f32⟩
  | .hbm, ⟨7, _⟩ => ⟨S2048x5632, .f32⟩
  | .hbm, ⟨8, _⟩ => ⟨S2048x5632, .f32⟩
  | .hbm, ⟨9, _⟩ => ⟨S5632x2048, .f32⟩
  | .hbm, ⟨10, _⟩ => ⟨S2048x5632, .f32⟩
  | .hbm, ⟨11, _⟩ => ⟨S5632x2048, .f32⟩
  | .hbm, ⟨12, _⟩ => ⟨S8x704x2048, .f32⟩
  | .hbm, ⟨13, _⟩ => ⟨S8x704x2048, .bf16⟩
  | _, _ => ⟨S8x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Kernel3.lean ====
abbrev S2304x2048 : Shape := ⟨2, ![2304, 2048]⟩
abbrev S2304x7168 : Shape := ⟨2, ![2304, 7168]⟩
abbrev S8x2048x896 : Shape := ⟨3, ![8, 2048, 896]⟩
abbrev S2304x896 : Shape := ⟨2, ![2304, 896]⟩
abbrev S1x2048x896 : Shape := ⟨3, ![1, 2048, 896]⟩
abbrev S2048x896 : Shape := ⟨2, ![2048, 896]⟩

abbrev nBuf : Space → Nat
  | .hbm => 3
  | .vmem => 5
  | .smem => 0
  | _ => 0

abbrev bufTy : (tb : Table) → Fin (tcTables nBuf tb) → BufTy
  | .hbm, ⟨0, _⟩ => ⟨S2304x2048, .bf16⟩
  | .hbm, ⟨1, _⟩ => ⟨S2304x7168, .bf16⟩
  | .hbm, ⟨2, _⟩ => ⟨S8x2048x896, .bf16⟩
  | .local _ .vmem, ⟨0, _⟩ => ⟨S2304x2048, .bf16⟩
  | .local _ .vmem, ⟨1, _⟩ => ⟨S2304x896, .bf16⟩
  | .local _ .vmem, ⟨2, _⟩ => ⟨S2304x896, .bf16⟩
  | .local _ .vmem, ⟨3, _⟩ => ⟨S1x2048x896, .bf16⟩
  | .local _ .vmem, ⟨4, _⟩ => ⟨S1x2048x896, .bf16⟩
  | _, _ => ⟨S2304x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2304x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S2304x896 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S2304x2048 : Shape := ⟨2, ![2304, 2048]⟩
abbrev S2304x7168 : Shape := ⟨2, ![2304, 7168]⟩
abbrev S_ : Shape := ⟨0, ![]⟩
abbrev S2048x7168 : Shape := ⟨2, ![2048, 7168]⟩
abbrev S7168x2048 : Shape := ⟨2, ![7168, 2048]⟩
abbrev S2048x8x896 : Shape := ⟨3, ![2048, 8, 896]⟩
abbrev S8x2048x896 : Shape := ⟨3, ![8, 2048, 896]⟩

abbrev nBuf : Space → Nat
  | .hbm => 12
  | .vmem => 0
  | .smem => 0
  | _ => 0

abbrev bufTy : (tb : Table) → Fin (tcTables nBuf tb) → BufTy
  | .hbm, ⟨0, _⟩ => ⟨S2304x2048, .bf16⟩
  | .hbm, ⟨1, _⟩ => ⟨S2304x7168, .bf16⟩
  | .hbm, ⟨2, _⟩ => ⟨S2304x2048, .f32⟩
  | .hbm, ⟨3, _⟩ => ⟨S2304x7168, .f32⟩
  | .hbm, ⟨4, _⟩ => ⟨S_, .f32⟩
  | .hbm, ⟨5, _⟩ => ⟨S2048x7168, .f32⟩
  | .hbm, ⟨6, _⟩ => ⟨S2304x7168, .f32⟩
  | .hbm, ⟨7, _⟩ => ⟨S7168x2048, .f32⟩
  | .hbm, ⟨8, _⟩ => ⟨S2048x7168, .f32⟩
  | .hbm, ⟨9, _⟩ => ⟨S2048x8x896, .f32⟩
  | .hbm, ⟨10, _⟩ => ⟨S8x2048x896, .f32⟩
  | .hbm, ⟨11, _⟩ => ⟨S8x2048x896, .bf16⟩
  | _, _ => ⟨S2304x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel4.lean ====
abbrev S2048x2048 : Shape := ⟨2, ![2048, 2048]⟩
abbrev S8x256x2048 : Shape := ⟨3, ![8, 256, 2048]⟩
abbrev S2048x256 : Shape := ⟨2, ![2048, 256]⟩
abbrev S1x256x2048 : Shape := ⟨3, ![1, 256, 2048]⟩
abbrev S256x2048 : Shape := ⟨2, ![256, 2048]⟩

abbrev nBuf : Space → Nat
  | .hbm => 3
  | .vmem => 5
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S8x256x2048, .bf16⟩
  | .local _ .vmem, ⟨0, _⟩ => ⟨S2048x256, .bf16⟩
  | .local _ .vmem, ⟨1, _⟩ => ⟨S2048x256, .bf16⟩
  | .local _ .vmem, ⟨2, _⟩ => ⟨S2048x2048, .bf16⟩
  | .local _ .vmem, ⟨3, _⟩ => ⟨S1x256x2048, .bf16⟩
  | .local _ .vmem, ⟨4, _⟩ => ⟨S1x256x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S2048x2048 : Shape := ⟨2, ![2048, 2048]⟩
abbrev S_ : Shape := ⟨0, ![]⟩
abbrev S8x256x2048 : Shape := ⟨3, ![8, 256, 2048]⟩

abbrev nBuf : Space → Nat
  | .hbm => 11
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S8x256x2048, .f32⟩
  | .hbm, ⟨10, _⟩ => ⟨S8x256x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8x2304x704 : Shape := ⟨3, ![8, 2304, 704]⟩
abbrev S2304x2048 : Shape := ⟨2, ![2304, 2048]⟩
abbrev S1x58496 : Shape := ⟨2, ![1, 58496]⟩
abbrev S8x704x2048 : Shape := ⟨3, ![8, 704, 2048]⟩
abbrev S1x2304x704 : Shape := ⟨3, ![1, 2304, 704]⟩
abbrev S1x704x2048 : Shape := ⟨3, ![1, 704, 2048]⟩
abbrev S2304x704 : Shape := ⟨2, ![2304, 704]⟩
abbrev S704x2048 : Shape := ⟨2, ![704, 2048]⟩

abbrev nBuf : Space → Nat
  | .hbm => 4
  | .vmem => 5
  | .smem => 0
  | _ => 0

abbrev bufTy : (tb : Table) → Fin (tcTables nBuf tb) → BufTy
  | .hbm, ⟨0, _⟩ => ⟨S8x2304x704, .bf16⟩
  | .hbm, ⟨1, _⟩ => ⟨S2304x2048, .bf16⟩
  | .hbm, ⟨2, _⟩ => ⟨S1x58496, .f32⟩
  | .hbm, ⟨3, _⟩ => ⟨S8x704x2048, .bf16⟩
  | .local _ .vmem, ⟨0, _⟩ => ⟨S1x2304x704, .bf16⟩
  | .local _ .vmem, ⟨1, _⟩ => ⟨S1x2304x704, .bf16⟩
  | .local _ .vmem, ⟨2, _⟩ => ⟨S2304x2048, .bf16⟩
  | .local _ .vmem, ⟨3, _⟩ => ⟨S1x704x2048, .bf16⟩
  | .local _ .vmem, ⟨4, _⟩ => ⟨S1x704x2048, .bf16⟩
  | _, _ => ⟨S8x2304x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2304x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2304x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1x704x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S8x2304x704 : Shape := ⟨3, ![8, 2304, 704]⟩
abbrev S2304x2048 : Shape := ⟨2, ![2304, 2048]⟩
abbrev S1x58496 : Shape := ⟨2, ![1, 58496]⟩
abbrev S2304x8x704 : Shape := ⟨3, ![2304, 8, 704]⟩
abbrev S2304x5632 : Shape := ⟨2, ![2304, 5632]⟩
abbrev S_ : Shape := ⟨0, ![]⟩
abbrev S2048x5632 : Shape := ⟨2, ![2048, 5632]⟩
abbrev S5632x2048 : Shape := ⟨2, ![5632, 2048]⟩
abbrev S8x704x2048 : Shape := ⟨3, ![8, 704, 2048]⟩

abbrev nBuf : Space → Nat
  | .hbm => 15
  | .vmem => 0
  | .smem => 0
  | _ => 0

abbrev bufTy : (tb : Table) → Fin (tcTables nBuf tb) → BufTy
  | .hbm, ⟨0, _⟩ => ⟨S8x2304x704, .bf16⟩
  | .hbm, ⟨1, _⟩ => ⟨S2304x2048, .bf16⟩
  | .hbm, ⟨2, _⟩ => ⟨S1x58496, .f32⟩
  | .hbm, ⟨3, _⟩ => ⟨S8x2304x704, .f32⟩
  | .hbm, ⟨4, _⟩ => ⟨S2304x2048, .f32⟩
  | .hbm, ⟨5, _⟩ => ⟨S2304x8x704, .f32⟩
  | .hbm, ⟨6, _⟩ => ⟨S2304x5632, .f32⟩
  | .hbm, ⟨7, _⟩ => ⟨S_, .f32⟩
  | .hbm, ⟨8, _⟩ => ⟨S2048x5632, .f32⟩
  | .hbm, ⟨9, _⟩ => ⟨S2304x5632, .f32⟩
  | .hbm, ⟨10, _⟩ => ⟨S5632x2048, .f32⟩
  | .hbm, ⟨11, _⟩ => ⟨S2048x5632, .f32⟩
  | .hbm, ⟨12, _⟩ => ⟨S5632x2048, .f32⟩
  | .hbm, ⟨13, _⟩ => ⟨S8x704x2048, .f32⟩
  | .hbm, ⟨14, _⟩ => ⟨S8x704x2048, .bf16⟩
  | _, _ => ⟨S8x2304x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel6.lean ====
abbrev S2048x2048 : Shape := ⟨2, ![2048, 2048]⟩
abbrev S1x3x2048 : Shape := ⟨3, ![1, 3, 2048]⟩
abbrev S1x2048 : Shape := ⟨2, ![1, 2048]⟩
abbrev S8x704x2048 : Shape := ⟨3, ![8, 704, 2048]⟩
abbrev S8x2048x704 : Shape := ⟨3, ![8, 2048, 704]⟩
abbrev S512x2048 : Shape := ⟨2, ![512, 2048]⟩
abbrev S1x704x2048 : Shape := ⟨3, ![1, 704, 2048]⟩
abbrev S1x512x704 : Shape := ⟨3, ![1, 512, 704]⟩
abbrev S512x704 : Shape := ⟨2, ![512, 704]⟩
abbrev S128x2048 : Shape := ⟨2, ![128, 2048]⟩
abbrev S1x1x2048 : Shape := ⟨3, ![1, 1, 2048]⟩
abbrev S128 : Shape := ⟨1, ![128]⟩
abbrev S128x1 : Shape := ⟨2, ![128, 1]⟩
abbrev S256x2048 : Shape := ⟨2, ![256, 2048]⟩
abbrev S704x2048 : Shape := ⟨2, ![704, 2048]⟩
abbrev S256x704 : Shape := ⟨2, ![256, 704]⟩
abbrev S128x704 : Shape := ⟨2, ![128, 704]⟩
abbrev S1x128x704 : Shape := ⟨3, ![1, 128, 704]⟩

abbrev nBuf : Space → Nat
  | .hbm => 11
  | .vmem => 21
  | .smem => 0
  | _ => 0

abbrev bufTy : (tb : Table) → Fin (tcTables nBuf tb) → BufTy
  | .hbm, ⟨0, _⟩ => ⟨S2048x2048, .f32⟩
  | .hbm, ⟨1, _⟩ => ⟨S1x3x2048, .f32⟩
  | .hbm, ⟨2, _⟩ => ⟨S1x2048, .f32⟩
  | .hbm, ⟨3, _⟩ => ⟨S8x704x2048, .bf16⟩
  | .hbm, ⟨4, _⟩ => ⟨S8x704x2048, .bf16⟩
  | .hbm, ⟨5, _⟩ => ⟨S8x704x2048, .bf16⟩
  | .hbm, ⟨6, _⟩ => ⟨S2048x2048, .f32⟩
  | .hbm, ⟨7, _⟩ => ⟨S2048x2048, .bf16⟩
  | .hbm, ⟨8, _⟩ => ⟨S2048x2048, .bf16⟩
  | .hbm, ⟨9, _⟩ => ⟨S8x2048x704, .bf16⟩
  | .hbm, ⟨10, _⟩ => ⟨S8x2048x704, .bf16⟩
  | .local _ .vmem, ⟨0, _⟩ => ⟨S512x2048, .f32⟩
  | .local _ .vmem, ⟨1, _⟩ => ⟨S1x3x2048, .f32⟩
  | .local _ .vmem, ⟨2, _⟩ => ⟨S1x2048, .f32⟩
  | .local _ .vmem, ⟨3, _⟩ => ⟨S1x704x2048, .bf16⟩
  | .local _ .vmem, ⟨4, _⟩ => ⟨S1x704x2048, .bf16⟩
  | .local _ .vmem, ⟨5, _⟩ => ⟨S1x704x2048, .bf16⟩
  | .local _ .vmem, ⟨6, _⟩ => ⟨S1x704x2048, .bf16⟩
  | .local _ .vmem, ⟨7, _⟩ => ⟨S1x704x2048, .bf16⟩
  | .local _ .vmem, ⟨8, _⟩ => ⟨S1x704x2048, .bf16⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x512x704, .bf16⟩
  | .local _ .vmem, ⟨13, _⟩ => ⟨S1x512x704, .bf16⟩
  | .local _ .vmem, ⟨14, _⟩ => ⟨S1x512x704, .bf16⟩
  | .local _ .vmem, ⟨15, _⟩ => ⟨S1x512x704, .bf16⟩
  | .local _ .vmem, ⟨16, _⟩ => ⟨S512x2048, .bf16⟩
  | .local _ .vmem, ⟨17, _⟩ => ⟨S512x2048, .f32⟩
  | .local _ .vmem, ⟨18, _⟩ => ⟨S512x704, .f32⟩
  | .local _ .vmem, ⟨19, _⟩ => ⟨S512x704, .f32⟩
  | .local _ .vmem, ⟨20, _⟩ => ⟨S512x704, .bf16⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_97 : BitVec 32 := 0#32
  let c4_i32 : BitVec 32 := 4#32
  let v120 : BitVec 32 := Scalar.addi c0_i32_97 c4_i32
  let c1_i32 : BitVec 32 := 1#32
  ⟨c0_i32_97, v120, c1_i32⟩
def k0_mult1 (k0_t1 : Fin k0_t1_loop.trips) : BitVec 32 :=
  let c0_i32_97 : BitVec 32 := 0#32
  let c1_i32 : BitVec 32 := 1#32
  let arg18 : BitVec 32 := Scf.iv c0_i32_97 c1_i32 k0_t1
  let c128_i32 : BitVec 32 := 128#32
  let v125 : BitVec 32 := Scalar.muli arg18 c128_i32
  v125
def k0_off1 (k0_t1 : Fin k0_t1_loop.trips) : Fin 2 → Nat :=
  let c0_i32_97 : BitVec 32 := 0#32
  let c1_i32 : BitVec 32 := 1#32
  let arg18 : BitVec 32 := Scf.iv c0_i32_97 c1_i32 k0_t1
  let c128_i32 : BitVec 32 := 128#32
  let v125 : BitVec 32 := Scalar.muli arg18 c128_i32
  let v126 : BitVec 32 := v125
  let v127 : Index := Scalar.indexCast v126
  let c0_102 : Index := 0#32
  ![v127.toNat, 0]
def k0_cond2 (i : grid0.Coords) : BitVec 1 :=
  let arg1 : BitVec 32 := BitVec.ofNat 32 (i 1).val
  let c7_i32 : BitVec 32 := 7#32
  let v117 : BitVec 1 := Scalar.cmpi .eq arg1 c7_i32
  let v118 : BitVec 32 := Scalar.extui v117
  let c0_i32_96 : BitVec 32 := 0#32
  let v119 : BitVec 1 := Scalar.cmpi .ne v118 c0_i32_96
  v119

@[reducible] def k0_t2_loop : Scf.Loop 32 :=
  let c0_i32_97 : BitVec 32 := 0#32
  let c4_i32 : BitVec 32 := 4#32
  let v120 : BitVec 32 := Scalar.addi c0_i32_97 c4_i32
  let c1_i32 : BitVec 32 := 1#32
  ⟨c0_i32_97, v120, c1_i32⟩
def k0_mult2 (k0_t2 : Fin k0_t2_loop.trips) : BitVec 32 :=
  let c0_i32_97 : BitVec 32 := 0#32
  let c1_i32 : BitVec 32 := 1#32
  let arg18 : BitVec 32 := Scf.iv c0_i32_97 c1_i32 k0_t2
  let c128_i32 : BitVec 32 := 128#32
  let v121 : BitVec 32 := Scalar.muli arg18 c128_i32
  v121
def k0_off2 (k0_t2 : Fin k0_t2_loop.trips) : Fin 2 → Nat :=
  let c0_i32_97 : BitVec 32 := 0#32
  let c1_i32 : BitVec 32 := 1#32
  let arg18 : BitVec 32 := Scf.iv c0_i32_97 c1_i32 k0_t2
  let c128_i32 : BitVec 32 := 128#32
  let v121 : BitVec 32 := Scalar.muli arg18 c128_i32
  let v122 : BitVec 32 := v121
  let v123 : Index := Scalar.indexCast v122
  let c0_99 : Index := 0#32
  ![v123.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x3x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x704x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x704x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x704x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S512x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]

abbrev stage0_7 : Fin 1 → Memref sig .tc .vmem S512x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S512x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

abbrev stage0_9 : Fin 2 → Memref sig .tc .vmem S1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S2048x2048 : Shape := ⟨2, ![2048, 2048]⟩
abbrev S1x3x2048 : Shape := ⟨3, ![1, 3, 2048]⟩
abbrev S1x2048 : Shape := ⟨2, ![1, 2048]⟩
abbrev S8x704x2048 : Shape := ⟨3, ![8, 704, 2048]⟩
abbrev S5632x2048 : Shape := ⟨2, ![5632, 2048]⟩
abbrev S2048 : Shape := ⟨1, ![2048]⟩
abbrev S1x1x2048 : Shape := ⟨3, ![1, 1, 2048]⟩
abbrev S2048x5632 : Shape := ⟨2, ![2048, 5632]⟩
abbrev S_ : Shape := ⟨0, ![]⟩
abbrev S2048x1 : Shape := ⟨2, ![2048, 1]⟩
abbrev S2048x8x704 : Shape := ⟨3, ![2048, 8, 704]⟩
abbrev S8x2048x704 : Shape := ⟨3, ![8, 2048, 704]⟩

abbrev nBuf : Space → Nat
  | .hbm => 71
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S1x3x2048, .f32⟩
  | .hbm, ⟨2, _⟩ => ⟨S1x2048, .f32⟩
  | .hbm, ⟨3, _⟩ => ⟨S8x704x2048, .bf16⟩
  | .hbm, ⟨4, _⟩ => ⟨S8x704x2048, .bf16⟩
  | .hbm, ⟨5, _⟩ => ⟨S8x704x2048, .bf16⟩
  | .hbm, ⟨6, _⟩ => ⟨S8x704x2048, .f32⟩
  | .hbm, ⟨7, _⟩ => ⟨S5632x2048, .f32⟩
  | .hbm, ⟨8, _⟩ => ⟨S8x704x2048, .f32⟩
  | .hbm, ⟨9, _⟩ => ⟨S5632x2048, .f32⟩
  | .hbm, ⟨10, _⟩ => ⟨S8x704x2048, .f32⟩
  | .hbm, ⟨11, _⟩ => ⟨S5632x2048, .f32⟩
  | .hbm, ⟨12, _⟩ => ⟨S2048, .f32⟩
  | .hbm, ⟨13, _⟩ => ⟨S1x1x2048, .f32⟩
  | .hbm, ⟨14, _⟩ => ⟨S1x2048, .f32⟩
  | .hbm, ⟨15, _⟩ => ⟨S1x1x2048, .f32⟩
  | .hbm, ⟨16, _⟩ => ⟨S1x2048, .f32⟩
  | .hbm, ⟨17, _⟩ => ⟨S1x1x2048, .f32⟩
  | .hbm, ⟨18, _⟩ => ⟨S1x2048, .f32⟩
  | .hbm, ⟨19, _⟩ => ⟨S2048x5632, .f32⟩
  | .hbm, ⟨20, _⟩ => ⟨S2048x5632, .f32⟩
  | .hbm, ⟨21, _⟩ => ⟨S2048x2048, .f32⟩
  | .hbm, ⟨22, _⟩ => ⟨S_, .f32⟩
  | .hbm, ⟨23, _⟩ => ⟨S2048, .f32⟩
  | .hbm, ⟨24, _⟩ => ⟨S2048x1, .f32⟩
  | .hbm, ⟨25, _⟩ => ⟨S_, .f32⟩
  | .hbm, ⟨26, _⟩ => ⟨S2048x1, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S2048x1, .f32⟩
  | .hbm, ⟨32, _⟩ => ⟨S2048x2048, .f32⟩
  | .hbm, ⟨33, _⟩ => ⟨S2048x2048, .f32⟩
  | .hbm, ⟨34, _⟩ => ⟨S1x2048, .f32⟩
  | .hbm, ⟨35, _⟩ => ⟨S2048x2048, .f32⟩
  | .hbm, ⟨36, _⟩ => ⟨S2048x2048, .f32⟩
  | .hbm, ⟨37, _⟩ => ⟨S_, .f32⟩
  | .hbm, ⟨38, _⟩ => ⟨S1x2048, .f32⟩
  | .hbm, ⟨39, _⟩ => ⟨S1x2048, .f32⟩
  | .hbm, ⟨40, _⟩ => ⟨S2048x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x5632, .f32⟩
  | .hbm, ⟨45, _⟩ => ⟨S2048x5632, .f32⟩
  | .hbm, ⟨46, _⟩ => ⟨S2048x5632, .f32⟩
  | .hbm, ⟨47, _⟩ => ⟨S2048x5632, .f32⟩
  | .hbm, ⟨48, _⟩ => ⟨S_, .f32⟩
  | .hbm, ⟨49, _⟩ => ⟨S2048x5632, .f32⟩
  | .hbm, ⟨50, _⟩ => ⟨S2048x5632, .f32⟩
  | .hbm, ⟨51, _⟩ => ⟨S_, .f32⟩
  | .hbm, ⟨52, _⟩ => ⟨S2048x5632, .f32⟩
  | .hbm, ⟨53, _⟩ => ⟨S2048x5632, .f32⟩
  | .hbm, ⟨54, _⟩ => ⟨S2048x5632, .f32⟩
  | .hbm, ⟨55, _⟩ => ⟨S2048x5632, .f32⟩
  | .hbm, ⟨56, _⟩ => ⟨S2048x2048, .f32⟩
  | .hbm, ⟨57, _⟩ => ⟨S_, .f32⟩
  | .hbm, ⟨58, _⟩ => ⟨S1x2048, .f32⟩
  | .hbm, ⟨59, _⟩ => ⟨S1x2048, .f32⟩
  | .hbm, ⟨60, _⟩ => ⟨S2048x2048, .f32⟩
  | .hbm, ⟨61, _⟩ => ⟨S2048x2048, .f32⟩
  | .hbm, ⟨62, _⟩ => ⟨S2048x2048, .f32⟩
  | .hbm, ⟨63, _⟩ => ⟨S2048x2048, .bf16⟩
  | .hbm, ⟨64, _⟩ => ⟨S2048x2048, .bf16⟩
  | .hbm, ⟨65, _⟩ => ⟨S2048x8x704, .f32⟩
  | .hbm, ⟨66, _⟩ => ⟨S8x2048x704, .f32⟩
  | .hbm, ⟨67, _⟩ => ⟨S8x2048x704, .bf16⟩
  | .hbm, ⟨68, _⟩ => ⟨S2048x8x704, .f32⟩
  | .hbm, ⟨69, _⟩ => ⟨S8x2048x704, .f32⟩
  | .hbm, ⟨70, _⟩ => ⟨S8x2048x704, .bf16⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_cst_0 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_call0_v0 : Ref sig .tc := ⟨.hbm, 46, rfl⟩
abbrev main_call0_v1 : Ref sig .tc := ⟨.hbm, 47, rfl⟩
abbrev main_call0_cst : Ref sig .tc := ⟨.hbm, 48, rfl⟩
abbrev main_call0_v2 : Ref sig .tc := ⟨.hbm, 49, rfl⟩
abbrev main_call0_v3 : Ref sig .tc := ⟨.hbm, 50, rfl⟩
abbrev main_call0_cst_0 : Ref sig .tc := ⟨.hbm, 51, rfl⟩
abbrev main_call0_v4 : Ref sig .tc := ⟨.hbm, 52, rfl⟩
abbrev main_call0_v5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_3 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩

abbrev nD : Nat := 1
abbrev τ : Topo := Topo.v7x

variable {F : FTy → Type} [FloatOps F]
-- ==== Kernel7.lean ====
abbrev S2048x2048 : Shape := ⟨2, ![2048, 2048]⟩
abbrev S1x3x2048 : Shape := ⟨3, ![1, 3, 2048]⟩
abbrev S1x2048 : Shape := ⟨2, ![1, 2048]⟩
abbrev S8x704x2048 : Shape := ⟨3, ![8, 704, 2048]⟩
abbrev S5632x2048 : Shape := ⟨2, ![5632, 2048]⟩
abbrev S2048 : Shape := ⟨1, ![2048]⟩
abbrev S1x1x2048 : Shape := ⟨3, ![1, 1, 2048]⟩
abbrev S2048x5632 : Shape := ⟨2, ![2048, 5632]⟩
abbrev S_ : Shape := ⟨0, ![]⟩
abbrev S2048x1 : Shape := ⟨2, ![2048, 1]⟩
abbrev S2048x8x704 : Shape := ⟨3, ![2048, 8, 704]⟩
abbrev S8x2048x704 : Shape := ⟨3, ![8, 2048, 704]⟩
abbrev S1x8x2048 : Shape := ⟨3, ![1, 8, 2048]⟩
abbrev S512x2048 : Shape := ⟨2, ![512, 2048]⟩
abbrev S1x512x704 : Shape := ⟨3, ![1, 512, 704]⟩
abbrev S1x704x2048 : Shape := ⟨3, ![1, 704, 2048]⟩
abbrev S512x704 : Shape := ⟨2, ![512, 704]⟩
abbrev S128x2048 : Shape := ⟨2, ![128, 2048]⟩
abbrev S256x2048 : Shape := ⟨2, ![256, 2048]⟩
abbrev S704x2048 : Shape := ⟨2, ![704, 2048]⟩
abbrev S256x704 : Shape := ⟨2, ![256, 704]⟩
abbrev S1x128x704 : Shape := ⟨3, ![1, 128, 704]⟩
abbrev S128x704 : Shape := ⟨2, ![128, 704]⟩
abbrev S1x256x704 : Shape := ⟨3, ![1, 256, 704]⟩
abbrev S8x2048 : Shape := ⟨2, ![8, 2048]⟩
abbrev S128 : Shape := ⟨1, ![128]⟩
abbrev S128x1 : Shape := ⟨2, ![128, 1]⟩

abbrev nBuf : Space → Nat
  | .hbm => 78
  | .vmem => 27
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S1x3x2048, .f32⟩
  | .hbm, ⟨3, _⟩ => ⟨S1x2048, .f32⟩
  | .hbm, ⟨4, _⟩ => ⟨S8x704x2048, .bf16⟩
  | .hbm, ⟨5, _⟩ => ⟨S8x704x2048, .bf16⟩
  | .hbm, ⟨6, _⟩ => ⟨S8x704x2048, .bf16⟩
  | .hbm, ⟨7, _⟩ => ⟨S8x704x2048, .f32⟩
  | .hbm, ⟨8, _⟩ => ⟨S5632x2048, .f32⟩
  | .hbm, ⟨9, _⟩ => ⟨S8x704x2048, .f32⟩
  | .hbm, ⟨10, _⟩ => ⟨S5632x2048, .f32⟩
  | .hbm, ⟨11, _⟩ => ⟨S8x704x2048, .f32⟩
  | .hbm, ⟨12, _⟩ => ⟨S5632x2048, .f32⟩
  | .hbm, ⟨13, _⟩ => ⟨S2048, .f32⟩
  | .hbm, ⟨14, _⟩ => ⟨S1x1x2048, .f32⟩
  | .hbm, ⟨15, _⟩ => ⟨S1x2048, .f32⟩
  | .hbm, ⟨16, _⟩ => ⟨S1x1x2048, .f32⟩
  | .hbm, ⟨17, _⟩ => ⟨S1x2048, .f32⟩
  | .hbm, ⟨18, _⟩ => ⟨S1x1x2048, .f32⟩
  | .hbm, ⟨19, _⟩ => ⟨S1x2048, .f32⟩
  | .hbm, ⟨20, _⟩ => ⟨S2048x5632, .f32⟩
  | .hbm, ⟨21, _⟩ => ⟨S2048x5632, .f32⟩
  | .hbm, ⟨22, _⟩ => ⟨S2048x2048, .f32⟩
  | .hbm, ⟨23, _⟩ => ⟨S_, .f32⟩
  | .hbm, ⟨24, _⟩ => ⟨S2048, .f32⟩
  | .hbm, ⟨25, _⟩ => ⟨S2048x1, .f32⟩
  | .hbm, ⟨26, _⟩ => ⟨S_, .f32⟩
  | .hbm, ⟨27, _⟩ => ⟨S2048x1, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S2048x1, .f32⟩
  | .hbm, ⟨33, _⟩ => ⟨S2048x2048, .f32⟩
  | .hbm, ⟨34, _⟩ => ⟨S2048x2048, .f32⟩
  | .hbm, ⟨35, _⟩ => ⟨S1x2048, .f32⟩
  | .hbm, ⟨36, _⟩ => ⟨S2048x2048, .f32⟩
  | .hbm, ⟨37, _⟩ => ⟨S2048x2048, .f32⟩
  | .hbm, ⟨38, _⟩ => ⟨S_, .f32⟩
  | .hbm, ⟨39, _⟩ => ⟨S1x2048, .f32⟩
  | .hbm, ⟨40, _⟩ => ⟨S1x2048, .f32⟩
  | .hbm, ⟨41, _⟩ => ⟨S2048x2048, .f32⟩
  | .hbm, ⟨42, _⟩ => ⟨S2048x2048, .f32⟩
  | .hbm, ⟨43, _⟩ => ⟨S2048x2048, .f32⟩
  | .hbm, ⟨44, _⟩ => ⟨S2048x2048, .f32⟩
  | .hbm, ⟨45, _⟩ => ⟨S2048x5632, .f32⟩
  | .hbm, ⟨46, _⟩ => ⟨S2048x5632, .f32⟩
  | .hbm, ⟨47, _⟩ => ⟨S2048x5632, .f32⟩
  | .hbm, ⟨48, _⟩ => ⟨S2048x5632, .f32⟩
  | .hbm, ⟨49, _⟩ => ⟨S_, .f32⟩
  | .hbm, ⟨50, _⟩ => ⟨S2048x5632, .f32⟩
  | .hbm, ⟨51, _⟩ => ⟨S2048x5632, .f32⟩
  | .hbm, ⟨52, _⟩ => ⟨S_, .f32⟩
  | .hbm, ⟨53, _⟩ => ⟨S2048x5632, .f32⟩
  | .hbm, ⟨54, _⟩ => ⟨S2048x5632, .f32⟩
  | .hbm, ⟨55, _⟩ => ⟨S2048x5632, .f32⟩
  | .hbm, ⟨56, _⟩ => ⟨S2048x5632, .f32⟩
  | .hbm, ⟨57, _⟩ => ⟨S2048x2048, .f32⟩
  | .hbm, ⟨58, _⟩ => ⟨S_, .f32⟩
  | .hbm, ⟨59, _⟩ => ⟨S1x2048, .f32⟩
  | .hbm, ⟨60, _⟩ => ⟨S1x2048, .f32⟩
  | .hbm, ⟨61, _⟩ => ⟨S2048x2048, .f32⟩
  | .hbm, ⟨62, _⟩ => ⟨S2048x2048, .f32⟩
  | .hbm, ⟨63, _⟩ => ⟨S2048x2048, .f32⟩
  | .hbm, ⟨64, _⟩ => ⟨S2048x2048, .bf16⟩
  | .hbm, ⟨65, _⟩ => ⟨S2048x2048, .bf16⟩
  | .hbm, ⟨66, _⟩ => ⟨S2048x8x704, .f32⟩
  | .hbm, ⟨67, _⟩ => ⟨S8x2048x704, .f32⟩
  | .hbm, ⟨68, _⟩ => ⟨S8x2048x704, .bf16⟩
  | .hbm, ⟨69, _⟩ => ⟨S2048x8x704, .f32⟩
  | .hbm, ⟨70, _⟩ => ⟨S8x2048x704, .f32⟩
  | .hbm, ⟨71, _⟩ => ⟨S8x2048x704, .bf16⟩
  | .hbm, ⟨72, _⟩ => ⟨S2048x2048, .f32⟩
  | .hbm, ⟨73, _⟩ => ⟨S8x2048x704, .bf16⟩
  | .hbm, ⟨74, _⟩ => ⟨S8x2048x704, .bf16⟩
  | .hbm, ⟨75, _⟩ => ⟨S8x2048x704, .bf16⟩
  | .hbm, ⟨76, _⟩ => ⟨S1x8x2048, .f32⟩
  | .hbm, ⟨77, _⟩ => ⟨S2048x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S1x512x704, .bf16⟩
  | .local _ .vmem, ⟨4, _⟩ => ⟨S1x512x704, .bf16⟩
  | .local _ .vmem, ⟨5, _⟩ => ⟨S1x512x704, .bf16⟩
  | .local _ .vmem, ⟨6, _⟩ => ⟨S1x512x704, .bf16⟩
  | .local _ .vmem, ⟨7, _⟩ => ⟨S1x3x2048, .f32⟩
  | .local _ .vmem, ⟨8, _⟩ => ⟨S1x2048, .f32⟩
  | .local _ .vmem, ⟨9, _⟩ => ⟨S1x704x2048, .bf16⟩
  | .local _ .vmem, ⟨10, _⟩ => ⟨S1x704x2048, .bf16⟩
  | .local _ .vmem, ⟨11, _⟩ => ⟨S1x704x2048, .bf16⟩
  | .local _ .vmem, ⟨12, _⟩ => ⟨S1x704x2048, .bf16⟩
  | .local _ .vmem, ⟨13, _⟩ => ⟨S1x704x2048, .bf16⟩
  | .local _ .vmem, ⟨14, _⟩ => ⟨S1x704x2048, .bf16⟩
  | .local _ .vmem, ⟨15, _⟩ => ⟨S512x2048, .f32⟩
  | .local _ .vmem, ⟨16, _⟩ => ⟨S1x512x704, .bf16⟩
  | .local _ .vmem, ⟨17, _⟩ => ⟨S1x512x704, .bf16⟩
  | .local _ .vmem, ⟨18, _⟩ => ⟨S1x512x704, .bf16⟩
  | .local _ .vmem, ⟨19, _⟩ => ⟨S1x512x704, .bf16⟩
  | .local _ .vmem, ⟨20, _⟩ => ⟨S1x512x704, .bf16⟩
  | .local _ .vmem, ⟨21, _⟩ => ⟨S1x512x704, .bf16⟩
  | .local _ .vmem, ⟨22, _⟩ => ⟨S1x8x2048, .f32⟩
  | .local _ .vmem, ⟨23, _⟩ => ⟨S512x2048, .bf16⟩
  | .local _ .vmem, ⟨24, _⟩ => ⟨S512x2048, .bf16⟩
  | .local _ .vmem, ⟨25, _⟩ => ⟨S512x2048, .f32⟩
  | .local _ .vmem, ⟨26, _⟩ => ⟨S512x704, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_cst_1 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_2 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_3 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52_0 : Ref sig .tc := ⟨.hbm, 72, rfl⟩
abbrev main_v52_1 : Ref sig .tc := ⟨.hbm, 73, rfl⟩
abbrev main_v52_2 : Ref sig .tc := ⟨.hbm, 74, rfl⟩
abbrev main_v52_3 : Ref sig .tc := ⟨.hbm, 75, rfl⟩
abbrev main_v52_4 : Ref sig .tc := ⟨.hbm, 76, rfl⟩
abbrev main_v52_5 : Ref sig .tc := ⟨.hbm, 77, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg15_0 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem15_0 : DmaSem sig := 23

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_128 : BitVec 32 := 0#32
  let c4_i32_129 : BitVec 32 := 4#32
  let v183 : BitVec 32 := Scalar.addi c0_i32_128 c4_i32_129
  let c1_i32 : BitVec 32 := 1#32
  ⟨c0_i32_128, v183, c1_i32⟩
def k0_mult1 (k0_t1 : Fin k0_t1_loop.trips) : BitVec 32 :=
  let c0_i32_128 : BitVec 32 := 0#32
  let c1_i32 : BitVec 32 := 1#32
  let arg21 : BitVec 32 := Scf.iv c0_i32_128 c1_i32 k0_t1
  let c128_i32 : BitVec 32 := 128#32
  let v188 : BitVec 32 := Scalar.muli arg21 c128_i32
  v188
def k0_off1 (k0_t1 : Fin k0_t1_loop.trips) : Fin 2 → Nat :=
  let c0_i32_128 : BitVec 32 := 0#32
  let c1_i32 : BitVec 32 := 1#32
  let arg21 : BitVec 32 := Scf.iv c0_i32_128 c1_i32 k0_t1
  let c128_i32 : BitVec 32 := 128#32
  let v188 : BitVec 32 := Scalar.muli arg21 c128_i32
  let v189 : BitVec 32 := v188
  let v194 : Index := Scalar.indexCast v189
  let c0_137 : Index := 0#32
  ![v194.toNat, 0]
def k0_cond3 (i : grid0.Coords) : BitVec 1 :=
  let arg1 : BitVec 32 := BitVec.ofNat 32 (i 1).val
  let c7_i32 : BitVec 32 := 7#32
  let v180 : BitVec 1 := Scalar.cmpi .eq arg1 c7_i32
  let v181 : BitVec 32 := Scalar.extui v180
  let c0_i32_127 : BitVec 32 := 0#32
  let v182 : BitVec 1 := Scalar.cmpi .ne v181 c0_i32_127
  v182

@[reducible] def k0_t2_loop : Scf.Loop 32 :=
  let c0_i32_128 : BitVec 32 := 0#32
  let c4_i32_129 : BitVec 32 := 4#32
  let v183 : BitVec 32 := Scalar.addi c0_i32_128 c4_i32_129
  let c1_i32 : BitVec 32 := 1#32
  ⟨c0_i32_128, v183, c1_i32⟩
def k0_mult2 (k0_t2 : Fin k0_t2_loop.trips) : BitVec 32 :=
  let c0_i32_128 : BitVec 32 := 0#32
  let c1_i32 : BitVec 32 := 1#32
  let arg21 : BitVec 32 := Scf.iv c0_i32_128 c1_i32 k0_t2
  let c128_i32 : BitVec 32 := 128#32
  let v184 : BitVec 32 := Scalar.muli arg21 c128_i32
  v184
def k0_off2 (k0_t2 : Fin k0_t2_loop.trips) : Fin 2 → Nat :=
  let c0_i32_128 : BitVec 32 := 0#32
  let c1_i32 : BitVec 32 := 1#32
  let arg21 : BitVec 32 := Scf.iv c0_i32_128 c1_i32 k0_t2
  let c128_i32 : BitVec 32 := 128#32
  let v184 : BitVec 32 := Scalar.muli arg21 c128_i32
  let v185 : BitVec 32 := v184
  let v186 : Index := Scalar.indexCast v185
  let c0_131 : Index := 0#32
  ![v186.toNat, 0]
def k0_cond2 (i : grid0.Coords) : BitVec 1 :=
  let arg1 : BitVec 32 := BitVec.ofNat 32 (i 1).val
  let c0_i32_124 : BitVec 32 := 0#32
  let v173 : BitVec 1 := Scalar.cmpi .eq arg1 c0_i32_124
  let arg0 : BitVec 32 := BitVec.ofNat 32 (i 0).val
  let c0_i32_125 : BitVec 32 := 0#32
  let v174 : BitVec 1 := Scalar.cmpi .eq arg0 c0_i32_125
  let c4_i32 : BitVec 32 := 4#32
  let v175 : BitVec 1 := Scalar.cmpi .eq arg0 c4_i32
  let v176 : BitVec 1 := Scalar.ori v174 v175
  let v177 : BitVec 1 := Scalar.andi v173 v176
  let v178 : BitVec 32 := Scalar.extui v177
  let c0_i32_126 : BitVec 32 := 0#32
  let v179 : BitVec 1 := Scalar.cmpi .ne v178 c0_i32_126
  v179

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x3x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x704x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x704x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x704x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S512x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 2 → Memref sig .tc .vmem S1x512x704 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x704 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x704 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 1 → Memref sig .tc .vmem S1x8x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x2048 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]
-- ==== Reference7Ideal.lean ====
abbrev S2048x2048 : Shape := ⟨2, ![2048, 2048]⟩
abbrev S1x3x2048 : Shape := ⟨3, ![1, 3, 2048]⟩
abbrev S1x2048 : Shape := ⟨2, ![1, 2048]⟩
abbrev S8x704x2048 : Shape := ⟨3, ![8, 704, 2048]⟩
abbrev S5632x2048 : Shape := ⟨2, ![5632, 2048]⟩
abbrev S1x1x2048 : Shape := ⟨3, ![1, 1, 2048]⟩
abbrev S2048 : Shape := ⟨1, ![2048]⟩
abbrev S_ : Shape := ⟨0, ![]⟩
abbrev S2048x1 : Shape := ⟨2, ![2048, 1]⟩
abbrev S2048x5632 : Shape := ⟨2, ![2048, 5632]⟩
abbrev S4x2048 : Shape := ⟨2, ![4, 2048]⟩
abbrev S8x2048 : Shape := ⟨2, ![8, 2048]⟩
abbrev S2048x8x704 : Shape := ⟨3, ![2048, 8, 704]⟩
abbrev S8x2048x704 : Shape := ⟨3, ![8, 2048, 704]⟩
abbrev S1x8x2048 : Shape := ⟨3, ![1, 8, 2048]⟩

abbrev nBuf : Space → Nat
  | .hbm => 142
  | .vmem => 0
  | .smem => 0
  | _ => 0

abbrev hbmTy0_0 (i : Nat) : BufTy := match i % 128 with
  | 0 => ⟨S2048x2048, .f32⟩
  | 1 => ⟨S2048x2048, .f32⟩
  | 2 => ⟨S1x3x2048, .f32⟩
  | 3 => ⟨S1x2048, .f32⟩
  | 4 => ⟨S8x704x2048, .bf16⟩
  | 5 => ⟨S8x704x2048, .bf16⟩
  | 6 => ⟨S8x704x2048, .bf16⟩
  | 7 => ⟨S8x704x2048, .f32⟩
  | 8 => ⟨S5632x2048, .f32⟩
  | 9 => ⟨S8x704x2048, .f32⟩
  | 10 => ⟨S5632x2048, .f32⟩
  | 11 => ⟨S8x704x2048, .f32⟩
  | 12 => ⟨S5632x2048, .f32⟩
  | 13 => ⟨S1x1x2048, .f32⟩
  | 14 => ⟨S1x2048, .f32⟩
  | 15 => ⟨S1x1x2048, .f32⟩
  | 16 => ⟨S1x2048, .f32⟩
  | 17 => ⟨S1x1x2048, .f32⟩
  | 18 => ⟨S1x2048, .f32⟩
  | 19 => ⟨S2048, .f32⟩
  | 20 => ⟨S2048x2048, .f32⟩
  | 21 => ⟨S_, .f32⟩
  | 22 => ⟨S2048, .f32⟩
  | 23 => ⟨S2048x1, .f32⟩
  | 24 => ⟨S_, .f32⟩
  | 25 => ⟨S2048x1, .f32⟩
  | 26 => ⟨S2048x1, .f32⟩
  | 27 => ⟨S_, .f32⟩
  | 28 => ⟨S2048x1, .f32⟩
  | 29 => ⟨S2048x1, .f32⟩
  | 30 => ⟨S2048x1, .f32⟩
  | 31 => ⟨S2048x1, .f32⟩
  | 32 => ⟨S_, .f32⟩
  | 33 => ⟨S2048x1, .f32⟩
  | 34 => ⟨S2048x1, .f32⟩
  | 35 => ⟨S2048x2048, .f32⟩
  | 36 => ⟨S2048x2048, .f32⟩
  | 37 => ⟨S1x2048, .f32⟩
  | 38 => ⟨S2048x2048, .f32⟩
  | 39 => ⟨S2048x2048, .f32⟩
  | 40 => ⟨S_, .f32⟩
  | 41 => ⟨S1x2048, .f32⟩
  | 42 => ⟨S1x2048, .f32⟩
  | 43 => ⟨S2048x2048, .f32⟩
  | 44 => ⟨S2048x2048, .f32⟩
  | 45 => ⟨S2048x2048, .f32⟩
  | 46 => ⟨S2048x2048, .f32⟩
  | 47 => ⟨S2048x5632, .f32⟩
  | 48 => ⟨S2048x5632, .f32⟩
  | 49 => ⟨S2048x5632, .f32⟩
  | 50 => ⟨S2048x5632, .f32⟩
  | 51 => ⟨S2048x5632, .f32⟩
  | 52 => ⟨S2048x5632, .f32⟩
  | 53 => ⟨S_, .f32⟩
  | 54 => ⟨S2048x5632, .f32⟩
  | 55 => ⟨S2048x5632, .f32⟩
  | 56 => ⟨S_, .f32⟩
  | 57 => ⟨S2048x5632, .f32⟩
  | 58 => ⟨S2048x5632, .f32⟩
  | 59 => ⟨S_, .f32⟩
  | 60 => ⟨S2048x5632, .f32⟩
  | 61 => ⟨S2048x5632, .f32⟩
  | 62 => ⟨S2048x5632, .f32⟩
  | 63 => ⟨S2048x5632, .f32⟩
  | 64 => ⟨S2048x5632, .f32⟩
  | 65 => ⟨S2048x2048, .f32⟩
  | 66 => ⟨S_, .f32⟩
  | 67 => ⟨S1x2048, .f32⟩
  | 68 => ⟨S1x2048, .f32⟩
  | 69 => ⟨S2048x2048, .f32⟩
  | 70 => ⟨S2048x2048, .f32⟩
  | 71 => ⟨S2048x2048, .f32⟩
  | 72 => ⟨S2048x2048, .f32⟩
  | 73 => ⟨S2048x2048, .f32⟩
  | 74 => ⟨S2048x2048, .f32⟩
  | 75 => ⟨S2048x2048, .f32⟩
  | 76 => ⟨S_, .f32⟩
  | 77 => ⟨S2048, .f32⟩
  | 78 => ⟨S1x2048, .f32⟩
  | 79 => ⟨S_, .f32⟩
  | 80 => ⟨S1x2048, .f32⟩
  | 81 => ⟨S1x2048, .f32⟩
  | 82 => ⟨S2048x5632, .f32⟩
  | 83 => ⟨S2048x5632, .f32⟩
  | 84 => ⟨S2048x5632, .f32⟩
  | 85 => ⟨S2048x5632, .f32⟩
  | 86 => ⟨S2048x5632, .f32⟩
  | 87 => ⟨S2048x5632, .f32⟩
  | 88 => ⟨S2048x5632, .f32⟩
  | 89 => ⟨S2048x2048, .f32⟩
  | 90 => ⟨S2048x2048, .f32⟩
  | 91 => ⟨S2048x2048, .f32⟩
  | 92 => ⟨S_, .f32⟩
  | 93 => ⟨S2048, .f32⟩
  | 94 => ⟨S1x2048, .f32⟩
  | 95 => ⟨S2048x2048, .f32⟩
  | 96 => ⟨S_, .f32⟩
  | 97 => ⟨S2048, .f32⟩
  | 98 => ⟨S1x2048, .f32⟩
  | 99 => ⟨S2048x2048, .f32⟩
  | 100 => ⟨S2048x2048, .f32⟩
  | 101 => ⟨S2048x2048, .f32⟩
  | 102 => ⟨S_, .f32⟩
  | 103 => ⟨S2048, .f32⟩
  | 104 => ⟨S1x2048, .f32⟩
  | 105 => ⟨S2048x2048, .f32⟩
  | 106 => ⟨S2048x2048, .f32⟩
  | 107 => ⟨S_, .f32⟩
  | 108 => ⟨S2048, .f32⟩
  | 109 => ⟨S2048x2048, .f32⟩
  | 110 => ⟨S_, .f32⟩
  | 111 => ⟨S2048, .f32⟩
  | 112 => ⟨S2048x1, .f32⟩
  | 113 => ⟨S2048x2048, .f32⟩
  | 114 => ⟨S2048x2048, .f32⟩
  | 115 => ⟨S2048x1, .f32⟩
  | 116 => ⟨S_, .f32⟩
  | 117 => ⟨S2048x1, .f32⟩
  | 118 => ⟨S2048x1, .f32⟩
  | 119 => ⟨S_, .f32⟩
  | 120 => ⟨S2048, .f32⟩
  | 121 => ⟨S2048x2048, .f32⟩
  | 122 => ⟨S2048x2048, .f32⟩
  | 123 => ⟨S2048x2048, .f32⟩
  | 124 => ⟨S2048x2048, .f32⟩
  | 125 => ⟨S2048x2048, .f32⟩
  | 126 => ⟨S1x2048, .f32⟩
  | 127 => ⟨S_, .f32⟩
  | _ => ⟨S2048x2048, .f32⟩

abbrev hbmTy0_1 (i : Nat) : BufTy := match i % 128 with
  | 0 => ⟨S4x2048, .f32⟩
  | 1 => ⟨S8x2048, .f32⟩
  | 2 => ⟨S2048x2048, .f32⟩
  | 3 => ⟨S2048x8x704, .f32⟩
  | 4 => ⟨S8x2048x704, .f32⟩
  | 5 => ⟨S8x2048x704, .bf16⟩
  | 6 => ⟨S2048x8x704, .f32⟩
  | 7 => ⟨S8x2048x704, .f32⟩
  | 8 => ⟨S8x2048x704, .bf16⟩
  | 9 => ⟨S2048x8x704, .f32⟩
  | 10 => ⟨S8x2048x704, .f32⟩
  | 11 => ⟨S8x2048x704, .bf16⟩
  | 12 => ⟨S1x8x2048, .f32⟩
  | 13 => ⟨S2048x2048, .bf16⟩
  | _ => ⟨S2048x2048, .f32⟩

abbrev hbmTy (i : Nat) : BufTy := match i / 128 with
  | 0 => hbmTy0_0 i
  | 1 => hbmTy0_1 i
  | _ => ⟨S2048x2048, .f32⟩

abbrev bufTy : (tb : Table) → Fin (tcTables nBuf tb) → BufTy
  | .hbm, ⟨i, _⟩ => hbmTy i
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_cst_1 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_v39_2 : Ref sig .tc := ⟨.hbm, 58, rfl⟩
abbrev main_call0_cst_1 : Ref sig .tc := ⟨.hbm, 59, rfl⟩
abbrev main_call0_v6 : Ref sig .tc := ⟨.hbm, 60, rfl⟩
abbrev main_call0_v7 : Ref sig .tc := ⟨.hbm, 61, rfl⟩
abbrev main_v39_1 : Ref sig .tc := ⟨.hbm, 62, rfl⟩
abbrev main_v39_0 : Ref sig .tc := ⟨.hbm, 63, rfl⟩
abbrev main_v40 : Ref sig .tc := ⟨.hbm, 64, rfl⟩
abbrev main_v41 : Ref sig .tc := ⟨.hbm, 65, rfl⟩
abbrev main_cst_4 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_cst_5 : Ref sig .tc := ⟨.hbm, 76, rfl⟩
abbrev main_v51 : Ref sig .tc := ⟨.hbm, 77, rfl⟩
abbrev main_v52 : Ref sig .tc := ⟨.hbm, 78, rfl⟩
abbrev main_cst_6 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call1_v0 : Ref sig .tc := ⟨.hbm, 85, rfl⟩
abbrev main_call1_v1 : Ref sig .tc := ⟨.hbm, 86, rfl⟩
abbrev main_call1_v2 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_7 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_8 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_9 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_cst_10 : Ref sig .tc := ⟨.hbm, 107, rfl⟩
abbrev main_v74 : Ref sig .tc := ⟨.hbm, 108, rfl⟩
abbrev main_v75 : Ref sig .tc := ⟨.hbm, 109, rfl⟩
abbrev main_cst_11 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_cst_12 : Ref sig .tc := ⟨.hbm, 116, rfl⟩
abbrev main_v81 : Ref sig .tc := ⟨.hbm, 117, rfl⟩
abbrev main_v82 : Ref sig .tc := ⟨.hbm, 118, rfl⟩
abbrev main_cst_13 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_cst_14 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩

abbrev nD : Nat := 1
abbrev τ : Topo := Topo.v7x

variable {F : FTy → Type} [FloatOps F]
-- ==== Kernel8.lean ====
abbrev S2048x2048 : Shape := ⟨2, ![2048, 2048]⟩
abbrev S1x3x2048 : Shape := ⟨3, ![1, 3, 2048]⟩
abbrev S256x2048 : Shape := ⟨2, ![256, 2048]⟩
abbrev S1x1x2048 : Shape := ⟨3, ![1, 1, 2048]⟩
abbrev S1x2048 : Shape := ⟨2, ![1, 2048]⟩

abbrev nBuf : Space → Nat
  | .hbm => 6
  | .vmem => 10
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x3x2048, .f32⟩
  | .hbm, ⟨4, _⟩ => ⟨S2048x2048, .f32⟩
  | .hbm, ⟨5, _⟩ => ⟨S2048x2048, .bf16⟩
  | .local _ .vmem, ⟨0, _⟩ => ⟨S256x2048, .bf16⟩
  | .local _ .vmem, ⟨1, _⟩ => ⟨S256x2048, .bf16⟩
  | .local _ .vmem, ⟨2, _⟩ => ⟨S2048x2048, .bf16⟩
  | .local _ .vmem, ⟨3, _⟩ => ⟨S256x2048, .f32⟩
  | .local _ .vmem, ⟨4, _⟩ => ⟨S256x2048, .f32⟩
  | .local _ .vmem, ⟨5, _⟩ => ⟨S1x3x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .bf16⟩
  | .local _ .vmem, ⟨9, _⟩ => ⟨S256x2048, .bf16⟩
  | _, _ => ⟨S2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x3x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference8Ideal.lean ====
abbrev S2048x2048 : Shape := ⟨2, ![2048, 2048]⟩
abbrev S1x3x2048 : Shape := ⟨3, ![1, 3, 2048]⟩
abbrev S1x1x2048 : Shape := ⟨3, ![1, 1, 2048]⟩
abbrev S1x2048 : Shape := ⟨2, ![1, 2048]⟩

abbrev nBuf : Space → Nat
  | .hbm => 13
  | .vmem => 0
  | .smem => 0
  | _ => 0

abbrev bufTy : (tb : Table) → Fin (tcTables nBuf tb) → BufTy
  | .hbm, ⟨0, _⟩ => ⟨S2048x2048, .bf16⟩
  | .hbm, ⟨1, _⟩ => ⟨S2048x2048, .bf16⟩
  | .hbm, ⟨2, _⟩ => ⟨S2048x2048, .f32⟩
  | .hbm, ⟨3, _⟩ => ⟨S1x3x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S1x1x2048, .f32⟩
  | .hbm, ⟨8, _⟩ => ⟨S1x2048, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .bf16⟩
  | _, _ => ⟨S2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.Reals.lean ====
/-
  Real-valued readings of arrays of extended reals, and the closed forms of the four gradients of one head:
  every position `M` of the keys meets every position `N` of the queries with the weight `dec`.
-/
module

public import Idealize.ShloMosaic.Lib.Pipeline.Value
public import Idealize.ShloMosaic.Lib.Pointwise
public import Idealize.ShloMosaic.Lib.ValueIdx

@[expose] public section

noncomputable section

namespace Cert.Ret

open Idealize.ShloMosaic Finset

/-! ## Arrays of finite extended reals, read as real functions of natural coordinates -/

/-- Neither infinity. -/
def Fine (x : EReal) : Prop := x ≠ ⊤ ∧ x ≠ ⊥

theorem Fine.coe {x : EReal} (h : Fine x) : ((x.toReal : ℝ) : EReal) = x := EReal.coe_toReal h.1 h.2

def rd3 {a b c : ℕ} (x : (⟨3, ![a, b, c]⟩ : Shape).Idx → EReal) (i j k : ℕ) : ℝ :=
  if h : i < a ∧ j < b ∧ k < c then (x (ix3 ⟨i, h.1⟩ ⟨j, h.2.1⟩ ⟨k, h.2.2⟩)).toReal else 0

def rd2 {a b : ℕ} (x : (⟨2, ![a, b]⟩ : Shape).Idx → EReal) (i j : ℕ) : ℝ :=
  if h : i < a ∧ j < b then (x (ix2 ⟨i, h.1⟩ ⟨j, h.2⟩)).toReal else 0

theorem rd3_eq {a b c : ℕ} {x : (⟨3, ![a, b, c]⟩ : Shape).Idx → EReal} (hx : ∀ i, Fine (x i)) (i : Fin a) (j : Fin b) (k : Fin c) :
    x (ix3 i j k) = ((rd3 x i.val j.val k.val : ℝ) : EReal) := by
  unfold rd3
  rw [dif_pos ⟨i.isLt, j.isLt, k.isLt⟩, (hx _).coe]

theorem rd2_eq {a b : ℕ} {x : (⟨2, ![a, b]⟩ : Shape).Idx → EReal} (hx : ∀ i, Fine (x i)) (i : Fin a) (j : Fin b) :
    x (ix2 i j) = ((rd2 x i.val j.val : ℝ) : EReal) := by
  unfold rd2
  rw [dif_pos ⟨i.isLt, j.isLt⟩, (hx _).coe]

theorem sum_coe {ι : Type*} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A sum of real values over `Fin n` is the sum over the naturals below `n`. -/
theorem sum_fin {n : ℕ} {F : Fin n → EReal} (f : ℕ → ℝ) (h : ∀ i : Fin n, F i = ((f i.val : ℝ) : EReal)) :
    ∑ i, F i = ((∑ i ∈ range n, f i : ℝ) : EReal) := by
  rw [Finset.sum_congr rfl fun i _ => h i, sum_coe, Finset.sum_range]

/-! ## One head's closed forms -/

/-- Steps from key position `M` to query position `N` on the way forward; keys from 2048 on are the context,
    whose last one stands right before the first query. -/
def df (M N : ℕ) : ℝ := if M < 2048 then (N : ℝ) - M else (N : ℝ) - M + 2304
/-- Steps on the way backward. -/
def db (M N : ℕ) : ℝ := (M : ℝ) - N
def wt (g x : ℝ) : ℝ := if 0 ≤ x then Real.exp (g * x) else 0
def dec (gf gb : ℝ) (M N : ℕ) : ℝ := wt gf (df M N) + wt gb (db M N)
def dot (A B : ℕ → ℕ → ℝ) (M N : ℕ) : ℝ := ∑ d ∈ range 128, A M d * B N d

section
variable (gf gb : ℝ) (Q K V D : ℕ → ℕ → ℝ)

def dvS (n : ℕ) (M e : ℕ) : ℝ := ∑ N ∈ range n, dot K Q M N * dec gf gb M N * D N e
def dkS (n : ℕ) (M e : ℕ) : ℝ := ∑ N ∈ range n, dot V D M N * dec gf gb M N * Q N e
def dqS (n : ℕ) (N e : ℕ) : ℝ := ∑ M ∈ range n, dot V D M N * dec gf gb M N * K M e
/-- One pair's share of the slope of a log decay. -/
def gF (M N : ℕ) : ℝ := dot V D M N * dot K Q M N * (wt gf (df M N) * df M N)
def gB (M N : ℕ) : ℝ := dot V D M N * dot K Q M N * (wt gb (db M N) * db M N)
def tile (G : ℕ → ℕ → ℝ) (kj qi : ℕ) : ℝ := ∑ a ∈ range 768, ∑ b ∈ range 512, G (768 * kj + a) (512 * qi + b)
/-- The tiles of the first `p` points, four query tiles to each key tile. -/
def tiles (G : ℕ → ℕ → ℝ) (p : ℕ) : ℝ := ∑ t ∈ range p, tile G (t / 4) (t % 4)
end

end Cert.Ret

end
-- ==== Proof.KPay.lean ====
/-
  What one point of the kernel computes from finite blocks, as real numbers.
-/
module

public import proofs.«01_k».proof.Proof.Reals
public import proofs.«01_k».proof.Proof.Gen.KernelIdeal.Value

@[expose] public section

noncomputable section

namespace Cert.KernelIdeal.Value

open Idealize.ShloMosaic Idealize.ShloMosaic.TcCoe Idealize.SL.Sem
open Cert.KernelIdeal Cert.KernelIdeal.Gen Cert.Ret Finset

variable {x1 : Vec Ideal S1x512x128 .bf16} {x2 x3 : Vec Ideal S1x768x128 .bf16} {x4 : Vec Ideal S1x512x128 .f32}
  {Q K V D : ℕ → ℕ → ℝ} {gf gb : ℝ} {M₀ N₀ : ℕ}

theorem pay9 (h2 : ∀ (a : Fin 1) (b : Fin 768) (c : Fin 128), x2 (ix3 a b c) = ((K (M₀ + b.val) c.val : ℝ) : EReal))
    (h1 : ∀ (a : Fin 1) (b : Fin 512) (c : Fin 128), x1 (ix3 a b c) = ((Q (N₀ + b.val) c.val : ℝ) : EReal))
    (a : Fin 768) (b : Fin 512) :
    k0_pay9 x1 x2 (ix2 a b) = ((dot K Q (M₀ + a.val) (N₀ + b.val) : ℝ) : EReal) := by
  unfold k0_pay9 k0_pay7 k0_pay6
  pointwise
  exact sum_fin (fun d => K (M₀ + a.val) d * Q (N₀ + b.val) d) fun d => by
    rw [EReal.coe_mul]; exact congrArg₂ (· * ·) (h2 0 a d) (h1 0 b d)

theorem pay10 (h3 : ∀ (a : Fin 1) (b : Fin 768) (c : Fin 128), x3 (ix3 a b c) = ((V (M₀ + b.val) c.val : ℝ) : EReal))
    (h4 : ∀ (a : Fin 1) (b : Fin 512) (c : Fin 128), x4 (ix3 a b c) = ((D (N₀ + b.val) c.val : ℝ) : EReal))
    (a : Fin 768) (b : Fin 512) :
    k0_pay10 x3 x4 (ix2 a b) = ((dot V D (M₀ + a.val) (N₀ + b.val) : ℝ) : EReal) := by
  unfold k0_pay10 k0_pay8
  pointwise
  exact sum_fin (fun d => V (M₀ + a.val) d * D (N₀ + b.val) d) fun d => by
    rw [EReal.coe_mul]; exact congrArg₂ (· * ·) (h3 0 a d) (h4 0 b d)

theorem word (k w a : ℕ) (hk : k < 4) (hw : w ≤ 768) (ha : a < 768) :
    (Scalar.sitofp (F := Ideal) .f32 (IntOp.addi (Scalar.muli (BitVec.ofNat 32 k) (BitVec.ofNat 32 w)) (BitVec.ofNat 32 a)) : EReal)
      = ((((w * k + a : ℕ) : ℝ)) : EReal) := by
  have hp : w * k ≤ 768 * 3 := Nat.mul_le_mul hw (by omega)
  have e : IntOp.addi (Scalar.muli (BitVec.ofNat 32 k) (BitVec.ofNat 32 w)) (BitVec.ofNat 32 a) = BitVec.ofNat 32 (w * k + a) := by
    show BitVec.ofNat 32 k * BitVec.ofNat 32 w + BitVec.ofNat 32 a = _
    rw [← BitVec.ofNat_mul, ← BitVec.ofNat_add, Nat.mul_comm k w]
  rw [e]
  show (((BitVec.ofNat 32 (w * k + a)).toInt : ℝ) : EReal) = _
  rw [BitVec.toInt_eq_toNat_of_lt (by rw [BitVec.toNat_ofNat]; omega), BitVec.toNat_ofNat, Nat.mod_eq_of_lt (by omega)]
  norm_cast

theorem pay11 (i : grid0.Coords) (a : Fin 768) (b : Fin 512) :
    k0_pay11 (F := Ideal) i (ix2 a b) = (((768 * (i 1).val + a.val : ℕ) : ℝ) : EReal) := by
  unfold k0_pay11
  pointwise
  exact word _ 768 a.val (lt_trans (i 1).isLt (by decide)) le_rfl a.isLt

theorem pay12 (i : grid0.Coords) (a : Fin 768) (b : Fin 512) :
    k0_pay12 (F := Ideal) i (ix2 a b) = (((512 * (i 2).val + b.val : ℕ) : ℝ) : EReal) := by
  unfold k0_pay12
  pointwise
  exact word _ 512 b.val ((i 2).isLt) (by decide) (lt_trans b.isLt (by decide))

theorem ofBits_2048 : Ideal.ofBits .f32 0x45000000#32 = ((2048 : ℝ) : EReal) := by
  simp [Ideal.ofBits, Ideal.ieee]; rw [← EReal.coe_mul]; norm_num

theorem ofBits_2304 : Ideal.ofBits .f32 0x45100000#32 = ((2304 : ℝ) : EReal) := by
  simp [Ideal.ofBits, Ideal.ieee]; rw [← EReal.coe_mul]; norm_num

theorem pay13 {p q : FVec Ideal S768x512 .f32} {a : Fin 768} {b : Fin 512} {M N : ℕ}
    (hp : p (ix2 a b) = ((M : ℝ) : EReal)) (hq : q (ix2 a b) = ((N : ℝ) : EReal)) :
    k0_pay13 (F := Ideal) p q (ix2 a b) = ((df M N : ℝ) : EReal) := by
  unfold k0_pay13
  pointwise
  rw [hp, hq, ofBits_2048, ofBits_2304]
  unfold df
  by_cases h : M < 2048
  · rw [if_pos h, if_pos (EReal.coe_lt_coe_iff.2 (by exact_mod_cast h)), ← EReal.coe_sub]
  · rw [if_neg h, if_neg (fun h' => h (by exact_mod_cast EReal.coe_lt_coe_iff.1 h')), ← EReal.coe_sub, ← EReal.coe_add]

theorem pay14 {p q : FVec Ideal S768x512 .f32} {a : Fin 768} {b : Fin 512} {M N : ℕ}
    (hp : p (ix2 a b) = ((M : ℝ) : EReal)) (hq : q (ix2 a b) = ((N : ℝ) : EReal)) :
    k0_pay14 (F := Ideal) p q (ix2 a b) = ((db M N : ℝ) : EReal) := by
  unfold k0_pay14
  pointwise
  rw [hp, hq]
  unfold db
  rw [← EReal.coe_sub]

theorem coe_wt (g x : ℝ) : (if (0 : EReal) ≤ (x : EReal) then Ideal.exp ((g : EReal) * (x : EReal)) else 0) = ((wt g x : ℝ) : EReal) := by
  unfold wt
  by_cases h : 0 ≤ x
  · rw [if_pos h, if_pos (by exact_mod_cast h), ← EReal.coe_mul, Ideal.exp_coe]
  · rw [if_neg h, if_neg (by exact_mod_cast h)]; rfl

theorem pay15 {p q : FVec Ideal S768x512 .f32} {a : Fin 768} {b : Fin 512} {M N : ℕ} {g : ℝ}
    (hp : p (ix2 a b) = ((M : ℝ) : EReal)) (hq : q (ix2 a b) = ((N : ℝ) : EReal)) :
    k0_pay15 (F := Ideal) p q ((g : ℝ) : EReal) (ix2 a b) = ((wt g (df M N) : ℝ) : EReal) := by
  unfold k0_pay15
  pointwise
  rw [pay13 hp hq]
  exact coe_wt _ _

theorem pay16 {p q : FVec Ideal S768x512 .f32} {a : Fin 768} {b : Fin 512} {M N : ℕ} {g : ℝ}
    (hp : p (ix2 a b) = ((M : ℝ) : EReal)) (hq : q (ix2 a b) = ((N : ℝ) : EReal)) :
    k0_pay16 (F := Ideal) p q ((g : ℝ) : EReal) (ix2 a b) = ((wt g (db M N) : ℝ) : EReal) := by
  unfold k0_pay16
  pointwise
  rw [pay14 hp hq]
  exact coe_wt _ _

theorem pay17 {p q : FVec Ideal S768x512 .f32} {a : Fin 768} {b : Fin 512} {M N : ℕ}
    (hp : p (ix2 a b) = ((M : ℝ) : EReal)) (hq : q (ix2 a b) = ((N : ℝ) : EReal)) :
    k0_pay17 (F := Ideal) p q ((gf : ℝ) : EReal) ((gb : ℝ) : EReal) (ix2 a b) = ((dec gf gb M N : ℝ) : EReal) := by
  unfold k0_pay17
  pointwise
  rw [pay15 hp hq, pay16 hp hq, ← EReal.coe_add]; rfl

section Point
variable (i : grid0.Coords)
  (h1 : ∀ (a : Fin 1) (b : Fin 512) (c : Fin 128), x1 (ix3 a b c) = ((Q (512 * (i 2).val + b.val) c.val : ℝ) : EReal))
  (h2 : ∀ (a : Fin 1) (b : Fin 768) (c : Fin 128), x2 (ix3 a b c) = ((K (768 * (i 1).val + b.val) c.val : ℝ) : EReal))
  (h3 : ∀ (a : Fin 1) (b : Fin 768) (c : Fin 128), x3 (ix3 a b c) = ((V (768 * (i 1).val + b.val) c.val : ℝ) : EReal))
  (h4 : ∀ (a : Fin 1) (b : Fin 512) (c : Fin 128), x4 (ix3 a b c) = ((D (512 * (i 2).val + b.val) c.val : ℝ) : EReal))

include h1 h2 h4 in
/-- The block of `dv`: what it held, and this point's queries. -/
theorem pay18 {z : Vec Ideal S1x768x128 .f32} {r : ℝ} {lf lb : EReal} (hlf : lf = ((gf : ℝ) : EReal)) (hlb : lb = ((gb : ℝ) : EReal)) (b : Fin 768) (e : Fin 128) (hz : z (ix3 0 b e) = ((r : ℝ) : EReal)) :
    k0_pay18 (k0_pay8 x4) (k0_pay9 x1 x2) (k0_pay11 i) (k0_pay12 i) lf lb z (ix3 0 b e)
      = ((r + ∑ n ∈ range 512, dot K Q (768 * (i 1).val + b.val) (512 * (i 2).val + n)
          * dec gf gb (768 * (i 1).val + b.val) (512 * (i 2).val + n) * D (512 * (i 2).val + n) e.val : ℝ) : EReal) := by
  subst hlf hlb
  unfold k0_pay18 k0_pay8
  pointwise
  rw [EReal.coe_add]
  refine congrArg₂ (· + ·) hz (sum_fin (fun n => dot K Q (768 * (i 1).val + b.val) (512 * (i 2).val + n)
          * dec gf gb (768 * (i 1).val + b.val) (512 * (i 2).val + n) * D (512 * (i 2).val + n) e.val) fun n => ?_)
  rw [pay9 h2 h1, pay17 (pay11 i _ _) (pay12 i _ _), EReal.coe_mul, EReal.coe_mul]
  exact congrArg _ (h4 0 n e)

include h3 h4 in
theorem pay19 (a : Fin 768) (b : Fin 512) :
    k0_pay19 (k0_pay10 x3 x4) (k0_pay11 i) (k0_pay12 i) ((gf : ℝ) : EReal) ((gb : ℝ) : EReal) (ix2 a b)
      = ((dot V D (768 * (i 1).val + a.val) (512 * (i 2).val + b.val) * dec gf gb (768 * (i 1).val + a.val) (512 * (i 2).val + b.val) : ℝ) : EReal) := by
  unfold k0_pay19
  pointwise
  rw [pay10 h3 h4, pay17 (pay11 i _ _) (pay12 i _ _), EReal.coe_mul]

include h1 h3 h4 in
/-- The block of `dk` likewise. -/
theorem pay21 {z : Vec Ideal S1x768x128 .f32} {r : ℝ} {lf lb : EReal} (hlf : lf = ((gf : ℝ) : EReal)) (hlb : lb = ((gb : ℝ) : EReal)) (b : Fin 768) (e : Fin 128) (hz : z (ix3 0 b e) = ((r : ℝ) : EReal)) :
    k0_pay21 (k0_pay20 (k0_pay6 x1) (k0_pay10 x3 x4) (k0_pay11 i) (k0_pay12 i) lf lb z) (ix3 0 b e)
      = ((r + ∑ n ∈ range 512, dot V D (768 * (i 1).val + b.val) (512 * (i 2).val + n)
          * dec gf gb (768 * (i 1).val + b.val) (512 * (i 2).val + n) * Q (512 * (i 2).val + n) e.val : ℝ) : EReal) := by
  subst hlf hlb
  unfold k0_pay21 k0_pay20 k0_pay6
  pointwise
  rw [EReal.coe_add]
  refine congrArg₂ (· + ·) hz (sum_fin (fun n => dot V D (768 * (i 1).val + b.val) (512 * (i 2).val + n)
          * dec gf gb (768 * (i 1).val + b.val) (512 * (i 2).val + n) * Q (512 * (i 2).val + n) e.val) fun n => ?_)
  rw [pay19 i h3 h4, EReal.coe_mul]
  exact congrArg _ (h1 0 n e)

include h2 h3 h4 in
/-- The rows of `dq` this point's queries have: what they held, and this point's keys. -/
theorem pay22 {z : Vec Ideal S1x512x128 .f32} {r : ℝ} {lf lb : EReal} (hlf : lf = ((gf : ℝ) : EReal)) (hlb : lb = ((gb : ℝ) : EReal)) (b : Fin 512) (e : Fin 128) (hz : z (ix3 0 b e) = ((r : ℝ) : EReal)) :
    k0_pay22 (k0_pay7 x2) (k0_pay19 (k0_pay10 x3 x4) (k0_pay11 i) (k0_pay12 i) lf lb) z (ix3 0 b e)
      = ((r + ∑ n ∈ range 768, dot V D (768 * (i 1).val + n) (512 * (i 2).val + b.val)
          * dec gf gb (768 * (i 1).val + n) (512 * (i 2).val + b.val) * K (768 * (i 1).val + n) e.val : ℝ) : EReal) := by
  subst hlf hlb
  unfold k0_pay22 k0_pay7
  pointwise
  rw [EReal.coe_add]
  refine congrArg₂ (· + ·) hz (sum_fin (fun n => dot V D (768 * (i 1).val + n) (512 * (i 2).val + b.val)
          * dec gf gb (768 * (i 1).val + n) (512 * (i 2).val + b.val) * K (768 * (i 1).val + n) e.val) fun n => ?_)
  rw [pay19 i h3 h4, EReal.coe_mul]
  exact congrArg _ (h2 0 n e)

include h1 h2 h3 h4 in
/-- Row 0 of the slopes: what it held, and this tile's pairs on the way forward. -/
theorem pay24 {z : Vec Ideal S1x1x128 .f32} {r : ℝ} {lf : EReal} (hlf : lf = ((gf : ℝ) : EReal)) (e : Fin 128) (hz : z (ix3 0 0 e) = ((r : ℝ) : EReal)) :
    k0_pay24 (k0_pay9 x1 x2) (k0_pay10 x3 x4) (k0_pay13 (k0_pay11 i) (k0_pay12 i)) (k0_pay15 (k0_pay11 i) (k0_pay12 i) lf) z (ix3 0 0 e)
      = ((r + tile (gF gf Q K V D) (i 1).val (i 2).val : ℝ) : EReal) := by
  subst hlf
  unfold k0_pay24 k0_pay23
  pointwise
  rw [EReal.coe_add]
  refine congrArg₂ (· + ·) hz (sum_fin (fun m => ∑ n ∈ range 512, gF gf Q K V D (768 * (i 1).val + m) (512 * (i 2).val + n)) fun m =>
    sum_fin (fun n => gF gf Q K V D (768 * (i 1).val + m.val) (512 * (i 2).val + n)) fun n => ?_)
  rw [pay9 h2 h1, pay10 h3 h4, pay13 (pay11 i _ _) (pay12 i _ _), pay15 (pay11 i _ _) (pay12 i _ _)]
  simp only [gF, EReal.coe_mul]

include h1 h2 h3 h4 in
/-- Row 1 likewise, on the way backward. -/
theorem pay25 {z : Vec Ideal S1x1x128 .f32} {r : ℝ} {lb : EReal} (hlb : lb = ((gb : ℝ) : EReal)) (e : Fin 128) (hz : z (ix3 0 0 e) = ((r : ℝ) : EReal)) :
    k0_pay1 (k0_pay25 (k0_pay9 x1 x2) (k0_pay10 x3 x4) (k0_pay14 (k0_pay11 i) (k0_pay12 i)) (k0_pay16 (k0_pay11 i) (k0_pay12 i) lb) z) (ix3 0 0 e)
      = ((r + tile (gB gb Q K V D) (i 1).val (i 2).val : ℝ) : EReal) := by
  subst hlb
  unfold k0_pay1 k0_pay25 k0_pay23
  pointwise
  rw [EReal.coe_add]
  refine congrArg₂ (· + ·) hz (sum_fin (fun m => ∑ n ∈ range 512, gB gb Q K V D (768 * (i 1).val + m) (512 * (i 2).val + n)) fun m =>
    sum_fin (fun n => gB gb Q K V D (768 * (i 1).val + m.val) (512 * (i 2).val + n)) fun n => ?_)
  rw [pay9 h2 h1, pay10 h3 h4, pay14 (pay11 i _ _) (pay12 i _ _), pay16 (pay11 i _ _) (pay12 i _ _)]
  simp only [gB, EReal.coe_mul]

end Point

end Cert.KernelIdeal.Value

end
-- ==== Proof.KOut.lean ====
/-
  What the kernel's body leaves in its four output blocks at a point, from finite input blocks, as real numbers:
  case A (a head's first point) resets all four, case C (a key tile's first point) resets `dk` and `dv`, case B none.
-/
module

public import proofs.«01_k».proof.Proof.KPay
public import Idealize.ShloMosaic.Lib.WritesUnit
public import Idealize.ShloMosaic.Lib.Pipeline.ValueKit.Tiles
public import Idealize.ShloMosaic.Lib.Tactic

@[expose] public section

noncomputable section

namespace Cert.KernelIdeal.Value

open Idealize.ShloMosaic Idealize.ShloMosaic.TcCoe Idealize.SL.Sem
open Cert.KernelIdeal Cert.KernelIdeal.Gen Cert.Ret Finset

theorem hz3 : (![0, 0, 0] : Fin 3 → Nat) = fun _ => 0 := funext fun a => by fin_cases a <;> rfl

section Loads
variable {e : EltTy}
theorem ldQ (x : Vec Ideal S1x512x128 e) (h) : View.ld x (Rect.unit ![0, 0, 0] ![1, 512, 128] h) = x :=
  View.ld_unit_zero (S := S1x512x128) hz3 h x
theorem ldK (x : Vec Ideal S1x768x128 e) (h) : View.ld x (Rect.unit ![0, 0, 0] ![1, 768, 128] h) = x :=
  View.ld_unit_zero (S := S1x768x128) hz3 h x
end Loads

/-- A store through a whole block leaves its payload. -/
theorem readK (v : View sig .tc .vmem S1x768x128 .f32) (f) (h) (w : Vec Ideal S1x768x128 .f32) (L) (y : S1x768x128.Idx) :
    v.read (Elt Ideal) (v.writes (Elt Ideal) f ((⟨Rect.unit ![0, 0, 0] ![1, 768, 128] h, w⟩ : View.Piece (Elt Ideal) S1x768x128 .f32) :: L)) y = w y :=
  View.read_writes_cons_unit_of_mem v f h w L y y rfl fun a => by fin_cases a <;> simp

theorem head_lt (i : grid0.Coords) : (i 0).val < 8 := (i 0).isLt

/-- The scalar the body loads from row `r` of the log decays. -/
theorem ldG {x0 : Vec Ideal S2x8 .f32} (i : grid0.Coords) (r : Fin 2) (off : Fin 2 → ℕ) (h) (hs) (hoff : off = ![r.val, (i 0).val]) :
    View.ld x0 (Rect.unit off ![1, 1] h) (Shape.Idx.first (s := S1x1) hs) = x0 (ix2 r ⟨(i 0).val, head_lt i⟩) := by
  subst hoff
  refine View.ld_unit_apply_of _ _ _ _ _ _ fun a => ?_
  fin_cases a <;> rfl

theorem off0 (i : grid0.Coords) : (Scalar.indexCast (BitVec.ofNat 32 (i 0).val)).toNat = (i 0).val := by
  have := head_lt i
  show (BitVec.ofNat 32 (i 0).val).toNat = _
  rw [BitVec.toNat_ofNat, Nat.mod_eq_of_lt (by omega)]

theorem ldG0 {x0 : Vec Ideal S2x8 .f32} (i : grid0.Coords) (h) (hs) :
    View.ld x0 (Rect.unit ![0, (Scalar.indexCast (BitVec.ofNat 32 (i 0).val)).toNat] ![1, 1] h) (Shape.Idx.first (s := S1x1) hs) = x0 (ix2 0 ⟨(i 0).val, head_lt i⟩) :=
  ldG i 0 _ h hs (by rw [off0]; rfl)

theorem ldG1 {x0 : Vec Ideal S2x8 .f32} (i : grid0.Coords) (h) (hs) :
    View.ld x0 (Rect.unit ![1, (Scalar.indexCast (BitVec.ofNat 32 (i 0).val)).toNat] ![1, 1] h) (Shape.Idx.first (s := S1x1) hs) = x0 (ix2 1 ⟨(i 0).val, head_lt i⟩) :=
  ldG i 1 _ h hs (by rw [off0]; rfl)

theorem off2 (i : grid0.Coords) : (Scalar.indexCast (Scalar.muli (BitVec.ofNat 32 (i 2).val) 512#32)).toNat = 512 * (i 2).val := by
  have h : (i 2).val < 4 := (i 2).isLt
  show (BitVec.ofNat 32 (i 2).val * BitVec.ofNat 32 512).toNat = _
  rw [← BitVec.ofNat_mul, BitVec.toNat_ofNat, Nat.mod_eq_of_lt (by omega), Nat.mul_comm]

/-- A store of 512 rows from `512 q` on: the other rows keep what they held. -/
theorem rows_add (v : View sig .tc .vmem S1x2048x128 .f32) (f) (L) (q : ℕ) (off : Fin 3 → ℕ) (hoff : off = ![0, 512 * q, 0])
    (h) (w : Vec Ideal S1x512x128 .f32) (R S : ℕ → ℕ → ℝ)
    (hw : ∀ (b : Fin 512) (e : Fin 128), w (ix3 0 b e) = ((R (512 * q + b.val) e.val + S (512 * q + b.val) e.val : ℝ) : EReal))
    (hR : ∀ (b : Fin 2048) (e : Fin 128), v.read (Elt Ideal) (v.writes (Elt Ideal) f L) (ix3 0 b e) = ((R b.val e.val : ℝ) : EReal))
    (b : Fin 2048) (e : Fin 128) :
    v.read (Elt Ideal) (v.writes (Elt Ideal) f ((⟨Rect.unit off ![1, 512, 128] h, w⟩ : View.Piece (Elt Ideal) S1x2048x128 .f32) :: L)) (ix3 0 b e)
      = ((R b.val e.val + (if 512 * q ≤ b.val ∧ b.val < 512 * q + 512 then S b.val e.val else 0) : ℝ) : EReal) := by
  by_cases hb : 512 * q ≤ b.val ∧ b.val < 512 * q + 512
  · have hx := hw ⟨b.val - 512 * q, by omega⟩ e
    dsimp only at hx
    rw [Nat.add_sub_cancel' hb.1] at hx
    rw [View.read_writes_cons_unit_of_mem v f h w L _ (ix3 0 ⟨b.val - 512 * q, by omega⟩ e) hoff
      (fun a => by
        fin_cases a
        · rfl
        · exact (Nat.add_sub_cancel' hb.1).symm
        · exact (Nat.zero_add _).symm), if_pos hb]
    exact hx
  · rw [View.read_writes_cons_unit_of_not_mem v f h w L _ hoff 1
      (by
        show b.val < 512 * q ∨ 512 * q + 512 ≤ b.val
        omega), if_neg hb, add_zero, hR]

/-- A store of row `r`. -/
theorem row_set (v : View sig .tc .vmem S1x8x128 .f32) (f) (L) (r : ℕ) (h) (w : Vec Ideal S1x1x128 .f32) (x : ℝ) (R : ℕ → ℝ)
    (hw : ∀ e : Fin 128, w (ix3 0 0 e) = ((x : ℝ) : EReal))
    (hR : ∀ (b : Fin 8) (e : Fin 128), v.read (Elt Ideal) (v.writes (Elt Ideal) f L) (ix3 0 b e) = ((R b.val : ℝ) : EReal))
    (b : Fin 8) (e : Fin 128) :
    v.read (Elt Ideal) (v.writes (Elt Ideal) f ((⟨Rect.unit ![0, r, 0] ![1, 1, 128] h, w⟩ : View.Piece (Elt Ideal) S1x8x128 .f32) :: L)) (ix3 0 b e)
      = (((if b.val = r then x else R b.val) : ℝ) : EReal) := by
  by_cases hb : b.val = r
  · subst hb
    rw [View.read_writes_cons_unit_of_mem v f h w L _ (ix3 0 0 e) rfl
      (fun a => by
        fin_cases a
        · rfl
        · rfl
        · exact (Nat.zero_add _).symm), if_pos rfl]
    exact hw e
  · rw [View.read_writes_cons_unit_of_not_mem v f h w L _ rfl 1
      (by
        show b.val < r ∨ r + 1 ≤ b.val
        omega), if_neg hb, hR]

theorem zero_dq (a : S1x2048x128.Idx) : k0_pay2 (F := Ideal) a = ((0 : ℝ) : EReal) := by
  unfold k0_pay2; pointwise; rfl
theorem zero_dlg (a : S1x8x128.Idx) : k0_pay3 (F := Ideal) a = ((0 : ℝ) : EReal) := by
  unfold k0_pay3; pointwise; rfl
theorem zero_dk (a : S1x768x128.Idx) : k0_pay4 (F := Ideal) a = ((0 : ℝ) : EReal) := by
  unfold k0_pay4; pointwise; rfl
theorem zero_dv (a : S1x768x128.Idx) : k0_pay5 (F := Ideal) a = ((0 : ℝ) : EReal) := by
  unfold k0_pay5; pointwise; rfl

theorem read_dq0 (v : View sig .tc .vmem S1x2048x128 .f32) (f) (h) (y : S1x2048x128.Idx) :
    v.read (Elt Ideal) (v.writes (Elt Ideal) f [(⟨Rect.unit ![0, 0, 0] ![1, 2048, 128] h, k0_pay2 (F := Ideal)⟩ : View.Piece (Elt Ideal) S1x2048x128 .f32)]) y
      = ((0 : ℝ) : EReal) :=
  (View.read_writes_cons_unit_of_mem v f h (k0_pay2 (F := Ideal)) [] y y rfl fun a => by fin_cases a <;> simp).trans (zero_dq y)

theorem read_dlg0 (v : View sig .tc .vmem S1x8x128 .f32) (f) (h) (y : S1x8x128.Idx) :
    v.read (Elt Ideal) (v.writes (Elt Ideal) f [(⟨Rect.unit ![0, 0, 0] ![1, 8, 128] h, k0_pay3 (F := Ideal)⟩ : View.Piece (Elt Ideal) S1x8x128 .f32)]) y
      = ((0 : ℝ) : EReal) :=
  (View.read_writes_cons_unit_of_mem v f h (k0_pay3 (F := Ideal)) [] y y rfl fun a => by fin_cases a <;> simp).trans (zero_dlg y)

theorem read_unread' {s : Shape} {sp : Space} {e : EltTy} (r : Memref sig .tc sp s e) (hr : r.IsWhole) (z : Vec Ideal s e) (y : s.Idx) :
    r.view.read (Elt Ideal) (r.view.writes (Elt Ideal) (hr.unread z) []) y = z y :=
  congrFun (hr.read_unread z) y

/-- 512 rows of a block, at a row: the row of the block. -/
theorem ldR (z : Vec Ideal S1x2048x128 .f32) (q : ℕ) (off : Fin 3 → ℕ) (hoff : off = ![0, 512 * q, 0]) (h) (b : Fin 512) (e : Fin 128) (hq : q < 4) :
    View.ld z (Rect.unit off ![1, 512, 128] h) (ix3 0 b e) = z (ix3 0 ⟨512 * q + b.val, by omega⟩ e) := by
  subst hoff
  refine View.ld_unit_apply_of _ _ _ _ _ _ fun a => ?_
  fin_cases a
  · rfl
  · rfl
  · exact (Nat.zero_add _).symm

theorem ldD (z : Vec Ideal S1x8x128 .f32) (r : Fin 8) (h) (e : Fin 128) :
    View.ld z (Rect.unit ![0, r.val, 0] ![1, 1, 128] h) (ix3 0 0 e) = z (ix3 0 r e) := by
  refine View.ld_unit_apply_of _ _ _ _ _ _ fun a => ?_
  fin_cases a
  · rfl
  · rfl
  · exact (Nat.zero_add _).symm

section Out
variable (c : Dev nD) (i : grid0.Coords) (arg3 : Memref sig .tc .smem S2x8 .f32) (harg3 : arg3.IsWhole) (arg4 : Memref sig .tc .vmem S1x512x128 .bf16) (harg4 : arg4.IsWhole) (arg5 : Memref sig .tc .vmem S1x768x128 .bf16) (harg5 : arg5.IsWhole) (arg6 : Memref sig .tc .vmem S1x768x128 .bf16) (harg6 : arg6.IsWhole) (arg7 : Memref sig .tc .vmem S1x512x128 .f32) (harg7 : arg7.IsWhole)
  (arg8 : Memref sig .tc .vmem S1x2048x128 .f32) (harg8 : arg8.IsWhole) (arg9 : Memref sig .tc .vmem S1x768x128 .f32) (harg9 : arg9.IsWhole) (arg10 : Memref sig .tc .vmem S1x768x128 .f32) (harg10 : arg10.IsWhole) (arg11 : Memref sig .tc .vmem S1x8x128 .f32) (harg11 : arg11.IsWhole)
variable {x0 : Vec Ideal S2x8 .f32} {x1 : Vec Ideal S1x512x128 .bf16} {x2 x3 : Vec Ideal S1x768x128 .bf16} {x4 : Vec Ideal S1x512x128 .f32}
  {xo5 : Vec Ideal S1x2048x128 .f32} {xo6 xo7 : Vec Ideal S1x768x128 .f32} {xo8 : Vec Ideal S1x8x128 .f32}
  {Q K V D R : ℕ → ℕ → ℝ} {gf gb r₀ r₁ : ℝ}
  (hf : x0 (ix2 0 ⟨(i 0).val, head_lt i⟩) = ((gf : ℝ) : EReal)) (hb : x0 (ix2 1 ⟨(i 0).val, head_lt i⟩) = ((gb : ℝ) : EReal))
  (h1 : ∀ (a : Fin 1) (b : Fin 512) (c : Fin 128), x1 (ix3 a b c) = ((Q (512 * (i 2).val + b.val) c.val : ℝ) : EReal))
  (h2 : ∀ (a : Fin 1) (b : Fin 768) (c : Fin 128), x2 (ix3 a b c) = ((K (768 * (i 1).val + b.val) c.val : ℝ) : EReal))
  (h3 : ∀ (a : Fin 1) (b : Fin 768) (c : Fin 128), x3 (ix3 a b c) = ((V (768 * (i 1).val + b.val) c.val : ℝ) : EReal))
  (h4 : ∀ (a : Fin 1) (b : Fin 512) (c : Fin 128), x4 (ix3 a b c) = ((D (512 * (i 2).val + b.val) c.val : ℝ) : EReal))

include hf hb h1 h2 h4 in
theorem out_A_7 (hc0 : cond0_0 i) (hc1 : cond0_1 i)
    (b : Fin 768) (e : Fin 128) :
    out0_A_7 c i arg3 harg3 arg4 harg4 arg5 harg5 arg6 harg6 arg7 harg7 arg8 harg8 arg9 harg9 arg10 harg10 arg11 harg11 hc0 hc1 x0 x1 x2 x3 x4 (ix3 0 b e)
      = ((0 + ∑ n ∈ range 512, dot K Q (768 * (i 1).val + b.val) (512 * (i 2).val + n)
          * dec gf gb (768 * (i 1).val + b.val) (512 * (i 2).val + n) * D (512 * (i 2).val + n) e.val : ℝ) : EReal) := by
  unfold out0_A_7 kernelRun0_A
  dsimp only
  sl_unfold_words
  simp only [View.readAt_eq_ld, harg3.read_unread, harg4.read_unread, harg5.read_unread, harg6.read_unread, harg7.read_unread, ldQ, ldK]
  rw [readK]
  exact pay18 i h1 h2 h4 ((ldG0 i _ _).trans hf) ((ldG1 i _ _).trans hb) b e ((readK ..).trans (zero_dv _))

include hf hb h1 h3 h4 in
theorem out_A_6 (hc0 : cond0_0 i) (hc1 : cond0_1 i)
    (b : Fin 768) (e : Fin 128) :
    out0_A_6 c i arg3 harg3 arg4 harg4 arg5 harg5 arg6 harg6 arg7 harg7 arg8 harg8 arg9 harg9 arg10 harg10 arg11 harg11 hc0 hc1 x0 x1 x2 x3 x4 (ix3 0 b e)
      = ((0 + ∑ n ∈ range 512, dot V D (768 * (i 1).val + b.val) (512 * (i 2).val + n)
          * dec gf gb (768 * (i 1).val + b.val) (512 * (i 2).val + n) * Q (512 * (i 2).val + n) e.val : ℝ) : EReal) := by
  unfold out0_A_6 kernelRun0_A
  dsimp only
  sl_unfold_words
  simp only [View.readAt_eq_ld, harg3.read_unread, harg4.read_unread, harg5.read_unread, harg6.read_unread, harg7.read_unread, ldQ, ldK]
  rw [readK]
  exact pay21 i h1 h3 h4 ((ldG0 i _ _).trans hf) ((ldG1 i _ _).trans hb) b e ((readK ..).trans (zero_dk _))

include hf hb h2 h3 h4 in
theorem out_A_5 (hc0 : cond0_0 i) (hc1 : cond0_1 i)
    (b : Fin 2048) (e : Fin 128) :
    out0_A_5 c i arg3 harg3 arg4 harg4 arg5 harg5 arg6 harg6 arg7 harg7 arg8 harg8 arg9 harg9 arg10 harg10 arg11 harg11 hc0 hc1 x0 x1 x2 x3 x4 (ix3 0 b e)
      = ((0 + (if 512 * (i 2).val ≤ b.val ∧ b.val < 512 * (i 2).val + 512 then ∑ n ∈ range 768, dot V D (768 * (i 1).val + n) b.val
          * dec gf gb (768 * (i 1).val + n) b.val * K (768 * (i 1).val + n) e.val else 0) : ℝ) : EReal) := by
  unfold out0_A_5 kernelRun0_A
  dsimp only
  sl_unfold_words
  simp only [View.readAt_eq_ld, harg3.read_unread, harg4.read_unread, harg5.read_unread, harg6.read_unread, harg7.read_unread, ldQ, ldK]
  refine (rows_add VO0_5 VO0_5.junk _ (i 2).val _ (congrArg (fun n => (![0, n, 0] : Fin 3 → ℕ)) (off2 i)) _ _ (fun _ _ => 0) (fun b e => ∑ n ∈ range 768, dot V D (768 * (i 1).val + n) b
          * dec gf gb (768 * (i 1).val + n) b * K (768 * (i 1).val + n) e)
    (fun b e => pay22 i h2 h3 h4 ((ldG0 i _ _).trans hf) ((ldG1 i _ _).trans hb) b e ((ldR _ _ _ (congrArg (fun n => (![0, n, 0] : Fin 3 → ℕ)) (off2 i)) _ b e (i 2).isLt).trans (read_dq0 ..)))
    (fun b e => read_dq0 ..) b e).trans ?_
  rfl

include hf hb h1 h2 h3 h4 in
theorem out_A_8 (hc0 : cond0_0 i) (hc1 : cond0_1 i)
    (b : Fin 8) (e : Fin 128) :
    out0_A_8 c i arg3 harg3 arg4 harg4 arg5 harg5 arg6 harg6 arg7 harg7 arg8 harg8 arg9 harg9 arg10 harg10 arg11 harg11 hc0 hc1 x0 x1 x2 x3 x4 (ix3 0 b e)
      = ((if b.val = 1 then 0 + tile (gB gb Q K V D) (i 1).val (i 2).val else if b.val = 0 then 0 + tile (gF gf Q K V D) (i 1).val (i 2).val else 0 : ℝ) : EReal) := by
  unfold out0_A_8 kernelRun0_A
  dsimp only
  sl_unfold_words
  simp only [View.readAt_eq_ld, harg3.read_unread, harg4.read_unread, harg5.read_unread, harg6.read_unread, harg7.read_unread, ldQ, ldK]
  refine (row_set VO0_8 _ _ 1 _ _ (0 + tile (gB gb Q K V D) (i 1).val (i 2).val) (fun b => if b = 0 then 0 + tile (gF gf Q K V D) (i 1).val (i 2).val else 0)
    (fun e => pay25 i h1 h2 h3 h4 ((ldG1 i _ _).trans hb) e ?_) (row_set VO0_8 _ _ 0 _ _ (0 + tile (gF gf Q K V D) (i 1).val (i 2).val) (fun _ => 0) (fun e => pay24 i h1 h2 h3 h4 ((ldG0 i _ _).trans hf) e ?_) fun _ _ => read_dlg0 ..) b e).trans ?_
  · refine (ldD _ 1 _ e).trans ((row_set arg11.view _ _ 0 _ _ (0 + tile (gF gf Q K V D) (i 1).val (i 2).val) (fun _ => 0) (fun e => pay24 i h1 h2 h3 h4 ((ldG0 i _ _).trans hf) e ?_) (fun _ _ => read_dlg0 ..) 1 e).trans ?_)
    · exact (ldD _ 0 _ e).trans (read_dlg0 ..)
    · rw [if_neg (by decide)]
  · exact (ldD _ 0 _ e).trans (read_dlg0 ..)
  · rfl

include hf hb h1 h2 h4 in
theorem out_B_7 (hc0 : ¬cond0_0 i) (hc1 : ¬cond0_1 i) (hz : ∀ (b : Fin 768) (e : Fin 128), xo7 (ix3 0 b e) = ((R b.val e.val : ℝ) : EReal))
    (b : Fin 768) (e : Fin 128) :
    out0_B_7 c i arg3 harg3 arg4 harg4 arg5 harg5 arg6 harg6 arg7 harg7 arg8 harg8 arg9 harg9 arg10 harg10 arg11 harg11 hc0 hc1 x0 x1 x2 x3 x4 xo5 xo6 xo7 xo8 (ix3 0 b e)
      = ((R b.val e.val + ∑ n ∈ range 512, dot K Q (768 * (i 1).val + b.val) (512 * (i 2).val + n)
          * dec gf gb (768 * (i 1).val + b.val) (512 * (i 2).val + n) * D (512 * (i 2).val + n) e.val : ℝ) : EReal) := by
  unfold out0_B_7 kernelRun0_B
  dsimp only
  sl_unfold_words
  simp only [View.readAt_eq_ld, harg3.read_unread, harg4.read_unread, harg5.read_unread, harg6.read_unread, harg7.read_unread, harg10.read_unread, ldQ, ldK]
  rw [readK]
  exact pay18 i h1 h2 h4 ((ldG0 i _ _).trans hf) ((ldG1 i _ _).trans hb) b e (hz b e)

include hf hb h1 h3 h4 in
theorem out_B_6 (hc0 : ¬cond0_0 i) (hc1 : ¬cond0_1 i) (hz : ∀ (b : Fin 768) (e : Fin 128), xo6 (ix3 0 b e) = ((R b.val e.val : ℝ) : EReal))
    (b : Fin 768) (e : Fin 128) :
    out0_B_6 c i arg3 harg3 arg4 harg4 arg5 harg5 arg6 harg6 arg7 harg7 arg8 harg8 arg9 harg9 arg10 harg10 arg11 harg11 hc0 hc1 x0 x1 x2 x3 x4 xo5 xo6 xo7 xo8 (ix3 0 b e)
      = ((R b.val e.val + ∑ n ∈ range 512, dot V D (768 * (i 1).val + b.val) (512 * (i 2).val + n)
          * dec gf gb (768 * (i 1).val + b.val) (512 * (i 2).val + n) * Q (512 * (i 2).val + n) e.val : ℝ) : EReal) := by
  unfold out0_B_6 kernelRun0_B
  dsimp only
  sl_unfold_words
  simp only [View.readAt_eq_ld, harg3.read_unread, harg4.read_unread, harg5.read_unread, harg6.read_unread, harg7.read_unread, harg9.read_unread, ldQ, ldK]
  rw [readK]
  exact pay21 i h1 h3 h4 ((ldG0 i _ _).trans hf) ((ldG1 i _ _).trans hb) b e (hz b e)

include hf hb h2 h3 h4 in
theorem out_B_5 (hc0 : ¬cond0_0 i) (hc1 : ¬cond0_1 i) (hz : ∀ (b : Fin 2048) (e : Fin 128), xo5 (ix3 0 b e) = ((R b.val e.val : ℝ) : EReal))
    (b : Fin 2048) (e : Fin 128) :
    out0_B_5 c i arg3 harg3 arg4 harg4 arg5 harg5 arg6 harg6 arg7 harg7 arg8 harg8 arg9 harg9 arg10 harg10 arg11 harg11 hc0 hc1 x0 x1 x2 x3 x4 xo5 xo6 xo7 xo8 (ix3 0 b e)
      = ((R b.val e.val + (if 512 * (i 2).val ≤ b.val ∧ b.val < 512 * (i 2).val + 512 then ∑ n ∈ range 768, dot V D (768 * (i 1).val + n) b.val
          * dec gf gb (768 * (i 1).val + n) b.val * K (768 * (i 1).val + n) e.val else 0) : ℝ) : EReal) := by
  unfold out0_B_5 kernelRun0_B
  dsimp only
  sl_unfold_words
  simp only [View.readAt_eq_ld, harg3.read_unread, harg4.read_unread, harg5.read_unread, harg6.read_unread, harg7.read_unread, harg8.read_unread, ldQ, ldK]
  refine (rows_add arg8.view (harg8.unread xo5) [] (i 2).val _ (congrArg (fun n => (![0, n, 0] : Fin 3 → ℕ)) (off2 i)) _ _ R (fun b e => ∑ n ∈ range 768, dot V D (768 * (i 1).val + n) b
          * dec gf gb (768 * (i 1).val + n) b * K (768 * (i 1).val + n) e)
    (fun b e => pay22 i h2 h3 h4 ((ldG0 i _ _).trans hf) ((ldG1 i _ _).trans hb) b e ((ldR _ _ _ (congrArg (fun n => (![0, n, 0] : Fin 3 → ℕ)) (off2 i)) _ b e (i 2).isLt).trans (hz _ e)))
    (fun b e => (read_unread' _ harg8 xo5 _).trans (hz b e)) b e).trans ?_
  rfl

include hf hb h1 h2 h3 h4 in
theorem out_B_8 (hc0 : ¬cond0_0 i) (hc1 : ¬cond0_1 i) (hz : ∀ (b : Fin 8) (e : Fin 128), xo8 (ix3 0 b e) = (((if b.val = 0 then r₀ else if b.val = 1 then r₁ else 0) : ℝ) : EReal))
    (b : Fin 8) (e : Fin 128) :
    out0_B_8 c i arg3 harg3 arg4 harg4 arg5 harg5 arg6 harg6 arg7 harg7 arg8 harg8 arg9 harg9 arg10 harg10 arg11 harg11 hc0 hc1 x0 x1 x2 x3 x4 xo5 xo6 xo7 xo8 (ix3 0 b e)
      = ((if b.val = 1 then r₁ + tile (gB gb Q K V D) (i 1).val (i 2).val else if b.val = 0 then r₀ + tile (gF gf Q K V D) (i 1).val (i 2).val else 0 : ℝ) : EReal) := by
  unfold out0_B_8 kernelRun0_B
  dsimp only
  sl_unfold_words
  simp only [View.readAt_eq_ld, harg3.read_unread, harg4.read_unread, harg5.read_unread, harg6.read_unread, harg7.read_unread, harg11.read_unread, ldQ, ldK]
  refine (row_set arg11.view _ _ 1 _ _ (r₁ + tile (gB gb Q K V D) (i 1).val (i 2).val) (fun b => if b = 0 then r₀ + tile (gF gf Q K V D) (i 1).val (i 2).val else if b = 1 then r₁ else 0)
    (fun e => pay25 i h1 h2 h3 h4 ((ldG1 i _ _).trans hb) e ?_) (fun b e => (row_set arg11.view _ _ 0 _ _ (r₀ + tile (gF gf Q K V D) (i 1).val (i 2).val) (fun b => if b = 0 then r₀ else if b = 1 then r₁ else 0)
      (fun e => pay24 i h1 h2 h3 h4 ((ldG0 i _ _).trans hf) e ?_) (fun b e => (read_unread' _ harg11 xo8 _).trans (hz b e)) b e).trans ?_) b e).trans ?_
  · exact (ldD _ 1 _ e).trans (hz 1 e)
  · exact (ldD _ 0 _ e).trans (hz 0 e)
  · dsimp only
    split_ifs <;> rfl
  · dsimp only
    split_ifs <;> rfl

include hf hb h1 h2 h4 in
theorem out_C_7 (hc0 : ¬cond0_0 i) (hc1 : cond0_1 i)
    (b : Fin 768) (e : Fin 128) :
    out0_C_7 c i arg3 harg3 arg4 harg4 arg5 harg5 arg6 harg6 arg7 harg7 arg8 harg8 arg9 harg9 arg10 harg10 arg11 harg11 hc0 hc1 x0 x1 x2 x3 x4 xo5 xo8 (ix3 0 b e)
      = ((0 + ∑ n ∈ range 512, dot K Q (768 * (i 1).val + b.val) (512 * (i 2).val + n)
          * dec gf gb (768 * (i 1).val + b.val) (512 * (i 2).val + n) * D (512 * (i 2).val + n) e.val : ℝ) : EReal) := by
  unfold out0_C_7 kernelRun0_C
  dsimp only
  sl_unfold_words
  simp only [View.readAt_eq_ld, harg3.read_unread, harg4.read_unread, harg5.read_unread, harg6.read_unread, harg7.read_unread, ldQ, ldK]
  rw [readK]
  exact pay18 i h1 h2 h4 ((ldG0 i _ _).trans hf) ((ldG1 i _ _).trans hb) b e ((readK ..).trans (zero_dv _))

include hf hb h1 h3 h4 in
theorem out_C_6 (hc0 : ¬cond0_0 i) (hc1 : cond0_1 i)
    (b : Fin 768) (e : Fin 128) :
    out0_C_6 c i arg3 harg3 arg4 harg4 arg5 harg5 arg6 harg6 arg7 harg7 arg8 harg8 arg9 harg9 arg10 harg10 arg11 harg11 hc0 hc1 x0 x1 x2 x3 x4 xo5 xo8 (ix3 0 b e)
      = ((0 + ∑ n ∈ range 512, dot V D (768 * (i 1).val + b.val) (512 * (i 2).val + n)
          * dec gf gb (768 * (i 1).val + b.val) (512 * (i 2).val + n) * Q (512 * (i 2).val + n) e.val : ℝ) : EReal) := by
  unfold out0_C_6 kernelRun0_C
  dsimp only
  sl_unfold_words
  simp only [View.readAt_eq_ld, harg3.read_unread, harg4.read_unread, harg5.read_unread, harg6.read_unread, harg7.read_unread, ldQ, ldK]
  rw [readK]
  exact pay21 i h1 h3 h4 ((ldG0 i _ _).trans hf) ((ldG1 i _ _).trans hb) b e ((readK ..).trans (zero_dk _))

include hf hb h2 h3 h4 in
theorem out_C_5 (hc0 : ¬cond0_0 i) (hc1 : cond0_1 i) (hz : ∀ (b : Fin 2048) (e : Fin 128), xo5 (ix3 0 b e) = ((R b.val e.val : ℝ) : EReal))
    (b : Fin 2048) (e : Fin 128) :
    out0_C_5 c i arg3 harg3 arg4 harg4 arg5 harg5 arg6 harg6 arg7 harg7 arg8 harg8 arg9 harg9 arg10 harg10 arg11 harg11 hc0 hc1 x0 x1 x2 x3 x4 xo5 xo8 (ix3 0 b e)
      = ((R b.val e.val + (if 512 * (i 2).val ≤ b.val ∧ b.val < 512 * (i 2).val + 512 then ∑ n ∈ range 768, dot V D (768 * (i 1).val + n) b.val
          * dec gf gb (768 * (i 1).val + n) b.val * K (768 * (i 1).val + n) e.val else 0) : ℝ) : EReal) := by
  unfold out0_C_5 kernelRun0_C
  dsimp only
  sl_unfold_words
  simp only [View.readAt_eq_ld, harg3.read_unread, harg4.read_unread, harg5.read_unread, harg6.read_unread, harg7.read_unread, harg8.read_unread, ldQ, ldK]
  refine (rows_add arg8.view (harg8.unread xo5) [] (i 2).val _ (congrArg (fun n => (![0, n, 0] : Fin 3 → ℕ)) (off2 i)) _ _ R (fun b e => ∑ n ∈ range 768, dot V D (768 * (i 1).val + n) b
          * dec gf gb (768 * (i 1).val + n) b * K (768 * (i 1).val + n) e)
    (fun b e => pay22 i h2 h3 h4 ((ldG0 i _ _).trans hf) ((ldG1 i _ _).trans hb) b e ((ldR _ _ _ (congrArg (fun n => (![0, n, 0] : Fin 3 → ℕ)) (off2 i)) _ b e (i 2).isLt).trans (hz _ e)))
    (fun b e => (read_unread' _ harg8 xo5 _).trans (hz b e)) b e).trans ?_
  rfl

include hf hb h1 h2 h3 h4 in
theorem out_C_8 (hc0 : ¬cond0_0 i) (hc1 : cond0_1 i) (hz : ∀ (b : Fin 8) (e : Fin 128), xo8 (ix3 0 b e) = (((if b.val = 0 then r₀ else if b.val = 1 then r₁ else 0) : ℝ) : EReal))
    (b : Fin 8) (e : Fin 128) :
    out0_C_8 c i arg3 harg3 arg4 harg4 arg5 harg5 arg6 harg6 arg7 harg7 arg8 harg8 arg9 harg9 arg10 harg10 arg11 harg11 hc0 hc1 x0 x1 x2 x3 x4 xo5 xo8 (ix3 0 b e)
      = ((if b.val = 1 then r₁ + tile (gB gb Q K V D) (i 1).val (i 2).val else if b.val = 0 then r₀ + tile (gF gf Q K V D) (i 1).val (i 2).val else 0 : ℝ) : EReal) := by
  unfold out0_C_8 kernelRun0_C
  dsimp only
  sl_unfold_words
  simp only [View.readAt_eq_ld, harg3.read_unread, harg4.read_unread, harg5.read_unread, harg6.read_unread, harg7.read_unread, harg11.read_unread, ldQ, ldK]
  refine (row_set arg11.view _ _ 1 _ _ (r₁ + tile (gB gb Q K V D) (i 1).val (i 2).val) (fun b => if b = 0 then r₀ + tile (gF gf Q K V D) (i 1).val (i 2).val else if b = 1 then r₁ else 0)
    (fun e => pay25 i h1 h2 h3 h4 ((ldG1 i _ _).trans hb) e ?_) (fun b e => (row_set arg11.view _ _ 0 _ _ (r₀ + tile (gF gf Q K V D) (i 1).val (i 2).val) (fun b => if b = 0 then r₀ else if b = 1 then r₁ else 0)
      (fun e => pay24 i h1 h2 h3 h4 ((ldG0 i _ _).trans hf) e ?_) (fun b e => (read_unread' _ harg11 xo8 _).trans (hz b e)) b e).trans ?_) b e).trans ?_
  · exact (ldD _ 1 _ e).trans (hz 1 e)
  · exact (ldD _ 0 _ e).trans (hz 0 e)
  · dsimp only
    split_ifs <;> rfl
  · dsimp only
    split_ifs <;> rfl

end Out

end Cert.KernelIdeal.Value

end
-- ==== Proof.KFold.lean ====
/-
  The four output blocks after every point of the grid, and the four arrays the kernel leaves, as real numbers: point
  `n` is head `n / 12`, key tile `n / 4 % 3`, query tile `n % 4`.
-/
module

public import proofs.«01_k».proof.Proof.KOut
public import Idealize.ShloMosaic.Lib.Pipeline.Value

@[expose] public section

noncomputable section

namespace Cert.KernelIdeal.Value

open Idealize.ShloMosaic Idealize.ShloMosaic.TcCoe Idealize.SL.Sem
open Cert.KernelIdeal Cert.KernelIdeal.Gen Cert.Ret Finset

theorem index0 : ∀ t : Fin cfg0.N, win0_0.index t 0 = 0 ∧ win0_0.index t 1 = 0 := by decide +kernel
theorem index1 : ∀ t : Fin cfg0.N, win0_1.index t 0 = t.val / 12 ∧ win0_1.index t 1 = t.val % 4 ∧ win0_1.index t 2 = 0 := by decide +kernel
theorem index2 : ∀ t : Fin cfg0.N, win0_2.index t 0 = t.val / 12 ∧ win0_2.index t 1 = t.val / 4 % 3 ∧ win0_2.index t 2 = 0 := by decide +kernel
theorem index3 : ∀ t : Fin cfg0.N, win0_3.index t 0 = t.val / 12 ∧ win0_3.index t 1 = t.val / 4 % 3 ∧ win0_3.index t 2 = 0 := by decide +kernel
theorem index4 : ∀ t : Fin cfg0.N, win0_4.index t 0 = t.val / 12 ∧ win0_4.index t 1 = t.val % 4 ∧ win0_4.index t 2 = 0 := by decide +kernel
theorem index5 : ∀ t : Fin cfg0.N, win0_5.index t 0 = t.val / 12 ∧ win0_5.index t 1 = 0 ∧ win0_5.index t 2 = 0 := by decide +kernel
theorem index6 : ∀ t : Fin cfg0.N, win0_6.index t 0 = t.val / 12 ∧ win0_6.index t 1 = t.val / 4 % 3 ∧ win0_6.index t 2 = 0 := by decide +kernel
theorem index7 : ∀ t : Fin cfg0.N, win0_7.index t 0 = t.val / 12 ∧ win0_7.index t 1 = t.val / 4 % 3 ∧ win0_7.index t 2 = 0 := by decide +kernel
theorem index8 : ∀ t : Fin cfg0.N, win0_8.index t 0 = t.val / 12 ∧ win0_8.index t 1 = 0 ∧ win0_8.index t 2 = 0 := by decide +kernel
theorem coords_eq : ∀ t : Fin cfg0.N, (grid0.coords t 0).val = t.val / 12 ∧ (grid0.coords t 1).val = t.val / 4 % 3 ∧ (grid0.coords t 2).val = t.val % 4 := by
  decide +kernel

variable (m : (ℓ : Loc nD τ sig) → Buf (Elt Ideal) ℓ) (c : Dev nD)

/-- Head `h` of the arguments, as real numbers. -/
def Qh (h n d : ℕ) : ℝ := rd3 (m ((c : Thread nD τ).loc main_arg0) : Vec Ideal S8x2048x128 .bf16) h n d
def Kh (h n d : ℕ) : ℝ := rd3 (m ((c : Thread nD τ).loc main_arg1) : Vec Ideal S8x2304x128 .bf16) h n d
def Vh (h n d : ℕ) : ℝ := rd3 (m ((c : Thread nD τ).loc main_arg2) : Vec Ideal S8x2304x128 .bf16) h n d
def Dh (h n d : ℕ) : ℝ := rd3 (m ((c : Thread nD τ).loc main_arg4) : Vec Ideal S8x2048x128 .f32) h n d
def Gh (r h : ℕ) : ℝ := rd2 (m ((c : Thread nD τ).loc main_arg3) : Vec Ideal S2x8 .f32) r h

/-- Every number handed in is finite. -/
structure Finite : Prop where
  q : ∀ i, Fine ((m ((c : Thread nD τ).loc main_arg0) : Vec Ideal S8x2048x128 .bf16) i)
  k : ∀ i, Fine ((m ((c : Thread nD τ).loc main_arg1) : Vec Ideal S8x2304x128 .bf16) i)
  v : ∀ i, Fine ((m ((c : Thread nD τ).loc main_arg2) : Vec Ideal S8x2304x128 .bf16) i)
  g : ∀ i, Fine ((m ((c : Thread nD τ).loc main_arg3) : Vec Ideal S2x8 .f32) i)
  d : ∀ i, Fine ((m ((c : Thread nD τ).loc main_arg4) : Vec Ideal S8x2048x128 .f32) i)

variable {m c} (H : Finite m c)

section Blocks
variable (t : Fin cfg0.N)
include H

theorem iblk0 (r : Fin 2) (hh : (grid0.coords t 0).val < 8) :
    (iblk m c 0 t : Vec Ideal S2x8 .f32) (ix2 r ⟨(grid0.coords t 0).val, hh⟩) = ((Gh m c r.val (t.val / 12) : ℝ) : EReal) := by
  have hi := index0 t
  have ht : t.val / 12 < 8 := by have := t.isLt; have hN : cfg0.N = 96 := N_0; omega
  refine Eq.trans ?_ (rd2_eq H.g r ⟨t.val / 12, ht⟩)
  unfold iblk
  rw [View.read_apply]
  show V m c main_arg3 _ = _
  unfold V
  congr 1
  funext a
  apply Fin.ext
  match a with
  | ⟨0, _⟩ => show win0_0.index t 0 * 2 + 1 * r.val = r.val; rw [hi.1]; omega
  | ⟨1, _⟩ => show win0_0.index t 1 * 8 + 1 * (grid0.coords t 0).val = t.val / 12; rw [hi.2, (coords_eq t).1]; omega

theorem iblk1 (a : Fin 1) (b : Fin 512) (d : Fin 128) :
    (iblk m c 1 t : Vec Ideal S1x512x128 .bf16) (ix3 a b d) = ((Qh m c (t.val / 12) (512 * (grid0.coords t 2).val + b.val) d.val : ℝ) : EReal) := by
  have hi := index1 t
  have ht : t.val / 12 < 8 := by have := t.isLt; have hN : cfg0.N = 96 := N_0; omega
  rw [(coords_eq t).2.2]
  refine Eq.trans ?_ (rd3_eq H.q ⟨t.val / 12, ht⟩ ⟨512 * (t.val % 4) + b.val, by omega⟩ d)
  unfold iblk
  rw [View.read_apply]
  show V m c main_arg0 _ = _
  unfold V
  congr 1
  funext x
  apply Fin.ext
  match x with
  | ⟨0, _⟩ => show win0_1.index t 0 * 1 + 1 * a.val = t.val / 12; rw [hi.1]; omega
  | ⟨1, _⟩ => show win0_1.index t 1 * 512 + 1 * b.val = 512 * (t.val % 4) + b.val; rw [hi.2.1]; omega
  | ⟨2, _⟩ => show win0_1.index t 2 * 128 + 1 * d.val = d.val; rw [hi.2.2]; omega

theorem iblk2 (a : Fin 1) (b : Fin 768) (d : Fin 128) :
    (iblk m c 2 t : Vec Ideal S1x768x128 .bf16) (ix3 a b d) = ((Kh m c (t.val / 12) (768 * (grid0.coords t 1).val + b.val) d.val : ℝ) : EReal) := by
  have hi := index2 t
  have ht : t.val / 12 < 8 := by have := t.isLt; have hN : cfg0.N = 96 := N_0; omega
  rw [(coords_eq t).2.1]
  refine Eq.trans ?_ (rd3_eq H.k ⟨t.val / 12, ht⟩ ⟨768 * (t.val / 4 % 3) + b.val, by omega⟩ d)
  unfold iblk
  rw [View.read_apply]
  show V m c main_arg1 _ = _
  unfold V
  congr 1
  funext x
  apply Fin.ext
  match x with
  | ⟨0, _⟩ => show win0_2.index t 0 * 1 + 1 * a.val = t.val / 12; rw [hi.1]; omega
  | ⟨1, _⟩ => show win0_2.index t 1 * 768 + 1 * b.val = 768 * (t.val / 4 % 3) + b.val; rw [hi.2.1]; omega
  | ⟨2, _⟩ => show win0_2.index t 2 * 128 + 1 * d.val = d.val; rw [hi.2.2]; omega

theorem iblk3 (a : Fin 1) (b : Fin 768) (d : Fin 128) :
    (iblk m c 3 t : Vec Ideal S1x768x128 .bf16) (ix3 a b d) = ((Vh m c (t.val / 12) (768 * (grid0.coords t 1).val + b.val) d.val : ℝ) : EReal) := by
  have hi := index3 t
  have ht : t.val / 12 < 8 := by have := t.isLt; have hN : cfg0.N = 96 := N_0; omega
  rw [(coords_eq t).2.1]
  refine Eq.trans ?_ (rd3_eq H.v ⟨t.val / 12, ht⟩ ⟨768 * (t.val / 4 % 3) + b.val, by omega⟩ d)
  unfold iblk
  rw [View.read_apply]
  show V m c main_arg2 _ = _
  unfold V
  congr 1
  funext x
  apply Fin.ext
  match x with
  | ⟨0, _⟩ => show win0_3.index t 0 * 1 + 1 * a.val = t.val / 12; rw [hi.1]; omega
  | ⟨1, _⟩ => show win0_3.index t 1 * 768 + 1 * b.val = 768 * (t.val / 4 % 3) + b.val; rw [hi.2.1]; omega
  | ⟨2, _⟩ => show win0_3.index t 2 * 128 + 1 * d.val = d.val; rw [hi.2.2]; omega

theorem iblk4 (a : Fin 1) (b : Fin 512) (d : Fin 128) :
    (iblk m c 4 t : Vec Ideal S1x512x128 .f32) (ix3 a b d) = ((Dh m c (t.val / 12) (512 * (grid0.coords t 2).val + b.val) d.val : ℝ) : EReal) := by
  have hi := index4 t
  have ht : t.val / 12 < 8 := by have := t.isLt; have hN : cfg0.N = 96 := N_0; omega
  rw [(coords_eq t).2.2]
  refine Eq.trans ?_ (rd3_eq H.d ⟨t.val / 12, ht⟩ ⟨512 * (t.val % 4) + b.val, by omega⟩ d)
  unfold iblk
  rw [View.read_apply]
  show V m c main_arg4 _ = _
  unfold V
  congr 1
  funext x
  apply Fin.ext
  match x with
  | ⟨0, _⟩ => show win0_4.index t 0 * 1 + 1 * a.val = t.val / 12; rw [hi.1]; omega
  | ⟨1, _⟩ => show win0_4.index t 1 * 512 + 1 * b.val = 512 * (t.val % 4) + b.val; rw [hi.2.1]; omega
  | ⟨2, _⟩ => show win0_4.index t 2 * 128 + 1 * d.val = d.val; rw [hi.2.2]; omega

end Blocks

section Steps
variable (gf gb : ℝ) (Q K V D : ℕ → ℕ → ℝ)

/-- One more query tile. -/
theorem dvS_step (q M e : ℕ) : dvS gf gb Q K D (512 * q) M e
      + ∑ n ∈ range 512, dot K Q M (512 * q + n) * dec gf gb M (512 * q + n) * D (512 * q + n) e = dvS gf gb Q K D (512 * (q + 1)) M e := by
  unfold dvS; rw [Nat.mul_succ, sum_range_add]
theorem dkS_step (q M e : ℕ) : dkS gf gb Q V D (512 * q) M e
      + ∑ n ∈ range 512, dot V D M (512 * q + n) * dec gf gb M (512 * q + n) * Q (512 * q + n) e = dkS gf gb Q V D (512 * (q + 1)) M e := by
  unfold dkS; rw [Nat.mul_succ, sum_range_add]
/-- One more key tile. -/
theorem dqS_step (k N e : ℕ) : dqS gf gb K V D (768 * k) N e
      + ∑ n ∈ range 768, dot V D (768 * k + n) N * dec gf gb (768 * k + n) N * K (768 * k + n) e = dqS gf gb K V D (768 * (k + 1)) N e := by
  unfold dqS; rw [Nat.mul_succ, sum_range_add]
theorem tiles_step (G : ℕ → ℕ → ℝ) (k q : ℕ) (hq : q < 4) : tiles G (4 * k + q) + tile G k q = tiles G (4 * k + q + 1) := by
  unfold tiles; rw [sum_range_succ, show (4 * k + q) / 4 = k by omega, show (4 * k + q) % 4 = q by omega]

theorem dvS_first (M e : ℕ) : 0 + ∑ n ∈ range 512, dot K Q M (512 * 0 + n) * dec gf gb M (512 * 0 + n) * D (512 * 0 + n) e
    = dvS gf gb Q K D (512 * (0 + 1)) M e := by
  rw [← dvS_step]; simp [dvS]
theorem dkS_first (M e : ℕ) : 0 + ∑ n ∈ range 512, dot V D M (512 * 0 + n) * dec gf gb M (512 * 0 + n) * Q (512 * 0 + n) e
    = dkS gf gb Q V D (512 * (0 + 1)) M e := by
  rw [← dkS_step]; simp [dkS]
theorem dqS_first (N e : ℕ) : 0 + ∑ n ∈ range 768, dot V D (768 * 0 + n) N * dec gf gb (768 * 0 + n) N * K (768 * 0 + n) e
    = dqS gf gb K V D (768 * (0 + 1)) N e := by
  rw [← dqS_step]; simp [dqS]
theorem tiles_first (G : ℕ → ℕ → ℝ) : 0 + tile G 0 0 = tiles G (4 * 0 + 0 + 1) := by
  rw [← tiles_step G 0 0 (by decide)]; simp [tiles]

end Steps

theorem coe_congr {a b : ℝ} (h : a = b) : (a : EReal) = (b : EReal) := congrArg _ h

/-- The four blocks after the point of head `h`, key tile `k`, query tile `q`. -/
structure Inv (m : (ℓ : Loc nD τ sig) → Buf (Elt Ideal) ℓ) (c : Dev nD) (h k q : ℕ)
    (X : Vec Ideal S1x2048x128 .f32 × Vec Ideal S1x768x128 .f32 × Vec Ideal S1x768x128 .f32 × Vec Ideal S1x8x128 .f32) : Prop where
  dq : ∀ (b : Fin 2048) (e : Fin 128), X.1 (ix3 0 b e) = ((dqS (Gh m c 0 h) (Gh m c 1 h) (Kh m c h) (Vh m c h) (Dh m c h)
    (768 * (k + if b.val < 512 * (q + 1) then 1 else 0)) b.val e.val : ℝ) : EReal)
  dk : ∀ (b : Fin 768) (e : Fin 128), X.2.1 (ix3 0 b e) = ((dkS (Gh m c 0 h) (Gh m c 1 h) (Qh m c h) (Vh m c h) (Dh m c h)
    (512 * (q + 1)) (768 * k + b.val) e.val : ℝ) : EReal)
  dv : ∀ (b : Fin 768) (e : Fin 128), X.2.2.1 (ix3 0 b e) = ((dvS (Gh m c 0 h) (Gh m c 1 h) (Qh m c h) (Kh m c h) (Dh m c h)
    (512 * (q + 1)) (768 * k + b.val) e.val : ℝ) : EReal)
  dlg : ∀ (b : Fin 8) (e : Fin 128), X.2.2.2 (ix3 0 b e) = (((if b.val = 0 then tiles (gF (Gh m c 0 h) (Qh m c h) (Kh m c h) (Vh m c h) (Dh m c h)) (4 * k + q + 1)
    else if b.val = 1 then tiles (gB (Gh m c 1 h) (Qh m c h) (Kh m c h) (Vh m c h) (Dh m c h)) (4 * k + q + 1) else 0 : ℝ) : ℝ) : EReal)

include H in
theorem inv_A (n : ℕ) (hn : n < cfg0.N) (hA : n % 12 = 0) :
    Inv m c (n / 12) (n / 4 % 3) (n % 4) (outsAt0 m c n hn) := by
  have hN : cfg0.N = 96 := N_0
  obtain ⟨k0, hc1, hc2⟩ := coords_eq ⟨n, hn⟩
  dsimp only at k0 hc1 hc2
  have hf := iblk0 H ⟨n, hn⟩ 0 (head_lt _)
  have hb := iblk0 H ⟨n, hn⟩ 1 (head_lt _)
  have h1 := iblk1 H ⟨n, hn⟩
  have h2 := iblk2 H ⟨n, hn⟩
  have h3 := iblk3 H ⟨n, hn⟩
  have h4 := iblk4 H ⟨n, hn⟩
  have hC : n % 4 = 0 := by omega
  have hk : n / 4 % 3 = 0 := by omega
  rw [show outsAt0 m c n hn = _ from outsAt0_A m c ⟨n, hn⟩ hA hC]
  refine ⟨fun b e => ?_, fun b e => ?_, fun b e => ?_, fun b e => ?_⟩
  · dsimp only
    refine (out_A_5 (hf := hf) (hb := hb) (h2 := h2) (h3 := h3) (h4 := h4) ..).trans (coe_congr ?_)
    rw [hc1, hc2, hk, hC]
    by_cases hx : b.val < 512
    · rw [if_pos (by omega), if_pos (by omega)]
      exact (dqS_first _ _ _ _ _ b.val e.val)
    · rw [if_neg (by omega), if_neg (by omega)]
      simp [dqS]
  · dsimp only
    refine (out_A_6 (hf := hf) (hb := hb) (h1 := h1) (h3 := h3) (h4 := h4) ..).trans (coe_congr ?_)
    rw [hc1, hc2, hk, hC]
    exact (dkS_first _ _ _ _ _ (768 * 0 + b.val) e.val)
  · dsimp only
    refine (out_A_7 (hf := hf) (hb := hb) (h1 := h1) (h2 := h2) (h4 := h4) ..).trans (coe_congr ?_)
    rw [hc1, hc2, hk, hC]
    exact (dvS_first _ _ _ _ _ (768 * 0 + b.val) e.val)
  · dsimp only
    refine (out_A_8 (hf := hf) (hb := hb) (h1 := h1) (h2 := h2) (h3 := h3) (h4 := h4) ..).trans (coe_congr ?_)
    rw [hc1, hc2, hk, hC]
    rcases Nat.lt_or_ge b.val 1 with hx | hx
    · rw [if_neg (by omega), if_pos (by omega), if_pos (by omega)]
      exact tiles_first _
    · rw [if_neg (show ¬b.val = 0 by omega), if_neg (show ¬b.val = 0 by omega)]
      by_cases hy : b.val = 1
      · rw [if_pos hy, if_pos hy]
        exact tiles_first _
      · rw [if_neg hy, if_neg hy]

include H in
theorem inv_C (n : ℕ) (hn : n < cfg0.N) (hA : ¬n % 12 = 0) (hC : n % 4 = 0)
    (IH : Inv m c ((n - 1) / 12) ((n - 1) / 4 % 3) ((n - 1) % 4) (outsAt0 m c (n - 1) (by omega))) :
    Inv m c (n / 12) (n / 4 % 3) (n % 4) (outsAt0 m c n hn) := by
  have hN : cfg0.N = 96 := N_0
  obtain ⟨k0, hc1, hc2⟩ := coords_eq ⟨n, hn⟩
  dsimp only at k0 hc1 hc2
  have hf := iblk0 H ⟨n, hn⟩ 0 (head_lt _)
  have hb := iblk0 H ⟨n, hn⟩ 1 (head_lt _)
  have h1 := iblk1 H ⟨n, hn⟩
  have h2 := iblk2 H ⟨n, hn⟩
  have h3 := iblk3 H ⟨n, hn⟩
  have h4 := iblk4 H ⟨n, hn⟩
  obtain ⟨p5, p6, p7, p8⟩ := IH
  have e0 : (n - 1) / 12 = n / 12 := by omega
  rw [e0] at p5 p6 p7 p8
  have e1 : (n - 1) / 4 % 3 + 1 = n / 4 % 3 := by omega
  have e2 : (n - 1) % 4 = 3 := by omega
  rw [e2] at p5 p8
  rw [show outsAt0 m c n hn = _ from outsAt0_C m c ⟨n, hn⟩ hA hC]
  refine ⟨fun b e => ?_, fun b e => ?_, fun b e => ?_, fun b e => ?_⟩
  · have p5' : ∀ (b : Fin 2048) (e : Fin 128), (outsAt0 m c (n - 1) (by omega)).1 (ix3 0 b e)
        = ((dqS (Gh m c 0 (n / 12)) (Gh m c 1 (n / 12)) (Kh m c (n / 12)) (Vh m c (n / 12)) (Dh m c (n / 12)) (768 * (n / 4 % 3)) b.val e.val : ℝ) : EReal) :=
      fun b e => by rw [p5 b e, if_pos (by omega), e1]
    refine (out_C_5 (R := fun b e => dqS (Gh m c 0 (n / 12)) (Gh m c 1 (n / 12)) (Kh m c (n / 12)) (Vh m c (n / 12)) (Dh m c (n / 12)) (768 * (n / 4 % 3)) b e)
      (hf := hf) (hb := hb) (h2 := h2) (h3 := h3) (h4 := h4) (hz := p5') ..).trans (coe_congr ?_)
    rw [hc1, hc2, hC]
    by_cases hx : b.val < 512
    · rw [if_pos (by omega), if_pos (by omega)]
      exact (dqS_step _ _ _ _ _ _ b.val e.val)
    · rw [if_neg (by omega), if_neg (by omega), add_zero, add_zero]
  · dsimp only
    refine (out_C_6 (hf := hf) (hb := hb) (h1 := h1) (h3 := h3) (h4 := h4) ..).trans (coe_congr ?_)
    rw [hc1, hc2, hC]
    exact (dkS_first _ _ _ _ _ _ e.val)
  · dsimp only
    refine (out_C_7 (hf := hf) (hb := hb) (h1 := h1) (h2 := h2) (h4 := h4) ..).trans (coe_congr ?_)
    rw [hc1, hc2, hC]
    exact (dvS_first _ _ _ _ _ _ e.val)
  · rw [show 4 * ((n - 1) / 4 % 3) + 3 + 1 = 4 * (n / 4 % 3) + 0 by omega] at p8
    refine (out_C_8 (hf := hf) (hb := hb) (h1 := h1) (h2 := h2) (h3 := h3) (h4 := h4) (hz := p8) ..).trans (coe_congr ?_)
    rw [hc1, hc2, hC]
    by_cases hx : b.val = 0
    · rw [if_neg (by omega), if_pos hx, if_pos hx]
      exact tiles_step _ _ 0 (by omega)
    · by_cases hy : b.val = 1
      · rw [if_pos hy, if_neg hx, if_pos hy]
        exact tiles_step _ _ 0 (by omega)
      · rw [if_neg hy, if_neg hx, if_neg hx, if_neg hy]

include H in
theorem inv_B (n : ℕ) (hn : n < cfg0.N) (hA : ¬n % 12 = 0) (hC : ¬n % 4 = 0)
    (IH : Inv m c ((n - 1) / 12) ((n - 1) / 4 % 3) ((n - 1) % 4) (outsAt0 m c (n - 1) (by omega))) :
    Inv m c (n / 12) (n / 4 % 3) (n % 4) (outsAt0 m c n hn) := by
  have hN : cfg0.N = 96 := N_0
  obtain ⟨k0, hc1, hc2⟩ := coords_eq ⟨n, hn⟩
  dsimp only at k0 hc1 hc2
  have hf := iblk0 H ⟨n, hn⟩ 0 (head_lt _)
  have hb := iblk0 H ⟨n, hn⟩ 1 (head_lt _)
  have h1 := iblk1 H ⟨n, hn⟩
  have h2 := iblk2 H ⟨n, hn⟩
  have h3 := iblk3 H ⟨n, hn⟩
  have h4 := iblk4 H ⟨n, hn⟩
  obtain ⟨p5, p6, p7, p8⟩ := IH
  have e0 : (n - 1) / 12 = n / 12 := by omega
  rw [e0] at p5 p6 p7 p8
  have e1 : (n - 1) / 4 % 3 = n / 4 % 3 := by omega
  have e2 : (n - 1) % 4 + 1 = n % 4 := by omega
  rw [e1] at p5 p6 p7 p8
  rw [e2] at p5 p6 p7
  rw [show 4 * (n / 4 % 3) + (n - 1) % 4 + 1 = 4 * (n / 4 % 3) + n % 4 by omega] at p8
  rw [show outsAt0 m c n hn = _ from outsAt0_B m c ⟨n, hn⟩ hA hC]
  refine ⟨fun b e => ?_, fun b e => ?_, fun b e => ?_, fun b e => ?_⟩
  · dsimp only
    refine (out_B_5 (R := fun b e => dqS (Gh m c 0 (n / 12)) (Gh m c 1 (n / 12)) (Kh m c (n / 12)) (Vh m c (n / 12)) (Dh m c (n / 12))
        (768 * (n / 4 % 3 + if b < 512 * (n % 4) then 1 else 0)) b e)
      (hf := hf) (hb := hb) (h2 := h2) (h3 := h3) (h4 := h4) (hz := p5) ..).trans (coe_congr ?_)
    rw [hc1, hc2]
    dsimp only
    by_cases hx : b.val < 512 * (n % 4)
    · rw [if_pos hx, if_neg (by omega), if_pos (by omega), add_zero]
    · rw [if_neg hx]
      by_cases hy : b.val < 512 * (n % 4 + 1)
      · rw [if_pos (by omega), if_pos (by omega)]
        exact (dqS_step _ _ _ _ _ _ b.val e.val)
      · rw [if_neg (by omega), if_neg (by omega), add_zero]
  · dsimp only
    refine (out_B_6 (R := fun b e => dkS (Gh m c 0 (n / 12)) (Gh m c 1 (n / 12)) (Qh m c (n / 12)) (Vh m c (n / 12)) (Dh m c (n / 12))
        (512 * (n % 4)) (768 * (n / 4 % 3) + b) e) (hf := hf) (hb := hb) (h1 := h1) (h3 := h3) (h4 := h4) (hz := p6) ..).trans (coe_congr ?_)
    rw [hc1, hc2]
    exact (dkS_step _ _ _ _ _ _ _ e.val)
  · dsimp only
    refine (out_B_7 (R := fun b e => dvS (Gh m c 0 (n / 12)) (Gh m c 1 (n / 12)) (Qh m c (n / 12)) (Kh m c (n / 12)) (Dh m c (n / 12))
        (512 * (n % 4)) (768 * (n / 4 % 3) + b) e) (hf := hf) (hb := hb) (h1 := h1) (h2 := h2) (h4 := h4) (hz := p7) ..).trans (coe_congr ?_)
    rw [hc1, hc2]
    exact (dvS_step _ _ _ _ _ _ _ e.val)
  · dsimp only
    refine (out_B_8 (hf := hf) (hb := hb) (h1 := h1) (h2 := h2) (h3 := h3) (h4 := h4) (hz := p8) ..).trans (coe_congr ?_)
    rw [hc1, hc2]
    by_cases hx : b.val = 0
    · rw [if_neg (by omega), if_pos hx, if_pos hx]
      exact tiles_step _ _ (n % 4) (by omega)
    · by_cases hy : b.val = 1
      · rw [if_pos hy, if_neg hx, if_pos hy]
        exact tiles_step _ _ (n % 4) (by omega)
      · rw [if_neg hy, if_neg hx, if_neg hx, if_neg hy]

include H in
/-- The blocks after every point. -/
theorem inv : ∀ (n : ℕ) (hn : n < cfg0.N), Inv m c (n / 12) (n / 4 % 3) (n % 4) (outsAt0 m c n hn) := by
  intro n
  induction n using Nat.strong_induction_on with
  | _ n IH =>
  intro hn
  by_cases hA : n % 12 = 0
  · exact inv_A H n hn hA
  · by_cases hC : n % 4 = 0
    · exact inv_C H n hn hA hC (IH (n - 1) (by omega) _)
    · exact inv_B H n hn hA hC (IH (n - 1) (by omega) _)

end Cert.KernelIdeal.Value

end
-- ==== Proof.KFinal.lean ====
/-
  The four arrays the kernel leaves, as real numbers, and the run that leaves them.
-/
module

public import proofs.«01_k».proof.Proof.KFold
public import proofs.«01_k».proof.Proof.Gen.KernelIdeal.Value
public import Idealize.ShloMosaic.Lib.Pipeline.ValueKit.Geometry

@[expose] public section

noncomputable section

namespace Cert.KernelIdeal.Value

open Idealize.ShloMosaic Idealize.ShloMosaic.TcCoe Idealize.SL.Sem
open Cert.KernelIdeal Cert.KernelIdeal.Gen Cert.Ret Finset

variable (m : (ℓ : Loc nD τ sig) → Buf (Elt Ideal) ℓ) (c : Dev nD)

/-- The gradients of head `h`: of the queries over all keys, of the keys and values over all queries, of the two log
    decays over all pairs. -/
def dqR (h n e : ℕ) : ℝ := dqS (Gh m c 0 h) (Gh m c 1 h) (Kh m c h) (Vh m c h) (Dh m c h) 2304 n e
def dkR (h n e : ℕ) : ℝ := dkS (Gh m c 0 h) (Gh m c 1 h) (Qh m c h) (Vh m c h) (Dh m c h) 2048 n e
def dvR (h n e : ℕ) : ℝ := dvS (Gh m c 0 h) (Gh m c 1 h) (Qh m c h) (Kh m c h) (Dh m c h) 2048 n e
def dlgR (h b : ℕ) : ℝ :=
  if b = 0 then tiles (gF (Gh m c 0 h) (Qh m c h) (Kh m c h) (Vh m c h) (Dh m c h)) 12
  else if b = 1 then tiles (gB (Gh m c 1 h) (Qh m c h) (Kh m c h) (Vh m c h) (Dh m c h)) 12 else 0

def resDq : Vec Ideal S8x2048x128 .f32 := fun i => ((dqR m c (i 0).val (i 1).val (i 2).val : ℝ) : EReal)
def resDk : Vec Ideal S8x2304x128 .f32 := fun i => ((dkR m c (i 0).val (i 1).val (i 2).val : ℝ) : EReal)
def resDv : Vec Ideal S8x2304x128 .f32 := fun i => ((dvR m c (i 0).val (i 1).val (i 2).val : ℝ) : EReal)
def resDlg : Vec Ideal S8x8x128 .f32 := fun i => ((dlgR m c (i 0).val (i 1).val : ℝ) : EReal)

variable {m c} (H : Finite m c)

theorem ix3_of {b d : ℕ} (y : (⟨3, ![1, b, d]⟩ : Shape).Idx) : y = ix3 (0 : Fin 1) (y 1 : Fin b) (y 2 : Fin d) := by
  funext x
  match x with
  | ⟨0, _⟩ => exact Fin.ext (by have := (y 0).isLt; change (y 0).val < 1 at this; show (y 0).val = 0; omega)
  | ⟨1, _⟩ => rfl
  | ⟨2, _⟩ => rfl

include H in
theorem final5 : (dats m 0 c).arrAt 5 cfg0.N = resDq m c := by
  refine (dats m 0 c).arrAt_eq_of_covers 5 _ (by decide +kernel) fun t hf y => ?_
  have hp := (flush0_5 t).mp hf
  have hi := index5 t
  have hN : cfg0.N = 96 := N_0
  have ht : t.val < 96 := hN ▸ t.isLt
  unfold resDq
  blk_simp
  rw [after0_5, hi.1, hi.2.1, hi.2.2]
  have h0 : (y 0).val < 1 := (y 0).isLt
  have h1 : (y 1).val < 2048 := (y 1).isLt
  refine (congrArg (outsAt0 m c t.val t.isLt).1 (ix3_of y)).trans (((inv H t.val t.isLt).dq (y 1) (y 2)).trans (coe_congr ?_))
  unfold dqR
  rw [if_pos (by omega), show t.val / 4 % 3 = 2 by omega, Nat.zero_mul, Nat.zero_add, Nat.zero_add]

include H in
theorem final6 : (dats m 0 c).arrAt 6 cfg0.N = resDk m c := by
  refine (dats m 0 c).arrAt_eq_of_covers 6 _ (by decide +kernel) fun t hf y => ?_
  have hp := (flush0_6 t).mp hf
  have hi := index6 t
  have hN : cfg0.N = 96 := N_0
  have ht : t.val < 96 := hN ▸ t.isLt
  unfold resDk
  blk_simp
  rw [after0_6, hi.1, hi.2.1, hi.2.2]
  have h0 : (y 0).val < 1 := (y 0).isLt
  have h1 : (y 1).val < 768 := (y 1).isLt
  refine (congrArg (outsAt0 m c t.val t.isLt).2.1 (ix3_of y)).trans (((inv H t.val t.isLt).dk (y 1) (y 2)).trans (coe_congr ?_))
  unfold dkR
  rw [hp, Nat.zero_mul, Nat.zero_add, Nat.mul_comm 768]

include H in
theorem final7 : (dats m 0 c).arrAt 7 cfg0.N = resDv m c := by
  refine (dats m 0 c).arrAt_eq_of_covers 7 _ (by decide +kernel) fun t hf y => ?_
  have hp := (flush0_7 t).mp hf
  have hi := index7 t
  have hN : cfg0.N = 96 := N_0
  have ht : t.val < 96 := hN ▸ t.isLt
  unfold resDv
  blk_simp
  rw [after0_7, hi.1, hi.2.1, hi.2.2]
  have h0 : (y 0).val < 1 := (y 0).isLt
  have h1 : (y 1).val < 768 := (y 1).isLt
  refine (congrArg (outsAt0 m c t.val t.isLt).2.2.1 (ix3_of y)).trans (((inv H t.val t.isLt).dv (y 1) (y 2)).trans (coe_congr ?_))
  unfold dvR
  rw [hp, Nat.zero_mul, Nat.zero_add, Nat.mul_comm 768]

include H in
theorem final8 : (dats m 0 c).arrAt 8 cfg0.N = resDlg m c := by
  refine (dats m 0 c).arrAt_eq_of_covers 8 _ (by decide +kernel) fun t hf y => ?_
  have hp := (flush0_8 t).mp hf
  have hi := index8 t
  have hN : cfg0.N = 96 := N_0
  have ht : t.val < 96 := hN ▸ t.isLt
  unfold resDlg
  blk_simp
  rw [after0_8, hi.1, hi.2.1]
  have h0 : (y 0).val < 1 := (y 0).isLt
  have h1 : (y 1).val < 8 := (y 1).isLt
  refine (congrArg (outsAt0 m c t.val t.isLt).2.2.2 (ix3_of y)).trans (((inv H t.val t.isLt).dlg (y 1) (y 2)).trans (coe_congr ?_))
  unfold dlgR
  rw [show 4 * (t.val / 4 % 3) + t.val % 4 + 1 = 12 by omega, Nat.zero_mul, Nat.zero_add]

/-- The run: from finite arguments it leaves the four arrays, and the arguments as they were. -/
theorem run (ρ : Dev nD → PrngReg) (H : ∀ c, Finite m c) :
    θ_run defs (onTc (τ := τ) (main (F := Ideal))) ⟨m, fun _ => 0, ρ⟩ fun r => ∀ c : Dev nD,
      r.2.mem ((c : Thread nD τ).loc main_v0_0) = resDq m c
      ∧ r.2.mem ((c : Thread nD τ).loc main_v0_1) = resDk m c
      ∧ r.2.mem ((c : Thread nD τ).loc main_v0_2) = resDv m c
      ∧ r.2.mem ((c : Thread nD τ).loc main_v0_3) = resDlg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => by
    obtain ⟨h5, h6, h7, h8, rest⟩ := h c
    exact ⟨h5.trans (final5 (H c)), h6.trans (final6 (H c)), h7.trans (final7 (H c)), h8.trans (final8 (H c)), rest⟩) (run_blocks m ρ)

end Cert.KernelIdeal.Value

end
-- ==== Proof.Chain.lean ====
/-
  One head's recurrence over its sixteen chunks of 128 positions, run forward and then differentiated backward, all
  over the reals: the carried state `S`, the carried gradient `Lr`, and the gradients in chunk form. Every one of
  them equals a plain sum over all pairs of positions.
-/
module

public import proofs.«01_k».proof.Proof.Reals

@[expose] public section

noncomputable section

namespace Cert.Ret

open Finset

/-! ## Sums cut into blocks -/

theorem sum_blocks (B A : ℕ) (f : ℕ → ℝ) : ∑ n ∈ range (A * B), f n = ∑ a ∈ range A, ∑ c ∈ range B, f (a * B + c) := by
  induction A with
  | zero => simp
  | succ A ih => rw [Nat.succ_mul, sum_range_add, ih, sum_range_succ]

theorem sum_chunks (f : ℕ → ℝ) : ∑ n ∈ range 2048, f n = ∑ a ∈ range 16, ∑ c ∈ range 128, f (a * 128 + c) :=
  sum_blocks 128 16 f

/-- The sum over one chunk, written over all positions. -/
theorem sum_chunk {a : ℕ} (ha : a < 16) (f : ℕ → ℝ) :
    ∑ c ∈ range 128, f (a * 128 + c) = ∑ n ∈ range 2048, if n / 128 = a then f n else 0 := by
  rw [sum_chunks, sum_eq_single (s := range 16) a]
  · refine sum_congr rfl fun c hc => ?_
    rw [if_pos (by have := mem_range.1 hc; omega)]
  · intro b _ hb
    refine sum_eq_zero fun c hc => ?_
    rw [if_neg (by have := mem_range.1 hc; omega)]
  · intro h; exact absurd (mem_range.2 ha) h

theorem wt_pos {g x : ℝ} (h : 0 ≤ x) : wt g x = Real.exp (g * x) := if_pos h
theorem wt_neg {g x : ℝ} (h : x < 0) : wt g x = 0 := if_neg (not_le.2 h)

theorem wt_le {m n : ℕ} (g : ℝ) (h : m ≤ n) : wt g ((n : ℝ) - m) = Real.exp (g * ((n : ℝ) - m)) :=
  wt_pos (sub_nonneg.2 (Nat.cast_le.2 h))
theorem wt_lt {m n : ℕ} (g : ℝ) (h : n < m) : wt g ((n : ℝ) - m) = 0 :=
  wt_neg (sub_neg.2 (Nat.cast_lt.2 h))

theorem exp_mul3 {g a b c : ℝ} (h : a + b = c) : Real.exp (g * a) * Real.exp (g * b) = Real.exp (g * c) := by
  rw [← Real.exp_add, ← h]; congr 1; ring

namespace Chain

variable (g : ℝ) (q k v ct s0 : ℕ → ℕ → ℝ)

/-! ## The chunk form -/

def kv (a d e : ℕ) : ℝ := ∑ m ∈ range 128, k (a * 128 + m) d * Real.exp (g * (127 - m)) * v (a * 128 + m) e
def S : ℕ → ℕ → ℕ → ℝ
  | 0 => s0
  | a + 1 => fun d e => S a d e * Real.exp (g * 128) + kv g k v a d e
def dS (a d e : ℕ) : ℝ := ∑ c ∈ range 128, ct (a * 128 + c) e * (q (a * 128 + c) d * Real.exp (g * (c + 1)))
/-- The gradient carried back to just before the last `t` chunks. -/
def Lr : ℕ → ℕ → ℕ → ℝ
  | 0 => fun _ _ => 0
  | t + 1 => fun d e => dS g q ct (15 - t) d e + Lr t d e * Real.exp (g * 128)
theorem S_succ (a d e : ℕ) : S g k v s0 (a + 1) d e = S g k v s0 a d e * Real.exp (g * 128) + kv g k v a d e := rfl
theorem Lr_succ (t d e : ℕ) : Lr g q ct (t + 1) d e = dS g q ct (15 - t) d e + Lr g q ct t d e * Real.exp (g * 128) := rfl
/-- The gradient of the decay of a whole chunk, summed over the last `t` chunks. -/
def W : ℕ → ℝ
  | 0 => 0
  | t + 1 => W t + ∑ d ∈ range 128, ∑ e ∈ range 128, S g k v s0 (15 - t) d e * Lr g q ct t d e
def X (a c d : ℕ) : ℝ := ∑ e ∈ range 128, ct (a * 128 + c) e * S g k v s0 a d e
def dkk (a m d : ℕ) : ℝ := ∑ e ∈ range 128, Lr g q ct (15 - a) d e * v (a * 128 + m) e
def raw (a c m : ℕ) : ℝ := ∑ d ∈ range 128, q (a * 128 + c) d * k (a * 128 + m) d
def dsc (a c m : ℕ) : ℝ := ∑ e ∈ range 128, ct (a * 128 + c) e * v (a * 128 + m) e
def dq (a c d : ℕ) : ℝ :=
  X g k v ct s0 a c d * Real.exp (g * (c + 1)) +
    ∑ m ∈ range 128, dsc v ct a c m * wt g ((c : ℝ) - m) * k (a * 128 + m) d
def dk (a m d : ℕ) : ℝ :=
  dkk g q v ct a m d * Real.exp (g * (127 - m)) +
    ∑ c ∈ range 128, dsc v ct a c m * wt g ((c : ℝ) - m) * q (a * 128 + c) d
def dv (a m e : ℕ) : ℝ :=
  (∑ d ∈ range 128, Lr g q ct (15 - a) d e * (k (a * 128 + m) d * Real.exp (g * (127 - m)))) +
    ∑ c ∈ range 128, ct (a * 128 + c) e * (raw q k a c m * wt g ((c : ℝ) - m))
def dlg : ℝ :=
  W g q k v ct s0 16 * Real.exp (g * 128) * 128 +
    (∑ m ∈ range 128, (∑ a ∈ range 16, ∑ d ∈ range 128, k (a * 128 + m) d * dkk g q v ct a m d) * Real.exp (g * (127 - m)) * (127 - m)) +
    (∑ c ∈ range 128, (∑ a ∈ range 16, ∑ d ∈ range 128, q (a * 128 + c) d * X g k v ct s0 a c d) * Real.exp (g * (c + 1)) * (c + 1)) +
    ∑ c ∈ range 128, ∑ m ∈ range 128, (∑ a ∈ range 16, raw q k a c m * dsc v ct a c m) * (wt g ((c : ℝ) - m) * ((c : ℝ) - m))

/-! ## The carried arrays as sums over positions -/

theorem S_eq (a : ℕ) (ha : a ≤ 16) (d e : ℕ) :
    S g k v s0 a d e = Real.exp (g * (128 * a)) * s0 d e +
      ∑ n ∈ range 2048, if n / 128 < a then Real.exp (g * (128 * a - 1 - n)) * (k n d * v n e) else 0 := by
  induction a with
  | zero => simp [S]
  | succ a ih =>
    have hc : kv g k v a d e = ∑ n ∈ range 2048, if n / 128 = a then k n d * Real.exp (g * (128 * a + 127 - n)) * v n e else 0 := by
      rw [← sum_chunk (by omega)]
      refine sum_congr rfl fun c _ => ?_
      push_cast; congr 4; ring
    rw [S_succ, ih (by omega), hc, add_mul, sum_mul, add_assoc, ← sum_add_distrib]
    congr 1
    · have h := exp_mul3 (g := g) (a := 128 * a) (b := 128) (c := 128 * ((a + 1 : ℕ) : ℝ)) (by push_cast; ring)
      rw [← h]; ring
    · refine sum_congr rfl fun n _ => ?_
      rcases lt_trichotomy (n / 128) a with h | h | h
      · rw [if_pos h, if_neg (by omega), if_pos (by omega), add_zero,
          ← exp_mul3 (g := g) (a := 128 * a - 1 - n) (b := 128) (c := 128 * ((a + 1 : ℕ) : ℝ) - 1 - n) (by push_cast; ring)]
        ring
      · rw [if_neg (by omega), if_pos h, if_pos (by omega), zero_mul, zero_add]
        rw [show (128 * (a : ℝ) + 127 - n) = 128 * ((a + 1 : ℕ) : ℝ) - 1 - n by push_cast; ring]
        ring
      · rw [if_neg (by omega), if_neg (by omega), if_neg (by omega)]; ring

theorem Lr_eq (t : ℕ) (ht : t ≤ 16) (d e : ℕ) :
    Lr g q ct t d e =
      ∑ n ∈ range 2048, if 16 - t ≤ n / 128 then Real.exp (g * (n + 1 + 128 * t - 2048)) * (q n d * ct n e) else 0 := by
  induction t with
  | zero =>
    rw [Lr, eq_comm]
    refine sum_eq_zero fun n hn => if_neg ?_
    have := mem_range.1 hn; omega
  | succ t ih =>
    have hc : dS g q ct (15 - t) d e =
        ∑ n ∈ range 2048, if n / 128 = 15 - t then ct n e * (q n d * Real.exp (g * (n + 1 + 128 * ((t + 1 : ℕ) : ℝ) - 2048))) else 0 := by
      rw [← sum_chunk (by omega)]
      refine sum_congr rfl fun c _ => ?_
      obtain ⟨u, hu⟩ : ∃ u, t + u = 15 := ⟨15 - t, by omega⟩
      have hu' : (t : ℝ) + u = 15 := by exact_mod_cast hu
      rw [show 15 - t = u by omega]
      push_cast
      rw [show (u : ℝ) = 15 - t by linarith]
      congr 4; ring
    rw [Lr_succ, ih (by omega), hc, sum_mul, ← sum_add_distrib]
    refine sum_congr rfl fun n _ => ?_
    rcases lt_trichotomy (n / 128) (15 - t) with h | h | h
    · rw [if_neg (by omega), if_neg (by omega), if_neg (by omega)]; ring
    · rw [if_pos h, if_neg (by omega), if_pos (by omega)]; ring
    · rw [if_neg (by omega), if_pos (by omega), if_pos (by omega), zero_add,
        ← exp_mul3 (g := g) (a := n + 1 + 128 * t - 2048) (b := 128) (c := n + 1 + 128 * ((t + 1 : ℕ) : ℝ) - 2048) (by push_cast; ring)]
      ring

theorem Lr_eq' (a : ℕ) (ha : a < 16) (d e : ℕ) :
    Lr g q ct (15 - a) d e =
      ∑ n ∈ range 2048, if a < n / 128 then Real.exp (g * (n - 127 - 128 * a)) * (q n d * ct n e) else 0 := by
  rw [Lr_eq _ _ _ _ (by omega)]
  refine sum_congr rfl fun n _ => ?_
  have h : ((15 - a : ℕ) : ℝ) = 15 - a := by rw [Nat.cast_sub (by omega)]; norm_num
  rw [h]
  refine if_congr (by omega) ?_ rfl
  congr 3; ring

theorem ds0_eq (d e : ℕ) : Lr g q ct 16 d e = ∑ n ∈ range 2048, Real.exp (g * (n + 1)) * (q n d * ct n e) := by
  rw [Lr_eq _ _ _ _ le_rfl]
  refine sum_congr rfl fun n _ => ?_
  rw [if_pos (by omega)]
  congr 3; push_cast; ring

/-! ## The gradients as sums over pairs of positions -/

theorem dq_eq {a c : ℕ} (ha : a < 16) (hc : c < 128) (d : ℕ) :
    dq g k v ct s0 a c d = Real.exp (g * (((a * 128 + c : ℕ) : ℝ) + 1)) * (∑ e ∈ range 128, ct (a * 128 + c) e * s0 d e) +
      ∑ M ∈ range 2048, dot v ct M (a * 128 + c) * wt g (((a * 128 + c : ℕ) : ℝ) - M) * k M d := by
  have hX : X g k v ct s0 a c d = Real.exp (g * (128 * a)) * (∑ e ∈ range 128, ct (a * 128 + c) e * s0 d e) +
      ∑ n ∈ range 2048, if n / 128 < a then Real.exp (g * (128 * a - 1 - n)) * (dot v ct n (a * 128 + c) * k n d) else 0 := by
    unfold X
    simp only [S_eq g k v s0 a ha.le, mul_add, sum_add_distrib, mul_sum]
    congr 1
    · refine sum_congr rfl fun e _ => by ring
    · rw [sum_comm]
      refine sum_congr rfl fun n _ => ?_
      split_ifs
      · unfold dot; rw [sum_mul, mul_sum]; refine sum_congr rfl fun e _ => by ring
      · simp
  have hI : ∑ m ∈ range 128, dsc v ct a c m * wt g ((c : ℝ) - m) * k (a * 128 + m) d =
      ∑ n ∈ range 2048, if n / 128 = a then dot v ct n (a * 128 + c) * wt g (((a * 128 + c : ℕ) : ℝ) - n) * k n d else 0 := by
    rw [← sum_chunk ha]
    refine sum_congr rfl fun m _ => ?_
    congr 2
    · unfold dsc dot; refine sum_congr rfl fun e _ => by ring
    · congr 1; push_cast; ring
  unfold dq
  rw [hX, hI, add_mul, add_assoc, sum_mul, ← sum_add_distrib]
  congr 1
  · have h := exp_mul3 (g := g) (a := 128 * a) (b := c + 1) (c := ((a * 128 + c : ℕ) : ℝ) + 1) (by push_cast; ring)
    rw [← h]; ring
  · refine sum_congr rfl fun n _ => ?_
    rcases lt_trichotomy (n / 128) a with h | h | h
    · rw [if_pos h, if_neg (by omega), add_zero, wt_le g (by omega),
        ← exp_mul3 (g := g) (a := 128 * a - 1 - n) (b := c + 1) (c := ((a * 128 + c : ℕ) : ℝ) - n) (by push_cast; ring)]
      ring
    · rw [if_neg (by omega), if_pos h]; ring
    · rw [if_neg (by omega), if_neg (by omega), wt_lt g (by omega)]; ring

theorem dkk_eq {a : ℕ} (ha : a < 16) (m d : ℕ) :
    dkk g q v ct a m d =
      ∑ n ∈ range 2048, if a < n / 128 then Real.exp (g * (n - 127 - 128 * a)) * (dot v ct (a * 128 + m) n * q n d) else 0 := by
  unfold dkk
  simp only [Lr_eq' g q ct a ha, sum_mul]
  rw [sum_comm]
  refine sum_congr rfl fun n _ => ?_
  split_ifs
  · unfold dot; rw [sum_mul, mul_sum]; refine sum_congr rfl fun e _ => by ring
  · simp

theorem dk_eq {a m : ℕ} (ha : a < 16) (hm : m < 128) (d : ℕ) :
    dk g q v ct a m d = ∑ N ∈ range 2048, dot v ct (a * 128 + m) N * wt g ((N : ℝ) - ((a * 128 + m : ℕ) : ℝ)) * q N d := by
  have hI : ∑ c ∈ range 128, dsc v ct a c m * wt g ((c : ℝ) - m) * q (a * 128 + c) d =
      ∑ n ∈ range 2048, if n / 128 = a then dot v ct (a * 128 + m) n * wt g ((n : ℝ) - ((a * 128 + m : ℕ) : ℝ)) * q n d else 0 := by
    rw [← sum_chunk ha]
    refine sum_congr rfl fun c _ => ?_
    congr 2
    · unfold dsc dot; refine sum_congr rfl fun e _ => by ring
    · congr 1; push_cast; ring
  unfold dk
  rw [dkk_eq g q v ct ha, hI, sum_mul, ← sum_add_distrib]
  refine sum_congr rfl fun n _ => ?_
  rcases lt_trichotomy a (n / 128) with h | h | h
  · rw [if_pos h, if_neg (by omega), add_zero, wt_le g (by omega),
      ← exp_mul3 (g := g) (a := n - 127 - 128 * a) (b := 127 - m) (c := (n : ℝ) - ((a * 128 + m : ℕ) : ℝ)) (by push_cast; ring)]
    ring
  · rw [if_neg (by omega), if_pos h.symm]; ring
  · rw [if_neg (by omega), if_neg (by omega), wt_lt g (by omega)]; ring

theorem dv_eq {a m : ℕ} (ha : a < 16) (hm : m < 128) (e : ℕ) :
    dv g q k ct a m e = ∑ N ∈ range 2048, dot k q (a * 128 + m) N * wt g ((N : ℝ) - ((a * 128 + m : ℕ) : ℝ)) * ct N e := by
  have hL : (∑ d ∈ range 128, Lr g q ct (15 - a) d e * (k (a * 128 + m) d * Real.exp (g * (127 - m)))) =
      ∑ n ∈ range 2048, if a < n / 128 then Real.exp (g * (n - 127 - 128 * a)) * Real.exp (g * (127 - m)) * (dot k q (a * 128 + m) n * ct n e) else 0 := by
    simp only [Lr_eq' g q ct a ha, sum_mul]
    rw [sum_comm]
    refine sum_congr rfl fun n _ => ?_
    split_ifs
    · unfold dot; rw [sum_mul, mul_sum]; refine sum_congr rfl fun e _ => by ring
    · simp
  have hI : ∑ c ∈ range 128, ct (a * 128 + c) e * (raw q k a c m * wt g ((c : ℝ) - m)) =
      ∑ n ∈ range 2048, if n / 128 = a then dot k q (a * 128 + m) n * wt g ((n : ℝ) - ((a * 128 + m : ℕ) : ℝ)) * ct n e else 0 := by
    rw [← sum_chunk ha]
    refine sum_congr rfl fun c _ => ?_
    rw [mul_comm]
    congr 2
    · unfold raw dot; refine sum_congr rfl fun e _ => by ring
    · congr 1; push_cast; ring
  unfold dv
  rw [hL, hI, ← sum_add_distrib]
  refine sum_congr rfl fun n _ => ?_
  rcases lt_trichotomy a (n / 128) with h | h | h
  · rw [if_pos h, if_neg (by omega), add_zero, wt_le g (by omega), exp_mul3 (c := (n : ℝ) - ((a * 128 + m : ℕ) : ℝ)) (by push_cast; ring)]
    ring
  · rw [if_neg (by omega), if_pos h.symm]; ring
  · rw [if_neg (by omega), if_neg (by omega), wt_lt g (by omega)]; ring

/-! ## The slope of the log decay -/

/-- Chunks strictly between the chunks of two positions. -/
theorem count_between : ∀ x < 16, ∀ y < 16, (∑ a ∈ range 16, if x < a ∧ a < y then 1 else 0) = y - x - 1 := by
  decide +kernel
theorem count_before : ∀ y < 16, (∑ a ∈ range 16, if a < y then 1 else 0) = y := by
  decide +kernel

theorem sum_between {x y : ℕ} (hx : x < 16) (hy : y < 16) (h : x < y) (w : ℝ) :
    (∑ a ∈ range 16, if x < a ∧ a < y then w else 0) = ((y : ℝ) - x - 1) * w := by
  have h1 := count_between x hx y hy
  have h2 : ((∑ a ∈ range 16, if x < a ∧ a < y then (1 : ℕ) else 0 : ℕ) : ℝ) = (y : ℝ) - x - 1 := by
    rw [h1, Nat.cast_sub (by omega), Nat.cast_sub (by omega)]; norm_num
  push_cast at h2
  rw [← h2, sum_mul]
  refine sum_congr rfl fun a _ => ?_
  split_ifs <;> simp

theorem sum_before {y : ℕ} (hy : y < 16) (w : ℝ) : (∑ a ∈ range 16, if a < y then w else 0) = (y : ℝ) * w := by
  have h2 : ((∑ a ∈ range 16, if a < y then (1 : ℕ) else 0 : ℕ) : ℝ) = (y : ℝ) := by rw [count_before y hy]
  push_cast at h2
  rw [← h2, sum_mul]
  refine sum_congr rfl fun a _ => ?_
  split_ifs <;> simp

/-- One pair's weight. -/
def P (M N : ℕ) : ℝ := dot v ct M N * dot k q M N * wt g ((N : ℝ) - M)
/-- One query position's weight against the state before the first chunk. -/
def T (N : ℕ) : ℝ := Real.exp (g * (N + 1)) * ∑ d ∈ range 128, ∑ e ∈ range 128, q N d * (ct N e * s0 d e)

theorem W_eq_sum (t : ℕ) : W g q k v ct s0 t =
    ∑ u ∈ range t, ∑ d ∈ range 128, ∑ e ∈ range 128, S g k v s0 (15 - u) d e * Lr g q ct u d e := by
  induction t with
  | zero => rfl
  | succ t ih => rw [sum_range_succ, ← ih]; rfl

theorem cross_eq {a : ℕ} (ha : a < 16) :
    (∑ d ∈ range 128, ∑ e ∈ range 128, S g k v s0 a d e * Lr g q ct (15 - a) d e) * Real.exp (g * 128) =
      (∑ N ∈ range 2048, if a < N / 128 then T g q ct s0 N else 0) +
      ∑ M ∈ range 2048, ∑ N ∈ range 2048, if M / 128 < a ∧ a < N / 128 then P g q k v ct M N else 0 := by
  simp only [S_eq g k v s0 a ha.le, Lr_eq' g q ct a ha, add_mul, sum_add_distrib]
  congr 1
  · simp only [mul_sum, sum_mul]
    rw [sum_congr rfl fun d _ => sum_comm, sum_comm]
    refine sum_congr rfl fun N _ => ?_
    split_ifs
    · unfold T
      simp only [mul_sum]
      refine sum_congr rfl fun d _ => sum_congr rfl fun e _ => ?_
      rw [← exp_mul3 (g := g) (a := 128 * a) (b := N - 127 - 128 * a + 128) (c := (N : ℝ) + 1) (by ring),
        ← exp_mul3 (g := g) (a := N - 127 - 128 * a) (b := 128) (c := N - 127 - 128 * a + 128) (by ring)]
      ring
    · simp
  · simp only [mul_sum, sum_mul]
    rw [sum_congr rfl fun d _ => sum_comm, sum_comm]
    simp only [sum_comm (s := range 128) (t := range 2048)]
    rw [sum_comm]
    refine sum_congr rfl fun M _ => sum_congr rfl fun N _ => ?_
    by_cases h : M / 128 < a ∧ a < N / 128
    · simp only [if_pos h, if_pos h.1, if_pos h.2]
      unfold P dot
      rw [wt_le g (by omega), ← exp_mul3 (g := g) (a := 128 * a - 1 - M) (b := N - 127 - 128 * a + 128) (c := (N : ℝ) - M) (by ring),
        ← exp_mul3 (g := g) (a := N - 127 - 128 * a) (b := 128) (c := N - 127 - 128 * a + 128) (by ring)]
      simp only [sum_mul, mul_sum]
      refine sum_congr rfl fun d _ => sum_congr rfl fun e _ => ?_
      ring
    · rw [if_neg h]
      refine sum_eq_zero fun d _ => sum_eq_zero fun e _ => ?_
      by_cases h1 : M / 128 < a
      · rw [if_neg fun h2 => h ⟨h1, h2⟩]; ring
      · rw [if_neg h1]; ring

theorem W_eq : W g q k v ct s0 16 * Real.exp (g * 128) * 128 =
    (∑ N ∈ range 2048, (128 * ((N / 128 : ℕ) : ℝ)) * T g q ct s0 N) +
    ∑ M ∈ range 2048, ∑ N ∈ range 2048,
      if M / 128 < N / 128 then 128 * (((N / 128 : ℕ) : ℝ) - ((M / 128 : ℕ) : ℝ) - 1) * P g q k v ct M N else 0 := by
  have hW : W g q k v ct s0 16 = ∑ a ∈ range 16, ∑ d ∈ range 128, ∑ e ∈ range 128, S g k v s0 a d e * Lr g q ct (15 - a) d e := by
    rw [W_eq_sum, ← sum_range_reflect]
    refine sum_congr rfl fun u hu => ?_
    have := mem_range.1 hu
    rw [show 15 - (16 - 1 - u) = u by omega, show 16 - 1 - u = 15 - u by omega]
  rw [hW, sum_mul, sum_congr rfl fun a ha => cross_eq g q k v ct s0 (mem_range.1 ha), sum_add_distrib, add_mul]
  congr 1
  · rw [sum_comm, sum_mul]
    refine sum_congr rfl fun N hN => ?_
    rw [sum_before (by have := mem_range.1 hN; omega)]
    ring
  · rw [sum_comm, sum_mul]
    refine sum_congr rfl fun M hM => ?_
    rw [sum_comm, sum_mul]
    refine sum_congr rfl fun N hN => ?_
    have hM := mem_range.1 hM
    have hN := mem_range.1 hN
    by_cases h : M / 128 < N / 128
    · rw [sum_between (by omega) (by omega) h, if_pos h]; ring
    · rw [if_neg h, sum_eq_zero fun a _ => if_neg (by omega), zero_mul]

theorem slopeK_eq : (∑ m ∈ range 128, (∑ a ∈ range 16, ∑ d ∈ range 128, k (a * 128 + m) d * dkk g q v ct a m d) *
      Real.exp (g * (127 - m)) * (127 - m)) =
    ∑ M ∈ range 2048, ∑ N ∈ range 2048, if M / 128 < N / 128 then (127 - ((M % 128 : ℕ) : ℝ)) * P g q k v ct M N else 0 := by
  rw [sum_chunks fun M => _]
  simp only [sum_mul]
  rw [sum_comm]
  refine sum_congr rfl fun a ha => sum_congr rfl fun m hm => ?_
  have ha := mem_range.1 ha
  have hm := mem_range.1 hm
  simp only [dkk_eq g q v ct ha, mul_sum, sum_mul]
  rw [sum_comm]
  refine sum_congr rfl fun N _ => ?_
  rw [show (a * 128 + m) / 128 = a by omega, show (a * 128 + m) % 128 = m by omega]
  split_ifs with h
  · unfold P
    rw [wt_le g (by omega), ← exp_mul3 (g := g) (a := N - 127 - 128 * a) (b := 127 - m) (c := (N : ℝ) - ((a * 128 + m : ℕ) : ℝ)) (by push_cast; ring)]
    rw [show ∀ x y z w : ℝ, x * (y * dot k q (a * 128 + m) N * w) = x * y * w * dot k q (a * 128 + m) N from fun x y z w => by ring]
    · unfold dot
      rw [mul_sum]
      refine sum_congr rfl fun d _ => by ring
    · exact 0
  · simp

theorem X_eq {a c : ℕ} (ha : a < 16) (d : ℕ) :
    X g k v ct s0 a c d = Real.exp (g * (128 * a)) * (∑ e ∈ range 128, ct (a * 128 + c) e * s0 d e) +
      ∑ n ∈ range 2048, if n / 128 < a then Real.exp (g * (128 * a - 1 - n)) * (dot v ct n (a * 128 + c) * k n d) else 0 := by
  unfold X
  simp only [S_eq g k v s0 a ha.le, mul_add, sum_add_distrib, mul_sum]
  congr 1
  · refine sum_congr rfl fun e _ => by ring
  · rw [sum_comm]
    refine sum_congr rfl fun n _ => ?_
    split_ifs
    · unfold dot; rw [sum_mul, mul_sum]; refine sum_congr rfl fun e _ => by ring
    · simp

theorem slopeQ_eq : (∑ c ∈ range 128, (∑ a ∈ range 16, ∑ d ∈ range 128, q (a * 128 + c) d * X g k v ct s0 a c d) *
      Real.exp (g * (c + 1)) * (c + 1)) =
    (∑ N ∈ range 2048, (((N % 128 : ℕ) : ℝ) + 1) * T g q ct s0 N) +
    ∑ M ∈ range 2048, ∑ N ∈ range 2048, if M / 128 < N / 128 then (((N % 128 : ℕ) : ℝ) + 1) * P g q k v ct M N else 0 := by
  rw [sum_comm (s := range 2048) (t := range 2048), ← sum_add_distrib, sum_chunks fun N => _]
  simp only [sum_mul]
  rw [sum_comm]
  refine sum_congr rfl fun a ha => sum_congr rfl fun c hc => ?_
  have ha := mem_range.1 ha
  have hc := mem_range.1 hc
  rw [show (a * 128 + c) / 128 = a by omega, show (a * 128 + c) % 128 = c by omega]
  generalize hw : (c : ℝ) + 1 = w
  simp only [X_eq g k v ct s0 ha, mul_add, add_mul, sum_add_distrib]
  congr 1
  · unfold T
    rw [← exp_mul3 (g := g) (a := 128 * a) (b := w) (c := ((a * 128 + c : ℕ) : ℝ) + 1) (by push_cast; linarith)]
    simp only [mul_sum, sum_mul]
    refine sum_congr rfl fun d _ => sum_congr rfl fun e _ => by ring
  · simp only [mul_sum, sum_mul]
    rw [sum_comm]
    refine sum_congr rfl fun M _ => ?_
    split_ifs with h
    · unfold P
      rw [wt_le g (by omega), ← exp_mul3 (g := g) (a := 128 * a - 1 - M) (b := w) (c := ((a * 128 + c : ℕ) : ℝ) - M) (by push_cast; linarith)]
      unfold dot
      simp only [mul_sum, sum_mul]
      refine sum_congr rfl fun d _ => sum_congr rfl fun e _ => by ring
    · simp

theorem slopeIn_eq : (∑ c ∈ range 128, ∑ m ∈ range 128, (∑ a ∈ range 16, raw q k a c m * dsc v ct a c m) *
      (wt g ((c : ℝ) - m) * ((c : ℝ) - m))) =
    ∑ M ∈ range 2048, ∑ N ∈ range 2048, if M / 128 = N / 128 then ((N : ℝ) - M) * P g q k v ct M N else 0 := by
  rw [sum_comm (s := range 2048) (t := range 2048), sum_chunks fun N => _]
  simp only [sum_mul]
  rw [sum_congr rfl fun c _ => sum_comm, sum_comm]
  refine sum_congr rfl fun a ha => sum_congr rfl fun c hc => ?_
  have ha := mem_range.1 ha
  have hc := mem_range.1 hc
  rw [show (a * 128 + c) / 128 = a by omega, ← sum_chunk ha]
  refine sum_congr rfl fun m _ => ?_
  unfold P
  rw [show (((a * 128 + c : ℕ) : ℝ) - ((a * 128 + m : ℕ) : ℝ)) = (c : ℝ) - m by push_cast; ring,
    show raw q k a c m = dot k q (a * 128 + m) (a * 128 + c) from sum_congr rfl fun d _ => mul_comm _ _,
    show dsc v ct a c m = dot v ct (a * 128 + m) (a * 128 + c) from sum_congr rfl fun d _ => mul_comm _ _]
  ring

theorem dlg_eq : dlg g q k v ct s0 =
    (∑ N ∈ range 2048, ((N : ℝ) + 1) * T g q ct s0 N) +
    ∑ M ∈ range 2048, ∑ N ∈ range 2048, ((N : ℝ) - M) * P g q k v ct M N := by
  unfold dlg
  rw [W_eq, slopeK_eq, slopeQ_eq, slopeIn_eq]
  have reorder : ∀ a b c d e f : ℝ, a + b + c + (d + e) + f = (a + d) + (b + c + e + f) := fun _ _ _ _ _ _ => by ring
  rw [reorder]
  congr 1
  · rw [← sum_add_distrib]
    refine sum_congr rfl fun N _ => ?_
    have h : ((128 * (N / 128) + N % 128 : ℕ) : ℝ) = N := by rw [Nat.div_add_mod]
    push_cast at h
    rw [← h]; push_cast; ring
  · simp only [← sum_add_distrib]
    refine sum_congr rfl fun M _ => sum_congr rfl fun N _ => ?_
    have hN : ((128 * (N / 128) + N % 128 : ℕ) : ℝ) = N := by rw [Nat.div_add_mod]
    have hM : ((128 * (M / 128) + M % 128 : ℕ) : ℝ) = M := by rw [Nat.div_add_mod]
    push_cast at hN hM
    rcases lt_trichotomy (M / 128) (N / 128) with h | h | h
    · rw [if_pos h, if_pos h, if_pos h, if_neg (by omega)]
      rw [show ((N : ℝ) - M) = (128 * ((N / 128 : ℕ) : ℝ) + ((N % 128 : ℕ) : ℝ)) - (128 * ((M / 128 : ℕ) : ℝ) + ((M % 128 : ℕ) : ℝ)) by
        rw [hN, hM]]
      ring
    · rw [if_neg (by omega), if_neg (by omega), if_neg (by omega), if_pos h]; ring
    · rw [if_neg (by omega), if_neg (by omega), if_neg (by omega), if_neg (by omega)]
      unfold P
      rw [wt_lt g (by omega)]; ring

end Chain

end Cert.Ret

end
-- ==== Proof.Combine.lean ====
/-
  Two chains make one head: the positions in order with the decay `gf`, and the positions reversed with the decay
  `gb`, each starting from a state summed over the 256 context keys. Their gradients add up to the closed forms.
-/
module

public import proofs.«01_k».proof.Proof.Chain

@[expose] public section

noncomputable section

namespace Cert.Ret

open Finset

/-- Positions reversed. -/
def fl (A : ℕ → ℕ → ℝ) (n d : ℕ) : ℝ := A (2047 - n) d

variable (gf gb : ℝ) (Q K V D : ℕ → ℕ → ℝ)

/-- The state before the first chunk, on the way forward and on the way backward. -/
def s0f (d e : ℕ) : ℝ := ∑ p ∈ range 256, Real.exp (gf * (255 - p)) * K (2048 + p) d * V (2048 + p) e
def s0b (d e : ℕ) : ℝ := ∑ p ∈ range 256, Real.exp (gb * p) * K (2048 + p) d * V (2048 + p) e

theorem sum_split (f : ℕ → ℝ) : ∑ M ∈ range 2304, f M = (∑ M ∈ range 2048, f M) + ∑ p ∈ range 256, f (2048 + p) :=
  sum_range_add f 2048 256

theorem sum_flip (f : ℕ → ℝ) : ∑ n ∈ range 2048, f (2047 - n) = ∑ n ∈ range 2048, f n := sum_range_reflect f 2048

theorem cast_flip {n : ℕ} (h : n < 2048) : ((2047 - n : ℕ) : ℝ) = 2047 - n := by
  rw [Nat.cast_sub (by omega)]; norm_num

theorem flip_flip {n : ℕ} (h : n < 2048) : 2047 - (2047 - n) = n := by omega

theorem dot_fl (A B : ℕ → ℕ → ℝ) (M N : ℕ) : dot (fl A) (fl B) M N = dot A B (2047 - M) (2047 - N) := rfl

theorem df_lt {M : ℕ} (h : M < 2048) (N : ℕ) : df M N = (N : ℝ) - M := if_pos h
theorem df_ctx (p N : ℕ) : df (2048 + p) N = (N : ℝ) + 256 - p := by
  rw [df, if_neg (by omega)]; push_cast; ring
theorem db_ctx (p N : ℕ) : db (2048 + p) N = (2048 : ℝ) + p - N := by rw [db]; push_cast; ring
theorem wt_df_ctx {p N : ℕ} (hp : p < 256) : wt gf (df (2048 + p) N) = Real.exp (gf * ((N : ℝ) + 256 - p)) := by
  rw [df_ctx, wt_pos]
  have h1 : (p : ℝ) ≤ 256 := by exact_mod_cast hp.le
  have h2 : (0 : ℝ) ≤ N := Nat.cast_nonneg N
  linarith
theorem wt_db_ctx {p N : ℕ} (hN : N < 2048) : wt gb (db (2048 + p) N) = Real.exp (gb * ((2048 : ℝ) + p - N)) := by
  rw [db_ctx, wt_pos]
  have h1 : (N : ℝ) ≤ 2048 := by exact_mod_cast hN.le
  have h2 : (0 : ℝ) ≤ p := Nat.cast_nonneg p
  linarith

theorem pos_split (N : ℕ) : N / 128 * 128 + N % 128 = N := Nat.div_add_mod' N 128

theorem ctx_f (N d : ℕ) : (∑ e ∈ range 128, D N e * s0f gf K V d e) =
    ∑ p ∈ range 256, Real.exp (gf * (255 - p)) * (dot V D (2048 + p) N * K (2048 + p) d) := by
  unfold s0f
  simp only [mul_sum]
  rw [sum_comm]
  refine sum_congr rfl fun p _ => ?_
  unfold dot
  rw [sum_mul, mul_sum]
  refine sum_congr rfl fun e _ => by ring

theorem ctx_b (N d : ℕ) : (∑ e ∈ range 128, D N e * s0b gb K V d e) =
    ∑ p ∈ range 256, Real.exp (gb * p) * (dot V D (2048 + p) N * K (2048 + p) d) := by
  unfold s0b
  simp only [mul_sum]
  rw [sum_comm]
  refine sum_congr rfl fun p _ => ?_
  unfold dot
  rw [sum_mul, mul_sum]
  refine sum_congr rfl fun e _ => by ring

theorem dq_total {N : ℕ} (hN : N < 2048) (d : ℕ) :
    Chain.dq gf K V D (s0f gf K V) (N / 128) (N % 128) d +
      Chain.dq gb (fl K) (fl V) (fl D) (s0b gb K V) ((2047 - N) / 128) ((2047 - N) % 128) d = dqS gf gb K V D 2304 N d := by
  rw [Chain.dq_eq _ _ _ _ _ (by omega) (by omega), Chain.dq_eq _ _ _ _ _ (by omega) (by omega), pos_split, pos_split, ctx_f]
  rw [show (∑ e ∈ range 128, fl D (2047 - N) e * s0b gb K V d e) = ∑ e ∈ range 128, D N e * s0b gb K V d e by
    unfold fl; rw [flip_flip hN], ctx_b]
  rw [← sum_flip (fun M => dot (fl V) (fl D) M (2047 - N) * wt gb (((2047 - N : ℕ) : ℝ) - M) * fl K M d)]
  unfold dqS
  rw [sum_split]
  have reorder : ∀ a b c e : ℝ, a + b + (c + e) = (b + e) + (a + c) := fun _ _ _ _ => by ring
  rw [reorder, ← sum_add_distrib, mul_sum, mul_sum, ← sum_add_distrib]
  congr 1
  · refine sum_congr rfl fun M hM => ?_
    have hM := mem_range.1 hM
    rw [dot_fl, flip_flip hM, flip_flip hN, dec, df_lt hM, db, cast_flip hN, cast_flip hM, fl, flip_flip hM]
    rw [show (2047 - (N : ℝ) - (2047 - M)) = (M : ℝ) - N by ring]
    ring
  · refine sum_congr rfl fun p hp => ?_
    rw [dec, wt_df_ctx gf (mem_range.1 hp), wt_db_ctx gb hN, cast_flip hN,
      ← exp_mul3 (g := gf) (a := (N : ℝ) + 1) (b := 255 - p) (c := (N : ℝ) + 256 - p) (by ring),
      ← exp_mul3 (g := gb) (a := 2047 - (N : ℝ) + 1) (b := p) (c := (2048 : ℝ) + p - N) (by ring)]
    ring

theorem dk_total {M : ℕ} (hM : M < 2048) (d : ℕ) :
    Chain.dk gf Q V D (M / 128) (M % 128) d +
      Chain.dk gb (fl Q) (fl V) (fl D) ((2047 - M) / 128) ((2047 - M) % 128) d = dkS gf gb Q V D 2048 M d := by
  rw [Chain.dk_eq _ _ _ _ (by omega) (by omega), Chain.dk_eq _ _ _ _ (by omega) (by omega), pos_split, pos_split,
    ← sum_flip (fun N => dot (fl V) (fl D) (2047 - M) N * wt gb ((N : ℝ) - ((2047 - M : ℕ) : ℝ)) * fl Q N d), ← sum_add_distrib]
  refine sum_congr rfl fun N hN => ?_
  have hN := mem_range.1 hN
  rw [dot_fl, flip_flip hM, flip_flip hN, dec, df_lt hM, db, cast_flip hN, cast_flip hM, fl, flip_flip hN]
  rw [show (2047 - (N : ℝ) - (2047 - M)) = (M : ℝ) - N by ring]
  ring

theorem dv_total {M : ℕ} (hM : M < 2048) (e : ℕ) :
    Chain.dv gf Q K D (M / 128) (M % 128) e +
      Chain.dv gb (fl Q) (fl K) (fl D) ((2047 - M) / 128) ((2047 - M) % 128) e = dvS gf gb Q K D 2048 M e := by
  rw [Chain.dv_eq _ _ _ _ (by omega) (by omega), Chain.dv_eq _ _ _ _ (by omega) (by omega), pos_split, pos_split,
    ← sum_flip (fun N => dot (fl K) (fl Q) (2047 - M) N * wt gb ((N : ℝ) - ((2047 - M : ℕ) : ℝ)) * fl D N e), ← sum_add_distrib]
  refine sum_congr rfl fun N hN => ?_
  have hN := mem_range.1 hN
  rw [dot_fl, flip_flip hM, flip_flip hN, dec, df_lt hM, db, cast_flip hN, cast_flip hM, fl, flip_flip hN]
  rw [show (2047 - (N : ℝ) - (2047 - M)) = (M : ℝ) - N by ring]
  ring

/-- The gradient of the state before the first chunk, on the way forward and on the way backward. -/
def g0f : ℕ → ℕ → ℝ := Chain.Lr gf Q D 16
def g0b : ℕ → ℕ → ℝ := Chain.Lr gb (fl Q) (fl D) 16

theorem g0f_eq (d e : ℕ) : g0f gf Q D d e = ∑ N ∈ range 2048, Real.exp (gf * (N + 1)) * (Q N d * D N e) := Chain.ds0_eq gf Q D d e
theorem g0b_eq (d e : ℕ) : g0b gb Q D d e = ∑ N ∈ range 2048, Real.exp (gb * (2048 - N)) * (Q N d * D N e) := by
  refine (Chain.ds0_eq gb (fl Q) (fl D) d e).trans ?_
  rw [← sum_flip]
  refine sum_congr rfl fun N hN => ?_
  have hN := mem_range.1 hN
  rw [cast_flip hN, fl, fl, flip_flip hN]
  congr 3; ring

/-- Sums of a state's gradient against one context key's values. -/
theorem g0f_dot (p d : ℕ) : (∑ e ∈ range 128, g0f gf Q D d e * V (2048 + p) e) =
    ∑ N ∈ range 2048, Real.exp (gf * (N + 1)) * (dot V D (2048 + p) N * Q N d) := by
  simp only [g0f_eq, sum_mul]
  rw [sum_comm]
  refine sum_congr rfl fun N _ => ?_
  unfold dot
  rw [sum_mul, mul_sum]
  refine sum_congr rfl fun e _ => by ring
theorem g0b_dot (p d : ℕ) : (∑ e ∈ range 128, g0b gb Q D d e * V (2048 + p) e) =
    ∑ N ∈ range 2048, Real.exp (gb * (2048 - N)) * (dot V D (2048 + p) N * Q N d) := by
  simp only [g0b_eq, sum_mul]
  rw [sum_comm]
  refine sum_congr rfl fun N _ => ?_
  unfold dot
  rw [sum_mul, mul_sum]
  refine sum_congr rfl fun e _ => by ring

theorem dec_ctx {p N : ℕ} (hp : p < 256) (hN : N < 2048) : dec gf gb (2048 + p) N =
    Real.exp (gf * (255 - p)) * Real.exp (gf * (N + 1)) + Real.exp (gb * p) * Real.exp (gb * (2048 - N)) := by
  rw [dec, wt_df_ctx gf hp, wt_db_ctx gb hN, exp_mul3 (c := (N : ℝ) + 256 - p) (by ring), exp_mul3 (c := (2048 : ℝ) + p - N) (by ring)]

theorem dk_ctx {p : ℕ} (hp : p < 256) (d : ℕ) :
    Real.exp (gb * p) * (∑ e ∈ range 128, g0b gb Q D d e * V (2048 + p) e) +
      Real.exp (gf * (255 - p)) * (∑ e ∈ range 128, g0f gf Q D d e * V (2048 + p) e) = dkS gf gb Q V D 2048 (2048 + p) d := by
  rw [g0f_dot, g0b_dot, mul_sum, mul_sum, ← sum_add_distrib]
  refine sum_congr rfl fun N hN => ?_
  rw [dec_ctx gf gb hp (mem_range.1 hN)]
  ring

theorem dv_ctx {p : ℕ} (hp : p < 256) (e : ℕ) :
    (∑ d ∈ range 128, g0b gb Q D d e * (Real.exp (gb * p) * K (2048 + p) d)) +
      (∑ d ∈ range 128, g0f gf Q D d e * (Real.exp (gf * (255 - p)) * K (2048 + p) d)) = dvS gf gb Q K D 2048 (2048 + p) e := by
  simp only [g0b_eq, g0f_eq, sum_mul]
  rw [sum_comm, sum_comm (s := range 128), ← sum_add_distrib]
  refine sum_congr rfl fun N hN => ?_
  rw [dec_ctx gf gb hp (mem_range.1 hN), ← sum_add_distrib]
  unfold dot
  rw [sum_mul, sum_mul]
  refine sum_congr rfl fun d _ => by ring

/-! ## The slopes of the two log decays -/

theorem dlg_f :
    Chain.dlg gf Q K V D (s0f gf K V) + (∑ p ∈ range 256, (∑ d ∈ range 128, (∑ e ∈ range 128, g0f gf Q D d e * V (2048 + p) e) * K (2048 + p) d) *
      Real.exp (gf * (255 - p)) * (255 - p)) = ∑ M ∈ range 2304, ∑ N ∈ range 2048, gF gf Q K V D M N := by
  have hT : ∀ N, Chain.T gf Q D (s0f gf K V) N =
      ∑ p ∈ range 256, Real.exp (gf * (255 - p)) * Real.exp (gf * (N + 1)) * (dot V D (2048 + p) N * dot K Q (2048 + p) N) := by
    intro N
    unfold Chain.T
    rw [show (∑ d ∈ range 128, ∑ e ∈ range 128, Q N d * (D N e * s0f gf K V d e)) = ∑ d ∈ range 128, Q N d * ∑ e ∈ range 128, D N e * s0f gf K V d e
      from sum_congr rfl fun d _ => (mul_sum _ _ _).symm]
    simp only [ctx_f, mul_sum]
    rw [sum_comm]
    refine sum_congr rfl fun p _ => ?_
    rw [show dot K Q (2048 + p) N = ∑ d ∈ range 128, K (2048 + p) d * Q N d from rfl, mul_sum, mul_sum]
    refine sum_congr rfl fun d _ => by ring
  rw [Chain.dlg_eq, sum_split, add_assoc, add_comm, add_assoc]
  congr 1
  · refine sum_congr rfl fun M hM => sum_congr rfl fun N _ => ?_
    unfold Chain.P gF
    rw [df_lt (mem_range.1 hM)]
    ring
  · simp only [hT, g0f_dot, mul_sum, sum_mul]
    rw [sum_comm (s := range 2048), ← sum_add_distrib]
    refine sum_congr rfl fun p hp => ?_
    rw [sum_comm (s := range 128), ← sum_add_distrib]
    refine sum_congr rfl fun N _ => ?_
    unfold gF
    rw [wt_df_ctx gf (mem_range.1 hp), df_ctx, ← exp_mul3 (g := gf) (a := 255 - p) (b := (N : ℝ) + 1) (c := (N : ℝ) + 256 - p) (by ring)]
    rw [show (∑ d ∈ range 128, Real.exp (gf * (N + 1)) * (dot V D (2048 + p) N * Q N d) * K (2048 + p) d * Real.exp (gf * (255 - p)) * (255 - p)) =
      Real.exp (gf * (N + 1)) * dot V D (2048 + p) N * Real.exp (gf * (255 - p)) * (255 - p) * dot K Q (2048 + p) N from ?_]
    · ring
    · unfold dot
      rw [mul_sum (s := range 128) (f := fun d => K (2048 + p) d * Q N d)]
      refine sum_congr rfl fun d _ => by ring

theorem dlg_b :
    Chain.dlg gb (fl Q) (fl K) (fl V) (fl D) (s0b gb K V) + (∑ p ∈ range 256, (∑ d ∈ range 128, (∑ e ∈ range 128, g0b gb Q D d e * V (2048 + p) e) * K (2048 + p) d) *
      Real.exp (gb * p) * p) = ∑ M ∈ range 2304, ∑ N ∈ range 2048, gB gb Q K V D M N := by
  have hT : ∀ N ∈ range 2048, Chain.T gb (fl Q) (fl D) (s0b gb K V) (2047 - N) =
      ∑ p ∈ range 256, Real.exp (gb * p) * Real.exp (gb * (2048 - N)) * (dot V D (2048 + p) N * dot K Q (2048 + p) N) := by
    intro N hN
    have hN := mem_range.1 hN
    unfold Chain.T
    rw [show (∑ d ∈ range 128, ∑ e ∈ range 128, fl Q (2047 - N) d * (fl D (2047 - N) e * s0b gb K V d e)) = ∑ d ∈ range 128, Q N d * ∑ e ∈ range 128, D N e * s0b gb K V d e
      from sum_congr rfl fun d _ => by unfold fl; rw [flip_flip hN, mul_sum], cast_flip hN]
    simp only [ctx_b, mul_sum]
    rw [sum_comm]
    refine sum_congr rfl fun p _ => ?_
    rw [show dot K Q (2048 + p) N = ∑ d ∈ range 128, K (2048 + p) d * Q N d from rfl, mul_sum, mul_sum]
    refine sum_congr rfl fun d _ => ?_
    rw [show (2047 - (N : ℝ) + 1) = 2048 - N by ring]
    ring
  rw [Chain.dlg_eq, sum_split, add_assoc, add_comm, add_assoc]
  congr 1
  · rw [← sum_flip fun M => ∑ N ∈ range 2048, ((N : ℝ) - M) * Chain.P gb (fl Q) (fl K) (fl V) (fl D) M N]
    refine sum_congr rfl fun M hM => ?_
    rw [← sum_flip fun N => ((N : ℝ) - ((2047 - M : ℕ) : ℝ)) * Chain.P gb (fl Q) (fl K) (fl V) (fl D) (2047 - M) N]
    refine sum_congr rfl fun N hN => ?_
    have hM := mem_range.1 hM
    have hN := mem_range.1 hN
    unfold Chain.P gB
    rw [dot_fl, dot_fl, flip_flip hM, flip_flip hN, cast_flip hM, cast_flip hN, db,
      show (2047 - (N : ℝ) - (2047 - M)) = (M : ℝ) - N by ring]
    ring
  · have hT' : ∑ N ∈ range 2048, (((2047 - N : ℕ) : ℝ) + 1) * Chain.T gb (fl Q) (fl D) (s0b gb K V) (2047 - N) =
        ∑ N ∈ range 2048, (2047 - (N : ℝ) + 1) * ∑ p ∈ range 256, Real.exp (gb * p) * Real.exp (gb * (2048 - N)) *
          (dot V D (2048 + p) N * dot K Q (2048 + p) N) :=
      sum_congr rfl fun N hN => by rw [hT N hN, cast_flip (mem_range.1 hN)]
    rw [← sum_flip (fun N => ((N : ℝ) + 1) * Chain.T gb (fl Q) (fl D) (s0b gb K V) N), hT']
    simp only [g0b_dot, mul_sum, sum_mul]
    rw [sum_comm (s := range 2048), ← sum_add_distrib]
    refine sum_congr rfl fun p hp => ?_
    rw [sum_comm (s := range 128), ← sum_add_distrib]
    refine sum_congr rfl fun N hN => ?_
    unfold gB
    rw [wt_db_ctx gb (mem_range.1 hN), db_ctx, ← exp_mul3 (g := gb) (a := p) (b := 2048 - (N : ℝ)) (c := (2048 : ℝ) + p - N) (by ring)]
    rw [show (∑ d ∈ range 128, Real.exp (gb * (2048 - N)) * (dot V D (2048 + p) N * Q N d) * K (2048 + p) d * Real.exp (gb * p) * p) =
      Real.exp (gb * (2048 - N)) * dot V D (2048 + p) N * Real.exp (gb * p) * p * dot K Q (2048 + p) N from ?_]
    · ring
    · unfold dot
      rw [mul_sum (s := range 128) (f := fun d => K (2048 + p) d * Q N d)]
      refine sum_congr rfl fun d _ => by ring

/-- The twelve tiles cover every pair of positions once. -/
theorem tiles_eq (G : ℕ → ℕ → ℝ) : tiles G 12 = ∑ M ∈ range 2304, ∑ N ∈ range 2048, G M N := by
  have h1 : tiles G 12 = ∑ kj ∈ range 3, ∑ qi ∈ range 4, tile G kj qi := by
    simp [tiles, sum_range_succ]; ring
  have h2 : ∀ f : ℕ → ℝ, ∑ M ∈ range 2304, f M = ∑ kj ∈ range 3, ∑ a ∈ range 768, f (768 * kj + a) := fun f => by
    rw [show 2304 = 3 * 768 from rfl, sum_blocks]; simp only [mul_comm]
  have h3 : ∀ f : ℕ → ℝ, ∑ N ∈ range 2048, f N = ∑ qi ∈ range 4, ∑ b ∈ range 512, f (512 * qi + b) := fun f => by
    rw [show 2048 = 4 * 512 from rfl, sum_blocks]; simp only [mul_comm]
  rw [h1, h2]
  refine sum_congr rfl fun kj _ => ?_
  rw [sum_congr rfl fun a _ => h3 _, sum_comm]
  rfl

end Cert.Ret

end
-- ==== Proof.RInputs.lean ====
/-
  The reference's stacked inputs and its decay tables, entry by entry, as real numbers. Heads 0 to 7 run forward,
  heads 8 to 15 are the same heads with the positions reversed.
-/
module

public import proofs.«01_k».proof.Proof.Combine
public import proofs.«01_k».proof.Proof.Gen.ReferenceIdeal.Read

@[expose] public section

noncomputable section

namespace Cert.ReferenceIdeal.Value

open Idealize.ShloMosaic Idealize.ShloMosaic.TcCoe Idealize.SL.Sem
open Cert.ReferenceIdeal Cert.ReferenceIdeal.Gen Cert.ReferenceIdeal.Read Cert.Ret Finset

/-- Sixteen stacked heads from eight. -/
def st (X : ℕ → ℕ → ℕ → ℝ) (j : ℕ) : ℕ → ℕ → ℝ := if j < 8 then X j else fl (X (j - 8))
def sg (G : ℕ → ℕ → ℝ) (j : ℕ) : ℝ := if j < 8 then G 0 j else G 1 (j - 8)
def s0 (G : ℕ → ℕ → ℝ) (K V : ℕ → ℕ → ℕ → ℝ) (j : ℕ) : ℕ → ℕ → ℝ :=
  if j < 8 then s0f (G 0 j) (K j) (V j) else s0b (G 1 (j - 8)) (K (j - 8)) (V (j - 8))

variable {x0 : (⟨S8x2048x128, .bf16⟩ : BufTy).Contents (Elt Ideal)} {x1 x2 : (⟨S8x2304x128, .bf16⟩ : BufTy).Contents (Elt Ideal)}
  {x3 : (⟨S2x8, .f32⟩ : BufTy).Contents (Elt Ideal)} {x4 : (⟨S8x2048x128, .f32⟩ : BufTy).Contents (Elt Ideal)}

/-! ## Constants -/

theorem bits_255 : Ideal.ofBits .f32 1132396544#32 = ((255 : ℝ) : EReal) := by
  simp [Ideal.ofBits, Ideal.ieee, -EReal.coe_mul]; norm_num
theorem bits_127 : Ideal.ofBits .f32 1123942400#32 = ((127 : ℝ) : EReal) := by
  simp [Ideal.ofBits, Ideal.ieee, -EReal.coe_mul]; norm_num
theorem bits_128 : Ideal.ofBits .f32 1124073472#32 = ((128 : ℝ) : EReal) := by
  simp [Ideal.ofBits, Ideal.ieee, -EReal.coe_mul]; norm_num

theorem word {n : ℕ} (h : n < 256) : (FloatOps.sitofp (F := Ideal) .f32 (BitVec.ofNat 32 n) : EReal) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  norm_cast

theorem fl_rev (A : ℕ → ℕ → ℝ) (n : Fin 2048) (d : ℕ) : A n.rev.val d = fl A n.val d := by
  unfold fl; rw [Fin.val_rev]; congr 1; omega

theorem st_lt (X : ℕ → ℕ → ℕ → ℝ) {j : ℕ} (h : j < 8) : st X j = X j := if_pos h
theorem st_ge (X : ℕ → ℕ → ℕ → ℝ) {j : ℕ} (h : ¬ j < 8) : st X j = fl (X (j - 8)) := if_neg h

/-! ## The three stacked inputs -/

theorem v37 (h0 : ∀ i, Fine (x0 i)) (j : Fin 16) (n : Fin 2048) (d : Fin 128) :
    val_main_v37 (F := Ideal) x0 (ix3 j n d) = ((st (rd3 x0) j.val n.val d.val : ℝ) : EReal) := by
  unfold val_main_v37 val_main_v36 val_main_v0
  pointwise
  by_cases h : j.val < 8
  · rw [dif_pos h, st_lt _ h]
    exact rd3_eq h0 _ _ _
  · rw [dif_neg h, st_ge _ h, ← fl_rev]
    exact rd3_eq h0 ⟨j.val - 8, by omega⟩ n.rev d

theorem v39 (h1 : ∀ i, Fine (x1 i)) (j : Fin 16) (n : Fin 2048) (d : Fin 128) :
    val_main_v39 (F := Ideal) x1 (ix3 j n d) = ((st (rd3 x1) j.val n.val d.val : ℝ) : EReal) := by
  unfold val_main_v39 val_main_v38 val_main_v33 val_main_v1
  pointwise
  by_cases h : j.val < 8
  · rw [dif_pos h, st_lt _ h]
    exact rd3_eq h1 _ _ _
  · rw [dif_neg h, st_ge _ h, ← fl_rev]
    exact rd3_eq h1 ⟨j.val - 8, by omega⟩ ⟨n.rev.val, by omega⟩ d

theorem v41 (h2 : ∀ i, Fine (x2 i)) (j : Fin 16) (n : Fin 2048) (d : Fin 128) :
    val_main_v41 (F := Ideal) x2 (ix3 j n d) = ((st (rd3 x2) j.val n.val d.val : ℝ) : EReal) := by
  unfold val_main_v41 val_main_v40 val_main_v34 val_main_v2
  pointwise
  by_cases h : j.val < 8
  · rw [dif_pos h, st_lt _ h]
    exact rd3_eq h2 _ _ _
  · rw [dif_neg h, st_ge _ h, ← fl_rev]
    exact rd3_eq h2 ⟨j.val - 8, by omega⟩ ⟨n.rev.val, by omega⟩ d

theorem v42 (h0 : ∀ i, Fine (x0 i)) (j a : Fin 16) (n d : Fin 128) :
    val_main_v42 (F := Ideal) x0 (ix4 j a n d) = ((st (rd3 x0) j.val (a.val * 128 + n.val) d.val : ℝ) : EReal) := by
  unfold val_main_v42
  pointwise
  exact v37 h0 _ _ _
theorem v43 (h1 : ∀ i, Fine (x1 i)) (j a : Fin 16) (n d : Fin 128) :
    val_main_v43 (F := Ideal) x1 (ix4 j a n d) = ((st (rd3 x1) j.val (a.val * 128 + n.val) d.val : ℝ) : EReal) := by
  unfold val_main_v43
  pointwise
  exact v39 h1 _ _ _
theorem v44 (h2 : ∀ i, Fine (x2 i)) (j a : Fin 16) (n d : Fin 128) :
    val_main_v44 (F := Ideal) x2 (ix4 j a n d) = ((st (rd3 x2) j.val (a.val * 128 + n.val) d.val : ℝ) : EReal) := by
  unfold val_main_v44
  pointwise
  exact v41 h2 _ _ _

/-- The output's gradient, stacked. -/
theorem v209 (h4 : ∀ i, Fine (x4 i)) (j a : Fin 16) (n d : Fin 128) :
    val_main_v209 (F := Ideal) x4 (ix4 j a n d) = ((st (rd3 x4) j.val (a.val * 128 + n.val) d.val : ℝ) : EReal) := by
  unfold val_main_v209 val_main_v208 val_main_v207 val_main_v206 val_main_v205 val_main_v204 val_main_v203 val_main_cst_8 val_main_cst_7
  pointwise
  have hn : a.val * 128 + n.val < 2048 := by omega
  by_cases h : j.val < 8
  · rw [dif_neg (by omega), dif_pos ⟨h, hn⟩, st_lt _ h, zero_add]
    exact rd3_eq h4 _ ⟨a.val * 128 + n.val, hn⟩ _
  · rw [dif_pos ⟨by omega, hn⟩, dif_neg (by omega), st_ge _ h, add_zero]
    rw [← fl_rev (rd3 x4 (j.val - 8)) ⟨a.val * 128 + n.val, hn⟩]
    exact rd3_eq h4 ⟨j.val - 8, by omega⟩ (⟨a.val * 128 + n.val, hn⟩ : Fin 2048).rev d

/-! ## The decays -/

theorem v9 (p : Fin 256) : val_main_v9 (F := Ideal) (ix1 p) = ((p.val : ℝ) : EReal) := by
  unfold val_main_v9
  pointwise
  exact word p.isLt

theorem v12 (p : Fin 256) : val_main_v12 (F := Ideal) (ix1 p) = ((255 - p.val : ℝ) : EReal) := by
  unfold val_main_v12 val_main_v11 val_main_cst
  pointwise
  rw [bits_255, v9, ← EReal.coe_sub]

theorem v17 (h3 : ∀ i, Fine (x3 i)) (h : Fin 8) (p : Fin 256) :
    val_main_v17 (F := Ideal) x3 (ix2 h p) = ((Real.exp (rd2 x3 0 h.val * (255 - p.val)) : ℝ) : EReal) := by
  unfold val_main_v17 val_main_v16 val_main_v15 val_main_v14 val_main_v13 val_main_v10 val_main_v6 val_main_v5
  pointwise
  rw [v12, rd2_eq h3, ← EReal.coe_mul, Ideal.exp_coe]; rfl

theorem v23 (h3 : ∀ i, Fine (x3 i)) (h : Fin 8) (p : Fin 256) :
    val_main_v23 (F := Ideal) x3 (ix2 h p) = ((Real.exp (rd2 x3 1 h.val * p.val) : ℝ) : EReal) := by
  unfold val_main_v23 val_main_v22 val_main_v21 val_main_v20 val_main_v19 val_main_v18 val_main_v8 val_main_v7
  pointwise
  rw [v9, rd2_eq h3, ← EReal.coe_mul, Ideal.exp_coe]; rfl

theorem v32 (h1 : ∀ i, Fine (x1 i)) (h2 : ∀ i, Fine (x2 i)) (h3 : ∀ i, Fine (x3 i)) (j : Fin 16) (d e : Fin 128) :
    val_main_v32 (F := Ideal) x1 x2 x3 (ix3 j d e) = ((s0 (rd2 x3) (rd3 x1) (rd3 x2) j.val d.val e.val : ℝ) : EReal) := by
  unfold val_main_v32 val_main_v31 val_main_v30 val_main_v29 val_main_v28 val_main_v27 val_main_v26 val_main_v25 val_main_v24 val_main_v3 val_main_v4 val_main_v1 val_main_v2
  pointwise
  unfold s0
  by_cases h : j.val < 8
  · rw [dif_pos h, if_pos h]
    exact sum_fin (fun p => Real.exp (rd2 x3 0 j.val * (255 - p)) * rd3 x1 j.val (2048 + p) d.val * rd3 x2 j.val (2048 + p) e.val) fun p => by
      rw [v17 h3, rd3_eq h1, rd3_eq h2, EReal.coe_mul, EReal.coe_mul]
  · rw [dif_neg h, if_neg h]
    exact sum_fin (fun p => Real.exp (rd2 x3 1 (j.val - 8) * p) * rd3 x1 (j.val - 8) (2048 + p) d.val * rd3 x2 (j.val - 8) (2048 + p) e.val) fun p => by
      rw [v23 h3, rd3_eq h1, rd3_eq h2, EReal.coe_mul, EReal.coe_mul]

theorem v35 (h3 : ∀ i, Fine (x3 i)) (j : Fin 16) :
    val_main_v35 (F := Ideal) x3 (ix1 j) = ((sg (rd2 x3) j.val : ℝ) : EReal) := by
  unfold val_main_v35
  pointwise
  rw [rd2_eq h3]
  unfold sg
  dsimp only
  by_cases h : j.val < 8
  · rw [if_pos h, show j.val / 8 = 0 by omega, show j.val % 8 = j.val by omega]
  · rw [if_neg h, show j.val / 8 = 1 by omega, show j.val % 8 = j.val - 8 by omega]

theorem v45 (p : Fin 128) : val_main_v45 (F := Ideal) (ix1 p) = ((p.val : ℝ) : EReal) := by
  unfold val_main_v45
  pointwise
  exact word (by omega)

theorem v50 (c m : Fin 128) : val_main_v50 (F := Ideal) (ix2 c m) = ((c.val - m.val : ℝ) : EReal) := by
  unfold val_main_v50 val_main_v49 val_main_v48 val_main_v47 val_main_v46
  pointwise
  rw [v45, v45, ← EReal.coe_sub]

theorem v55 (c m : Fin 128) : val_main_v55 (F := Ideal) (ix2 c m) = ((max (c.val - m.val : ℝ) 0 : ℝ) : EReal) := by
  unfold val_main_v55 val_main_v54 val_main_cst_1
  pointwise
  rw [v50, ← EReal.coe_zero]
  exact (EReal.coe_strictMono.monotone.map_max).symm

theorem v60 (h3 : ∀ i, Fine (x3 i)) (j : Fin 16) (c m : Fin 128) :
    val_main_v60 (F := Ideal) x3 (ix3 j c m) = ((Real.exp (sg (rd2 x3) j.val * max (c.val - m.val : ℝ) 0) : ℝ) : EReal) := by
  unfold val_main_v60 val_main_v59 val_main_v57 val_main_v58 val_main_v53 val_main_v56
  pointwise
  rw [v35 h3, v55, ← EReal.coe_mul, Ideal.exp_coe]

/-- The masked decay between two positions of one chunk. -/
theorem v61 (h3 : ∀ i, Fine (x3 i)) (j : Fin 16) (c m : Fin 128) :
    val_main_v61_0 (F := Ideal) x3 (ix3 j c m) = ((wt (sg (rd2 x3) j.val) ((c.val : ℝ) - m.val) : ℝ) : EReal) := by
  unfold val_main_v61_0 val_main_v61_1 val_main_v52 val_main_v51 val_main_call3_v2 val_main_call3_v0 val_main_cst_2 val_main_cst_0
  simp only [id]
  pointwise
  rw [v50, v60 h3]
  unfold wt
  by_cases h : (0 : ℝ) ≤ c.val - m.val
  · rw [if_pos (by exact_mod_cast h), if_pos h, max_eq_left h]
  · rw [if_neg (by exact_mod_cast h), if_neg h, EReal.coe_zero]

theorem v64 (c : Fin 128) : val_main_v64 (F := Ideal) (ix1 c) = ((c.val + 1 : ℝ) : EReal) := by
  unfold val_main_v64 val_main_v63 val_main_cst_3
  pointwise
  rw [v45, ← EReal.coe_one, ← EReal.coe_add]

theorem v72 (c : Fin 128) : val_main_v72 (F := Ideal) (ix1 c) = ((127 - c.val : ℝ) : EReal) := by
  unfold val_main_v72 val_main_v71 val_main_cst_4
  pointwise
  rw [v45, bits_127, ← EReal.coe_sub]

theorem v69 (h3 : ∀ i, Fine (x3 i)) (j : Fin 16) (c : Fin 128) :
    val_main_v69 (F := Ideal) x3 (ix2 j c) = ((Real.exp (sg (rd2 x3) j.val * (c.val + 1)) : ℝ) : EReal) := by
  unfold val_main_v69 val_main_v68 val_main_v67 val_main_v66 val_main_v65 val_main_v62
  pointwise
  rw [v35 h3, v64, ← EReal.coe_mul, Ideal.exp_coe]

theorem v77 (h3 : ∀ i, Fine (x3 i)) (j : Fin 16) (c : Fin 128) :
    val_main_v77 (F := Ideal) x3 (ix2 j c) = ((Real.exp (sg (rd2 x3) j.val * (127 - c.val)) : ℝ) : EReal) := by
  unfold val_main_v77 val_main_v76 val_main_v75 val_main_v74 val_main_v73 val_main_v70
  pointwise
  rw [v35 h3, v72, ← EReal.coe_mul, Ideal.exp_coe]

theorem v80 (h3 : ∀ i, Fine (x3 i)) (j : Fin 16) :
    val_main_v80 (F := Ideal) x3 (ix1 j) = ((Real.exp (sg (rd2 x3) j.val * 128) : ℝ) : EReal) := by
  unfold val_main_v80 val_main_v79 val_main_v78 val_main_cst_5
  pointwise
  rw [v35 h3, bits_128, ← EReal.coe_mul, Ideal.exp_coe]

end Cert.ReferenceIdeal.Value

end
-- ==== Proof.RStates.lean ====
/-
  The reference's carried states: forward over the chunks, then the gradients carried back over them.
-/
module

public import proofs.«01_k».proof.Proof.RInputs

@[expose] public section

noncomputable section

namespace Cert.ReferenceIdeal.Value

open Idealize.ShloMosaic Idealize.ShloMosaic.TcCoe Idealize.SL.Sem
open Cert.ReferenceIdeal Cert.ReferenceIdeal.Gen Cert.ReferenceIdeal.Read Cert.Ret Finset

/-! ## A sum along axes 1 and 3 -/

section
variable {n0 n1 n2 n3 : ℕ}

theorem fiber_13 (h : (⟨4, ![n0, n1, n2, n3]⟩ : Shape).ReducesTo [1, 3] ⟨2, ![n0, n2]⟩) (a : Fin n0) (b : Fin n2)
    (i : (⟨4, ![n0, n1, n2, n3]⟩ : Shape).Idx) : h.drop i = ix2 a b ↔ ∃ k : Fin n1 × Fin n3, ix4 a k.1 b k.2 = i := by
  constructor
  · intro e
    refine ⟨(i 1, i 3), ?_⟩
    funext x; apply Fin.ext
    match x with
    | ⟨0, _⟩ => exact (congrArg Fin.val (congrFun e 0)).symm
    | ⟨1, _⟩ => rfl
    | ⟨2, _⟩ => exact (congrArg Fin.val (congrFun e 1)).symm
    | ⟨3, _⟩ => rfl
  · rintro ⟨k, rfl⟩
    funext y
    apply Fin.ext
    match y with
    | ⟨0, _⟩ => rfl
    | ⟨1, _⟩ => rfl

theorem reduce_13 (h : (⟨4, ![n0, n1, n2, n3]⟩ : Shape).ReducesTo [1, 3] ⟨2, ![n0, n2]⟩)
    (v : (⟨4, ![n0, n1, n2, n3]⟩ : Shape).Idx → EReal) (init : EReal) (a : Fin n0) (b : Fin n2) :
    Ideal.hostReduceAdd h v init (ix2 a b) = init + ∑ k0 : Fin n1, ∑ k1 : Fin n3, v (ix4 a k0 b k1) := by
  refine congrArg (init + ·) ?_
  refine (Finset.sum_filter_eq_sum_of_fiber _ (fun k : Fin n1 × Fin n3 => ix4 a k.1 b k.2)
    (fun _ _ e => Prod.ext (congrFun e 1) (congrFun e 3)) (fiber_13 h a b) v).trans ?_
  simp only [Fintype.sum_prod_type]
end

variable {x0 : (⟨S8x2048x128, .bf16⟩ : BufTy).Contents (Elt Ideal)} {x1 x2 : (⟨S8x2304x128, .bf16⟩ : BufTy).Contents (Elt Ideal)}
  {x3 : (⟨S2x8, .f32⟩ : BufTy).Contents (Elt Ideal)} {x4 : (⟨S8x2048x128, .f32⟩ : BufTy).Contents (Elt Ideal)}

abbrev State := (⟨S16x128x128, .f32⟩ : BufTy).Contents (Elt Ideal)

/-! ## The states on the way forward -/

theorem v93 (h1 : ∀ i, Fine (x1 i)) (h2 : ∀ i, Fine (x2 i)) (h3 : ∀ i, Fine (x3 i)) (a j : Fin 16) (d e : Fin 128) :
    val_main_v93 (F := Ideal) x1 x2 x3 (ix4 a j d e) =
      ((Chain.kv (sg (rd2 x3) j.val) (st (rd3 x1) j.val) (st (rd3 x2) j.val) a.val d.val e.val : ℝ) : EReal) := by
  unfold val_main_v93 val_main_v90 val_main_v89 val_main_v88 val_main_v87 val_main_v86
  pointwise
  exact sum_fin (fun m => st (rd3 x1) j.val (a.val * 128 + m) d.val * Real.exp (sg (rd2 x3) j.val * (127 - m)) *
    st (rd3 x2) j.val (a.val * 128 + m) e.val) fun m => by
      rw [v43 h1, v44 h2, v77 h3, EReal.coe_mul, EReal.coe_mul]

theorem v97 (h3 : ∀ i, Fine (x3 i)) (j : Fin 16) (d e : Fin 128) :
    val_main_v97 (F := Ideal) x3 (ix3 j d e) = ((Real.exp (sg (rd2 x3) j.val * 128) : ℝ) : EReal) := by
  unfold val_main_v97 val_main_v91
  pointwise
  exact v80 h3 j

variable (x0 x1 x2 x3 x4) in
/-- The states before each of the sixteen chunks. -/
def states : Fin 16 → State :=
  ![val_main_v32 x1 x2 x3, val_main_v99 x1 x2 x3, val_main_v104 x1 x2 x3, val_main_v109 x1 x2 x3,
    val_main_v114 x1 x2 x3, val_main_v119 x1 x2 x3, val_main_v124 x1 x2 x3, val_main_v129 x1 x2 x3,
    val_main_v134 x1 x2 x3, val_main_v139 x1 x2 x3, val_main_v144 x1 x2 x3, val_main_v149 x1 x2 x3,
    val_main_v154 x1 x2 x3, val_main_v159 x1 x2 x3, val_main_v164 x1 x2 x3, val_main_v169 x1 x2 x3]

theorem slices_at (a : Fin 16) : S16x16x128x128.Slices ![a.val, 0, 0, 0] S1x16x128x128 := by
  revert a; decide

/-- One chunk of a stacked array. -/
def piece (x : (⟨S16x16x128x128, .f32⟩ : BufTy).Contents (Elt Ideal)) (a : Fin 16) : State :=
  shapeCast _ (extractStridedSlice S1x16x128x128 ![a.val, 0, 0, 0] x (slices_at a)) shapeCasts_S1x16x128x128_S16x128x128

theorem piece_apply (x : (⟨S16x16x128x128, .f32⟩ : BufTy).Contents (Elt Ideal)) (a j : Fin 16) (d e : Fin 128) :
    piece x a (ix3 j d e) = x (ix4 a j d e) := by
  unfold piece
  pointwise

theorem states_succ (a : Fin 15) : states x1 x2 x3 a.succ =
    addf (F := Ideal) (s := S16x128x128) (φ := .f32) (mulf (F := Ideal) (s := S16x128x128) (φ := .f32) (states x1 x2 x3 a.castSucc) (val_main_v97 (F := Ideal) x3)) (piece (val_main_v93 (F := Ideal) x1 x2 x3) a.castSucc) := by
  fin_cases a <;> rfl

theorem states_eq (h1 : ∀ i, Fine (x1 i)) (h2 : ∀ i, Fine (x2 i)) (h3 : ∀ i, Fine (x3 i)) (a : ℕ) (ha : a < 16) (j : Fin 16) (d e : Fin 128) :
    states x1 x2 x3 ⟨a, ha⟩ (ix3 j d e) = ((Chain.S (sg (rd2 x3) j.val) (st (rd3 x1) j.val) (st (rd3 x2) j.val)
      (s0 (rd2 x3) (rd3 x1) (rd3 x2) j.val) a d.val e.val : ℝ) : EReal) := by
  induction a with
  | zero => exact v32 h1 h2 h3 j d e
  | succ a ih =>
    refine (congrFun (states_succ ⟨a, by omega⟩) _).trans ?_
    show states x1 x2 x3 ⟨a, _⟩ (ix3 j d e) * val_main_v97 (F := Ideal) x3 (ix3 j d e) + piece (val_main_v93 (F := Ideal) x1 x2 x3) ⟨a, _⟩ (ix3 j d e) = _
    rw [ih (by omega), v97 h3, piece_apply, v93 h1 h2 h3, ← EReal.coe_mul, ← EReal.coe_add]
    rfl

end Cert.ReferenceIdeal.Value

end
-- ==== Proof.RBack.lean ====
/-
  The states stacked, and the gradients the reference carries back over the chunks.
-/
module

public import proofs.«01_k».proof.Proof.RStates

@[expose] public section

noncomputable section

namespace Cert.ReferenceIdeal.Value

open Idealize.ShloMosaic Idealize.ShloMosaic.TcCoe Idealize.SL.Sem
open Cert.ReferenceIdeal Cert.ReferenceIdeal.Gen Cert.ReferenceIdeal.Read Cert.Ret Finset

variable {x0 : (⟨S8x2048x128, .bf16⟩ : BufTy).Contents (Elt Ideal)} {x1 x2 : (⟨S8x2304x128, .bf16⟩ : BufTy).Contents (Elt Ideal)}
  {x3 : (⟨S2x8, .f32⟩ : BufTy).Contents (Elt Ideal)} {x4 : (⟨S8x2048x128, .f32⟩ : BufTy).Contents (Elt Ideal)}

theorem v191 (a j : Fin 16) (d e : Fin 128) : val_main_v191 (F := Ideal) x1 x2 x3 (ix4 a j d e) = states x1 x2 x3 a (ix3 j d e) := by
  refine (concatenate_ofFn_unit_apply (t := S16x16x128x128) (s₁ := S1x16x128x128) 0
    (fun n => broadcastInDim S1x16x128x128 ![1, 2, 3] bcast_S16x128x128_S1x16x128x128_1_2_3 (states x1 x2 x3 n))
    concatenates_S1x16x128x128_S1x16x128x128_S1x16x128x128_S1x16x128x128_S1x16x128x128_S1x16x128x128_S1x16x128x128_S1x16x128x128_S1x16x128x128_S1x16x128x128_S1x16x128x128_S1x16x128x128_S1x16x128x128_S1x16x128x128_S1x16x128x128_S1x16x128x128_S16x16x128x128_d0 rfl rfl (ix4 a j d e) a rfl (ix4 0 j d e) ?_).trans ?_
  · intro b hb
    fin_cases b
    · exact absurd rfl hb
    all_goals rfl
  · pointwise

/-- The state before chunk `a`. -/
theorem v192 (h1 : ∀ i, Fine (x1 i)) (h2 : ∀ i, Fine (x2 i)) (h3 : ∀ i, Fine (x3 i)) (a j : Fin 16) (d e : Fin 128) :
    val_main_v192 (F := Ideal) x1 x2 x3 (ix4 a j d e) = ((Chain.S (sg (rd2 x3) j.val) (st (rd3 x1) j.val) (st (rd3 x2) j.val)
      (s0 (rd2 x3) (rd3 x1) (rd3 x2) j.val) a.val d.val e.val : ℝ) : EReal) := by
  refine Eq.trans ?_ (states_eq h1 h2 h3 a.val a.isLt j d e)
  refine Eq.trans ?_ (v191 a j d e)
  refine concatenate_pair_apply_right (s₁ := S0x16x128x128) (s₂ := S16x16x128x128) (t := S16x16x128x128) 0 _ _
    concatenates_S0x16x128x128_S16x16x128x128_S16x16x128x128_d0 (ix4 a j d e) rfl rfl (ix4 a j d e) (fun b _ => rfl) rfl

theorem v223 (h1 : ∀ i, Fine (x1 i)) (h2 : ∀ i, Fine (x2 i)) (h3 : ∀ i, Fine (x3 i)) (a j : Fin 16) (d e : Fin 128) :
    val_main_v223 (F := Ideal) x1 x2 x3 (ix4 a j d e) = ((Chain.S (sg (rd2 x3) j.val) (st (rd3 x1) j.val) (st (rd3 x2) j.val)
      (s0 (rd2 x3) (rd3 x1) (rd3 x2) j.val) a.val d.val e.val : ℝ) : EReal) := by
  unfold val_main_v223
  pointwise
  exact v192 h1 h2 h3 a j d e

/-- One chunk's share of the gradient of the state before it. -/
theorem v221 (h0 : ∀ i, Fine (x0 i)) (h3 : ∀ i, Fine (x3 i)) (h4 : ∀ i, Fine (x4 i)) (a j : Fin 16) (d e : Fin 128) :
    val_main_v221 (F := Ideal) x0 x3 x4 (ix4 a j d e) =
      ((Chain.dS (sg (rd2 x3) j.val) (st (rd3 x0) j.val) (st (rd3 x4) j.val) a.val d.val e.val : ℝ) : EReal) := by
  unfold val_main_v221 val_main_v211 val_main_v210 val_main_v195 val_main_v194 val_main_v193
  pointwise
  exact sum_fin (fun c => st (rd3 x4) j.val (a.val * 128 + c) e.val * (st (rd3 x0) j.val (a.val * 128 + c) d.val *
    Real.exp (sg (rd2 x3) j.val * (c + 1)))) fun c => by
      rw [v209 h4, v42 h0, v69 h3, EReal.coe_mul, EReal.coe_mul]

variable (x0 x1 x2 x3 x4) in
/-- The gradients carried back to just before the last `t` chunks. -/
def grads : Fin 17 → State :=
  ![val_main_v219, val_main_v235 x0 x3 x4, val_main_v247 x0 x3 x4, val_main_v259 x0 x3 x4, val_main_v271 x0 x3 x4,
    val_main_v283 x0 x3 x4, val_main_v295 x0 x3 x4, val_main_v307 x0 x3 x4, val_main_v319 x0 x3 x4,
    val_main_v331 x0 x3 x4, val_main_v343 x0 x3 x4, val_main_v355 x0 x3 x4, val_main_v367 x0 x3 x4,
    val_main_v379 x0 x3 x4, val_main_v391 x0 x3 x4, val_main_v403 x0 x3 x4, val_main_v415 x0 x3 x4]

theorem grads_succ (t : Fin 16) : grads x0 x3 x4 t.succ =
    addf (F := Ideal) (s := S16x128x128) (φ := .f32) (piece (val_main_v221 (F := Ideal) x0 x3 x4) t.rev)
      (mulf (F := Ideal) (s := S16x128x128) (φ := .f32) (grads x0 x3 x4 t.castSucc) (val_main_v97 (F := Ideal) x3)) := by
  fin_cases t <;> rfl

theorem grads_eq (h0 : ∀ i, Fine (x0 i)) (h3 : ∀ i, Fine (x3 i)) (h4 : ∀ i, Fine (x4 i)) (t : ℕ) (ht : t < 17) (j : Fin 16) (d e : Fin 128) :
    grads x0 x3 x4 ⟨t, ht⟩ (ix3 j d e) =
      ((Chain.Lr (sg (rd2 x3) j.val) (st (rd3 x0) j.val) (st (rd3 x4) j.val) t d.val e.val : ℝ) : EReal) := by
  induction t with
  | zero =>
    show val_main_v219 (F := Ideal) (ix3 j d e) = _
    unfold val_main_v219 val_main_cst_11
    pointwise
    rfl
  | succ t ih =>
    refine (congrFun (grads_succ ⟨t, by omega⟩) _).trans ?_
    show piece (val_main_v221 (F := Ideal) x0 x3 x4) _ (ix3 j d e) + grads x0 x3 x4 ⟨t, _⟩ (ix3 j d e) * val_main_v97 (F := Ideal) x3 (ix3 j d e) = _
    rw [ih (by omega), v97 h3, piece_apply, v221 h0 h3 h4, ← EReal.coe_mul, ← EReal.coe_add, Chain.Lr_succ]
    rw [show (Fin.rev (⟨t, by omega⟩ : Fin 16)).val = 15 - t by rw [Fin.val_rev]; dsimp only; omega]

/-- A state's entries added up, head by head. -/
def total (Z : State) : (⟨S16, .f32⟩ : BufTy).Contents (Elt Ideal) :=
  Host.reduceAdd (shapeCast _ (Host.reduceAdd (φ := .f32) Z (constant (F := Ideal) S_ .f32 0x00000000#32) reducesTo_S16x128x128_S16_d1_2 h_S_) shapeCasts_S16_S16x1x1)
    (constant (F := Ideal) S_ .f32 0x00000000#32) reducesTo_S16x1x1_S16_d1_2 h_S_

theorem total_apply (Z : State) (j : Fin 16) : total Z (ix1 j) = ∑ d : Fin 128, ∑ e : Fin 128, Z (ix3 j d e) := by
  unfold total
  pointwise
  simp only [univ_unique, sum_singleton]

variable (x0 x1 x2 x3 x4) in
/-- The gradient of the decay of a whole chunk, added up over the last `t` chunks. -/
def decays : Fin 17 → (⟨S16, .f32⟩ : BufTy).Contents (Elt Ideal) :=
  ![val_main_v220, val_main_v237 x1 x2 x3, val_main_v249 x0 x1 x2 x3 x4, val_main_v261 x0 x1 x2 x3 x4,
    val_main_v273 x0 x1 x2 x3 x4, val_main_v285 x0 x1 x2 x3 x4, val_main_v297 x0 x1 x2 x3 x4,
    val_main_v309 x0 x1 x2 x3 x4, val_main_v321 x0 x1 x2 x3 x4, val_main_v333 x0 x1 x2 x3 x4,
    val_main_v345 x0 x1 x2 x3 x4, val_main_v357 x0 x1 x2 x3 x4, val_main_v369 x0 x1 x2 x3 x4,
    val_main_v381 x0 x1 x2 x3 x4, val_main_v393 x0 x1 x2 x3 x4, val_main_v405 x0 x1 x2 x3 x4,
    val_main_v417 x0 x1 x2 x3 x4]

theorem decays_succ (t : Fin 16) : decays x0 x1 x2 x3 x4 t.succ =
    addf (F := Ideal) (s := S16) (φ := .f32) (decays x0 x1 x2 x3 x4 t.castSucc)
      (total (mulf (F := Ideal) (s := S16x128x128) (φ := .f32) (piece (val_main_v223 (F := Ideal) x1 x2 x3) t.rev) (grads x0 x3 x4 t.castSucc))) := by
  fin_cases t <;> rfl

theorem decays_eq (h0 : ∀ i, Fine (x0 i)) (h1 : ∀ i, Fine (x1 i)) (h2 : ∀ i, Fine (x2 i)) (h3 : ∀ i, Fine (x3 i)) (h4 : ∀ i, Fine (x4 i))
    (t : ℕ) (ht : t < 17) (j : Fin 16) :
    decays x0 x1 x2 x3 x4 ⟨t, ht⟩ (ix1 j) = ((Chain.W (sg (rd2 x3) j.val) (st (rd3 x0) j.val) (st (rd3 x1) j.val) (st (rd3 x2) j.val)
      (st (rd3 x4) j.val) (s0 (rd2 x3) (rd3 x1) (rd3 x2) j.val) t : ℝ) : EReal) := by
  induction t with
  | zero =>
    show val_main_v220 (F := Ideal) (ix1 j) = _
    unfold val_main_v220 val_main_cst_12
    pointwise
    rfl
  | succ t ih =>
    refine (congrFun (decays_succ ⟨t, by omega⟩) _).trans ?_
    show decays x0 x1 x2 x3 x4 ⟨t, _⟩ (ix1 j) + total _ (ix1 j) = _
    rw [ih (by omega), total_apply, Chain.W, EReal.coe_add]
    congr 1
    refine sum_fin (fun d => ∑ e ∈ range 128, Chain.S (sg (rd2 x3) j.val) (st (rd3 x1) j.val) (st (rd3 x2) j.val)
      (s0 (rd2 x3) (rd3 x1) (rd3 x2) j.val) (15 - t) d e * Chain.Lr (sg (rd2 x3) j.val) (st (rd3 x0) j.val) (st (rd3 x4) j.val) t d e) fun d => ?_
    refine sum_fin (fun e => Chain.S (sg (rd2 x3) j.val) (st (rd3 x1) j.val) (st (rd3 x2) j.val)
      (s0 (rd2 x3) (rd3 x1) (rd3 x2) j.val) (15 - t) d e * Chain.Lr (sg (rd2 x3) j.val) (st (rd3 x0) j.val) (st (rd3 x4) j.val) t d e) fun e => ?_
    show piece (val_main_v223 (F := Ideal) x1 x2 x3) _ (ix3 j d e) * grads x0 x3 x4 ⟨t, _⟩ (ix3 j d e) = _
    rw [grads_eq h0 h3 h4, piece_apply, v223 h1 h2 h3, ← EReal.coe_mul]
    rw [show (Fin.rev (⟨t, by omega⟩ : Fin 16)).val = 15 - t by rw [Fin.val_rev]; dsimp only; omega]

theorem decays_last (h : 16 < 17) : decays x0 x1 x2 x3 x4 ⟨16, h⟩ = val_main_v417 (F := Ideal) x0 x1 x2 x3 x4 := rfl

theorem grads_last (h : 16 < 17) : grads x0 x3 x4 ⟨16, h⟩ = val_main_v415 (F := Ideal) x0 x3 x4 := rfl

variable (x0 x3 x4) in
/-- The gradients carried back, in the order of the chunks. -/
def backs : Fin 16 → State :=
  ![val_main_v403 x0 x3 x4, val_main_v391 x0 x3 x4, val_main_v379 x0 x3 x4, val_main_v367 x0 x3 x4,
    val_main_v355 x0 x3 x4, val_main_v343 x0 x3 x4, val_main_v331 x0 x3 x4, val_main_v319 x0 x3 x4,
    val_main_v307 x0 x3 x4, val_main_v295 x0 x3 x4, val_main_v283 x0 x3 x4, val_main_v271 x0 x3 x4,
    val_main_v259 x0 x3 x4, val_main_v247 x0 x3 x4, val_main_v235 x0 x3 x4, val_main_v219]

attribute [local irreducible] val_main_v219 val_main_v235 val_main_v247 val_main_v259 val_main_v271 val_main_v283 val_main_v295 val_main_v307
  val_main_v319 val_main_v331 val_main_v343 val_main_v355 val_main_v367 val_main_v379 val_main_v391 val_main_v403

theorem backs_eq (a : Fin 16) : backs x0 x3 x4 a = grads x0 x3 x4 a.rev.castSucc := by
  fin_cases a <;> rfl

theorem v434 (a j : Fin 16) (d e : Fin 128) : val_main_v434 (F := Ideal) x0 x3 x4 (ix4 a j d e) = grads x0 x3 x4 a.rev.castSucc (ix3 j d e) := by
  refine (concatenate_ofFn_unit_apply (t := S16x16x128x128) (s₁ := S1x16x128x128) 0
    (fun n => broadcastInDim S1x16x128x128 ![1, 2, 3] bcast_S16x128x128_S1x16x128x128_1_2_3 (backs x0 x3 x4 n))
    concatenates_S1x16x128x128_S1x16x128x128_S1x16x128x128_S1x16x128x128_S1x16x128x128_S1x16x128x128_S1x16x128x128_S1x16x128x128_S1x16x128x128_S1x16x128x128_S1x16x128x128_S1x16x128x128_S1x16x128x128_S1x16x128x128_S1x16x128x128_S1x16x128x128_S16x16x128x128_d0 rfl rfl (ix4 a j d e) a rfl (ix4 0 j d e) ?_).trans ?_
  · intro b hb
    fin_cases b
    · exact absurd rfl hb
    all_goals rfl
  · pointwise
    rw [backs_eq]

/-- The gradient of the state after chunk `a`. -/
theorem v436 (h0 : ∀ i, Fine (x0 i)) (h3 : ∀ i, Fine (x3 i)) (h4 : ∀ i, Fine (x4 i)) (j a : Fin 16) (d e : Fin 128) :
    val_main_v436 (F := Ideal) x0 x3 x4 (ix4 j a d e) =
      ((Chain.Lr (sg (rd2 x3) j.val) (st (rd3 x0) j.val) (st (rd3 x4) j.val) (15 - a.val) d.val e.val : ℝ) : EReal) := by
  unfold val_main_v436
  pointwise
  refine Eq.trans ?_ (grads_eq h0 h3 h4 (15 - a.val) (by omega) j d e)
  refine Eq.trans (b := val_main_v434 (F := Ideal) x0 x3 x4 (ix4 a j d e)) ?_ ((v434 a j d e).trans ?_)
  · exact concatenate_pair_apply_left (s₁ := S16x16x128x128) (s₂ := S0x16x128x128) (t := S16x16x128x128) 0 _ _
      concatenates_S16x16x128x128_S0x16x128x128_S16x16x128x128_d0 (ix4 a j d e) rfl (ix4 a j d e) fun b => rfl
  · rw [show a.rev.castSucc = (⟨15 - a.val, by omega⟩ : Fin 17) from Fin.ext (by
      show 16 - (a.val + 1) = 15 - a.val
      omega)]

end Cert.ReferenceIdeal.Value

end
-- ==== Proof.RGrads.lean ====
/-
  The gradients of one stacked head, chunk by chunk.
-/
module

public import proofs.«01_k».proof.Proof.RBack

@[expose] public section

noncomputable section

namespace Cert.ReferenceIdeal.Value

open Idealize.ShloMosaic Idealize.ShloMosaic.TcCoe Idealize.SL.Sem
open Cert.ReferenceIdeal Cert.ReferenceIdeal.Gen Cert.ReferenceIdeal.Read Cert.Ret Finset

variable {x0 : (⟨S8x2048x128, .bf16⟩ : BufTy).Contents (Elt Ideal)} {x1 x2 : (⟨S8x2304x128, .bf16⟩ : BufTy).Contents (Elt Ideal)}
  {x3 : (⟨S2x8, .f32⟩ : BufTy).Contents (Elt Ideal)} {x4 : (⟨S8x2048x128, .f32⟩ : BufTy).Contents (Elt Ideal)}

theorem v81 (h0 : ∀ i, Fine (x0 i)) (h1 : ∀ i, Fine (x1 i)) (j a : Fin 16) (c m : Fin 128) :
    val_main_v81 (F := Ideal) x0 x1 (ix4 j a c m) = ((Chain.raw (st (rd3 x0) j.val) (st (rd3 x1) j.val) a.val c.val m.val : ℝ) : EReal) := by
  unfold val_main_v81
  pointwise
  exact sum_fin (fun d => (st (rd3 x0) j.val) (a.val * 128 + c.val) d * (st (rd3 x1) j.val) (a.val * 128 + m.val) d) fun d => by
    rw [v42 h0, v43 h1, EReal.coe_mul]

theorem v84 (h0 : ∀ i, Fine (x0 i)) (h1 : ∀ i, Fine (x1 i)) (h3 : ∀ i, Fine (x3 i)) (j a : Fin 16) (c m : Fin 128) :
    val_main_v84 (F := Ideal) x0 x1 x3 (ix4 j a c m) =
      ((Chain.raw (st (rd3 x0) j.val) (st (rd3 x1) j.val) a.val c.val m.val * wt (sg (rd2 x3) j.val) ((c.val : ℝ) - m.val) : ℝ) : EReal) := by
  unfold val_main_v84 val_main_v83 val_main_v82
  pointwise
  rw [v81 h0 h1, v61 h3, EReal.coe_mul]

theorem v88 (h1 : ∀ i, Fine (x1 i)) (h3 : ∀ i, Fine (x3 i)) (j a : Fin 16) (m d : Fin 128) :
    val_main_v88 (F := Ideal) x1 x3 (ix4 j a m d) =
      (((st (rd3 x1) j.val) (a.val * 128 + m.val) d.val * Real.exp (sg (rd2 x3) j.val * (127 - m.val)) : ℝ) : EReal) := by
  unfold val_main_v88 val_main_v87 val_main_v86
  pointwise
  rw [v43 h1, v77 h3, EReal.coe_mul]

theorem v212 (h1 : ∀ i, Fine (x1 i)) (h2 : ∀ i, Fine (x2 i)) (h3 : ∀ i, Fine (x3 i)) (h4 : ∀ i, Fine (x4 i)) (j a : Fin 16) (c d : Fin 128) :
    val_main_v212 (F := Ideal) x1 x2 x3 x4 (ix4 j a c d) =
      ((Chain.X (sg (rd2 x3) j.val) (st (rd3 x1) j.val) (st (rd3 x2) j.val) (st (rd3 x4) j.val) (s0 (rd2 x3) (rd3 x1) (rd3 x2) j.val) a.val c.val d.val : ℝ) : EReal) := by
  unfold val_main_v212
  pointwise
  exact sum_fin (fun e => (st (rd3 x4) j.val) (a.val * 128 + c.val) e * Chain.S (sg (rd2 x3) j.val) (st (rd3 x1) j.val) (st (rd3 x2) j.val) (s0 (rd2 x3) (rd3 x1) (rd3 x2) j.val) a.val d.val e) fun e => by
    rw [v209 h4, v192 h1 h2 h3, EReal.coe_mul]

theorem v440 (h0 : ∀ i, Fine (x0 i)) (h2 : ∀ i, Fine (x2 i)) (h3 : ∀ i, Fine (x3 i)) (h4 : ∀ i, Fine (x4 i)) (j a : Fin 16) (m d : Fin 128) :
    val_main_v440 (F := Ideal) x0 x2 x3 x4 (ix4 j a m d) =
      ((Chain.dkk (sg (rd2 x3) j.val) (st (rd3 x0) j.val) (st (rd3 x2) j.val) (st (rd3 x4) j.val) a.val m.val d.val : ℝ) : EReal) := by
  unfold val_main_v440 val_main_v439
  pointwise
  exact sum_fin (fun e => Chain.Lr (sg (rd2 x3) j.val) (st (rd3 x0) j.val) (st (rd3 x4) j.val) (15 - a.val) d.val e * (st (rd3 x2) j.val) (a.val * 128 + m.val) e) fun e => by
    rw [v436 h0 h3 h4, v44 h2, EReal.coe_mul]

theorem v450 (h2 : ∀ i, Fine (x2 i)) (h4 : ∀ i, Fine (x4 i)) (j a : Fin 16) (c m : Fin 128) :
    val_main_v450 (F := Ideal) x2 x4 (ix4 j a c m) = ((Chain.dsc (st (rd3 x2) j.val) (st (rd3 x4) j.val) a.val c.val m.val : ℝ) : EReal) := by
  unfold val_main_v450
  pointwise
  exact sum_fin (fun e => (st (rd3 x4) j.val) (a.val * 128 + c.val) e * (st (rd3 x2) j.val) (a.val * 128 + m.val) e) fun e => by
    rw [v209 h4, v44 h2, EReal.coe_mul]

theorem v455 (h2 : ∀ i, Fine (x2 i)) (h3 : ∀ i, Fine (x3 i)) (h4 : ∀ i, Fine (x4 i)) (j a : Fin 16) (c m : Fin 128) :
    val_main_v455 (F := Ideal) x2 x3 x4 (ix4 j a c m) =
      ((Chain.dsc (st (rd3 x2) j.val) (st (rd3 x4) j.val) a.val c.val m.val * wt (sg (rd2 x3) j.val) ((c.val : ℝ) - m.val) : ℝ) : EReal) := by
  unfold val_main_v455 val_main_v454 val_main_v82
  pointwise
  rw [v450 h2 h4, v61 h3, EReal.coe_mul]

/-- The gradient of the queries. -/
theorem v460 (h1 : ∀ i, Fine (x1 i)) (h2 : ∀ i, Fine (x2 i)) (h3 : ∀ i, Fine (x3 i)) (h4 : ∀ i, Fine (x4 i)) (j a : Fin 16) (c d : Fin 128) :
    val_main_v460 (F := Ideal) x1 x2 x3 x4 (ix4 j a c d) =
      ((Chain.dq (sg (rd2 x3) j.val) (st (rd3 x1) j.val) (st (rd3 x2) j.val) (st (rd3 x4) j.val) (s0 (rd2 x3) (rd3 x1) (rd3 x2) j.val) a.val c.val d.val : ℝ) : EReal) := by
  unfold val_main_v460 val_main_v217 val_main_v216 val_main_v193 val_main_v459
  pointwise
  rw [v212 h1 h2 h3 h4, v69 h3, Chain.dq, EReal.coe_add, EReal.coe_mul]
  refine congrArg _ (sum_fin (fun m => Chain.dsc (st (rd3 x2) j.val) (st (rd3 x4) j.val) a.val c.val m * wt (sg (rd2 x3) j.val) ((c.val : ℝ) - m) *
    (st (rd3 x1) j.val) (a.val * 128 + m) d.val) fun m => ?_)
  rw [v455 h2 h3 h4, v43 h1, ← EReal.coe_mul]

/-- The gradient of the keys. -/
theorem v458 (h0 : ∀ i, Fine (x0 i)) (h2 : ∀ i, Fine (x2 i)) (h3 : ∀ i, Fine (x3 i)) (h4 : ∀ i, Fine (x4 i)) (j a : Fin 16) (m d : Fin 128) :
    val_main_v458 (F := Ideal) x0 x2 x3 x4 (ix4 j a m d) =
      ((Chain.dk (sg (rd2 x3) j.val) (st (rd3 x0) j.val) (st (rd3 x2) j.val) (st (rd3 x4) j.val) a.val m.val d.val : ℝ) : EReal) := by
  unfold val_main_v458 val_main_v445 val_main_v444 val_main_v86 val_main_v457
  pointwise
  rw [v440 h0 h2 h3 h4, v77 h3, Chain.dk, EReal.coe_add, EReal.coe_mul]
  refine congrArg _ (sum_fin (fun c => Chain.dsc (st (rd3 x2) j.val) (st (rd3 x4) j.val) a.val c m.val * wt (sg (rd2 x3) j.val) ((c : ℝ) - m.val) *
    (st (rd3 x0) j.val) (a.val * 128 + c) d.val) fun c => ?_)
  rw [v455 h2 h3 h4, v42 h0, ← EReal.coe_mul]

/-- The gradient of the values. -/
theorem v449 (h0 : ∀ i, Fine (x0 i)) (h1 : ∀ i, Fine (x1 i)) (h3 : ∀ i, Fine (x3 i)) (h4 : ∀ i, Fine (x4 i)) (j a : Fin 16) (m e : Fin 128) :
    val_main_v449 (F := Ideal) x0 x1 x3 x4 (ix4 j a m e) =
      ((Chain.dv (sg (rd2 x3) j.val) (st (rd3 x0) j.val) (st (rd3 x1) j.val) (st (rd3 x4) j.val) a.val m.val e.val : ℝ) : EReal) := by
  unfold val_main_v449 val_main_v438 val_main_v437 val_main_v448 val_main_v447
  pointwise
  rw [Chain.dv, EReal.coe_add]
  refine congr (congrArg _ (sum_fin (fun d => Chain.Lr (sg (rd2 x3) j.val) (st (rd3 x0) j.val) (st (rd3 x4) j.val) (15 - a.val) d e.val *
    ((st (rd3 x1) j.val) (a.val * 128 + m.val) d * Real.exp (sg (rd2 x3) j.val * (127 - m.val)))) fun d => ?_))
    (sum_fin (fun c => (st (rd3 x4) j.val) (a.val * 128 + c) e.val * (Chain.raw (st (rd3 x0) j.val) (st (rd3 x1) j.val) a.val c m.val * wt (sg (rd2 x3) j.val) ((c : ℝ) - m.val))) fun c => ?_)
  · rw [v436 h0 h3 h4, v88 h1 h3, ← EReal.coe_mul]
  · rw [v209 h4, v84 h0 h1 h3, ← EReal.coe_mul]

/-- Where the decay of a chunk's rows gets its gradient: the queries against the state before the chunk. -/
theorem v218 (h0 : ∀ i, Fine (x0 i)) (h1 : ∀ i, Fine (x1 i)) (h2 : ∀ i, Fine (x2 i)) (h3 : ∀ i, Fine (x3 i)) (h4 : ∀ i, Fine (x4 i)) (j : Fin 16) (c : Fin 128) :
    val_main_v218 (F := Ideal) x0 x1 x2 x3 x4 (ix2 j c) =
      ((∑ a ∈ range 16, ∑ d ∈ range 128, (st (rd3 x0) j.val) (a * 128 + c.val) d * Chain.X (sg (rd2 x3) j.val) (st (rd3 x1) j.val) (st (rd3 x2) j.val) (st (rd3 x4) j.val) (s0 (rd2 x3) (rd3 x1) (rd3 x2) j.val) a c.val d : ℝ) : EReal) := by
  unfold val_main_v218
  rw [Host.reduceAdd_apply]
  refine (reduce_13 _ _ _ j c).trans ?_
  unfold val_main_v215 val_main_cst_10
  pointwise
  simp only [univ_unique, sum_singleton]
  unfold val_main_v214
  rw [Host.reduceAdd_apply]
  refine (reduce_13 _ _ _ j c).trans ?_
  unfold val_main_v213 val_main_cst_9
  pointwise
  refine sum_fin (fun a => ∑ d ∈ range 128, (st (rd3 x0) j.val) (a * 128 + c.val) d * Chain.X (sg (rd2 x3) j.val) (st (rd3 x1) j.val) (st (rd3 x2) j.val) (st (rd3 x4) j.val) (s0 (rd2 x3) (rd3 x1) (rd3 x2) j.val) a c.val d) fun a => ?_
  refine sum_fin (fun d => (st (rd3 x0) j.val) (a.val * 128 + c.val) d * Chain.X (sg (rd2 x3) j.val) (st (rd3 x1) j.val) (st (rd3 x2) j.val) (st (rd3 x4) j.val) (s0 (rd2 x3) (rd3 x1) (rd3 x2) j.val) a.val c.val d) fun d => ?_
  rw [v42 h0, v212 h1 h2 h3 h4, ← EReal.coe_mul]

/-- The keys against the gradient of the state after the chunk. -/
theorem v446 (h0 : ∀ i, Fine (x0 i)) (h1 : ∀ i, Fine (x1 i)) (h2 : ∀ i, Fine (x2 i)) (h3 : ∀ i, Fine (x3 i)) (h4 : ∀ i, Fine (x4 i)) (j : Fin 16) (m : Fin 128) :
    val_main_v446 (F := Ideal) x0 x1 x2 x3 x4 (ix2 j m) =
      ((∑ a ∈ range 16, ∑ d ∈ range 128, (st (rd3 x1) j.val) (a * 128 + m.val) d * Chain.dkk (sg (rd2 x3) j.val) (st (rd3 x0) j.val) (st (rd3 x2) j.val) (st (rd3 x4) j.val) a m.val d : ℝ) : EReal) := by
  unfold val_main_v446
  rw [Host.reduceAdd_apply]
  refine (reduce_13 _ _ _ j m).trans ?_
  unfold val_main_v443 val_main_cst_47
  pointwise
  simp only [univ_unique, sum_singleton]
  unfold val_main_v442
  rw [Host.reduceAdd_apply]
  refine (reduce_13 _ _ _ j m).trans ?_
  unfold val_main_v441 val_main_cst_46
  pointwise
  refine sum_fin (fun a => ∑ d ∈ range 128, (st (rd3 x1) j.val) (a * 128 + m.val) d * Chain.dkk (sg (rd2 x3) j.val) (st (rd3 x0) j.val) (st (rd3 x2) j.val) (st (rd3 x4) j.val) a m.val d) fun a => ?_
  refine sum_fin (fun d => (st (rd3 x1) j.val) (a.val * 128 + m.val) d * Chain.dkk (sg (rd2 x3) j.val) (st (rd3 x0) j.val) (st (rd3 x2) j.val) (st (rd3 x4) j.val) a.val m.val d) fun d => ?_
  rw [v43 h1, v440 h0 h2 h3 h4, ← EReal.coe_mul]

/-- The scores against their gradient, added up over the chunks. -/
theorem v456 (h0 : ∀ i, Fine (x0 i)) (h1 : ∀ i, Fine (x1 i)) (h2 : ∀ i, Fine (x2 i)) (h4 : ∀ i, Fine (x4 i)) (j : Fin 16) (c m : Fin 128) :
    val_main_v456 (F := Ideal) x0 x1 x2 x4 (ix3 j c m) =
      ((∑ a ∈ range 16, Chain.raw (st (rd3 x0) j.val) (st (rd3 x1) j.val) a c.val m.val * Chain.dsc (st (rd3 x2) j.val) (st (rd3 x4) j.val) a c.val m.val : ℝ) : EReal) := by
  unfold val_main_v456 val_main_v453 val_main_v452 val_main_v451 val_main_cst_48 val_main_cst_49
  pointwise
  simp only [univ_unique, sum_singleton]
  refine sum_fin (fun a => Chain.raw (st (rd3 x0) j.val) (st (rd3 x1) j.val) a c.val m.val * Chain.dsc (st (rd3 x2) j.val) (st (rd3 x4) j.val) a c.val m.val) fun a => ?_
  rw [v81 h0 h1, v450 h2 h4, ← EReal.coe_mul]

/-- The part of the decay's gradient that comes from inside the chunks. -/
theorem v481 (h0 : ∀ i, Fine (x0 i)) (h1 : ∀ i, Fine (x1 i)) (h2 : ∀ i, Fine (x2 i)) (h3 : ∀ i, Fine (x3 i)) (h4 : ∀ i, Fine (x4 i)) (j : Fin 16) (c m : Fin 128) :
    val_main_v481 (F := Ideal) x0 x1 x2 x3 x4 (ix3 j c m) =
      (((∑ a ∈ range 16, Chain.raw (st (rd3 x0) j.val) (st (rd3 x1) j.val) a c.val m.val * Chain.dsc (st (rd3 x2) j.val) (st (rd3 x4) j.val) a c.val m.val) *
        (wt (sg (rd2 x3) j.val) ((c.val : ℝ) - m.val) * ((c.val : ℝ) - m.val)) : ℝ) : EReal) := by
  unfold val_main_v481 val_main_v480 val_main_v56 val_main_v479 val_main_v478 val_main_v61_1 val_main_v52 val_main_v51 val_main_cst_0
    val_main_call6_v0 val_main_call6_cst
  pointwise
  rw [v456 h0 h1 h2 h4, v60 h3, v55, v50]
  unfold wt
  by_cases h : (0 : ℝ) ≤ c.val - m.val
  · rw [if_pos (by exact_mod_cast h), if_pos h, max_eq_left h, ← EReal.coe_mul, ← EReal.coe_mul, mul_assoc]
  · rw [if_neg (by exact_mod_cast h), if_neg h, zero_mul, zero_mul, zero_mul, mul_zero, EReal.coe_zero]

/-- The gradient of the decay. -/
theorem v485 (h0 : ∀ i, Fine (x0 i)) (h1 : ∀ i, Fine (x1 i)) (h2 : ∀ i, Fine (x2 i)) (h3 : ∀ i, Fine (x3 i)) (h4 : ∀ i, Fine (x4 i)) (j : Fin 16) :
    val_main_v485 (F := Ideal) x0 x1 x2 x3 x4 (ix1 j) =
      ((Chain.dlg (sg (rd2 x3) j.val) (st (rd3 x0) j.val) (st (rd3 x1) j.val) (st (rd3 x2) j.val) (st (rd3 x4) j.val) (s0 (rd2 x3) (rd3 x1) (rd3 x2) j.val) : ℝ) : EReal) := by
  have e1 : val_main_v463 (F := Ideal) x0 x1 x2 x3 x4 (ix1 j) =
      ((Chain.W (sg (rd2 x3) j.val) (st (rd3 x0) j.val) (st (rd3 x1) j.val) (st (rd3 x2) j.val) (st (rd3 x4) j.val) (s0 (rd2 x3) (rd3 x1) (rd3 x2) j.val) 16 * Real.exp (sg (rd2 x3) j.val * 128) * 128 : ℝ) : EReal) := by
    unfold val_main_v463 val_main_v461 val_main_v462 val_main_cst_50
    pointwise
    rw [← decays_last (by omega), decays_eq h0 h1 h2 h3 h4, v80 h3, bits_128,
      EReal.coe_mul, EReal.coe_mul]
  have e2 : val_main_v469 (F := Ideal) x0 x1 x2 x3 x4 (ix1 j) =
      ((∑ m ∈ range 128, (∑ a ∈ range 16, ∑ d ∈ range 128, (st (rd3 x1) j.val) (a * 128 + m) d * Chain.dkk (sg (rd2 x3) j.val) (st (rd3 x0) j.val) (st (rd3 x2) j.val) (st (rd3 x4) j.val) a m d) *
        Real.exp (sg (rd2 x3) j.val * (127 - m)) * (127 - m) : ℝ) : EReal) := by
    unfold val_main_v469 val_main_v468 val_main_v467 val_main_v466 val_main_v465 val_main_v464 val_main_v73 val_main_cst_51 val_main_cst_52
    pointwise
    simp only [univ_unique, sum_singleton]
    refine sum_fin (fun m => (∑ a ∈ range 16, ∑ d ∈ range 128, (st (rd3 x1) j.val) (a * 128 + m) d * Chain.dkk (sg (rd2 x3) j.val) (st (rd3 x0) j.val) (st (rd3 x2) j.val) (st (rd3 x4) j.val) a m d) *
        Real.exp (sg (rd2 x3) j.val * (127 - m)) * (127 - m)) fun m => ?_
    rw [v446 h0 h1 h2 h3 h4, v77 h3, v72, ← EReal.coe_mul, ← EReal.coe_mul]
  have e3 : val_main_v476 (F := Ideal) x0 x1 x2 x3 x4 (ix1 j) =
      ((∑ c ∈ range 128, (∑ a ∈ range 16, ∑ d ∈ range 128, (st (rd3 x0) j.val) (a * 128 + c) d * Chain.X (sg (rd2 x3) j.val) (st (rd3 x1) j.val) (st (rd3 x2) j.val) (st (rd3 x4) j.val) (s0 (rd2 x3) (rd3 x1) (rd3 x2) j.val) a c d) *
        Real.exp (sg (rd2 x3) j.val * (c + 1)) * (c + 1) : ℝ) : EReal) := by
    unfold val_main_v476 val_main_v475 val_main_v474 val_main_v473 val_main_v472 val_main_v471 val_main_v65 val_main_cst_53 val_main_cst_54
    pointwise
    simp only [univ_unique, sum_singleton]
    refine sum_fin (fun c => (∑ a ∈ range 16, ∑ d ∈ range 128, (st (rd3 x0) j.val) (a * 128 + c) d * Chain.X (sg (rd2 x3) j.val) (st (rd3 x1) j.val) (st (rd3 x2) j.val) (st (rd3 x4) j.val) (s0 (rd2 x3) (rd3 x1) (rd3 x2) j.val) a c d) *
        Real.exp (sg (rd2 x3) j.val * (c + 1)) * (c + 1)) fun c => ?_
    rw [v218 h0 h1 h2 h3 h4, v69 h3, v64, ← EReal.coe_mul, ← EReal.coe_mul]
  have e4 : val_main_v484 (F := Ideal) x0 x1 x2 x3 x4 (ix1 j) =
      ((∑ c ∈ range 128, ∑ m ∈ range 128, (∑ a ∈ range 16, Chain.raw (st (rd3 x0) j.val) (st (rd3 x1) j.val) a c m * Chain.dsc (st (rd3 x2) j.val) (st (rd3 x4) j.val) a c m) *
        (wt (sg (rd2 x3) j.val) ((c : ℝ) - m) * ((c : ℝ) - m)) : ℝ) : EReal) := by
    unfold val_main_v484 val_main_v483 val_main_v482 val_main_cst_55 val_main_cst_56
    pointwise
    simp only [univ_unique, sum_singleton]
    refine sum_fin (fun c => ∑ m ∈ range 128, (∑ a ∈ range 16, Chain.raw (st (rd3 x0) j.val) (st (rd3 x1) j.val) a c m * Chain.dsc (st (rd3 x2) j.val) (st (rd3 x4) j.val) a c m) *
        (wt (sg (rd2 x3) j.val) ((c : ℝ) - m) * ((c : ℝ) - m))) fun c => ?_
    refine sum_fin (fun m => (∑ a ∈ range 16, Chain.raw (st (rd3 x0) j.val) (st (rd3 x1) j.val) a c.val m * Chain.dsc (st (rd3 x2) j.val) (st (rd3 x4) j.val) a c.val m) *
        (wt (sg (rd2 x3) j.val) ((c.val : ℝ) - m) * ((c.val : ℝ) - m))) fun m => ?_
    exact v481 h0 h1 h2 h3 h4 j c m
  unfold val_main_v485 val_main_v477 val_main_v470
  pointwise
  rw [e1, e2, e3, e4, ← EReal.coe_add, ← EReal.coe_add, ← EReal.coe_add]
  rfl

/-- The gradient of the values, the chunks laid end to end. -/
theorem v486 (h0 : ∀ i, Fine (x0 i)) (h1 : ∀ i, Fine (x1 i)) (h3 : ∀ i, Fine (x3 i)) (h4 : ∀ i, Fine (x4 i)) (j : Fin 16) (n : Fin 2048) (e : Fin 128) :
    val_main_v486 (F := Ideal) x0 x1 x3 x4 (ix3 j n e) =
      ((Chain.dv (sg (rd2 x3) j.val) (st (rd3 x0) j.val) (st (rd3 x1) j.val) (st (rd3 x4) j.val) (n.val / 128) (n.val % 128) e.val : ℝ) : EReal) := by
  unfold val_main_v486
  pointwise
  exact v449 h0 h1 h3 h4 _ _ _ _

/-- The gradient of the keys, the chunks laid end to end. -/
theorem v487 (h0 : ∀ i, Fine (x0 i)) (h2 : ∀ i, Fine (x2 i)) (h3 : ∀ i, Fine (x3 i)) (h4 : ∀ i, Fine (x4 i)) (j : Fin 16) (n : Fin 2048) (d : Fin 128) :
    val_main_v487 (F := Ideal) x0 x2 x3 x4 (ix3 j n d) =
      ((Chain.dk (sg (rd2 x3) j.val) (st (rd3 x0) j.val) (st (rd3 x2) j.val) (st (rd3 x4) j.val) (n.val / 128) (n.val % 128) d.val : ℝ) : EReal) := by
  unfold val_main_v487
  pointwise
  exact v458 h0 h2 h3 h4 _ _ _ _

/-- The gradient of the queries, the chunks laid end to end. -/
theorem v488 (h1 : ∀ i, Fine (x1 i)) (h2 : ∀ i, Fine (x2 i)) (h3 : ∀ i, Fine (x3 i)) (h4 : ∀ i, Fine (x4 i)) (j : Fin 16) (n : Fin 2048) (d : Fin 128) :
    val_main_v488 (F := Ideal) x1 x2 x3 x4 (ix3 j n d) =
      ((Chain.dq (sg (rd2 x3) j.val) (st (rd3 x1) j.val) (st (rd3 x2) j.val) (st (rd3 x4) j.val) (s0 (rd2 x3) (rd3 x1) (rd3 x2) j.val) (n.val / 128) (n.val % 128) d.val : ℝ) : EReal) := by
  unfold val_main_v488
  pointwise
  exact v460 h1 h2 h3 h4 _ _ _ _

end Cert.ReferenceIdeal.Value

end
-- ==== Proof.RFinal.lean ====
/-
  The gradients the reference ends with.
-/
module

public import proofs.«01_k».proof.Proof.RGrads
public import proofs.«01_k».proof.Proof.Combine

@[expose] public section

noncomputable section

namespace Cert.ReferenceIdeal.Value

open Idealize.ShloMosaic Idealize.ShloMosaic.TcCoe Idealize.SL.Sem
open Cert.ReferenceIdeal Cert.ReferenceIdeal.Gen Cert.ReferenceIdeal.Read Cert.Ret Finset

variable {x0 : (⟨S8x2048x128, .bf16⟩ : BufTy).Contents (Elt Ideal)} {x1 x2 : (⟨S8x2304x128, .bf16⟩ : BufTy).Contents (Elt Ideal)}
  {x3 : (⟨S2x8, .f32⟩ : BufTy).Contents (Elt Ideal)} {x4 : (⟨S8x2048x128, .f32⟩ : BufTy).Contents (Elt Ideal)}

theorem sg_lo (h : Fin 8) : sg (rd2 x3) h.val = rd2 x3 0 h.val := if_pos h.isLt
theorem sg_hi (h : Fin 8) : sg (rd2 x3) (8 + h.val) = rd2 x3 1 h.val := by
  rw [sg, if_neg (by omega), Nat.add_sub_cancel_left]
theorem st_lo (X : ℕ → ℕ → ℕ → ℝ) (h : Fin 8) : st X h.val = X h.val := if_pos h.isLt
theorem st_hi (X : ℕ → ℕ → ℕ → ℝ) (h : Fin 8) : st X (8 + h.val) = fl (X h.val) := by
  rw [st, if_neg (by omega), Nat.add_sub_cancel_left]
theorem s0_lo (G : ℕ → ℕ → ℝ) (K V : ℕ → ℕ → ℕ → ℝ) (h : Fin 8) : s0 G K V h.val = s0f (G 0 h.val) (K h.val) (V h.val) := if_pos h.isLt
theorem s0_hi (G : ℕ → ℕ → ℝ) (K V : ℕ → ℕ → ℕ → ℝ) (h : Fin 8) : s0 G K V (8 + h.val) = s0b (G 1 h.val) (K h.val) (V h.val) := by
  rw [s0, if_neg (by omega), Nat.add_sub_cancel_left]
theorem rev_val (n : Fin 2048) : n.rev.val = 2047 - n.val := by rw [Fin.val_rev]; omega

/-- The queries' gradient through the forward scan. -/
theorem v497 (h1 : ∀ i, Fine (x1 i)) (h2 : ∀ i, Fine (x2 i)) (h3 : ∀ i, Fine (x3 i)) (h4 : ∀ i, Fine (x4 i)) (h : Fin 8) (n : Fin 2048) (d : Fin 128) :
    val_main_v497 (F := Ideal) x1 x2 x3 x4 (ix3 h n d) = ((Chain.dq (rd2 x3 0 h.val) (rd3 x1 h.val) (rd3 x2 h.val) (rd3 x4 h.val) (s0f (rd2 x3 0 h.val) (rd3 x1 h.val) (rd3 x2 h.val)) (n.val / 128) (n.val % 128) d.val : ℝ) : EReal) := by
  unfold val_main_v497
  pointwise
  refine (v488 h1 h2 h3 h4 ⟨h.val, by omega⟩ n d).trans ?_
  dsimp only
  simp only [sg_lo, st_lo, s0_lo]

/-- The queries' gradient through the scan from the end. -/
theorem v499 (h1 : ∀ i, Fine (x1 i)) (h2 : ∀ i, Fine (x2 i)) (h3 : ∀ i, Fine (x3 i)) (h4 : ∀ i, Fine (x4 i)) (h : Fin 8) (n : Fin 2048) (d : Fin 128) :
    val_main_v499 (F := Ideal) x1 x2 x3 x4 (ix3 h n d) = ((Chain.dq (rd2 x3 1 h.val) (fl (rd3 x1 h.val)) (fl (rd3 x2 h.val)) (fl (rd3 x4 h.val)) (s0b (rd2 x3 1 h.val) (rd3 x1 h.val) (rd3 x2 h.val)) ((2047 - n.val) / 128) ((2047 - n.val) % 128) d.val : ℝ) : EReal) := by
  unfold val_main_v499 val_main_v498
  pointwise
  refine (v488 h1 h2 h3 h4 ⟨8 + h.val, by omega⟩ n.rev d).trans ?_
  dsimp only
  rw [rev_val]
  simp only [sg_hi, st_hi, s0_hi]

theorem v500 (h1 : ∀ i, Fine (x1 i)) (h2 : ∀ i, Fine (x2 i)) (h3 : ∀ i, Fine (x3 i)) (h4 : ∀ i, Fine (x4 i)) (h : Fin 8) (n : Fin 2048) (d : Fin 128) :
    val_main_v500 (F := Ideal) x1 x2 x3 x4 (ix3 h n d) = ((dqS (rd2 x3 0 h.val) (rd2 x3 1 h.val) (rd3 x1 h.val) (rd3 x2 h.val) (rd3 x4 h.val) 2304 n.val d.val : ℝ) : EReal) := by
  unfold val_main_v500
  pointwise
  rw [v497 h1 h2 h3 h4, v499 h1 h2 h3 h4, ← EReal.coe_add, dq_total _ _ _ _ _ n.isLt]

/-- The keys' gradient through the forward scan. -/
theorem v493 (h0 : ∀ i, Fine (x0 i)) (h2 : ∀ i, Fine (x2 i)) (h3 : ∀ i, Fine (x3 i)) (h4 : ∀ i, Fine (x4 i)) (h : Fin 8) (n : Fin 2048) (d : Fin 128) :
    val_main_v493 (F := Ideal) x0 x2 x3 x4 (ix3 h n d) = ((Chain.dk (rd2 x3 0 h.val) (rd3 x0 h.val) (rd3 x2 h.val) (rd3 x4 h.val) (n.val / 128) (n.val % 128) d.val : ℝ) : EReal) := by
  unfold val_main_v493
  pointwise
  refine (v487 h0 h2 h3 h4 ⟨h.val, by omega⟩ n d).trans ?_
  dsimp only
  simp only [sg_lo, st_lo, s0_lo]

/-- The keys' gradient through the scan from the end. -/
theorem v495 (h0 : ∀ i, Fine (x0 i)) (h2 : ∀ i, Fine (x2 i)) (h3 : ∀ i, Fine (x3 i)) (h4 : ∀ i, Fine (x4 i)) (h : Fin 8) (n : Fin 2048) (d : Fin 128) :
    val_main_v495 (F := Ideal) x0 x2 x3 x4 (ix3 h n d) = ((Chain.dk (rd2 x3 1 h.val) (fl (rd3 x0 h.val)) (fl (rd3 x2 h.val)) (fl (rd3 x4 h.val)) ((2047 - n.val) / 128) ((2047 - n.val) % 128) d.val : ℝ) : EReal) := by
  unfold val_main_v495 val_main_v494
  pointwise
  refine (v487 h0 h2 h3 h4 ⟨8 + h.val, by omega⟩ n.rev d).trans ?_
  dsimp only
  rw [rev_val]
  simp only [sg_hi, st_hi, s0_hi]

theorem v496 (h0 : ∀ i, Fine (x0 i)) (h2 : ∀ i, Fine (x2 i)) (h3 : ∀ i, Fine (x3 i)) (h4 : ∀ i, Fine (x4 i)) (h : Fin 8) (n : Fin 2048) (d : Fin 128) :
    val_main_v496 (F := Ideal) x0 x2 x3 x4 (ix3 h n d) = ((dkS (rd2 x3 0 h.val) (rd2 x3 1 h.val) (rd3 x0 h.val) (rd3 x2 h.val) (rd3 x4 h.val) 2048 n.val d.val : ℝ) : EReal) := by
  unfold val_main_v496
  pointwise
  rw [v493 h0 h2 h3 h4, v495 h0 h2 h3 h4, ← EReal.coe_add, dk_total _ _ _ _ _ n.isLt]

/-- The values' gradient through the forward scan. -/
theorem v489 (h0 : ∀ i, Fine (x0 i)) (h1 : ∀ i, Fine (x1 i)) (h3 : ∀ i, Fine (x3 i)) (h4 : ∀ i, Fine (x4 i)) (h : Fin 8) (n : Fin 2048) (d : Fin 128) :
    val_main_v489 (F := Ideal) x0 x1 x3 x4 (ix3 h n d) = ((Chain.dv (rd2 x3 0 h.val) (rd3 x0 h.val) (rd3 x1 h.val) (rd3 x4 h.val) (n.val / 128) (n.val % 128) d.val : ℝ) : EReal) := by
  unfold val_main_v489
  pointwise
  refine (v486 h0 h1 h3 h4 ⟨h.val, by omega⟩ n d).trans ?_
  dsimp only
  simp only [sg_lo, st_lo, s0_lo]

/-- The values' gradient through the scan from the end. -/
theorem v491 (h0 : ∀ i, Fine (x0 i)) (h1 : ∀ i, Fine (x1 i)) (h3 : ∀ i, Fine (x3 i)) (h4 : ∀ i, Fine (x4 i)) (h : Fin 8) (n : Fin 2048) (d : Fin 128) :
    val_main_v491 (F := Ideal) x0 x1 x3 x4 (ix3 h n d) = ((Chain.dv (rd2 x3 1 h.val) (fl (rd3 x0 h.val)) (fl (rd3 x1 h.val)) (fl (rd3 x4 h.val)) ((2047 - n.val) / 128) ((2047 - n.val) % 128) d.val : ℝ) : EReal) := by
  unfold val_main_v491 val_main_v490
  pointwise
  refine (v486 h0 h1 h3 h4 ⟨8 + h.val, by omega⟩ n.rev d).trans ?_
  dsimp only
  rw [rev_val]
  simp only [sg_hi, st_hi, s0_hi]

theorem v492 (h0 : ∀ i, Fine (x0 i)) (h1 : ∀ i, Fine (x1 i)) (h3 : ∀ i, Fine (x3 i)) (h4 : ∀ i, Fine (x4 i)) (h : Fin 8) (n : Fin 2048) (d : Fin 128) :
    val_main_v492 (F := Ideal) x0 x1 x3 x4 (ix3 h n d) = ((dvS (rd2 x3 0 h.val) (rd2 x3 1 h.val) (rd3 x0 h.val) (rd3 x1 h.val) (rd3 x4 h.val) 2048 n.val d.val : ℝ) : EReal) := by
  unfold val_main_v492
  pointwise
  rw [v489 h0 h1 h3 h4, v491 h0 h1 h3 h4, ← EReal.coe_add, dv_total _ _ _ _ _ n.isLt]

/-- The gradient of the context's state, forward. -/
theorem v504 (h0 : ∀ i, Fine (x0 i)) (h3 : ∀ i, Fine (x3 i)) (h4 : ∀ i, Fine (x4 i)) (h : Fin 8) (d e : Fin 128) :
    val_main_v504 (F := Ideal) x0 x3 x4 (ix3 h d e) = ((g0f (rd2 x3 0 h.val) (rd3 x0 h.val) (rd3 x4 h.val) d.val e.val : ℝ) : EReal) := by
  unfold val_main_v504
  pointwise
  rw [← grads_last (by omega)]
  refine (grads_eq h0 h3 h4 16 (by omega) ⟨h.val, by omega⟩ d e).trans ?_
  dsimp only
  simp only [sg_lo, st_lo]
  rfl

/-- The gradient of the context's state, from the end. -/
theorem v505 (h0 : ∀ i, Fine (x0 i)) (h3 : ∀ i, Fine (x3 i)) (h4 : ∀ i, Fine (x4 i)) (h : Fin 8) (d e : Fin 128) :
    val_main_v505 (F := Ideal) x0 x3 x4 (ix3 h d e) = ((g0b (rd2 x3 1 h.val) (rd3 x0 h.val) (rd3 x4 h.val) d.val e.val : ℝ) : EReal) := by
  unfold val_main_v505
  pointwise
  rw [← grads_last (by omega)]
  refine (grads_eq h0 h3 h4 16 (by omega) ⟨8 + h.val, by omega⟩ d e).trans ?_
  dsimp only
  simp only [sg_hi, st_hi]
  rfl

theorem v3 (h1 : ∀ i, Fine (x1 i)) (h : Fin 8) (p : Fin 256) (d : Fin 128) :
    val_main_v3 (F := Ideal) x1 (ix3 h p d) = ((rd3 x1 h.val (2048 + p.val) d.val : ℝ) : EReal) := by
  unfold val_main_v3 val_main_v1
  pointwise
  exact rd3_eq h1 h ⟨2048 + p.val, by omega⟩ d

theorem v4 (h2 : ∀ i, Fine (x2 i)) (h : Fin 8) (p : Fin 256) (d : Fin 128) :
    val_main_v4 (F := Ideal) x2 (ix3 h p d) = ((rd3 x2 h.val (2048 + p.val) d.val : ℝ) : EReal) := by
  unfold val_main_v4 val_main_v2
  pointwise
  exact rd3_eq h2 h ⟨2048 + p.val, by omega⟩ d

theorem v509 (h0 : ∀ i, Fine (x0 i)) (h2 : ∀ i, Fine (x2 i)) (h3 : ∀ i, Fine (x3 i)) (h4 : ∀ i, Fine (x4 i)) (h : Fin 8) (p : Fin 256) (d : Fin 128) :
    val_main_v509 (F := Ideal) x0 x2 x3 x4 (ix3 h p d) =
      ((∑ e ∈ range 128, g0b (rd2 x3 1 h.val) (rd3 x0 h.val) (rd3 x4 h.val) d.val e * (rd3 x2 h.val) (2048 + p.val) e : ℝ) : EReal) := by
  unfold val_main_v509 val_main_v508
  pointwise
  exact sum_fin (fun e => g0b (rd2 x3 1 h.val) (rd3 x0 h.val) (rd3 x4 h.val) d.val e * (rd3 x2 h.val) (2048 + p.val) e) fun e => by
    rw [v505 h0 h3 h4, v4 h2, EReal.coe_mul]

theorem v520 (h0 : ∀ i, Fine (x0 i)) (h2 : ∀ i, Fine (x2 i)) (h3 : ∀ i, Fine (x3 i)) (h4 : ∀ i, Fine (x4 i)) (h : Fin 8) (p : Fin 256) (d : Fin 128) :
    val_main_v520 (F := Ideal) x0 x2 x3 x4 (ix3 h p d) =
      ((∑ e ∈ range 128, g0f (rd2 x3 0 h.val) (rd3 x0 h.val) (rd3 x4 h.val) d.val e * (rd3 x2 h.val) (2048 + p.val) e : ℝ) : EReal) := by
  unfold val_main_v520 val_main_v519
  pointwise
  exact sum_fin (fun e => g0f (rd2 x3 0 h.val) (rd3 x0 h.val) (rd3 x4 h.val) d.val e * (rd3 x2 h.val) (2048 + p.val) e) fun e => by
    rw [v504 h0 h3 h4, v4 h2, EReal.coe_mul]

/-- The context rows of the keys' gradient. -/
theorem v523 (h0 : ∀ i, Fine (x0 i)) (h2 : ∀ i, Fine (x2 i)) (h3 : ∀ i, Fine (x3 i)) (h4 : ∀ i, Fine (x4 i)) (h : Fin 8) (p : Fin 256) (d : Fin 128) :
    val_main_v523 (F := Ideal) x0 x2 x3 x4 (ix3 h p d) = ((dkS (rd2 x3 0 h.val) (rd2 x3 1 h.val) (rd3 x0 h.val) (rd3 x2 h.val) (rd3 x4 h.val) 2048 (2048 + p.val) d.val : ℝ) : EReal) := by
  unfold val_main_v523 val_main_v511 val_main_v522 val_main_v510 val_main_v521 val_main_v28 val_main_v24
  pointwise
  rw [v509 h0 h2 h3 h4, v520 h0 h2 h3 h4, v23 h3, v17 h3, ← EReal.coe_mul, ← EReal.coe_mul, ← EReal.coe_add, dk_ctx _ _ _ _ _ p.isLt]

/-- The context rows of the values' gradient. -/
theorem v518 (h0 : ∀ i, Fine (x0 i)) (h1 : ∀ i, Fine (x1 i)) (h3 : ∀ i, Fine (x3 i)) (h4 : ∀ i, Fine (x4 i)) (h : Fin 8) (p : Fin 256) (e : Fin 128) :
    val_main_v518 (F := Ideal) x0 x1 x3 x4 (ix3 h p e) = ((dvS (rd2 x3 0 h.val) (rd2 x3 1 h.val) (rd3 x0 h.val) (rd3 x1 h.val) (rd3 x4 h.val) 2048 (2048 + p.val) e.val : ℝ) : EReal) := by
  unfold val_main_v518 val_main_v507 val_main_v517 val_main_v506 val_main_v516 val_main_v30 val_main_v26 val_main_v29 val_main_v25 val_main_v28 val_main_v24
  pointwise
  rw [← dv_ctx _ _ _ _ _ p.isLt, EReal.coe_add]
  refine congr (congrArg _ (sum_fin (fun d => g0b (rd2 x3 1 h.val) (rd3 x0 h.val) (rd3 x4 h.val) d e.val * (Real.exp (rd2 x3 1 h.val * p.val) * (rd3 x1 h.val) (2048 + p.val) d)) fun d => ?_))
    (sum_fin (fun d => g0f (rd2 x3 0 h.val) (rd3 x0 h.val) (rd3 x4 h.val) d e.val * (Real.exp (rd2 x3 0 h.val * (255 - p.val)) * (rd3 x1 h.val) (2048 + p.val) d)) fun d => ?_)
  · rw [v505 h0 h3 h4, v23 h3, v3 h1, ← EReal.coe_mul, ← EReal.coe_mul]
  · rw [v504 h0 h3 h4, v17 h3, v3 h1, ← EReal.coe_mul, ← EReal.coe_mul]

/-- The keys' gradient. -/
theorem v549 (h0 : ∀ i, Fine (x0 i)) (h2 : ∀ i, Fine (x2 i)) (h3 : ∀ i, Fine (x3 i)) (h4 : ∀ i, Fine (x4 i)) (h : Fin 8) (n : Fin 2304) (d : Fin 128) :
    val_main_v549 (F := Ideal) x0 x2 x3 x4 (ix3 h n d) = ((dkS (rd2 x3 0 h.val) (rd2 x3 1 h.val) (rd3 x0 h.val) (rd3 x2 h.val) (rd3 x4 h.val) 2048 n.val d.val : ℝ) : EReal) := by
  unfold val_main_v549 val_main_v548 val_main_v503 val_main_cst_58 val_main_cst_70
  pointwise
  by_cases hn : n.val < 2048
  · rw [dif_pos hn, dif_neg (by omega), add_zero]
    exact v496 h0 h2 h3 h4 h ⟨n.val, hn⟩ d
  · rw [dif_neg hn, dif_pos (by omega), zero_add]
    refine (v523 h0 h2 h3 h4 h ⟨n.val - 2048, by omega⟩ d).trans ?_
    dsimp only
    rw [Nat.add_sub_cancel' (by omega)]

/-- The values' gradient. -/
theorem v547 (h0 : ∀ i, Fine (x0 i)) (h1 : ∀ i, Fine (x1 i)) (h3 : ∀ i, Fine (x3 i)) (h4 : ∀ i, Fine (x4 i)) (h : Fin 8) (n : Fin 2304) (d : Fin 128) :
    val_main_v547 (F := Ideal) x0 x1 x3 x4 (ix3 h n d) = ((dvS (rd2 x3 0 h.val) (rd2 x3 1 h.val) (rd3 x0 h.val) (rd3 x1 h.val) (rd3 x4 h.val) 2048 n.val d.val : ℝ) : EReal) := by
  unfold val_main_v547 val_main_v546 val_main_v502 val_main_cst_57 val_main_cst_69
  pointwise
  by_cases hn : n.val < 2048
  · rw [dif_pos hn, dif_neg (by omega), add_zero]
    exact v492 h0 h1 h3 h4 h ⟨n.val, hn⟩ d
  · rw [dif_neg hn, dif_pos (by omega), zero_add]
    refine (v518 h0 h1 h3 h4 h ⟨n.val - 2048, by omega⟩ d).trans ?_
    dsimp only
    rw [Nat.add_sub_cancel' (by omega)]

theorem v515 (h0 : ∀ i, Fine (x0 i)) (h1 : ∀ i, Fine (x1 i)) (h2 : ∀ i, Fine (x2 i)) (h3 : ∀ i, Fine (x3 i)) (h4 : ∀ i, Fine (x4 i)) (h : Fin 8) (p : Fin 256) :
    val_main_v515 (F := Ideal) x0 x1 x2 x3 x4 (ix2 h p) =
      ((∑ d ∈ range 128, (∑ e ∈ range 128, g0b (rd2 x3 1 h.val) (rd3 x0 h.val) (rd3 x4 h.val) d e * (rd3 x2 h.val) (2048 + p.val) e) * (rd3 x1 h.val) (2048 + p.val) d : ℝ) : EReal) := by
  unfold val_main_v515 val_main_v514 val_main_v513 val_main_v512 val_main_cst_59 val_main_cst_60
  pointwise
  simp only [univ_unique, sum_singleton]
  exact sum_fin (fun d => (∑ e ∈ range 128, g0b (rd2 x3 1 h.val) (rd3 x0 h.val) (rd3 x4 h.val) d e * (rd3 x2 h.val) (2048 + p.val) e) * (rd3 x1 h.val) (2048 + p.val) d) fun d => by
    rw [v509 h0 h2 h3 h4, v3 h1, ← EReal.coe_mul]

/-- The context's part of the decay's gradient, from the end. -/
theorem v533 (h0 : ∀ i, Fine (x0 i)) (h1 : ∀ i, Fine (x1 i)) (h2 : ∀ i, Fine (x2 i)) (h3 : ∀ i, Fine (x3 i)) (h4 : ∀ i, Fine (x4 i)) (h : Fin 8) :
    val_main_v533 (F := Ideal) x0 x1 x2 x3 x4 (ix1 h) =
      ((∑ p ∈ range 256, (∑ d ∈ range 128, (∑ e ∈ range 128, g0b (rd2 x3 1 h.val) (rd3 x0 h.val) (rd3 x4 h.val) d e * (rd3 x2 h.val) (2048 + p) e) * (rd3 x1 h.val) (2048 + p) d) * Real.exp (rd2 x3 1 h.val * p) * p : ℝ) : EReal) := by
  unfold val_main_v533 val_main_v532 val_main_v531 val_main_v530 val_main_v529 val_main_v528 val_main_v19 val_main_cst_63 val_main_cst_64
  pointwise
  simp only [univ_unique, sum_singleton]
  exact sum_fin (fun p => (∑ d ∈ range 128, (∑ e ∈ range 128, g0b (rd2 x3 1 h.val) (rd3 x0 h.val) (rd3 x4 h.val) d e * (rd3 x2 h.val) (2048 + p) e) * (rd3 x1 h.val) (2048 + p) d) * Real.exp (rd2 x3 1 h.val * p) * p) fun p => by
    rw [v515 h0 h1 h2 h3 h4, v23 h3, v9, ← EReal.coe_mul, ← EReal.coe_mul]

theorem v527 (h0 : ∀ i, Fine (x0 i)) (h1 : ∀ i, Fine (x1 i)) (h2 : ∀ i, Fine (x2 i)) (h3 : ∀ i, Fine (x3 i)) (h4 : ∀ i, Fine (x4 i)) (h : Fin 8) (p : Fin 256) :
    val_main_v527 (F := Ideal) x0 x1 x2 x3 x4 (ix2 h p) =
      ((∑ d ∈ range 128, (∑ e ∈ range 128, g0f (rd2 x3 0 h.val) (rd3 x0 h.val) (rd3 x4 h.val) d e * (rd3 x2 h.val) (2048 + p.val) e) * (rd3 x1 h.val) (2048 + p.val) d : ℝ) : EReal) := by
  unfold val_main_v527 val_main_v526 val_main_v525 val_main_v524 val_main_cst_61 val_main_cst_62
  pointwise
  simp only [univ_unique, sum_singleton]
  exact sum_fin (fun d => (∑ e ∈ range 128, g0f (rd2 x3 0 h.val) (rd3 x0 h.val) (rd3 x4 h.val) d e * (rd3 x2 h.val) (2048 + p.val) e) * (rd3 x1 h.val) (2048 + p.val) d) fun d => by
    rw [v520 h0 h2 h3 h4, v3 h1, ← EReal.coe_mul]

/-- The context's part of the decay's gradient, forward. -/
theorem v539 (h0 : ∀ i, Fine (x0 i)) (h1 : ∀ i, Fine (x1 i)) (h2 : ∀ i, Fine (x2 i)) (h3 : ∀ i, Fine (x3 i)) (h4 : ∀ i, Fine (x4 i)) (h : Fin 8) :
    val_main_v539 (F := Ideal) x0 x1 x2 x3 x4 (ix1 h) =
      ((∑ p ∈ range 256, (∑ d ∈ range 128, (∑ e ∈ range 128, g0f (rd2 x3 0 h.val) (rd3 x0 h.val) (rd3 x4 h.val) d e * (rd3 x2 h.val) (2048 + p) e) * (rd3 x1 h.val) (2048 + p) d) * Real.exp (rd2 x3 0 h.val * (255 - p)) * (255 - p) : ℝ) : EReal) := by
  unfold val_main_v539 val_main_v538 val_main_v537 val_main_v536 val_main_v535 val_main_v534 val_main_v13 val_main_cst_65 val_main_cst_66
  pointwise
  simp only [univ_unique, sum_singleton]
  exact sum_fin (fun p => (∑ d ∈ range 128, (∑ e ∈ range 128, g0f (rd2 x3 0 h.val) (rd3 x0 h.val) (rd3 x4 h.val) d e * (rd3 x2 h.val) (2048 + p) e) * (rd3 x1 h.val) (2048 + p) d) * Real.exp (rd2 x3 0 h.val * (255 - p)) * (255 - p)) fun p => by
    rw [v527 h0 h1 h2 h3 h4, v17 h3, v12, ← EReal.coe_mul, ← EReal.coe_mul]

/-- The decays' gradient: the forward one in the first row, the one from the end in the second. -/
theorem v554 (h0 : ∀ i, Fine (x0 i)) (h1 : ∀ i, Fine (x1 i)) (h2 : ∀ i, Fine (x2 i)) (h3 : ∀ i, Fine (x3 i)) (h4 : ∀ i, Fine (x4 i)) (h : Fin 8) (b : Fin 8) (l : Fin 128) :
    val_main_v554 (F := Ideal) x0 x1 x2 x3 x4 (ix3 h b l) =
      (((if b.val = 0 then tiles (gF (rd2 x3 0 h.val) (rd3 x0 h.val) (rd3 x1 h.val) (rd3 x2 h.val) (rd3 x4 h.val)) 12
        else if b.val = 1 then tiles (gB (rd2 x3 1 h.val) (rd3 x0 h.val) (rd3 x1 h.val) (rd3 x2 h.val) (rd3 x4 h.val)) 12 else 0 : ℝ)) : EReal) := by
  unfold val_main_v554 val_main_v553 val_main_v552 val_main_v551 val_main_v550 val_main_v545 val_main_v544 val_main_v543 val_main_v542 val_main_v541
    val_main_v540 val_main_v501 val_main_cst_67 val_main_cst_68 val_main_cst_71
  pointwise
  by_cases b0 : b.val = 0
  · rw [dif_pos (by omega), dif_neg (by omega), dif_pos (by omega), if_pos b0, v539 h0 h1 h2 h3 h4, add_zero]
    have hi : (⟨b.val * 8 + h.val, by omega⟩ : Fin 16) = ⟨h.val, by omega⟩ := Fin.ext (by dsimp only; omega)
    rw [hi, v485 h0 h1 h2 h3 h4, ← EReal.coe_add]
    dsimp only
    simp only [sg_lo, st_lo, s0_lo]
    rw [dlg_f, tiles_eq]
  by_cases b1 : b.val = 1
  · rw [dif_pos (by omega), dif_pos (by omega), dif_neg (by omega), if_neg b0, if_pos b1, v533 h0 h1 h2 h3 h4, add_zero]
    have hi : (⟨b.val * 8 + h.val, by omega⟩ : Fin 16) = ⟨8 + h.val, by omega⟩ := Fin.ext (by dsimp only; omega)
    rw [hi, v485 h0 h1 h2 h3 h4, ← EReal.coe_add]
    dsimp only
    simp only [sg_hi, st_hi, s0_hi]
    rw [dlg_b, tiles_eq]
  · rw [dif_neg (by omega), if_neg b0, if_neg b1, EReal.coe_zero]

end Cert.ReferenceIdeal.Value

end
-- ==== Proof.Claims.lean ====
/-
  The claims: the precondition read, the two runs' results compared.
-/
module

public import proofs.«01_k».proof.Defs
public import proofs.«01_k».proof.Proof.Gen.Kernel.Frame
public import proofs.«01_k».proof.Proof.Gen.KernelIdeal.Frame
public import proofs.«01_k».proof.Proof.KFinal
public import proofs.«01_k».proof.Proof.RFinal

@[expose] public section

noncomputable section

namespace Cert.Claims

open Idealize.ShloMosaic Idealize.ShloMosaic.TcCoe Idealize.SL.Sem Cert.Ret

/-- The shapes the precondition broadcasts its bound to. -/
theorem preFacts : Cert.Pre_finite.Facts := ⟨by decide, by decide, by decide⟩

theorem top32 : Ideal.ofBits .f32 0x7F800000#32 = ⊤ := by simp [Ideal.ofBits, Ideal.ieee]
theorem top16 : Ideal.ofBits .bf16 0x7F80#16 = ⊤ := by simp [Ideal.ofBits, Ideal.ieee]

/-- A value whose magnitude is below infinity is a real number. -/
theorem fine_of_lt {x : EReal} (h : Ideal.cmp .olt (max x (-x)) ⊤ = 1#1) : Fine x := by
  have lt : max x (-x) < ⊤ := by
    by_contra hn
    simp [Ideal.cmp, hn] at h
  constructor
  · rintro rfl
    simp at lt
  · rintro rfl
    simp at lt

theorem finite_of_pre (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) : Cert.KernelIdeal.Value.Finite m c := by
  obtain ⟨a0, a1, a2, a3, a4⟩ := h c
  have t32 := top32
  have t16 := top16
  exact {
    q := fun i => fine_of_lt (t16 ▸ congrFun a0 i)
    k := fun i => fine_of_lt (t16 ▸ congrFun a1 i)
    v := fun i => fine_of_lt (t16 ▸ congrFun a2 i)
    g := fun i => fine_of_lt (t32 ▸ congrFun a3 i)
    d := fun i => fine_of_lt (t32 ▸ congrFun a4 i) }

theorem frame_ri : Cert.quiescent_ReferenceIdeal (hReferenceIdeal := Cert.ReferenceIdeal.Gen.facts) := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- From arguments that agree and are finite, both programs end with the same four gradients. -/
theorem algebraic : Cert.algebraic_KernelIdeal_ReferenceIdeal_pre_finite (hKernelIdeal := Cert.KernelIdeal.Gen.facts)
    (hReferenceIdeal := Cert.ReferenceIdeal.Gen.facts) (hPre_finite := preFacts) := by
  intro m ρ m' ρ' hpre hagree
  have H := finite_of_pre m hpre
  refine ⟨fun c => Cert.KernelIdeal.Value.resDq m c, fun c => Cert.KernelIdeal.Value.resDk m c, fun c => Cert.KernelIdeal.Value.resDv m c,
    fun c => Cert.KernelIdeal.Value.resDlg m c, Cert.KernelIdeal.Value.run ρ H, ?_⟩
  refine (θ_run Cert.ReferenceIdeal.defs _ _).mono (fun _ h c => ?_) (Cert.ReferenceIdeal.Value.run (F := Ideal) m' ρ')
  obtain ⟨e0, e1, e2, e3, rest⟩ := h c
  obtain ⟨g0, g1, g2, g3, g4⟩ := hagree c
  have f0 : ∀ i, Fine (m' ((c.tc : Thread Cert.ReferenceIdeal.nD Cert.ReferenceIdeal.τ).loc Cert.ReferenceIdeal.main_arg0) i) := g0 ▸ (H c).q
  have f1 : ∀ i, Fine (m' ((c.tc : Thread Cert.ReferenceIdeal.nD Cert.ReferenceIdeal.τ).loc Cert.ReferenceIdeal.main_arg1) i) := g1 ▸ (H c).k
  have f2 : ∀ i, Fine (m' ((c.tc : Thread Cert.ReferenceIdeal.nD Cert.ReferenceIdeal.τ).loc Cert.ReferenceIdeal.main_arg2) i) := g2 ▸ (H c).v
  have f3 : ∀ i, Fine (m' ((c.tc : Thread Cert.ReferenceIdeal.nD Cert.ReferenceIdeal.τ).loc Cert.ReferenceIdeal.main_arg3) i) := g3 ▸ (H c).g
  have f4 : ∀ i, Fine (m' ((c.tc : Thread Cert.ReferenceIdeal.nD Cert.ReferenceIdeal.τ).loc Cert.ReferenceIdeal.main_arg4) i) := g4 ▸ (H c).d
  refine ⟨e0.trans ?_, e1.trans ?_, e2.trans ?_, e3.trans ?_, rest⟩
  · refine (Cert.ReferenceIdeal.Read.val_main_v500_eq _).trans (funext fun i => ?_)
    refine (congrArg _ (eq_ix3 i)).trans ((Cert.ReferenceIdeal.Value.v500 f1 f2 f3 f4 (i 0) (i 1) (i 2)).trans ?_)
    rw [g1, g2, g3, g4]
    rfl
  · refine (Cert.ReferenceIdeal.Read.val_main_v549_eq _).trans (funext fun i => ?_)
    refine (congrArg _ (eq_ix3 i)).trans ((Cert.ReferenceIdeal.Value.v549 f0 f2 f3 f4 (i 0) (i 1) (i 2)).trans ?_)
    rw [g0, g2, g3, g4]
    rfl
  · refine (Cert.ReferenceIdeal.Read.val_main_v547_eq _).trans (funext fun i => ?_)
    refine (congrArg _ (eq_ix3 i)).trans ((Cert.ReferenceIdeal.Value.v547 f0 f1 f3 f4 (i 0) (i 1) (i 2)).trans ?_)
    rw [g0, g1, g3, g4]
    rfl
  · refine (Cert.ReferenceIdeal.Read.val_main_v554_eq _).trans (funext fun i => ?_)
    refine (congrArg _ (eq_ix3 i)).trans ((Cert.ReferenceIdeal.Value.v554 f0 f1 f2 f3 f4 (i 0) (i 1) (i 2)).trans ?_)
    rw [g0, g1, g2, g3, g4]
    rfl

end Cert.Claims

end
-- ==== Proof.Wgrad.lean ====
/-
  The gradient of a feed-forward weight: the kernel makes one block of 704 hidden columns per grid point, the reference
  one product over all 5632 of them.
-/
module

public import proofs.«01_k».proof.Defs
public import proofs.«01_k».proof.Proof.Gen.Kernel2.Frame
public import proofs.«01_k».proof.Proof.Gen.Kernel2Ideal.Value
public import proofs.«01_k».proof.Proof.Gen.Reference2Ideal.Run
public import Idealize.ShloMosaic.Lib.Pipeline.ValueKit
public import Idealize.ShloMosaic.Lib.Pointwise

@[expose] public section

noncomputable section

namespace Cert.Kernel2Ideal.Value

open Idealize.ShloMosaic Idealize.ShloMosaic.TcCoe Idealize.SL.Sem
open Idealize.ShloMosaic.Pipeline (Dat)
open Cert.Kernel2Ideal Cert.Kernel2Ideal.Gen

/-- Block j of the gradient at hidden column a and model column b: the sum over the tokens. -/
def grad (A : (⟨S8x2048x704, .bf16⟩ : BufTy).Contents (Elt Ideal)) (H : (⟨S2048x2048, .bf16⟩ : BufTy).Contents (Elt Ideal)) :
    (⟨S8x704x2048, .bf16⟩ : BufTy).Contents (Elt Ideal) :=
  fun i => ∑ t : Fin 2048, (A (ix3 (i 0) t (i 1)) * H (ix2 t (i 2)) : EReal)

variable (m : (ℓ : Loc nD τ sig) → Buf (Elt Ideal) ℓ) (ρ : Dev nD → PrngReg)

theorem pay_apply (x : Vec Ideal S1x2048x704 .bf16) (y : Vec Ideal S2048x2048 .bf16) (a : Fin 704) (b : Fin 2048) :
    (k0_pay1 x y (ix3 0 a b) : EReal) = ∑ t : Fin 2048, (x (ix3 0 t a) * y (ix2 t b) : EReal) := by
  unfold k0_pay1
  pointwise

theorem idx0 : ∀ t : Fin cfg0.N, win0_0.index t = ![(grid0.coords t 0).val, 0, 0] := by decide +kernel
theorem idx1 : ∀ t : Fin cfg0.N, win0_1.index t = ![0, 0] := by decide +kernel
theorem idx2 : ∀ t : Fin cfg0.N, win0_2.index t = ![(grid0.coords t 0).val, 0, 0] := by decide +kernel

theorem block0 (c : Dev nD) (t : Fin cfg0.N) (k : Fin 2048) (a : Fin 704) (z : Fin 1) (j : Fin 8) (hj : j.val = (grid0.coords t 0).val) :
    (iblk m c 0 t : Vec Ideal S1x2048x704 .bf16) (ix3 z k a) = m ((c : Thread nD τ).loc main_arg0) (ix3 j k a) := by
  have hi := idx0 t
  unfold iblk
  rw [View.read_apply]
  show V m c main_arg0 _ = _
  rw [V_main_arg0]
  congr 1
  funext x
  apply Fin.ext
  match x with
  | ⟨0, _⟩ => show win0_0.index t 0 * 1 + 1 * z.val = j.val; rw [hi, hj]; show (grid0.coords t 0).val * 1 + 1 * z.val = _; omega
  | ⟨1, _⟩ => show win0_0.index t 1 * 2048 + 1 * k.val = k.val; rw [hi]; show 0 * 2048 + 1 * k.val = k.val; omega
  | ⟨2, _⟩ => show win0_0.index t 2 * 704 + 1 * a.val = a.val; rw [hi]; show 0 * 704 + 1 * a.val = a.val; omega

theorem block1 (c : Dev nD) (t : Fin cfg0.N) (k : Fin 2048) (b : Fin 2048) :
    (iblk m c 1 t : Vec Ideal S2048x2048 .bf16) (ix2 k b) = m ((c : Thread nD τ).loc main_arg1) (ix2 k b) := by
  have hi := idx1 t
  unfold iblk
  rw [View.read_apply]
  show V m c main_arg1 _ = _
  rw [V_main_arg1]
  congr 1
  funext x
  apply Fin.ext
  match x with
  | ⟨0, _⟩ => show win0_1.index t 0 * 2048 + 1 * k.val = k.val; rw [hi]; show 0 * 2048 + 1 * k.val = k.val; omega
  | ⟨1, _⟩ => show win0_1.index t 1 * 2048 + 1 * b.val = b.val; rw [hi]; show 0 * 2048 + 1 * b.val = b.val; omega

/-- The array after the run holds the gradient. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have hi := idx2 t
  blk_simp
  rw [after0_2]
  frame_out
  have h0 : (y 0).val < 1 := (y 0).isLt
  have hy : (y : S1x704x2048.Idx) = ix3 0 (y 1) (y 2) := by
    funext x
    match x with
    | ⟨0, _⟩ => exact Fin.ext (by show (y 0).val = 0; omega)
    | ⟨1, _⟩ => rfl
    | ⟨2, _⟩ => rfl
  refine (congrArg (k0_pay1 (iblk m c 0 t) (iblk m c 1 t)) hy).trans ((pay_apply _ _ (y 1) (y 2)).trans ?_)
  unfold grad
  refine Finset.sum_congr rfl fun k _ => congrArg₂ (· * ·) ?_ ?_
  · refine (block0 m c t k (y 1) 0 ((((View.whole main_v0).slice (win0_2.rect t)).emb y) 0) ?_).trans (congrArg _ ?_)
    · show win0_2.index t 0 * 1 + 1 * (y 0).val = _
      rw [hi]
      show (grid0.coords t 0).val * 1 + 1 * (y 0).val = _
      omega
    · refine congrArg (ix3 _ k) (Fin.ext ?_)
      show (y 1).val = win0_2.index t 1 * 704 + 1 * (y 1).val
      rw [hi]
      show (y 1).val = 0 * 704 + 1 * (y 1).val
      omega
  · refine (block1 m c t k (y 2)).trans (congrArg _ (congrArg (ix2 k) (Fin.ext ?_)))
    show (y 2).val = win0_2.index t 2 * 2048 + 1 * (y 2).val
    rw [hi]
    show (y 2).val = 0 * 2048 + 1 * (y 2).val
    omega

theorem run : θ_run defs (onTc (τ := τ) (main (F := Ideal))) ⟨m, fun _ => 0, ρ⟩ fun r => ∀ c : Dev nD,
      r.2.mem ((c : Thread nD τ).loc main_v0) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.Kernel2Ideal.Value

namespace Cert.Reference2Ideal.Value

open Idealize.ShloMosaic Idealize.ShloMosaic.TcCoe Idealize.SL.Sem
open Cert.Reference2Ideal Cert.Reference2Ideal.Gen

theorem grad_apply (A : (⟨S8x2048x704, .bf16⟩ : BufTy).Contents (Elt Ideal)) (H : (⟨S2048x2048, .bf16⟩ : BufTy).Contents (Elt Ideal))
    (j : Fin 8) (a : Fin 704) (b : Fin 2048) :
    (truncf .bf16 (shapeCast _ (transpose S5632x2048 [1, 0] (transpose S2048x5632 [1, 0] (Host.dotGeneral (F := Ideal) dot_S2048x5632_S2048x2048_S5632x2048_0_0_1_1_n_n none (shapeCast _ (transpose S2048x8x704 [1, 0, 2] (extf .f32 A bitsLt_bf16_f32) transposes_S8x2048x704_S2048x8x704_1_0_2) shapeCasts_S2048x8x704_S2048x5632) (extf .f32 H bitsLt_bf16_f32)) transposes_S5632x2048_S2048x5632_1_0) transposes_S2048x5632_S5632x2048_1_0) shapeCasts_S5632x2048_S8x704x2048) bitsLt_bf16_f32 : FVec Ideal S8x704x2048 .bf16) (ix3 j a b)
      = Cert.Kernel2Ideal.Value.grad A H (ix3 j a b) := by
  pointwise
  rfl

end Cert.Reference2Ideal.Value

namespace Cert.Wgrad

open Idealize.ShloMosaic Idealize.ShloMosaic.TcCoe Idealize.SL.Sem

theorem frame_ri : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- From arguments that agree both programs end with the same gradient of the weight. -/
theorem algebraic : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.Value.grad _ _, Cert.Kernel2Ideal.Value.run m ρ, ?_⟩
  refine (θ_run Cert.Reference2Ideal.defs _ _).mono (fun _ h c => ?_) (Cert.Reference2Ideal.Value.run (F := Ideal) m' ρ')
  obtain ⟨g0, g1⟩ := hagree c
  refine ⟨(h c).1.trans (funext fun i => ?_), (h c).2⟩
  rw [g0, g1, eq_ix3 i]
  exact Cert.Reference2Ideal.Value.grad_apply _ _ _ _ _

end Cert.Wgrad

end
-- ==== Proof.WgradIn.lean ====
/-
  The gradient of the mixer's first weight: the kernel makes one block of 896 columns per grid point, the reference
  one product over all 7168 of them.
-/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.WritesUnit

@[expose] public section

noncomputable section

namespace Cert.Kernel3Ideal.Value

open Idealize.ShloMosaic Idealize.ShloMosaic.TcCoe Idealize.SL.Sem
open Idealize.ShloMosaic.Pipeline (Dat)
open Cert.Kernel3Ideal Cert.Kernel3Ideal.Gen

/-- Column b of block j among all columns. -/
def col (j : Fin 8) (b : Fin 896) : Fin 7168 := ⟨j.val * 896 + b.val, by omega⟩

/-- Block j of the gradient at model row a and column b of the block: the sum over the tokens. -/
def grad (A : (⟨S2304x2048, .bf16⟩ : BufTy).Contents (Elt Ideal)) (H : (⟨S2304x7168, .bf16⟩ : BufTy).Contents (Elt Ideal)) :
    (⟨S8x2048x896, .bf16⟩ : BufTy).Contents (Elt Ideal) :=
  fun i => ∑ t : Fin 2304, (A (ix2 t (i 1)) * H (ix2 t (col (i 0) (i 2))) : EReal)

variable (m : (ℓ : Loc nD τ sig) → Buf (Elt Ideal) ℓ) (ρ : Dev nD → PrngReg)

theorem pay_apply (x : Vec Ideal S2304x2048 .bf16) (y : Vec Ideal S2304x896 .bf16) (a : Fin 2048) (b : Fin 896) :
    (k0_pay1 x y (ix3 0 a b) : EReal) = ∑ t : Fin 2304, (x (ix2 t a) * y (ix2 t b) : EReal) := by
  unfold k0_pay1
  pointwise

theorem idx0 : ∀ t : Fin cfg0.N, win0_0.index t = ![0, 0] := by decide +kernel
theorem idx1 : ∀ t : Fin cfg0.N, win0_1.index t = ![0, (grid0.coords t 0).val] := by decide +kernel
theorem idx2 : ∀ t : Fin cfg0.N, win0_2.index t = ![(grid0.coords t 0).val, 0, 0] := by decide +kernel

theorem block0 (c : Dev nD) (t : Fin cfg0.N) (k : Fin 2304) (a : Fin 2048) :
    (iblk m c 0 t : Vec Ideal S2304x2048 .bf16) (ix2 k a) = m ((c : Thread nD τ).loc main_arg0) (ix2 k a) := by
  have hi := idx0 t
  unfold iblk
  rw [View.read_apply]
  show V m c main_arg0 _ = _
  rw [V_main_arg0]
  congr 1
  funext x
  apply Fin.ext
  match x with
  | ⟨0, _⟩ => show win0_0.index t 0 * 2304 + 1 * k.val = k.val; rw [hi]; show 0 * 2304 + 1 * k.val = _; omega
  | ⟨1, _⟩ => show win0_0.index t 1 * 2048 + 1 * a.val = a.val; rw [hi]; show 0 * 2048 + 1 * a.val = _; omega

theorem block1 (c : Dev nD) (t : Fin cfg0.N) (k : Fin 2304) (b : Fin 896) (j : Fin 8) (hj : j.val = (grid0.coords t 0).val) :
    (iblk m c 1 t : Vec Ideal S2304x896 .bf16) (ix2 k b) = m ((c : Thread nD τ).loc main_arg1) (ix2 k (col j b)) := by
  have hi := idx1 t
  unfold iblk
  rw [View.read_apply]
  show V m c main_arg1 _ = _
  rw [V_main_arg1]
  congr 1
  funext x
  apply Fin.ext
  match x with
  | ⟨0, _⟩ => show win0_1.index t 0 * 2304 + 1 * k.val = k.val; rw [hi]; show 0 * 2304 + 1 * k.val = _; omega
  | ⟨1, _⟩ => show win0_1.index t 1 * 896 + 1 * b.val = j.val * 896 + b.val; rw [hi, hj]; show (grid0.coords t 0).val * 896 + 1 * b.val = _; omega

/-- The array after the run holds the gradient. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have hi := idx2 t
  blk_simp
  rw [after0_2]
  frame_out
  have h0 : (y 0).val < 1 := (y 0).isLt
  have hy : (y : S1x2048x896.Idx) = ix3 0 (y 1) (y 2) := by
    funext x
    match x with
    | ⟨0, _⟩ => exact Fin.ext (by show (y 0).val = 0; omega)
    | ⟨1, _⟩ => rfl
    | ⟨2, _⟩ => rfl
  refine (congrArg (k0_pay1 (iblk m c 0 t) (iblk m c 1 t)) hy).trans ((pay_apply _ _ (y 1) (y 2)).trans ?_)
  unfold grad
  refine Finset.sum_congr rfl fun k _ => congrArg₂ (· * ·) ?_ ?_
  · refine (block0 m c t k (y 1)).trans (congrArg _ (congrArg (ix2 k) (Fin.ext ?_)))
    show (y 1).val = win0_2.index t 1 * 2048 + 1 * (y 1).val
    rw [hi]
    show (y 1).val = 0 * 2048 + 1 * (y 1).val
    omega
  · refine (block1 m c t k (y 2) ((((View.whole main_v0).slice (win0_2.rect t)).emb y) 0) ?_).trans (congrArg _ (congrArg (ix2 k) (congrArg (col _) (Fin.ext ?_))))
    · show win0_2.index t 0 * 1 + 1 * (y 0).val = _
      rw [hi]
      show (grid0.coords t 0).val * 1 + 1 * (y 0).val = _
      omega
    show (y 2).val = win0_2.index t 2 * 896 + 1 * (y 2).val
    rw [hi]
    show (y 2).val = 0 * 896 + 1 * (y 2).val
    omega

theorem run : θ_run defs (onTc (τ := τ) (main (F := Ideal))) ⟨m, fun _ => 0, ρ⟩ fun r => ∀ c : Dev nD,
      r.2.mem ((c : Thread nD τ).loc main_v0) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.Kernel3Ideal.Value

namespace Cert.Reference3Ideal.Value

open Idealize.ShloMosaic Idealize.ShloMosaic.TcCoe Idealize.SL.Sem
open Cert.Reference3Ideal Cert.Reference3Ideal.Gen

theorem grad_apply (A : (⟨S2304x2048, .bf16⟩ : BufTy).Contents (Elt Ideal)) (H : (⟨S2304x7168, .bf16⟩ : BufTy).Contents (Elt Ideal)) (j : Fin 8) (a : Fin 2048) (b : Fin 896) :
    (truncf .bf16 (transpose S8x2048x896 [1, 0, 2] (shapeCast _ (transpose S2048x7168 [1, 0] (Host.dotGeneral (F := Ideal) dot_S2304x7168_S2304x2048_S7168x2048_0_0_1_1_n_n none (extf .f32 H bitsLt_bf16_f32) (extf .f32 A bitsLt_bf16_f32)) transposes_S7168x2048_S2048x7168_1_0) shapeCasts_S2048x7168_S2048x8x896) transposes_S2048x8x896_S8x2048x896_1_0_2) bitsLt_bf16_f32 : FVec Ideal S8x2048x896 .bf16) (ix3 j a b)
      = Cert.Kernel3Ideal.Value.grad A H (ix3 j a b) := by
  pointwise
  exact Finset.sum_congr rfl fun _ _ => mul_comm _ _

end Cert.Reference3Ideal.Value

namespace Cert.Wgrad3

open Idealize.ShloMosaic Idealize.ShloMosaic.TcCoe Idealize.SL.Sem

theorem frame_ri : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- From arguments that agree both programs end with the same gradient of the weight. -/
theorem algebraic : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Kernel3Ideal.Value.grad _ _, Cert.Kernel3Ideal.Value.run m ρ, ?_⟩
  refine (θ_run Cert.Reference3Ideal.defs _ _).mono (fun _ h c => ?_) (Cert.Reference3Ideal.Value.run (F := Ideal) m' ρ')
  obtain ⟨g0, g1⟩ := hagree c
  refine ⟨(h c).1.trans (funext fun i => ?_), (h c).2⟩
  rw [g0, g1, eq_ix3 i]
  exact Cert.Reference3Ideal.Value.grad_apply _ _ _ _ _

end Cert.Wgrad3

end
-- ==== Proof.WgradOut.lean ====
/-
  The gradient of the mixer's last weight: the kernel makes one block of 256 rows per grid point, the reference one
  product over all 2048 of them.
-/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Pipeline.ValueKit
public import Idealize.ShloMosaic.Lib.Pointwise
public import Idealize.ShloMosaic.Lib.WritesUnit

@[expose] public section

noncomputable section

namespace Cert.Kernel4Ideal.Value

open Idealize.ShloMosaic Idealize.ShloMosaic.TcCoe Idealize.SL.Sem
open Idealize.ShloMosaic.Pipeline (Dat)
open Cert.Kernel4Ideal Cert.Kernel4Ideal.Gen

/-- Row a of block j among all rows. -/
def row (j : Fin 8) (a : Fin 256) : Fin 2048 := ⟨j.val * 256 + a.val, by omega⟩

/-- Block j of the gradient at row a of the block and model column b: the sum over the tokens. -/
def grad (A : (⟨S2048x2048, .bf16⟩ : BufTy).Contents (Elt Ideal)) (H : (⟨S2048x2048, .bf16⟩ : BufTy).Contents (Elt Ideal)) :
    (⟨S8x256x2048, .bf16⟩ : BufTy).Contents (Elt Ideal) :=
  fun i => ∑ t : Fin 2048, (A (ix2 t (row (i 0) (i 1))) * H (ix2 t (i 2)) : EReal)

variable (m : (ℓ : Loc nD τ sig) → Buf (Elt Ideal) ℓ) (ρ : Dev nD → PrngReg)

theorem pay_apply (x : Vec Ideal S2048x256 .bf16) (y : Vec Ideal S2048x2048 .bf16) (a : Fin 256) (b : Fin 2048) :
    (k0_pay1 x y (ix3 0 a b) : EReal) = ∑ t : Fin 2048, (x (ix2 t a) * y (ix2 t b) : EReal) := by
  unfold k0_pay1
  pointwise

theorem idx0 : ∀ t : Fin cfg0.N, win0_0.index t = ![0, (grid0.coords t 0).val] := by decide +kernel
theorem idx1 : ∀ t : Fin cfg0.N, win0_1.index t = ![0, 0] := by decide +kernel
theorem idx2 : ∀ t : Fin cfg0.N, win0_2.index t = ![(grid0.coords t 0).val, 0, 0] := by decide +kernel

theorem block0 (c : Dev nD) (t : Fin cfg0.N) (k : Fin 2048) (a : Fin 256) (j : Fin 8) (hj : j.val = (grid0.coords t 0).val) :
    (iblk m c 0 t : Vec Ideal S2048x256 .bf16) (ix2 k a) = m ((c : Thread nD τ).loc main_arg0) (ix2 k (row j a)) := by
  have hi := idx0 t
  unfold iblk
  rw [View.read_apply]
  show V m c main_arg0 _ = _
  rw [V_main_arg0]
  congr 1
  funext x
  apply Fin.ext
  match x with
  | ⟨0, _⟩ => show win0_0.index t 0 * 2048 + 1 * k.val = k.val; rw [hi]; show 0 * 2048 + 1 * k.val = _; omega
  | ⟨1, _⟩ => show win0_0.index t 1 * 256 + 1 * a.val = j.val * 256 + a.val; rw [hi, hj]; show (grid0.coords t 0).val * 256 + 1 * a.val = _; omega

theorem block1 (c : Dev nD) (t : Fin cfg0.N) (k : Fin 2048) (b : Fin 2048) :
    (iblk m c 1 t : Vec Ideal S2048x2048 .bf16) (ix2 k b) = m ((c : Thread nD τ).loc main_arg1) (ix2 k b) := by
  have hi := idx1 t
  unfold iblk
  rw [View.read_apply]
  show V m c main_arg1 _ = _
  rw [V_main_arg1]
  congr 1
  funext x
  apply Fin.ext
  match x with
  | ⟨0, _⟩ => show win0_1.index t 0 * 2048 + 1 * k.val = k.val; rw [hi]; show 0 * 2048 + 1 * k.val = _; omega
  | ⟨1, _⟩ => show win0_1.index t 1 * 2048 + 1 * b.val = b.val; rw [hi]; show 0 * 2048 + 1 * b.val = _; omega

/-- The array after the run holds the gradient. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have hi := idx2 t
  blk_simp
  rw [after0_2]
  frame_out
  have h0 : (y 0).val < 1 := (y 0).isLt
  have hy : (y : S1x256x2048.Idx) = ix3 0 (y 1) (y 2) := by
    funext x
    match x with
    | ⟨0, _⟩ => exact Fin.ext (by show (y 0).val = 0; omega)
    | ⟨1, _⟩ => rfl
    | ⟨2, _⟩ => rfl
  refine (congrArg (k0_pay1 (iblk m c 0 t) (iblk m c 1 t)) hy).trans ((pay_apply _ _ (y 1) (y 2)).trans ?_)
  unfold grad
  refine Finset.sum_congr rfl fun k _ => congrArg₂ (· * ·) ?_ ?_
  · refine (block0 m c t k (y 1) ((((View.whole main_v0).slice (win0_2.rect t)).emb y) 0) ?_).trans (congrArg _ (congrArg (ix2 k) (congrArg (row _) (Fin.ext ?_))))
    · show win0_2.index t 0 * 1 + 1 * (y 0).val = _
      rw [hi]
      show (grid0.coords t 0).val * 1 + 1 * (y 0).val = _
      omega
    show (y 1).val = win0_2.index t 1 * 256 + 1 * (y 1).val
    rw [hi]
    show (y 1).val = 0 * 256 + 1 * (y 1).val
    omega
  · refine (block1 m c t k (y 2)).trans (congrArg _ (congrArg (ix2 k) (Fin.ext ?_)))
    show (y 2).val = win0_2.index t 2 * 2048 + 1 * (y 2).val
    rw [hi]
    show (y 2).val = 0 * 2048 + 1 * (y 2).val
    omega

theorem run : θ_run defs (onTc (τ := τ) (main (F := Ideal))) ⟨m, fun _ => 0, ρ⟩ fun r => ∀ c : Dev nD,
      r.2.mem ((c : Thread nD τ).loc main_v0) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.Kernel4Ideal.Value

namespace Cert.Reference4Ideal.Value

open Idealize.ShloMosaic Idealize.ShloMosaic.TcCoe Idealize.SL.Sem
open Cert.Reference4Ideal Cert.Reference4Ideal.Gen

theorem grad_apply (A : (⟨S2048x2048, .bf16⟩ : BufTy).Contents (Elt Ideal)) (H : (⟨S2048x2048, .bf16⟩ : BufTy).Contents (Elt Ideal)) (j : Fin 8) (a : Fin 256) (b : Fin 2048) :
    (truncf .bf16 (shapeCast _ (transpose S2048x2048 [1, 0] (Host.dotGeneral (F := Ideal) dot_S2048x2048_S2048x2048_S2048x2048_0_0_1_1_n_n none (extf .f32 H bitsLt_bf16_f32) (extf .f32 A bitsLt_bf16_f32)) transposes_S2048x2048_S2048x2048_1_0) shapeCasts_S2048x2048_S8x256x2048) bitsLt_bf16_f32 : FVec Ideal S8x256x2048 .bf16) (ix3 j a b)
      = Cert.Kernel4Ideal.Value.grad A H (ix3 j a b) := by
  pointwise
  exact Finset.sum_congr rfl fun _ _ => mul_comm _ _

end Cert.Reference4Ideal.Value

namespace Cert.Wgrad4

open Idealize.ShloMosaic Idealize.ShloMosaic.TcCoe Idealize.SL.Sem

theorem frame_ri : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- From arguments that agree both programs end with the same gradient of the weight. -/
theorem algebraic : Cert.algebraic_Kernel4Ideal_Reference4Ideal (hKernel4Ideal := Cert.Kernel4Ideal.Gen.facts)
    (hReference4Ideal := Cert.Reference4Ideal.Gen.facts) := by
  intro m ρ m' ρ' _ hagree
  refine ⟨fun c => Cert.Kernel4Ideal.Value.grad _ _, Cert.Kernel4Ideal.Value.run m ρ, ?_⟩
  refine (θ_run Cert.Reference4Ideal.defs _ _).mono (fun _ h c => ?_) (Cert.Reference4Ideal.Value.run (F := Ideal) m' ρ')
  obtain ⟨g0, g1⟩ := hagree c
  refine ⟨(h c).1.trans (funext fun i => ?_), (h c).2⟩
  rw [g0, g1, eq_ix3 i]
  exact Cert.Reference4Ideal.Value.grad_apply _ _ _ _ _

end Cert.Wgrad4

end
-- ==== Proof.WgradAll.lean ====
/-
  The gradient of a weight of the first feed-forward block, over the latent and the context tokens: the kernel makes
  one block of 704 hidden columns per grid point, the reference one product over all 5632 of them.
-/
module

public import proofs.«01_k».proof.Defs
public import proofs.«01_k».proof.Proof.Gen.Kernel5.Frame
public import proofs.«01_k».proof.Proof.Gen.Kernel5Ideal.Value
public import proofs.«01_k».proof.Proof.Gen.Reference5Ideal.Run
public import Idealize.ShloMosaic.Lib.Pipeline.ValueKit
public import Idealize.ShloMosaic.Lib.Pointwise
public import Idealize.ShloMosaic.Lib.WritesUnit

@[expose] public section

noncomputable section

namespace Cert.Kernel5Ideal.Value

open Idealize.ShloMosaic Idealize.ShloMosaic.TcCoe Idealize.SL.Sem
open Idealize.ShloMosaic.Pipeline (Dat)
open Cert.Kernel5Ideal Cert.Kernel5Ideal.Gen

/-- Block j of the gradient at hidden column a and model column b: the sum over the tokens. -/
def grad (A : (⟨S8x2304x704, .bf16⟩ : BufTy).Contents (Elt Ideal)) (H : (⟨S2304x2048, .bf16⟩ : BufTy).Contents (Elt Ideal)) :
    (⟨S8x704x2048, .bf16⟩ : BufTy).Contents (Elt Ideal) :=
  fun i => ∑ t : Fin 2304, (A (ix3 (i 0) t (i 1)) * H (ix2 t (i 2)) : EReal)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

theorem pay_apply (x : Vec Ideal S1x2304x704 .bf16) (y : Vec Ideal S2304x2048 .bf16) (a : Fin 704) (b : Fin 2048) :
    (k0_pay1 x y (ix3 0 a b) : EReal) = ∑ t : Fin 2304, (x (ix3 0 t a) * y (ix2 t b) : EReal) := by
  unfold k0_pay1
  pointwise

theorem idx0 : ∀ t : Fin cfg0.N, win0_0.index t = ![(grid0.coords t 0).val, 0, 0] := by decide +kernel
theorem idx1 : ∀ t : Fin cfg0.N, win0_1.index t = ![0, 0] := by decide +kernel
theorem idx2 : ∀ t : Fin cfg0.N, win0_2.index t = ![(grid0.coords t 0).val, 0, 0] := by decide +kernel

theorem block0 (c : Dev nD) (t : Fin cfg0.N) (k : Fin 2304) (a : Fin 704) (z : Fin 1) (j : Fin 8) (hj : j.val = (grid0.coords t 0).val) :
    (iblk m c 0 t : Vec Ideal S1x2304x704 .bf16) (ix3 z k a) = m ((c : Thread nD τ).loc main_arg0) (ix3 j k a) := by
  have hi := idx0 t
  unfold iblk
  rw [View.read_apply]
  show V m c main_arg0 _ = _
  rw [V_main_arg0]
  congr 1
  funext x
  apply Fin.ext
  match x with
  | ⟨0, _⟩ => show win0_0.index t 0 * 1 + 1 * z.val = j.val; rw [hi, hj]; show (grid0.coords t 0).val * 1 + 1 * z.val = _; omega
  | ⟨1, _⟩ => show win0_0.index t 1 * 2304 + 1 * k.val = k.val; rw [hi]; show 0 * 2304 + 1 * k.val = _; omega
  | ⟨2, _⟩ => show win0_0.index t 2 * 704 + 1 * a.val = a.val; rw [hi]; show 0 * 704 + 1 * a.val = _; omega

theorem block1 (c : Dev nD) (t : Fin cfg0.N) (k : Fin 2304) (b : Fin 2048) :
    (iblk m c 1 t : Vec Ideal S2304x2048 .bf16) (ix2 k b) = m ((c : Thread nD τ).loc main_arg1) (ix2 k b) := by
  have hi := idx1 t
  unfold iblk
  rw [View.read_apply]
  show V m c main_arg1 _ = _
  rw [V_main_arg1]
  congr 1
  funext x
  apply Fin.ext
  match x with
  | ⟨0, _⟩ => show win0_1.index t 0 * 2304 + 1 * k.val = k.val; rw [hi]; show 0 * 2304 + 1 * k.val = _; omega
  | ⟨1, _⟩ => show win0_1.index t 1 * 2048 + 1 * b.val = b.val; rw [hi]; show 0 * 2048 + 1 * b.val = _; omega

/-- The array after the run holds the gradient. -/
theorem final (c : Dev nD) : (dats m 0 c).arrAt 2 cfg0.N
    = grad (m ((c : Thread nD τ).loc main_arg0)) (m ((c : Thread nD τ).loc main_arg1)) := by
  refine (dats m 0 c).arrAt_eq_of_covers 2 _ (by decide +kernel) fun t hf y => ?_
  have hi := idx2 t
  blk_simp
  rw [after0_2]
  unfold outsAt0 out0_A_2 kernelRun0_A
  dsimp only
  have h0 : (y 0).val < 1 := (y 0).isLt
  have hy : (y : S1x704x2048.Idx) = ix3 0 (y 1) (y 2) := by
    funext x
    match x with
    | ⟨0, _⟩ => exact Fin.ext (by show (y 0).val = 0; omega)
    | ⟨1, _⟩ => rfl
    | ⟨2, _⟩ => rfl
  refine (View.read_writes_cons_unit_of_mem _ _ _ _ _ y y rfl (fun a => by fin_cases a <;> simp)).trans ?_
  simp only [View.readAt_eq_ld, (hs0_0 t).read_unread, (hs0_1 t).read_unread]
  rw [View.ld_unit_zero (S := S1x2304x704) hz3, View.ld_unit_zero (S := S2304x2048) hz2]
  refine (congrArg (k0_pay1 (iblk m c 0 t) (iblk m c 1 t)) hy).trans ((pay_apply _ _ (y 1) (y 2)).trans ?_)
  unfold grad
  refine Finset.sum_congr rfl fun k _ => congrArg₂ (· * ·) ?_ ?_
  · refine (block0 m c t k (y 1) 0 ((((View.whole main_v0).slice (win0_2.rect t)).emb y) 0) ?_).trans (congrArg _ (congrArg (ix3 _ k) (Fin.ext ?_)))
    · show win0_2.index t 0 * 1 + 1 * (y 0).val = _
      rw [hi]
      show (grid0.coords t 0).val * 1 + 1 * (y 0).val = _
      omega
    show (y 1).val = win0_2.index t 1 * 704 + 1 * (y 1).val
    rw [hi]
    show (y 1).val = 0 * 704 + 1 * (y 1).val
    omega
  · refine (block1 m c t k (y 2)).trans (congrArg _ (congrArg (ix2 k) (Fin.ext ?_)))
    show (y 2).val = win0_2.index t 2 * 2048 + 1 * (y 2).val
    rw [hi]
    show (y 2).val = 0 * 2048 + 1 * (y 2).val
    omega

theorem run : θ_run defs (onTc (τ := τ) (main (F := Ideal))) ⟨m, fun _ => 0, ρ⟩ fun r => ∀ c : Dev nD,
      r.2.mem ((c : Thread nD τ).loc main_v0) = grad (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨(h c).1.trans (final m c), (h c).2⟩) (run_blocks m ρ)

end Cert.Kernel5Ideal.Value

namespace Cert.Reference5Ideal.Value

open Idealize.ShloMosaic Idealize.ShloMosaic.TcCoe Idealize.SL.Sem
open Cert.Reference5Ideal Cert.Reference5Ideal.Gen

theorem grad_apply (A : (⟨S8x2304x704, .bf16⟩ : BufTy).Contents (Elt Ideal)) (H : (⟨S2304x2048, .bf16⟩ : BufTy).Contents (Elt Ideal)) (j : Fin 8) (a : Fin 704) (b : Fin 2048) :
    (truncf .bf16 (shapeCast _ (transpose S5632x2048 [1, 0] (transpose S2048x5632 [1, 0] (Host.dotGeneral (F := Ideal) dot_S2304x5632_S2304x2048_S5632x2048_0_0_1_1_n_n none (shapeCast _ (transpose S2304x8x704 [1, 0, 2] (extf .f32 A bitsLt_bf16_f32) transposes_S8x2304x704_S2304x8x704_1_0_2) shapeCasts_S2304x8x704_S2304x5632) (extf .f32 H bitsLt_bf16_f32)) transposes_S5632x2048_S2048x5632_1_0) transposes_S2048x5632_S5632x2048_1_0) shapeCasts_S5632x2048_S8x704x2048) bitsLt_bf16_f32 : FVec Ideal S8x704x2048 .bf16) (ix3 j a b)
      = Cert.Kernel5Ideal.Value.grad A H (ix3 j a b) := by
  pointwise
  exact Finset.sum_congr rfl fun _ _ => rfl

end Cert.Reference5Ideal.Value

namespace Cert.Wgrad5

open Idealize.ShloMosaic Idealize.ShloMosaic.TcCoe Idealize.SL.Sem

theorem frame_ri : Cert.quiescent_Reference5Ideal (hReference5Ideal := Cert.Reference5Ideal.Gen.facts) := fun m ρ _ =>
  (θ_run Cert.Reference5Ideal.defs _ _).mono (fun r h => ⟨fun c => (h c).2, sem_eq_zero_of_no_sems (by decide) r.2⟩)
    (Cert.Reference5Ideal.Value.run (F := Ideal) m ρ)

/-- From arguments that agree both programs end with the same gradient of the weight. -/
theorem algebraic : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => Cert.Kernel5Ideal.Value.grad _ _, Cert.Kernel5Ideal.Value.run m ρ, ?_⟩
  refine (θ_run Cert.Reference5Ideal.defs _ _).mono (fun _ h c => ?_) (Cert.Reference5Ideal.Value.run (F := Ideal) m' ρ')
  obtain ⟨g0, g1, g2⟩ := hagree c
  refine ⟨(h c).1.trans (funext fun i => ?_), (h c).2⟩
  rw [g0, g1, eq_ix3 i]
  exact Cert.Reference5Ideal.Value.grad_apply _ _ _ _ _

end Cert.Wgrad5

end
-- ==== Proof.FfnRuns.lean ====
/-
  One run of the feed-forward kernel's body, in each of its three cases: the first hidden block of a token tile (A), a
  block in between (B) and the last one (C). A run says what the body's stores leave in each buffer, as the list of the
  stored pieces, last first.
-/
module

public import proofs.«01_k».proof.Proof.Gen.Kernel6Ideal.Frame
public import proofs.«01_k».proof.Proof.Gen.Kernel6Ideal.Skeleton
public import proofs.«01_k».proof.Proof.Gen.Kernel6Ideal.Loops
public import Idealize.ShloMosaic.Lib.Tactic
public import Idealize.ShloMosaic.Lib.WordCmp

@[expose] public section

set_option maxRecDepth 16384

noncomputable section

namespace Cert.Kernel6Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

/-- The point is the first one of its token tile. -/
abbrev first (i : grid0.Coords) : Prop := k0_cond1 i = 1#1
/-- The point is the last one of its token tile. -/
abbrev last (i : grid0.Coords) : Prop := k0_cond2 i = 1#1

theorem first_iff : ∀ t : Fin cfg0.N, first (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [first, k0_cond1, e0, e1]
    word_cmp
   : ∀ t : Fin grid0.N, first (grid0.coords t) ↔ t.val % 8 = 0)

theorem last_iff : ∀ t : Fin cfg0.N, last (grid0.coords t) ↔ t.val % 8 = 7 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [last, k0_cond2, e0, e1]
    word_cmp
   : ∀ t : Fin grid0.N, last (grid0.coords t) ↔ t.val % 8 = 7)

variable (c : Dev nD) (i : grid0.Coords)
  (a2 : Memref sig .tc .vmem S512x2048 .f32) (u2 : a2.IsWhole)
  (a3 : Memref sig .tc .vmem S1x3x2048 .f32) (u3 : a3.IsWhole)
  (a4 : Memref sig .tc .vmem S1x2048 .f32) (u4 : a4.IsWhole)
  (a5 : Memref sig .tc .vmem S1x704x2048 .bf16) (u5 : a5.IsWhole)
  (a6 : Memref sig .tc .vmem S1x704x2048 .bf16) (u6 : a6.IsWhole)
  (a7 : Memref sig .tc .vmem S1x704x2048 .bf16) (u7 : a7.IsWhole)
  (a8 : Memref sig .tc .vmem S512x2048 .f32) (u8 : a8.IsWhole)
  (a9 : Memref sig .tc .vmem S512x2048 .bf16) (u9 : a9.IsWhole)
  (a10 : Memref sig .tc .vmem S512x2048 .bf16) (u10 : a10.IsWhole)
  (a11 : Memref sig .tc .vmem S1x512x704 .bf16) (u11 : a11.IsWhole)
  (a12 : Memref sig .tc .vmem S1x512x704 .bf16) (u12 : a12.IsWhole)
  (a13 : Memref sig .tc .vmem S512x2048 .bf16) (u13 : a13.IsWhole)
  (a14 : Memref sig .tc .vmem S512x2048 .f32) (u14 : a14.IsWhole)
  (a15 : Memref sig .tc .vmem S512x704 .f32) (u15 : a15.IsWhole)
  (a16 : Memref sig .tc .vmem S512x704 .f32) (u16 : a16.IsWhole)
  (a17 : Memref sig .tc .vmem S512x704 .bf16) (u17 : a17.IsWhole)

/-- The rows of the normalised tokens, read after the loop that stores them, are the stored ones. -/
theorem head_read (h : k0_cond1 i = 1#1) (X2 : BufTy.Contents (Elt F) a2.view.ty) (X3 : BufTy.Contents (Elt F) a3.view.ty)
    (X4 : BufTy.Contents (Elt F) a4.view.ty) (f : BufTy.Contents (Elt F) a13.view.ty) (R : LoadRect S512x2048) :
    a13.view.readAt (Elt F) R (a13.view.writes (Elt F) f
        (pb_k0_t1 (F := F) Variants.none c none i a2 u2 a3 u3 a4 u4 a5 u5 a6 u6 a7 u7 a8 u8 a9 u9 a10 u10 a11 u11 a12 u12 a13 u13 a14 u14 a15 u15 a16 u16 a17 u17 h X2 X3 X4 (Scf.trips k0_t1_loop.lb k0_t1_loop.ub k0_t1_loop.st)).2)
      = a13.view.readCov
        (pb_k0_t1 (F := F) Variants.none c none i a2 u2 a3 u3 a4 u4 a5 u5 a6 u6 a7 u7 a8 u8 a9 u9 a10 u10 a11 u11 a12 u12 a13 u13 a14 u14 a15 u15 a16 u16 a17 u17 h X2 X3 X4 (Scf.trips k0_t1_loop.lb k0_t1_loop.ub k0_t1_loop.st)).2 R :=
  View.readAt_writes_of_cover _ f _ R fun j => View.cover_of_tiledL
    (pb_k0_t1 (F := F) Variants.none c none i a2 u2 a3 u3 a4 u4 a5 u5 a6 u6 a7 u7 a8 u8 a9 u9 a10 u10 a11 u11 a12 u12 a13 u13 a14 u14 a15 u15 a16 u16 a17 u17 h X2 X3 X4 (Scf.trips k0_t1_loop.lb k0_t1_loop.ub k0_t1_loop.st)).2
    S128x2048.size (by sl_kernel_rfl) (R.idx j)

set_option backward.proofsInPublic true in
set_option maxHeartbeats 1000000 in
/-- The body at the first hidden block of a tile: it stores the normalised tokens and sets the sum to zero. -/
def runA (hc0 : first i) (hc1 : ¬last i) (x0 : Vec F S512x2048 .f32) (x1 : Vec F S1x3x2048 .f32) (x2 : Vec F S1x2048 .f32) (x3 x4 x5 : Vec F S1x704x2048 .bf16) :
    Σ' (L9 : List (View.Piece (Elt F) S512x2048 .bf16)), Σ' (L11 : List (View.Piece (Elt F) S1x512x704 .bf16)), Σ' (L12 : List (View.Piece (Elt F) S1x512x704 .bf16)), Σ' (L13 : List (View.Piece (Elt F) S512x2048 .bf16)), { L14 : List (View.Piece (Elt F) S512x2048 .f32) //
      ∀ (y8 : Vec F S512x2048 .f32) (y10 : Vec F S512x2048 .bf16) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare y8 ∗ (∃ d, owns (c : Thread nD τ) a9 fullShare d) ∗ owns (c : Thread nD τ) a10 fullShare y10 ∗ (∃ d, owns (c : Thread nD τ) a11 fullShare d) ∗ (∃ d, owns (c : Thread nD τ) a12 fullShare d) ∗ (∃ d, owns (c : Thread nD τ) a13 fullShare d) ∗ (∃ d, owns (c : Thread nD τ) a14 fullShare d) ∗ (∃ d, owns (c : Thread nD τ) a15 fullShare d) ∗ (∃ d, owns (c : Thread nD τ) a16 fullShare d) ∗ (∃ d, owns (c : Thread nD τ) a17 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare y8 ∗ (∃ f, a9.view.loc (c : Thread nD τ) ↦[a9.view.set]{fullShare} a9.view.writes (Elt F) f L9) ∗ owns (c : Thread nD τ) a10 fullShare y10 ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ d, owns (c : Thread nD τ) a15 fullShare d) ∗ (∃ d, owns (c : Thread nD τ) a16 fullShare d) ∗ (∃ d, owns (c : Thread nD τ) a17 fullShare d)) -∗ K ⟨⟩))
          ⊢ wp frame (wpE (defs₀ (F := F)) Variants.none c none) E (cc0_ffn_fwd i a2 u2 a3 u3 a4 u4 a5 u5 a6 u6 a7 u7 a8 u8 a9 u9 a10 u10 a11 u11 a12 u12 a13 u13 a14 u14 a15 u15 a16 u16 a17 u17) K } := by
  refine ⟨?_, ?_, ?_, ?_, ?_, fun y8 y10 E K => ?run⟩
  case run =>
    simp only [cc0_ffn_fwd_eq_skeleton]; unfold cc0_ffn_fwd_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, Hk⟩
    obtain rfl := u2.eq_unread hf2; obtain rfl := u3.eq_unread hf3; obtain rfl := u4.eq_unread hf4; obtain rfl := u5.eq_unread hf5; obtain rfl := u6.eq_unread hf6; obtain rfl := u7.eq_unread hf7; obtain rfl := u8.eq_unread hf8; obtain rfl := u10.eq_unread hf10
    have hrd := head_read (F := F) c i a2 u2 a3 u3 a4 u4 a5 u5 a6 u6 a7 u7 a8 u8 a9 u9 a10 u10 a11 u11 a12 u12 a13 u13 a14 u14 a15 u15 a16 u16 a17 u17
    sl_exec (disch := first | sl_exact hc0 | sl_exact hc1)
    sl_step
    iapply Hk
    isplitl [H2]
    · iexists _; isplitr; · ipureintro; exact u2.read_unread _
      iexact H2
    isplitl [H3]
    · iexists _; isplitr; · ipureintro; exact u3.read_unread _
      iexact H3
    isplitl [H4]
    · iexists _; isplitr; · ipureintro; exact u4.read_unread _
      iexact H4
    isplitl [H5]
    · iexists _; isplitr; · ipureintro; exact u5.read_unread _
      iexact H5
    isplitl [H6]
    · iexists _; isplitr; · ipureintro; exact u6.read_unread _
      iexact H6
    isplitl [H7]
    · iexists _; isplitr; · ipureintro; exact u7.read_unread _
      iexact H7
    isplitl [H8]
    · iexists _; isplitr; · ipureintro; exact u8.read_unread _
      iexact H8
    isplitl [H9]; · iexists _; iexact H9
    isplitl [H10]
    · iexists _; isplitr; · ipureintro; exact u10.read_unread _
      iexact H10
    isplitl [H11]; · iexists _; iexact H11
    isplitl [H12]; · iexists _; iexact H12
    isplitl [H13]; · iexists _; iexact H13
    isplitl [H14]; · iexists _; iexact H14
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

theorem coverA9 (hc0 : first i) (hc1 : ¬last i) (x0 : Vec F S512x2048 .f32) (x1 : Vec F S1x3x2048 .f32) (x2 : Vec F S1x2048 .f32) (x3 x4 x5 : Vec F S1x704x2048 .bf16) (y : S512x2048.Idx) :
    ∃ pc ∈ (runA c i a2 u2 a3 u3 a4 u4 a5 u5 a6 u6 a7 u7 a8 u8 a9 u9 a10 u10 a11 u11 a12 u12 a13 u13 a14 u14 a15 u15 a16 u16 a17 u17 hc0 hc1 x0 x1 x2 x3 x4 x5).1, y ∈ pc.1.set :=
  View.cover_of_tiledL (runA c i a2 u2 a3 u3 a4 u4 a5 u5 a6 u6 a7 u7 a8 u8 a9 u9 a10 u10 a11 u11 a12 u12 a13 u13 a14 u14 a15 u15 a16 u16 a17 u17 hc0 hc1 x0 x1 x2 x3 x4 x5).1 S128x2048.size (by sl_kernel_rfl) y

theorem coverA11 (hc0 : first i) (hc1 : ¬last i) (x0 : Vec F S512x2048 .f32) (x1 : Vec F S1x3x2048 .f32) (x2 : Vec F S1x2048 .f32) (x3 x4 x5 : Vec F S1x704x2048 .bf16) (y : S1x512x704.Idx) :
    ∃ pc ∈ (runA c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.1, y ∈ pc.1.set :=
  View.cover_of_tiledL (runA c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.1 S1x128x704.size (by sl_kernel_rfl) y

theorem coverA12 (hc0 : first i) (hc1 : ¬last i) (x0 : Vec F S512x2048 .f32) (x1 : Vec F S1x3x2048 .f32) (x2 : Vec F S1x2048 .f32) (x3 x4 x5 : Vec F S1x704x2048 .bf16) (y : S1x512x704.Idx) :
    ∃ pc ∈ (runA c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.2.1, y ∈ pc.1.set :=
  View.cover_of_tiledL (runA c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.2.1 S1x128x704.size (by sl_kernel_rfl) y

theorem coverA13 (hc0 : first i) (hc1 : ¬last i) (x0 : Vec F S512x2048 .f32) (x1 : Vec F S1x3x2048 .f32) (x2 : Vec F S1x2048 .f32) (x3 x4 x5 : Vec F S1x704x2048 .bf16) (y : S512x2048.Idx) :
    ∃ pc ∈ (runA c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.2.2.1, y ∈ pc.1.set :=
  View.cover_of_tiledL (runA c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.2.2.1 S128x2048.size (by sl_kernel_rfl) y

theorem coverA14 (hc0 : first i) (hc1 : ¬last i) (x0 : Vec F S512x2048 .f32) (x1 : Vec F S1x3x2048 .f32) (x2 : Vec F S1x2048 .f32) (x3 x4 x5 : Vec F S1x704x2048 .bf16) (y : S512x2048.Idx) :
    ∃ pc ∈ (runA c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.2.2.2.1, y ∈ pc.1.set :=
  View.cover_of_tiledL (runA c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.2.2.2.1 S256x2048.size (by sl_kernel_rfl) y

set_option backward.proofsInPublic true in
set_option maxHeartbeats 1000000 in
/-- The body at a hidden block in between. -/
def runB (hc0 : ¬first i) (hc1 : ¬last i) (x0 : Vec F S512x2048 .f32) (x1 : Vec F S1x3x2048 .f32) (x2 : Vec F S1x2048 .f32) (x3 x4 x5 : Vec F S1x704x2048 .bf16) (s0 : Vec F S512x2048 .bf16) (s1 : Vec F S512x2048 .f32) :
    Σ' (L11 : List (View.Piece (Elt F) S1x512x704 .bf16)), Σ' (L12 : List (View.Piece (Elt F) S1x512x704 .bf16)), { L14 : List (View.Piece (Elt F) S512x2048 .f32) //
      ∀ (y8 : Vec F S512x2048 .f32) (y9 : Vec F S512x2048 .bf16) (y10 : Vec F S512x2048 .bf16) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare y8 ∗ owns (c : Thread nD τ) a9 fullShare y9 ∗ owns (c : Thread nD τ) a10 fullShare y10 ∗ (∃ d, owns (c : Thread nD τ) a11 fullShare d) ∗ (∃ d, owns (c : Thread nD τ) a12 fullShare d) ∗ owns (c : Thread nD τ) a13 fullShare s0 ∗ owns (c : Thread nD τ) a14 fullShare s1 ∗ (∃ d, owns (c : Thread nD τ) a15 fullShare d) ∗ (∃ d, owns (c : Thread nD τ) a16 fullShare d) ∗ (∃ d, owns (c : Thread nD τ) a17 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ owns (c : Thread nD τ) a8 fullShare y8 ∗ owns (c : Thread nD τ) a9 fullShare y9 ∗ owns (c : Thread nD τ) a10 fullShare y10 ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ owns (c : Thread nD τ) a13 fullShare s0 ∗ (∃ f, a14.view.loc (c : Thread nD τ) ↦[a14.view.set]{fullShare} a14.view.writes (Elt F) f L14) ∗ (∃ d, owns (c : Thread nD τ) a15 fullShare d) ∗ (∃ d, owns (c : Thread nD τ) a16 fullShare d) ∗ (∃ d, owns (c : Thread nD τ) a17 fullShare d)) -∗ K ⟨⟩))
          ⊢ wp frame (wpE (defs₀ (F := F)) Variants.none c none) E (cc0_ffn_fwd i a2 u2 a3 u3 a4 u4 a5 u5 a6 u6 a7 u7 a8 u8 a9 u9 a10 u10 a11 u11 a12 u12 a13 u13 a14 u14 a15 u15 a16 u16 a17 u17) K } := by
  refine ⟨?_, ?_, ?_, fun y8 y9 y10 E K => ?run⟩
  case run =>
    simp only [cc0_ffn_fwd_eq_skeleton]; unfold cc0_ffn_fwd_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%d12, %f12, -, H12⟩, ⟨%f13, %hf13, H13⟩, ⟨%f14, %hf14, H14⟩, ⟨%d15, %f15, -, H15⟩, ⟨%d16, %f16, -, H16⟩, ⟨%d17, %f17, -, H17⟩, Hk⟩
    obtain rfl := u2.eq_unread hf2; obtain rfl := u3.eq_unread hf3; obtain rfl := u4.eq_unread hf4; obtain rfl := u5.eq_unread hf5; obtain rfl := u6.eq_unread hf6; obtain rfl := u7.eq_unread hf7; obtain rfl := u8.eq_unread hf8; obtain rfl := u9.eq_unread hf9; obtain rfl := u10.eq_unread hf10; obtain rfl := u13.eq_unread hf13; obtain rfl := u14.eq_unread hf14
    sl_exec (disch := first | sl_exact hc0 | sl_exact hc1)
    sl_step
    iapply Hk
    isplitl [H2]
    · iexists _; isplitr; · ipureintro; exact u2.read_unread _
      iexact H2
    isplitl [H3]
    · iexists _; isplitr; · ipureintro; exact u3.read_unread _
      iexact H3
    isplitl [H4]
    · iexists _; isplitr; · ipureintro; exact u4.read_unread _
      iexact H4
    isplitl [H5]
    · iexists _; isplitr; · ipureintro; exact u5.read_unread _
      iexact H5
    isplitl [H6]
    · iexists _; isplitr; · ipureintro; exact u6.read_unread _
      iexact H6
    isplitl [H7]
    · iexists _; isplitr; · ipureintro; exact u7.read_unread _
      iexact H7
    isplitl [H8]
    · iexists _; isplitr; · ipureintro; exact u8.read_unread _
      iexact H8
    isplitl [H9]
    · iexists _; isplitr; · ipureintro; exact u9.read_unread _
      iexact H9
    isplitl [H10]
    · iexists _; isplitr; · ipureintro; exact u10.read_unread _
      iexact H10
    isplitl [H11]; · iexists _; iexact H11
    isplitl [H12]; · iexists _; iexact H12
    isplitl [H13]
    · iexists _; isplitr; · ipureintro; exact u13.read_unread _
      iexact H13
    isplitl [H14]; · iexists _; iexact H14
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

theorem coverB11 (hc0 : ¬first i) (hc1 : ¬last i) (x0 : Vec F S512x2048 .f32) (x1 : Vec F S1x3x2048 .f32) (x2 : Vec F S1x2048 .f32) (x3 x4 x5 : Vec F S1x704x2048 .bf16) (s0 : Vec F S512x2048 .bf16) (s1 : Vec F S512x2048 .f32) (y : S1x512x704.Idx) :
    ∃ pc ∈ (runB c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).1, y ∈ pc.1.set :=
  View.cover_of_tiledL (runB c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).1 S1x128x704.size (by sl_kernel_rfl) y

theorem coverB12 (hc0 : ¬first i) (hc1 : ¬last i) (x0 : Vec F S512x2048 .f32) (x1 : Vec F S1x3x2048 .f32) (x2 : Vec F S1x2048 .f32) (x3 x4 x5 : Vec F S1x704x2048 .bf16) (s0 : Vec F S512x2048 .bf16) (s1 : Vec F S512x2048 .f32) (y : S1x512x704.Idx) :
    ∃ pc ∈ (runB c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.1, y ∈ pc.1.set :=
  View.cover_of_tiledL (runB c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.1 S1x128x704.size (by sl_kernel_rfl) y

theorem coverB14 (hc0 : ¬first i) (hc1 : ¬last i) (x0 : Vec F S512x2048 .f32) (x1 : Vec F S1x3x2048 .f32) (x2 : Vec F S1x2048 .f32) (x3 x4 x5 : Vec F S1x704x2048 .bf16) (s0 : Vec F S512x2048 .bf16) (s1 : Vec F S512x2048 .f32) (y : S512x2048.Idx) :
    ∃ pc ∈ (runB c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.1, y ∈ pc.1.set :=
  View.cover_of_tiledL (runB c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.1 S256x2048.size (by sl_kernel_rfl) y

set_option backward.proofsInPublic true in
set_option maxHeartbeats 1000000 in
/-- The body at the last hidden block of a tile: it stores the sum and the residual. -/
def runC (hc0 : ¬first i) (hc1 : last i) (x0 : Vec F S512x2048 .f32) (x1 : Vec F S1x3x2048 .f32) (x2 : Vec F S1x2048 .f32) (x3 x4 x5 : Vec F S1x704x2048 .bf16) (s0 : Vec F S512x2048 .bf16) (s1 : Vec F S512x2048 .f32) :
    Σ' (L8 : List (View.Piece (Elt F) S512x2048 .f32)), Σ' (L10 : List (View.Piece (Elt F) S512x2048 .bf16)), Σ' (L11 : List (View.Piece (Elt F) S1x512x704 .bf16)), Σ' (L12 : List (View.Piece (Elt F) S1x512x704 .bf16)), { L14 : List (View.Piece (Elt F) S512x2048 .f32) //
      ∀ (y9 : Vec F S512x2048 .bf16) (E : Set ℕ) (K : PUnit → sProp 𝕄),
        iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ d, owns (c : Thread nD τ) a8 fullShare d) ∗ owns (c : Thread nD τ) a9 fullShare y9 ∗ (∃ d, owns (c : Thread nD τ) a10 fullShare d) ∗ (∃ d, owns (c : Thread nD τ) a11 fullShare d) ∗ (∃ d, owns (c : Thread nD τ) a12 fullShare d) ∗ owns (c : Thread nD τ) a13 fullShare s0 ∗ owns (c : Thread nD τ) a14 fullShare s1 ∗ (∃ d, owns (c : Thread nD τ) a15 fullShare d) ∗ (∃ d, owns (c : Thread nD τ) a16 fullShare d) ∗ (∃ d, owns (c : Thread nD τ) a17 fullShare d)
            ∗ (iprop(owns (c : Thread nD τ) a2 fullShare x0 ∗ owns (c : Thread nD τ) a3 fullShare x1 ∗ owns (c : Thread nD τ) a4 fullShare x2 ∗ owns (c : Thread nD τ) a5 fullShare x3 ∗ owns (c : Thread nD τ) a6 fullShare x4 ∗ owns (c : Thread nD τ) a7 fullShare x5 ∗ (∃ f, a8.view.loc (c : Thread nD τ) ↦[a8.view.set]{fullShare} a8.view.writes (Elt F) f L8) ∗ owns (c : Thread nD τ) a9 fullShare y9 ∗ (∃ f, a10.view.loc (c : Thread nD τ) ↦[a10.view.set]{fullShare} a10.view.writes (Elt F) f L10) ∗ (∃ f, a11.view.loc (c : Thread nD τ) ↦[a11.view.set]{fullShare} a11.view.writes (Elt F) f L11) ∗ (∃ f, a12.view.loc (c : Thread nD τ) ↦[a12.view.set]{fullShare} a12.view.writes (Elt F) f L12) ∗ owns (c : Thread nD τ) a13 fullShare s0 ∗ (∃ f, a14.view.loc (c : Thread nD τ) ↦[a14.view.set]{fullShare} a14.view.writes (Elt F) f L14) ∗ (∃ d, owns (c : Thread nD τ) a15 fullShare d) ∗ (∃ d, owns (c : Thread nD τ) a16 fullShare d) ∗ (∃ d, owns (c : Thread nD τ) a17 fullShare d)) -∗ K ⟨⟩))
          ⊢ wp frame (wpE (defs₀ (F := F)) Variants.none c none) E (cc0_ffn_fwd i a2 u2 a3 u3 a4 u4 a5 u5 a6 u6 a7 u7 a8 u8 a9 u9 a10 u10 a11 u11 a12 u12 a13 u13 a14 u14 a15 u15 a16 u16 a17 u17) K } := by
  refine ⟨?_, ?_, ?_, ?_, ?_, fun y9 E K => ?run⟩
  case run =>
    simp only [cc0_ffn_fwd_eq_skeleton]; unfold cc0_ffn_fwd_skel
    simp only [k0_part1_eq_skeleton, k0_part2_eq_skeleton, k0_part3_eq_skeleton, k0_part4_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%d10, %f10, -, H10⟩, ⟨%d11, %f11, -, H11⟩, ⟨%d12, %f12, -, H12⟩, ⟨%f13, %hf13, H13⟩, ⟨%f14, %hf14, H14⟩, ⟨%d15, %f15, -, H15⟩, ⟨%d16, %f16, -, H16⟩, ⟨%d17, %f17, -, H17⟩, Hk⟩
    obtain rfl := u2.eq_unread hf2; obtain rfl := u3.eq_unread hf3; obtain rfl := u4.eq_unread hf4; obtain rfl := u5.eq_unread hf5; obtain rfl := u6.eq_unread hf6; obtain rfl := u7.eq_unread hf7; obtain rfl := u9.eq_unread hf9; obtain rfl := u13.eq_unread hf13; obtain rfl := u14.eq_unread hf14
    sl_exec (disch := first | sl_exact hc0 | sl_exact hc1)
    sl_step
    iapply Hk
    isplitl [H2]
    · iexists _; isplitr; · ipureintro; exact u2.read_unread _
      iexact H2
    isplitl [H3]
    · iexists _; isplitr; · ipureintro; exact u3.read_unread _
      iexact H3
    isplitl [H4]
    · iexists _; isplitr; · ipureintro; exact u4.read_unread _
      iexact H4
    isplitl [H5]
    · iexists _; isplitr; · ipureintro; exact u5.read_unread _
      iexact H5
    isplitl [H6]
    · iexists _; isplitr; · ipureintro; exact u6.read_unread _
      iexact H6
    isplitl [H7]
    · iexists _; isplitr; · ipureintro; exact u7.read_unread _
      iexact H7
    isplitl [H8]; · iexists _; iexact H8
    isplitl [H9]
    · iexists _; isplitr; · ipureintro; exact u9.read_unread _
      iexact H9
    isplitl [H10]; · iexists _; iexact H10
    isplitl [H11]; · iexists _; iexact H11
    isplitl [H12]; · iexists _; iexact H12
    isplitl [H13]
    · iexists _; isplitr; · ipureintro; exact u13.read_unread _
      iexact H13
    isplitl [H14]; · iexists _; iexact H14
    isplitl [H15]
    · iexists _, _; isplitr; swap; · iexact H15
      ipureintro; rfl
    isplitl [H16]
    · iexists _, _; isplitr; swap; · iexact H16
      ipureintro; rfl
    iexists _, _; isplitr; swap; · iexact H17
    ipureintro; rfl

theorem coverC8 (hc0 : ¬first i) (hc1 : last i) (x0 : Vec F S512x2048 .f32) (x1 : Vec F S1x3x2048 .f32) (x2 : Vec F S1x2048 .f32) (x3 x4 x5 : Vec F S1x704x2048 .bf16) (s0 : Vec F S512x2048 .bf16) (s1 : Vec F S512x2048 .f32) (y : S512x2048.Idx) :
    ∃ pc ∈ (runC c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).1, y ∈ pc.1.set :=
  View.cover_of_tiledL (runC c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).1 S128x2048.size (by sl_kernel_rfl) y

theorem coverC10 (hc0 : ¬first i) (hc1 : last i) (x0 : Vec F S512x2048 .f32) (x1 : Vec F S1x3x2048 .f32) (x2 : Vec F S1x2048 .f32) (x3 x4 x5 : Vec F S1x704x2048 .bf16) (s0 : Vec F S512x2048 .bf16) (s1 : Vec F S512x2048 .f32) (y : S512x2048.Idx) :
    ∃ pc ∈ (runC c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.1, y ∈ pc.1.set :=
  View.cover_of_tiledL (runC c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.1 S128x2048.size (by sl_kernel_rfl) y

theorem coverC11 (hc0 : ¬first i) (hc1 : last i) (x0 : Vec F S512x2048 .f32) (x1 : Vec F S1x3x2048 .f32) (x2 : Vec F S1x2048 .f32) (x3 x4 x5 : Vec F S1x704x2048 .bf16) (s0 : Vec F S512x2048 .bf16) (s1 : Vec F S512x2048 .f32) (y : S1x512x704.Idx) :
    ∃ pc ∈ (runC c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.1, y ∈ pc.1.set :=
  View.cover_of_tiledL (runC c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.1 S1x128x704.size (by sl_kernel_rfl) y

theorem coverC12 (hc0 : ¬first i) (hc1 : last i) (x0 : Vec F S512x2048 .f32) (x1 : Vec F S1x3x2048 .f32) (x2 : Vec F S1x2048 .f32) (x3 x4 x5 : Vec F S1x704x2048 .bf16) (s0 : Vec F S512x2048 .bf16) (s1 : Vec F S512x2048 .f32) (y : S1x512x704.Idx) :
    ∃ pc ∈ (runC c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.2.1, y ∈ pc.1.set :=
  View.cover_of_tiledL (runC c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.2.1 S1x128x704.size (by sl_kernel_rfl) y

theorem coverC14 (hc0 : ¬first i) (hc1 : last i) (x0 : Vec F S512x2048 .f32) (x1 : Vec F S1x3x2048 .f32) (x2 : Vec F S1x2048 .f32) (x3 x4 x5 : Vec F S1x704x2048 .bf16) (s0 : Vec F S512x2048 .bf16) (s1 : Vec F S512x2048 .f32) (y : S512x2048.Idx) :
    ∃ pc ∈ (runC c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.2.2.1, y ∈ pc.1.set :=
  View.cover_of_tiledL (runC c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.2.2.1 S256x2048.size (by sl_kernel_rfl) y

end Cert.Kernel6Ideal.Ffn

end
-- ==== Proof.FfnFrame.lean ====
/-
  The feed-forward kernel runs to its end, leaves the argument arrays as they were, and leaves in each result the blocks
  that the runs of its body store. The normalised tokens of a tile are stored at the tile's first point alone, into the
  result and into a scratch buffer; both stay until the tile's last point, where the result is written back. The sum of
  the hidden blocks' products lies in a second scratch buffer from point to point.
-/
module

public import proofs.«01_k».proof.Proof.FfnRuns
public import Idealize.ShloMosaic.Lib.Claim

@[expose] public section

set_option maxRecDepth 16384

noncomputable section

namespace Cert.Kernel6Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen

variable {F : FTy → Type} [FloatOps F]

local notation "𝕄" => MT nD τ sig Unit (Elt F) ℕ (UR sig nD τ) ℕ

/-! ## The windows at a point -/

theorem idle6 : ∀ t : Fin cfg0.N, cfg0.idle 6 (grid0.coords t) = !decide (t.val % 8 = 7) := by decide +kernel
theorem idle7 : ∀ t : Fin cfg0.N, cfg0.idle 7 (grid0.coords t) = !decide (t.val % 8 = 0) := by decide +kernel
theorem idle8 : ∀ t : Fin cfg0.N, cfg0.idle 8 (grid0.coords t) = !decide (t.val % 8 = 7) := by decide +kernel
theorem noflush (w : Fin cfg0.W) (h : ∀ t : Fin cfg0.N, (cfg0.win w).flush t = true ↔ t.val % 8 = 7) (t : Fin cfg0.N)
    (ht : ¬t.val % 8 = 7) : (cfg0.win w).flush t = false := by
  rw [← Bool.not_eq_true, h t]; exact ht
theorem nofetch7 : ∀ t : Fin cfg0.N, (cfg0.win 7).fetch t = false := by decide +kernel

abbrev b0 (t : Fin cfg0.N) : Memref sig .tc .vmem S512x2048 .f32 := win0_0.stage (cfg0.slots t 0)
abbrev hb0 (t : Fin cfg0.N) : (b0 t).IsWhole := hstage0_0 ((cfg0.slots t 0).cast nbuf0_0)
abbrev b1 (t : Fin cfg0.N) : Memref sig .tc .vmem S1x3x2048 .f32 := win0_1.stage (cfg0.slots t 1)
abbrev hb1 (t : Fin cfg0.N) : (b1 t).IsWhole := hstage0_1 ((cfg0.slots t 1).cast nbuf0_1)
abbrev b2 (t : Fin cfg0.N) : Memref sig .tc .vmem S1x2048 .f32 := win0_2.stage (cfg0.slots t 2)
abbrev hb2 (t : Fin cfg0.N) : (b2 t).IsWhole := hstage0_2 ((cfg0.slots t 2).cast nbuf0_2)
abbrev b3 (t : Fin cfg0.N) : Memref sig .tc .vmem S1x704x2048 .bf16 := win0_3.stage (cfg0.slots t 3)
abbrev hb3 (t : Fin cfg0.N) : (b3 t).IsWhole := hstage0_3 ((cfg0.slots t 3).cast nbuf0_3)
abbrev b4 (t : Fin cfg0.N) : Memref sig .tc .vmem S1x704x2048 .bf16 := win0_4.stage (cfg0.slots t 4)
abbrev hb4 (t : Fin cfg0.N) : (b4 t).IsWhole := hstage0_4 ((cfg0.slots t 4).cast nbuf0_4)
abbrev b5 (t : Fin cfg0.N) : Memref sig .tc .vmem S1x704x2048 .bf16 := win0_5.stage (cfg0.slots t 5)
abbrev hb5 (t : Fin cfg0.N) : (b5 t).IsWhole := hstage0_5 ((cfg0.slots t 5).cast nbuf0_5)
abbrev b6 (t : Fin cfg0.N) : Memref sig .tc .vmem S512x2048 .f32 := win0_6.stage (cfg0.slots t 6)
abbrev hb6 (t : Fin cfg0.N) : (b6 t).IsWhole := hstage0_6 ((cfg0.slots t 6).cast nbuf0_6)
abbrev b7 (t : Fin cfg0.N) : Memref sig .tc .vmem S512x2048 .bf16 := win0_7.stage (cfg0.slots t 7)
abbrev hb7 (t : Fin cfg0.N) : (b7 t).IsWhole := hstage0_7 ((cfg0.slots t 7).cast nbuf0_7)
abbrev b8 (t : Fin cfg0.N) : Memref sig .tc .vmem S512x2048 .bf16 := win0_8.stage (cfg0.slots t 8)
abbrev hb8 (t : Fin cfg0.N) : (b8 t).IsWhole := hstage0_8 ((cfg0.slots t 8).cast nbuf0_8)
abbrev b9 (t : Fin cfg0.N) : Memref sig .tc .vmem S1x512x704 .bf16 := win0_9.stage (cfg0.slots t 9)
abbrev hb9 (t : Fin cfg0.N) : (b9 t).IsWhole := hstage0_9 ((cfg0.slots t 9).cast nbuf0_9)
abbrev b10 (t : Fin cfg0.N) : Memref sig .tc .vmem S1x512x704 .bf16 := win0_10.stage (cfg0.slots t 10)
abbrev hb10 (t : Fin cfg0.N) : (b10 t).IsWhole := hstage0_10 ((cfg0.slots t 10).cast nbuf0_10)
abbrev s0 : Memref sig .tc .vmem S512x2048 .bf16 := Memref.whole cc0_scratch0
abbrev s1 : Memref sig .tc .vmem S512x2048 .f32 := Memref.whole cc0_scratch1
abbrev s2 : Memref sig .tc .vmem S512x704 .f32 := Memref.whole cc0_scratch2
abbrev s3 : Memref sig .tc .vmem S512x704 .f32 := Memref.whole cc0_scratch3
abbrev s4 : Memref sig .tc .vmem S512x704 .bf16 := Memref.whole cc0_scratch4
abbrev vo6 : View sig .tc .vmem S512x2048 .f32 := (Memref.whole cc0_stg6_0 : Memref sig .tc .vmem S512x2048 .f32).view
abbrev vo7 : View sig .tc .vmem S512x2048 .bf16 := (Memref.whole cc0_stg7_0 : Memref sig .tc .vmem S512x2048 .bf16).view
abbrev vo8 : View sig .tc .vmem S512x2048 .bf16 := (Memref.whole cc0_stg8_0 : Memref sig .tc .vmem S512x2048 .bf16).view
abbrev vo9 : View sig .tc .vmem S1x512x704 .bf16 := (Memref.whole cc0_stg9_0 : Memref sig .tc .vmem S1x512x704 .bf16).view
abbrev vo10 : View sig .tc .vmem S1x512x704 .bf16 := (Memref.whole cc0_stg10_0 : Memref sig .tc .vmem S1x512x704 .bf16).view

/-- The scoped buffers and the generator register, at anything. -/
theorem any_eq (c : Dev nD) :
    (Pipeline.ΦA spec0 c : sProp 𝕄)
      = iprop(iprop((∃ d, owns (c : Thread nD τ) s0 fullShare d) ∗ (∃ d, owns (c : Thread nD τ) s1 fullShare d) ∗ (∃ d, owns (c : Thread nD τ) s2 fullShare d) ∗ (∃ d, owns (c : Thread nD τ) s3 fullShare d) ∗ (∃ d, owns (c : Thread nD τ) s4 fullShare d)) ∗ (∃ r, prngReg c r)) := by
  unfold Pipeline.ΦA; rw [scopedRest0_eq]; simp only [s0, s1, s2, s3, s4, owns_whole]; try rfl

variable (m : (ℓ : Loc nD τ sig) → Buf (Elt F) ℓ) (ρ : Dev nD → PrngReg)

/-! ## What the buffers hold after each point -/

/-- What the outputs' buffers and the two scratch buffers that last from point to point hold after a point. -/
structure St (F : FTy → Type) [FloatOps F] where
  (o6 : Vec F S512x2048 .f32) (o7 : Vec F S512x2048 .bf16) (o8 : Vec F S512x2048 .bf16)
  (o9 : Vec F S1x512x704 .bf16) (o10 : Vec F S1x512x704 .bf16)
  (hs : Vec F S512x2048 .bf16) (acc : Vec F S512x2048 .f32)

/-- The run at the first point of a tile. -/
abbrev atA (c : Dev nD) (t : Fin cfg0.N) (h0 : t.val % 8 = 0) (h1 : ¬t.val % 8 = 7) :=
  runA (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) s0 (Memref.isWhole_whole _) s1 (Memref.isWhole_whole _) s2 (Memref.isWhole_whole _) s3 (Memref.isWhole_whole _) s4 (Memref.isWhole_whole _)
    ((first_iff t).mpr h0) (fun h => h1 ((last_iff t).mp h)) (iblk m c 0 t) (iblk m c 1 t) (iblk m c 2 t) (iblk m c 3 t) (iblk m c 4 t) (iblk m c 5 t)
/-- The run at a point in between, on what the point before left in the scratch buffers. -/
abbrev atB (c : Dev nD) (t : Fin cfg0.N) (h0 : ¬t.val % 8 = 0) (h1 : ¬t.val % 8 = 7) (p : St F) :=
  runB (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) s0 (Memref.isWhole_whole _) s1 (Memref.isWhole_whole _) s2 (Memref.isWhole_whole _) s3 (Memref.isWhole_whole _) s4 (Memref.isWhole_whole _)
    (fun h => h0 ((first_iff t).mp h)) (fun h => h1 ((last_iff t).mp h)) (iblk m c 0 t) (iblk m c 1 t) (iblk m c 2 t) (iblk m c 3 t) (iblk m c 4 t) (iblk m c 5 t) p.hs p.acc
/-- The run at the last point of a tile, on what the point before left in the scratch buffers. -/
abbrev atC (c : Dev nD) (t : Fin cfg0.N) (h0 : ¬t.val % 8 = 0) (h1 : t.val % 8 = 7) (p : St F) :=
  runC (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) s0 (Memref.isWhole_whole _) s1 (Memref.isWhole_whole _) s2 (Memref.isWhole_whole _) s3 (Memref.isWhole_whole _) s4 (Memref.isWhole_whole _)
    (fun h => h0 ((first_iff t).mp h)) ((last_iff t).mpr h1) (iblk m c 0 t) (iblk m c 1 t) (iblk m c 2 t) (iblk m c 3 t) (iblk m c 4 t) (iblk m c 5 t) p.hs p.acc

/-- What the first point of a tile leaves. -/
def stA (c : Dev nD) (t : Fin cfg0.N) (h0 : t.val % 8 = 0) (h1 : ¬t.val % 8 = 7) : St F where
  o6 := vo6.read (Elt F) vo6.junk
  o7 := vo7.read (Elt F) (vo7.writes (Elt F) vo7.junk (atA m c t h0 h1).1)
  o8 := vo8.read (Elt F) vo8.junk
  o9 := vo9.read (Elt F) (vo9.writes (Elt F) vo9.junk (atA m c t h0 h1).2.1)
  o10 := vo10.read (Elt F) (vo10.writes (Elt F) vo10.junk (atA m c t h0 h1).2.2.1)
  hs := s0.view.read (Elt F) (s0.view.writes (Elt F) s0.view.junk (atA m c t h0 h1).2.2.2.1)
  acc := s1.view.read (Elt F) (s1.view.writes (Elt F) s1.view.junk (atA m c t h0 h1).2.2.2.2.1)

/-- What a point in between leaves. -/
def stB (c : Dev nD) (t : Fin cfg0.N) (h0 : ¬t.val % 8 = 0) (h1 : ¬t.val % 8 = 7) (p : St F) : St F where
  o6 := vo6.read (Elt F) vo6.junk
  o7 := p.o7
  o8 := vo8.read (Elt F) vo8.junk
  o9 := vo9.read (Elt F) (vo9.writes (Elt F) vo9.junk (atB m c t h0 h1 p).1)
  o10 := vo10.read (Elt F) (vo10.writes (Elt F) vo10.junk (atB m c t h0 h1 p).2.1)
  hs := p.hs
  acc := s1.view.read (Elt F) (s1.view.writes (Elt F) s1.view.junk (atB m c t h0 h1 p).2.2.1)

/-- What the last point of a tile leaves. -/
def stC (c : Dev nD) (t : Fin cfg0.N) (h0 : ¬t.val % 8 = 0) (h1 : t.val % 8 = 7) (p : St F) : St F where
  o6 := vo6.read (Elt F) (vo6.writes (Elt F) vo6.junk (atC m c t h0 h1 p).1)
  o7 := p.o7
  o8 := vo8.read (Elt F) (vo8.writes (Elt F) vo8.junk (atC m c t h0 h1 p).2.1)
  o9 := vo9.read (Elt F) (vo9.writes (Elt F) vo9.junk (atC m c t h0 h1 p).2.2.1)
  o10 := vo10.read (Elt F) (vo10.writes (Elt F) vo10.junk (atC m c t h0 h1 p).2.2.2.1)
  hs := p.hs
  acc := s1.view.read (Elt F) (s1.view.writes (Elt F) s1.view.junk (atC m c t h0 h1 p).2.2.2.2.1)

/-- One point's contents from the point's before, which the first point of a tile doesn't read. -/
def next (c : Dev nD) (t : Fin cfg0.N) (p : Option (St F)) : St F :=
  if h0 : t.val % 8 = 0 then stA m c t h0 (by omega)
  else match p with
    | none => ⟨vo6.read (Elt F) vo6.junk, vo7.read (Elt F) vo7.junk, vo8.read (Elt F) vo8.junk, vo9.read (Elt F) vo9.junk,
        vo10.read (Elt F) vo10.junk, s0.view.read (Elt F) s0.view.junk, s1.view.read (Elt F) s1.view.junk⟩
    | some p => if h1 : t.val % 8 = 7 then stC m c t h0 h1 p else stB m c t h0 h1 p

/-- The contents after each point, by recursion on the points. -/
def outs (c : Dev nD) : (n : ℕ) → n < cfg0.N → St F
  | 0, hn => next m c ⟨0, hn⟩ none
  | n + 1, hn => next m c ⟨n + 1, hn⟩ (some (outs c n (Nat.lt_of_succ_lt hn)))

/-- The contents after the point before. -/
abbrev prev (c : Dev nD) (t : Fin cfg0.N) : St F := outs m c (t.val - 1) (Nat.lt_of_le_of_lt (Nat.sub_le _ _) t.isLt)

theorem outs_A (c : Dev nD) (t : Fin cfg0.N) (h0 : t.val % 8 = 0) (h1 : ¬t.val % 8 = 7) :
    outs m c t.val t.isLt = stA m c t h0 h1 := by
  obtain ⟨n, hn⟩ := t
  cases n with
  | zero => show next m c ⟨0, hn⟩ none = _; unfold next; exact dif_pos h0
  | succ n => exact dif_pos h0

theorem outs_B (c : Dev nD) (t : Fin cfg0.N) (h0 : ¬t.val % 8 = 0) (h1 : ¬t.val % 8 = 7) :
    outs m c t.val t.isLt = stB m c t h0 h1 (prev m c t) := by
  obtain ⟨n, hn⟩ := t
  cases n with
  | zero => exact absurd (Nat.zero_mod _) h0
  | succ n => exact (dif_neg h0).trans (dif_neg h1)

theorem outs_C (c : Dev nD) (t : Fin cfg0.N) (h0 : ¬t.val % 8 = 0) (h1 : t.val % 8 = 7) :
    outs m c t.val t.isLt = stC m c t h0 h1 (prev m c t) := by
  obtain ⟨n, hn⟩ := t
  cases n with
  | zero => exact absurd (Nat.zero_mod _) h0
  | succ n => exact (dif_neg h0).trans (dif_pos h1)

/-- What the region owns between the points: the two scratch buffers at what the point before left in them, the others
    and the generator register at anything. -/
def PhiS (c : Dev nD) : (n : ℕ) → n ≤ cfg0.N → sProp 𝕄
  | 0, _ => Pipeline.ΦA spec0 c
  | n + 1, hn => iprop(iprop(owns (c : Thread nD τ) s0 fullShare (outs m c n hn).hs ∗ owns (c : Thread nD τ) s1 fullShare (outs m c n hn).acc ∗ (∃ d, owns (c : Thread nD τ) s2 fullShare d) ∗ (∃ d, owns (c : Thread nD τ) s3 fullShare d) ∗ (∃ d, owns (c : Thread nD τ) s4 fullShare d)) ∗ (∃ r, prngReg c r))

theorem PhiS_succ (c : Dev nD) (n : ℕ) (hn : n < cfg0.N) :
    PhiS m c (n + 1) hn = iprop(iprop(owns (c : Thread nD τ) s0 fullShare (outs m c n hn).hs ∗ owns (c : Thread nD τ) s1 fullShare (outs m c n hn).acc ∗ (∃ d, owns (c : Thread nD τ) s2 fullShare d) ∗ (∃ d, owns (c : Thread nD τ) s3 fullShare d) ∗ (∃ d, owns (c : Thread nD τ) s4 fullShare d)) ∗ (∃ r, prngReg c r)) := rfl

theorem PhiS_pos (c : Dev nD) (t : Fin cfg0.N) (hz : t.val ≠ 0) :
    PhiS m c t.val (Nat.le_of_lt t.isLt) = iprop(iprop(owns (c : Thread nD τ) s0 fullShare (prev m c t).hs ∗ owns (c : Thread nD τ) s1 fullShare (prev m c t).acc ∗ (∃ d, owns (c : Thread nD τ) s2 fullShare d) ∗ (∃ d, owns (c : Thread nD τ) s3 fullShare d) ∗ (∃ d, owns (c : Thread nD τ) s4 fullShare d)) ∗ (∃ r, prngReg c r)) := by
  obtain ⟨n, hn⟩ := t
  cases n with
  | zero => exact absurd rfl hz
  | succ n => rfl

/-- Forgetting what the scratch buffers hold. -/
theorem PhiS_any (c : Dev nD) (n : ℕ) (hn : n ≤ cfg0.N) :
    PhiS m c n hn ⊢ (Pipeline.ΦA spec0 c : sProp 𝕄) := by
  cases n with
  | zero => exact Entails.refl _
  | succ n =>
    rw [PhiS_succ, any_eq]
    iintro ⟨⟨HS0, HS1, HS2, HS3, HS4⟩, Hg⟩
    isplitl [HS0 HS1 HS2 HS3 HS4]
    · isplitl [HS0]
      · iexists _; iexact HS0
      isplitl [HS1]
      · iexists _; iexact HS1
      isplitl [HS2]
      · iexact HS2
      isplitl [HS3]
      · iexact HS3
      iexact HS4
    iexact Hg

/-! ## The pipeline's proof data -/

/-- The arrays as the region finds them; after each point the inputs' buffers at their blocks and the outputs' at what the
    runs leave; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outs m c t.val t.isLt).o6
    | ⟨7, _⟩ => (outs m c t.val t.isLt).o7
    | ⟨8, _⟩ => (outs m c t.val t.isLt).o8
    | ⟨9, _⟩ => (outs m c t.val t.isLt).o9
    | ⟨10, _⟩ => (outs m c t.val t.isLt).o10
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

section points
variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = (outs m c t.val t.isLt).o6 := by dsimp only [dats]
theorem after_7 : (dats m 0 c).after 7 t = (outs m c t.val t.isLt).o7 := by dsimp only [dats]
theorem after_8 : (dats m 0 c).after 8 t = (outs m c t.val t.isLt).o8 := by dsimp only [dats]
theorem after_9 : (dats m 0 c).after 9 t = (outs m c t.val t.isLt).o9 := by dsimp only [dats]
theorem after_10 : (dats m 0 c).after 10 t = (outs m c t.val t.isLt).o10 := by dsimp only [dats]
theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d

end points

/-- The normalised tokens lie in their output's buffer from the first point of a tile on. -/
theorem before_7 (c : Dev nD) : ∀ (n : ℕ) (hn : n < cfg0.N) (_ : ¬n % 8 = 0) (d),
    (dats m 0 c).before 7 ⟨n, hn⟩ d = (outs m c (n - 1) (Nat.lt_of_le_of_lt (Nat.sub_le _ _) hn)).o7 := by
  intro n
  induction n with
  | zero => intro hn h; exact absurd (Nat.zero_mod _) h
  | succ n ih =>
    intro hn h d
    rw [(dats m 0 c).before_of_pos 7 ⟨n + 1, hn⟩ (Nat.succ_ne_zero n) (nofetch7 _) d,
      noflush 7 flush0_7 _ (show ¬(n + 1 - 1) % 8 = 7 by omega), if_neg Bool.false_ne_true]
    have hn' : n < cfg0.N := Nat.lt_of_succ_lt hn
    show (dats m 0 c).left 7 ⟨n, hn'⟩ d = (outs m c n hn').o7
    unfold Dat.left
    by_cases h0 : n % 8 = 0
    · rw [show cfg0.idle 7 (cfg0.grid.coords ⟨n, hn'⟩) = false from (idle7 ⟨n, hn'⟩).trans (by simp [h0])]
      dsimp only
      unfold Dat.kept
      rw [after_7]
      exact (cfg0.win 7).fill_cut _ _
    · rw [show cfg0.idle 7 (cfg0.grid.coords ⟨n, hn'⟩) = true from (idle7 ⟨n, hn'⟩).trans (by simp [h0])]
      dsimp only
      rw [ih hn' h0 d]
      by_cases h1 : n % 8 = 7
      · rw [outs_C m c ⟨n, hn'⟩ h0 h1]; rfl
      · rw [outs_B m c ⟨n, hn'⟩ h0 h1]; rfl

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (b0 t) fullShare ((dats m 0 c).before 0 t d))
    ∗ (∃ d, owns (c : Thread nD τ) (b1 t) fullShare ((dats m 0 c).before 1 t d))
    ∗ (∃ d, owns (c : Thread nD τ) (b2 t) fullShare ((dats m 0 c).before 2 t d))
    ∗ (∃ d, owns (c : Thread nD τ) (b3 t) fullShare ((dats m 0 c).before 3 t d))
    ∗ (∃ d, owns (c : Thread nD τ) (b4 t) fullShare ((dats m 0 c).before 4 t d))
    ∗ (∃ d, owns (c : Thread nD τ) (b5 t) fullShare ((dats m 0 c).before 5 t d))
    ∗ (∃ d, owns (c : Thread nD τ) (b6 t) fullShare ((dats m 0 c).before 6 t d))
    ∗ (∃ d, owns (c : Thread nD τ) (b7 t) fullShare ((dats m 0 c).before 7 t d))
    ∗ (∃ d, owns (c : Thread nD τ) (b8 t) fullShare ((dats m 0 c).before 8 t d))
    ∗ (∃ d, owns (c : Thread nD τ) (b9 t) fullShare ((dats m 0 c).before 9 t d))
    ∗ (∃ d, owns (c : Thread nD τ) (b10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

/-- A window that is live at a point is left at what the point's run leaves. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-- The same for a window that is idle at a point and written back there. -/
theorem leaves_flush (c : Dev nD) (w : Fin cfg0.W) (t : Fin cfg0.N) (h : cfg0.idle w (grid0.coords t) = true)
    (hf : (cfg0.win w).flush t = true) :
    (dats m 0 c).leavesExact w t = owns (c : Thread nD τ) ((cfg0.win w).stage (cfg0.slots t w)) fullShare ((dats m 0 c).after w t) := by
  unfold Dat.leavesExact; rw [show cfg0.idle w (cfg0.grid.coords t) = true from h, hf]

set_option maxHeartbeats 19200000 in
/-- The body at any point, by the three cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 32 := lt_of_lt_of_eq t.isLt (show cfg0.N = 32 from N_0)
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 9 t rfl, after_9]
  rw [leaves_live m c 10 t rfl, after_10]
  by_cases h0 : t.val % 8 = 0
  · have h1 : ¬t.val % 8 = 7 := by omega
    rw [Dat.leavesExact_idle (dats m 0 c) 6 t ((idle6 t).trans (by simp [h0, h1])) (noflush 6 flush0_6 t h1)]
    rw [leaves_live m c 7 t ((idle7 t).trans (by simp [h0, h1])), after_7]
    rw [Dat.leavesExact_idle (dats m 0 c) 8 t ((idle8 t).trans (by simp [h0, h1])) (noflush 8 flush0_8 t h1)]
    rw [outs_A m c t h0 h1]
    unfold stA; dsimp only
    iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    ihave HQ := ((PhiS_any m c t.val (Nat.le_of_lt t.isLt)).trans (Entails.of_eq (any_eq c))) $$ HP
    icases HQ with ⟨⟨HS0, HS1, HS2, HS3, HS4⟩, Hg⟩
    iapply ((atA m c t h0 h1).2.2.2.2.2 _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexact H8
    isplitl [H9]; · iexists _; iexact H9
    isplitl [H10]; · iexists _; iexact H10
    isplitl [HS0]; · iexact HS0
    isplitl [HS1]; · iexact HS1
    isplitl [HS2]; · iexact HS2
    isplitl [HS3]; · iexact HS3
    isplitl [HS4]; · iexact HS4
    iintro ⟨H0, H1, H2, H3, H4, H5, H6, ⟨%e7, H7⟩, H8, ⟨%e9, H9⟩, ⟨%e10, H10⟩, ⟨%es0, HS0⟩, ⟨%es1, HS1⟩, HS2, HS3, HS4⟩
    isplitl [HS0 HS1 HS2 HS3 HS4 Hg]
    · isplitl [HS0 HS1 HS2 HS3 HS4]
      · isplitl [HS0]
        · unfold owns; iexists _; isplitr
          swap; · iexact HS0
          ipureintro; exact View.read_writes_of_cover _ _ _ _ _ (by apply coverA13)
        isplitl [HS1]
        · unfold owns; iexists _; isplitr
          swap; · iexact HS1
          ipureintro; exact View.read_writes_of_cover _ _ _ _ _ (by apply coverA14)
        isplitl [HS2]
        · iexact HS2
        isplitl [HS3]
        · iexact HS3
        iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]
    · unfold owns; iexists _; isplitr
      swap; · iexact H7
      ipureintro; exact View.read_writes_of_cover _ _ _ _ _ (by apply coverA9)
    isplitl [H8]; · iexists _; iexact H8
    isplitl [H9]
    · unfold owns; iexists _; isplitr
      swap; · iexact H9
      ipureintro; exact View.read_writes_of_cover _ _ _ _ _ (by apply coverA11)
    unfold owns; iexists _; isplitr
    swap; · iexact H10
    ipureintro; exact View.read_writes_of_cover _ _ _ _ _ (by apply coverA12)
  · by_cases h1 : t.val % 8 = 7
    · rw [leaves_live m c 6 t ((idle6 t).trans (by simp [h0, h1])), after_6]
      rw [leaves_flush m c 7 t ((idle7 t).trans (by simp [h0, h1])) ((flush0_7 t).mpr h1), after_7]
      rw [leaves_live m c 8 t ((idle8 t).trans (by simp [h0, h1])), after_8]
      have hz : t.val ≠ 0 := fun h => h0 (by rw [h])
      rw [PhiS_pos m c t hz, outs_C m c t h0 h1]
      unfold stC; dsimp only
      simp only [show ∀ d, (dats m 0 c).before 7 t d = (prev m c t).o7 from before_7 m c t.val t.isLt h0]
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((atC m c t h0 h1 (prev m c t)).2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [H8]; · iexists _; iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      iintro ⟨H0, H1, H2, H3, H4, H5, ⟨%e6, H6⟩, H7, ⟨%e8, H8⟩, ⟨%e9, H9⟩, ⟨%e10, H10⟩, HS0, ⟨%es1, HS1⟩, HS2, HS3, HS4⟩
      isplitl [HS0 HS1 HS2 HS3 HS4 Hg]
      · isplitl [HS0 HS1 HS2 HS3 HS4]
        · isplitl [HS0]
          · iexact HS0
          isplitl [HS1]
          · unfold owns; iexists _; isplitr
            swap; · iexact HS1
            ipureintro; exact View.read_writes_of_cover _ _ _ _ _ (by apply coverC14)
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (by apply coverC8)
      isplitl [H7]; · iexact H7
      isplitl [H8]
      · unfold owns; iexists _; isplitr
        swap; · iexact H8
        ipureintro; exact View.read_writes_of_cover _ _ _ _ _ (by apply coverC10)
      isplitl [H9]
      · unfold owns; iexists _; isplitr
        swap; · iexact H9
        ipureintro; exact View.read_writes_of_cover _ _ _ _ _ (by apply coverC11)
      unfold owns; iexists _; isplitr
      swap; · iexact H10
      ipureintro; exact View.read_writes_of_cover _ _ _ _ _ (by apply coverC12)
    · rw [Dat.leavesExact_idle (dats m 0 c) 6 t ((idle6 t).trans (by simp [h0, h1])) (noflush 6 flush0_6 t h1)]
      rw [Dat.leavesExact_idle (dats m 0 c) 7 t ((idle7 t).trans (by simp [h0, h1])) (noflush 7 flush0_7 t h1)]
      rw [Dat.leavesExact_idle (dats m 0 c) 8 t ((idle8 t).trans (by simp [h0, h1])) (noflush 8 flush0_8 t h1)]
      have hz : t.val ≠ 0 := fun h => h0 (by rw [h])
      rw [PhiS_pos m c t hz, outs_B m c t h0 h1]
      unfold stB; dsimp only
      iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((atB m c t h0 h1 (prev m c t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      isplitl [HS2]; · iexact HS2
      isplitl [HS3]; · iexact HS3
      isplitl [HS4]; · iexact HS4
      iintro ⟨H0, H1, H2, H3, H4, H5, H6, H7, H8, ⟨%e9, H9⟩, ⟨%e10, H10⟩, HS0, ⟨%es1, HS1⟩, HS2, HS3, HS4⟩
      isplitl [HS0 HS1 HS2 HS3 HS4 Hg]
      · isplitl [HS0 HS1 HS2 HS3 HS4]
        · isplitl [HS0]
          · iexact HS0
          isplitl [HS1]
          · unfold owns; iexists _; isplitr
            swap; · iexact HS1
            ipureintro; exact View.read_writes_of_cover _ _ _ _ _ (by apply coverB14)
          isplitl [HS2]
          · iexact HS2
          isplitl [HS3]
          · iexact HS3
          iexact HS4
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]
      · unfold owns; iexists _; isplitr
        swap; · iexact H9
        ipureintro; exact View.read_writes_of_cover _ _ _ _ _ (by apply coverB11)
      unfold owns; iexists _; isplitr
      swap; · iexact H10
      ipureintro; exact View.read_writes_of_cover _ _ _ _ _ (by apply coverB12)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Entails.refl _

theorem hout (c : Dev nD) : (dats m 0 c).Φ (Fin.last cfg0.N) ⊢ Pipeline.ΦA spec0 c :=
  PhiS_any m c _ (Nat.le_of_lt_succ (Fin.last cfg0.N).isLt)

/-! ## The run and the frame -/

set_option backward.isDefEq.respectTransparency.types false in
/-- The run: every array of the pipeline ends at what the points' contents say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel6Ideal.Ffn

end
-- ==== Proof.FfnPieces.lean ====
/-
  The feed-forward kernel's payloads over the ideal numbers, entry by entry, and what the stored pieces hold.
-/
module

public import proofs.«01_k».proof.Proof.FfnFrame
public import Idealize.ShloMosaic.Lib.Pipeline.ValueKit
public import Idealize.ShloMosaic.Lib.Pointwise
public import Idealize.ShloMosaic.Lib.WritesUnit

@[expose] public section

set_option maxRecDepth 16384

noncomputable section

namespace Cert.Kernel6Ideal.Ffn

open Idealize.ShloMosaic Idealize.ShloMosaic.TcCoe Idealize.SL.Sem
open Cert.Kernel6Ideal Cert.Kernel6Ideal.Gen

/-- One normalised and modulated entry `v` of the row `r`, with its gain, shift and scale. -/
def nrm (r : Fin 2048 → EReal) (v g sh sc : EReal) : EReal :=
  v * Ideal.rsqrt (Ideal.div (∑ k : Fin 2048, r k * r k) (Ideal.ofBits FTy.f32 1157627904#32) + Ideal.ofBits FTy.f32 897988541#32) * g * (1 + sc) + sh

theorem nrm_congr {r r' : Fin 2048 → EReal} {v v' g g' sh sh' sc sc' : EReal} (hr : r = r') (hv : v = v') (hg : g = g') (hs : sh = sh') (hc : sc = sc') :
    nrm r v g sh sc = nrm r' v' g' sh' sc' := by
  subst hr hv hg hs hc; rfl

/-- Of the token tile `x`: every row divided by its root mean square, times the gain `g`, then the scale and the shift of
the modulation `p`. -/
def hd (x : Vec Ideal S512x2048 .f32) (p : Vec Ideal S1x3x2048 .f32) (g : Vec Ideal S1x2048 .f32) : Vec Ideal S512x2048 .bf16 := fun y =>
  nrm (fun k => x (ix2 (y 0) k)) (x y) (g (ix2 0 (y 1))) (p (ix3 0 0 (y 1))) (p (ix3 0 1 (y 1)))

/-- The rows of `h` times the transposed weight block. -/
def up (h : Vec Ideal S512x2048 .bf16) (w : Vec Ideal S1x704x2048 .bf16) : Vec Ideal S512x704 .f32 := fun y =>
  (∑ k : Fin 2048, (h (ix2 (y 0) k) * w (ix3 0 (y 1) k) : EReal) : EReal)

/-- The same rows as a block of the saved array. -/
def lift (a : Vec Ideal S512x704 .f32) : Vec Ideal S1x512x704 .bf16 := fun y => (a (ix2 (y 1) (y 2)) : EReal)

/-- The gated hidden rows. -/
def gate (a b : Vec Ideal S512x704 .f32) : Vec Ideal S512x704 .bf16 := fun y =>
  ((a y * Ideal.logistic (a y) * b y : EReal))

/-- The sum `s` over the earlier hidden blocks, and this block's product added to it. -/
def down (s : Vec Ideal S512x2048 .f32) (q : Vec Ideal S512x704 .bf16) (w : Vec Ideal S1x704x2048 .bf16) : Vec Ideal S512x2048 .f32 := fun y =>
  (s y + ∑ k : Fin 704, (q (ix2 (y 0) k) * w (ix3 0 k (y 1)) : EReal) : EReal)

/-- The sum as it is written out. -/
def outY (s : Vec Ideal S512x2048 .f32) : Vec Ideal S512x2048 .bf16 := fun y => (s y : EReal)

/-- The tokens with the gated half of the sum added. -/
def outX (x : Vec Ideal S512x2048 .f32) (p : Vec Ideal S1x3x2048 .f32) (s : Vec Ideal S512x2048 .f32) : Vec Ideal S512x2048 .f32 := fun y =>
  ((x y + Ideal.ofBits FTy.f32 1056964608#32 * p (ix3 0 2 (y 1)) * s y : EReal))

/-- A stored piece agrees with `G` wherever it lies. -/
def Fits {s : Shape} {e : EltTy} (G : s.Idx → Elt Ideal e) (p : View.Piece (Elt Ideal) s e) : Prop :=
  ∀ x : p.1.shape.Idx, p.2 x = G (p.1.emb x)

theorem read_of_fits {κ} {sp} {s : Shape} {e : EltTy} (v : View sig κ sp s e) (f : v.ty.Contents (Elt Ideal)) (G : s.Idx → Elt Ideal e)
    (L : List (View.Piece (Elt Ideal) s e)) (hG : ∀ p ∈ L, Fits G p) (hc : ∀ y, ∃ p ∈ L, y ∈ p.1.set) :
    v.read (Elt Ideal) (v.writes (Elt Ideal) f L) = G :=
  funext fun y => View.read_writes_apply_of_pieces v f G L hG y (hc y)

theorem emb_val {s : Shape} (off size : Fin s.rank → Nat) (inb) (x : (Rect.unit (s := s) off size inb).shape.Idx) (a : Fin s.rank) :
    ((Rect.unit (s := s) off size inb).emb x a).val = off a + (x a).val := Rect.idx_unit_val off size inb x a

theorem pay6_apply (h : Vec Ideal S256x2048 .bf16) (w : Vec Ideal S1x704x2048 .bf16) (a : Fin 256) (b : Fin 704) :
    (k0_pay6 h w (ix2 a b) : EReal) = ∑ k : Fin 2048, (h (ix2 a k) * w (ix3 0 b k) : EReal) := by
  unfold k0_pay6
  pointwise

theorem pay7_apply (h : Vec Ideal S256x2048 .bf16) (w : Vec Ideal S1x704x2048 .bf16) (a : Fin 256) (b : Fin 704) :
    (k0_pay7 h w (ix2 a b) : EReal) = ∑ k : Fin 2048, (h (ix2 a k) * w (ix3 0 b k) : EReal) := by
  unfold k0_pay7
  pointwise

theorem pay8_apply (h : Vec Ideal S256x2048 .bf16) (w : Vec Ideal S1x704x2048 .bf16) (a : Fin 256) (b : Fin 704) :
    (k0_pay8 h w (ix2 a b) : EReal) = ∑ k : Fin 2048, (h (ix2 a k) * w (ix3 0 b k) : EReal) := by
  unfold k0_pay8
  pointwise

theorem pay9_apply (h : Vec Ideal S256x2048 .bf16) (w : Vec Ideal S1x704x2048 .bf16) (a : Fin 256) (b : Fin 704) :
    (k0_pay9 h w (ix2 a b) : EReal) = ∑ k : Fin 2048, (h (ix2 a k) * w (ix3 0 b k) : EReal) := by
  unfold k0_pay9
  pointwise

theorem pay10_apply (a : Vec Ideal S128x704 .f32) (u : Fin 1) (r : Fin 128) (c : Fin 704) :
    ((k0_pay10 a : Vec Ideal S1x128x704 .bf16) (ix3 u r c) : EReal) = a (ix2 r c) := by
  unfold k0_pay10
  pointwise

theorem pay13_apply (a : Vec Ideal S128x704 .f32) (u : Fin 1) (r : Fin 128) (c : Fin 704) :
    ((k0_pay13 a : Vec Ideal S1x128x704 .bf16) (ix3 u r c) : EReal) = a (ix2 r c) := by
  unfold k0_pay13
  pointwise

theorem pay17_apply (a : Vec Ideal S128x704 .f32) (u : Fin 1) (r : Fin 128) (c : Fin 704) :
    ((k0_pay17 a : Vec Ideal S1x128x704 .bf16) (ix3 u r c) : EReal) = a (ix2 r c) := by
  unfold k0_pay17
  pointwise

theorem pay21_apply (a : Vec Ideal S128x704 .f32) (u : Fin 1) (r : Fin 128) (c : Fin 704) :
    ((k0_pay21 (k0_pay20 a) : Vec Ideal S1x128x704 .bf16) (ix3 u r c) : EReal) = a (ix2 r c) := by
  unfold k0_pay21 k0_pay20
  pointwise

theorem pay11_apply (a : Vec Ideal S128x704 .f32) (u : Fin 1) (r : Fin 128) (c : Fin 704) :
    ((k0_pay11 a : Vec Ideal S1x128x704 .bf16) (ix3 u r c) : EReal) = a (ix2 r c) := by
  unfold k0_pay11
  pointwise

theorem pay15_apply (a : Vec Ideal S128x704 .f32) (u : Fin 1) (r : Fin 128) (c : Fin 704) :
    ((k0_pay15 (k0_pay14 a) : Vec Ideal S1x128x704 .bf16) (ix3 u r c) : EReal) = a (ix2 r c) := by
  unfold k0_pay15 k0_pay14
  pointwise

theorem pay18_apply (a : Vec Ideal S128x704 .f32) (u : Fin 1) (r : Fin 128) (c : Fin 704) :
    ((k0_pay18 a : Vec Ideal S1x128x704 .bf16) (ix3 u r c) : EReal) = a (ix2 r c) := by
  unfold k0_pay18
  pointwise

theorem pay22_apply (a : Vec Ideal S128x704 .f32) (u : Fin 1) (r : Fin 128) (c : Fin 704) :
    ((k0_pay22 a : Vec Ideal S1x128x704 .bf16) (ix3 u r c) : EReal) = a (ix2 r c) := by
  unfold k0_pay22
  pointwise

theorem pay12_apply (a b : Vec Ideal S128x704 .f32) (r : Fin 128) (c : Fin 704) :
    (k0_pay12 a b (ix2 r c) : EReal) = a (ix2 r c) * Ideal.logistic (a (ix2 r c)) * b (ix2 r c) := by
  unfold k0_pay12
  pointwise

theorem pay16_apply (a b : Vec Ideal S128x704 .f32) (r : Fin 128) (c : Fin 704) :
    (k0_pay16 a b (ix2 r c) : EReal) = a (ix2 r c) * Ideal.logistic (a (ix2 r c)) * b (ix2 r c) := by
  unfold k0_pay16
  pointwise

theorem pay19_apply (a b : Vec Ideal S128x704 .f32) (r : Fin 128) (c : Fin 704) :
    (k0_pay19 a b (ix2 r c) : EReal) = a (ix2 r c) * Ideal.logistic (a (ix2 r c)) * b (ix2 r c) := by
  unfold k0_pay19
  pointwise

theorem pay23_apply (a b : Vec Ideal S128x704 .f32) (r : Fin 128) (c : Fin 704) :
    (k0_pay23 a b (ix2 r c) : EReal) = a (ix2 r c) * Ideal.logistic (a (ix2 r c)) * b (ix2 r c) := by
  unfold k0_pay23
  pointwise

theorem pay24_apply (s : Vec Ideal S256x2048 .f32) (q : Vec Ideal S256x704 .bf16) (w : Vec Ideal S1x704x2048 .bf16) (a : Fin 256) (b : Fin 2048) :
    (k0_pay24 s q w (ix2 a b) : EReal) = s (ix2 a b) + ∑ k : Fin 704, (q (ix2 a k) * w (ix3 0 k b) : EReal) := by
  unfold k0_pay24
  pointwise

theorem pay25_apply (s : Vec Ideal S256x2048 .f32) (q : Vec Ideal S256x704 .bf16) (w : Vec Ideal S1x704x2048 .bf16) (a : Fin 256) (b : Fin 2048) :
    (k0_pay25 s q w (ix2 a b) : EReal) = s (ix2 a b) + ∑ k : Fin 704, (q (ix2 a k) * w (ix3 0 k b) : EReal) := by
  unfold k0_pay25
  pointwise

theorem pay3_apply (x : Vec Ideal S128x2048 .f32) (g : Vec Ideal S1x2048 .f32) (p q : Vec Ideal S1x1x2048 .f32) (a : Fin 128) (b : Fin 2048) :
    (k0_pay3 x g p q (ix2 a b) : EReal) = nrm (fun k => x (ix2 a k)) (x (ix2 a b)) (g (ix2 0 b)) (p (ix3 0 0 b)) (q (ix3 0 0 b)) := by
  unfold k0_pay3 nrm
  pointwise

theorem pay4_apply (x : Vec Ideal S128x2048 .f32) (g : Vec Ideal S1x2048 .f32) (p q : Vec Ideal S1x1x2048 .f32) (a : Fin 128) (b : Fin 2048) :
    (k0_pay4 x g p q (ix2 a b) : EReal) = nrm (fun k => x (ix2 a k)) (x (ix2 a b)) (g (ix2 0 b)) (p (ix3 0 0 b)) (q (ix3 0 0 b)) := by
  unfold k0_pay4 nrm
  pointwise
  exact pay3_apply x g p q a b

theorem pay1_apply (s : Vec Ideal S128x2048 .f32) (a : Fin 128) (b : Fin 2048) : (k0_pay1 s (ix2 a b) : EReal) = s (ix2 a b) := by
  unfold k0_pay1
  pointwise

theorem pay2_apply (s : Vec Ideal S128x2048 .f32) (p : Vec Ideal S1x1x2048 .f32) (x : Vec Ideal S128x2048 .f32) (a : Fin 128) (b : Fin 2048) :
    (k0_pay2 s p x (ix2 a b) : EReal) = x (ix2 a b) + Ideal.ofBits FTy.f32 1056964608#32 * p (ix3 0 0 b) * s (ix2 a b) := by
  unfold k0_pay2
  pointwise

theorem fits_pay6 (h : Vec Ideal S512x2048 .bf16) (w : Vec Ideal S1x704x2048 .bf16) (o : ℕ) (inb) (inb') :
    Fits (up h w) ⟨Rect.unit (s := S512x704) ![o, 0] S256x704.size inb, k0_pay6 (View.ld h (Rect.unit ![o, 0] S256x2048.size inb')) w⟩ := by
  intro (x : S256x704.Idx)
  show k0_pay6 (F := Ideal) _ w x = up h w ((Rect.unit (s := S512x704) ![o, 0] S256x704.size inb).emb x)
  obtain ⟨a, b, rfl⟩ : ∃ a b, x = ix2 a b := ⟨_, _, eq_ix2 x⟩
  have e0 := emb_val (s := S512x704) ![o, 0] S256x704.size inb (ix2 a b) 0
  have e1 := emb_val (s := S512x704) ![o, 0] S256x704.size inb (ix2 a b) 1
  refine (pay6_apply _ _ _ _).trans ?_
  unfold up
  refine Finset.sum_congr rfl fun k _ => ?_
  refine congrArg₂ (fun p q : EReal => p * q) (View.ld_unit_apply_of h _ _ inb' _ _ fun d => ?_) (congrArg w (funext fun d => Fin.ext ?_))
  · match d with
    | ⟨0, _⟩ => exact e0
    | ⟨1, _⟩ => exact (Nat.zero_add _).symm
  · match d with
    | ⟨0, _⟩ => rfl
    | ⟨1, _⟩ => exact ((e1.trans (Nat.zero_add _)).symm : b.val = _)
    | ⟨2, _⟩ => rfl

theorem fits_pay7 (h : Vec Ideal S512x2048 .bf16) (w : Vec Ideal S1x704x2048 .bf16) (o : ℕ) (inb) (inb') :
    Fits (up h w) ⟨Rect.unit (s := S512x704) ![o, 0] S256x704.size inb, k0_pay7 (View.ld h (Rect.unit ![o, 0] S256x2048.size inb')) w⟩ := by
  intro (x : S256x704.Idx)
  show k0_pay7 (F := Ideal) _ w x = up h w ((Rect.unit (s := S512x704) ![o, 0] S256x704.size inb).emb x)
  obtain ⟨a, b, rfl⟩ : ∃ a b, x = ix2 a b := ⟨_, _, eq_ix2 x⟩
  have e0 := emb_val (s := S512x704) ![o, 0] S256x704.size inb (ix2 a b) 0
  have e1 := emb_val (s := S512x704) ![o, 0] S256x704.size inb (ix2 a b) 1
  refine (pay7_apply _ _ _ _).trans ?_
  unfold up
  refine Finset.sum_congr rfl fun k _ => ?_
  refine congrArg₂ (fun p q : EReal => p * q) (View.ld_unit_apply_of h _ _ inb' _ _ fun d => ?_) (congrArg w (funext fun d => Fin.ext ?_))
  · match d with
    | ⟨0, _⟩ => exact e0
    | ⟨1, _⟩ => exact (Nat.zero_add _).symm
  · match d with
    | ⟨0, _⟩ => rfl
    | ⟨1, _⟩ => exact ((e1.trans (Nat.zero_add _)).symm : b.val = _)
    | ⟨2, _⟩ => rfl

theorem fits_pay8 (h : Vec Ideal S512x2048 .bf16) (w : Vec Ideal S1x704x2048 .bf16) (o : ℕ) (inb) (inb') :
    Fits (up h w) ⟨Rect.unit (s := S512x704) ![o, 0] S256x704.size inb, k0_pay8 (View.ld h (Rect.unit ![o, 0] S256x2048.size inb')) w⟩ := by
  intro (x : S256x704.Idx)
  show k0_pay8 (F := Ideal) _ w x = up h w ((Rect.unit (s := S512x704) ![o, 0] S256x704.size inb).emb x)
  obtain ⟨a, b, rfl⟩ : ∃ a b, x = ix2 a b := ⟨_, _, eq_ix2 x⟩
  have e0 := emb_val (s := S512x704) ![o, 0] S256x704.size inb (ix2 a b) 0
  have e1 := emb_val (s := S512x704) ![o, 0] S256x704.size inb (ix2 a b) 1
  refine (pay8_apply _ _ _ _).trans ?_
  unfold up
  refine Finset.sum_congr rfl fun k _ => ?_
  refine congrArg₂ (fun p q : EReal => p * q) (View.ld_unit_apply_of h _ _ inb' _ _ fun d => ?_) (congrArg w (funext fun d => Fin.ext ?_))
  · match d with
    | ⟨0, _⟩ => exact e0
    | ⟨1, _⟩ => exact (Nat.zero_add _).symm
  · match d with
    | ⟨0, _⟩ => rfl
    | ⟨1, _⟩ => exact ((e1.trans (Nat.zero_add _)).symm : b.val = _)
    | ⟨2, _⟩ => rfl

theorem fits_pay9 (h : Vec Ideal S512x2048 .bf16) (w : Vec Ideal S1x704x2048 .bf16) (o : ℕ) (inb) (inb') :
    Fits (up h w) ⟨Rect.unit (s := S512x704) ![o, 0] S256x704.size inb, k0_pay9 (View.ld h (Rect.unit ![o, 0] S256x2048.size inb')) w⟩ := by
  intro (x : S256x704.Idx)
  show k0_pay9 (F := Ideal) _ w x = up h w ((Rect.unit (s := S512x704) ![o, 0] S256x704.size inb).emb x)
  obtain ⟨a, b, rfl⟩ : ∃ a b, x = ix2 a b := ⟨_, _, eq_ix2 x⟩
  have e0 := emb_val (s := S512x704) ![o, 0] S256x704.size inb (ix2 a b) 0
  have e1 := emb_val (s := S512x704) ![o, 0] S256x704.size inb (ix2 a b) 1
  refine (pay9_apply _ _ _ _).trans ?_
  unfold up
  refine Finset.sum_congr rfl fun k _ => ?_
  refine congrArg₂ (fun p q : EReal => p * q) (View.ld_unit_apply_of h _ _ inb' _ _ fun d => ?_) (congrArg w (funext fun d => Fin.ext ?_))
  · match d with
    | ⟨0, _⟩ => exact e0
    | ⟨1, _⟩ => exact (Nat.zero_add _).symm
  · match d with
    | ⟨0, _⟩ => rfl
    | ⟨1, _⟩ => exact ((e1.trans (Nat.zero_add _)).symm : b.val = _)
    | ⟨2, _⟩ => rfl

theorem fits_pay10 (a : Vec Ideal S512x704 .f32) (o : ℕ) (inb) (inb') :
    Fits (lift a) ⟨Rect.unit (s := S1x512x704) ![0, o, 0] S1x128x704.size inb, k0_pay10 (View.ld a (Rect.unit ![o, 0] S128x704.size inb'))⟩ := by
  intro (x : S1x128x704.Idx)
  show (k0_pay10 (View.ld a (Rect.unit ![o, 0] S128x704.size inb')) : Vec Ideal S1x128x704 .bf16) x = lift a ((Rect.unit (s := S1x512x704) ![0, o, 0] S1x128x704.size inb).emb x)
  obtain ⟨u, r, c, rfl⟩ : ∃ u r c, x = ix3 u r c := ⟨_, _, _, eq_ix3 x⟩
  have e1 := emb_val (s := S1x512x704) ![0, o, 0] S1x128x704.size inb (ix3 u r c) 1
  have e2 := emb_val (s := S1x512x704) ![0, o, 0] S1x128x704.size inb (ix3 u r c) 2
  refine (pay10_apply _ _ _ _).trans ?_
  refine View.ld_unit_apply_of a _ _ inb' _ _ fun d => ?_
  match d with
  | ⟨0, _⟩ => exact e1
  | ⟨1, _⟩ => exact e2

theorem fits_pay13 (a : Vec Ideal S512x704 .f32) (o : ℕ) (inb) (inb') :
    Fits (lift a) ⟨Rect.unit (s := S1x512x704) ![0, o, 0] S1x128x704.size inb, k0_pay13 (View.ld a (Rect.unit ![o, 0] S128x704.size inb'))⟩ := by
  intro (x : S1x128x704.Idx)
  show (k0_pay13 (View.ld a (Rect.unit ![o, 0] S128x704.size inb')) : Vec Ideal S1x128x704 .bf16) x = lift a ((Rect.unit (s := S1x512x704) ![0, o, 0] S1x128x704.size inb).emb x)
  obtain ⟨u, r, c, rfl⟩ : ∃ u r c, x = ix3 u r c := ⟨_, _, _, eq_ix3 x⟩
  have e1 := emb_val (s := S1x512x704) ![0, o, 0] S1x128x704.size inb (ix3 u r c) 1
  have e2 := emb_val (s := S1x512x704) ![0, o, 0] S1x128x704.size inb (ix3 u r c) 2
  refine (pay13_apply _ _ _ _).trans ?_
  refine View.ld_unit_apply_of a _ _ inb' _ _ fun d => ?_
  match d with
  | ⟨0, _⟩ => exact e1
  | ⟨1, _⟩ => exact e2

theorem fits_pay17 (a : Vec Ideal S512x704 .f32) (o : ℕ) (inb) (inb') :
    Fits (lift a) ⟨Rect.unit (s := S1x512x704) ![0, o, 0] S1x128x704.size inb, k0_pay17 (View.ld a (Rect.unit ![o, 0] S128x704.size inb'))⟩ := by
  intro (x : S1x128x704.Idx)
  show (k0_pay17 (View.ld a (Rect.unit ![o, 0] S128x704.size inb')) : Vec Ideal S1x128x704 .bf16) x = lift a ((Rect.unit (s := S1x512x704) ![0, o, 0] S1x128x704.size inb).emb x)
  obtain ⟨u, r, c, rfl⟩ : ∃ u r c, x = ix3 u r c := ⟨_, _, _, eq_ix3 x⟩
  have e1 := emb_val (s := S1x512x704) ![0, o, 0] S1x128x704.size inb (ix3 u r c) 1
  have e2 := emb_val (s := S1x512x704) ![0, o, 0] S1x128x704.size inb (ix3 u r c) 2
  refine (pay17_apply _ _ _ _).trans ?_
  refine View.ld_unit_apply_of a _ _ inb' _ _ fun d => ?_
  match d with
  | ⟨0, _⟩ => exact e1
  | ⟨1, _⟩ => exact e2

theorem fits_pay21 (a : Vec Ideal S512x704 .f32) (o : ℕ) (inb) (inb') :
    Fits (lift a) ⟨Rect.unit (s := S1x512x704) ![0, o, 0] S1x128x704.size inb, k0_pay21 (k0_pay20 (View.ld a (Rect.unit ![o, 0] S128x704.size inb')))⟩ := by
  intro (x : S1x128x704.Idx)
  show (k0_pay21 (k0_pay20 (View.ld a (Rect.unit ![o, 0] S128x704.size inb'))) : Vec Ideal S1x128x704 .bf16) x = lift a ((Rect.unit (s := S1x512x704) ![0, o, 0] S1x128x704.size inb).emb x)
  obtain ⟨u, r, c, rfl⟩ : ∃ u r c, x = ix3 u r c := ⟨_, _, _, eq_ix3 x⟩
  have e1 := emb_val (s := S1x512x704) ![0, o, 0] S1x128x704.size inb (ix3 u r c) 1
  have e2 := emb_val (s := S1x512x704) ![0, o, 0] S1x128x704.size inb (ix3 u r c) 2
  refine (pay21_apply _ _ _ _).trans ?_
  refine View.ld_unit_apply_of a _ _ inb' _ _ fun d => ?_
  match d with
  | ⟨0, _⟩ => exact e1
  | ⟨1, _⟩ => exact e2

theorem fits_pay11 (a : Vec Ideal S512x704 .f32) (o : ℕ) (inb) (inb') :
    Fits (lift a) ⟨Rect.unit (s := S1x512x704) ![0, o, 0] S1x128x704.size inb, k0_pay11 (View.ld a (Rect.unit ![o, 0] S128x704.size inb'))⟩ := by
  intro (x : S1x128x704.Idx)
  show (k0_pay11 (View.ld a (Rect.unit ![o, 0] S128x704.size inb')) : Vec Ideal S1x128x704 .bf16) x = lift a ((Rect.unit (s := S1x512x704) ![0, o, 0] S1x128x704.size inb).emb x)
  obtain ⟨u, r, c, rfl⟩ : ∃ u r c, x = ix3 u r c := ⟨_, _, _, eq_ix3 x⟩
  have e1 := emb_val (s := S1x512x704) ![0, o, 0] S1x128x704.size inb (ix3 u r c) 1
  have e2 := emb_val (s := S1x512x704) ![0, o, 0] S1x128x704.size inb (ix3 u r c) 2
  refine (pay11_apply _ _ _ _).trans ?_
  refine View.ld_unit_apply_of a _ _ inb' _ _ fun d => ?_
  match d with
  | ⟨0, _⟩ => exact e1
  | ⟨1, _⟩ => exact e2

theorem fits_pay15 (a : Vec Ideal S512x704 .f32) (o : ℕ) (inb) (inb') :
    Fits (lift a) ⟨Rect.unit (s := S1x512x704) ![0, o, 0] S1x128x704.size inb, k0_pay15 (k0_pay14 (View.ld a (Rect.unit ![o, 0] S128x704.size inb')))⟩ := by
  intro (x : S1x128x704.Idx)
  show (k0_pay15 (k0_pay14 (View.ld a (Rect.unit ![o, 0] S128x704.size inb'))) : Vec Ideal S1x128x704 .bf16) x = lift a ((Rect.unit (s := S1x512x704) ![0, o, 0] S1x128x704.size inb).emb x)
  obtain ⟨u, r, c, rfl⟩ : ∃ u r c, x = ix3 u r c := ⟨_, _, _, eq_ix3 x⟩
  have e1 := emb_val (s := S1x512x704) ![0, o, 0] S1x128x704.size inb (ix3 u r c) 1
  have e2 := emb_val (s := S1x512x704) ![0, o, 0] S1x128x704.size inb (ix3 u r c) 2
  refine (pay15_apply _ _ _ _).trans ?_
  refine View.ld_unit_apply_of a _ _ inb' _ _ fun d => ?_
  match d with
  | ⟨0, _⟩ => exact e1
  | ⟨1, _⟩ => exact e2

theorem fits_pay18 (a : Vec Ideal S512x704 .f32) (o : ℕ) (inb) (inb') :
    Fits (lift a) ⟨Rect.unit (s := S1x512x704) ![0, o, 0] S1x128x704.size inb, k0_pay18 (View.ld a (Rect.unit ![o, 0] S128x704.size inb'))⟩ := by
  intro (x : S1x128x704.Idx)
  show (k0_pay18 (View.ld a (Rect.unit ![o, 0] S128x704.size inb')) : Vec Ideal S1x128x704 .bf16) x = lift a ((Rect.unit (s := S1x512x704) ![0, o, 0] S1x128x704.size inb).emb x)
  obtain ⟨u, r, c, rfl⟩ : ∃ u r c, x = ix3 u r c := ⟨_, _, _, eq_ix3 x⟩
  have e1 := emb_val (s := S1x512x704) ![0, o, 0] S1x128x704.size inb (ix3 u r c) 1
  have e2 := emb_val (s := S1x512x704) ![0, o, 0] S1x128x704.size inb (ix3 u r c) 2
  refine (pay18_apply _ _ _ _).trans ?_
  refine View.ld_unit_apply_of a _ _ inb' _ _ fun d => ?_
  match d with
  | ⟨0, _⟩ => exact e1
  | ⟨1, _⟩ => exact e2

theorem fits_pay22 (a : Vec Ideal S512x704 .f32) (o : ℕ) (inb) (inb') :
    Fits (lift a) ⟨Rect.unit (s := S1x512x704) ![0, o, 0] S1x128x704.size inb, k0_pay22 (View.ld a (Rect.unit ![o, 0] S128x704.size inb'))⟩ := by
  intro (x : S1x128x704.Idx)
  show (k0_pay22 (View.ld a (Rect.unit ![o, 0] S128x704.size inb')) : Vec Ideal S1x128x704 .bf16) x = lift a ((Rect.unit (s := S1x512x704) ![0, o, 0] S1x128x704.size inb).emb x)
  obtain ⟨u, r, c, rfl⟩ : ∃ u r c, x = ix3 u r c := ⟨_, _, _, eq_ix3 x⟩
  have e1 := emb_val (s := S1x512x704) ![0, o, 0] S1x128x704.size inb (ix3 u r c) 1
  have e2 := emb_val (s := S1x512x704) ![0, o, 0] S1x128x704.size inb (ix3 u r c) 2
  refine (pay22_apply _ _ _ _).trans ?_
  refine View.ld_unit_apply_of a _ _ inb' _ _ fun d => ?_
  match d with
  | ⟨0, _⟩ => exact e1
  | ⟨1, _⟩ => exact e2

theorem fits_pay12 (a b : Vec Ideal S512x704 .f32) (o : ℕ) (inb) (inb') :
    Fits (gate a b) ⟨Rect.unit (s := S512x704) ![o, 0] S128x704.size inb,
      k0_pay12 (View.ld a (Rect.unit ![o, 0] S128x704.size inb')) (View.ld b (Rect.unit ![o, 0] S128x704.size inb'))⟩ := by
  intro (x : S128x704.Idx)
  show k0_pay12 (F := Ideal) _ _ x = gate a b ((Rect.unit (s := S512x704) ![o, 0] S128x704.size inb).emb x)
  obtain ⟨r, c, rfl⟩ : ∃ r c, x = ix2 r c := ⟨_, _, eq_ix2 x⟩
  exact pay12_apply _ _ _ _

theorem fits_pay16 (a b : Vec Ideal S512x704 .f32) (o : ℕ) (inb) (inb') :
    Fits (gate a b) ⟨Rect.unit (s := S512x704) ![o, 0] S128x704.size inb,
      k0_pay16 (View.ld a (Rect.unit ![o, 0] S128x704.size inb')) (View.ld b (Rect.unit ![o, 0] S128x704.size inb'))⟩ := by
  intro (x : S128x704.Idx)
  show k0_pay16 (F := Ideal) _ _ x = gate a b ((Rect.unit (s := S512x704) ![o, 0] S128x704.size inb).emb x)
  obtain ⟨r, c, rfl⟩ : ∃ r c, x = ix2 r c := ⟨_, _, eq_ix2 x⟩
  exact pay16_apply _ _ _ _

theorem fits_pay19 (a b : Vec Ideal S512x704 .f32) (o : ℕ) (inb) (inb') :
    Fits (gate a b) ⟨Rect.unit (s := S512x704) ![o, 0] S128x704.size inb,
      k0_pay19 (View.ld a (Rect.unit ![o, 0] S128x704.size inb')) (View.ld b (Rect.unit ![o, 0] S128x704.size inb'))⟩ := by
  intro (x : S128x704.Idx)
  show k0_pay19 (F := Ideal) _ _ x = gate a b ((Rect.unit (s := S512x704) ![o, 0] S128x704.size inb).emb x)
  obtain ⟨r, c, rfl⟩ : ∃ r c, x = ix2 r c := ⟨_, _, eq_ix2 x⟩
  exact pay19_apply _ _ _ _

theorem fits_pay23 (a b : Vec Ideal S512x704 .f32) (o : ℕ) (inb) (inb') :
    Fits (gate a b) ⟨Rect.unit (s := S512x704) ![o, 0] S128x704.size inb,
      k0_pay23 (View.ld a (Rect.unit ![o, 0] S128x704.size inb')) (View.ld b (Rect.unit ![o, 0] S128x704.size inb'))⟩ := by
  intro (x : S128x704.Idx)
  show k0_pay23 (F := Ideal) _ _ x = gate a b ((Rect.unit (s := S512x704) ![o, 0] S128x704.size inb).emb x)
  obtain ⟨r, c, rfl⟩ : ∃ r c, x = ix2 r c := ⟨_, _, eq_ix2 x⟩
  exact pay23_apply _ _ _ _

theorem fits_pay24 (s : Vec Ideal S512x2048 .f32) (q : Vec Ideal S512x704 .bf16) (w : Vec Ideal S1x704x2048 .bf16) (o : ℕ) (inb) (inb') :
    Fits (down s q w) ⟨Rect.unit (s := S512x2048) ![o, 0] S256x2048.size inb,
      k0_pay24 (View.ld s (Rect.unit ![o, 0] S256x2048.size inb)) (View.ld q (Rect.unit ![o, 0] S256x704.size inb')) w⟩ := by
  intro (x : S256x2048.Idx)
  show k0_pay24 (F := Ideal) _ _ w x = down s q w ((Rect.unit (s := S512x2048) ![o, 0] S256x2048.size inb).emb x)
  obtain ⟨a, b, rfl⟩ : ∃ a b, x = ix2 a b := ⟨_, _, eq_ix2 x⟩
  have e0 := emb_val (s := S512x2048) ![o, 0] S256x2048.size inb (ix2 a b) 0
  have e1 := emb_val (s := S512x2048) ![o, 0] S256x2048.size inb (ix2 a b) 1
  refine (pay24_apply _ _ _ _ _).trans ?_
  unfold down
  refine congrArg₂ (fun p q : EReal => p + q) rfl (Finset.sum_congr rfl fun k _ => ?_)
  refine congrArg₂ (fun p q : EReal => p * q) (View.ld_unit_apply_of q _ _ inb' _ _ fun d => ?_) (congrArg w (funext fun d => Fin.ext ?_))
  · match d with
    | ⟨0, _⟩ => exact e0
    | ⟨1, _⟩ => exact (Nat.zero_add _).symm
  · match d with
    | ⟨0, _⟩ => rfl
    | ⟨1, _⟩ => rfl
    | ⟨2, _⟩ => exact ((e1.trans (Nat.zero_add _)).symm : b.val = _)

theorem fits_pay25 (s : Vec Ideal S512x2048 .f32) (q : Vec Ideal S512x704 .bf16) (w : Vec Ideal S1x704x2048 .bf16) (o : ℕ) (inb) (inb') :
    Fits (down s q w) ⟨Rect.unit (s := S512x2048) ![o, 0] S256x2048.size inb,
      k0_pay25 (View.ld s (Rect.unit ![o, 0] S256x2048.size inb)) (View.ld q (Rect.unit ![o, 0] S256x704.size inb')) w⟩ := by
  intro (x : S256x2048.Idx)
  show k0_pay25 (F := Ideal) _ _ w x = down s q w ((Rect.unit (s := S512x2048) ![o, 0] S256x2048.size inb).emb x)
  obtain ⟨a, b, rfl⟩ : ∃ a b, x = ix2 a b := ⟨_, _, eq_ix2 x⟩
  have e0 := emb_val (s := S512x2048) ![o, 0] S256x2048.size inb (ix2 a b) 0
  have e1 := emb_val (s := S512x2048) ![o, 0] S256x2048.size inb (ix2 a b) 1
  refine (pay25_apply _ _ _ _ _).trans ?_
  unfold down
  refine congrArg₂ (fun p q : EReal => p + q) rfl (Finset.sum_congr rfl fun k _ => ?_)
  refine congrArg₂ (fun p q : EReal => p * q) (View.ld_unit_apply_of q _ _ inb' _ _ fun d => ?_) (congrArg w (funext fun d => Fin.ext ?_))
  · match d with
    | ⟨0, _⟩ => exact e0
    | ⟨1, _⟩ => exact (Nat.zero_add _).symm
  · match d with
    | ⟨0, _⟩ => rfl
    | ⟨1, _⟩ => rfl
    | ⟨2, _⟩ => exact ((e1.trans (Nat.zero_add _)).symm : b.val = _)

theorem fits_pay3 (x : Vec Ideal S512x2048 .f32) (p : Vec Ideal S1x3x2048 .f32) (g : Vec Ideal S1x2048 .f32) (off : Fin 2 → ℕ) (h1 : off 1 = 0) (inb) (inb0) (inb1) :
    Fits (hd x p g) ⟨Rect.unit (s := S512x2048) off S128x2048.size inb,
      k0_pay3 (View.ld x (Rect.unit off S128x2048.size inb)) g (View.ld p (Rect.unit ![0, 0, 0] S1x1x2048.size inb0)) (View.ld p (Rect.unit ![0, 1, 0] S1x1x2048.size inb1))⟩ := by
  intro (y : S128x2048.Idx)
  show k0_pay3 (F := Ideal) _ g _ _ y = hd x p g ((Rect.unit (s := S512x2048) off S128x2048.size inb).emb y)
  obtain ⟨a, b, rfl⟩ : ∃ a b, y = ix2 a b := ⟨_, _, eq_ix2 y⟩
  have e0 := emb_val (s := S512x2048) off S128x2048.size inb (ix2 a b) 0
  have e1 := (emb_val (s := S512x2048) off S128x2048.size inb (ix2 a b) 1).trans ((congrArg (· + b.val) h1).trans (Nat.zero_add _))
  have ex (k : Fin 2048) : View.ld x (Rect.unit (s := S512x2048) off S128x2048.size inb) (ix2 a k)
      = x (ix2 ((Rect.unit (s := S512x2048) off S128x2048.size inb).emb (ix2 a b) 0) k) :=
    View.ld_unit_apply_of x off _ inb _ _ fun d => match d with
      | ⟨0, _⟩ => e0
      | ⟨1, _⟩ => ((congrArg (· + k.val) h1).trans (Nat.zero_add _)).symm
  have ep0 : View.ld p (Rect.unit (s := S1x3x2048) ![0, 0, 0] S1x1x2048.size inb0) (ix3 0 0 b)
      = p (ix3 0 0 ((Rect.unit (s := S512x2048) off S128x2048.size inb).emb (ix2 a b) 1)) :=
    View.ld_unit_apply_of p _ _ inb0 _ _ fun d => match d with
      | ⟨0, _⟩ => rfl
      | ⟨1, _⟩ => rfl
      | ⟨2, _⟩ => e1.trans (Nat.zero_add _).symm
  have ep1 : View.ld p (Rect.unit (s := S1x3x2048) ![0, 1, 0] S1x1x2048.size inb1) (ix3 0 0 b)
      = p (ix3 0 1 ((Rect.unit (s := S512x2048) off S128x2048.size inb).emb (ix2 a b) 1)) :=
    View.ld_unit_apply_of p _ _ inb1 _ _ fun d => match d with
      | ⟨0, _⟩ => rfl
      | ⟨1, _⟩ => rfl
      | ⟨2, _⟩ => e1.trans (Nat.zero_add _).symm
  have eg : g (ix2 0 b) = g (ix2 0 ((Rect.unit (s := S512x2048) off S128x2048.size inb).emb (ix2 a b) 1)) :=
    congrArg g (funext fun d => Fin.ext (match d with
      | ⟨0, _⟩ => rfl
      | ⟨1, _⟩ => e1.symm))
  exact (pay3_apply _ _ _ _ _ _).trans (nrm_congr (funext ex) rfl eg ep0 ep1)

theorem fits_pay4 (x : Vec Ideal S512x2048 .f32) (p : Vec Ideal S1x3x2048 .f32) (g : Vec Ideal S1x2048 .f32) (off : Fin 2 → ℕ) (h1 : off 1 = 0) (inb) (inb0) (inb1) :
    Fits (hd x p g) ⟨Rect.unit (s := S512x2048) off S128x2048.size inb,
      k0_pay4 (View.ld x (Rect.unit off S128x2048.size inb)) g (View.ld p (Rect.unit ![0, 0, 0] S1x1x2048.size inb0)) (View.ld p (Rect.unit ![0, 1, 0] S1x1x2048.size inb1))⟩ := by
  intro (y : S128x2048.Idx)
  show k0_pay4 (F := Ideal) _ g _ _ y = hd x p g ((Rect.unit (s := S512x2048) off S128x2048.size inb).emb y)
  obtain ⟨a, b, rfl⟩ : ∃ a b, y = ix2 a b := ⟨_, _, eq_ix2 y⟩
  have e0 := emb_val (s := S512x2048) off S128x2048.size inb (ix2 a b) 0
  have e1 := (emb_val (s := S512x2048) off S128x2048.size inb (ix2 a b) 1).trans ((congrArg (· + b.val) h1).trans (Nat.zero_add _))
  have ex (k : Fin 2048) : View.ld x (Rect.unit (s := S512x2048) off S128x2048.size inb) (ix2 a k)
      = x (ix2 ((Rect.unit (s := S512x2048) off S128x2048.size inb).emb (ix2 a b) 0) k) :=
    View.ld_unit_apply_of x off _ inb _ _ fun d => match d with
      | ⟨0, _⟩ => e0
      | ⟨1, _⟩ => ((congrArg (· + k.val) h1).trans (Nat.zero_add _)).symm
  have ep0 : View.ld p (Rect.unit (s := S1x3x2048) ![0, 0, 0] S1x1x2048.size inb0) (ix3 0 0 b)
      = p (ix3 0 0 ((Rect.unit (s := S512x2048) off S128x2048.size inb).emb (ix2 a b) 1)) :=
    View.ld_unit_apply_of p _ _ inb0 _ _ fun d => match d with
      | ⟨0, _⟩ => rfl
      | ⟨1, _⟩ => rfl
      | ⟨2, _⟩ => e1.trans (Nat.zero_add _).symm
  have ep1 : View.ld p (Rect.unit (s := S1x3x2048) ![0, 1, 0] S1x1x2048.size inb1) (ix3 0 0 b)
      = p (ix3 0 1 ((Rect.unit (s := S512x2048) off S128x2048.size inb).emb (ix2 a b) 1)) :=
    View.ld_unit_apply_of p _ _ inb1 _ _ fun d => match d with
      | ⟨0, _⟩ => rfl
      | ⟨1, _⟩ => rfl
      | ⟨2, _⟩ => e1.trans (Nat.zero_add _).symm
  have eg : g (ix2 0 b) = g (ix2 0 ((Rect.unit (s := S512x2048) off S128x2048.size inb).emb (ix2 a b) 1)) :=
    congrArg g (funext fun d => Fin.ext (match d with
      | ⟨0, _⟩ => rfl
      | ⟨1, _⟩ => e1.symm))
  exact (pay4_apply _ _ _ _ _ _).trans (nrm_congr (funext ex) rfl eg ep0 ep1)

theorem fits_pay1 (s : Vec Ideal S512x2048 .f32) (off : Fin 2 → ℕ) (inb) :
    Fits (outY s) ⟨Rect.unit (s := S512x2048) off S128x2048.size inb, k0_pay1 (View.ld s (Rect.unit off S128x2048.size inb))⟩ := by
  intro (y : S128x2048.Idx)
  show k0_pay1 (F := Ideal) _ y = outY s ((Rect.unit (s := S512x2048) off S128x2048.size inb).emb y)
  obtain ⟨a, b, rfl⟩ : ∃ a b, y = ix2 a b := ⟨_, _, eq_ix2 y⟩
  exact pay1_apply _ _ _

theorem fits_pay2 (x : Vec Ideal S512x2048 .f32) (p : Vec Ideal S1x3x2048 .f32) (s : Vec Ideal S512x2048 .f32) (off : Fin 2 → ℕ) (h1 : off 1 = 0) (inb) (inb2) :
    Fits (outX x p s) ⟨Rect.unit (s := S512x2048) off S128x2048.size inb,
      k0_pay2 (View.ld s (Rect.unit off S128x2048.size inb)) (View.ld p (Rect.unit ![0, 2, 0] S1x1x2048.size inb2)) (View.ld x (Rect.unit off S128x2048.size inb))⟩ := by
  intro (y : S128x2048.Idx)
  show k0_pay2 (F := Ideal) _ _ _ y = outX x p s ((Rect.unit (s := S512x2048) off S128x2048.size inb).emb y)
  obtain ⟨a, b, rfl⟩ : ∃ a b, y = ix2 a b := ⟨_, _, eq_ix2 y⟩
  have e1 := (emb_val (s := S512x2048) off S128x2048.size inb (ix2 a b) 1).trans ((congrArg (· + b.val) h1).trans (Nat.zero_add _))
  have ep : View.ld p (Rect.unit (s := S1x3x2048) ![0, 2, 0] S1x1x2048.size inb2) (ix3 0 0 b)
      = p (ix3 0 2 ((Rect.unit (s := S512x2048) off S128x2048.size inb).emb (ix2 a b) 1)) :=
    View.ld_unit_apply_of p _ _ inb2 _ _ fun d => match d with
      | ⟨0, _⟩ => rfl
      | ⟨1, _⟩ => rfl
      | ⟨2, _⟩ => e1.trans (Nat.zero_add _).symm
  exact (pay2_apply _ _ _ _ _).trans (congrArg (fun q : EReal => x ((Rect.unit (s := S512x2048) off S128x2048.size inb).emb (ix2 a b)) + Ideal.ofBits FTy.f32 1056964608#32 * q
    * s ((Rect.unit (s := S512x2048) off S128x2048.size inb).emb (ix2 a b))) ep)

theorem pay5_apply (y : S512x2048.Idx) : (k0_pay5 (F := Ideal) y : EReal) = 0 := by
  obtain ⟨a, b, rfl⟩ : ∃ a b, y = ix2 a b := ⟨_, _, eq_ix2 y⟩
  unfold k0_pay5
  pointwise

end Cert.Kernel6Ideal.Ffn

end
-- ==== Proof.FfnStraight.lean ====
/-
  The straight part of the feed-forward kernel's body over the ideal numbers: the two hidden products, the gated rows and
  the sum, as lists of stored pieces, and what these lists hold.
-/
module

public import proofs.«01_k».proof.Proof.FfnPieces

@[expose] public section

set_option maxRecDepth 16384

noncomputable section

namespace Cert.Kernel6Ideal.Ffn

open Idealize.ShloMosaic Idealize.ShloMosaic.TcCoe Idealize.ShloMosaic.Tactic Idealize.SL.Sem
open Cert.Kernel6Ideal Cert.Kernel6Ideal.Gen

variable (a13 : Memref sig .tc .vmem S512x2048 .bf16) (a15 : Memref sig .tc .vmem S512x704 .f32)
  (a16 : Memref sig .tc .vmem S512x704 .f32) (a17 : Memref sig .tc .vmem S512x704 .bf16)
  (fh : a13.view.ty.Contents (Elt Ideal)) (w w' : Vec Ideal S1x704x2048 .bf16)

/-- The stored rows of hidden product 15, last first. -/
def L15 : List (View.Piece (Elt Ideal) S512x704 .f32) :=
  [⟨Rect.unit (s := S512x704) ![256, 0] S256x704.size (by decide), k0_pay8 (a13.view.readAt (Elt Ideal) (Rect.unit (s := S512x2048) ![256, 0] S256x2048.size (by decide)).toLoadRect fh) w⟩,
   ⟨Rect.unit (s := S512x704) ![0, 0] S256x704.size (by decide), k0_pay6 (a13.view.readAt (Elt Ideal) (Rect.unit (s := S512x2048) ![0, 0] S256x2048.size (by decide)).toLoadRect fh) w⟩]

theorem read_L15 (v : View sig .tc .vmem S512x704 .f32) (f : v.ty.Contents (Elt Ideal)) :
    v.read (Elt Ideal) (v.writes (Elt Ideal) f (L15 a13 fh w)) = up (a13.view.read (Elt Ideal) fh) w :=
  read_of_fits v f _ _
    (List.forall_mem_cons.2 ⟨fits_pay8 _ w 256 _ _, List.forall_mem_cons.2 ⟨fits_pay6 _ w 0 _ _, List.forall_mem_nil _⟩⟩)
    (View.cover_of_tiledL (L15 a13 fh w) S256x704.size (by sl_kernel_rfl))

/-- The 15 rows, read back. -/
abbrev rows15 (o : ℕ) (h : ∀ a : Fin 2, (![o, 0] : Fin 2 → ℕ) a + S128x704.size a ≤ S512x704.size a) : Vec Ideal S128x704 .f32 :=
  a15.view.readCov (L15 a13 fh w) (Rect.unit (s := S512x704) ![o, 0] S128x704.size h).toLoadRect

theorem rows15_eq (o : ℕ) (h) : rows15 a13 a15 fh w o h = View.ld (up (a13.view.read (Elt Ideal) fh) w) (Rect.unit (s := S512x704) ![o, 0] S128x704.size h) :=
  congrArg (fun X => View.ld X (Rect.unit (s := S512x704) ![o, 0] S128x704.size h)) (read_L15 a13 fh w a15.view _)

/-- The stored rows of hidden product 16, last first. -/
def L16 : List (View.Piece (Elt Ideal) S512x704 .f32) :=
  [⟨Rect.unit (s := S512x704) ![256, 0] S256x704.size (by decide), k0_pay9 (a13.view.readAt (Elt Ideal) (Rect.unit (s := S512x2048) ![256, 0] S256x2048.size (by decide)).toLoadRect fh) w⟩,
   ⟨Rect.unit (s := S512x704) ![0, 0] S256x704.size (by decide), k0_pay7 (a13.view.readAt (Elt Ideal) (Rect.unit (s := S512x2048) ![0, 0] S256x2048.size (by decide)).toLoadRect fh) w⟩]

theorem read_L16 (v : View sig .tc .vmem S512x704 .f32) (f : v.ty.Contents (Elt Ideal)) :
    v.read (Elt Ideal) (v.writes (Elt Ideal) f (L16 a13 fh w)) = up (a13.view.read (Elt Ideal) fh) w :=
  read_of_fits v f _ _
    (List.forall_mem_cons.2 ⟨fits_pay9 _ w 256 _ _, List.forall_mem_cons.2 ⟨fits_pay7 _ w 0 _ _, List.forall_mem_nil _⟩⟩)
    (View.cover_of_tiledL (L16 a13 fh w) S256x704.size (by sl_kernel_rfl))

/-- The 16 rows, read back. -/
abbrev rows16 (o : ℕ) (h : ∀ a : Fin 2, (![o, 0] : Fin 2 → ℕ) a + S128x704.size a ≤ S512x704.size a) : Vec Ideal S128x704 .f32 :=
  a16.view.readCov (L16 a13 fh w) (Rect.unit (s := S512x704) ![o, 0] S128x704.size h).toLoadRect

theorem rows16_eq (o : ℕ) (h) : rows16 a13 a16 fh w o h = View.ld (up (a13.view.read (Elt Ideal) fh) w) (Rect.unit (s := S512x704) ![o, 0] S128x704.size h) :=
  congrArg (fun X => View.ld X (Rect.unit (s := S512x704) ![o, 0] S128x704.size h)) (read_L16 a13 fh w a16.view _)

/-- The stored blocks of saved array 11, last first. -/
def L11 : List (View.Piece (Elt Ideal) S1x512x704 .bf16) :=
  [⟨Rect.unit (s := S1x512x704) ![0, 384, 0] S1x128x704.size (by decide), k0_pay21 (k0_pay20 (rows15 a13 a15 fh w 384 (by decide)))⟩,
   ⟨Rect.unit (s := S1x512x704) ![0, 256, 0] S1x128x704.size (by decide), k0_pay17 (rows15 a13 a15 fh w 256 (by decide))⟩,
   ⟨Rect.unit (s := S1x512x704) ![0, 128, 0] S1x128x704.size (by decide), k0_pay13 (rows15 a13 a15 fh w 128 (by decide))⟩,
   ⟨Rect.unit (s := S1x512x704) ![0, 0, 0] S1x128x704.size (by decide), k0_pay10 (rows15 a13 a15 fh w 0 (by decide))⟩]

theorem fits_L11 : ∀ p ∈ L11 a13 a15 fh w, Fits (lift (up (a13.view.read (Elt Ideal) fh) w)) p := by
  unfold L11
  simp only [rows15_eq]
  exact List.forall_mem_cons.2 ⟨fits_pay21 _ 384 _ _, List.forall_mem_cons.2 ⟨fits_pay17 _ 256 _ _, List.forall_mem_cons.2 ⟨fits_pay13 _ 128 _ _, List.forall_mem_cons.2 ⟨fits_pay10 _ 0 _ _, List.forall_mem_nil _⟩⟩⟩⟩

/-- The stored blocks of saved array 12, last first. -/
def L12 : List (View.Piece (Elt Ideal) S1x512x704 .bf16) :=
  [⟨Rect.unit (s := S1x512x704) ![0, 384, 0] S1x128x704.size (by decide), k0_pay22 (rows16 a13 a16 fh w 384 (by decide))⟩,
   ⟨Rect.unit (s := S1x512x704) ![0, 256, 0] S1x128x704.size (by decide), k0_pay18 (rows16 a13 a16 fh w 256 (by decide))⟩,
   ⟨Rect.unit (s := S1x512x704) ![0, 128, 0] S1x128x704.size (by decide), k0_pay15 (k0_pay14 (rows16 a13 a16 fh w 128 (by decide)))⟩,
   ⟨Rect.unit (s := S1x512x704) ![0, 0, 0] S1x128x704.size (by decide), k0_pay11 (rows16 a13 a16 fh w 0 (by decide))⟩]

theorem fits_L12 : ∀ p ∈ L12 a13 a16 fh w, Fits (lift (up (a13.view.read (Elt Ideal) fh) w)) p := by
  unfold L12
  simp only [rows16_eq]
  exact List.forall_mem_cons.2 ⟨fits_pay22 _ 384 _ _, List.forall_mem_cons.2 ⟨fits_pay18 _ 256 _ _, List.forall_mem_cons.2 ⟨fits_pay15 _ 128 _ _, List.forall_mem_cons.2 ⟨fits_pay11 _ 0 _ _, List.forall_mem_nil _⟩⟩⟩⟩

/-- The stored gated rows, last first. -/
def L17 : List (View.Piece (Elt Ideal) S512x704 .bf16) :=
  [⟨Rect.unit (s := S512x704) ![384, 0] S128x704.size (by decide), k0_pay23 (rows15 a13 a15 fh w 384 (by decide)) (rows16 a13 a16 fh w' 384 (by decide))⟩,
   ⟨Rect.unit (s := S512x704) ![256, 0] S128x704.size (by decide), k0_pay19 (rows15 a13 a15 fh w 256 (by decide)) (rows16 a13 a16 fh w' 256 (by decide))⟩,
   ⟨Rect.unit (s := S512x704) ![128, 0] S128x704.size (by decide), k0_pay16 (rows15 a13 a15 fh w 128 (by decide)) (rows16 a13 a16 fh w' 128 (by decide))⟩,
   ⟨Rect.unit (s := S512x704) ![0, 0] S128x704.size (by decide), k0_pay12 (rows15 a13 a15 fh w 0 (by decide)) (rows16 a13 a16 fh w' 0 (by decide))⟩]

/-- The gated rows of a tile. -/
abbrev gated : Vec Ideal S512x704 .bf16 := gate (up (a13.view.read (Elt Ideal) fh) w) (up (a13.view.read (Elt Ideal) fh) w')

theorem read_L17 (v : View sig .tc .vmem S512x704 .bf16) (f : v.ty.Contents (Elt Ideal)) :
    v.read (Elt Ideal) (v.writes (Elt Ideal) f (L17 a13 a15 a16 fh w w')) = gated a13 fh w w' := by
  refine read_of_fits v f _ _ ?_ (View.cover_of_tiledL (L17 a13 a15 a16 fh w w') S128x704.size (by sl_kernel_rfl))
  unfold L17
  simp only [rows15_eq, rows16_eq]
  exact List.forall_mem_cons.2 ⟨fits_pay23 _ _ 384 _ _, List.forall_mem_cons.2 ⟨fits_pay19 _ _ 256 _ _, List.forall_mem_cons.2 ⟨fits_pay16 _ _ 128 _ _, List.forall_mem_cons.2 ⟨fits_pay12 _ _ 0 _ _, List.forall_mem_nil _⟩⟩⟩⟩

/-- The gated rows, read back. -/
abbrev rows17 (o : ℕ) (h : ∀ a : Fin 2, (![o, 0] : Fin 2 → ℕ) a + S256x704.size a ≤ S512x704.size a) : Vec Ideal S256x704 .bf16 :=
  a17.view.readCov (L17 a13 a15 a16 fh w w') (Rect.unit (s := S512x704) ![o, 0] S256x704.size h).toLoadRect

theorem rows17_eq (o : ℕ) (h) : rows17 a13 a15 a16 a17 fh w w' o h = View.ld (gated a13 fh w w') (Rect.unit (s := S512x704) ![o, 0] S256x704.size h) :=
  congrArg (fun X => View.ld X (Rect.unit (s := S512x704) ![o, 0] S256x704.size h)) (read_L17 a13 a15 a16 fh w w' a17.view _)

/-- The stored rows of the sum, last first: `r0`, `r1` are the rows that it was read as. -/
def L14 (r0 r1 : Vec Ideal S256x2048 .f32) (u : Vec Ideal S1x704x2048 .bf16) : List (View.Piece (Elt Ideal) S512x2048 .f32) :=
  [⟨Rect.unit (s := S512x2048) ![256, 0] S256x2048.size (by decide), k0_pay25 r1 (rows17 a13 a15 a16 a17 fh w w' 256 (by decide)) u⟩,
   ⟨Rect.unit (s := S512x2048) ![0, 0] S256x2048.size (by decide), k0_pay24 r0 (rows17 a13 a15 a16 a17 fh w w' 0 (by decide)) u⟩]

theorem read_L14 (s : Vec Ideal S512x2048 .f32) (r0 r1 : Vec Ideal S256x2048 .f32) (u : Vec Ideal S1x704x2048 .bf16)
    (h0 : r0 = View.ld s (Rect.unit (s := S512x2048) ![0, 0] S256x2048.size (by decide)))
    (h1 : r1 = View.ld s (Rect.unit (s := S512x2048) ![256, 0] S256x2048.size (by decide)))
    (v : View sig .tc .vmem S512x2048 .f32) (f : v.ty.Contents (Elt Ideal)) :
    v.read (Elt Ideal) (v.writes (Elt Ideal) f (L14 a13 a15 a16 a17 fh w w' r0 r1 u)) = down s (gated a13 fh w w') u := by
  refine read_of_fits v f _ _ ?_ (View.cover_of_tiledL (L14 a13 a15 a16 a17 fh w w' r0 r1 u) S256x2048.size (by sl_kernel_rfl))
  unfold L14
  simp only [rows17_eq, h0, h1]
  exact List.forall_mem_cons.2 ⟨fits_pay25 s _ u 256 _ _, List.forall_mem_cons.2 ⟨fits_pay24 s _ u 0 _ _, List.forall_mem_nil _⟩⟩

end Cert.Kernel6Ideal.Ffn

end
-- ==== Proof.FfnBody.lean ====
/-
  The feed-forward kernel's body over the ideal numbers: what its two loops and its three cases leave in each buffer.
-/
module

public import proofs.«01_k».proof.Proof.FfnStraight

@[expose] public section

set_option maxRecDepth 16384

noncomputable section

namespace Cert.Kernel6Ideal.Ffn

open Idealize.ShloMosaic Idealize.ShloMosaic.TcCoe Idealize.ShloMosaic.Tactic Idealize.SL.Sem
open Cert.Kernel6Ideal Cert.Kernel6Ideal.Gen

variable (c : Dev nD) (i : grid0.Coords)
  (a2 : Memref sig .tc .vmem S512x2048 .f32) (u2 : a2.IsWhole)
  (a3 : Memref sig .tc .vmem S1x3x2048 .f32) (u3 : a3.IsWhole)
  (a4 : Memref sig .tc .vmem S1x2048 .f32) (u4 : a4.IsWhole)
  (a5 : Memref sig .tc .vmem S1x704x2048 .bf16) (u5 : a5.IsWhole)
  (a6 : Memref sig .tc .vmem S1x704x2048 .bf16) (u6 : a6.IsWhole)
  (a7 : Memref sig .tc .vmem S1x704x2048 .bf16) (u7 : a7.IsWhole)
  (a8 : Memref sig .tc .vmem S512x2048 .f32) (u8 : a8.IsWhole)
  (a9 : Memref sig .tc .vmem S512x2048 .bf16) (u9 : a9.IsWhole)
  (a10 : Memref sig .tc .vmem S512x2048 .bf16) (u10 : a10.IsWhole)
  (a11 : Memref sig .tc .vmem S1x512x704 .bf16) (u11 : a11.IsWhole)
  (a12 : Memref sig .tc .vmem S1x512x704 .bf16) (u12 : a12.IsWhole)
  (a13 : Memref sig .tc .vmem S512x2048 .bf16) (u13 : a13.IsWhole)
  (a14 : Memref sig .tc .vmem S512x2048 .f32) (u14 : a14.IsWhole)
  (a15 : Memref sig .tc .vmem S512x704 .f32) (u15 : a15.IsWhole)
  (a16 : Memref sig .tc .vmem S512x704 .f32) (u16 : a16.IsWhole)
  (a17 : Memref sig .tc .vmem S512x704 .bf16) (u17 : a17.IsWhole)

/-- What a load of the whole block finds where the block holds `x`. -/
abbrev wh (a : Memref sig .tc .vmem S1x704x2048 .bf16) (ha : a.IsWhole) (x : Vec Ideal S1x704x2048 .bf16) : Vec Ideal S1x704x2048 .bf16 :=
  a.view.readAt (Elt Ideal) (Rect.unit (s := S1x704x2048) ![0, 0, 0] S1x704x2048.size (by decide)).toLoadRect (ha.unread x)

theorem load_whole (a : Memref sig .tc .vmem S1x704x2048 .bf16) (ha : a.IsWhole) (x : Vec Ideal S1x704x2048 .bf16) : wh a ha x = x :=
  (View.ld_unit_zero (by decide) _ _).trans (ha.read_unread x)

section loop1
variable (h : k0_cond1 i = 1#1) (X2 : BufTy.Contents (Elt Ideal) a2.view.ty) (X3 : BufTy.Contents (Elt Ideal) a3.view.ty)
  (X4 : BufTy.Contents (Elt Ideal) a4.view.ty)

theorem fits_trip1 (k : Fin k0_t1_loop.trips) :
    (∀ p ∈ (tripL_k0_t1 (F := Ideal) Variants.none c none i a2 u2 a3 u3 a4 u4 a5 u5 a6 u6 a7 u7 a8 u8 a9 u9 a10 u10 a11 u11 a12 u12 a13 u13 a14 u14 a15 u15 a16 u16 a17 u17 h X2 X3 X4 k).1, Fits (hd (a2.view.read (Elt Ideal) X2) (a3.view.read (Elt Ideal) X3) (a4.view.read (Elt Ideal) X4)) p)
    ∧ ∀ p ∈ (tripL_k0_t1 (F := Ideal) Variants.none c none i a2 u2 a3 u3 a4 u4 a5 u5 a6 u6 a7 u7 a8 u8 a9 u9 a10 u10 a11 u11 a12 u12 a13 u13 a14 u14 a15 u15 a16 u16 a17 u17 h X2 X3 X4 k).2, Fits (hd (a2.view.read (Elt Ideal) X2) (a3.view.read (Elt Ideal) X3) (a4.view.read (Elt Ideal) X4)) p := by
  have e4 : a4.view.readAt (Elt Ideal) (Rect.unit (s := S1x2048) ![0, 0] S1x2048.size (by decide)).toLoadRect X4 = a4.view.read (Elt Ideal) X4 :=
    View.ld_unit_zero (by decide) _ _
  have o1 : k0_off1 k 1 = 0 := rfl
  unfold tripL_k0_t1 trip_k0_t1
  constructor
  · refine List.forall_mem_cons.2 ⟨?_, List.forall_mem_nil _⟩
    have := fits_pay3 (a2.view.read (Elt Ideal) X2) (a3.view.read (Elt Ideal) X3) (a4.view.read (Elt Ideal) X4) (k0_off1 k) o1 (k0_off1_inb i k h) (by decide) (by decide)
    rw [← e4] at this ⊢
    exact this
  · refine List.forall_mem_cons.2 ⟨?_, List.forall_mem_nil _⟩
    have := fits_pay4 (a2.view.read (Elt Ideal) X2) (a3.view.read (Elt Ideal) X3) (a4.view.read (Elt Ideal) X4) (k0_off1 k) o1 (k0_off1_inb i k h) (by decide) (by decide)
    rw [← e4] at this ⊢
    exact this

theorem fits_loop1 : ∀ n, n ≤ k0_t1_loop.trips →
    (∀ p ∈ (pb_k0_t1 (F := Ideal) Variants.none c none i a2 u2 a3 u3 a4 u4 a5 u5 a6 u6 a7 u7 a8 u8 a9 u9 a10 u10 a11 u11 a12 u12 a13 u13 a14 u14 a15 u15 a16 u16 a17 u17 h X2 X3 X4 n).1, Fits (hd (a2.view.read (Elt Ideal) X2) (a3.view.read (Elt Ideal) X3) (a4.view.read (Elt Ideal) X4)) p)
    ∧ ∀ p ∈ (pb_k0_t1 (F := Ideal) Variants.none c none i a2 u2 a3 u3 a4 u4 a5 u5 a6 u6 a7 u7 a8 u8 a9 u9 a10 u10 a11 u11 a12 u12 a13 u13 a14 u14 a15 u15 a16 u16 a17 u17 h X2 X3 X4 n).2, Fits (hd (a2.view.read (Elt Ideal) X2) (a3.view.read (Elt Ideal) X3) (a4.view.read (Elt Ideal) X4)) p
  | 0, _ => ⟨List.forall_mem_nil _, List.forall_mem_nil _⟩
  | n + 1, hn => by
    have e := pb_k0_t1_succ (F := Ideal) Variants.none c none i a2 u2 a3 u3 a4 u4 a5 u5 a6 u6 a7 u7 a8 u8 a9 u9 a10 u10 a11 u11 a12 u12 a13 u13 a14 u14 a15 u15 a16 u16 a17 u17 h X2 X3 X4 ⟨n, hn⟩
    have t := fits_trip1 c i a2 u2 a3 u3 a4 u4 a5 u5 a6 u6 a7 u7 a8 u8 a9 u9 a10 u10 a11 u11 a12 u12 a13 u13 a14 u14 a15 u15 a16 u16 a17 u17 h X2 X3 X4 ⟨n, hn⟩
    have r := fits_loop1 n (Nat.le_of_succ_le hn)
    rw [show pb_k0_t1 (F := Ideal) Variants.none c none i a2 u2 a3 u3 a4 u4 a5 u5 a6 u6 a7 u7 a8 u8 a9 u9 a10 u10 a11 u11 a12 u12 a13 u13 a14 u14 a15 u15 a16 u16 a17 u17 h X2 X3 X4 (n + 1) = _ from e]
    exact ⟨List.forall_mem_append.2 ⟨t.1, r.1⟩, List.forall_mem_append.2 ⟨t.2, r.2⟩⟩

end loop1

section loop2
variable (h : k0_cond2 i = 1#1) (X2 : BufTy.Contents (Elt Ideal) a2.view.ty) (X3 : BufTy.Contents (Elt Ideal) a3.view.ty)
  (X14 : BufTy.Contents (Elt Ideal) a14.view.ty)

theorem fits_trip2 (k : Fin k0_t2_loop.trips) :
    (∀ p ∈ (tripL_k0_t2 (F := Ideal) Variants.none c none i a2 u2 a3 u3 a4 u4 a5 u5 a6 u6 a7 u7 a8 u8 a9 u9 a10 u10 a11 u11 a12 u12 a13 u13 a14 u14 a15 u15 a16 u16 a17 u17 h X2 X3 X14 k).1, Fits (outX (a2.view.read (Elt Ideal) X2) (a3.view.read (Elt Ideal) X3) (a14.view.read (Elt Ideal) X14)) p)
    ∧ ∀ p ∈ (tripL_k0_t2 (F := Ideal) Variants.none c none i a2 u2 a3 u3 a4 u4 a5 u5 a6 u6 a7 u7 a8 u8 a9 u9 a10 u10 a11 u11 a12 u12 a13 u13 a14 u14 a15 u15 a16 u16 a17 u17 h X2 X3 X14 k).2, Fits (outY (a14.view.read (Elt Ideal) X14)) p := by
  have o1 : k0_off2 k 1 = 0 := rfl
  unfold tripL_k0_t2 trip_k0_t2
  exact ⟨List.forall_mem_cons.2 ⟨fits_pay2 (a2.view.read (Elt Ideal) X2) (a3.view.read (Elt Ideal) X3) (a14.view.read (Elt Ideal) X14) (k0_off2 k) o1 (k0_off2_inb i k h) (by decide), List.forall_mem_nil _⟩,
    List.forall_mem_cons.2 ⟨fits_pay1 (a14.view.read (Elt Ideal) X14) (k0_off2 k) (k0_off2_inb i k h), List.forall_mem_nil _⟩⟩

theorem fits_loop2 : ∀ n, n ≤ k0_t2_loop.trips →
    (∀ p ∈ (pb_k0_t2 (F := Ideal) Variants.none c none i a2 u2 a3 u3 a4 u4 a5 u5 a6 u6 a7 u7 a8 u8 a9 u9 a10 u10 a11 u11 a12 u12 a13 u13 a14 u14 a15 u15 a16 u16 a17 u17 h X2 X3 X14 n).1, Fits (outX (a2.view.read (Elt Ideal) X2) (a3.view.read (Elt Ideal) X3) (a14.view.read (Elt Ideal) X14)) p)
    ∧ ∀ p ∈ (pb_k0_t2 (F := Ideal) Variants.none c none i a2 u2 a3 u3 a4 u4 a5 u5 a6 u6 a7 u7 a8 u8 a9 u9 a10 u10 a11 u11 a12 u12 a13 u13 a14 u14 a15 u15 a16 u16 a17 u17 h X2 X3 X14 n).2, Fits (outY (a14.view.read (Elt Ideal) X14)) p
  | 0, _ => ⟨List.forall_mem_nil _, List.forall_mem_nil _⟩
  | n + 1, hn => by
    have e := pb_k0_t2_succ (F := Ideal) Variants.none c none i a2 u2 a3 u3 a4 u4 a5 u5 a6 u6 a7 u7 a8 u8 a9 u9 a10 u10 a11 u11 a12 u12 a13 u13 a14 u14 a15 u15 a16 u16 a17 u17 h X2 X3 X14 ⟨n, hn⟩
    have t := fits_trip2 c i a2 u2 a3 u3 a4 u4 a5 u5 a6 u6 a7 u7 a8 u8 a9 u9 a10 u10 a11 u11 a12 u12 a13 u13 a14 u14 a15 u15 a16 u16 a17 u17 h X2 X3 X14 ⟨n, hn⟩
    have r := fits_loop2 n (Nat.le_of_succ_le hn)
    rw [show pb_k0_t2 (F := Ideal) Variants.none c none i a2 u2 a3 u3 a4 u4 a5 u5 a6 u6 a7 u7 a8 u8 a9 u9 a10 u10 a11 u11 a12 u12 a13 u13 a14 u14 a15 u15 a16 u16 a17 u17 h X2 X3 X14 (n + 1) = _ from e]
    exact ⟨List.forall_mem_append.2 ⟨t.1, r.1⟩, List.forall_mem_append.2 ⟨t.2, r.2⟩⟩

end loop2

section caseB
variable (hc0 : ¬first i) (hc1 : ¬last i) (x0 : Vec Ideal S512x2048 .f32) (x1 : Vec Ideal S1x3x2048 .f32) (x2 : Vec Ideal S1x2048 .f32) (x3 x4 x5 : Vec Ideal S1x704x2048 .bf16) (s0 : Vec Ideal S512x2048 .bf16) (s1 : Vec Ideal S512x2048 .f32)

theorem a_B (v : View sig .tc .vmem S1x512x704 .bf16) (f : v.ty.Contents (Elt Ideal)) :
    v.read (Elt Ideal) (v.writes (Elt Ideal) f (runB (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).1) = lift (up s0 x3) := by
  have ew := load_whole a5 u5 x3
  have es := u13.read_unread s0
  have k := read_of_fits v f _ _ (fits_L11 a13 a15 (u13.unread s0) (wh a5 u5 x3)) (coverB11 c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1)
  exact k.trans (by rw [es, ew])

theorem b_B (v : View sig .tc .vmem S1x512x704 .bf16) (f : v.ty.Contents (Elt Ideal)) :
    v.read (Elt Ideal) (v.writes (Elt Ideal) f (runB (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.1) = lift (up s0 x4) := by
  have ew := load_whole a6 u6 x4
  have es := u13.read_unread s0
  have k := read_of_fits v f _ _ (fits_L12 a13 a16 (u13.unread s0) (wh a6 u6 x4)) (coverB12 c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1)
  exact k.trans (by rw [es, ew])

theorem acc_B (v : View sig .tc .vmem S512x2048 .f32) (f : v.ty.Contents (Elt Ideal)) :
    v.read (Elt Ideal) (v.writes (Elt Ideal) f (runB (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.1) = down s1 (gate (up s0 x3) (up s0 x4)) x5 := by
  have e3 := load_whole a5 u5 x3
  have e4 := load_whole a6 u6 x4
  have e5 := load_whole a7 u7 x5
  have es := u13.read_unread s0
  have k := read_L14 a13 a15 a16 a17 (u13.unread s0)
    (wh a5 u5 x3)
    (wh a6 u6 x4) s1
    (a14.view.readAt (Elt Ideal) (Rect.unit (s := S512x2048) ![0, 0] S256x2048.size (by decide)).toLoadRect (u14.unread s1))
    (a14.view.readAt (Elt Ideal) (Rect.unit (s := S512x2048) ![256, 0] S256x2048.size (by decide)).toLoadRect (u14.unread s1))
    (wh a7 u7 x5)
    (congrArg (fun X => View.ld X _) (u14.read_unread s1)) (congrArg (fun X => View.ld X _) (u14.read_unread s1)) v f
  refine Eq.trans ?_ (k.trans (by rw [e5]; unfold gated; rw [es, e3, e4]))
  rfl

end caseB

section caseC
variable (hc0 : ¬first i) (hc1 : last i) (x0 : Vec Ideal S512x2048 .f32) (x1 : Vec Ideal S1x3x2048 .f32) (x2 : Vec Ideal S1x2048 .f32) (x3 x4 x5 : Vec Ideal S1x704x2048 .bf16) (s0 : Vec Ideal S512x2048 .bf16) (s1 : Vec Ideal S512x2048 .f32)

theorem a_C (v : View sig .tc .vmem S1x512x704 .bf16) (f : v.ty.Contents (Elt Ideal)) :
    v.read (Elt Ideal) (v.writes (Elt Ideal) f (runC (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.1) = lift (up s0 x3) := by
  have ew := load_whole a5 u5 x3
  have es := u13.read_unread s0
  have k := read_of_fits v f _ _ (fits_L11 a13 a15 (u13.unread s0) (wh a5 u5 x3)) (coverC11 c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1)
  exact k.trans (by rw [es, ew])

theorem b_C (v : View sig .tc .vmem S1x512x704 .bf16) (f : v.ty.Contents (Elt Ideal)) :
    v.read (Elt Ideal) (v.writes (Elt Ideal) f (runC (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.2.1) = lift (up s0 x4) := by
  have ew := load_whole a6 u6 x4
  have es := u13.read_unread s0
  have k := read_of_fits v f _ _ (fits_L12 a13 a16 (u13.unread s0) (wh a6 u6 x4)) (coverC12 c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1)
  exact k.trans (by rw [es, ew])

theorem acc_C (v : View sig .tc .vmem S512x2048 .f32) (f : v.ty.Contents (Elt Ideal)) :
    v.read (Elt Ideal) (v.writes (Elt Ideal) f (runC (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.2.2.1) = down s1 (gate (up s0 x3) (up s0 x4)) x5 := by
  have e3 := load_whole a5 u5 x3
  have e4 := load_whole a6 u6 x4
  have e5 := load_whole a7 u7 x5
  have es := u13.read_unread s0
  have k := read_L14 a13 a15 a16 a17 (u13.unread s0)
    (wh a5 u5 x3)
    (wh a6 u6 x4) s1
    (a14.view.readAt (Elt Ideal) (Rect.unit (s := S512x2048) ![0, 0] S256x2048.size (by decide)).toLoadRect (u14.unread s1))
    (a14.view.readAt (Elt Ideal) (Rect.unit (s := S512x2048) ![256, 0] S256x2048.size (by decide)).toLoadRect (u14.unread s1))
    (wh a7 u7 x5)
    (congrArg (fun X => View.ld X _) (u14.read_unread s1)) (congrArg (fun X => View.ld X _) (u14.read_unread s1)) v f
  refine Eq.trans ?_ (k.trans (by rw [e5]; unfold gated; rw [es, e3, e4]))
  rfl

theorem x_C (v : View sig .tc .vmem S512x2048 .f32) (f : v.ty.Contents (Elt Ideal)) :
    v.read (Elt Ideal) (v.writes (Elt Ideal) f (runC (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).1) = outX x0 x1 (down s1 (gate (up s0 x3) (up s0 x4)) x5) := by
  have k := read_of_fits v f _ _ (fits_loop2 c i a2 u2 a3 u3 a4 u4 a5 u5 a6 u6 a7 u7 a8 u8 a9 u9 a10 u10 a11 u11 a12 u12 a13 u13 a14 u14 a15 u15 a16 u16 a17 u17 hc1 (u2.unread x0) (u3.unread x1)
    (a14.view.writes (Elt Ideal) a14.view.junk (runC (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.2.2.1) k0_t2_loop.trips le_rfl).1 (coverC8 c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1)
  refine Eq.trans ?_ (k.trans (congr (congr (congrArg outX (u2.read_unread x0)) (u3.read_unread x1)) (acc_C c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1 a14.view a14.view.junk)))
  rfl

theorem y_C (v : View sig .tc .vmem S512x2048 .bf16) (f : v.ty.Contents (Elt Ideal)) :
    v.read (Elt Ideal) (v.writes (Elt Ideal) f (runC (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.1) = outY (down s1 (gate (up s0 x3) (up s0 x4)) x5) := by
  have k := read_of_fits v f _ _ (fits_loop2 c i a2 u2 a3 u3 a4 u4 a5 u5 a6 u6 a7 u7 a8 u8 a9 u9 a10 u10 a11 u11 a12 u12 a13 u13 a14 u14 a15 u15 a16 u16 a17 u17 hc1 (u2.unread x0) (u3.unread x1)
    (a14.view.writes (Elt Ideal) a14.view.junk (runC (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1).2.2.2.2.1) k0_t2_loop.trips le_rfl).2 (coverC10 c i a2 u2 a3 u3 a4 u4 a5 u5 a6 u6 a7 u7 a8 u8 a9 u9 a10 u10 a11 u11 a12 u12 a13 u13 a14 u14 a15 u15 a16 u16 a17 u17 hc0 hc1 x0 x1 x2 x3 x4 x5 s0 s1)
  refine Eq.trans ?_ (k.trans (by rw [acc_C]))
  rfl

end caseC

section caseA
variable (hc0 : first i) (hc1 : ¬last i) (x0 : Vec Ideal S512x2048 .f32) (x1 : Vec Ideal S1x3x2048 .f32) (x2 : Vec Ideal S1x2048 .f32) (x3 x4 x5 : Vec Ideal S1x704x2048 .bf16)

theorem h_A (v : View sig .tc .vmem S512x2048 .bf16) (f : v.ty.Contents (Elt Ideal)) :
    v.read (Elt Ideal) (v.writes (Elt Ideal) f (runA (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5).1) = hd x0 x1 x2 := by
  have k := read_of_fits v f _ _ (fits_loop1 c i a2 u2 a3 u3 a4 u4 a5 u5 a6 u6 a7 u7 a8 u8 a9 u9 a10 u10 a11 u11 a12 u12 a13 u13 a14 u14 a15 u15 a16 u16 a17 u17 hc0 (u2.unread x0) (u3.unread x1) (u4.unread x2) k0_t1_loop.trips le_rfl).1 (coverA9 c i a2 u2 a3 u3 a4 u4 a5 u5 a6 u6 a7 u7 a8 u8 a9 u9 a10 u10 a11 u11 a12 u12 a13 u13 a14 u14 a15 u15 a16 u16 a17 u17 hc0 hc1 x0 x1 x2 x3 x4 x5)
  refine Eq.trans ?_ (k.trans (by rw [u2.read_unread, u3.read_unread, u4.read_unread]))
  rfl

theorem hs_A (v : View sig .tc .vmem S512x2048 .bf16) (f : v.ty.Contents (Elt Ideal)) :
    v.read (Elt Ideal) (v.writes (Elt Ideal) f (runA (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.2.2.1) = hd x0 x1 x2 := by
  have k := read_of_fits v f _ _ (fits_loop1 c i a2 u2 a3 u3 a4 u4 a5 u5 a6 u6 a7 u7 a8 u8 a9 u9 a10 u10 a11 u11 a12 u12 a13 u13 a14 u14 a15 u15 a16 u16 a17 u17 hc0 (u2.unread x0) (u3.unread x1) (u4.unread x2) k0_t1_loop.trips le_rfl).2 (coverA13 c i a2 u2 a3 u3 a4 u4 a5 u5 a6 u6 a7 u7 a8 u8 a9 u9 a10 u10 a11 u11 a12 u12 a13 u13 a14 u14 a15 u15 a16 u16 a17 u17 hc0 hc1 x0 x1 x2 x3 x4 x5)
  refine Eq.trans ?_ (k.trans (by rw [u2.read_unread, u3.read_unread, u4.read_unread]))
  rfl

theorem a_A (v : View sig .tc .vmem S1x512x704 .bf16) (f : v.ty.Contents (Elt Ideal)) :
    v.read (Elt Ideal) (v.writes (Elt Ideal) f (runA (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.1) = lift (up (hd x0 x1 x2) x3) := by
  have ew := load_whole a5 u5 x3
  have es := hs_A c i a2 u2 a3 u3 a4 u4 a5 u5 a6 u6 a7 u7 a8 u8 a9 u9 a10 u10 a11 u11 a12 u12 a13 u13 a14 u14 a15 u15 a16 u16 a17 u17 hc0 hc1 x0 x1 x2 x3 x4 x5 a13.view a13.view.junk
  have k := read_of_fits v f _ _ (fits_L11 a13 a15 (a13.view.writes (Elt Ideal) a13.view.junk (runA (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.2.2.1) (wh a5 u5 x3)) (coverA11 c i a2 u2 a3 u3 a4 u4 a5 u5 a6 u6 a7 u7 a8 u8 a9 u9 a10 u10 a11 u11 a12 u12 a13 u13 a14 u14 a15 u15 a16 u16 a17 u17 hc0 hc1 x0 x1 x2 x3 x4 x5)
  exact k.trans (by rw [es, ew])

theorem b_A (v : View sig .tc .vmem S1x512x704 .bf16) (f : v.ty.Contents (Elt Ideal)) :
    v.read (Elt Ideal) (v.writes (Elt Ideal) f (runA (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.2.1) = lift (up (hd x0 x1 x2) x4) := by
  have ew := load_whole a6 u6 x4
  have es := hs_A c i a2 u2 a3 u3 a4 u4 a5 u5 a6 u6 a7 u7 a8 u8 a9 u9 a10 u10 a11 u11 a12 u12 a13 u13 a14 u14 a15 u15 a16 u16 a17 u17 hc0 hc1 x0 x1 x2 x3 x4 x5 a13.view a13.view.junk
  have k := read_of_fits v f _ _ (fits_L12 a13 a16 (a13.view.writes (Elt Ideal) a13.view.junk (runA (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.2.2.1) (wh a6 u6 x4)) (coverA12 c i a2 u2 a3 u3 a4 u4 a5 u5 a6 u6 a7 u7 a8 u8 a9 u9 a10 u10 a11 u11 a12 u12 a13 u13 a14 u14 a15 u15 a16 u16 a17 u17 hc0 hc1 x0 x1 x2 x3 x4 x5)
  exact k.trans (by rw [es, ew])

/-- The sum's rows before the first block are zero. -/
theorem zeros_ld (o : ℕ) (inb) (v : View sig .tc .vmem S512x2048 .f32) (f : v.ty.Contents (Elt Ideal)) (h) :
    v.readAt (Elt Ideal) (Rect.unit (s := S512x2048) ![o, 0] S256x2048.size inb).toLoadRect
      (v.writes (Elt Ideal) f [⟨Rect.unit (s := S512x2048) ![0, 0] S512x2048.size h, k0_pay5 (F := Ideal)⟩])
    = View.ld (fun _ => (0 : EReal)) (Rect.unit (s := S512x2048) ![o, 0] S256x2048.size inb) :=
  congrArg (fun X => View.ld X (Rect.unit (s := S512x2048) ![o, 0] S256x2048.size inb))
    (read_of_fits v f (fun _ => (0 : EReal)) _ (List.forall_mem_cons.2 ⟨fun x => pay5_apply x, List.forall_mem_nil _⟩)
      (View.cover_of_tiledL (Val := Elt Ideal) (s := S512x2048) (e := .f32) [⟨Rect.unit (s := S512x2048) ![0, 0] S512x2048.size h, (k0_pay5 (F := Ideal) : S512x2048.Idx → Elt Ideal .f32)⟩] S512x2048.size (by sl_kernel_rfl)))

theorem acc_A (v : View sig .tc .vmem S512x2048 .f32) (f : v.ty.Contents (Elt Ideal)) :
    v.read (Elt Ideal) (v.writes (Elt Ideal) f (runA (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.2.2.2.1) = down (fun _ => (0 : EReal)) (gate (up (hd x0 x1 x2) x3) (up (hd x0 x1 x2) x4)) x5 := by
  have e3 := load_whole a5 u5 x3
  have e4 := load_whole a6 u6 x4
  have e5 := load_whole a7 u7 x5
  have es := hs_A c i a2 u2 a3 u3 a4 u4 a5 u5 a6 u6 a7 u7 a8 u8 a9 u9 a10 u10 a11 u11 a12 u12 a13 u13 a14 u14 a15 u15 a16 u16 a17 u17 hc0 hc1 x0 x1 x2 x3 x4 x5 a13.view a13.view.junk
  let Z : List (View.Piece (Elt Ideal) S512x2048 .f32) := [⟨Rect.unit (s := S512x2048) ![0, 0] S512x2048.size (by decide), k0_pay5 (F := Ideal)⟩]
  let w3 := (wh a5 u5 x3)
  let w4 := (wh a6 u6 x4)
  let w5 := (wh a7 u7 x5)
  let P : View.Piece (Elt Ideal) S512x2048 .f32 := ⟨Rect.unit (s := S512x2048) ![0, 0] S256x2048.size (by decide), k0_pay24
    (a14.view.readCov Z (Rect.unit (s := S512x2048) ![0, 0] S256x2048.size (by decide)).toLoadRect) (rows17 a13 a15 a16 a17 (a13.view.writes (Elt Ideal) a13.view.junk (runA (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.2.2.1) w3 w4 0 (by decide)) w5⟩
  have hr1 : a14.view.readCov (P :: Z) (Rect.unit (s := S512x2048) ![256, 0] S256x2048.size (by decide)).toLoadRect
      = View.ld (fun _ => (0 : EReal)) (Rect.unit (s := S512x2048) ![256, 0] S256x2048.size (by decide)) := by
    refine Eq.trans (funext fun j => ?_) (zeros_ld 256 (by decide) a14.view a14.view.junk (by decide))
    refine View.read_writes_cons_miss_of_axis a14.view _ P Z _ 0 0 256 rfl rfl rfl (Or.inr ?_)
    exact Nat.le_trans (Nat.le_add_right 256 _) (Nat.le_of_eq (Rect.idx_unit_val (s := S512x2048) ![256, 0] S256x2048.size (by decide) j 0).symm)
  have k := read_L14 a13 a15 a16 a17 (a13.view.writes (Elt Ideal) a13.view.junk (runA (F := Ideal) c i a2 u2 a3 u3 a4 u4 a5 u5 a6 u6 a7 u7 a8 u8 a9 u9 a10 u10 a11 u11 a12 u12 a13 u13 a14 u14 a15 u15 a16 u16 a17 u17 hc0 hc1 x0 x1 x2 x3 x4 x5).2.2.2.1) w3 w4 (fun _ => (0 : EReal))
    (a14.view.readCov Z (Rect.unit (s := S512x2048) ![0, 0] S256x2048.size (by decide)).toLoadRect)
    (a14.view.readCov (P :: Z) (Rect.unit (s := S512x2048) ![256, 0] S256x2048.size (by decide)).toLoadRect)
    w5 (zeros_ld 0 (by decide) a14.view a14.view.junk (by decide)) hr1 v (v.writes (Elt Ideal) f Z)
  rw [← View.writes_append] at k
  refine Eq.trans ?_ (k.trans (by
    show down _ (gate (up _ w3) (up _ w4)) w5 = _
    rw [show w3 = x3 from e3, show w4 = x4 from e4, show w5 = x5 from e5, es]))
  rfl

end caseA

end Cert.Kernel6Ideal.Ffn

end
-- ==== Proof.FfnValue.lean ====
/-
  The feed-forward kernel's results over the ideal numbers: what each grid point leaves, and the five arrays after the run.
-/
module

public import proofs.«01_k».proof.Proof.FfnBody

@[expose] public section

set_option maxRecDepth 16384

noncomputable section

namespace Cert.Kernel6Ideal.Ffn

open Idealize.ShloMosaic Idealize.ShloMosaic.TcCoe Idealize.SL.Sem
open Idealize.ShloMosaic.Pipeline (Dat)
open Cert.Kernel6Ideal Cert.Kernel6Ideal.Gen

section spec
variable (X : (⟨S2048x2048, .f32⟩ : BufTy).Contents (Elt Ideal)) (P : (⟨S1x3x2048, .f32⟩ : BufTy).Contents (Elt Ideal))
  (G : (⟨S1x2048, .f32⟩ : BufTy).Contents (Elt Ideal)) (A B C : (⟨S8x704x2048, .bf16⟩ : BufTy).Contents (Elt Ideal))

/-- Column k of the normalised and modulated token r. -/
def tok (r k : Fin 2048) : EReal := nrm (fun l => X (ix2 r l)) (X (ix2 r k)) (G (ix2 0 k)) (P (ix3 0 0 k)) (P (ix3 0 1 k))

/-- Hidden column n of block j of the token r, through the weight A. -/
def hid (j : Fin 8) (r : Fin 2048) (n : Fin 704) : EReal := ∑ k : Fin 2048, tok X P G r k * A (ix3 j n k)

/-- The gated hidden column. -/
def gat (j : Fin 8) (r : Fin 2048) (n : Fin 704) : EReal :=
  hid X P G A j r n * Ideal.logistic (hid X P G A j r n) * hid X P G B j r n

/-- What block j adds to column k of the output. -/
def add (j : Fin 8) (r k : Fin 2048) : EReal := ∑ n : Fin 704, gat X P G A B j r n * C (ix3 j n k)

/-- The blocks up to q. -/
def part (q : ℕ) (r k : Fin 2048) : EReal := ∑ j ∈ Finset.range (q + 1), add X P G A B C ⟨j % 8, Nat.mod_lt _ (by decide)⟩ r k

/-- The tokens after the layer. -/
def resX : (⟨S2048x2048, .f32⟩ : BufTy).Contents (Elt Ideal) := fun i =>
  (X i + Ideal.ofBits FTy.f32 1056964608#32 * P (ix3 0 2 (i 1)) * part X P G A B C 7 (i 0) (i 1) : EReal)
/-- The normalised tokens. -/
def resH : (⟨S2048x2048, .bf16⟩ : BufTy).Contents (Elt Ideal) := fun i => (tok X P G (i 0) (i 1) : EReal)
/-- The layer's output before its gate. -/
def resY : (⟨S2048x2048, .bf16⟩ : BufTy).Contents (Elt Ideal) := fun i => (part X P G A B C 7 (i 0) (i 1) : EReal)
/-- The hidden columns in blocks. -/
def resA : (⟨S8x2048x704, .bf16⟩ : BufTy).Contents (Elt Ideal) := fun i => (hid X P G A (i 0) (i 1) (i 2) : EReal)

end spec

variable (m : (ℓ : Loc nD τ sig) → Buf (Elt Ideal) ℓ) (ρ : Dev nD → PrngReg)

/-! The arguments. -/
abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)

/-- The token of row a of the point's tile. -/
def row (t : Fin cfg0.N) (a : Fin 512) : Fin 2048 := ⟨512 * (t.val / 8) + a.val, by
  have ht : t.val < 32 := Nat.lt_of_lt_of_eq t.isLt N_0
  omega⟩
/-- The point's hidden block. -/
def blk (t : Fin cfg0.N) : Fin 8 := ⟨t.val % 8, Nat.mod_lt _ (by decide)⟩

theorem idx0 : ∀ t : Fin cfg0.N, win0_0.index t 0 = t.val / 8 ∧ win0_0.index t 1 = 0 := by decide +kernel
theorem idx1 : ∀ t : Fin cfg0.N, win0_1.index t 0 = 0 ∧ win0_1.index t 1 = 0 ∧ win0_1.index t 2 = 0 := by decide +kernel
theorem idx2 : ∀ t : Fin cfg0.N, win0_2.index t 0 = 0 ∧ win0_2.index t 1 = 0 := by decide +kernel
theorem idx3 : ∀ t : Fin cfg0.N, win0_3.index t 0 = t.val % 8 ∧ win0_3.index t 1 = 0 ∧ win0_3.index t 2 = 0 := by decide +kernel
theorem idx4 : ∀ t : Fin cfg0.N, win0_4.index t 0 = t.val % 8 ∧ win0_4.index t 1 = 0 ∧ win0_4.index t 2 = 0 := by decide +kernel
theorem idx5 : ∀ t : Fin cfg0.N, win0_5.index t 0 = t.val % 8 ∧ win0_5.index t 1 = 0 ∧ win0_5.index t 2 = 0 := by decide +kernel
theorem idx6 : ∀ t : Fin cfg0.N, win0_6.index t 0 = t.val / 8 ∧ win0_6.index t 1 = 0 := by decide +kernel
theorem idx7 : ∀ t : Fin cfg0.N, win0_7.index t 0 = t.val / 8 ∧ win0_7.index t 1 = 0 := by decide +kernel
theorem idx8 : ∀ t : Fin cfg0.N, win0_8.index t 0 = t.val / 8 ∧ win0_8.index t 1 = 0 := by decide +kernel
theorem idx9 : ∀ t : Fin cfg0.N, win0_9.index t 0 = t.val % 8 ∧ win0_9.index t 1 = t.val / 8 ∧ win0_9.index t 2 = 0 := by decide +kernel
theorem idx10 : ∀ t : Fin cfg0.N, win0_10.index t 0 = t.val % 8 ∧ win0_10.index t 1 = t.val / 8 ∧ win0_10.index t 2 = 0 := by decide +kernel

variable (c : Dev nD) (t : Fin cfg0.N)

theorem block0 (a : Fin 512) (k : Fin 2048) :
    (iblk m c 0 t : Vec Ideal S512x2048 .f32) (ix2 a k) = m ((c : Thread nD τ).loc main_arg0) (ix2 (row t a) k) := by
  have hi := idx0 t
  unfold iblk
  rw [View.read_apply]
  show V m c main_arg0 _ = _
  rw [V_main_arg0]
  congr 1
  funext x
  apply Fin.ext
  match x with
  | ⟨0, _⟩ => show win0_0.index t 0 * 512 + 1 * a.val = 512 * (t.val / 8) + a.val; omega
  | ⟨1, _⟩ => show win0_0.index t 1 * 2048 + 1 * k.val = k.val; omega

theorem block1 (s : Fin 3) (k : Fin 2048) :
    (iblk m c 1 t : Vec Ideal S1x3x2048 .f32) (ix3 0 s k) = m ((c : Thread nD τ).loc main_arg1) (ix3 0 s k) := by
  have hi := idx1 t
  unfold iblk
  rw [View.read_apply]
  show V m c main_arg1 _ = _
  rw [V_main_arg1]
  congr 1
  funext x
  apply Fin.ext
  match x with
  | ⟨0, _⟩ => show win0_1.index t 0 * 1 + 1 * 0 = 0; omega
  | ⟨1, _⟩ => show win0_1.index t 1 * 3 + 1 * s.val = s.val; omega
  | ⟨2, _⟩ => show win0_1.index t 2 * 2048 + 1 * k.val = k.val; omega

theorem block2 (k : Fin 2048) :
    (iblk m c 2 t : Vec Ideal S1x2048 .f32) (ix2 0 k) = m ((c : Thread nD τ).loc main_arg2) (ix2 0 k) := by
  have hi := idx2 t
  unfold iblk
  rw [View.read_apply]
  show V m c main_arg2 _ = _
  rw [V_main_arg2]
  congr 1
  funext x
  apply Fin.ext
  match x with
  | ⟨0, _⟩ => show win0_2.index t 0 * 1 + 1 * 0 = 0; omega
  | ⟨1, _⟩ => show win0_2.index t 1 * 2048 + 1 * k.val = k.val; omega

theorem block3 (n : Fin 704) (k : Fin 2048) :
    (iblk m c 3 t : Vec Ideal S1x704x2048 .bf16) (ix3 0 n k) = m ((c : Thread nD τ).loc main_arg3) (ix3 (blk t) n k) := by
  have hi := idx3 t
  unfold iblk
  rw [View.read_apply]
  show V m c main_arg3 _ = _
  rw [V_main_arg3]
  congr 1
  funext x
  apply Fin.ext
  match x with
  | ⟨0, _⟩ => show win0_3.index t 0 * 1 + 1 * 0 = t.val % 8; omega
  | ⟨1, _⟩ => show win0_3.index t 1 * 704 + 1 * n.val = n.val; omega
  | ⟨2, _⟩ => show win0_3.index t 2 * 2048 + 1 * k.val = k.val; omega

theorem block4 (n : Fin 704) (k : Fin 2048) :
    (iblk m c 4 t : Vec Ideal S1x704x2048 .bf16) (ix3 0 n k) = m ((c : Thread nD τ).loc main_arg4) (ix3 (blk t) n k) := by
  have hi := idx4 t
  unfold iblk
  rw [View.read_apply]
  show V m c main_arg4 _ = _
  rw [V_main_arg4]
  congr 1
  funext x
  apply Fin.ext
  match x with
  | ⟨0, _⟩ => show win0_4.index t 0 * 1 + 1 * 0 = t.val % 8; omega
  | ⟨1, _⟩ => show win0_4.index t 1 * 704 + 1 * n.val = n.val; omega
  | ⟨2, _⟩ => show win0_4.index t 2 * 2048 + 1 * k.val = k.val; omega

theorem block5 (n : Fin 704) (k : Fin 2048) :
    (iblk m c 5 t : Vec Ideal S1x704x2048 .bf16) (ix3 0 n k) = m ((c : Thread nD τ).loc main_arg5) (ix3 (blk t) n k) := by
  have hi := idx5 t
  unfold iblk
  rw [View.read_apply]
  show V m c main_arg5 _ = _
  rw [V_main_arg5]
  congr 1
  funext x
  apply Fin.ext
  match x with
  | ⟨0, _⟩ => show win0_5.index t 0 * 1 + 1 * 0 = t.val % 8; omega
  | ⟨1, _⟩ => show win0_5.index t 1 * 704 + 1 * n.val = n.val; omega
  | ⟨2, _⟩ => show win0_5.index t 2 * 2048 + 1 * k.val = k.val; omega
theorem stA_o7 (h0 : t.val % 8 = 0) (h1 : ¬t.val % 8 = 7) : (stA m c t h0 h1).o7 = (hd (iblk m c 0 t) (iblk m c 1 t) (iblk m c 2 t)) := by
  refine (by delta stA; with_reducible rfl : _ = vo7.read (Elt Ideal) (vo7.writes (Elt Ideal) vo7.junk (atA m c t h0 h1).1)).trans ?_
  apply h_A
theorem stA_hs (h0 : t.val % 8 = 0) (h1 : ¬t.val % 8 = 7) : (stA m c t h0 h1).hs = (hd (iblk m c 0 t) (iblk m c 1 t) (iblk m c 2 t)) := by
  refine (by delta stA; with_reducible rfl : _ = s0.view.read (Elt Ideal) (s0.view.writes (Elt Ideal) s0.view.junk (atA m c t h0 h1).2.2.2.1)).trans ?_
  apply hs_A
theorem stA_o9 (h0 : t.val % 8 = 0) (h1 : ¬t.val % 8 = 7) : (stA m c t h0 h1).o9 = lift (up (hd (iblk m c 0 t) (iblk m c 1 t) (iblk m c 2 t)) (iblk m c 3 t)) := by
  refine (by delta stA; with_reducible rfl : _ = vo9.read (Elt Ideal) (vo9.writes (Elt Ideal) vo9.junk (atA m c t h0 h1).2.1)).trans ?_
  apply a_A
theorem stA_o10 (h0 : t.val % 8 = 0) (h1 : ¬t.val % 8 = 7) : (stA m c t h0 h1).o10 = lift (up (hd (iblk m c 0 t) (iblk m c 1 t) (iblk m c 2 t)) (iblk m c 4 t)) := by
  refine (by delta stA; with_reducible rfl : _ = vo10.read (Elt Ideal) (vo10.writes (Elt Ideal) vo10.junk (atA m c t h0 h1).2.2.1)).trans ?_
  apply b_A
theorem stA_acc (h0 : t.val % 8 = 0) (h1 : ¬t.val % 8 = 7) : (stA m c t h0 h1).acc = down (fun _ => (0 : EReal)) (gate (up (hd (iblk m c 0 t) (iblk m c 1 t) (iblk m c 2 t)) (iblk m c 3 t)) (up (hd (iblk m c 0 t) (iblk m c 1 t) (iblk m c 2 t)) (iblk m c 4 t))) (iblk m c 5 t) := by
  refine (by delta stA; with_reducible rfl : _ = s1.view.read (Elt Ideal) (s1.view.writes (Elt Ideal) s1.view.junk (atA m c t h0 h1).2.2.2.2.1)).trans ?_
  apply acc_A
theorem stB_o9 (h0 : ¬t.val % 8 = 0) (h1 : ¬t.val % 8 = 7) (p : St Ideal) : (stB m c t h0 h1 p).o9 = lift (up p.hs (iblk m c 3 t)) := by
  refine (by delta stB; with_reducible rfl : _ = vo9.read (Elt Ideal) (vo9.writes (Elt Ideal) vo9.junk (atB m c t h0 h1 p).1)).trans ?_
  apply a_B
theorem stB_o10 (h0 : ¬t.val % 8 = 0) (h1 : ¬t.val % 8 = 7) (p : St Ideal) : (stB m c t h0 h1 p).o10 = lift (up p.hs (iblk m c 4 t)) := by
  refine (by delta stB; with_reducible rfl : _ = vo10.read (Elt Ideal) (vo10.writes (Elt Ideal) vo10.junk (atB m c t h0 h1 p).2.1)).trans ?_
  apply b_B
theorem stB_acc (h0 : ¬t.val % 8 = 0) (h1 : ¬t.val % 8 = 7) (p : St Ideal) : (stB m c t h0 h1 p).acc = (down p.acc (gate (up p.hs (iblk m c 3 t)) (up p.hs (iblk m c 4 t))) (iblk m c 5 t)) := by
  refine (by delta stB; with_reducible rfl : _ = s1.view.read (Elt Ideal) (s1.view.writes (Elt Ideal) s1.view.junk (atB m c t h0 h1 p).2.2.1)).trans ?_
  apply acc_B
theorem stC_o9 (h0 : ¬t.val % 8 = 0) (h1 : t.val % 8 = 7) (p : St Ideal) : (stC m c t h0 h1 p).o9 = lift (up p.hs (iblk m c 3 t)) := by
  refine (by delta stC; with_reducible rfl : _ = vo9.read (Elt Ideal) (vo9.writes (Elt Ideal) vo9.junk (atC m c t h0 h1 p).2.2.1)).trans ?_
  apply a_C
theorem stC_o10 (h0 : ¬t.val % 8 = 0) (h1 : t.val % 8 = 7) (p : St Ideal) : (stC m c t h0 h1 p).o10 = lift (up p.hs (iblk m c 4 t)) := by
  refine (by delta stC; with_reducible rfl : _ = vo10.read (Elt Ideal) (vo10.writes (Elt Ideal) vo10.junk (atC m c t h0 h1 p).2.2.2.1)).trans ?_
  apply b_C
theorem stC_acc (h0 : ¬t.val % 8 = 0) (h1 : t.val % 8 = 7) (p : St Ideal) : (stC m c t h0 h1 p).acc = (down p.acc (gate (up p.hs (iblk m c 3 t)) (up p.hs (iblk m c 4 t))) (iblk m c 5 t)) := by
  refine (by delta stC; with_reducible rfl : _ = s1.view.read (Elt Ideal) (s1.view.writes (Elt Ideal) s1.view.junk (atC m c t h0 h1 p).2.2.2.2.1)).trans ?_
  apply acc_C
theorem stC_o6 (h0 : ¬t.val % 8 = 0) (h1 : t.val % 8 = 7) (p : St Ideal) : (stC m c t h0 h1 p).o6 = outX (iblk m c 0 t) (iblk m c 1 t) (down p.acc (gate (up p.hs (iblk m c 3 t)) (up p.hs (iblk m c 4 t))) (iblk m c 5 t)) := by
  refine (by delta stC; with_reducible rfl : _ = vo6.read (Elt Ideal) (vo6.writes (Elt Ideal) vo6.junk (atC m c t h0 h1 p).1)).trans ?_
  apply x_C
theorem stC_o8 (h0 : ¬t.val % 8 = 0) (h1 : t.val % 8 = 7) (p : St Ideal) : (stC m c t h0 h1 p).o8 = outY (down p.acc (gate (up p.hs (iblk m c 3 t)) (up p.hs (iblk m c 4 t))) (iblk m c 5 t)) := by
  refine (by delta stC; with_reducible rfl : _ = vo8.read (Elt Ideal) (vo8.writes (Elt Ideal) vo8.junk (atC m c t h0 h1 p).2.1)).trans ?_
  apply y_C

/-- The rows of the point's tile. -/
abbrev tileH : Vec Ideal S512x2048 .bf16 := fun y => tok (A0 m c) (A1 m c) (A2 m c) (row t (y 0)) (y 1)

theorem hd_tile : hd (iblk m c 0 t) (iblk m c 1 t) (iblk m c 2 t) = tileH m c t := by
  funext y
  exact nrm_congr (funext fun k => block0 m c t (y 0) k) ((congrArg _ (eq_ix2 y)).trans (block0 m c t (y 0) (y 1)))
    (block2 m c t (y 1)) (block1 m c t 0 (y 1)) (block1 m c t 1 (y 1))

theorem up_tile3 :
    up (tileH m c t) (iblk m c 3 t) = fun y => hid (A0 m c) (A1 m c) (A2 m c) (A3 m c) (blk t) (row t (y 0)) (y 1) := by
  funext y
  exact Finset.sum_congr rfl fun k _ => congrArg (fun q : EReal => _ * q) (block3 m c t (y 1) k)

theorem up_tile4 :
    up (tileH m c t) (iblk m c 4 t) = fun y => hid (A0 m c) (A1 m c) (A2 m c) (A4 m c) (blk t) (row t (y 0)) (y 1) := by
  funext y
  exact Finset.sum_congr rfl fun k _ => congrArg (fun q : EReal => _ * q) (block4 m c t (y 1) k)

theorem down_tile (s : Vec Ideal S512x2048 .f32) :
    down s (gate (up (tileH m c t) (iblk m c 3 t)) (up (tileH m c t) (iblk m c 4 t))) (iblk m c 5 t)
      = fun y => (s y + add (A0 m c) (A1 m c) (A2 m c) (A3 m c) (A4 m c) (A5 m c) (blk t) (row t (y 0)) (y 1) : EReal) := by
  rw [up_tile3, up_tile4]
  funext y
  exact congrArg (fun q : EReal => s y + q) (Finset.sum_congr rfl fun n _ => congrArg (fun q : EReal => _ * q) (block5 m c t n (y 1)))

/-- The sum over the blocks up to the point's. -/
abbrev tileS : Vec Ideal S512x2048 .f32 := fun y => part (A0 m c) (A1 m c) (A2 m c) (A3 m c) (A4 m c) (A5 m c) (t.val % 8) (row t (y 0)) (y 1)

theorem tileS_first (h0 : t.val % 8 = 0) :
    (fun y => ((0 : EReal) + add (A0 m c) (A1 m c) (A2 m c) (A3 m c) (A4 m c) (A5 m c) (blk t) (row t (y 0)) (y 1) : EReal) : Vec Ideal S512x2048 .f32) = tileS m c t := by
  funext y
  unfold tileS part
  rw [h0, Finset.sum_range_one, zero_add]
  exact congrArg (fun j => add (A0 m c) (A1 m c) (A2 m c) (A3 m c) (A4 m c) (A5 m c) j (row t (y 0)) (y 1)) (Fin.ext h0)

theorem tileS_next (c : Dev nD) (n : ℕ) (hn : n + 1 < cfg0.N) (hn' : n < cfg0.N) (h0 : ¬(n + 1) % 8 = 0) :
    (fun y => (tileS m c ⟨n, hn'⟩ y + add (A0 m c) (A1 m c) (A2 m c) (A3 m c) (A4 m c) (A5 m c) (blk ⟨n + 1, hn⟩) (row ⟨n + 1, hn⟩ (y 0)) (y 1) : EReal) : Vec Ideal S512x2048 .f32)
      = tileS m c ⟨n + 1, hn⟩ := by
  funext y
  have hr : row ⟨n, hn'⟩ (y 0) = row ⟨n + 1, hn⟩ (y 0) := Fin.ext (by
    show 512 * (n / 8) + (y 0).val = 512 * ((n + 1) / 8) + (y 0).val
    have : (n + 1) / 8 = n / 8 := by omega
    rw [this])
  have hq : (n + 1) % 8 = n % 8 + 1 := by omega
  unfold tileS part
  show (∑ j ∈ Finset.range (n % 8 + 1), add (A0 m c) (A1 m c) (A2 m c) (A3 m c) (A4 m c) (A5 m c) ⟨j % 8, Nat.mod_lt _ (by decide)⟩ (row ⟨n, hn'⟩ (y 0)) (y 1)) + _
    = ∑ j ∈ Finset.range ((n + 1) % 8 + 1), _
  rw [hq, Finset.sum_range_succ _ (n % 8 + 1), hr]
  have hb : blk ⟨n + 1, hn⟩ = ⟨(n % 8 + 1) % 8, Nat.mod_lt _ (by decide)⟩ := Fin.ext (by
    show (n + 1) % 8 = (n % 8 + 1) % 8
    omega)
  rw [hb]

theorem tileH_next (c : Dev nD) (n : ℕ) (hn : n + 1 < cfg0.N) (hn' : n < cfg0.N) (h0 : ¬(n + 1) % 8 = 0) :
    tileH m c ⟨n, hn'⟩ = tileH m c ⟨n + 1, hn⟩ := by
  funext y
  have hr : row ⟨n, hn'⟩ (y 0) = row ⟨n + 1, hn⟩ (y 0) := Fin.ext (by
    show 512 * (n / 8) + (y 0).val = 512 * ((n + 1) / 8) + (y 0).val
    have : (n + 1) / 8 = n / 8 := by omega
    rw [this])
  unfold tileH
  rw [hr]

/-- After every point the tile's normalised tokens lie in their output and in the scratch buffer, and the sum over the
blocks so far in the other one. -/
theorem state (c : Dev nD) : ∀ (n : ℕ) (hn : n < cfg0.N),
    (outs m c n hn).hs = tileH m c ⟨n, hn⟩ ∧ (outs m c n hn).o7 = tileH m c ⟨n, hn⟩ ∧ (outs m c n hn).acc = tileS m c ⟨n, hn⟩ := by
  have hA : ∀ t : Fin cfg0.N, t.val % 8 = 0 →
      (outs m c t.val t.isLt).hs = tileH m c t ∧ (outs m c t.val t.isLt).o7 = tileH m c t ∧ (outs m c t.val t.isLt).acc = tileS m c t := by
    intro t h0
    have h1 : ¬t.val % 8 = 7 := by omega
    rw [outs_A m c t h0 h1]
    refine ⟨?_, ?_, ?_⟩
    · exact (stA_hs m c t h0 h1).trans (hd_tile m c t)
    · exact (stA_o7 m c t h0 h1).trans (hd_tile m c t)
    · refine (stA_acc m c t h0 h1).trans ?_
      rw [hd_tile, down_tile]
      exact tileS_first m c t h0
  intro n
  induction n with
  | zero => intro hn; exact hA ⟨0, hn⟩ rfl
  | succ n ih =>
    intro hn
    by_cases h0 : (n + 1) % 8 = 0
    · exact hA ⟨n + 1, hn⟩ h0
    have hn' : n < cfg0.N := Nat.lt_of_succ_lt hn
    obtain ⟨i0, i1, i2⟩ := ih hn'
    have e := tileH_next m c n hn hn' h0
    by_cases h1 : (n + 1) % 8 = 7
    · rw [outs_C m c ⟨n + 1, hn⟩ h0 h1]
      refine ⟨i0.trans e, i1.trans e, ?_⟩
      refine (stC_acc m c ⟨n + 1, hn⟩ h0 h1 _).trans ?_
      show down (outs m c n hn').acc (gate (up (outs m c n hn').hs _) (up (outs m c n hn').hs _)) _ = _
      rw [i0, i2, e, down_tile]
      exact tileS_next m c n hn hn' h0
    · rw [outs_B m c ⟨n + 1, hn⟩ h0 h1]
      refine ⟨i0.trans e, i1.trans e, ?_⟩
      refine (stB_acc m c ⟨n + 1, hn⟩ h0 h1 _).trans ?_
      show down (outs m c n hn').acc (gate (up (outs m c n hn').hs _) (up (outs m c n hn').hs _)) _ = _
      rw [i0, i2, e, down_tile]
      exact tileS_next m c n hn hn' h0

/-- What a point leaves in the two outputs of the hidden columns. -/
theorem left9 : (outs m c t.val t.isLt).o9 = lift (up (tileH m c t) (iblk m c 3 t)) := by
  have st := state m c t.val t.isLt
  by_cases h0 : t.val % 8 = 0
  · rw [outs_A m c t h0 (by omega), stA_o9, hd_tile]
  by_cases h1 : t.val % 8 = 7
  · rw [outs_C m c t h0 h1] at st ⊢
    rw [stC_o9, show (prev m c t).hs = tileH m c t from st.1]
  · rw [outs_B m c t h0 h1] at st ⊢
    rw [stB_o9, show (prev m c t).hs = tileH m c t from st.1]

theorem left10 : (outs m c t.val t.isLt).o10 = lift (up (tileH m c t) (iblk m c 4 t)) := by
  have st := state m c t.val t.isLt
  by_cases h0 : t.val % 8 = 0
  · rw [outs_A m c t h0 (by omega), stA_o10, hd_tile]
  by_cases h1 : t.val % 8 = 7
  · rw [outs_C m c t h0 h1] at st ⊢
    rw [stC_o10, show (prev m c t).hs = tileH m c t from st.1]
  · rw [outs_B m c t h0 h1] at st ⊢
    rw [stB_o10, show (prev m c t).hs = tileH m c t from st.1]

/-- What the last point of a tile leaves in the outputs of the sum. -/
theorem left6 (h1 : t.val % 8 = 7) :
    (outs m c t.val t.isLt).o6 = outX (iblk m c 0 t) (iblk m c 1 t) (tileS m c t) := by
  have st := (state m c t.val t.isLt).2.2
  have h0 : ¬t.val % 8 = 0 := by omega
  rw [outs_C m c t h0 h1] at st ⊢
  rw [stC_acc] at st
  rw [stC_o6]
  exact congrArg (outX (iblk m c 0 t) (iblk m c 1 t)) st

theorem left8 (h1 : t.val % 8 = 7) : (outs m c t.val t.isLt).o8 = outY (tileS m c t) := by
  have st := (state m c t.val t.isLt).2.2
  have h0 : ¬t.val % 8 = 0 := by omega
  rw [outs_C m c t h0 h1] at st ⊢
  rw [stC_acc] at st
  rw [stC_o8]
  exact congrArg outY st

/-! The arrays after the run. -/

theorem arr6 (c : Dev nD) : (dats m 0 c).arrAt 6 cfg0.N = resX (A0 m c) (A1 m c) (A2 m c) (A3 m c) (A4 m c) (A5 m c) := by
  refine (dats m 0 c).arrAt_eq_of_covers 6 _ (by decide +kernel) fun t hf y => ?_
  have hi := idx6 t
  have h7 := (flush0_6 t).mp hf
  blk_simp
  rw [after_6, left6 m c t h7]
  have e0 : ((win0_6.blk t).view.emb y : S2048x2048.Idx) = ix2 (row t (y 0)) (y 1) := by
    funext x
    apply Fin.ext
    match x with
    | ⟨0, _⟩ => show win0_6.index t 0 * 512 + 1 * (y 0).val = 512 * (t.val / 8) + (y 0).val; omega
    | ⟨1, _⟩ => show win0_6.index t 1 * 2048 + 1 * (y 1).val = (y 1).val; omega
  rw [e0]
  have ex : (iblk m c 0 t : Vec Ideal S512x2048 .f32) y = (A0 m c) (ix2 (row t (y 0)) (y 1)) :=
    (congrArg _ (eq_ix2 y)).trans (block0 m c t (y 0) (y 1))
  have ep := block1 m c t 2 (y 1)
  unfold outX resX tileS
  rw [h7]
  exact congrArg₂ (fun a b : EReal => a + Ideal.ofBits FTy.f32 1056964608#32 * b * _) ex ep

theorem arr7 (c : Dev nD) : (dats m 0 c).arrAt 7 cfg0.N = resH (A0 m c) (A1 m c) (A2 m c) := by
  refine (dats m 0 c).arrAt_eq_of_covers 7 _ (by decide +kernel) fun t hf y => ?_
  have hi := idx7 t
  blk_simp
  rw [after_7, show (outs m c t.val t.isLt).o7 = tileH m c t from (state m c t.val t.isLt).2.1]
  have e0 : ((win0_7.blk t).view.emb y : S2048x2048.Idx) = ix2 (row t (y 0)) (y 1) := by
    funext x
    apply Fin.ext
    match x with
    | ⟨0, _⟩ => show win0_7.index t 0 * 512 + 1 * (y 0).val = 512 * (t.val / 8) + (y 0).val; omega
    | ⟨1, _⟩ => show win0_7.index t 1 * 2048 + 1 * (y 1).val = (y 1).val; omega
  rw [e0]
  rfl

theorem arr8 (c : Dev nD) : (dats m 0 c).arrAt 8 cfg0.N = resY (A0 m c) (A1 m c) (A2 m c) (A3 m c) (A4 m c) (A5 m c) := by
  refine (dats m 0 c).arrAt_eq_of_covers 8 _ (by decide +kernel) fun t hf y => ?_
  have hi := idx8 t
  have h7 := (flush0_8 t).mp hf
  blk_simp
  rw [after_8, left8 m c t h7]
  have e0 : ((win0_8.blk t).view.emb y : S2048x2048.Idx) = ix2 (row t (y 0)) (y 1) := by
    funext x
    apply Fin.ext
    match x with
    | ⟨0, _⟩ => show win0_8.index t 0 * 512 + 1 * (y 0).val = 512 * (t.val / 8) + (y 0).val; omega
    | ⟨1, _⟩ => show win0_8.index t 1 * 2048 + 1 * (y 1).val = (y 1).val; omega
  rw [e0]
  unfold outY resY tileS
  rw [h7]
  rfl

theorem arr9 (c : Dev nD) : (dats m 0 c).arrAt 9 cfg0.N = resA (A0 m c) (A1 m c) (A2 m c) (A3 m c) := by
  refine (dats m 0 c).arrAt_eq_of_covers 9 _ (by decide +kernel) fun t hf y => ?_
  have hi := idx9 t
  blk_simp
  rw [after_9, left9 m c t, up_tile3]
  have e0 : ((win0_9.blk t).view.emb y : S8x2048x704.Idx) = ix3 (blk t) (row t (y 1)) (y 2) := by
    have hy : (y 0).val < 1 := (y 0).isLt
    funext x
    apply Fin.ext
    match x with
    | ⟨0, _⟩ => show win0_9.index t 0 * 1 + 1 * (y 0).val = t.val % 8; omega
    | ⟨1, _⟩ => show win0_9.index t 1 * 512 + 1 * (y 1).val = 512 * (t.val / 8) + (y 1).val; omega
    | ⟨2, _⟩ => show win0_9.index t 2 * 704 + 1 * (y 2).val = (y 2).val; omega
  rw [e0]
  rfl

theorem arr10 (c : Dev nD) : (dats m 0 c).arrAt 10 cfg0.N = resA (A0 m c) (A1 m c) (A2 m c) (A4 m c) := by
  refine (dats m 0 c).arrAt_eq_of_covers 10 _ (by decide +kernel) fun t hf y => ?_
  have hi := idx10 t
  blk_simp
  rw [after_10, left10 m c t, up_tile4]
  have e0 : ((win0_10.blk t).view.emb y : S8x2048x704.Idx) = ix3 (blk t) (row t (y 1)) (y 2) := by
    have hy : (y 0).val < 1 := (y 0).isLt
    funext x
    apply Fin.ext
    match x with
    | ⟨0, _⟩ => show win0_10.index t 0 * 1 + 1 * (y 0).val = t.val % 8; omega
    | ⟨1, _⟩ => show win0_10.index t 1 * 512 + 1 * (y 1).val = 512 * (t.val / 8) + (y 1).val; omega
    | ⟨2, _⟩ => show win0_10.index t 2 * 704 + 1 * (y 2).val = (y 2).val; omega
  rw [e0]
  rfl

/-- The run: the five arrays, and the arguments as they were. -/
theorem run : θ_run defs (onTc (τ := τ) (main (F := Ideal))) ⟨m, fun _ => 0, ρ⟩ (fun r => ∀ c : Dev nD,
      r.2.mem ((c : Thread nD τ).loc main_v0_0) = resX (A0 m c) (A1 m c) (A2 m c) (A3 m c) (A4 m c) (A5 m c)
      ∧ r.2.mem ((c : Thread nD τ).loc main_v0_1) = resH (A0 m c) (A1 m c) (A2 m c)
      ∧ r.2.mem ((c : Thread nD τ).loc main_v0_2) = resY (A0 m c) (A1 m c) (A2 m c) (A3 m c) (A4 m c) (A5 m c)
      ∧ r.2.mem ((c : Thread nD τ).loc main_v0_3) = resA (A0 m c) (A1 m c) (A2 m c) (A3 m c)
      ∧ r.2.mem ((c : Thread nD τ).loc main_v0_4) = resA (A0 m c) (A1 m c) (A2 m c) (A4 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)) :=
  (θ_run defs _ _).mono (fun r h c => ⟨((h c).1 6).trans (arr6 m c), ((h c).1 7).trans (arr7 m c), ((h c).1 8).trans (arr8 m c),
    ((h c).1 9).trans (arr9 m c), ((h c).1 10).trans (arr10 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c)))⟩) (run_main m ρ)

end Cert.Kernel6Ideal.Ffn

end
-- ==== Proof.FfnRef.lean ====
/-
  The reference's feed-forward layer, read at an index.
-/
module

public import proofs.«01_k».proof.Proof.FfnValue
public import proofs.«01_k».proof.Proof.Gen.Reference6Ideal.Read
public import Idealize.ShloMosaic.Lib.Pointwise

@[expose] public section

noncomputable section

namespace Cert.Reference6Ideal.Ffn

open Idealize.ShloMosaic Idealize.ShloMosaic.TcCoe Idealize.SL.Sem Idealize.ShloMosaic.StableHlo
open Cert.Reference6Ideal Cert.Reference6Ideal.Gen Cert.Reference6Ideal.Read
open Cert.Kernel6Ideal.Ffn (nrm tok hid gat add part resX resH resY resA)

variable (x0 : (⟨S2048x2048, .f32⟩ : BufTy).Contents (Elt Ideal)) (x1 : (⟨S1x3x2048, .f32⟩ : BufTy).Contents (Elt Ideal))
  (x2 : (⟨S1x2048, .f32⟩ : BufTy).Contents (Elt Ideal)) (x3 x4 x5 : (⟨S8x704x2048, .bf16⟩ : BufTy).Contents (Elt Ideal))

theorem val33 (r k : Fin 2048) : val_main_v33 (F := Ideal) x0 x1 x2 (ix2 r k) = tok x0 x1 x2 r k := by
  unfold val_main_v33 val_main_v32 val_main_v31 val_main_v30 val_main_v29 val_main_v28 val_main_cst_2 val_main_v27 val_main_v26 val_main_v25
    val_main_v24 val_main_v23 val_main_v22 val_main_v21 val_main_v20 val_main_cst_1 val_main_v19 val_main_v18 val_main_cst_0 val_main_v17
    val_main_v16 val_main_cst val_main_v15 val_main_v10 val_main_v9 val_main_v8 val_main_v7 val_main_v6 tok nrm
  pointwise

/-- Hidden column n of block j among all of them. -/
def col (j : Fin 8) (n : Fin 704) : Fin 5632 := ⟨j.val * 704 + n.val, by omega⟩

theorem wt3 (j : Fin 8) (n : Fin 704) (k : Fin 2048) : val_main_v13 (F := Ideal) x3 (ix2 k (col j n)) = x3 (ix3 j n k) := by
  rw [val_main_v13_apply, val_main_v1_apply]
  show x3 _ = x3 _
  congr 1
  funext x
  apply Fin.ext
  have hj := j.isLt
  have hn := n.isLt
  have hk := k.isLt
  match x with
  | ⟨0, _⟩ => show ((j.val * 704 + n.val) * 2048 + k.val) / 1441792 = j.val; omega
  | ⟨1, _⟩ => show ((j.val * 704 + n.val) * 2048 + k.val) / 2048 % 704 = n.val; omega
  | ⟨2, _⟩ => show ((j.val * 704 + n.val) * 2048 + k.val) % 2048 = k.val; omega

theorem wt4 (j : Fin 8) (n : Fin 704) (k : Fin 2048) : val_main_v14 (F := Ideal) x4 (ix2 k (col j n)) = x4 (ix3 j n k) := by
  rw [val_main_v14_apply, val_main_v3_apply]
  show x4 _ = x4 _
  congr 1
  funext x
  apply Fin.ext
  have hj := j.isLt
  have hn := n.isLt
  have hk := k.isLt
  match x with
  | ⟨0, _⟩ => show ((j.val * 704 + n.val) * 2048 + k.val) / 1441792 = j.val; omega
  | ⟨1, _⟩ => show ((j.val * 704 + n.val) * 2048 + k.val) / 2048 % 704 = n.val; omega
  | ⟨2, _⟩ => show ((j.val * 704 + n.val) * 2048 + k.val) % 2048 = k.val; omega

theorem wt5 (j : Fin 8) (n : Fin 704) (k : Fin 2048) : val_main_v5 (F := Ideal) x5 (ix2 (col j n) k) = x5 (ix3 j n k) := by
  rw [val_main_v5_apply]
  show x5 _ = x5 _
  congr 1
  funext x
  apply Fin.ext
  have hj := j.isLt
  have hn := n.isLt
  have hk := k.isLt
  match x with
  | ⟨0, _⟩ => show ((j.val * 704 + n.val) * 2048 + k.val) / 1441792 = j.val; omega
  | ⟨1, _⟩ => show ((j.val * 704 + n.val) * 2048 + k.val) / 2048 % 704 = n.val; omega
  | ⟨2, _⟩ => show ((j.val * 704 + n.val) * 2048 + k.val) % 2048 = k.val; omega

theorem val34 (j : Fin 8) (r : Fin 2048) (n : Fin 704) :
    val_main_v34 (F := Ideal) x0 x1 x2 x3 (ix2 r (col j n)) = hid x0 x1 x2 x3 j r n := by
  rw [val_main_v34_apply]
  refine Finset.sum_congr rfl fun k _ => ?_
  have el : lidx_main_v34 (ix2 r (col j n)) k = ix2 r k := eq_ix2 _
  have er : ridx_main_v34 (ix2 r (col j n)) k = ix2 k (col j n) := eq_ix2 _
  rw [el, er]
  exact congrArg₂ (fun a b : EReal => a * b) (val33 x0 x1 x2 r k) (wt3 x3 j n k)

theorem val35 (j : Fin 8) (r : Fin 2048) (n : Fin 704) :
    val_main_v35 (F := Ideal) x0 x1 x2 x4 (ix2 r (col j n)) = hid x0 x1 x2 x4 j r n := by
  rw [val_main_v35_apply]
  refine Finset.sum_congr rfl fun k _ => ?_
  have el : lidx_main_v35 (ix2 r (col j n)) k = ix2 r k := eq_ix2 _
  have er : ridx_main_v35 (ix2 r (col j n)) k = ix2 k (col j n) := eq_ix2 _
  rw [el, er]
  exact congrArg₂ (fun a b : EReal => a * b) (val33 x0 x1 x2 r k) (wt4 x4 j n k)

theorem val36 (r : Fin 2048) (q : Fin 5632) : val_main_v36 (F := Ideal) x0 x1 x2 x3 (ix2 r q)
    = (val_main_v34 (F := Ideal) x0 x1 x2 x3 (ix2 r q) : EReal) * Ideal.logistic (val_main_v34 (F := Ideal) x0 x1 x2 x3 (ix2 r q)) := by
  unfold val_main_v36 val_main_call0_v5 val_main_call0_v4 val_main_call0_cst_0 val_main_call0_v3 val_main_call0_v2 val_main_call0_cst
    val_main_call0_v1 val_main_call0_v0
  generalize val_main_v34 (F := Ideal) x0 x1 x2 x3 = y
  unfold Ideal.logistic
  pointwise

theorem val37 (j : Fin 8) (r : Fin 2048) (n : Fin 704) :
    val_main_v37 (F := Ideal) x0 x1 x2 x3 x4 (ix2 r (col j n)) = gat x0 x1 x2 x3 x4 j r n := by
  rw [val_main_v37_apply, val36, val34, val35]
  rfl

theorem part_eq (r k : Fin 2048) : part x0 x1 x2 x3 x4 x5 7 r k = ∑ j : Fin 8, add x0 x1 x2 x3 x4 x5 j r k := by
  refine (Fin.sum_univ_eq_sum_range (fun j => add x0 x1 x2 x3 x4 x5 ⟨j % 8, Nat.mod_lt _ (by decide)⟩ r k) 8).symm.trans
    (Finset.sum_congr rfl fun j _ => congrArg (fun j => add x0 x1 x2 x3 x4 x5 j r k) (Fin.ext (Nat.mod_eq_of_lt j.isLt)))

theorem val38 (r k : Fin 2048) : val_main_v38 (F := Ideal) x0 x1 x2 x3 x4 x5 (ix2 r k) = part x0 x1 x2 x3 x4 x5 7 r k := by
  rw [val_main_v38_apply, part_eq]
  refine (Fin.sum_univ_tiles 8 704 rfl _).trans (Finset.sum_congr rfl fun j _ => Finset.sum_congr rfl fun n _ => ?_)
  have el : lidx_main_v38 (ix2 r k) (col j n) = ix2 r (col j n) := eq_ix2 _
  have er : ridx_main_v38 (ix2 r k) (col j n) = ix2 (col j n) k := eq_ix2 _
  exact congrArg₂ (fun a b : EReal => a * b) ((congrArg _ el).trans (val37 x0 x1 x2 x3 x4 j r n)) ((congrArg _ er).trans (wt5 x5 j n k))

theorem fin43 : val_main_v43 (F := Ideal) x0 x1 x2 x3 x4 x5 = resX x0 x1 x2 x3 x4 x5 := by
  funext i
  rw [eq_ix2 i]
  generalize i 0 = r
  generalize i 1 = k
  have e := val38 x0 x1 x2 x3 x4 x5 r k
  unfold resX
  show _ = (x0 (ix2 r k) + _ * x1 (ix3 0 2 k) * part x0 x1 x2 x3 x4 x5 7 r k : EReal)
  rw [← e]
  unfold val_main_v43 val_main_v42 val_main_v41 val_main_v40 val_main_v39 val_main_cst_3 val_main_v12 val_main_v11
  generalize val_main_v38 (F := Ideal) x0 x1 x2 x3 x4 x5 = y
  pointwise

theorem fin44 : val_main_v44 (F := Ideal) x0 x1 x2 = resH x0 x1 x2 := by
  funext i
  exact (congrArg (val_main_v33 (F := Ideal) x0 x1 x2) (eq_ix2 i)).trans (val33 x0 x1 x2 (i 0) (i 1))

theorem fin45 : val_main_v45 (F := Ideal) x0 x1 x2 x3 x4 x5 = resY x0 x1 x2 x3 x4 x5 := by
  funext i
  exact (congrArg (val_main_v38 (F := Ideal) x0 x1 x2 x3 x4 x5) (eq_ix2 i)).trans (val38 x0 x1 x2 x3 x4 x5 (i 0) (i 1))

theorem fin48 : val_main_v48 (F := Ideal) x0 x1 x2 x3 = resA x0 x1 x2 x3 := by
  funext i
  rw [val_main_v48_apply, val_main_v47_apply, val_main_v46_apply]
  have e : idx_main_v46 (idx_main_v47 i) = ix2 (i 1) (col (i 0) (i 2)) := by
    have h0 : (i 0).val < 8 := (i 0).isLt
    have h1 : (i 1).val < 2048 := (i 1).isLt
    have h2 : (i 2).val < 704 := (i 2).isLt
    funext x
    apply Fin.ext
    match x with
    | ⟨0, _⟩ => show (((i 1).val * 8 + (i 0).val) * 704 + (i 2).val) / 5632 = (i 1).val; omega
    | ⟨1, _⟩ => show (((i 1).val * 8 + (i 0).val) * 704 + (i 2).val) % 5632 = (i 0).val * 704 + (i 2).val; omega
  exact (congrArg (val_main_v34 (F := Ideal) x0 x1 x2 x3) e).trans (val34 x0 x1 x2 x3 (i 0) (i 1) (i 2))

theorem fin51 : val_main_v51 (F := Ideal) x0 x1 x2 x4 = resA x0 x1 x2 x4 := by
  funext i
  rw [val_main_v51_apply, val_main_v50_apply, val_main_v49_apply]
  have e : idx_main_v49 (idx_main_v50 i) = ix2 (i 1) (col (i 0) (i 2)) := by
    have h0 : (i 0).val < 8 := (i 0).isLt
    have h1 : (i 1).val < 2048 := (i 1).isLt
    have h2 : (i 2).val < 704 := (i 2).isLt
    funext x
    apply Fin.ext
    match x with
    | ⟨0, _⟩ => show (((i 1).val * 8 + (i 0).val) * 704 + (i 2).val) / 5632 = (i 1).val; omega
    | ⟨1, _⟩ => show (((i 1).val * 8 + (i 0).val) * 704 + (i 2).val) % 5632 = (i 0).val * 704 + (i 2).val; omega
  exact (congrArg (val_main_v35 (F := Ideal) x0 x1 x2 x4) e).trans (val35 x0 x1 x2 x4 (i 0) (i 1) (i 2))

end Cert.Reference6Ideal.Ffn

end
-- ==== Proof.FfnClaims.lean ====
/-
  The claims for the feed-forward layer: from any arguments the two programs end with the same five arrays.
-/
module

public import proofs.«01_k».proof.Defs
public import proofs.«01_k».proof.Proof.Gen.Kernel6
public import proofs.«01_k».proof.Proof.FfnRef

@[expose] public section

noncomputable section

namespace Cert.Ffn6

open Idealize.ShloMosaic Idealize.ShloMosaic.TcCoe Idealize.SL.Sem
open Cert.Kernel6Ideal.Ffn (resX resH resY resA)

theorem frame_ki : Cert.quiescent_Kernel6Ideal (hKernel6Ideal := Cert.Kernel6Ideal.Gen.facts) := fun m ρ _ =>
  Cert.Kernel6Ideal.Ffn.frame (F := Ideal) m ρ

section
local instance : Cert.Kernel6.Facts := Cert.Kernel6.Gen.facts
local instance : Cert.Kernel6Ideal.Facts := Cert.Kernel6Ideal.Gen.facts

/-- The two kernels are one text. -/
theorem defs₀_eq : Cert.Kernel6.defs₀ (F := Bits) = Cert.Kernel6Ideal.defs₀ (F := Bits) := by
  unfold Cert.Kernel6.defs₀ Cert.Kernel6Ideal.defs₀
  congr 1
  funext a b
  match a, b with
  | 0, (t, s) => rfl

theorem defs_eq : Cert.Kernel6.defs (F := Bits) = Cert.Kernel6Ideal.defs (F := Bits) := by
  unfold Cert.Kernel6.defs Cert.Kernel6Ideal.defs
  exact congrArg (Pipeline.defs Cert.Kernel6Ideal.pcfgs) defs₀_eq
end

/-- So the run over any values is a run of either. -/
theorem frame_k : Cert.quiescent_Kernel6 (hKernel6 := Cert.Kernel6.Gen.facts) := by
  intro m ρ _
  rw [defs_eq]
  exact Cert.Kernel6Ideal.Ffn.frame (F := Bits) m ρ

theorem frame_ri : Cert.quiescent_Reference6Ideal (hReference6Ideal := Cert.Reference6Ideal.Gen.facts) := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

/-- From arguments that agree, both programs end with the same tokens, normalised tokens, output and hidden columns. -/
theorem algebraic : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => resX _ _ _ _ _ _, fun c => resH _ _ _, fun c => resY _ _ _ _ _ _, fun c => resA _ _ _ _, fun c => resA _ _ _ _,
    Cert.Kernel6Ideal.Ffn.run m ρ, ?_⟩
  refine (θ_run Cert.Reference6Ideal.defs _ _).mono (fun _ h c => ?_) (Cert.Reference6Ideal.Value.run (F := Ideal) m' ρ')
  obtain ⟨e0, e1, e2, e3, e4, rest⟩ := h c
  obtain ⟨g0, g1, g2, g3, g4, g5⟩ := hagree c
  refine ⟨e0.trans ?_, e1.trans ?_, e2.trans ?_, e3.trans ?_, e4.trans ?_, rest⟩
  · refine (Cert.Reference6Ideal.Read.val_main_v43_eq m' c).trans ((Cert.Reference6Ideal.Ffn.fin43 _ _ _ _ _ _).trans ?_)
    rw [g0, g1, g2, g3, g4, g5]
  · refine (Cert.Reference6Ideal.Read.val_main_v44_eq _ _ _).trans ((Cert.Reference6Ideal.Ffn.fin44 _ _ _).trans ?_)
    rw [g0, g1, g2]
  · refine (Cert.Reference6Ideal.Read.val_main_v45_eq m' c).trans ((Cert.Reference6Ideal.Ffn.fin45 _ _ _ _ _ _).trans ?_)
    rw [g0, g1, g2, g3, g4, g5]
  · refine (Cert.Reference6Ideal.Read.val_main_v48_eq _ _ _ _).trans ((Cert.Reference6Ideal.Ffn.fin48 _ _ _ _).trans ?_)
    rw [g0, g1, g2, g3]
  · refine (Cert.Reference6Ideal.Read.val_main_v51_eq _ _ _ _).trans ((Cert.Reference6Ideal.Ffn.fin51 _ _ _ _).trans ?_)
    rw [g0, g1, g2, g4]

end Cert.Ffn6

end
-- ==== Proof.BwdHead.lean ====
/-
  The body of the feed-forward's backward kernel runs in four cases: the first point of all (Z), the first hidden block of
  a later token tile (A), a block in between (B) and the last one of a tile (C). The runs, one module each, say what the
  body's stores leave in each buffer, as the list of the stored pieces, last first. Here: the cases' conditions, and what
  the runs need of the two loops.
-/
module

public import proofs.«01_k».proof.Proof.Gen.Kernel7Ideal.Frame
public import proofs.«01_k».proof.Proof.Gen.Kernel7Ideal.Skeleton
public import proofs.«01_k».proof.Proof.Gen.Kernel7Ideal.Loops
public import Idealize.ShloMosaic.Lib.Tactic
public import Idealize.ShloMosaic.Lib.WordCmp

@[expose] public section

set_option maxRecDepth 16384

noncomputable section

namespace Cert.Kernel7Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

/-- The buffer `a` of device `c` is owned whole and holds `x`. -/
abbrev own (c : Dev nD) {s : Shape} {e : EltTy} (a : Memref sig .tc .vmem s e) (x : s.Idx → Elt F e) : sProp 𝕄 :=
  owns (c : Thread nD τ) a fullShare x

/-- The point is the first one of its token tile. -/
abbrev first (i : grid0.Coords) : Prop := k0_cond1 i = 1#1
/-- The point is the first of all. -/
abbrev zero (i : grid0.Coords) : Prop := k0_cond2 i = 1#1
/-- The point is the last one of its token tile. -/
abbrev last (i : grid0.Coords) : Prop := k0_cond3 i = 1#1

theorem first_iff : ∀ t : Fin cfg0.N, first (grid0.coords t) ↔ t.val % 8 = 0 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [first, k0_cond1, e0, e1]
    word_cmp
   : ∀ t : Fin grid0.N, first (grid0.coords t) ↔ t.val % 8 = 0)

theorem zero_iff : ∀ t : Fin cfg0.N, zero (grid0.coords t) ↔ t.val = 0 := by decide +kernel

theorem last_iff : ∀ t : Fin cfg0.N, last (grid0.coords t) ↔ t.val % 8 = 7 :=
  (fun t => by
    have ht : t.val < 32 := Nat.lt_of_lt_of_eq t.isLt N_0
    have e0 : (grid0.coords t 0).val = t.val / 8 % 4 := Pipeline.Grid.coords_val t 0 (by decide) rfl
    have e1 : (grid0.coords t 1).val = t.val / 1 % 8 := Pipeline.Grid.coords_val t 1 (by decide) rfl
    simp only [last, k0_cond3, e0, e1]
    word_cmp
   : ∀ t : Fin grid0.N, last (grid0.coords t) ↔ t.val % 8 = 7)

variable (c : Dev nD) (i : grid0.Coords)
  (a2 : Memref sig .tc .vmem S512x2048 .f32) (u2 : a2.IsWhole)
  (a3 : Memref sig .tc .vmem S512x2048 .f32) (u3 : a3.IsWhole)
  (a4 : Memref sig .tc .vmem S512x2048 .bf16) (u4 : a4.IsWhole)
  (a5 : Memref sig .tc .vmem S1x512x704 .bf16) (u5 : a5.IsWhole)
  (a6 : Memref sig .tc .vmem S1x512x704 .bf16) (u6 : a6.IsWhole)
  (a7 : Memref sig .tc .vmem S1x3x2048 .f32) (u7 : a7.IsWhole)
  (a8 : Memref sig .tc .vmem S1x2048 .f32) (u8 : a8.IsWhole)
  (a9 : Memref sig .tc .vmem S1x704x2048 .bf16) (u9 : a9.IsWhole)
  (a10 : Memref sig .tc .vmem S1x704x2048 .bf16) (u10 : a10.IsWhole)
  (a11 : Memref sig .tc .vmem S1x704x2048 .bf16) (u11 : a11.IsWhole)
  (a12 : Memref sig .tc .vmem S512x2048 .f32) (u12 : a12.IsWhole)
  (a13 : Memref sig .tc .vmem S1x512x704 .bf16) (u13 : a13.IsWhole)
  (a14 : Memref sig .tc .vmem S1x512x704 .bf16) (u14 : a14.IsWhole)
  (a15 : Memref sig .tc .vmem S1x512x704 .bf16) (u15 : a15.IsWhole)
  (a16 : Memref sig .tc .vmem S1x8x2048 .f32) (u16 : a16.IsWhole)
  (a17 : Memref sig .tc .vmem S512x2048 .bf16) (u17 : a17.IsWhole)
  (a18 : Memref sig .tc .vmem S512x2048 .bf16) (u18 : a18.IsWhole)
  (a19 : Memref sig .tc .vmem S512x2048 .f32) (u19 : a19.IsWhole)
  (a20 : Memref sig .tc .vmem S512x704 .f32) (u20 : a20.IsWhole)

/-- The rows of the scaled gradients, read after the loop that stores them, are the stored ones. -/
theorem head_read (h : k0_cond1 i = 1#1) (X3 : BufTy.Contents (Elt F) a3.view.ty) (X7 : BufTy.Contents (Elt F) a7.view.ty)
    (f : BufTy.Contents (Elt F) a18.view.ty) (R : LoadRect S512x2048) :
    a18.view.readAt (Elt F) R (a18.view.writes (Elt F) f
        (pb_k0_t1 (F := F) Variants.none c none i a2 u2 a3 u3 a4 u4 a5 u5 a6 u6 a7 u7 a8 u8 a9 u9 a10 u10 a11 u11 a12 u12 a13 u13 a14 u14 a15 u15 a16 u16 a17 u17 a18 u18 a19 u19 a20 u20 h X3 X7 (Scf.trips k0_t1_loop.lb k0_t1_loop.ub k0_t1_loop.st)).2)
      = a18.view.readCov
        (pb_k0_t1 (F := F) Variants.none c none i a2 u2 a3 u3 a4 u4 a5 u5 a6 u6 a7 u7 a8 u8 a9 u9 a10 u10 a11 u11 a12 u12 a13 u13 a14 u14 a15 u15 a16 u16 a17 u17 a18 u18 a19 u19 a20 u20 h X3 X7 (Scf.trips k0_t1_loop.lb k0_t1_loop.ub k0_t1_loop.st)).2 R :=
  View.readAt_writes_of_cover _ f _ R fun j => View.cover_of_tiledL
    (pb_k0_t1 (F := F) Variants.none c none i a2 u2 a3 u3 a4 u4 a5 u5 a6 u6 a7 u7 a8 u8 a9 u9 a10 u10 a11 u11 a12 u12 a13 u13 a14 u14 a15 u15 a16 u16 a17 u17 a18 u18 a19 u19 a20 u20 h X3 X7 (Scf.trips k0_t1_loop.lb k0_t1_loop.ub k0_t1_loop.st)).2
    S128x2048.size (by sl_kernel_rfl) (R.idx j)

section loop2

variable (h : k0_cond3 i = 1#1) (X2 : BufTy.Contents (Elt F) a2.view.ty) (X3 : BufTy.Contents (Elt F) a3.view.ty)
  (X4 : BufTy.Contents (Elt F) a4.view.ty) (X7 : BufTy.Contents (Elt F) a7.view.ty) (X8 : BufTy.Contents (Elt F) a8.view.ty)
  (X19 : BufTy.Contents (Elt F) a19.view.ty)

/-- What a trip of the last loop stores doesn't depend on what it finds in the buffer of the gradient of `x`, -/
theorem trip_free (k : Fin k0_t2_loop.trips) (f g : BufTy.Contents (Elt F) a12.view.ty) (u : BufTy.Contents (Elt F) a16.view.ty) :
    tripL_k0_t2 (F := F) Variants.none c none i a2 u2 a3 u3 a4 u4 a5 u5 a6 u6 a7 u7 a8 u8 a9 u9 a10 u10 a11 u11 a12 u12 a13 u13 a14 u14 a15 u15 a16 u16 a17 u17 a18 u18 a19 u19 a20 u20 h X2 X3 X4 X7 X8 X19 k f u
      = tripL_k0_t2 (F := F) Variants.none c none i a2 u2 a3 u3 a4 u4 a5 u5 a6 u6 a7 u7 a8 u8 a9 u9 a10 u10 a11 u11 a12 u12 a13 u13 a14 u14 a15 u15 a16 u16 a17 u17 a18 u18 a19 u19 a20 u20 h X2 X3 X4 X7 X8 X19 k g u := by
  unfold tripL_k0_t2 trip_k0_t2; rfl

/-- nor does what the trips store together. -/
theorem pb_free (f g : BufTy.Contents (Elt F) a12.view.ty) (u : BufTy.Contents (Elt F) a16.view.ty) (n : ℕ) :
    (pb_k0_t2 (F := F) Variants.none c none i a2 u2 a3 u3 a4 u4 a5 u5 a6 u6 a7 u7 a8 u8 a9 u9 a10 u10 a11 u11 a12 u12 a13 u13 a14 u14 a15 u15 a16 u16 a17 u17 a18 u18 a19 u19 a20 u20 h X2 X3 X4 X7 X8 X19 f u n)
      = (pb_k0_t2 (F := F) Variants.none c none i a2 u2 a3 u3 a4 u4 a5 u5 a6 u6 a7 u7 a8 u8 a9 u9 a10 u10 a11 u11 a12 u12 a13 u13 a14 u14 a15 u15 a16 u16 a17 u17 a18 u18 a19 u19 a20 u20 h X2 X3 X4 X7 X8 X19 g u n) := by
  induction n with
  | zero => rfl
  | succ n ih =>
    rw [pb_k0_t2.eq_2, pb_k0_t2.eq_2, ih]
    unfold pb_k0_t2Step
    split
    · rw [trip_free c i a2 u2 a3 u3 a4 u4 a5 u5 a6 u6 a7 u7 a8 u8 a9 u9 a10 u10 a11 u11 a12 u12 a13 u13 a14 u14 a15 u15 a16 u16 a17 u17 a18 u18 a19 u19 a20 u20 h X2 X3 X4 X7 X8 X19 _ _ (a12.view.writes (Elt F) g (pb_k0_t2 (F := F) Variants.none c none i a2 u2 a3 u3 a4 u4 a5 u5 a6 u6 a7 u7 a8 u8 a9 u9 a10 u10 a11 u11 a12 u12 a13 u13 a14 u14 a15 u15 a16 u16 a17 u17 a18 u18 a19 u19 a20 u20 h X2 X3 X4 X7 X8 X19 g u n).1)]
    · rfl

end loop2

end Cert.Kernel7Ideal.Bwd

end
-- ==== Proof.BwdRunZ.lean ====
/-
  The run of the body of the feed-forward's backward kernel at the first point of all.
-/
module

public import proofs.«01_k».proof.Proof.BwdHead

@[expose] public section

set_option maxRecDepth 16384

noncomputable section

namespace Cert.Kernel7Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (c : Dev nD) (i : grid0.Coords)
  (a2 : Memref sig .tc .vmem S512x2048 .f32) (u2 : a2.IsWhole)
  (a3 : Memref sig .tc .vmem S512x2048 .f32) (u3 : a3.IsWhole)
  (a4 : Memref sig .tc .vmem S512x2048 .bf16) (u4 : a4.IsWhole)
  (a5 : Memref sig .tc .vmem S1x512x704 .bf16) (u5 : a5.IsWhole)
  (a6 : Memref sig .tc .vmem S1x512x704 .bf16) (u6 : a6.IsWhole)
  (a7 : Memref sig .tc .vmem S1x3x2048 .f32) (u7 : a7.IsWhole)
  (a8 : Memref sig .tc .vmem S1x2048 .f32) (u8 : a8.IsWhole)
  (a9 : Memref sig .tc .vmem S1x704x2048 .bf16) (u9 : a9.IsWhole)
  (a10 : Memref sig .tc .vmem S1x704x2048 .bf16) (u10 : a10.IsWhole)
  (a11 : Memref sig .tc .vmem S1x704x2048 .bf16) (u11 : a11.IsWhole)
  (a12 : Memref sig .tc .vmem S512x2048 .f32) (u12 : a12.IsWhole)
  (a13 : Memref sig .tc .vmem S1x512x704 .bf16) (u13 : a13.IsWhole)
  (a14 : Memref sig .tc .vmem S1x512x704 .bf16) (u14 : a14.IsWhole)
  (a15 : Memref sig .tc .vmem S1x512x704 .bf16) (u15 : a15.IsWhole)
  (a16 : Memref sig .tc .vmem S1x8x2048 .f32) (u16 : a16.IsWhole)
  (a17 : Memref sig .tc .vmem S512x2048 .bf16) (u17 : a17.IsWhole)
  (a18 : Memref sig .tc .vmem S512x2048 .bf16) (u18 : a18.IsWhole)
  (a19 : Memref sig .tc .vmem S512x2048 .f32) (u19 : a19.IsWhole)
  (a20 : Memref sig .tc .vmem S512x704 .f32) (u20 : a20.IsWhole)

set_option backward.proofsInPublic true in
set_option maxHeartbeats 2000000 in
/-- The body at the first point of all: it stores the scaled gradients and sets both sums to zero. -/
def runZ (hc0 : first i) (hc1 : zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) :
    Σ' (L13 : List (View.Piece (Elt F) S1x512x704 .bf16)), Σ' (L14 : List (View.Piece (Elt F) S1x512x704 .bf16)), Σ' (L15 : List (View.Piece (Elt F) S1x512x704 .bf16)), Σ' (L16 : List (View.Piece (Elt F) S1x8x2048 .f32)), Σ' (L17 : List (View.Piece (Elt F) S512x2048 .bf16)), Σ' (L18 : List (View.Piece (Elt F) S512x2048 .bf16)), { L19 : List (View.Piece (Elt F) S512x2048 .f32) //
      ∀ (y12 : Vec F S512x2048 .f32) (E : Set ℕ) (K : PUnit → sProp 𝕄),
        iprop(own c a2 x0 ∗ own c a3 x1 ∗ own c a4 x2 ∗ own c a5 x3 ∗ own c a6 x4 ∗ own c a7 x5 ∗ own c a8 x6 ∗ own c a9 x7 ∗ own c a10 x8 ∗ own c a11 x9 ∗ own c a12 y12 ∗ (∃ d, own c a13 d) ∗ (∃ d, own c a14 d) ∗ (∃ d, own c a15 d) ∗ (∃ d, own c a16 d) ∗ (∃ d, own c a17 d) ∗ (∃ d, own c a18 d) ∗ (∃ d, own c a19 d) ∗ (∃ d, own c a20 d)
            ∗ (iprop(own c a2 x0 ∗ own c a3 x1 ∗ own c a4 x2 ∗ own c a5 x3 ∗ own c a6 x4 ∗ own c a7 x5 ∗ own c a8 x6 ∗ own c a9 x7 ∗ own c a10 x8 ∗ own c a11 x9 ∗ own c a12 y12 ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ (∃ f, a16.view.loc (c : Thread nD τ) ↦[a16.view.set]{fullShare} a16.view.writes (Elt F) f L16) ∗ (∃ f, a17.view.loc (c : Thread nD τ) ↦[a17.view.set]{fullShare} a17.view.writes (Elt F) f L17) ∗ (∃ f, a18.view.loc (c : Thread nD τ) ↦[a18.view.set]{fullShare} a18.view.writes (Elt F) f L18) ∗ (∃ f, a19.view.loc (c : Thread nD τ) ↦[a19.view.set]{fullShare} a19.view.writes (Elt F) f L19) ∗ (∃ d, own c a20 d)) -∗ K ⟨⟩))
          ⊢ wp frame (wpE (defs₀ (F := F)) Variants.none c none) E (cc0_ffn_bwd i a2 u2 a3 u3 a4 u4 a5 u5 a6 u6 a7 u7 a8 u8 a9 u9 a10 u10 a11 u11 a12 u12 a13 u13 a14 u14 a15 u15 a16 u16 a17 u17 a18 u18 a19 u19 a20 u20) K } := by
  refine ⟨?_, ?_, ?_, ?_, ?_, ?_, ?_, fun y12 E K => ?run⟩
  case run =>
    simp only [cc0_ffn_bwd_eq_skeleton]; unfold cc0_ffn_bwd_skel
    simp only [k0_part3_eq_skeleton, k0_part4_eq_skeleton, k0_part5_eq_skeleton, k0_part6_eq_skeleton, k0_part7_eq_skeleton]
    unfold own owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
    obtain rfl := u2.eq_unread hf2; obtain rfl := u3.eq_unread hf3; obtain rfl := u4.eq_unread hf4; obtain rfl := u5.eq_unread hf5; obtain rfl := u6.eq_unread hf6; obtain rfl := u7.eq_unread hf7; obtain rfl := u8.eq_unread hf8; obtain rfl := u9.eq_unread hf9; obtain rfl := u10.eq_unread hf10; obtain rfl := u11.eq_unread hf11; obtain rfl := u12.eq_unread hf12
    have hrd := head_read (F := F) c i a2 u2 a3 u3 a4 u4 a5 u5 a6 u6 a7 u7 a8 u8 a9 u9 a10 u10 a11 u11 a12 u12 a13 u13 a14 u14 a15 u15 a16 u16 a17 u17 a18 u18 a19 u19 a20 u20
    sl_exec (disch := first | sl_exact hc0 | sl_exact hc1 | sl_exact hc2)
    sl_step
    iapply Hk
    isplitl [H2]
    · iexists _; isplitr; · ipureintro; exact u2.read_unread _
      iexact H2
    isplitl [H3]
    · iexists _; isplitr; · ipureintro; exact u3.read_unread _
      iexact H3
    isplitl [H4]
    · iexists _; isplitr; · ipureintro; exact u4.read_unread _
      iexact H4
    isplitl [H5]
    · iexists _; isplitr; · ipureintro; exact u5.read_unread _
      iexact H5
    isplitl [H6]
    · iexists _; isplitr; · ipureintro; exact u6.read_unread _
      iexact H6
    isplitl [H7]
    · iexists _; isplitr; · ipureintro; exact u7.read_unread _
      iexact H7
    isplitl [H8]
    · iexists _; isplitr; · ipureintro; exact u8.read_unread _
      iexact H8
    isplitl [H9]
    · iexists _; isplitr; · ipureintro; exact u9.read_unread _
      iexact H9
    isplitl [H10]
    · iexists _; isplitr; · ipureintro; exact u10.read_unread _
      iexact H10
    isplitl [H11]
    · iexists _; isplitr; · ipureintro; exact u11.read_unread _
      iexact H11
    isplitl [H12]
    · iexists _; isplitr; · ipureintro; exact u12.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    iexists _, _; isplitr; swap; · iexact H20
    ipureintro; rfl

theorem coverZ13 (hc0 : first i) (hc1 : zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (y : S1x512x704.Idx) :
    ∃ pc ∈ (runZ c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9).1, y ∈ pc.1.set :=
  View.cover_of_tiledL (s := S1x512x704) _ S1x128x704.size (by sl_kernel_rfl) y

theorem coverZ14 (hc0 : first i) (hc1 : zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (y : S1x512x704.Idx) :
    ∃ pc ∈ (runZ c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9).2.1, y ∈ pc.1.set :=
  View.cover_of_tiledL (s := S1x512x704) _ S1x128x704.size (by sl_kernel_rfl) y

theorem coverZ15 (hc0 : first i) (hc1 : zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (y : S1x512x704.Idx) :
    ∃ pc ∈ (runZ c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9).2.2.1, y ∈ pc.1.set :=
  View.cover_of_tiledL (s := S1x512x704) _ S1x128x704.size (by sl_kernel_rfl) y

theorem coverZ16 (hc0 : first i) (hc1 : zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (y : S1x8x2048.Idx) :
    ∃ pc ∈ (runZ c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9).2.2.2.1, y ∈ pc.1.set :=
  View.cover_of_tiledL (s := S1x8x2048) _ S1x8x2048.size (by sl_kernel_rfl) y

theorem coverZ17 (hc0 : first i) (hc1 : zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (y : S512x2048.Idx) :
    ∃ pc ∈ (runZ c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9).2.2.2.2.1, y ∈ pc.1.set :=
  View.cover_of_tiledL (s := S512x2048) _ S128x2048.size (by sl_kernel_rfl) y

theorem coverZ18 (hc0 : first i) (hc1 : zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (y : S512x2048.Idx) :
    ∃ pc ∈ (runZ c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9).2.2.2.2.2.1, y ∈ pc.1.set :=
  View.cover_of_tiledL (s := S512x2048) _ S128x2048.size (by sl_kernel_rfl) y

theorem coverZ19 (hc0 : first i) (hc1 : zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (y : S512x2048.Idx) :
    ∃ pc ∈ (runZ c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9).2.2.2.2.2.2.1, y ∈ pc.1.set :=
  View.cover_of_tiledL (s := S512x2048) _ S256x2048.size (by sl_kernel_rfl) y

end Cert.Kernel7Ideal.Bwd

end
-- ==== Proof.BwdRunA.lean ====
/-
  The run of the body of the feed-forward's backward kernel at the first hidden block of a later tile.
-/
module

public import proofs.«01_k».proof.Proof.BwdHead

@[expose] public section

set_option maxRecDepth 16384

noncomputable section

namespace Cert.Kernel7Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (c : Dev nD) (i : grid0.Coords)
  (a2 : Memref sig .tc .vmem S512x2048 .f32) (u2 : a2.IsWhole)
  (a3 : Memref sig .tc .vmem S512x2048 .f32) (u3 : a3.IsWhole)
  (a4 : Memref sig .tc .vmem S512x2048 .bf16) (u4 : a4.IsWhole)
  (a5 : Memref sig .tc .vmem S1x512x704 .bf16) (u5 : a5.IsWhole)
  (a6 : Memref sig .tc .vmem S1x512x704 .bf16) (u6 : a6.IsWhole)
  (a7 : Memref sig .tc .vmem S1x3x2048 .f32) (u7 : a7.IsWhole)
  (a8 : Memref sig .tc .vmem S1x2048 .f32) (u8 : a8.IsWhole)
  (a9 : Memref sig .tc .vmem S1x704x2048 .bf16) (u9 : a9.IsWhole)
  (a10 : Memref sig .tc .vmem S1x704x2048 .bf16) (u10 : a10.IsWhole)
  (a11 : Memref sig .tc .vmem S1x704x2048 .bf16) (u11 : a11.IsWhole)
  (a12 : Memref sig .tc .vmem S512x2048 .f32) (u12 : a12.IsWhole)
  (a13 : Memref sig .tc .vmem S1x512x704 .bf16) (u13 : a13.IsWhole)
  (a14 : Memref sig .tc .vmem S1x512x704 .bf16) (u14 : a14.IsWhole)
  (a15 : Memref sig .tc .vmem S1x512x704 .bf16) (u15 : a15.IsWhole)
  (a16 : Memref sig .tc .vmem S1x8x2048 .f32) (u16 : a16.IsWhole)
  (a17 : Memref sig .tc .vmem S512x2048 .bf16) (u17 : a17.IsWhole)
  (a18 : Memref sig .tc .vmem S512x2048 .bf16) (u18 : a18.IsWhole)
  (a19 : Memref sig .tc .vmem S512x2048 .f32) (u19 : a19.IsWhole)
  (a20 : Memref sig .tc .vmem S512x704 .f32) (u20 : a20.IsWhole)

set_option backward.proofsInPublic true in
set_option maxHeartbeats 2000000 in
/-- The body at the first hidden block of a later tile. -/
def runA (hc0 : first i) (hc1 : ¬zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) :
    Σ' (L13 : List (View.Piece (Elt F) S1x512x704 .bf16)), Σ' (L14 : List (View.Piece (Elt F) S1x512x704 .bf16)), Σ' (L15 : List (View.Piece (Elt F) S1x512x704 .bf16)), Σ' (L17 : List (View.Piece (Elt F) S512x2048 .bf16)), Σ' (L18 : List (View.Piece (Elt F) S512x2048 .bf16)), { L19 : List (View.Piece (Elt F) S512x2048 .f32) //
      ∀ (y12 : Vec F S512x2048 .f32) (y16 : Vec F S1x8x2048 .f32) (E : Set ℕ) (K : PUnit → sProp 𝕄),
        iprop(own c a2 x0 ∗ own c a3 x1 ∗ own c a4 x2 ∗ own c a5 x3 ∗ own c a6 x4 ∗ own c a7 x5 ∗ own c a8 x6 ∗ own c a9 x7 ∗ own c a10 x8 ∗ own c a11 x9 ∗ own c a12 y12 ∗ (∃ d, own c a13 d) ∗ (∃ d, own c a14 d) ∗ (∃ d, own c a15 d) ∗ own c a16 y16 ∗ (∃ d, own c a17 d) ∗ (∃ d, own c a18 d) ∗ (∃ d, own c a19 d) ∗ (∃ d, own c a20 d)
            ∗ (iprop(own c a2 x0 ∗ own c a3 x1 ∗ own c a4 x2 ∗ own c a5 x3 ∗ own c a6 x4 ∗ own c a7 x5 ∗ own c a8 x6 ∗ own c a9 x7 ∗ own c a10 x8 ∗ own c a11 x9 ∗ own c a12 y12 ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ own c a16 y16 ∗ (∃ f, a17.view.loc (c : Thread nD τ) ↦[a17.view.set]{fullShare} a17.view.writes (Elt F) f L17) ∗ (∃ f, a18.view.loc (c : Thread nD τ) ↦[a18.view.set]{fullShare} a18.view.writes (Elt F) f L18) ∗ (∃ f, a19.view.loc (c : Thread nD τ) ↦[a19.view.set]{fullShare} a19.view.writes (Elt F) f L19) ∗ (∃ d, own c a20 d)) -∗ K ⟨⟩))
          ⊢ wp frame (wpE (defs₀ (F := F)) Variants.none c none) E (cc0_ffn_bwd i a2 u2 a3 u3 a4 u4 a5 u5 a6 u6 a7 u7 a8 u8 a9 u9 a10 u10 a11 u11 a12 u12 a13 u13 a14 u14 a15 u15 a16 u16 a17 u17 a18 u18 a19 u19 a20 u20) K } := by
  refine ⟨?_, ?_, ?_, ?_, ?_, ?_, fun y12 y16 E K => ?run⟩
  case run =>
    simp only [cc0_ffn_bwd_eq_skeleton]; unfold cc0_ffn_bwd_skel
    simp only [k0_part3_eq_skeleton, k0_part4_eq_skeleton, k0_part5_eq_skeleton, k0_part6_eq_skeleton, k0_part7_eq_skeleton]
    unfold own owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%d17, %f17, -, H17⟩, ⟨%d18, %f18, -, H18⟩, ⟨%d19, %f19, -, H19⟩, ⟨%d20, %f20, -, H20⟩, Hk⟩
    obtain rfl := u2.eq_unread hf2; obtain rfl := u3.eq_unread hf3; obtain rfl := u4.eq_unread hf4; obtain rfl := u5.eq_unread hf5; obtain rfl := u6.eq_unread hf6; obtain rfl := u7.eq_unread hf7; obtain rfl := u8.eq_unread hf8; obtain rfl := u9.eq_unread hf9; obtain rfl := u10.eq_unread hf10; obtain rfl := u11.eq_unread hf11; obtain rfl := u12.eq_unread hf12; obtain rfl := u16.eq_unread hf16
    have hrd := head_read (F := F) c i a2 u2 a3 u3 a4 u4 a5 u5 a6 u6 a7 u7 a8 u8 a9 u9 a10 u10 a11 u11 a12 u12 a13 u13 a14 u14 a15 u15 a16 u16 a17 u17 a18 u18 a19 u19 a20 u20
    sl_exec (disch := first | sl_exact hc0 | sl_exact hc1 | sl_exact hc2)
    sl_step
    iapply Hk
    isplitl [H2]
    · iexists _; isplitr; · ipureintro; exact u2.read_unread _
      iexact H2
    isplitl [H3]
    · iexists _; isplitr; · ipureintro; exact u3.read_unread _
      iexact H3
    isplitl [H4]
    · iexists _; isplitr; · ipureintro; exact u4.read_unread _
      iexact H4
    isplitl [H5]
    · iexists _; isplitr; · ipureintro; exact u5.read_unread _
      iexact H5
    isplitl [H6]
    · iexists _; isplitr; · ipureintro; exact u6.read_unread _
      iexact H6
    isplitl [H7]
    · iexists _; isplitr; · ipureintro; exact u7.read_unread _
      iexact H7
    isplitl [H8]
    · iexists _; isplitr; · ipureintro; exact u8.read_unread _
      iexact H8
    isplitl [H9]
    · iexists _; isplitr; · ipureintro; exact u9.read_unread _
      iexact H9
    isplitl [H10]
    · iexists _; isplitr; · ipureintro; exact u10.read_unread _
      iexact H10
    isplitl [H11]
    · iexists _; isplitr; · ipureintro; exact u11.read_unread _
      iexact H11
    isplitl [H12]
    · iexists _; isplitr; · ipureintro; exact u12.read_unread _
      iexact H12
    isplitl [H13]; · iexists _; iexact H13
    isplitl [H14]; · iexists _; iexact H14
    isplitl [H15]; · iexists _; iexact H15
    isplitl [H16]
    · iexists _; isplitr; · ipureintro; exact u16.read_unread _
      iexact H16
    isplitl [H17]; · iexists _; iexact H17
    isplitl [H18]; · iexists _; iexact H18
    isplitl [H19]; · iexists _; iexact H19
    iexists _, _; isplitr; swap; · iexact H20
    ipureintro; rfl

theorem coverA13 (hc0 : first i) (hc1 : ¬zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (y : S1x512x704.Idx) :
    ∃ pc ∈ (runA c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9).1, y ∈ pc.1.set :=
  View.cover_of_tiledL (s := S1x512x704) _ S1x128x704.size (by sl_kernel_rfl) y

theorem coverA14 (hc0 : first i) (hc1 : ¬zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (y : S1x512x704.Idx) :
    ∃ pc ∈ (runA c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9).2.1, y ∈ pc.1.set :=
  View.cover_of_tiledL (s := S1x512x704) _ S1x128x704.size (by sl_kernel_rfl) y

theorem coverA15 (hc0 : first i) (hc1 : ¬zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (y : S1x512x704.Idx) :
    ∃ pc ∈ (runA c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9).2.2.1, y ∈ pc.1.set :=
  View.cover_of_tiledL (s := S1x512x704) _ S1x128x704.size (by sl_kernel_rfl) y

theorem coverA17 (hc0 : first i) (hc1 : ¬zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (y : S512x2048.Idx) :
    ∃ pc ∈ (runA c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9).2.2.2.1, y ∈ pc.1.set :=
  View.cover_of_tiledL (s := S512x2048) _ S128x2048.size (by sl_kernel_rfl) y

theorem coverA18 (hc0 : first i) (hc1 : ¬zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (y : S512x2048.Idx) :
    ∃ pc ∈ (runA c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9).2.2.2.2.1, y ∈ pc.1.set :=
  View.cover_of_tiledL (s := S512x2048) _ S128x2048.size (by sl_kernel_rfl) y

theorem coverA19 (hc0 : first i) (hc1 : ¬zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (y : S512x2048.Idx) :
    ∃ pc ∈ (runA c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9).2.2.2.2.2.1, y ∈ pc.1.set :=
  View.cover_of_tiledL (s := S512x2048) _ S256x2048.size (by sl_kernel_rfl) y

end Cert.Kernel7Ideal.Bwd

end
-- ==== Proof.BwdRunB.lean ====
/-
  The run of the body of the feed-forward's backward kernel at a hidden block in between.
-/
module

public import proofs.«01_k».proof.Proof.BwdHead

@[expose] public section

set_option maxRecDepth 16384

noncomputable section

namespace Cert.Kernel7Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (c : Dev nD) (i : grid0.Coords)
  (a2 : Memref sig .tc .vmem S512x2048 .f32) (u2 : a2.IsWhole)
  (a3 : Memref sig .tc .vmem S512x2048 .f32) (u3 : a3.IsWhole)
  (a4 : Memref sig .tc .vmem S512x2048 .bf16) (u4 : a4.IsWhole)
  (a5 : Memref sig .tc .vmem S1x512x704 .bf16) (u5 : a5.IsWhole)
  (a6 : Memref sig .tc .vmem S1x512x704 .bf16) (u6 : a6.IsWhole)
  (a7 : Memref sig .tc .vmem S1x3x2048 .f32) (u7 : a7.IsWhole)
  (a8 : Memref sig .tc .vmem S1x2048 .f32) (u8 : a8.IsWhole)
  (a9 : Memref sig .tc .vmem S1x704x2048 .bf16) (u9 : a9.IsWhole)
  (a10 : Memref sig .tc .vmem S1x704x2048 .bf16) (u10 : a10.IsWhole)
  (a11 : Memref sig .tc .vmem S1x704x2048 .bf16) (u11 : a11.IsWhole)
  (a12 : Memref sig .tc .vmem S512x2048 .f32) (u12 : a12.IsWhole)
  (a13 : Memref sig .tc .vmem S1x512x704 .bf16) (u13 : a13.IsWhole)
  (a14 : Memref sig .tc .vmem S1x512x704 .bf16) (u14 : a14.IsWhole)
  (a15 : Memref sig .tc .vmem S1x512x704 .bf16) (u15 : a15.IsWhole)
  (a16 : Memref sig .tc .vmem S1x8x2048 .f32) (u16 : a16.IsWhole)
  (a17 : Memref sig .tc .vmem S512x2048 .bf16) (u17 : a17.IsWhole)
  (a18 : Memref sig .tc .vmem S512x2048 .bf16) (u18 : a18.IsWhole)
  (a19 : Memref sig .tc .vmem S512x2048 .f32) (u19 : a19.IsWhole)
  (a20 : Memref sig .tc .vmem S512x704 .f32) (u20 : a20.IsWhole)

set_option backward.proofsInPublic true in
set_option maxHeartbeats 2000000 in
/-- The body at a hidden block in between. -/
def runB (hc0 : ¬first i) (hc1 : ¬zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (s0 : Vec F S512x2048 .bf16) (s1 : Vec F S512x2048 .f32) :
    Σ' (L13 : List (View.Piece (Elt F) S1x512x704 .bf16)), Σ' (L14 : List (View.Piece (Elt F) S1x512x704 .bf16)), Σ' (L15 : List (View.Piece (Elt F) S1x512x704 .bf16)), { L19 : List (View.Piece (Elt F) S512x2048 .f32) //
      ∀ (y12 : Vec F S512x2048 .f32) (y16 : Vec F S1x8x2048 .f32) (y17 : Vec F S512x2048 .bf16) (E : Set ℕ) (K : PUnit → sProp 𝕄),
        iprop(own c a2 x0 ∗ own c a3 x1 ∗ own c a4 x2 ∗ own c a5 x3 ∗ own c a6 x4 ∗ own c a7 x5 ∗ own c a8 x6 ∗ own c a9 x7 ∗ own c a10 x8 ∗ own c a11 x9 ∗ own c a12 y12 ∗ (∃ d, own c a13 d) ∗ (∃ d, own c a14 d) ∗ (∃ d, own c a15 d) ∗ own c a16 y16 ∗ own c a17 y17 ∗ own c a18 s0 ∗ own c a19 s1 ∗ (∃ d, own c a20 d)
            ∗ (iprop(own c a2 x0 ∗ own c a3 x1 ∗ own c a4 x2 ∗ own c a5 x3 ∗ own c a6 x4 ∗ own c a7 x5 ∗ own c a8 x6 ∗ own c a9 x7 ∗ own c a10 x8 ∗ own c a11 x9 ∗ own c a12 y12 ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ own c a16 y16 ∗ own c a17 y17 ∗ own c a18 s0 ∗ (∃ f, a19.view.loc (c : Thread nD τ) ↦[a19.view.set]{fullShare} a19.view.writes (Elt F) f L19) ∗ (∃ d, own c a20 d)) -∗ K ⟨⟩))
          ⊢ wp frame (wpE (defs₀ (F := F)) Variants.none c none) E (cc0_ffn_bwd i a2 u2 a3 u3 a4 u4 a5 u5 a6 u6 a7 u7 a8 u8 a9 u9 a10 u10 a11 u11 a12 u12 a13 u13 a14 u14 a15 u15 a16 u16 a17 u17 a18 u18 a19 u19 a20 u20) K } := by
  refine ⟨?_, ?_, ?_, ?_, fun y12 y16 y17 E K => ?run⟩
  case run =>
    simp only [cc0_ffn_bwd_eq_skeleton]; unfold cc0_ffn_bwd_skel
    simp only [k0_part3_eq_skeleton, k0_part4_eq_skeleton, k0_part5_eq_skeleton, k0_part6_eq_skeleton, k0_part7_eq_skeleton]
    unfold own owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%d20, %f20, -, H20⟩, Hk⟩
    obtain rfl := u2.eq_unread hf2; obtain rfl := u3.eq_unread hf3; obtain rfl := u4.eq_unread hf4; obtain rfl := u5.eq_unread hf5; obtain rfl := u6.eq_unread hf6; obtain rfl := u7.eq_unread hf7; obtain rfl := u8.eq_unread hf8; obtain rfl := u9.eq_unread hf9; obtain rfl := u10.eq_unread hf10; obtain rfl := u11.eq_unread hf11; obtain rfl := u12.eq_unread hf12; obtain rfl := u16.eq_unread hf16; obtain rfl := u17.eq_unread hf17; obtain rfl := u18.eq_unread hf18; obtain rfl := u19.eq_unread hf19
    sl_exec (disch := first | sl_exact hc0 | sl_exact hc1 | sl_exact hc2)
    sl_step
    iapply Hk
    isplitl [H2]
    · iexists _; isplitr; · ipureintro; exact u2.read_unread _
      iexact H2
    isplitl [H3]
    · iexists _; isplitr; · ipureintro; exact u3.read_unread _
      iexact H3
    isplitl [H4]
    · iexists _; isplitr; · ipureintro; exact u4.read_unread _
      iexact H4
    isplitl [H5]
    · iexists _; isplitr; · ipureintro; exact u5.read_unread _
      iexact H5
    isplitl [H6]
    · iexists _; isplitr; · ipureintro; exact u6.read_unread _
      iexact H6
    isplitl [H7]
    · iexists _; isplitr; · ipureintro; exact u7.read_unread _
      iexact H7
    isplitl [H8]
    · iexists _; isplitr; · ipureintro; exact u8.read_unread _
      iexact H8
    isplitl [H9]
    · iexists _; isplitr; · ipureintro; exact u9.read_unread _
      iexact H9
    isplitl [H10]
    · iexists _; isplitr; · ipureintro; exact u10.read_unread _
      iexact H10
    isplitl [H11]
    · iexists _; isplitr; · ipureintro; exact u11.read_unread _
      iexact H11
    isplitl [H12]
    · iexists _; isplitr; · ipureintro; exact u12.read_unread _
      iexact H12
    isplitl [H13]; · iexists _; iexact H13
    isplitl [H14]; · iexists _; iexact H14
    isplitl [H15]; · iexists _; iexact H15
    isplitl [H16]
    · iexists _; isplitr; · ipureintro; exact u16.read_unread _
      iexact H16
    isplitl [H17]
    · iexists _; isplitr; · ipureintro; exact u17.read_unread _
      iexact H17
    isplitl [H18]
    · iexists _; isplitr; · ipureintro; exact u18.read_unread _
      iexact H18
    isplitl [H19]; · iexists _; iexact H19
    iexists _, _; isplitr; swap; · iexact H20
    ipureintro; rfl

theorem coverB13 (hc0 : ¬first i) (hc1 : ¬zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (s0 : Vec F S512x2048 .bf16) (s1 : Vec F S512x2048 .f32) (y : S1x512x704.Idx) :
    ∃ pc ∈ (runB c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9 s0 s1).1, y ∈ pc.1.set :=
  View.cover_of_tiledL (s := S1x512x704) _ S1x128x704.size (by sl_kernel_rfl) y

theorem coverB14 (hc0 : ¬first i) (hc1 : ¬zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (s0 : Vec F S512x2048 .bf16) (s1 : Vec F S512x2048 .f32) (y : S1x512x704.Idx) :
    ∃ pc ∈ (runB c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9 s0 s1).2.1, y ∈ pc.1.set :=
  View.cover_of_tiledL (s := S1x512x704) _ S1x128x704.size (by sl_kernel_rfl) y

theorem coverB15 (hc0 : ¬first i) (hc1 : ¬zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (s0 : Vec F S512x2048 .bf16) (s1 : Vec F S512x2048 .f32) (y : S1x512x704.Idx) :
    ∃ pc ∈ (runB c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9 s0 s1).2.2.1, y ∈ pc.1.set :=
  View.cover_of_tiledL (s := S1x512x704) _ S1x128x704.size (by sl_kernel_rfl) y

theorem coverB19 (hc0 : ¬first i) (hc1 : ¬zero i) (hc2 : ¬last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (s0 : Vec F S512x2048 .bf16) (s1 : Vec F S512x2048 .f32) (y : S512x2048.Idx) :
    ∃ pc ∈ (runB c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9 s0 s1).2.2.2.1, y ∈ pc.1.set :=
  View.cover_of_tiledL (s := S512x2048) _ S256x2048.size (by sl_kernel_rfl) y

end Cert.Kernel7Ideal.Bwd

end
-- ==== Proof.BwdRunC.lean ====
/-
  The run of the body of the feed-forward's backward kernel at the last hidden block of a tile.
-/
module

public import proofs.«01_k».proof.Proof.BwdHead

@[expose] public section

set_option maxRecDepth 16384

noncomputable section

namespace Cert.Kernel7Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

variable (c : Dev nD) (i : grid0.Coords)
  (a2 : Memref sig .tc .vmem S512x2048 .f32) (u2 : a2.IsWhole)
  (a3 : Memref sig .tc .vmem S512x2048 .f32) (u3 : a3.IsWhole)
  (a4 : Memref sig .tc .vmem S512x2048 .bf16) (u4 : a4.IsWhole)
  (a5 : Memref sig .tc .vmem S1x512x704 .bf16) (u5 : a5.IsWhole)
  (a6 : Memref sig .tc .vmem S1x512x704 .bf16) (u6 : a6.IsWhole)
  (a7 : Memref sig .tc .vmem S1x3x2048 .f32) (u7 : a7.IsWhole)
  (a8 : Memref sig .tc .vmem S1x2048 .f32) (u8 : a8.IsWhole)
  (a9 : Memref sig .tc .vmem S1x704x2048 .bf16) (u9 : a9.IsWhole)
  (a10 : Memref sig .tc .vmem S1x704x2048 .bf16) (u10 : a10.IsWhole)
  (a11 : Memref sig .tc .vmem S1x704x2048 .bf16) (u11 : a11.IsWhole)
  (a12 : Memref sig .tc .vmem S512x2048 .f32) (u12 : a12.IsWhole)
  (a13 : Memref sig .tc .vmem S1x512x704 .bf16) (u13 : a13.IsWhole)
  (a14 : Memref sig .tc .vmem S1x512x704 .bf16) (u14 : a14.IsWhole)
  (a15 : Memref sig .tc .vmem S1x512x704 .bf16) (u15 : a15.IsWhole)
  (a16 : Memref sig .tc .vmem S1x8x2048 .f32) (u16 : a16.IsWhole)
  (a17 : Memref sig .tc .vmem S512x2048 .bf16) (u17 : a17.IsWhole)
  (a18 : Memref sig .tc .vmem S512x2048 .bf16) (u18 : a18.IsWhole)
  (a19 : Memref sig .tc .vmem S512x2048 .f32) (u19 : a19.IsWhole)
  (a20 : Memref sig .tc .vmem S512x704 .f32) (u20 : a20.IsWhole)

set_option backward.proofsInPublic true in
set_option maxHeartbeats 2000000 in
/-- The body at the last hidden block of a tile: it stores the gradient of `x` and adds to the sums over the tokens. -/
def runC (hc0 : ¬first i) (hc1 : ¬zero i) (hc2 : last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (s0 : Vec F S512x2048 .bf16) (s1 : Vec F S512x2048 .f32) (r : Vec F S1x8x2048 .f32) :
    Σ' (L12 : List (View.Piece (Elt F) S512x2048 .f32)), Σ' (L13 : List (View.Piece (Elt F) S1x512x704 .bf16)), Σ' (L14 : List (View.Piece (Elt F) S1x512x704 .bf16)), Σ' (L15 : List (View.Piece (Elt F) S1x512x704 .bf16)), Σ' (L16 : List (View.Piece (Elt F) S1x8x2048 .f32)), { L19 : List (View.Piece (Elt F) S512x2048 .f32) //
      ∀ (y17 : Vec F S512x2048 .bf16) (E : Set ℕ) (K : PUnit → sProp 𝕄),
        iprop(own c a2 x0 ∗ own c a3 x1 ∗ own c a4 x2 ∗ own c a5 x3 ∗ own c a6 x4 ∗ own c a7 x5 ∗ own c a8 x6 ∗ own c a9 x7 ∗ own c a10 x8 ∗ own c a11 x9 ∗ (∃ d, own c a12 d) ∗ (∃ d, own c a13 d) ∗ (∃ d, own c a14 d) ∗ (∃ d, own c a15 d) ∗ own c a16 r ∗ own c a17 y17 ∗ own c a18 s0 ∗ own c a19 s1 ∗ (∃ d, own c a20 d)
            ∗ (iprop(own c a2 x0 ∗ own c a3 x1 ∗ own c a4 x2 ∗ own c a5 x3 ∗ own c a6 x4 ∗ own c a7 x5 ∗ own c a8 x6 ∗ own c a9 x7 ∗ own c a10 x8 ∗ own c a11 x9 ∗ (∃ f, a12.view.loc (c : Thread nD τ) ↦[a12.view.set]{fullShare} a12.view.writes (Elt F) f L12) ∗ (∃ f, a13.view.loc (c : Thread nD τ) ↦[a13.view.set]{fullShare} a13.view.writes (Elt F) f L13) ∗ (∃ f, a14.view.loc (c : Thread nD τ) ↦[a14.view.set]{fullShare} a14.view.writes (Elt F) f L14) ∗ (∃ f, a15.view.loc (c : Thread nD τ) ↦[a15.view.set]{fullShare} a15.view.writes (Elt F) f L15) ∗ (a16.view.loc (c : Thread nD τ) ↦[a16.view.set]{fullShare} a16.view.writes (Elt F) (u16.unread r) L16) ∗ own c a17 y17 ∗ own c a18 s0 ∗ (∃ f, a19.view.loc (c : Thread nD τ) ↦[a19.view.set]{fullShare} a19.view.writes (Elt F) f L19) ∗ (∃ d, own c a20 d)) -∗ K ⟨⟩))
          ⊢ wp frame (wpE (defs₀ (F := F)) Variants.none c none) E (cc0_ffn_bwd i a2 u2 a3 u3 a4 u4 a5 u5 a6 u6 a7 u7 a8 u8 a9 u9 a10 u10 a11 u11 a12 u12 a13 u13 a14 u14 a15 u15 a16 u16 a17 u17 a18 u18 a19 u19 a20 u20) K } := by
  refine ⟨?_, ?_, ?_, ?_, ?_, ?_, fun y17 E K => ?run⟩
  case run =>
    simp only [cc0_ffn_bwd_eq_skeleton]; unfold cc0_ffn_bwd_skel
    simp only [k0_part3_eq_skeleton, k0_part4_eq_skeleton, k0_part5_eq_skeleton, k0_part6_eq_skeleton, k0_part7_eq_skeleton]
    unfold own owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%d20, %f20, -, H20⟩, Hk⟩
    obtain rfl := u2.eq_unread hf2; obtain rfl := u3.eq_unread hf3; obtain rfl := u4.eq_unread hf4; obtain rfl := u5.eq_unread hf5; obtain rfl := u6.eq_unread hf6; obtain rfl := u7.eq_unread hf7; obtain rfl := u8.eq_unread hf8; obtain rfl := u9.eq_unread hf9; obtain rfl := u10.eq_unread hf10; obtain rfl := u11.eq_unread hf11; obtain rfl := u16.eq_unread hf16; obtain rfl := u17.eq_unread hf17; obtain rfl := u18.eq_unread hf18; obtain rfl := u19.eq_unread hf19
    sl_exec (disch := first | sl_exact hc0 | sl_exact hc1 | sl_exact hc2)
    sl_step
    rw [pb_free c i a2 u2 a3 u3 a4 u4 a5 u5 a6 u6 a7 u7 a8 u8 a9 u9 a10 u10 a11 u11 a12 u12 a13 u13 a14 u14 a15 u15 a16 u16 a17 u17 a18 u18 a19 u19 a20 u20 hc2 _ _ _ _ _ _ f12 a12.view.junk]
    iapply Hk
    isplitl [H2]
    · iexists _; isplitr; · ipureintro; exact u2.read_unread _
      iexact H2
    isplitl [H3]
    · iexists _; isplitr; · ipureintro; exact u3.read_unread _
      iexact H3
    isplitl [H4]
    · iexists _; isplitr; · ipureintro; exact u4.read_unread _
      iexact H4
    isplitl [H5]
    · iexists _; isplitr; · ipureintro; exact u5.read_unread _
      iexact H5
    isplitl [H6]
    · iexists _; isplitr; · ipureintro; exact u6.read_unread _
      iexact H6
    isplitl [H7]
    · iexists _; isplitr; · ipureintro; exact u7.read_unread _
      iexact H7
    isplitl [H8]
    · iexists _; isplitr; · ipureintro; exact u8.read_unread _
      iexact H8
    isplitl [H9]
    · iexists _; isplitr; · ipureintro; exact u9.read_unread _
      iexact H9
    isplitl [H10]
    · iexists _; isplitr; · ipureintro; exact u10.read_unread _
      iexact H10
    isplitl [H11]
    · iexists _; isplitr; · ipureintro; exact u11.read_unread _
      iexact H11
    isplitl [H12]; · iexists _; iexact H12
    isplitl [H13]; · iexists _; iexact H13
    isplitl [H14]; · iexists _; iexact H14
    isplitl [H15]; · iexists _; iexact H15
    isplitl [H16]; · iexact H16
    isplitl [H17]
    · iexists _; isplitr; · ipureintro; exact u17.read_unread _
      iexact H17
    isplitl [H18]
    · iexists _; isplitr; · ipureintro; exact u18.read_unread _
      iexact H18
    isplitl [H19]; · iexists _; iexact H19
    iexists _, _; isplitr; swap; · iexact H20
    ipureintro; rfl

theorem coverC12 (hc0 : ¬first i) (hc1 : ¬zero i) (hc2 : last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (s0 : Vec F S512x2048 .bf16) (s1 : Vec F S512x2048 .f32) (r : Vec F S1x8x2048 .f32) (y : S512x2048.Idx) :
    ∃ pc ∈ (runC c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9 s0 s1 r).1, y ∈ pc.1.set :=
  View.cover_of_tiledL (s := S512x2048) _ S128x2048.size (by sl_kernel_rfl) y

theorem coverC13 (hc0 : ¬first i) (hc1 : ¬zero i) (hc2 : last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (s0 : Vec F S512x2048 .bf16) (s1 : Vec F S512x2048 .f32) (r : Vec F S1x8x2048 .f32) (y : S1x512x704.Idx) :
    ∃ pc ∈ (runC c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9 s0 s1 r).2.1, y ∈ pc.1.set :=
  View.cover_of_tiledL (s := S1x512x704) _ S1x128x704.size (by sl_kernel_rfl) y

theorem coverC14 (hc0 : ¬first i) (hc1 : ¬zero i) (hc2 : last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (s0 : Vec F S512x2048 .bf16) (s1 : Vec F S512x2048 .f32) (r : Vec F S1x8x2048 .f32) (y : S1x512x704.Idx) :
    ∃ pc ∈ (runC c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9 s0 s1 r).2.2.1, y ∈ pc.1.set :=
  View.cover_of_tiledL (s := S1x512x704) _ S1x128x704.size (by sl_kernel_rfl) y

theorem coverC15 (hc0 : ¬first i) (hc1 : ¬zero i) (hc2 : last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (s0 : Vec F S512x2048 .bf16) (s1 : Vec F S512x2048 .f32) (r : Vec F S1x8x2048 .f32) (y : S1x512x704.Idx) :
    ∃ pc ∈ (runC c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9 s0 s1 r).2.2.2.1, y ∈ pc.1.set :=
  View.cover_of_tiledL (s := S1x512x704) _ S1x128x704.size (by sl_kernel_rfl) y

theorem coverC19 (hc0 : ¬first i) (hc1 : ¬zero i) (hc2 : last i) (x0 x1 : Vec F S512x2048 .f32) (x2 : Vec F S512x2048 .bf16) (x3 x4 : Vec F S1x512x704 .bf16) (x5 : Vec F S1x3x2048 .f32) (x6 : Vec F S1x2048 .f32) (x7 x8 x9 : Vec F S1x704x2048 .bf16) (s0 : Vec F S512x2048 .bf16) (s1 : Vec F S512x2048 .f32) (r : Vec F S1x8x2048 .f32) (y : S512x2048.Idx) :
    ∃ pc ∈ (runC c i a2 u2 a3 u3 a4 u4 a5 u5 a6 u6 a7 u7 a8 u8 a9 u9 a10 u10 a11 u11 a12 u12 a13 u13 a14 u14 a15 u15 a16 u16 a17 u17 a18 u18 a19 u19 a20 u20 hc0 hc1 hc2 x0 x1 x2 x3 x4 x5 x6 x7 x8 x9 s0 s1 r).2.2.2.2.2.1, y ∈ pc.1.set :=
  View.cover_of_tiledL (s := S512x2048) _ S256x2048.size (by sl_kernel_rfl) y

end Cert.Kernel7Ideal.Bwd

end
-- ==== Proof.BwdFrame.lean ====
/-
  The feed-forward's backward kernel runs to its end, leaves the argument arrays as they were, and leaves in each result
  the blocks that the runs of its body store. The scaled gradients of a tile are stored at the tile's first point alone,
  into the result and into a scratch buffer; both stay until the tile's last point. The sum of the hidden blocks' products
  lies in a second scratch buffer from point to point, and the sums over the tokens in their result's buffer from the
  first point to the last.
-/
module

public import proofs.«01_k».proof.Proof.BwdRunZ
public import proofs.«01_k».proof.Proof.BwdRunA
public import proofs.«01_k».proof.Proof.BwdRunB
public import proofs.«01_k».proof.Proof.BwdRunC
public import Idealize.ShloMosaic.Lib.Claim

@[expose] public section

set_option maxRecDepth 16384

noncomputable section

namespace Cert.Kernel7Ideal.Bwd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel7Ideal Cert.Kernel7Ideal.Gen

variable {F : FTy → Type} [FloatOps F]

local notation "𝕄" => MT nD τ sig Unit (Elt F) ℕ (UR sig nD τ) ℕ

/-! ## The windows at a point -/

theorem idle10 : ∀ t : Fin cfg0.N, cfg0.idle 10 (grid0.coords t) = !decide (t.val % 8 = 7) := by decide +kernel
theorem idle14 : ∀ t : Fin cfg0.N, cfg0.idle 14 (grid0.coords t) = (!decide (t.val = 0) && !decide (t.val % 8 = 7)) := by decide +kernel
theorem idle15 : ∀ t : Fin cfg0.N, cfg0.idle 15 (grid0.coords t) = !decide (t.val % 8 = 0) := by decide +kernel
theorem noflush (w : Fin cfg0.W) (h : ∀ t : Fin cfg0.N, (cfg0.win w).flush t = true ↔ t.val % 8 = 7) (t : Fin cfg0.N)
    (ht : ¬t.val % 8 = 7) : (cfg0.win w).flush t = false := by
  rw [← Bool.not_eq_true, h t]; exact ht
theorem noflush14 (t : Fin cfg0.N) (ht : ¬t.val = 31) : (cfg0.win 14).flush t = false := by
  have hN : t.val < 32 := lt_of_lt_of_eq t.isLt (show cfg0.N = 32 from N_0)
  rw [← Bool.not_eq_true, flush0_14 t]; omega
theorem nofetch14 : ∀ t : Fin cfg0.N, (cfg0.win 14).fetch t = false := by decide +kernel
theorem nofetch15 : ∀ t : Fin cfg0.N, (cfg0.win 15).fetch t = false := by decide +kernel

abbrev b0 (t : Fin cfg0.N) : Memref sig .tc .vmem S512x2048 .f32 := win0_0.stage (cfg0.slots t 0)
abbrev hb0 (t : Fin cfg0.N) : (b0 t).IsWhole := hstage0_0 ((cfg0.slots t 0).cast nbuf0_0)
abbrev b1 (t : Fin cfg0.N) : Memref sig .tc .vmem S512x2048 .f32 := win0_1.stage (cfg0.slots t 1)
abbrev hb1 (t : Fin cfg0.N) : (b1 t).IsWhole := hstage0_1 ((cfg0.slots t 1).cast nbuf0_1)
abbrev b2 (t : Fin cfg0.N) : Memref sig .tc .vmem S512x2048 .bf16 := win0_2.stage (cfg0.slots t 2)
abbrev hb2 (t : Fin cfg0.N) : (b2 t).IsWhole := hstage0_2 ((cfg0.slots t 2).cast nbuf0_2)
abbrev b3 (t : Fin cfg0.N) : Memref sig .tc .vmem S1x512x704 .bf16 := win0_3.stage (cfg0.slots t 3)
abbrev hb3 (t : Fin cfg0.N) : (b3 t).IsWhole := hstage0_3 ((cfg0.slots t 3).cast nbuf0_3)
abbrev b4 (t : Fin cfg0.N) : Memref sig .tc .vmem S1x512x704 .bf16 := win0_4.stage (cfg0.slots t 4)
abbrev hb4 (t : Fin cfg0.N) : (b4 t).IsWhole := hstage0_4 ((cfg0.slots t 4).cast nbuf0_4)
abbrev b5 (t : Fin cfg0.N) : Memref sig .tc .vmem S1x3x2048 .f32 := win0_5.stage (cfg0.slots t 5)
abbrev hb5 (t : Fin cfg0.N) : (b5 t).IsWhole := hstage0_5 ((cfg0.slots t 5).cast nbuf0_5)
abbrev b6 (t : Fin cfg0.N) : Memref sig .tc .vmem S1x2048 .f32 := win0_6.stage (cfg0.slots t 6)
abbrev hb6 (t : Fin cfg0.N) : (b6 t).IsWhole := hstage0_6 ((cfg0.slots t 6).cast nbuf0_6)
abbrev b7 (t : Fin cfg0.N) : Memref sig .tc .vmem S1x704x2048 .bf16 := win0_7.stage (cfg0.slots t 7)
abbrev hb7 (t : Fin cfg0.N) : (b7 t).IsWhole := hstage0_7 ((cfg0.slots t 7).cast nbuf0_7)
abbrev b8 (t : Fin cfg0.N) : Memref sig .tc .vmem S1x704x2048 .bf16 := win0_8.stage (cfg0.slots t 8)
abbrev hb8 (t : Fin cfg0.N) : (b8 t).IsWhole := hstage0_8 ((cfg0.slots t 8).cast nbuf0_8)
abbrev b9 (t : Fin cfg0.N) : Memref sig .tc .vmem S1x704x2048 .bf16 := win0_9.stage (cfg0.slots t 9)
abbrev hb9 (t : Fin cfg0.N) : (b9 t).IsWhole := hstage0_9 ((cfg0.slots t 9).cast nbuf0_9)
abbrev b10 (t : Fin cfg0.N) : Memref sig .tc .vmem S512x2048 .f32 := win0_10.stage (cfg0.slots t 10)
abbrev hb10 (t : Fin cfg0.N) : (b10 t).IsWhole := hstage0_10 ((cfg0.slots t 10).cast nbuf0_10)
abbrev b11 (t : Fin cfg0.N) : Memref sig .tc .vmem S1x512x704 .bf16 := win0_11.stage (cfg0.slots t 11)
abbrev hb11 (t : Fin cfg0.N) : (b11 t).IsWhole := hstage0_11 ((cfg0.slots t 11).cast nbuf0_11)
abbrev b12 (t : Fin cfg0.N) : Memref sig .tc .vmem S1x512x704 .bf16 := win0_12.stage (cfg0.slots t 12)
abbrev hb12 (t : Fin cfg0.N) : (b12 t).IsWhole := hstage0_12 ((cfg0.slots t 12).cast nbuf0_12)
abbrev b13 (t : Fin cfg0.N) : Memref sig .tc .vmem S1x512x704 .bf16 := win0_13.stage (cfg0.slots t 13)
abbrev hb13 (t : Fin cfg0.N) : (b13 t).IsWhole := hstage0_13 ((cfg0.slots t 13).cast nbuf0_13)
abbrev b14 (t : Fin cfg0.N) : Memref sig .tc .vmem S1x8x2048 .f32 := win0_14.stage (cfg0.slots t 14)
abbrev hb14 (t : Fin cfg0.N) : (b14 t).IsWhole := hstage0_14 ((cfg0.slots t 14).cast nbuf0_14)
abbrev b15 (t : Fin cfg0.N) : Memref sig .tc .vmem S512x2048 .bf16 := win0_15.stage (cfg0.slots t 15)
abbrev hb15 (t : Fin cfg0.N) : (b15 t).IsWhole := hstage0_15 ((cfg0.slots t 15).cast nbuf0_15)
abbrev s0 : Memref sig .tc .vmem S512x2048 .bf16 := Memref.whole cc0_scratch0
abbrev s1 : Memref sig .tc .vmem S512x2048 .f32 := Memref.whole cc0_scratch1
abbrev s2 : Memref sig .tc .vmem S512x704 .f32 := Memref.whole cc0_scratch2
abbrev vo10 : View sig .tc .vmem S512x2048 .f32 := (Memref.whole cc0_stg10_0 : Memref sig .tc .vmem S512x2048 .f32).view
abbrev vo11 : View sig .tc .vmem S1x512x704 .bf16 := (Memref.whole cc0_stg11_0 : Memref sig .tc .vmem S1x512x704 .bf16).view
abbrev vo12 : View sig .tc .vmem S1x512x704 .bf16 := (Memref.whole cc0_stg12_0 : Memref sig .tc .vmem S1x512x704 .bf16).view
abbrev vo13 : View sig .tc .vmem S1x512x704 .bf16 := (Memref.whole cc0_stg13_0 : Memref sig .tc .vmem S1x512x704 .bf16).view
abbrev vo14 : View sig .tc .vmem S1x8x2048 .f32 := (Memref.whole cc0_stg14_0 : Memref sig .tc .vmem S1x8x2048 .f32).view
abbrev vo15 : View sig .tc .vmem S512x2048 .bf16 := (Memref.whole cc0_stg15_0 : Memref sig .tc .vmem S512x2048 .bf16).view

/-- The scoped buffers and the generator register, at anything. -/
theorem any_eq (c : Dev nD) :
    (Pipeline.ΦA spec0 c : sProp 𝕄)
      = iprop(iprop((∃ d, own c s0 d) ∗ (∃ d, own c s1 d) ∗ (∃ d, own c s2 d)) ∗ (∃ r, prngReg c r)) := by
  unfold Pipeline.ΦA; rw [scopedRest0_eq]; simp only [own, s0, s1, s2, owns_whole]; try rfl

variable (m : (ℓ : Loc nD τ sig) → Buf (Elt F) ℓ) (ρ : Dev nD → PrngReg)

/-! ## What the buffers hold after each point -/

/-- What the outputs' buffers and the two scratch buffers that last from point to point hold after a point. -/
structure St (F : FTy → Type) [FloatOps F] where
  (o10 : Vec F S512x2048 .f32) (o11 o12 o13 : Vec F S1x512x704 .bf16) (o14 : Vec F S1x8x2048 .f32)
  (o15 : Vec F S512x2048 .bf16) (hs : Vec F S512x2048 .bf16) (acc : Vec F S512x2048 .f32)

/-- The run at the first point of all. -/
abbrev atZ (c : Dev nD) (t : Fin cfg0.N) (hz : t.val = 0) :=
  runZ (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) s0 (Memref.isWhole_whole _) s1 (Memref.isWhole_whole _) s2 (Memref.isWhole_whole _)
    ((first_iff t).mpr (by rw [hz])) ((zero_iff t).mpr hz) (fun h => by have := (last_iff t).mp h; omega)
    (iblk m c 0 t) (iblk m c 1 t) (iblk m c 2 t) (iblk m c 3 t) (iblk m c 4 t) (iblk m c 5 t) (iblk m c 6 t) (iblk m c 7 t) (iblk m c 8 t) (iblk m c 9 t)
/-- The run at the first point of a later tile. -/
abbrev atA (c : Dev nD) (t : Fin cfg0.N) (hz : ¬t.val = 0) (h0 : t.val % 8 = 0) :=
  runA (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) s0 (Memref.isWhole_whole _) s1 (Memref.isWhole_whole _) s2 (Memref.isWhole_whole _)
    ((first_iff t).mpr h0) (fun h => hz ((zero_iff t).mp h)) (fun h => by have := (last_iff t).mp h; omega)
    (iblk m c 0 t) (iblk m c 1 t) (iblk m c 2 t) (iblk m c 3 t) (iblk m c 4 t) (iblk m c 5 t) (iblk m c 6 t) (iblk m c 7 t) (iblk m c 8 t) (iblk m c 9 t)
/-- The run at a point in between. -/
abbrev atB (c : Dev nD) (t : Fin cfg0.N) (h0 : ¬t.val % 8 = 0) (h1 : ¬t.val % 8 = 7) (p : St F) :=
  runB (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) s0 (Memref.isWhole_whole _) s1 (Memref.isWhole_whole _) s2 (Memref.isWhole_whole _)
    (fun h => h0 ((first_iff t).mp h)) (fun h => h0 (by rw [(zero_iff t).mp h])) (fun h => h1 ((last_iff t).mp h))
    (iblk m c 0 t) (iblk m c 1 t) (iblk m c 2 t) (iblk m c 3 t) (iblk m c 4 t) (iblk m c 5 t) (iblk m c 6 t) (iblk m c 7 t) (iblk m c 8 t) (iblk m c 9 t) p.hs p.acc
/-- The run at the last point of a tile. -/
abbrev atC (c : Dev nD) (t : Fin cfg0.N) (h0 : ¬t.val % 8 = 0) (h1 : t.val % 8 = 7) (p : St F) :=
  runC (F := F) c (grid0.coords t) (b0 t) (hb0 t) (b1 t) (hb1 t) (b2 t) (hb2 t) (b3 t) (hb3 t) (b4 t) (hb4 t) (b5 t) (hb5 t) (b6 t) (hb6 t) (b7 t) (hb7 t) (b8 t) (hb8 t) (b9 t) (hb9 t) (b10 t) (hb10 t) (b11 t) (hb11 t) (b12 t) (hb12 t) (b13 t) (hb13 t) (b14 t) (hb14 t) (b15 t) (hb15 t) s0 (Memref.isWhole_whole _) s1 (Memref.isWhole_whole _) s2 (Memref.isWhole_whole _)
    (fun h => h0 ((first_iff t).mp h)) (fun h => h0 (by rw [(zero_iff t).mp h])) ((last_iff t).mpr h1)
    (iblk m c 0 t) (iblk m c 1 t) (iblk m c 2 t) (iblk m c 3 t) (iblk m c 4 t) (iblk m c 5 t) (iblk m c 6 t) (iblk m c 7 t) (iblk m c 8 t) (iblk m c 9 t) p.hs p.acc p.o14

/-- What the first point of all leaves. -/
def stZ (c : Dev nD) (t : Fin cfg0.N) (hz : t.val = 0) : St F where
  o10 := vo10.read (Elt F) vo10.junk
  o11 := vo11.read (Elt F) (vo11.writes (Elt F) vo11.junk (atZ m c t hz).1)
  o12 := vo12.read (Elt F) (vo12.writes (Elt F) vo12.junk (atZ m c t hz).2.1)
  o13 := vo13.read (Elt F) (vo13.writes (Elt F) vo13.junk (atZ m c t hz).2.2.1)
  o14 := vo14.read (Elt F) (vo14.writes (Elt F) vo14.junk (atZ m c t hz).2.2.2.1)
  o15 := vo15.read (Elt F) (vo15.writes (Elt F) vo15.junk (atZ m c t hz).2.2.2.2.1)
  hs := s0.view.read (Elt F) (s0.view.writes (Elt F) s0.view.junk (atZ m c t hz).2.2.2.2.2.1)
  acc := s1.view.read (Elt F) (s1.view.writes (Elt F) s1.view.junk (atZ m c t hz).2.2.2.2.2.2.1)

/-- What the first point of a later tile leaves. -/
def stA (c : Dev nD) (t : Fin cfg0.N) (hz : ¬t.val = 0) (h0 : t.val % 8 = 0) (p : St F) : St F where
  o10 := vo10.read (Elt F) vo10.junk
  o11 := vo11.read (Elt F) (vo11.writes (Elt F) vo11.junk (atA m c t hz h0).1)
  o12 := vo12.read (Elt F) (vo12.writes (Elt F) vo12.junk (atA m c t hz h0).2.1)
  o13 := vo13.read (Elt F) (vo13.writes (Elt F) vo13.junk (atA m c t hz h0).2.2.1)
  o14 := p.o14
  o15 := vo15.read (Elt F) (vo15.writes (Elt F) vo15.junk (atA m c t hz h0).2.2.2.1)
  hs := s0.view.read (Elt F) (s0.view.writes (Elt F) s0.view.junk (atA m c t hz h0).2.2.2.2.1)
  acc := s1.view.read (Elt F) (s1.view.writes (Elt F) s1.view.junk (atA m c t hz h0).2.2.2.2.2.1)

/-- What a point in between leaves. -/
def stB (c : Dev nD) (t : Fin cfg0.N) (h0 : ¬t.val % 8 = 0) (h1 : ¬t.val % 8 = 7) (p : St F) : St F where
  o10 := vo10.read (Elt F) vo10.junk
  o11 := vo11.read (Elt F) (vo11.writes (Elt F) vo11.junk (atB m c t h0 h1 p).1)
  o12 := vo12.read (Elt F) (vo12.writes (Elt F) vo12.junk (atB m c t h0 h1 p).2.1)
  o13 := vo13.read (Elt F) (vo13.writes (Elt F) vo13.junk (atB m c t h0 h1 p).2.2.1)
  o14 := p.o14
  o15 := p.o15
  hs := p.hs
  acc := s1.view.read (Elt F) (s1.view.writes (Elt F) s1.view.junk (atB m c t h0 h1 p).2.2.2.1)

/-- What the last point of a tile leaves. -/
def stC (c : Dev nD) (t : Fin cfg0.N) (h0 : ¬t.val % 8 = 0) (h1 : t.val % 8 = 7) (p : St F) : St F where
  o10 := vo10.read (Elt F) (vo10.writes (Elt F) vo10.junk (atC m c t h0 h1 p).1)
  o11 := vo11.read (Elt F) (vo11.writes (Elt F) vo11.junk (atC m c t h0 h1 p).2.1)
  o12 := vo12.read (Elt F) (vo12.writes (Elt F) vo12.junk (atC m c t h0 h1 p).2.2.1)
  o13 := vo13.read (Elt F) (vo13.writes (Elt F) vo13.junk (atC m c t h0 h1 p).2.2.2.1)
  o14 := (b14 t).view.read (Elt F) ((b14 t).view.writes (Elt F) ((hb14 t).unread p.o14) (atC m c t h0 h1 p).2.2.2.2.1)
  o15 := p.o15
  hs := p.hs
  acc := s1.view.read (Elt F) (s1.view.writes (Elt F) s1.view.junk (atC m c t h0 h1 p).2.2.2.2.2.1)

/-- One later point's contents from the point's before. -/
def next (c : Dev nD) (t : Fin cfg0.N) (hz : ¬t.val = 0) (p : St F) : St F :=
  if h0 : t.val % 8 = 0 then stA m c t hz h0 p
  else if h1 : t.val % 8 = 7 then stC m c t h0 h1 p else stB m c t h0 h1 p

/-- The contents after each point, by recursion on the points. -/
def outs (c : Dev nD) : (n : ℕ) → n < cfg0.N → St F
  | 0, hn => stZ m c ⟨0, hn⟩ rfl
  | n + 1, hn => next m c ⟨n + 1, hn⟩ (Nat.succ_ne_zero n) (outs c n (Nat.lt_of_succ_lt hn))

/-- The contents after the point before. -/
abbrev prev (c : Dev nD) (t : Fin cfg0.N) : St F := outs m c (t.val - 1) (Nat.lt_of_le_of_lt (Nat.sub_le _ _) t.isLt)

theorem outs_Z (c : Dev nD) (t : Fin cfg0.N) (hz : t.val = 0) : outs m c t.val t.isLt = stZ m c t hz := by
  obtain ⟨n, hn⟩ := t
  cases n with
  | zero => rfl
  | succ n => exact absurd hz (Nat.succ_ne_zero n)

theorem outs_A (c : Dev nD) (t : Fin cfg0.N) (hz : ¬t.val = 0) (h0 : t.val % 8 = 0) :
    outs m c t.val t.isLt = stA m c t hz h0 (prev m c t) := by
  obtain ⟨n, hn⟩ := t
  cases n with
  | zero => exact absurd rfl hz
  | succ n => exact dif_pos h0

theorem outs_B (c : Dev nD) (t : Fin cfg0.N) (h0 : ¬t.val % 8 = 0) (h1 : ¬t.val % 8 = 7) :
    outs m c t.val t.isLt = stB m c t h0 h1 (prev m c t) := by
  obtain ⟨n, hn⟩ := t
  cases n with
  | zero => exact absurd (Nat.zero_mod _) h0
  | succ n => exact (dif_neg h0).trans (dif_neg h1)

theorem outs_C (c : Dev nD) (t : Fin cfg0.N) (h0 : ¬t.val % 8 = 0) (h1 : t.val % 8 = 7) :
    outs m c t.val t.isLt = stC m c t h0 h1 (prev m c t) := by
  obtain ⟨n, hn⟩ := t
  cases n with
  | zero => exact absurd (Nat.zero_mod _) h0
  | succ n => exact (dif_neg h0).trans (dif_pos h1)

/-- What the region owns between the points: the two scratch buffers at what the point before left in them, the third
    and the generator register at anything. -/
def PhiS (c : Dev nD) : (n : ℕ) → n ≤ cfg0.N → sProp 𝕄
  | 0, _ => Pipeline.ΦA spec0 c
  | n + 1, hn => iprop(iprop(own c s0 (outs m c n hn).hs ∗ own c s1 (outs m c n hn).acc ∗ (∃ d, own c s2 d)) ∗ (∃ r, prngReg c r))

theorem PhiS_succ (c : Dev nD) (n : ℕ) (hn : n < cfg0.N) :
    PhiS m c (n + 1) hn = iprop(iprop(own c s0 (outs m c n hn).hs ∗ own c s1 (outs m c n hn).acc ∗ (∃ d, own c s2 d)) ∗ (∃ r, prngReg c r)) := rfl

theorem PhiS_pos (c : Dev nD) (t : Fin cfg0.N) (hz : t.val ≠ 0) :
    PhiS m c t.val (Nat.le_of_lt t.isLt) = iprop(iprop(own c s0 (prev m c t).hs ∗ own c s1 (prev m c t).acc ∗ (∃ d, own c s2 d)) ∗ (∃ r, prngReg c r)) := by
  obtain ⟨n, hn⟩ := t
  cases n with
  | zero => exact absurd rfl hz
  | succ n => rfl

/-- Forgetting what the scratch buffers hold. -/
theorem PhiS_any (c : Dev nD) (n : ℕ) (hn : n ≤ cfg0.N) :
    PhiS m c n hn ⊢ (Pipeline.ΦA spec0 c : sProp 𝕄) := by
  cases n with
  | zero => exact Entails.refl _
  | succ n =>
    rw [PhiS_succ, any_eq]
    iintro ⟨⟨HS0, HS1, HS2⟩, Hg⟩
    isplitl [HS0 HS1 HS2]
    · isplitl [HS0]
      · iexists _; iexact HS0
      isplitl [HS1]
      · iexists _; iexact HS1
      iexact HS2
    iexact Hg

/-! ## The pipeline's proof data -/

/-- The arrays as the region finds them; after each point the inputs' buffers at their blocks and the outputs' at what the
    runs leave; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (outs m c t.val t.isLt).o10
    | ⟨11, _⟩ => (outs m c t.val t.isLt).o11
    | ⟨12, _⟩ => (outs m c t.val t.isLt).o12
    | ⟨13, _⟩ => (outs m c t.val t.isLt).o13
    | ⟨14, _⟩ => (outs m c t.val t.isLt).o14
    | ⟨15, _⟩ => (outs m c t.val t.isLt).o15
    | ⟨_ + 16, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

section points
variable (c : Dev nD) (t : Fin cfg0.N)

theorem after_0 : (dats m 0 c).after 0 t = iblk m c 0 t := by dsimp only [dats]
theorem after_1 : (dats m 0 c).after 1 t = iblk m c 1 t := by dsimp only [dats]
theorem after_2 : (dats m 0 c).after 2 t = iblk m c 2 t := by dsimp only [dats]
theorem after_3 : (dats m 0 c).after 3 t = iblk m c 3 t := by dsimp only [dats]
theorem after_4 : (dats m 0 c).after 4 t = iblk m c 4 t := by dsimp only [dats]
theorem after_5 : (dats m 0 c).after 5 t = iblk m c 5 t := by dsimp only [dats]
theorem after_6 : (dats m 0 c).after 6 t = iblk m c 6 t := by dsimp only [dats]
theorem after_7 : (dats m 0 c).after 7 t = iblk m c 7 t := by dsimp only [dats]
theorem after_8 : (dats m 0 c).after 8 t = iblk m c 8 t := by dsimp only [dats]
theorem after_9 : (dats m 0 c).after 9 t = iblk m c 9 t := by dsimp only [dats]
theorem after_10 : (dats m 0 c).after 10 t = (outs m c t.val t.isLt).o10 := by dsimp only [dats]
theorem after_11 : (dats m 0 c).after 11 t = (outs m c t.val t.isLt).o11 := by dsimp only [dats]
theorem after_12 : (dats m 0 c).after 12 t = (outs m c t.val t.isLt).o12 := by dsimp only [dats]
theorem after_13 : (dats m 0 c).after 13 t = (outs m c t.val t.isLt).o13 := by dsimp only [dats]
theorem after_14 : (dats m 0 c).after 14 t = (outs m c t.val t.isLt).o14 := by dsimp only [dats]
theorem after_15 : (dats m 0 c).after 15 t = (outs m c t.val t.isLt).o15 := by dsimp only [dats]
theorem before_0 (d) : (dats m 0 c).before 0 t d = iblk m c 0 t :=
  before0_0_of m (dats m 0 c) (A_eq m c 0) (after_0 m c) t d
theorem before_1 (d) : (dats m 0 c).before 1 t d = iblk m c 1 t :=
  before0_1_of m (dats m 0 c) (A_eq m c 1) (after_1 m c) t d
theorem before_2 (d) : (dats m 0 c).before 2 t d = iblk m c 2 t :=
  before0_2_of m (dats m 0 c) (A_eq m c 2) (after_2 m c) t d
theorem before_3 (d) : (dats m 0 c).before 3 t d = iblk m c 3 t :=
  before0_3_of m (dats m 0 c) (A_eq m c 3) (after_3 m c) t d
theorem before_4 (d) : (dats m 0 c).before 4 t d = iblk m c 4 t :=
  before0_4_of m (dats m 0 c) (A_eq m c 4) (after_4 m c) t d
theorem before_5 (d) : (dats m 0 c).before 5 t d = iblk m c 5 t :=
  before0_5_of m (dats m 0 c) (A_eq m c 5) (after_5 m c) t d
theorem before_6 (d) : (dats m 0 c).before 6 t d = iblk m c 6 t :=
  before0_6_of m (dats m 0 c) (A_eq m c 6) (after_6 m c) t d
theorem before_7 (d) : (dats m 0 c).before 7 t d = iblk m c 7 t :=
  before0_7_of m (dats m 0 c) (A_eq m c 7) (after_7 m c) t d
theorem before_8 (d) : (dats m 0 c).before 8 t d = iblk m c 8 t :=
  before0_8_of m (dats m 0 c) (A_eq m c 8) (after_8 m c) t d
theorem before_9 (d) : (dats m 0 c).before 9 t d = iblk m c 9 t :=
  before0_9_of m (dats m 0 c) (A_eq m c 9) (after_9 m c) t d

end points

/-- The scaled gradients lie in their output's buffer from the first point of a tile on. -/
theorem before_15 (c : Dev nD) : ∀ (n : ℕ) (hn : n < cfg0.N) (_ : ¬n % 8 = 0) (d),
    (dats m 0 c).before 15 ⟨n, hn⟩ d = (outs m c (n - 1) (Nat.lt_of_le_of_lt (Nat.sub_le _ _) hn)).o15 := by
  intro n
  induction n with
  | zero => intro hn h; exact absurd (Nat.zero_mod _) h
  | succ n ih =>
    intro hn h d
    rw [(dats m 0 c).before_of_pos 15 ⟨n + 1, hn⟩ (Nat.succ_ne_zero n) (nofetch15 _) d,
      noflush 15 flush0_15 _ (show ¬(n + 1 - 1) % 8 = 7 by omega), if_neg Bool.false_ne_true]
    have hn' : n < cfg0.N := Nat.lt_of_succ_lt hn
    show (dats m 0 c).left 15 ⟨n, hn'⟩ d = (outs m c n hn').o15
    unfold Dat.left
    by_cases h0 : n % 8 = 0
    · rw [show cfg0.idle 15 (cfg0.grid.coords ⟨n, hn'⟩) = false from (idle15 ⟨n, hn'⟩).trans (by simp [h0])]
      dsimp only
      unfold Dat.kept
      rw [after_15]
      exact (cfg0.win 15).fill_cut _ _
    · rw [show cfg0.idle 15 (cfg0.grid.coords ⟨n, hn'⟩) = true from (idle15 ⟨n, hn'⟩).trans (by simp [h0])]
      dsimp only
      rw [ih hn' h0 d]
      by_cases h1 : n % 8 = 7
      · rw [outs_C m c ⟨n, hn'⟩ h0 h1]; rfl
      · rw [outs_B m c ⟨n, hn'⟩ h0 h1]; rfl

/-- The sums over the tokens lie in their output's buffer from the first point on. -/
theorem before_14 (c : Dev nD) : ∀ (n : ℕ) (hn : n < cfg0.N) (_ : ¬n = 0) (d),
    (dats m 0 c).before 14 ⟨n, hn⟩ d = (outs m c (n - 1) (Nat.lt_of_le_of_lt (Nat.sub_le _ _) hn)).o14 := by
  intro n
  induction n with
  | zero => intro hn h; exact absurd rfl h
  | succ n ih =>
    intro hn h d
    have hN : n + 1 < 32 := lt_of_lt_of_eq hn (show cfg0.N = 32 from N_0)
    rw [(dats m 0 c).before_of_pos 14 ⟨n + 1, hn⟩ (Nat.succ_ne_zero n) (nofetch14 _) d,
      noflush14 _ (show ¬(n + 1 - 1) = 31 by omega), if_neg Bool.false_ne_true]
    have hn' : n < cfg0.N := Nat.lt_of_succ_lt hn
    show (dats m 0 c).left 14 ⟨n, hn'⟩ d = (outs m c n hn').o14
    unfold Dat.left
    by_cases hl : n = 0 ∨ n % 8 = 7
    · rw [show cfg0.idle 14 (cfg0.grid.coords ⟨n, hn'⟩) = false from
        (idle14 ⟨n, hn'⟩).trans (by rcases hl with h | h <;> simp [h])]
      dsimp only
      unfold Dat.kept
      rw [after_14]
      exact (cfg0.win 14).fill_cut _ _
    · obtain ⟨hz, h1⟩ := not_or.mp hl
      rw [show cfg0.idle 14 (cfg0.grid.coords ⟨n, hn'⟩) = true from (idle14 ⟨n, hn'⟩).trans (by simp [hz, h1])]
      dsimp only
      rw [ih hn' hz d]
      by_cases h0 : n % 8 = 0
      · rw [outs_A m c ⟨n, hn'⟩ hz h0]; rfl
      · rw [outs_B m c ⟨n, hn'⟩ h0 h1]; rfl

/-! ## The body obligation -/

/-- What the body is called with at a point, the windows one by one, -/
def bodyPre (c : Dev nD) (t : Fin cfg0.N) : sProp 𝕄 :=
  iprop((dats m 0 c).Φ t.castSucc ∗ (dats m 0 c).owesAt () t.castSucc
    ∗ (∃ d, own c (b0 t) ((dats m 0 c).before 0 t d))
    ∗ (∃ d, own c (b1 t) ((dats m 0 c).before 1 t d))
    ∗ (∃ d, own c (b2 t) ((dats m 0 c).before 2 t d))
    ∗ (∃ d, own c (b3 t) ((dats m 0 c).before 3 t d))
    ∗ (∃ d, own c (b4 t) ((dats m 0 c).before 4 t d))
    ∗ (∃ d, own c (b5 t) ((dats m 0 c).before 5 t d))
    ∗ (∃ d, own c (b6 t) ((dats m 0 c).before 6 t d))
    ∗ (∃ d, own c (b7 t) ((dats m 0 c).before 7 t d))
    ∗ (∃ d, own c (b8 t) ((dats m 0 c).before 8 t d))
    ∗ (∃ d, own c (b9 t) ((dats m 0 c).before 9 t d))
    ∗ (∃ d, own c (b10 t) ((dats m 0 c).before 10 t d))
    ∗ (∃ d, own c (b11 t) ((dats m 0 c).before 11 t d))
    ∗ (∃ d, own c (b12 t) ((dats m 0 c).before 12 t d))
    ∗ (∃ d, own c (b13 t) ((dats m 0 c).before 13 t d))
    ∗ (∃ d, own c (b14 t) ((dats m 0 c).before 14 t d))
    ∗ (∃ d, own c (b15 t) ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

/-- A window that is live at a point is left at what the point's run leaves. -/
theorem leaves_live (c : Dev nD) (w : Fin cfg0.W) (t : Fin cfg0.N) (h : cfg0.idle w (grid0.coords t) = false) :
    (dats m 0 c).leavesExact w t = owns (c : Thread nD τ) ((cfg0.win w).stage (cfg0.slots t w)) fullShare ((dats m 0 c).after w t) := by
  unfold Dat.leavesExact; rw [show cfg0.idle w (cfg0.grid.coords t) = false from h]

/-- The same for a window that is idle at a point and written back there. -/
theorem leaves_flush (c : Dev nD) (w : Fin cfg0.W) (t : Fin cfg0.N) (h : cfg0.idle w (grid0.coords t) = true)
    (hf : (cfg0.win w).flush t = true) :
    (dats m 0 c).leavesExact w t = owns (c : Thread nD τ) ((cfg0.win w).stage (cfg0.slots t w)) fullShare ((dats m 0 c).after w t) := by
  unfold Dat.leavesExact; rw [show cfg0.idle w (cfg0.grid.coords t) = true from h, hf]

set_option maxHeartbeats 19200000 in
/-- The body at any point, by the four cases. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, before_9]
  rw [show (dats m 0 c).owesAt () t.succ = (dats m 0 c).owesAt () t.castSucc from rfl]
  rw [show (dats m 0 c).Φ t.succ = PhiS m c (t.val + 1) t.isLt from rfl, PhiS_succ, PhiS_castSucc m c t]
  have hN : t.val < 32 := lt_of_lt_of_eq t.isLt (show cfg0.N = 32 from N_0)
  rw [leaves_live m c 0 t rfl, after_0]
  rw [leaves_live m c 1 t rfl, after_1]
  rw [leaves_live m c 2 t rfl, after_2]
  rw [leaves_live m c 3 t rfl, after_3]
  rw [leaves_live m c 4 t rfl, after_4]
  rw [leaves_live m c 5 t rfl, after_5]
  rw [leaves_live m c 6 t rfl, after_6]
  rw [leaves_live m c 7 t rfl, after_7]
  rw [leaves_live m c 8 t rfl, after_8]
  rw [leaves_live m c 9 t rfl, after_9]
  rw [leaves_live m c 11 t rfl, after_11]
  rw [leaves_live m c 12 t rfl, after_12]
  rw [leaves_live m c 13 t rfl, after_13]
  by_cases h0 : t.val % 8 = 0
  · have h1 : ¬t.val % 8 = 7 := by omega
    by_cases hz : t.val = 0
    ·
      rw [Dat.leavesExact_idle (dats m 0 c) 10 t ((idle10 t).trans (by simp [hz])) (noflush 10 flush0_10 t h1)]
      rw [leaves_live m c 14 t ((idle14 t).trans (by simp [hz])), after_14]
      rw [leaves_live m c 15 t ((idle15 t).trans (by simp [hz])), after_15]
      rw [outs_Z m c t hz]
      unfold stZ; dsimp only
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      ihave HQ := ((PhiS_any m c t.val (Nat.le_of_lt t.isLt)).trans (Entails.of_eq (any_eq c))) $$ HP
      icases HQ with ⟨⟨HS0, HS1, HS2⟩, Hg⟩
      iapply ((atZ m c t hz).2.2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexists _; iexact H14
      isplitl [H15]; · iexists _; iexact H15
      isplitl [HS0]; · iexact HS0
      isplitl [HS1]; · iexact HS1
      isplitl [HS2]; · iexact HS2
      iintro ⟨H0, H1, H2, H3, H4, H5, H6, H7, H8, H9, H10, ⟨%e11, H11⟩, ⟨%e12, H12⟩, ⟨%e13, H13⟩, ⟨%e14, H14⟩, ⟨%e15, H15⟩, ⟨%es0, HS0⟩, ⟨%es1, HS1⟩, HS2⟩
      isplitl [HS0 HS1 HS2 Hg]
      · isplitl [HS0 HS1 HS2]
        · isplitl [HS0]
          · unfold own owns; iexists _; isplitr
            swap; · iexact HS0
            ipureintro; exact View.read_writes_of_cover _ _ _ _ _ (by apply coverZ18)
          isplitl [HS1]
          · unfold own owns; iexists _; isplitr
            swap; · iexact HS1
            ipureintro; exact View.read_writes_of_cover _ _ _ _ _ (by apply coverZ19)
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]
      · unfold owns; iexists _; isplitr
        swap; · iexact H11
        ipureintro; exact View.read_writes_of_cover _ _ _ _ _ (by apply coverZ13)
      isplitl [H12]
      · unfold owns; iexists _; isplitr
        swap; · iexact H12
        ipureintro; exact View.read_writes_of_cover _ _ _ _ _ (by apply coverZ14)
      isplitl [H13]
      · unfold owns; iexists _; isplitr
        swap; · iexact H13
        ipureintro; exact View.read_writes_of_cover _ _ _ _ _ (by apply coverZ15)
      isplitl [H14]
      · unfold owns; iexists _; isplitr
        swap; · iexact H14
        ipureintro; exact View.read_writes_of_cover _ _ _ _ _ (by apply coverZ16)
      unfold owns; iexists _; isplitr
      swap; · iexact H15
      ipureintro; exact View.read_writes_of_cover _ _ _ _ _ (by apply coverZ17)
    ·
      rw [Dat.leavesExact_idle (dats m 0 c) 10 t ((idle10 t).trans (by simp [hz, h1, h0])) (noflush 10 flush0_10 t h1)]
      rw [Dat.leavesExact_idle (dats m 0 c) 14 t ((idle14 t).trans (by simp [hz, h1, h0])) (noflush14 t (by omega))]
      rw [leaves_live m c 15 t ((idle15 t).trans (by simp [hz, h1, h0])), after_15]
      rw [outs_A m c t hz h0]
      unfold stA; dsimp only
      iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      ihave HQ := ((PhiS_any m c t.val (Nat.le_of_lt t.isLt)).trans (Entails.of_eq (any_eq c))) $$ HP
      icases HQ with ⟨⟨HS0, HS1, HS2⟩, Hg⟩
      iapply ((atA m c t hz h0).2.2.2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexact H14
      isplitl [H15]; · iexists _; iexact H15
      isplitl [HS0]; · iexact HS0
      isplitl [HS1]; · iexact HS1
      isplitl [HS2]; · iexact HS2
      iintro ⟨H0, H1, H2, H3, H4, H5, H6, H7, H8, H9, H10, ⟨%e11, H11⟩, ⟨%e12, H12⟩, ⟨%e13, H13⟩, H14, ⟨%e15, H15⟩, ⟨%es0, HS0⟩, ⟨%es1, HS1⟩, HS2⟩
      isplitl [HS0 HS1 HS2 Hg]
      · isplitl [HS0 HS1 HS2]
        · isplitl [HS0]
          · unfold own owns; iexists _; isplitr
            swap; · iexact HS0
            ipureintro; exact View.read_writes_of_cover _ _ _ _ _ (by apply coverA18)
          isplitl [HS1]
          · unfold own owns; iexists _; isplitr
            swap; · iexact HS1
            ipureintro; exact View.read_writes_of_cover _ _ _ _ _ (by apply coverA19)
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]
      · unfold owns; iexists _; isplitr
        swap; · iexact H11
        ipureintro; exact View.read_writes_of_cover _ _ _ _ _ (by apply coverA13)
      isplitl [H12]
      · unfold owns; iexists _; isplitr
        swap; · iexact H12
        ipureintro; exact View.read_writes_of_cover _ _ _ _ _ (by apply coverA14)
      isplitl [H13]
      · unfold owns; iexists _; isplitr
        swap; · iexact H13
        ipureintro; exact View.read_writes_of_cover _ _ _ _ _ (by apply coverA15)
      isplitl [H14]; · iexists _; iexact H14
      unfold owns; iexists _; isplitr
      swap; · iexact H15
      ipureintro; exact View.read_writes_of_cover _ _ _ _ _ (by apply coverA17)
  · have hz : ¬t.val = 0 := fun h => h0 (by rw [h])
    by_cases h1 : t.val % 8 = 7
    ·
      rw [leaves_live m c 10 t ((idle10 t).trans (by simp [hz, h0, h1])), after_10]
      rw [leaves_live m c 14 t ((idle14 t).trans (by simp [hz, h0, h1])), after_14]
      rw [leaves_flush m c 15 t ((idle15 t).trans (by simp [hz, h0, h1])) ((flush0_15 t).mpr h1), after_15]
      rw [PhiS_pos m c t hz, outs_C m c t h0 h1]
      unfold stC; dsimp only
      simp only [show ∀ d, (dats m 0 c).before 15 t d = (prev m c t).o15 from before_15 m c t.val t.isLt h0,
        show ∀ d, (dats m 0 c).before 14 t d = (prev m c t).o14 from before_14 m c t.val t.isLt hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((atC m c t h0 h1 (prev m c t)).2.2.2.2.2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [H14]; · iexact H14
      isplitl [H15]; · iexact H15
      isplitl [HS0]; · iexact HS0
      isplitl [HS1]; · iexact HS1
      isplitl [HS2]; · iexact HS2
      iintro ⟨H0, H1, H2, H3, H4, H5, H6, H7, H8, H9, ⟨%e10, H10⟩, ⟨%e11, H11⟩, ⟨%e12, H12⟩, ⟨%e13, H13⟩, H14, H15, HS0, ⟨%es1, HS1⟩, HS2⟩
      isplitl [HS0 HS1 HS2 Hg]
      · isplitl [HS0 HS1 HS2]
        · isplitl [HS0]
          · iexact HS0
          isplitl [HS1]
          · unfold own owns; iexists _; isplitr
            swap; · iexact HS1
            ipureintro; exact View.read_writes_of_cover _ _ _ _ _ (by apply coverC19)
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]
      · unfold owns; iexists _; isplitr
        swap; · iexact H10
        ipureintro; exact View.read_writes_of_cover _ _ _ _ _ (by apply coverC12)
      isplitl [H11]
      · unfold owns; iexists _; isplitr
        swap; · iexact H11
        ipureintro; exact View.read_writes_of_cover _ _ _ _ _ (by apply coverC13)
      isplitl [H12]
      · unfold owns; iexists _; isplitr
        swap; · iexact H12
        ipureintro; exact View.read_writes_of_cover _ _ _ _ _ (by apply coverC14)
      isplitl [H13]
      · unfold owns; iexists _; isplitr
        swap; · iexact H13
        ipureintro; exact View.read_writes_of_cover _ _ _ _ _ (by apply coverC15)
      isplitl [H14]
      · unfold owns; iexists _; isplitr
        swap; · iexact H14
        ipureintro; rfl
      iexact H15
    ·
      rw [Dat.leavesExact_idle (dats m 0 c) 10 t ((idle10 t).trans (by simp [hz, h0, h1])) (noflush 10 flush0_10 t h1)]
      rw [Dat.leavesExact_idle (dats m 0 c) 14 t ((idle14 t).trans (by simp [hz, h0, h1])) (noflush14 t (by omega))]
      rw [Dat.leavesExact_idle (dats m 0 c) 15 t ((idle15 t).trans (by simp [hz, h0, h1])) (noflush 15 flush0_15 t h1)]
      rw [PhiS_pos m c t hz, outs_B m c t h0 h1]
      unfold stB; dsimp only
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
      iapply ((atB m c t h0 h1 (prev m c t)).2.2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexists _; iexact H11
      isplitl [H12]; · iexists _; iexact H12
      isplitl [H13]; · iexists _; iexact H13
      isplitl [H14]; · iexact H14
      isplitl [H15]; · iexact H15
      isplitl [HS0]; · iexact HS0
      isplitl [HS1]; · iexact HS1
      isplitl [HS2]; · iexact HS2
      iintro ⟨H0, H1, H2, H3, H4, H5, H6, H7, H8, H9, H10, ⟨%e11, H11⟩, ⟨%e12, H12⟩, ⟨%e13, H13⟩, H14, H15, HS0, ⟨%es1, HS1⟩, HS2⟩
      isplitl [HS0 HS1 HS2 Hg]
      · isplitl [HS0 HS1 HS2]
        · isplitl [HS0]
          · iexact HS0
          isplitl [HS1]
          · unfold own owns; iexists _; isplitr
            swap; · iexact HS1
            ipureintro; exact View.read_writes_of_cover _ _ _ _ _ (by apply coverB19)
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]
      · unfold owns; iexists _; isplitr
        swap; · iexact H11
        ipureintro; exact View.read_writes_of_cover _ _ _ _ _ (by apply coverB13)
      isplitl [H12]
      · unfold owns; iexists _; isplitr
        swap; · iexact H12
        ipureintro; exact View.read_writes_of_cover _ _ _ _ _ (by apply coverB14)
      isplitl [H13]
      · unfold owns; iexists _; isplitr
        swap; · iexact H13
        ipureintro; exact View.read_writes_of_cover _ _ _ _ _ (by apply coverB15)
      isplitl [H14]; · iexists _; iexact H14
      iexists _; iexact H15

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl]
  exact Entails.refl _

theorem hout (c : Dev nD) : (dats m 0 c).Φ (Fin.last cfg0.N) ⊢ Pipeline.ΦA spec0 c :=
  PhiS_any m c _ (Nat.le_of_lt_succ (Fin.last cfg0.N).isLt)

/-! ## The run and the frame -/

set_option backward.isDefEq.respectTransparency.types false in
/-- The run: every array of the pipeline ends at what the points' contents say, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.Kernel7Ideal.Bwd

end
-- ==== Proof.BwdClaims.lean ====
/-
  The claims for the feed-forward layer's backward pass.
-/
module

public import proofs.«01_k».proof.Defs
public import proofs.«01_k».proof.Proof.Gen.Kernel7
public import proofs.«01_k».proof.Proof.BwdFrame
public import proofs.«01_k».proof.Proof.Gen.Reference7Ideal.Read

@[expose] public section

set_option maxRecDepth 16384
set_option maxHeartbeats 4000000

noncomputable section

namespace Cert.Bwd7

open Idealize.ShloMosaic Idealize.ShloMosaic.TcCoe Idealize.SL.Sem

theorem frame_ki : Cert.quiescent_Kernel7Ideal (hKernel7Ideal := Cert.Kernel7Ideal.Gen.facts) := fun m ρ _ =>
  Cert.Kernel7Ideal.Bwd.frame (F := Ideal) m ρ

section
local instance : Cert.Kernel7.Facts := Cert.Kernel7.Gen.facts
local instance : Cert.Kernel7Ideal.Facts := Cert.Kernel7Ideal.Gen.facts

/-- The two kernels are one text. -/
theorem defs₀_eq : Cert.Kernel7.defs₀ (F := Bits) = Cert.Kernel7Ideal.defs₀ (F := Bits) := by
  unfold Cert.Kernel7.defs₀ Cert.Kernel7Ideal.defs₀
  congr 1
  funext a b
  match a, b with
  | 0, (t, s) => rfl

theorem defs_eq : Cert.Kernel7.defs (F := Bits) = Cert.Kernel7Ideal.defs (F := Bits) := by
  unfold Cert.Kernel7.defs Cert.Kernel7Ideal.defs
  exact congrArg (Pipeline.defs Cert.Kernel7Ideal.pcfgs) defs₀_eq
end

/-- So the run over any values is a run of either. -/
theorem frame_k : Cert.quiescent_Kernel7 (hKernel7 := Cert.Kernel7.Gen.facts) := by
  intro m ρ _
  rw [defs_eq]
  exact Cert.Kernel7Ideal.Bwd.frame (F := Bits) m ρ

theorem frame_ri : Cert.quiescent_Reference7Ideal (hReference7Ideal := Cert.Reference7Ideal.Gen.facts) := fun m ρ _ =>
  (θ_run Cert.Reference7Ideal.defs _ _).mono (fun r h => ⟨fun c => (h c).2.2.2.2.2.2, sem_eq_zero_of_no_sems (by decide) r.2⟩)
    (Cert.Reference7Ideal.Value.run (F := Ideal) m ρ)

end Cert.Bwd7

end
-- ==== Proof.BwdPieces.lean ====
/-
  The backward kernel's payloads over the ideal numbers, entry by entry, and what the stored pieces hold.
-/
module

public import proofs.«01_k».proof.Proof.BwdHead
public import Idealize.ShloMosaic.Lib.Pipeline.ValueKit
public import Idealize.ShloMosaic.Lib.Pointwise
public import Idealize.ShloMosaic.Lib.WritesUnit

@[expose] public section

set_option maxRecDepth 16384

noncomputable section

namespace Cert.Kernel7Ideal.Bwd

open Idealize.ShloMosaic Idealize.ShloMosaic.TcCoe Idealize.ShloMosaic.Tactic Idealize.SL.Sem
open Cert.Kernel7Ideal Cert.Kernel7Ideal.Gen

/-- One over the root mean square of a row. -/
def rs (r : Fin 2048 → EReal) : EReal :=
  Ideal.rsqrt (Ideal.div (∑ k : Fin 2048, r k * r k) (Ideal.ofBits FTy.f32 1157627904#32) + Ideal.ofBits FTy.f32 897988541#32)

/-- The gradient that goes down the feed-forward: the tokens' gradient times half the gate of the modulation `p`. -/
def sgd (d : Vec Ideal S512x2048 .f32) (p : Vec Ideal S1x3x2048 .f32) : Vec Ideal S512x2048 .bf16 := fun y =>
  ((Ideal.ofBits FTy.f32 1056964608#32 * p (ix3 0 2 (y 1)) * d y : EReal))

/-- The rows of `h` times the transposed weight block. -/
def up (h : Vec Ideal S512x2048 .bf16) (w : Vec Ideal S1x704x2048 .bf16) : Vec Ideal S512x704 .f32 := fun y =>
  (∑ k : Fin 2048, (h (ix2 (y 0) k) * w (ix3 0 (y 1) k) : EReal) : EReal)

/-- The gated hidden rows. -/
def sOut (a b : Vec Ideal S1x512x704 .bf16) : Vec Ideal S1x512x704 .bf16 := fun y =>
  ((a y * Ideal.logistic (a y) * b y : EReal))

/-- One entry of the gradient of the gate's rows. -/
def daE (ds a b : EReal) : EReal :=
  ds * b * (Ideal.logistic a * (1 + a * (1 - Ideal.logistic a)))

/-- The gradient of the gate's rows. -/
def daOut (ds : Vec Ideal S512x704 .f32) (a b : Vec Ideal S1x512x704 .bf16) : Vec Ideal S1x512x704 .bf16 := fun y =>
  (daE (ds (ix2 (y 1) (y 2))) (a y) (b y) : EReal)

/-- The gradient of the linear rows. -/
def dbOut (ds : Vec Ideal S512x704 .f32) (a : Vec Ideal S1x512x704 .bf16) : Vec Ideal S1x512x704 .bf16 := fun y =>
  ((ds (ix2 (y 1) (y 2)) * (a y * Ideal.logistic (a y)) : EReal))

/-- The sum `s` over the earlier hidden blocks, and this block's two products added to it. -/
def back (s : Vec Ideal S512x2048 .f32) (da db : Vec Ideal S1x512x704 .bf16) (wg wu : Vec Ideal S1x704x2048 .bf16) : Vec Ideal S512x2048 .f32 := fun y =>
  (s y + (∑ k : Fin 704, (da (ix3 0 (y 0) k) * wg (ix3 0 k (y 1)) : EReal) + ∑ k : Fin 704, (db (ix3 0 (y 0) k) * wu (ix3 0 k (y 1)) : EReal)) : EReal)

/-- One entry of the gradient of a row `x` of the tokens: `o` comes in past the feed-forward, `d` is the gradient of the
modulated row, `sc` the scale and `g` the gain. -/
def dxE (x d sc g : Fin 2048 → EReal) (k : Fin 2048) (o : EReal) : EReal :=
  o + rs x * (d k * (1 + sc k) * g k
    - x k * rs x * Ideal.div (∑ j : Fin 2048, d j * (1 + sc j) * g j * (x j * rs x)) (Ideal.ofBits FTy.f32 1157627904#32))

/-- The gradient of the tokens. -/
def dxOut (x o dh : Vec Ideal S512x2048 .f32) (p : Vec Ideal S1x3x2048 .f32) (g : Vec Ideal S1x2048 .f32) : Vec Ideal S512x2048 .f32 := fun y =>
  (dxE (fun k => x (ix2 (y 0) k)) (fun k => dh (ix2 (y 0) k)) (fun k => p (ix3 0 1 k)) (fun k => g (ix2 0 k)) (y 1) (o y) : EReal)

/-- What one token adds to the sums over the tokens: to the gradients of the shift, the scale, the gate and the gain. -/
def con (x o dh : Vec Ideal S512x2048 .f32) (y : Vec Ideal S512x2048 .bf16) (p : Vec Ideal S1x3x2048 .f32) (g : Vec Ideal S1x2048 .f32) :
    ℕ → Fin 512 → Fin 2048 → EReal
  | 0, a, b => dh (ix2 a b)
  | 1, a, b => dh (ix2 a b) * (x (ix2 a b) * rs (fun k => x (ix2 a k)) * g (ix2 0 b))
  | 2, a, b => Ideal.ofBits FTy.f32 1056964608#32 * o (ix2 a b) * (y (ix2 a b) : EReal)
  | 3, a, b => dh (ix2 a b) * (1 + p (ix3 0 1 b)) * (x (ix2 a b) * rs (fun k => x (ix2 a k)))
  | _, _, _ => 0

/-- A stored piece agrees with `G` wherever it lies. -/
def Fits {s : Shape} {e : EltTy} (G : s.Idx → Elt Ideal e) (p : View.Piece (Elt Ideal) s e) : Prop :=
  ∀ x : p.1.shape.Idx, p.2 x = G (p.1.emb x)

theorem read_of_fits {κ} {sp} {s : Shape} {e : EltTy} (v : View sig κ sp s e) (f : v.ty.Contents (Elt Ideal)) (G : s.Idx → Elt Ideal e)
    (L : List (View.Piece (Elt Ideal) s e)) (hG : ∀ p ∈ L, Fits G p) (hc : ∀ y, ∃ p ∈ L, y ∈ p.1.set) :
    v.read (Elt Ideal) (v.writes (Elt Ideal) f L) = G :=
  funext fun y => View.read_writes_apply_of_pieces v f G L hG y (hc y)

theorem emb_val {s : Shape} (off size : Fin s.rank → Nat) (inb) (x : (Rect.unit (s := s) off size inb).shape.Idx) (a : Fin s.rank) :
    ((Rect.unit (s := s) off size inb).emb x a).val = off a + (x a).val := Rect.idx_unit_val off size inb x a

theorem pay21_apply (h : Vec Ideal S256x2048 .bf16) (w : Vec Ideal S1x704x2048 .bf16) (a : Fin 256) (b : Fin 704) :
    (k0_pay21 h w (ix2 a b) : EReal) = ∑ k : Fin 2048, (h (ix2 a k) * w (ix3 0 b k) : EReal) := by
  unfold k0_pay21
  pointwise

theorem pay22_eq (h : Vec Ideal S256x2048 .bf16) (w : Vec Ideal S1x704x2048 .bf16) : k0_pay22 h w = k0_pay21 h w := rfl

theorem pay28_apply (a b : Vec Ideal S1x128x704 .bf16) (r : Fin 128) (c : Fin 704) :
    ((k0_pay28 (k0_pay27 a b) : Vec Ideal S1x128x704 .bf16) (ix3 0 r c) : EReal)
      = a (ix3 0 r c) * Ideal.logistic (a (ix3 0 r c)) * b (ix3 0 r c) := by
  unfold k0_pay28 k0_pay27 k0_pay26 k0_pay25 k0_pay24 k0_pay23
  pointwise

theorem pay35_eq (a b : Vec Ideal S1x128x704 .bf16) : k0_pay35 a b = k0_pay28 (k0_pay27 a b) := rfl
theorem pay43_eq (a b : Vec Ideal S1x128x704 .bf16) : k0_pay43 a b = k0_pay28 (k0_pay27 a b) := rfl
theorem pay52_eq (a b : Vec Ideal S1x128x704 .bf16) : k0_pay52 a b = k0_pay28 (k0_pay27 a b) := rfl

theorem pay29_apply (ds : Vec Ideal S128x704 .f32) (a b : Vec Ideal S1x128x704 .bf16) (r : Fin 128) (c : Fin 704) :
    ((k0_pay29 (k0_pay23 a) (k0_pay24 b) ds (k0_pay25 a) : Vec Ideal S1x128x704 .bf16) (ix3 0 r c) : EReal)
      = daE (ds (ix2 r c)) (a (ix3 0 r c)) (b (ix3 0 r c)) := by
  unfold k0_pay29 k0_pay25 k0_pay24 k0_pay23 daE
  pointwise

theorem pay37_eq (ds : Vec Ideal S128x704 .f32) (a b : Vec Ideal S1x128x704 .bf16) :
    k0_pay37 (k0_pay31 a) (k0_pay33 a) (k0_pay36 b ds) = k0_pay29 (k0_pay23 a) (k0_pay24 b) ds (k0_pay25 a) := rfl
theorem pay46_eq (ds : Vec Ideal S128x704 .f32) (a b : Vec Ideal S1x128x704 .bf16) :
    k0_pay46 (k0_pay41 a) (k0_pay44 b ds) (k0_pay45 a) = k0_pay29 (k0_pay23 a) (k0_pay24 b) ds (k0_pay25 a) := rfl
theorem pay54_eq (ds : Vec Ideal S128x704 .f32) (a b : Vec Ideal S1x128x704 .bf16) :
    k0_pay54 (k0_pay53 a b ds) = k0_pay29 (k0_pay23 a) (k0_pay24 b) ds (k0_pay25 a) := rfl

theorem pay30_apply (ds : Vec Ideal S128x704 .f32) (a : Vec Ideal S1x128x704 .bf16) (r : Fin 128) (c : Fin 704) :
    ((k0_pay30 ds (k0_pay26 a) : Vec Ideal S1x128x704 .bf16) (ix3 0 r c) : EReal)
      = ds (ix2 r c) * (a (ix3 0 r c) * Ideal.logistic (a (ix3 0 r c))) := by
  unfold k0_pay30 k0_pay26 k0_pay25 k0_pay23
  pointwise

theorem pay38_eq (ds : Vec Ideal S128x704 .f32) (a : Vec Ideal S1x128x704 .bf16) : k0_pay38 ds (k0_pay34 a) = k0_pay30 ds (k0_pay26 a) := rfl
theorem pay47_eq (ds : Vec Ideal S128x704 .f32) (a : Vec Ideal S1x128x704 .bf16) : k0_pay47 ds (k0_pay42 a) = k0_pay30 ds (k0_pay26 a) := rfl
theorem pay55_eq (ds : Vec Ideal S128x704 .f32) (a : Vec Ideal S1x128x704 .bf16) : k0_pay55 ds (k0_pay51 a) = k0_pay30 ds (k0_pay26 a) := rfl

theorem pay56_apply (s : Vec Ideal S256x2048 .f32) (da : Vec Ideal S1x256x704 .bf16) (wg : Vec Ideal S1x704x2048 .bf16) (db : Vec Ideal S1x256x704 .bf16)
    (wu : Vec Ideal S1x704x2048 .bf16) (a : Fin 256) (b : Fin 2048) :
    (k0_pay56 s da wg db wu (ix2 a b) : EReal)
      = s (ix2 a b) + (∑ k : Fin 704, (da (ix3 0 a k) * wg (ix3 0 k b) : EReal) + ∑ k : Fin 704, (db (ix3 0 a k) * wu (ix3 0 k b) : EReal)) := by
  unfold k0_pay56
  pointwise

theorem pay1_eq (s : Vec Ideal S256x2048 .f32) (da : Vec Ideal S1x256x704 .bf16) (wg : Vec Ideal S1x704x2048 .bf16) (db : Vec Ideal S1x256x704 .bf16)
    (wu : Vec Ideal S1x704x2048 .bf16) : k0_pay1 s (k0_pay57 da) (k0_pay58 wg) db wu = k0_pay56 s da wg db wu := rfl

theorem pay18_apply (p : Vec Ideal S1x1x2048 .f32) (d : Vec Ideal S128x2048 .f32) (a : Fin 128) (b : Fin 2048) :
    (k0_pay18 p d (ix2 a b) : EReal) = Ideal.ofBits FTy.f32 1056964608#32 * p (ix3 0 0 b) * d (ix2 a b) := by
  unfold k0_pay18
  pointwise

theorem pay19_apply (p : Vec Ideal S1x1x2048 .f32) (d : Vec Ideal S128x2048 .f32) (a : Fin 128) (b : Fin 2048) :
    (k0_pay19 p d (ix2 a b) : EReal) = Ideal.ofBits FTy.f32 1056964608#32 * p (ix3 0 0 b) * d (ix2 a b) := by
  unfold k0_pay19
  pointwise
  exact pay18_apply p d a b

theorem pay20_apply (y : S512x2048.Idx) : (k0_pay20 (F := Ideal) y : EReal) = 0 := by
  obtain ⟨a, b, rfl⟩ : ∃ a b, y = ix2 a b := ⟨_, _, eq_ix2 y⟩
  unfold k0_pay20
  pointwise

theorem pay2_apply (y : S1x8x2048.Idx) : (k0_pay2 (F := Ideal) y : EReal) = 0 := by
  obtain ⟨u, a, b, rfl⟩ : ∃ u a b, y = ix3 u a b := ⟨_, _, _, eq_ix3 y⟩
  unfold k0_pay2
  pointwise

theorem pay5_apply (x : Vec Ideal S128x2048 .f32) (a : Fin 128) (u : Fin 1) :
    (k0_pay5 x (ix2 a u) : EReal) = rs (fun k => x (ix2 a k)) := by
  unfold k0_pay5 rs
  pointwise

theorem pay6_apply (x : Vec Ideal S128x2048 .f32) (a : Fin 128) (b : Fin 2048) :
    (k0_pay6 x (ix2 a b) : EReal) = x (ix2 a b) * rs (fun k => x (ix2 a k)) := by
  unfold k0_pay6
  pointwise
  rw [pay5_apply]

theorem pay7_apply (d : Vec Ideal S128x2048 .f32) (p : Vec Ideal S1x1x2048 .f32) (a : Fin 128) (b : Fin 2048) :
    (k0_pay7 d p (ix2 a b) : EReal) = d (ix2 a b) * (1 + p (ix3 0 0 b)) := by
  unfold k0_pay7
  pointwise

theorem pay11_apply (d : Vec Ideal S128x2048 .f32) (g : Vec Ideal S1x2048 .f32) (p : Vec Ideal S1x1x2048 .f32) (a : Fin 128) (b : Fin 2048) :
    (k0_pay11 d g p (ix2 a b) : EReal) = d (ix2 a b) * (1 + p (ix3 0 0 b)) * g (ix2 0 b) := by
  unfold k0_pay11
  pointwise
  rw [pay7_apply]

theorem pay12_apply (x d : Vec Ideal S128x2048 .f32) (g : Vec Ideal S1x2048 .f32) (p : Vec Ideal S1x1x2048 .f32) (a : Fin 128) (u : Fin 1) :
    (k0_pay12 x d g p (ix2 a u) : EReal)
      = ∑ j : Fin 2048, (d (ix2 a j) * (1 + p (ix3 0 0 j)) * g (ix2 0 j) * (x (ix2 a j) * rs (fun k => x (ix2 a k))) : EReal) := by
  unfold k0_pay12
  pointwise
  simp only [pay11_apply, pay6_apply]

theorem pay14_apply (o x d : Vec Ideal S128x2048 .f32) (g : Vec Ideal S1x2048 .f32) (p : Vec Ideal S1x1x2048 .f32) (a : Fin 128) (b : Fin 2048) :
    (k0_pay14 o (k0_pay5 x) (k0_pay6 x) (k0_pay11 d g p) (k0_pay12 x d g p) (k0_pay13 (F := Ideal)) (ix2 a b) : EReal)
      = dxE (fun k => x (ix2 a k)) (fun k => d (ix2 a k)) (fun k => p (ix3 0 0 k)) (fun k => g (ix2 0 k)) b (o (ix2 a b)) := by
  unfold k0_pay14 k0_pay13 dxE
  pointwise
  rw [pay5_apply, pay6_apply, pay11_apply, pay12_apply]

theorem pay15_apply (d : Vec Ideal S128x2048 .f32) (r : Vec Ideal S1x1x2048 .f32) (b : Fin 2048) :
    ((k0_pay15 (k0_pay8 d) r : Vec Ideal S1x1x2048 .f32) (ix3 0 0 b) : EReal) = r (ix3 0 0 b) + ∑ a : Fin 128, (d (ix2 a b) : EReal) := by
  unfold k0_pay15 k0_pay8
  pointwise

theorem pay16_apply (x d : Vec Ideal S128x2048 .f32) (g : Vec Ideal S1x2048 .f32) (r : Vec Ideal S1x1x2048 .f32) (b : Fin 2048) :
    ((k0_pay16 (k0_pay9 x d g) r : Vec Ideal S1x1x2048 .f32) (ix3 0 0 b) : EReal)
      = r (ix3 0 0 b) + ∑ a : Fin 128, (d (ix2 a b) * (x (ix2 a b) * rs (fun k => x (ix2 a k)) * g (ix2 0 b)) : EReal) := by
  unfold k0_pay16 k0_pay9
  pointwise
  simp only [pay6_apply]

theorem pay3_apply (o : Vec Ideal S128x2048 .f32) (r : Vec Ideal S1x1x2048 .f32) (y : Vec Ideal S128x2048 .bf16) (b : Fin 2048) :
    ((k0_pay3 (k0_pay17 o r y) : Vec Ideal S1x1x2048 .f32) (ix3 0 0 b) : EReal)
      = r (ix3 0 0 b) + ∑ a : Fin 128, (Ideal.ofBits FTy.f32 1056964608#32 * o (ix2 a b) * (y (ix2 a b) : EReal) : EReal) := by
  unfold k0_pay3 k0_pay17
  pointwise

theorem pay4_apply (x d : Vec Ideal S128x2048 .f32) (p r : Vec Ideal S1x1x2048 .f32) (b : Fin 2048) :
    ((k0_pay4 (k0_pay10 x d p) r : Vec Ideal S1x1x2048 .f32) (ix3 0 0 b) : EReal)
      = r (ix3 0 0 b) + ∑ a : Fin 128, (d (ix2 a b) * (1 + p (ix3 0 0 b)) * (x (ix2 a b) * rs (fun k => x (ix2 a k))) : EReal) := by
  unfold k0_pay4 k0_pay10
  pointwise
  simp only [pay7_apply, pay6_apply]

theorem fits_pay21 (h : Vec Ideal S512x2048 .bf16) (w : Vec Ideal S1x704x2048 .bf16) (o : ℕ) (inb) (inb') :
    Fits (up h w) ⟨Rect.unit (s := S512x704) ![o, 0] S256x704.size inb, k0_pay21 (View.ld h (Rect.unit ![o, 0] S256x2048.size inb')) w⟩ := by
  intro (x : S256x704.Idx)
  show k0_pay21 (F := Ideal) _ w x = up h w ((Rect.unit (s := S512x704) ![o, 0] S256x704.size inb).emb x)
  obtain ⟨a, b, rfl⟩ : ∃ a b, x = ix2 a b := ⟨_, _, eq_ix2 x⟩
  have e0 := emb_val (s := S512x704) ![o, 0] S256x704.size inb (ix2 a b) 0
  have e1 := emb_val (s := S512x704) ![o, 0] S256x704.size inb (ix2 a b) 1
  refine (pay21_apply _ _ _ _).trans ?_
  unfold up
  refine Finset.sum_congr rfl fun k _ => ?_
  refine congrArg₂ (fun p q : EReal => p * q) (View.ld_unit_apply_of h _ _ inb' _ _ fun d => ?_) (congrArg w (funext fun d => Fin.ext ?_))
  · match d with
    | ⟨0, _⟩ => exact e0
    | ⟨1, _⟩ => exact (Nat.zero_add _).symm
  · match d with
    | ⟨0, _⟩ => rfl
    | ⟨1, _⟩ => exact ((e1.trans (Nat.zero_add _)).symm : b.val = _)
    | ⟨2, _⟩ => rfl

section chunk
variable (ds : Vec Ideal S512x704 .f32) (a b : Vec Ideal S1x512x704 .bf16) (o : ℕ)
  (inb : ∀ d : Fin 3, (![0, o, 0] : Fin 3 → ℕ) d + S1x128x704.size d ≤ S1x512x704.size d)
  (inb' : ∀ d : Fin 2, (![o, 0] : Fin 2 → ℕ) d + S128x704.size d ≤ S512x704.size d)

/-- The rows of a chunk of the hidden products, at the place that the block's rows have. -/
theorem ld_rows (r : Fin 128) (c : Fin 704) :
    View.ld ds (Rect.unit (s := S512x704) ![o, 0] S128x704.size inb') (ix2 r c)
      = ds (ix2 ((Rect.unit (s := S1x512x704) ![0, o, 0] S1x128x704.size inb).emb (ix3 0 r c) 1) ((Rect.unit (s := S1x512x704) ![0, o, 0] S1x128x704.size inb).emb (ix3 0 r c) 2)) := by
  have e1 := emb_val (s := S1x512x704) ![0, o, 0] S1x128x704.size inb (ix3 0 r c) 1
  have e2 := emb_val (s := S1x512x704) ![0, o, 0] S1x128x704.size inb (ix3 0 r c) 2
  refine View.ld_unit_apply_of ds _ _ inb' _ _ fun d => ?_
  match d with
  | ⟨0, _⟩ => exact e1
  | ⟨1, _⟩ => exact e2

theorem fits_s : Fits (sOut a b) ⟨Rect.unit (s := S1x512x704) ![0, o, 0] S1x128x704.size inb,
    k0_pay28 (k0_pay27 (View.ld a (Rect.unit ![0, o, 0] S1x128x704.size inb)) (View.ld b (Rect.unit ![0, o, 0] S1x128x704.size inb)))⟩ := by
  intro (x : S1x128x704.Idx)
  show k0_pay28 (F := Ideal) (k0_pay27 _ _) x = sOut a b ((Rect.unit (s := S1x512x704) ![0, o, 0] S1x128x704.size inb).emb x)
  obtain ⟨u, r, c, rfl⟩ : ∃ u r c, x = ix3 u r c := ⟨_, _, _, eq_ix3 x⟩
  obtain rfl : u = 0 := Subsingleton.elim _ _
  exact pay28_apply _ _ _ _

theorem fits_da : Fits (daOut ds a b) ⟨Rect.unit (s := S1x512x704) ![0, o, 0] S1x128x704.size inb,
    k0_pay29 (k0_pay23 (View.ld a (Rect.unit ![0, o, 0] S1x128x704.size inb))) (k0_pay24 (View.ld b (Rect.unit ![0, o, 0] S1x128x704.size inb)))
      (View.ld ds (Rect.unit ![o, 0] S128x704.size inb')) (k0_pay25 (View.ld a (Rect.unit ![0, o, 0] S1x128x704.size inb)))⟩ := by
  intro (x : S1x128x704.Idx)
  show k0_pay29 (F := Ideal) _ _ _ _ x = daOut ds a b ((Rect.unit (s := S1x512x704) ![0, o, 0] S1x128x704.size inb).emb x)
  obtain ⟨u, r, c, rfl⟩ : ∃ u r c, x = ix3 u r c := ⟨_, _, _, eq_ix3 x⟩
  obtain rfl : u = 0 := Subsingleton.elim _ _
  exact (pay29_apply _ _ _ _ _).trans (congrArg (fun q : EReal => daE q _ _) (ld_rows ds o inb inb' r c))

theorem fits_db : Fits (dbOut ds a) ⟨Rect.unit (s := S1x512x704) ![0, o, 0] S1x128x704.size inb,
    k0_pay30 (View.ld ds (Rect.unit ![o, 0] S128x704.size inb')) (k0_pay26 (View.ld a (Rect.unit ![0, o, 0] S1x128x704.size inb)))⟩ := by
  intro (x : S1x128x704.Idx)
  show k0_pay30 (F := Ideal) _ _ x = dbOut ds a ((Rect.unit (s := S1x512x704) ![0, o, 0] S1x128x704.size inb).emb x)
  obtain ⟨u, r, c, rfl⟩ : ∃ u r c, x = ix3 u r c := ⟨_, _, _, eq_ix3 x⟩
  obtain rfl : u = 0 := Subsingleton.elim _ _
  exact (pay30_apply _ _ _ _).trans (congrArg (fun q : EReal => q * _) (ld_rows ds o inb inb' r c))

end chunk

theorem fits_pay56 (s : Vec Ideal S512x2048 .f32) (da db : Vec Ideal S1x512x704 .bf16) (wg wu : Vec Ideal S1x704x2048 .bf16) (o : ℕ) (inb) (inb') :
    Fits (back s da db wg wu) ⟨Rect.unit (s := S512x2048) ![o, 0] S256x2048.size inb,
      k0_pay56 (View.ld s (Rect.unit ![o, 0] S256x2048.size inb)) (View.ld da (Rect.unit ![0, o, 0] S1x256x704.size inb')) wg
        (View.ld db (Rect.unit ![0, o, 0] S1x256x704.size inb')) wu⟩ := by
  intro (x : S256x2048.Idx)
  show k0_pay56 (F := Ideal) _ _ wg _ wu x = back s da db wg wu ((Rect.unit (s := S512x2048) ![o, 0] S256x2048.size inb).emb x)
  obtain ⟨a, b, rfl⟩ : ∃ a b, x = ix2 a b := ⟨_, _, eq_ix2 x⟩
  have e0 := emb_val (s := S512x2048) ![o, 0] S256x2048.size inb (ix2 a b) 0
  have e1 := emb_val (s := S512x2048) ![o, 0] S256x2048.size inb (ix2 a b) 1
  have hq (q : Vec Ideal S1x512x704 .bf16) (w : Vec Ideal S1x704x2048 .bf16) :
      ∑ k : Fin 704, ((View.ld q (Rect.unit (s := S1x512x704) ![0, o, 0] S1x256x704.size inb') (ix3 0 a k) : EReal) * w (ix3 0 k b) : EReal)
        = ∑ k : Fin 704, (q (ix3 0 ((Rect.unit (s := S512x2048) ![o, 0] S256x2048.size inb).emb (ix2 a b) 0) k)
            * w (ix3 0 k ((Rect.unit (s := S512x2048) ![o, 0] S256x2048.size inb).emb (ix2 a b) 1)) : EReal) := by
    refine Finset.sum_congr rfl fun k _ => ?_
    refine congrArg₂ (fun p q : EReal => p * q) (View.ld_unit_apply_of q _ _ inb' _ _ fun d => ?_) (congrArg w (funext fun d => Fin.ext ?_))
    · match d with
      | ⟨0, _⟩ => rfl
      | ⟨1, _⟩ => exact e0
      | ⟨2, _⟩ => exact (Nat.zero_add _).symm
    · match d with
      | ⟨0, _⟩ => rfl
      | ⟨1, _⟩ => rfl
      | ⟨2, _⟩ => exact ((e1.trans (Nat.zero_add _)).symm : b.val = _)
  refine (pay56_apply _ _ _ _ _ _ _).trans ?_
  unfold back
  exact congrArg₂ (fun p q : EReal => p + q) rfl (congrArg₂ (fun p q : EReal => p + q) (hq da wg) (hq db wu))

section tokens
variable (x o dh : Vec Ideal S512x2048 .f32) (y : Vec Ideal S512x2048 .bf16) (p : Vec Ideal S1x3x2048 .f32) (g : Vec Ideal S1x2048 .f32)
  (off : Fin 2 → ℕ) (h1 : off 1 = 0) (inb : ∀ d : Fin 2, off d + S128x2048.size d ≤ S512x2048.size d)

/-- One row of the modulation, as it is loaded. -/
theorem ld_mod (n : ℕ) (j : Fin 3) (hj : j.val = n) (inbj) (b : Fin 2048) :
    View.ld p (Rect.unit (s := S1x3x2048) ![0, n, 0] S1x1x2048.size inbj) (ix3 0 0 b) = p (ix3 0 j b) :=
  View.ld_unit_apply_of p _ _ inbj _ _ fun d => match d with
    | ⟨0, _⟩ => rfl
    | ⟨1, _⟩ => hj
    | ⟨2, _⟩ => (Nat.zero_add _).symm

include h1 in
/-- A chunk's rows, as they are loaded. -/
theorem ld_tok {e : EltTy} (z : S512x2048.Idx → Elt Ideal e) (a : Fin 128) (b k : Fin 2048) :
    View.ld z (Rect.unit (s := S512x2048) off S128x2048.size inb) (ix2 a k)
      = z (ix2 ((Rect.unit (s := S512x2048) off S128x2048.size inb).emb (ix2 a b) 0) k) :=
  View.ld_unit_apply_of z off _ inb _ _ fun d => match d with
    | ⟨0, _⟩ => emb_val (s := S512x2048) off S128x2048.size inb (ix2 a b) 0
    | ⟨1, _⟩ => ((congrArg (· + k.val) h1).trans (Nat.zero_add _)).symm

include h1 in
theorem emb_col (a : Fin 128) (b : Fin 2048) : (Rect.unit (s := S512x2048) off S128x2048.size inb).emb (ix2 a b) 1 = b :=
  Fin.ext ((emb_val (s := S512x2048) off S128x2048.size inb (ix2 a b) 1).trans ((congrArg (· + b.val) h1).trans (Nat.zero_add _)))

include h1 in
theorem fits_pay18 (inb2) : Fits (sgd o p) ⟨Rect.unit (s := S512x2048) off S128x2048.size inb,
      k0_pay18 (View.ld p (Rect.unit ![0, 2, 0] S1x1x2048.size inb2)) (View.ld o (Rect.unit off S128x2048.size inb))⟩ := by
  intro (z : S128x2048.Idx)
  show k0_pay18 (F := Ideal) _ _ z = sgd o p ((Rect.unit (s := S512x2048) off S128x2048.size inb).emb z)
  obtain ⟨a, b, rfl⟩ : ∃ a b, z = ix2 a b := ⟨_, _, eq_ix2 z⟩
  refine (pay18_apply _ _ _ _).trans ?_
  rw [ld_mod p 2 2 rfl inb2 b]
  unfold sgd
  rw [emb_col off h1 inb a b]
  rfl

theorem pay19_eq (q : Vec Ideal S1x1x2048 .f32) (d : Vec Ideal S128x2048 .f32) : k0_pay19 q d = k0_pay18 q d :=
  funext fun z => by
    obtain ⟨a, b, rfl⟩ : ∃ a b, z = ix2 a b := ⟨_, _, eq_ix2 z⟩
    exact (pay19_apply q d a b).trans (pay18_apply q d a b).symm

include h1 in
theorem fits_pay14 (inb1) : Fits (dxOut x o dh p g) ⟨Rect.unit (s := S512x2048) off S128x2048.size inb,
      k0_pay14 (View.ld o (Rect.unit off S128x2048.size inb)) (k0_pay5 (View.ld x (Rect.unit off S128x2048.size inb)))
        (k0_pay6 (View.ld x (Rect.unit off S128x2048.size inb)))
        (k0_pay11 (View.ld dh (Rect.unit off S128x2048.size inb)) g (View.ld p (Rect.unit ![0, 1, 0] S1x1x2048.size inb1)))
        (k0_pay12 (View.ld x (Rect.unit off S128x2048.size inb)) (View.ld dh (Rect.unit off S128x2048.size inb)) g (View.ld p (Rect.unit ![0, 1, 0] S1x1x2048.size inb1)))
        (k0_pay13 (F := Ideal))⟩ := by
  intro (z : S128x2048.Idx)
  show k0_pay14 (F := Ideal) _ _ _ _ _ _ z = dxOut x o dh p g ((Rect.unit (s := S512x2048) off S128x2048.size inb).emb z)
  obtain ⟨a, b, rfl⟩ : ∃ a b, z = ix2 a b := ⟨_, _, eq_ix2 z⟩
  refine (pay14_apply _ _ _ _ _ _ _).trans ?_
  unfold dxOut
  rw [funext fun k => ld_tok off h1 inb x a b k, funext fun k => ld_tok off h1 inb dh a b k, funext fun k => ld_mod p 1 1 rfl inb1 k,
    emb_col off h1 inb a b]
  rfl

end tokens

end Cert.Kernel7Ideal.Bwd

end
-- ==== Proof.BwdReal.lean ====
/-
  Finite numbers through the feed-forward layer, and the two forms of the norm's gradient.
-/
module

public import proofs.«01_k».proof.Proof.BwdPieces
public import proofs.«01_k».proof.Proof.Reals
public import proofs.«01_k».proof.Proof.FfnValue

@[expose] public section

noncomputable section

namespace Cert.Bwd7

open Idealize.ShloMosaic Cert.Ret
open Cert.Kernel7Ideal.Bwd (rs daE dxE)
open Cert.Kernel6Ideal.Ffn (nrm tok hid gat add part)

theorem fine_coe (r : ℝ) : Fine (r : EReal) := ⟨EReal.coe_ne_top r, EReal.coe_ne_bot r⟩

theorem _root_.Cert.Ret.Fine.mul {x y : EReal} (h : Fine x) (k : Fine y) : Fine (x * y) := by
  rw [← h.coe, ← k.coe, ← EReal.coe_mul]
  exact fine_coe _

theorem _root_.Cert.Ret.Fine.add {x y : EReal} (h : Fine x) (k : Fine y) : Fine (x + y) := by
  rw [← h.coe, ← k.coe, ← EReal.coe_add]
  exact fine_coe _

theorem _root_.Cert.Ret.Fine.sub {x y : EReal} (h : Fine x) (k : Fine y) : Fine (x - y) := by
  rw [← h.coe, ← k.coe, ← EReal.coe_sub]
  exact fine_coe _

theorem _root_.Cert.Ret.Fine.sum {ι : Type*} (s : Finset ι) {f : ι → EReal} (h : ∀ i, Fine (f i)) : Fine (∑ i ∈ s, f i) := by
  rw [Finset.sum_congr rfl fun i _ => (h i).coe.symm, sum_coe]
  exact fine_coe _

theorem _root_.Cert.Ret.Fine.one : Fine 1 := fine_coe 1

theorem _root_.Cert.Ret.Fine.logistic {x : EReal} (h : Fine x) : Fine (Ideal.logistic x) := by
  rw [← h.coe, Ideal.logistic_coe]
  exact fine_coe _

theorem half_eq : Ideal.ofBits FTy.f32 1056964608#32 = (((1 / 2 : ℝ)) : EReal) := by
  simp [Ideal.ofBits, Ideal.ieee, Nat.shiftRight_eq_div_pow]
  norm_num
  rw [← EReal.coe_mul]
  norm_num
theorem mhalf_eq : Ideal.ofBits FTy.f32 3204448256#32 = (((-(1 / 2) : ℝ)) : EReal) := by
  simp [Ideal.ofBits, Ideal.ieee, Nat.shiftRight_eq_div_pow]
  norm_num
  rw [← EReal.coe_mul]
  norm_num
theorem len_eq : Ideal.ofBits FTy.f32 1157627904#32 = (((2048 : ℝ)) : EReal) := by
  simp [Ideal.ofBits, Ideal.ieee, Nat.shiftRight_eq_div_pow]
  norm_num
  rw [← EReal.coe_mul]
  norm_num
theorem eps_eq : ∃ e : ℝ, 0 < e ∧ Ideal.ofBits FTy.f32 897988541#32 = (e : EReal) := by
  refine ⟨8796093 * 2 ^ (-43 : ℤ), by positivity, ?_⟩
  simp [Ideal.ofBits, Ideal.ieee, Nat.shiftRight_eq_div_pow]

theorem div_real (a : ℝ) {b : ℝ} (hb : b ≠ 0) : Ideal.div (a : EReal) (b : EReal) = ((a / b : ℝ) : EReal) := by
  unfold Ideal.div
  rw [if_neg (by exact_mod_cast hb), div_eq_mul_inv, EReal.coe_mul, EReal.coe_inv]

/-- The mean of the squares with the constant is a positive number. -/
theorem ms_real (x : Fin 2048 → ℝ) : ∃ q : ℝ, 0 < q ∧
    Ideal.div (∑ k : Fin 2048, (x k : EReal) * (x k : EReal)) (Ideal.ofBits FTy.f32 1157627904#32) + Ideal.ofBits FTy.f32 897988541#32 = (q : EReal) := by
  obtain ⟨e, he, h⟩ := eps_eq
  refine ⟨(∑ k : Fin 2048, x k * x k) / 2048 + e, ?_, ?_⟩
  · have : 0 ≤ ∑ k : Fin 2048, x k * x k := Finset.sum_nonneg fun k _ => mul_self_nonneg (x k)
    positivity
  · rw [h, len_eq, Finset.sum_congr rfl fun k _ => (EReal.coe_mul (x k) (x k)).symm, sum_coe, div_real _ (by norm_num), ← EReal.coe_add]

theorem rsqrt_real {q : ℝ} (hq : 0 < q) : Ideal.rsqrt (q : EReal) = (((Real.sqrt q)⁻¹ : ℝ) : EReal) := by
  rw [Ideal.rsqrt_coe, if_neg (not_lt.2 hq.le), if_neg hq.ne']

theorem fine_nrm {x : Fin 2048 → EReal} {v g sh sc : EReal} (hx : ∀ k, Fine (x k)) (hv : Fine v) (hg : Fine g) (hs : Fine sh) (hc : Fine sc) :
    Fine (nrm x v g sh sc) := by
  unfold nrm
  obtain ⟨q, hq, e⟩ := ms_real fun k => (x k).toReal
  simp only [(hx _).coe] at e
  rw [e, rsqrt_real hq]
  exact ((((hv.mul (fine_coe _)).mul hg).mul (Fine.one.add hc)).add hs)

/-- The gradient of a gated column, multiplied out as differentiation does it. -/
theorem da_eq {t b a : EReal} (ht : Fine t) (hb : Fine b) (ha : Fine a) :
    (t * b) * Ideal.logistic a + a * (t * b) * (Ideal.logistic a * (1 - Ideal.logistic a)) = daE t a b := by
  unfold daE
  have hl := Fine.logistic ha
  rw [← ht.coe, ← hb.coe, ← hl.coe, ← ha.coe]
  simp only [← EReal.coe_one, ← EReal.coe_mul, ← EReal.coe_sub, ← EReal.coe_add]
  congr 1
  ring

/-- The norm's gradient, as differentiation gives it. -/
def dxR (x d sc g : Fin 2048 → EReal) (k : Fin 2048) (o : EReal) : EReal :=
  let q := Ideal.div (∑ l : Fin 2048, x l * x l) (Ideal.ofBits FTy.f32 1157627904#32) + Ideal.ofBits FTy.f32 897988541#32
  let z := Ideal.div ((∑ l : Fin 2048, x l * (d l * (1 + sc l) * g l)) * (Ideal.ofBits FTy.f32 3204448256#32 * Ideal.div (Ideal.rsqrt q) q))
    (Ideal.ofBits FTy.f32 1157627904#32)
  o + (d k * (1 + sc k) * g k * Ideal.rsqrt q + x k * z + z * x k)

theorem dx_eq {x d sc g : Fin 2048 → EReal} (hx : ∀ k, Fine (x k)) (hd : ∀ k, Fine (d k)) (hs : ∀ k, Fine (sc k)) (hg : ∀ k, Fine (g k))
    (k : Fin 2048) (o : EReal) : dxR x d sc g k o = dxE x d sc g k o := by
  obtain ⟨x, rfl⟩ : ∃ y : Fin 2048 → ℝ, x = fun l => ((y l : ℝ) : EReal) := ⟨_, funext fun l => (hx l).coe.symm⟩
  obtain ⟨u, hu⟩ : ∃ y : Fin 2048 → ℝ, ∀ l, d l * (1 + sc l) * g l = ((y l : ℝ) : EReal) :=
    ⟨_, fun l => (((hd l).mul (Fine.one.add (hs l))).mul (hg l)).coe.symm⟩
  obtain ⟨q, hq, e⟩ := ms_real x
  unfold dxR dxE rs
  simp only [e, hu]
  simp only [rsqrt_real hq, len_eq, mhalf_eq, div_real _ hq.ne', ← EReal.coe_mul, sum_coe, div_real _ (show (2048 : ℝ) ≠ 0 by norm_num),
    ← EReal.coe_add, ← EReal.coe_sub]
  refine congrArg (fun y : EReal => o + y) (congrArg _ ?_)
  have hr : (∑ l : Fin 2048, u l * (x l * (Real.sqrt q)⁻¹)) = (∑ l : Fin 2048, x l * u l) * (Real.sqrt q)⁻¹ := by
    rw [Finset.sum_mul]
    exact Finset.sum_congr rfl fun l _ => by ring
  have hs2 : (Real.sqrt q)⁻¹ / q = (Real.sqrt q)⁻¹ * (Real.sqrt q)⁻¹ * (Real.sqrt q)⁻¹ := by
    have h0 : Real.sqrt q ≠ 0 := (Real.sqrt_pos.2 hq).ne'
    have h1 : Real.sqrt q * Real.sqrt q = q := Real.mul_self_sqrt hq.le
    rw [div_eq_mul_inv]
    nth_rewrite 2 [← h1]
    rw [mul_inv]
    ring
  rw [hr, hs2]
  ring

/-- A half of a sum is the sum of the halves. -/
theorem half_sum {d y : Fin 2048 → EReal} (hd : ∀ k, Fine (d k)) (hy : ∀ k, Fine (y k)) :
    Ideal.ofBits FTy.f32 1056964608#32 * ∑ k : Fin 2048, d k * y k = ∑ k : Fin 2048, Ideal.ofBits FTy.f32 1056964608#32 * d k * y k := by
  have e1 : ∀ k, d k * y k = (((d k).toReal * (y k).toReal : ℝ) : EReal) := fun k => by rw [EReal.coe_mul, (hd k).coe, (hy k).coe]
  have e2 : ∀ k, Ideal.ofBits FTy.f32 1056964608#32 * d k * y k = ((1 / 2 * ((d k).toReal * (y k).toReal) : ℝ) : EReal) := fun k => by
    rw [mul_assoc, e1, half_eq, ← EReal.coe_mul]
  rw [Finset.sum_congr rfl fun k _ => e1 k, Finset.sum_congr rfl fun k _ => e2 k, sum_coe, sum_coe, half_eq, ← EReal.coe_mul, Finset.mul_sum]

end Cert.Bwd7

end
-- ==== Proof.BwdStraight.lean ====
/-
  The straight part of the backward kernel's body over the ideal numbers, as lists of stored pieces, and what they hold:
  the gradient of the gated rows, the gated rows, the gradients of the two hidden products, and the sum over the blocks.
-/
module

public import proofs.«01_k».proof.Proof.BwdPieces

@[expose] public section

set_option maxRecDepth 16384

noncomputable section

namespace Cert.Kernel7Ideal.Bwd

open Idealize.ShloMosaic Idealize.ShloMosaic.TcCoe Idealize.ShloMosaic.Tactic Idealize.SL.Sem
open Cert.Kernel7Ideal Cert.Kernel7Ideal.Gen

variable (a5 a6 a13 a14 : Memref sig .tc .vmem S1x512x704 .bf16) (a18 : Memref sig .tc .vmem S512x2048 .bf16)
  (a20 : Memref sig .tc .vmem S512x704 .f32)
  (f5 : a5.view.ty.Contents (Elt Ideal)) (f6 : a6.view.ty.Contents (Elt Ideal)) (fh : a18.view.ty.Contents (Elt Ideal))
  (w wg wu : Vec Ideal S1x704x2048 .bf16)

/-- The stored rows of the gradient of the gated rows, last first. -/
def L20 : List (View.Piece (Elt Ideal) S512x704 .f32) :=
  [⟨Rect.unit (s := S512x704) ![256, 0] S256x704.size (by decide), k0_pay22 (a18.view.readAt (Elt Ideal) (Rect.unit (s := S512x2048) ![256, 0] S256x2048.size (by decide)).toLoadRect fh) w⟩,
   ⟨Rect.unit (s := S512x704) ![0, 0] S256x704.size (by decide), k0_pay21 (a18.view.readAt (Elt Ideal) (Rect.unit (s := S512x2048) ![0, 0] S256x2048.size (by decide)).toLoadRect fh) w⟩]

theorem read_L20 (v : View sig .tc .vmem S512x704 .f32) (f : v.ty.Contents (Elt Ideal)) :
    v.read (Elt Ideal) (v.writes (Elt Ideal) f (L20 a18 fh w)) = up (a18.view.read (Elt Ideal) fh) w :=
  read_of_fits v f _ _
    (List.forall_mem_cons.2 ⟨fits_pay21 _ w 256 _ _, List.forall_mem_cons.2 ⟨fits_pay21 _ w 0 _ _, List.forall_mem_nil _⟩⟩)
    (View.cover_of_tiledL (L20 a18 fh w) S256x704.size (by sl_kernel_rfl))

/-- These rows, read back. -/
abbrev rows20 (o : ℕ) (h : ∀ a : Fin 2, (![o, 0] : Fin 2 → ℕ) a + S128x704.size a ≤ S512x704.size a) : Vec Ideal S128x704 .f32 :=
  a20.view.readCov (L20 a18 fh w) (Rect.unit (s := S512x704) ![o, 0] S128x704.size h).toLoadRect

theorem rows20_eq (o : ℕ) (h) : rows20 a18 a20 fh w o h = View.ld (up (a18.view.read (Elt Ideal) fh) w) (Rect.unit (s := S512x704) ![o, 0] S128x704.size h) :=
  congrArg (fun X => View.ld X (Rect.unit (s := S512x704) ![o, 0] S128x704.size h)) (read_L20 a18 fh w a20.view _)

/-- The stored blocks of the gated rows, last first. -/
def L15 : List (View.Piece (Elt Ideal) S1x512x704 .bf16) :=
  [⟨Rect.unit (s := S1x512x704) ![0, 384, 0] S1x128x704.size (by decide), k0_pay52 (a5.view.readAt (Elt Ideal) (Rect.unit (s := S1x512x704) ![0, 384, 0] S1x128x704.size (by decide)).toLoadRect f5) (a6.view.readAt (Elt Ideal) (Rect.unit (s := S1x512x704) ![0, 384, 0] S1x128x704.size (by decide)).toLoadRect f6)⟩,
   ⟨Rect.unit (s := S1x512x704) ![0, 256, 0] S1x128x704.size (by decide), k0_pay43 (a5.view.readAt (Elt Ideal) (Rect.unit (s := S1x512x704) ![0, 256, 0] S1x128x704.size (by decide)).toLoadRect f5) (a6.view.readAt (Elt Ideal) (Rect.unit (s := S1x512x704) ![0, 256, 0] S1x128x704.size (by decide)).toLoadRect f6)⟩,
   ⟨Rect.unit (s := S1x512x704) ![0, 128, 0] S1x128x704.size (by decide), k0_pay35 (a5.view.readAt (Elt Ideal) (Rect.unit (s := S1x512x704) ![0, 128, 0] S1x128x704.size (by decide)).toLoadRect f5) (a6.view.readAt (Elt Ideal) (Rect.unit (s := S1x512x704) ![0, 128, 0] S1x128x704.size (by decide)).toLoadRect f6)⟩,
   ⟨Rect.unit (s := S1x512x704) ![0, 0, 0] S1x128x704.size (by decide), k0_pay28 (k0_pay27 (a5.view.readAt (Elt Ideal) (Rect.unit (s := S1x512x704) ![0, 0, 0] S1x128x704.size (by decide)).toLoadRect f5) (a6.view.readAt (Elt Ideal) (Rect.unit (s := S1x512x704) ![0, 0, 0] S1x128x704.size (by decide)).toLoadRect f6))⟩]

theorem fits_L15 : ∀ p ∈ L15 a5 a6 f5 f6, Fits (sOut (a5.view.read (Elt Ideal) f5) (a6.view.read (Elt Ideal) f6)) p := by
  unfold L15
  simp only [pay52_eq, pay43_eq, pay35_eq]
  exact List.forall_mem_cons.2 ⟨fits_s _ _ 384 _, List.forall_mem_cons.2 ⟨fits_s _ _ 256 _, List.forall_mem_cons.2 ⟨fits_s _ _ 128 _, List.forall_mem_cons.2 ⟨fits_s _ _ 0 _, List.forall_mem_nil _⟩⟩⟩⟩

/-- The stored blocks of the gradient of the gate's rows, last first. -/
def L13 : List (View.Piece (Elt Ideal) S1x512x704 .bf16) :=
  [⟨Rect.unit (s := S1x512x704) ![0, 384, 0] S1x128x704.size (by decide), k0_pay54 (k0_pay53 (a5.view.readAt (Elt Ideal) (Rect.unit (s := S1x512x704) ![0, 384, 0] S1x128x704.size (by decide)).toLoadRect f5) (a6.view.readAt (Elt Ideal) (Rect.unit (s := S1x512x704) ![0, 384, 0] S1x128x704.size (by decide)).toLoadRect f6) (rows20 a18 a20 fh w 384 (by decide)))⟩,
   ⟨Rect.unit (s := S1x512x704) ![0, 256, 0] S1x128x704.size (by decide), k0_pay46 (k0_pay41 (a5.view.readAt (Elt Ideal) (Rect.unit (s := S1x512x704) ![0, 256, 0] S1x128x704.size (by decide)).toLoadRect f5)) (k0_pay44 (a6.view.readAt (Elt Ideal) (Rect.unit (s := S1x512x704) ![0, 256, 0] S1x128x704.size (by decide)).toLoadRect f6) (rows20 a18 a20 fh w 256 (by decide))) (k0_pay45 (a5.view.readAt (Elt Ideal) (Rect.unit (s := S1x512x704) ![0, 256, 0] S1x128x704.size (by decide)).toLoadRect f5))⟩,
   ⟨Rect.unit (s := S1x512x704) ![0, 128, 0] S1x128x704.size (by decide), k0_pay37 (k0_pay31 (a5.view.readAt (Elt Ideal) (Rect.unit (s := S1x512x704) ![0, 128, 0] S1x128x704.size (by decide)).toLoadRect f5)) (k0_pay33 (a5.view.readAt (Elt Ideal) (Rect.unit (s := S1x512x704) ![0, 128, 0] S1x128x704.size (by decide)).toLoadRect f5)) (k0_pay36 (a6.view.readAt (Elt Ideal) (Rect.unit (s := S1x512x704) ![0, 128, 0] S1x128x704.size (by decide)).toLoadRect f6) (rows20 a18 a20 fh w 128 (by decide)))⟩,
   ⟨Rect.unit (s := S1x512x704) ![0, 0, 0] S1x128x704.size (by decide), k0_pay29 (k0_pay23 (a5.view.readAt (Elt Ideal) (Rect.unit (s := S1x512x704) ![0, 0, 0] S1x128x704.size (by decide)).toLoadRect f5)) (k0_pay24 (a6.view.readAt (Elt Ideal) (Rect.unit (s := S1x512x704) ![0, 0, 0] S1x128x704.size (by decide)).toLoadRect f6)) (rows20 a18 a20 fh w 0 (by decide)) (k0_pay25 (a5.view.readAt (Elt Ideal) (Rect.unit (s := S1x512x704) ![0, 0, 0] S1x128x704.size (by decide)).toLoadRect f5))⟩]

theorem fits_L13 : ∀ p ∈ L13 a5 a6 a18 a20 f5 f6 fh w, Fits (daOut (up (a18.view.read (Elt Ideal) fh) w) (a5.view.read (Elt Ideal) f5) (a6.view.read (Elt Ideal) f6)) p := by
  unfold L13
  simp only [rows20_eq, pay54_eq, pay46_eq, pay37_eq]
  exact List.forall_mem_cons.2 ⟨fits_da _ _ _ 384 _ (by decide), List.forall_mem_cons.2 ⟨fits_da _ _ _ 256 _ (by decide), List.forall_mem_cons.2 ⟨fits_da _ _ _ 128 _ (by decide), List.forall_mem_cons.2 ⟨fits_da _ _ _ 0 _ (by decide), List.forall_mem_nil _⟩⟩⟩⟩

/-- The stored blocks of the gradient of the linear rows, last first. -/
def L14 : List (View.Piece (Elt Ideal) S1x512x704 .bf16) :=
  [⟨Rect.unit (s := S1x512x704) ![0, 384, 0] S1x128x704.size (by decide), k0_pay55 (rows20 a18 a20 fh w 384 (by decide)) (k0_pay51 (a5.view.readAt (Elt Ideal) (Rect.unit (s := S1x512x704) ![0, 384, 0] S1x128x704.size (by decide)).toLoadRect f5))⟩,
   ⟨Rect.unit (s := S1x512x704) ![0, 256, 0] S1x128x704.size (by decide), k0_pay47 (rows20 a18 a20 fh w 256 (by decide)) (k0_pay42 (a5.view.readAt (Elt Ideal) (Rect.unit (s := S1x512x704) ![0, 256, 0] S1x128x704.size (by decide)).toLoadRect f5))⟩,
   ⟨Rect.unit (s := S1x512x704) ![0, 128, 0] S1x128x704.size (by decide), k0_pay38 (rows20 a18 a20 fh w 128 (by decide)) (k0_pay34 (a5.view.readAt (Elt Ideal) (Rect.unit (s := S1x512x704) ![0, 128, 0] S1x128x704.size (by decide)).toLoadRect f5))⟩,
   ⟨Rect.unit (s := S1x512x704) ![0, 0, 0] S1x128x704.size (by decide), k0_pay30 (rows20 a18 a20 fh w 0 (by decide)) (k0_pay26 (a5.view.readAt (Elt Ideal) (Rect.unit (s := S1x512x704) ![0, 0, 0] S1x128x704.size (by decide)).toLoadRect f5))⟩]

theorem fits_L14 : ∀ p ∈ L14 a5 a18 a20 f5 fh w, Fits (dbOut (up (a18.view.read (Elt Ideal) fh) w) (a5.view.read (Elt Ideal) f5)) p := by
  unfold L14
  simp only [rows20_eq, pay55_eq, pay47_eq, pay38_eq]
  exact List.forall_mem_cons.2 ⟨fits_db _ _ 384 _ (by decide), List.forall_mem_cons.2 ⟨fits_db _ _ 256 _ (by decide), List.forall_mem_cons.2 ⟨fits_db _ _ 128 _ (by decide), List.forall_mem_cons.2 ⟨fits_db _ _ 0 _ (by decide), List.forall_mem_nil _⟩⟩⟩⟩

/-- The gradient of the gate's rows, read back. -/
abbrev rows13 (o : ℕ) (h : ∀ a : Fin 3, (![0, o, 0] : Fin 3 → ℕ) a + S1x256x704.size a ≤ S1x512x704.size a) : Vec Ideal S1x256x704 .bf16 :=
  a13.view.readCov (L13 a5 a6 a18 a20 f5 f6 fh w) (Rect.unit (s := S1x512x704) ![0, o, 0] S1x256x704.size h).toLoadRect

theorem rows13_eq (o : ℕ) (h) : rows13 a5 a6 a13 a18 a20 f5 f6 fh w o h = View.ld (daOut (up (a18.view.read (Elt Ideal) fh) w) (a5.view.read (Elt Ideal) f5) (a6.view.read (Elt Ideal) f6)) (Rect.unit (s := S1x512x704) ![0, o, 0] S1x256x704.size h) :=
  congrArg (fun X => View.ld X (Rect.unit (s := S1x512x704) ![0, o, 0] S1x256x704.size h))
    (read_of_fits a13.view _ _ _ (fits_L13 a5 a6 a18 a20 f5 f6 fh w) (View.cover_of_tiledL (L13 a5 a6 a18 a20 f5 f6 fh w) S1x128x704.size (by sl_kernel_rfl)))

/-- The gradient of the linear rows, read back. -/
abbrev rows14 (o : ℕ) (h : ∀ a : Fin 3, (![0, o, 0] : Fin 3 → ℕ) a + S1x256x704.size a ≤ S1x512x704.size a) : Vec Ideal S1x256x704 .bf16 :=
  a14.view.readCov (L14 a5 a18 a20 f5 fh w) (Rect.unit (s := S1x512x704) ![0, o, 0] S1x256x704.size h).toLoadRect

theorem rows14_eq (o : ℕ) (h) : rows14 a5 a14 a18 a20 f5 fh w o h = View.ld (dbOut (up (a18.view.read (Elt Ideal) fh) w) (a5.view.read (Elt Ideal) f5)) (Rect.unit (s := S1x512x704) ![0, o, 0] S1x256x704.size h) :=
  congrArg (fun X => View.ld X (Rect.unit (s := S1x512x704) ![0, o, 0] S1x256x704.size h))
    (read_of_fits a14.view _ _ _ (fits_L14 a5 a18 a20 f5 fh w) (View.cover_of_tiledL (L14 a5 a18 a20 f5 fh w) S1x128x704.size (by sl_kernel_rfl)))

/-- The stored rows of the sum, last first: `r0`, `r1` are the rows that it was read as. -/
def L19 (r0 r1 : Vec Ideal S256x2048 .f32) : List (View.Piece (Elt Ideal) S512x2048 .f32) :=
  [⟨Rect.unit (s := S512x2048) ![256, 0] S256x2048.size (by decide), k0_pay1 r1 (k0_pay57 (rows13 a5 a6 a13 a18 a20 f5 f6 fh w 256 (by decide))) (k0_pay58 wg) (rows14 a5 a14 a18 a20 f5 fh w 256 (by decide)) wu⟩,
   ⟨Rect.unit (s := S512x2048) ![0, 0] S256x2048.size (by decide), k0_pay56 r0 (rows13 a5 a6 a13 a18 a20 f5 f6 fh w 0 (by decide)) wg (rows14 a5 a14 a18 a20 f5 fh w 0 (by decide)) wu⟩]

theorem read_L19 (s : Vec Ideal S512x2048 .f32) (r0 r1 : Vec Ideal S256x2048 .f32)
    (h0 : r0 = View.ld s (Rect.unit (s := S512x2048) ![0, 0] S256x2048.size (by decide)))
    (h1 : r1 = View.ld s (Rect.unit (s := S512x2048) ![256, 0] S256x2048.size (by decide)))
    (v : View sig .tc .vmem S512x2048 .f32) (f : v.ty.Contents (Elt Ideal)) :
    v.read (Elt Ideal) (v.writes (Elt Ideal) f (L19 a5 a6 a13 a14 a18 a20 f5 f6 fh w wg wu r0 r1))
      = back s (daOut (up (a18.view.read (Elt Ideal) fh) w) (a5.view.read (Elt Ideal) f5) (a6.view.read (Elt Ideal) f6)) (dbOut (up (a18.view.read (Elt Ideal) fh) w) (a5.view.read (Elt Ideal) f5)) wg wu := by
  refine read_of_fits v f _ _ ?_ (View.cover_of_tiledL (L19 a5 a6 a13 a14 a18 a20 f5 f6 fh w wg wu r0 r1) S256x2048.size (by sl_kernel_rfl))
  unfold L19
  simp only [pay1_eq, rows13_eq, rows14_eq, h0, h1]
  exact List.forall_mem_cons.2 ⟨fits_pay56 s _ _ wg wu 256 _ _, List.forall_mem_cons.2 ⟨fits_pay56 s _ _ wg wu 0 _ _, List.forall_mem_nil _⟩⟩

end Cert.Kernel7Ideal.Bwd

end
-- ==== Proof.BwdBody.lean ====
/-
  The backward kernel's body over the ideal numbers: what its two loops and its four cases leave in each buffer.
-/
module

public import proofs.«01_k».proof.Proof.BwdStraight
public import proofs.«01_k».proof.Proof.BwdRunZ
public import proofs.«01_k».proof.Proof.BwdRunA
public import proofs.«01_k».proof.Proof.BwdRunB
public import proofs.«01_k».proof.Proof.BwdRunC

@[expose] public section

set_option maxRecDepth 16384

noncomputable section

namespace Cert.Kernel7Ideal.Bwd

open Idealize.ShloMosaic Idealize.ShloMosaic.TcCoe Idealize.ShloMosaic.Tactic Idealize.SL.Sem
open Cert.Kernel7Ideal Cert.Kernel7Ideal.Gen

/-- What a load of the whole block finds where the block holds `x`. -/
abbrev wh (a : Memref sig .tc .vmem S1x704x2048 .bf16) (ha : a.IsWhole) (x : Vec Ideal S1x704x2048 .bf16) : Vec Ideal S1x704x2048 .bf16 :=
  a.view.readAt (Elt Ideal) (Rect.unit (s := S1x704x2048) ![0, 0, 0] S1x704x2048.size (by decide)).toLoadRect (ha.unread x)

theorem load_whole (a : Memref sig .tc .vmem S1x704x2048 .bf16) (ha : a.IsWhole) (x : Vec Ideal S1x704x2048 .bf16) : wh a ha x = x :=
  (View.ld_unit_zero (by decide) _ _).trans (ha.read_unread x)

section rows
variable (v : View sig .tc .vmem S1x8x2048 .f32) (f : v.ty.Contents (Elt Ideal))

/-- The rows of the sums over the tokens that one trip stores, last first. -/
abbrev rowPieces (w0 w1 w2 w3 : Vec Ideal S1x1x2048 .f32) : List (View.Piece (Elt Ideal) S1x8x2048 .f32) :=
  [⟨Rect.unit (s := S1x8x2048) ![0, 3, 0] S1x1x2048.size (by decide), w3⟩, ⟨Rect.unit (s := S1x8x2048) ![0, 2, 0] S1x1x2048.size (by decide), w2⟩,
   ⟨Rect.unit (s := S1x8x2048) ![0, 1, 0] S1x1x2048.size (by decide), w1⟩, ⟨Rect.unit (s := S1x8x2048) ![0, 0, 0] S1x1x2048.size (by decide), w0⟩]

theorem row_hit (n : ℕ) (inb) (w : Vec Ideal S1x1x2048 .f32) (L : List (View.Piece (Elt Ideal) S1x8x2048 .f32)) (q : Fin 8) (hq : q.val = n) (b : Fin 2048) :
    v.read (Elt Ideal) (v.writes (Elt Ideal) f (⟨Rect.unit (s := S1x8x2048) ![0, n, 0] S1x1x2048.size inb, w⟩ :: L)) (ix3 0 q b) = w (ix3 0 0 b) :=
  View.read_writes_cons_unit_of_mem v f inb w L (ix3 0 q b) (ix3 0 0 b) rfl fun d => match d with
    | ⟨0, _⟩ => rfl
    | ⟨1, _⟩ => hq
    | ⟨2, _⟩ => (Nat.zero_add _).symm

theorem row_miss (n : ℕ) (inb) (w : Vec Ideal S1x1x2048 .f32) (L : List (View.Piece (Elt Ideal) S1x8x2048 .f32)) (q : Fin 8) (hq : q.val ≠ n) (b : Fin 2048) :
    v.read (Elt Ideal) (v.writes (Elt Ideal) f (⟨Rect.unit (s := S1x8x2048) ![0, n, 0] S1x1x2048.size inb, w⟩ :: L)) (ix3 0 q b)
      = v.read (Elt Ideal) (v.writes (Elt Ideal) f L) (ix3 0 q b) :=
  View.read_writes_cons_unit_of_not_mem v f inb w L (ix3 0 q b) rfl 1 ((Nat.lt_or_gt_of_ne hq).imp id fun h => h)

theorem read_rows (w0 w1 w2 w3 : Vec Ideal S1x1x2048 .f32) (T : ℕ → Fin 2048 → EReal) (hT : ∀ n b, 4 ≤ n → T n b = 0)
    (h0 : ∀ b, (w0 (ix3 0 0 b) : EReal) = v.read (Elt Ideal) f (ix3 0 0 b) + T 0 b)
    (h1 : ∀ b, (w1 (ix3 0 0 b) : EReal) = v.read (Elt Ideal) f (ix3 0 1 b) + T 1 b)
    (h2 : ∀ b, (w2 (ix3 0 0 b) : EReal) = v.read (Elt Ideal) f (ix3 0 2 b) + T 2 b)
    (h3 : ∀ b, (w3 (ix3 0 0 b) : EReal) = v.read (Elt Ideal) f (ix3 0 3 b) + T 3 b) (q : Fin 8) (b : Fin 2048) :
    (v.read (Elt Ideal) (v.writes (Elt Ideal) f (rowPieces w0 w1 w2 w3)) (ix3 0 q b) : EReal)
      = v.read (Elt Ideal) f (ix3 0 q b) + T q.val b := by
  by_cases e3 : q.val = 3
  · obtain rfl : q = 3 := Fin.ext e3
    exact (row_hit v f 3 _ w3 _ 3 rfl b).trans (h3 b)
  refine (row_miss v f 3 _ w3 _ q e3 b).trans ?_
  by_cases e2 : q.val = 2
  · obtain rfl : q = 2 := Fin.ext e2
    exact (row_hit v f 2 _ w2 _ 2 rfl b).trans (h2 b)
  refine (row_miss v f 2 _ w2 _ q e2 b).trans ?_
  by_cases e1 : q.val = 1
  · obtain rfl : q = 1 := Fin.ext e1
    exact (row_hit v f 1 _ w1 _ 1 rfl b).trans (h1 b)
  refine (row_miss v f 1 _ w1 _ q e1 b).trans ?_
  by_cases e0 : q.val = 0
  · obtain rfl : q = 0 := Fin.ext e0
    exact (row_hit v f 0 _ w0 _ 0 rfl b).trans (h0 b)
  refine (row_miss v f 0 _ w0 _ q e0 b).trans ?_
  rw [hT q.val b (by omega)]
  exact (add_zero (M := EReal) _).symm

/-- A row as a trip loads it. -/
theorem ld_row (n : ℕ) (inb) (q : Fin 8) (hq : q.val = n) (b : Fin 2048) :
    v.readAt (Elt Ideal) (Rect.unit (s := S1x8x2048) ![0, n, 0] S1x1x2048.size inb).toLoadRect f (ix3 0 0 b) = v.read (Elt Ideal) f (ix3 0 q b) :=
  View.ld_unit_apply_of (v.read (Elt Ideal) f) _ _ inb _ _ fun d => match d with
    | ⟨0, _⟩ => rfl
    | ⟨1, _⟩ => hq
    | ⟨2, _⟩ => (Nat.zero_add _).symm

end rows

/-- The buffers that the body is called with, each one whole. -/
structure Mems where
  (a2 : Memref sig .tc .vmem S512x2048 .f32) (u2 : a2.IsWhole)
  (a3 : Memref sig .tc .vmem S512x2048 .f32) (u3 : a3.IsWhole)
  (a4 : Memref sig .tc .vmem S512x2048 .bf16) (u4 : a4.IsWhole)
  (a5 : Memref sig .tc .vmem S1x512x704 .bf16) (u5 : a5.IsWhole)
  (a6 : Memref sig .tc .vmem S1x512x704 .bf16) (u6 : a6.IsWhole)
  (a7 : Memref sig .tc .vmem S1x3x2048 .f32) (u7 : a7.IsWhole)
  (a8 : Memref sig .tc .vmem S1x2048 .f32) (u8 : a8.IsWhole)
  (a9 : Memref sig .tc .vmem S1x704x2048 .bf16) (u9 : a9.IsWhole)
  (a10 : Memref sig .tc .vmem S1x704x2048 .bf16) (u10 : a10.IsWhole)
  (a11 : Memref sig .tc .vmem S1x704x2048 .bf16) (u11 : a11.IsWhole)
  (a12 : Memref sig .tc .vmem S512x2048 .f32) (u12 : a12.IsWhole)
  (a13 : Memref sig .tc .vmem S1x512x704 .bf16) (u13 : a13.IsWhole)
  (a14 : Memref sig .tc .vmem S1x512x704 .bf16) (u14 : a14.IsWhole)
  (a15 : Memref sig .tc .vmem S1x512x704 .bf16) (u15 : a15.IsWhole)
  (a16 : Memref sig .tc .vmem S1x8x2048 .f32) (u16 : a16.IsWhole)
  (a17 : Memref sig .tc .vmem S512x2048 .bf16) (u17 : a17.IsWhole)
  (a18 : Memref sig .tc .vmem S512x2048 .bf16) (u18 : a18.IsWhole)
  (a19 : Memref sig .tc .vmem S512x2048 .f32) (u19 : a19.IsWhole)
  (a20 : Memref sig .tc .vmem S512x704 .f32) (u20 : a20.IsWhole)

variable (c : Dev nD) (i : grid0.Coords) (M : Mems)

/-- What one trip of the first loop stores, -/
abbrev T1 := tripL_k0_t1 (F := Ideal) Variants.none c none i M.a2 M.u2 M.a3 M.u3 M.a4 M.u4 M.a5 M.u5 M.a6 M.u6 M.a7 M.u7 M.a8 M.u8 M.a9 M.u9 M.a10 M.u10 M.a11 M.u11 M.a12 M.u12 M.a13 M.u13 M.a14 M.u14 M.a15 M.u15 M.a16 M.u16 M.a17 M.u17 M.a18 M.u18 M.a19 M.u19 M.a20 M.u20
/-- what its first trips store together, -/
abbrev B1 := pb_k0_t1 (F := Ideal) Variants.none c none i M.a2 M.u2 M.a3 M.u3 M.a4 M.u4 M.a5 M.u5 M.a6 M.u6 M.a7 M.u7 M.a8 M.u8 M.a9 M.u9 M.a10 M.u10 M.a11 M.u11 M.a12 M.u12 M.a13 M.u13 M.a14 M.u14 M.a15 M.u15 M.a16 M.u16 M.a17 M.u17 M.a18 M.u18 M.a19 M.u19 M.a20 M.u20
/-- and the same for the last loop. -/
abbrev T2 := tripL_k0_t2 (F := Ideal) Variants.none c none i M.a2 M.u2 M.a3 M.u3 M.a4 M.u4 M.a5 M.u5 M.a6 M.u6 M.a7 M.u7 M.a8 M.u8 M.a9 M.u9 M.a10 M.u10 M.a11 M.u11 M.a12 M.u12 M.a13 M.u13 M.a14 M.u14 M.a15 M.u15 M.a16 M.u16 M.a17 M.u17 M.a18 M.u18 M.a19 M.u19 M.a20 M.u20
abbrev B2 := pb_k0_t2 (F := Ideal) Variants.none c none i M.a2 M.u2 M.a3 M.u3 M.a4 M.u4 M.a5 M.u5 M.a6 M.u6 M.a7 M.u7 M.a8 M.u8 M.a9 M.u9 M.a10 M.u10 M.a11 M.u11 M.a12 M.u12 M.a13 M.u13 M.a14 M.u14 M.a15 M.u15 M.a16 M.u16 M.a17 M.u17 M.a18 M.u18 M.a19 M.u19 M.a20 M.u20
/-- The runs with these buffers. -/
abbrev RZ := runZ (F := Ideal) c i M.a2 M.u2 M.a3 M.u3 M.a4 M.u4 M.a5 M.u5 M.a6 M.u6 M.a7 M.u7 M.a8 M.u8 M.a9 M.u9 M.a10 M.u10 M.a11 M.u11 M.a12 M.u12 M.a13 M.u13 M.a14 M.u14 M.a15 M.u15 M.a16 M.u16 M.a17 M.u17 M.a18 M.u18 M.a19 M.u19 M.a20 M.u20
abbrev RA := runA (F := Ideal) c i M.a2 M.u2 M.a3 M.u3 M.a4 M.u4 M.a5 M.u5 M.a6 M.u6 M.a7 M.u7 M.a8 M.u8 M.a9 M.u9 M.a10 M.u10 M.a11 M.u11 M.a12 M.u12 M.a13 M.u13 M.a14 M.u14 M.a15 M.u15 M.a16 M.u16 M.a17 M.u17 M.a18 M.u18 M.a19 M.u19 M.a20 M.u20
abbrev RB := runB (F := Ideal) c i M.a2 M.u2 M.a3 M.u3 M.a4 M.u4 M.a5 M.u5 M.a6 M.u6 M.a7 M.u7 M.a8 M.u8 M.a9 M.u9 M.a10 M.u10 M.a11 M.u11 M.a12 M.u12 M.a13 M.u13 M.a14 M.u14 M.a15 M.u15 M.a16 M.u16 M.a17 M.u17 M.a18 M.u18 M.a19 M.u19 M.a20 M.u20
abbrev RC := runC (F := Ideal) c i M.a2 M.u2 M.a3 M.u3 M.a4 M.u4 M.a5 M.u5 M.a6 M.u6 M.a7 M.u7 M.a8 M.u8 M.a9 M.u9 M.a10 M.u10 M.a11 M.u11 M.a12 M.u12 M.a13 M.u13 M.a14 M.u14 M.a15 M.u15 M.a16 M.u16 M.a17 M.u17 M.a18 M.u18 M.a19 M.u19 M.a20 M.u20

section loop1
variable (h : k0_cond1 i = 1#1) (X3 : BufTy.Contents (Elt Ideal) M.a3.view.ty) (X7 : BufTy.Contents (Elt Ideal) M.a7.view.ty)

theorem fits_trip1 (k : Fin k0_t1_loop.trips) :
    (∀ p ∈ (T1 c i M h X3 X7 k).1, Fits (sgd (M.a3.view.read (Elt Ideal) X3) (M.a7.view.read (Elt Ideal) X7)) p)
    ∧ ∀ p ∈ (T1 c i M h X3 X7 k).2, Fits (sgd (M.a3.view.read (Elt Ideal) X3) (M.a7.view.read (Elt Ideal) X7)) p := by
  have o1 : k0_off1 k 1 = 0 := rfl
  have t := fits_pay18 (M.a3.view.read (Elt Ideal) X3) (M.a7.view.read (Elt Ideal) X7) (k0_off1 k) o1 (k0_off1_inb i k h) (by decide)
  unfold T1 tripL_k0_t1 trip_k0_t1
  refine ⟨List.forall_mem_cons.2 ⟨t, List.forall_mem_nil _⟩, List.forall_mem_cons.2 ⟨?_, List.forall_mem_nil _⟩⟩
  rw [← pay19_eq] at t
  exact t

theorem fits_loop1 : ∀ n, n ≤ k0_t1_loop.trips →
    (∀ p ∈ (B1 c i M h X3 X7 n).1, Fits (sgd (M.a3.view.read (Elt Ideal) X3) (M.a7.view.read (Elt Ideal) X7)) p)
    ∧ ∀ p ∈ (B1 c i M h X3 X7 n).2, Fits (sgd (M.a3.view.read (Elt Ideal) X3) (M.a7.view.read (Elt Ideal) X7)) p
  | 0, _ => ⟨List.forall_mem_nil _, List.forall_mem_nil _⟩
  | n + 1, hn => by
    have e := pb_k0_t1_succ (F := Ideal) Variants.none c none i M.a2 M.u2 M.a3 M.u3 M.a4 M.u4 M.a5 M.u5 M.a6 M.u6 M.a7 M.u7 M.a8 M.u8 M.a9 M.u9 M.a10 M.u10 M.a11 M.u11 M.a12 M.u12 M.a13 M.u13 M.a14 M.u14 M.a15 M.u15 M.a16 M.u16 M.a17 M.u17 M.a18 M.u18 M.a19 M.u19 M.a20 M.u20 h X3 X7 ⟨n, hn⟩
    have t := fits_trip1 c i M h X3 X7 ⟨n, hn⟩
    have r := fits_loop1 n (Nat.le_of_succ_le hn)
    rw [show B1 c i M h X3 X7 (n + 1) = _ from e]
    exact ⟨List.forall_mem_append.2 ⟨t.1, r.1⟩, List.forall_mem_append.2 ⟨t.2, r.2⟩⟩

/-- What the scratch rows read after the first loop. -/
theorem dys_loop (v : View sig .tc .vmem S512x2048 .bf16) (f : v.ty.Contents (Elt Ideal)) :
    v.read (Elt Ideal) (v.writes (Elt Ideal) f (B1 c i M h X3 X7 (Scf.trips k0_t1_loop.lb k0_t1_loop.ub k0_t1_loop.st)).2)
      = sgd (M.a3.view.read (Elt Ideal) X3) (M.a7.view.read (Elt Ideal) X7) :=
  read_of_fits v f _ _ (fits_loop1 c i M h X3 X7 _ le_rfl).2 fun y => View.cover_of_tiledL
    (B1 c i M h X3 X7 (Scf.trips k0_t1_loop.lb k0_t1_loop.ub k0_t1_loop.st)).2 S128x2048.size (by sl_kernel_rfl) y

end loop1

/-- The derivative's block once the first loop is through. -/
abbrev D0 (h : first i) (x1 : Vec Ideal S512x2048 .f32) (x5 : Vec Ideal S1x3x2048 .f32) : M.a18.view.ty.Contents (Elt Ideal) :=
  M.a18.view.writes (Elt Ideal) M.a18.view.junk (B1 c i M h (M.u3.unread x1) (M.u7.unread x5) (Scf.trips k0_t1_loop.lb k0_t1_loop.ub k0_t1_loop.st)).2

theorem read_D0 (h : first i) (x1 : Vec Ideal S512x2048 .f32) (x5 : Vec Ideal S1x3x2048 .f32) :
    M.a18.view.read (Elt Ideal) (D0 c i M h x1 x5) = sgd x1 x5 :=
  (dys_loop c i M h (M.u3.unread x1) (M.u7.unread x5) M.a18.view M.a18.view.junk).trans (congr (congrArg sgd (M.u3.read_unread x1)) (M.u7.read_unread x5))

section loop2
variable (h : k0_cond3 i = 1#1) (X2 : BufTy.Contents (Elt Ideal) M.a2.view.ty) (X3 : BufTy.Contents (Elt Ideal) M.a3.view.ty)
  (X4 : BufTy.Contents (Elt Ideal) M.a4.view.ty) (X7 : BufTy.Contents (Elt Ideal) M.a7.view.ty) (X8 : BufTy.Contents (Elt Ideal) M.a8.view.ty)
  (X19 : BufTy.Contents (Elt Ideal) M.a19.view.ty) (f : BufTy.Contents (Elt Ideal) M.a12.view.ty) (u : BufTy.Contents (Elt Ideal) M.a16.view.ty)

theorem fits_trip2 (k : Fin k0_t2_loop.trips) (f : BufTy.Contents (Elt Ideal) M.a12.view.ty) (u : BufTy.Contents (Elt Ideal) M.a16.view.ty) :
    ∀ p ∈ (T2 c i M h X2 X3 X4 X7 X8 X19 k f u).1,
      Fits (dxOut (M.a2.view.read (Elt Ideal) X2) (M.a3.view.read (Elt Ideal) X3) (M.a19.view.read (Elt Ideal) X19) (M.a7.view.read (Elt Ideal) X7) (M.a8.view.read (Elt Ideal) X8)) p := by
  have e8 : M.a8.view.readAt (Elt Ideal) (Rect.unit (s := S1x2048) ![0, 0] S1x2048.size (by decide)).toLoadRect X8 = M.a8.view.read (Elt Ideal) X8 :=
    View.ld_unit_zero (by decide) _ _
  have o1 : k0_off2 k 1 = 0 := rfl
  have t := fits_pay14 (M.a2.view.read (Elt Ideal) X2) (M.a3.view.read (Elt Ideal) X3) (M.a19.view.read (Elt Ideal) X19) (M.a7.view.read (Elt Ideal) X7)
    (M.a8.view.read (Elt Ideal) X8) (k0_off2 k) o1 (k0_off2_inb i k h) (by decide)
  rw [← e8] at t ⊢
  unfold T2 tripL_k0_t2 trip_k0_t2
  exact List.forall_mem_cons.2 ⟨t, List.forall_mem_nil _⟩

theorem fits_loop2 : ∀ n, n ≤ k0_t2_loop.trips →
    ∀ p ∈ (B2 c i M h X2 X3 X4 X7 X8 X19 f u n).1,
      Fits (dxOut (M.a2.view.read (Elt Ideal) X2) (M.a3.view.read (Elt Ideal) X3) (M.a19.view.read (Elt Ideal) X19) (M.a7.view.read (Elt Ideal) X7) (M.a8.view.read (Elt Ideal) X8)) p
  | 0, _ => List.forall_mem_nil _
  | n + 1, hn => by
    have e := pb_k0_t2_succ (F := Ideal) Variants.none c none i M.a2 M.u2 M.a3 M.u3 M.a4 M.u4 M.a5 M.u5 M.a6 M.u6 M.a7 M.u7 M.a8 M.u8 M.a9 M.u9 M.a10 M.u10 M.a11 M.u11 M.a12 M.u12 M.a13 M.u13 M.a14 M.u14 M.a15 M.u15 M.a16 M.u16 M.a17 M.u17 M.a18 M.u18 M.a19 M.u19 M.a20 M.u20 h X2 X3 X4 X7 X8 X19 f u ⟨n, hn⟩
    have r := fits_loop2 n (Nat.le_of_succ_le hn)
    rw [show B2 c i M h X2 X3 X4 X7 X8 X19 f u (n + 1) = _ from e]
    exact List.forall_mem_append.2 ⟨fits_trip2 c i M h X2 X3 X4 X7 X8 X19 ⟨n, hn⟩ _ _, r⟩

/-- What the tokens of chunk `j` add to the sums over the tokens. -/
def chunk (x o dh : Vec Ideal S512x2048 .f32) (y : Vec Ideal S512x2048 .bf16) (p : Vec Ideal S1x3x2048 .f32) (g : Vec Ideal S1x2048 .f32)
    (j n : ℕ) (b : Fin 2048) : EReal :=
  ∑ a : Fin 128, con x o dh y p g n ⟨(j * 128 + a.val) % 512, Nat.mod_lt _ (by decide)⟩ b

/-- One trip adds its chunk. -/
theorem red_trip (k : Fin k0_t2_loop.trips) (f : BufTy.Contents (Elt Ideal) M.a12.view.ty) (u : BufTy.Contents (Elt Ideal) M.a16.view.ty) (q : Fin 8) (b : Fin 2048) :
    (M.a16.view.read (Elt Ideal) (M.a16.view.writes (Elt Ideal) u (T2 c i M h X2 X3 X4 X7 X8 X19 k f u).2) (ix3 0 q b) : EReal)
      = M.a16.view.read (Elt Ideal) u (ix3 0 q b)
        + chunk (M.a2.view.read (Elt Ideal) X2) (M.a3.view.read (Elt Ideal) X3) (M.a19.view.read (Elt Ideal) X19) (M.a4.view.read (Elt Ideal) X4)
            (M.a7.view.read (Elt Ideal) X7) (M.a8.view.read (Elt Ideal) X8) k.val q.val b := by
  have e8 : M.a8.view.readAt (Elt Ideal) (Rect.unit (s := S1x2048) ![0, 0] S1x2048.size (by decide)).toLoadRect X8 = M.a8.view.read (Elt Ideal) X8 :=
    View.ld_unit_zero (by decide) _ _
  have o1 : k0_off2 k 1 = 0 := rfl
  have o0 : k0_off2 k 0 = k.val * 128 := (by decide : ∀ k : Fin k0_t2_loop.trips, k0_off2 k 0 = k.val * 128) k
  have hk : k.val < 4 := k.isLt
  have tk {e : EltTy} (z : S512x2048.Idx → Elt Ideal e) (a : Fin 128) (b : Fin 2048) :
      View.ld z (Rect.unit (s := S512x2048) (k0_off2 k) S128x2048.size (k0_off2_inb i k h)) (ix2 a b)
        = z (ix2 ⟨(k.val * 128 + a.val) % 512, Nat.mod_lt _ (by decide)⟩ b) :=
    View.ld_unit_apply_of z _ _ _ _ _ fun d => match d with
      | ⟨0, _⟩ => (Nat.mod_eq_of_lt (by have := a.isLt; omega)).trans (congrArg (· + a.val) o0.symm)
      | ⟨1, _⟩ => ((congrArg (· + b.val) o1).trans (Nat.zero_add _)).symm
  have tx (a : Fin 128) := funext fun k' : Fin 2048 => tk (M.a2.view.read (Elt Ideal) X2) a k'
  unfold T2 tripL_k0_t2 trip_k0_t2
  refine read_rows M.a16.view u _ _ _ _ (fun n b => chunk (M.a2.view.read (Elt Ideal) X2) (M.a3.view.read (Elt Ideal) X3) (M.a19.view.read (Elt Ideal) X19)
    (M.a4.view.read (Elt Ideal) X4) (M.a7.view.read (Elt Ideal) X7) (M.a8.view.read (Elt Ideal) X8) k.val n b) ?_ ?_ ?_ ?_ ?_ q b
  · intro n b hn
    obtain ⟨m, rfl⟩ := Nat.exists_eq_add_of_le' hn
    exact Finset.sum_eq_zero fun a _ => rfl
  · intro b
    refine (pay15_apply (View.ld (M.a19.view.read (Elt Ideal) X19) (Rect.unit (s := S512x2048) (k0_off2 k) S128x2048.size (k0_off2_inb i k h))) (M.a16.view.readAt (Elt Ideal) (Rect.unit (s := S1x8x2048) ![0, 0, 0] S1x1x2048.size (by decide)).toLoadRect u) b).trans (congrArg₂ (fun p q : EReal => p + q) (ld_row M.a16.view u 0 _ 0 rfl b) (Finset.sum_congr rfl fun a _ => ?_))
    rw [tk]
    rfl
  · intro b
    refine (pay16_apply (View.ld (M.a2.view.read (Elt Ideal) X2) (Rect.unit (s := S512x2048) (k0_off2 k) S128x2048.size (k0_off2_inb i k h))) (View.ld (M.a19.view.read (Elt Ideal) X19) (Rect.unit (s := S512x2048) (k0_off2 k) S128x2048.size (k0_off2_inb i k h))) (M.a8.view.readAt (Elt Ideal) (Rect.unit (s := S1x2048) ![0, 0] S1x2048.size (by decide)).toLoadRect X8) (M.a16.view.readAt (Elt Ideal) (Rect.unit (s := S1x8x2048) ![0, 1, 0] S1x1x2048.size (by decide)).toLoadRect u) b).trans (congrArg₂ (fun p q : EReal => p + q) (ld_row M.a16.view u 1 _ 1 rfl b) (Finset.sum_congr rfl fun a _ => ?_))
    rw [tk, tk, tx, e8]
    rfl
  · intro b
    refine (pay3_apply (View.ld (M.a3.view.read (Elt Ideal) X3) (Rect.unit (s := S512x2048) (k0_off2 k) S128x2048.size (k0_off2_inb i k h))) (M.a16.view.readAt (Elt Ideal) (Rect.unit (s := S1x8x2048) ![0, 2, 0] S1x1x2048.size (by decide)).toLoadRect u) (View.ld (M.a4.view.read (Elt Ideal) X4) (Rect.unit (s := S512x2048) (k0_off2 k) S128x2048.size (k0_off2_inb i k h))) b).trans (congrArg₂ (fun p q : EReal => p + q) (ld_row M.a16.view u 2 _ 2 rfl b) (Finset.sum_congr rfl fun a _ => ?_))
    rw [tk, tk]
    rfl
  · intro b
    refine (pay4_apply (View.ld (M.a2.view.read (Elt Ideal) X2) (Rect.unit (s := S512x2048) (k0_off2 k) S128x2048.size (k0_off2_inb i k h))) (View.ld (M.a19.view.read (Elt Ideal) X19) (Rect.unit (s := S512x2048) (k0_off2 k) S128x2048.size (k0_off2_inb i k h))) (View.ld (M.a7.view.read (Elt Ideal) X7) (Rect.unit (s := S1x3x2048) ![0, 1, 0] S1x1x2048.size (by decide))) (M.a16.view.readAt (Elt Ideal) (Rect.unit (s := S1x8x2048) ![0, 3, 0] S1x1x2048.size (by decide)).toLoadRect u) b).trans (congrArg₂ (fun p q : EReal => p + q) (ld_row M.a16.view u 3 _ 3 rfl b) (Finset.sum_congr rfl fun a _ => ?_))
    rw [tk, tk, tx, ld_mod _ 1 1 rfl]
    rfl

/-- After `n` trips the first `n` chunks have been added. -/
theorem red_loop (q : Fin 8) (b : Fin 2048) : ∀ n, n ≤ k0_t2_loop.trips →
    (M.a16.view.read (Elt Ideal) (M.a16.view.writes (Elt Ideal) u (B2 c i M h X2 X3 X4 X7 X8 X19 f u n).2) (ix3 0 q b) : EReal)
      = M.a16.view.read (Elt Ideal) u (ix3 0 q b)
        + ∑ j ∈ Finset.range n, chunk (M.a2.view.read (Elt Ideal) X2) (M.a3.view.read (Elt Ideal) X3) (M.a19.view.read (Elt Ideal) X19) (M.a4.view.read (Elt Ideal) X4)
            (M.a7.view.read (Elt Ideal) X7) (M.a8.view.read (Elt Ideal) X8) j q.val b
  | 0, _ => by
    rw [Finset.sum_range_zero]
    exact (add_zero (M := EReal) _).symm
  | n + 1, hn => by
    have e := pb_k0_t2_succ (F := Ideal) Variants.none c none i M.a2 M.u2 M.a3 M.u3 M.a4 M.u4 M.a5 M.u5 M.a6 M.u6 M.a7 M.u7 M.a8 M.u8 M.a9 M.u9 M.a10 M.u10 M.a11 M.u11 M.a12 M.u12 M.a13 M.u13 M.a14 M.u14 M.a15 M.u15 M.a16 M.u16 M.a17 M.u17 M.a18 M.u18 M.a19 M.u19 M.a20 M.u20 h X2 X3 X4 X7 X8 X19 f u ⟨n, hn⟩
    rw [show B2 c i M h X2 X3 X4 X7 X8 X19 f u (n + 1) = _ from e, View.writes_append,
      red_trip c i M h X2 X3 X4 X7 X8 X19 ⟨n, hn⟩, red_loop q b n (Nat.le_of_succ_le hn), Finset.sum_range_succ _ n]
    exact add_assoc (G := EReal) _ _ _

theorem chunks (x o dh : Vec Ideal S512x2048 .f32) (y : Vec Ideal S512x2048 .bf16) (p : Vec Ideal S1x3x2048 .f32) (g : Vec Ideal S1x2048 .f32)
    (n : ℕ) (b : Fin 2048) : ∑ j ∈ Finset.range k0_t2_loop.trips, chunk x o dh y p g j n b = ∑ a : Fin 512, con x o dh y p g n a b := by
  refine (Finset.sum_range _).trans (Eq.trans ?_ (Fin.sum_univ_tiles 4 128 rfl _).symm)
  refine Finset.sum_congr rfl fun j _ => Finset.sum_congr rfl fun a _ => congrArg (fun r => con x o dh y p g n r b) (Fin.ext (Nat.mod_eq_of_lt ?_))
  have : j.val < 4 := j.isLt
  have := a.isLt
  show j.val * 128 + a.val < 512
  omega

/-- The last loop's two results, from what its buffers read. -/
theorem loop2_dx (x o dh : Vec Ideal S512x2048 .f32) (y : Vec Ideal S512x2048 .bf16) (p : Vec Ideal S1x3x2048 .f32) (g : Vec Ideal S1x2048 .f32)
    (r : Vec Ideal S1x8x2048 .f32) (h2 : M.a2.view.read (Elt Ideal) X2 = x) (h3 : M.a3.view.read (Elt Ideal) X3 = o) (h19 : M.a19.view.read (Elt Ideal) X19 = dh)
    (h4 : M.a4.view.read (Elt Ideal) X4 = y) (h7 : M.a7.view.read (Elt Ideal) X7 = p) (h8 : M.a8.view.read (Elt Ideal) X8 = g)
    (h16 : M.a16.view.read (Elt Ideal) u = r) (v : View sig .tc .vmem S512x2048 .f32) (z : v.ty.Contents (Elt Ideal))
    (hc : ∀ y, ∃ p ∈ (B2 c i M h X2 X3 X4 X7 X8 X19 f u k0_t2_loop.trips).1, y ∈ p.1.set) :
    v.read (Elt Ideal) (v.writes (Elt Ideal) z (B2 c i M h X2 X3 X4 X7 X8 X19 f u k0_t2_loop.trips).1) = dxOut x o dh p g := by
  subst h2 h3 h19 h7 h8
  exact read_of_fits v z _ _ (fits_loop2 c i M h X2 X3 X4 X7 X8 X19 f u k0_t2_loop.trips le_rfl) hc

theorem loop2_red (x o dh : Vec Ideal S512x2048 .f32) (y : Vec Ideal S512x2048 .bf16) (p : Vec Ideal S1x3x2048 .f32) (g : Vec Ideal S1x2048 .f32)
    (r : Vec Ideal S1x8x2048 .f32) (h2 : M.a2.view.read (Elt Ideal) X2 = x) (h3 : M.a3.view.read (Elt Ideal) X3 = o) (h19 : M.a19.view.read (Elt Ideal) X19 = dh)
    (h4 : M.a4.view.read (Elt Ideal) X4 = y) (h7 : M.a7.view.read (Elt Ideal) X7 = p) (h8 : M.a8.view.read (Elt Ideal) X8 = g)
    (h16 : M.a16.view.read (Elt Ideal) u = r) (q : Fin 8) (b : Fin 2048) :
    (M.a16.view.read (Elt Ideal) (M.a16.view.writes (Elt Ideal) u (B2 c i M h X2 X3 X4 X7 X8 X19 f u k0_t2_loop.trips).2) (ix3 0 q b) : EReal)
      = r (ix3 0 q b) + ∑ a : Fin 512, con x o dh y p g q.val a b := by
  subst h2 h3 h19 h4 h7 h8 h16
  exact (red_loop c i M h X2 X3 X4 X7 X8 X19 f u q b k0_t2_loop.trips le_rfl).trans (congrArg (fun t : EReal => _ + t) (chunks _ _ _ _ _ _ q.val b))

end loop2

/-- The sum's rows before the first block are zero. -/
theorem zeros_ld (o : ℕ) (inb) (v : View sig .tc .vmem S512x2048 .f32) (f : v.ty.Contents (Elt Ideal)) (h) :
    v.readAt (Elt Ideal) (Rect.unit (s := S512x2048) ![o, 0] S256x2048.size inb).toLoadRect
      (v.writes (Elt Ideal) f [⟨Rect.unit (s := S512x2048) ![0, 0] S512x2048.size h, k0_pay20 (F := Ideal)⟩])
    = View.ld (fun _ => (0 : EReal)) (Rect.unit (s := S512x2048) ![o, 0] S256x2048.size inb) :=
  congrArg (fun X => View.ld X (Rect.unit (s := S512x2048) ![o, 0] S256x2048.size inb))
    (read_of_fits v f (fun _ => (0 : EReal)) _ (List.forall_mem_cons.2 ⟨fun x => pay20_apply x, List.forall_mem_nil _⟩)
      (View.cover_of_tiledL (Val := Elt Ideal) (s := S512x2048) (e := .f32) [⟨Rect.unit (s := S512x2048) ![0, 0] S512x2048.size h, (k0_pay20 (F := Ideal) : S512x2048.Idx → Elt Ideal .f32)⟩] S512x2048.size (by sl_kernel_rfl)))

section caseZ
variable (hc0 : first i) (hc1 : zero i) (hc2 : ¬last i) (x0 x1 : Vec Ideal S512x2048 .f32) (x2 : Vec Ideal S512x2048 .bf16) (x3 x4 : Vec Ideal S1x512x704 .bf16) (x5 : Vec Ideal S1x3x2048 .f32) (x6 : Vec Ideal S1x2048 .f32) (x7 x8 x9 : Vec Ideal S1x704x2048 .bf16)

theorem dy_Z (v : View sig .tc .vmem S512x2048 .bf16) (f : v.ty.Contents (Elt Ideal)) :
    v.read (Elt Ideal) (v.writes (Elt Ideal) f (RZ c i M hc0 hc1 hc2 x0 x1 x2 x3 x4 x5 x6 x7 x8 x9).2.2.2.2.1) = sgd x1 x5 := by
  have k := read_of_fits v f _ (RZ c i M hc0 hc1 hc2 x0 x1 x2 x3 x4 x5 x6 x7 x8 x9).2.2.2.2.1 (fits_loop1 c i M hc0 (M.u3.unread x1) (M.u7.unread x5) k0_t1_loop.trips le_rfl).1 (by apply coverZ17)
  refine Eq.trans ?_ (k.trans (congr (congrArg sgd (M.u3.read_unread x1)) (M.u7.read_unread x5)))
  rfl

theorem dys_Z (v : View sig .tc .vmem S512x2048 .bf16) (f : v.ty.Contents (Elt Ideal)) :
    v.read (Elt Ideal) (v.writes (Elt Ideal) f (RZ c i M hc0 hc1 hc2 x0 x1 x2 x3 x4 x5 x6 x7 x8 x9).2.2.2.2.2.1) = sgd x1 x5 := by
  have k := read_of_fits v f _ (RZ c i M hc0 hc1 hc2 x0 x1 x2 x3 x4 x5 x6 x7 x8 x9).2.2.2.2.2.1 (fits_loop1 c i M hc0 (M.u3.unread x1) (M.u7.unread x5) k0_t1_loop.trips le_rfl).2 (by apply coverZ18)
  refine Eq.trans ?_ (k.trans (congr (congrArg sgd (M.u3.read_unread x1)) (M.u7.read_unread x5)))
  rfl

theorem zero_Z (v : View sig .tc .vmem S1x8x2048 .f32) (f : v.ty.Contents (Elt Ideal)) :
    v.read (Elt Ideal) (v.writes (Elt Ideal) f (RZ c i M hc0 hc1 hc2 x0 x1 x2 x3 x4 x5 x6 x7 x8 x9).2.2.2.1) = fun _ => (0 : EReal) :=
  read_of_fits v f _ (RZ c i M hc0 hc1 hc2 x0 x1 x2 x3 x4 x5 x6 x7 x8 x9).2.2.2.1 (List.forall_mem_cons.2 ⟨fun x => pay2_apply x, List.forall_mem_nil _⟩) (by apply coverZ16)

theorem s_Z (v : View sig .tc .vmem S1x512x704 .bf16) (f : v.ty.Contents (Elt Ideal)) :
    v.read (Elt Ideal) (v.writes (Elt Ideal) f (RZ c i M hc0 hc1 hc2 x0 x1 x2 x3 x4 x5 x6 x7 x8 x9).2.2.1) = sOut x3 x4 := by
  have k := read_of_fits v f _ (RZ c i M hc0 hc1 hc2 x0 x1 x2 x3 x4 x5 x6 x7 x8 x9).2.2.1 (fits_L15 M.a5 M.a6 (M.u5.unread x3) (M.u6.unread x4)) (by apply coverZ15)
  exact k.trans (congr (congrArg sOut (M.u5.read_unread x3)) (M.u6.read_unread x4))

theorem da_Z (v : View sig .tc .vmem S1x512x704 .bf16) (f : v.ty.Contents (Elt Ideal)) :
    v.read (Elt Ideal) (v.writes (Elt Ideal) f (RZ c i M hc0 hc1 hc2 x0 x1 x2 x3 x4 x5 x6 x7 x8 x9).1) = daOut (up (sgd x1 x5) x9) x3 x4 := by
  have e11 := load_whole M.a11 M.u11 x9
  have es := read_D0 c i M hc0 x1 x5
  have k := read_of_fits v f _ (RZ c i M hc0 hc1 hc2 x0 x1 x2 x3 x4 x5 x6 x7 x8 x9).1 (fits_L13 M.a5 M.a6 M.a18 M.a20 (M.u5.unread x3) (M.u6.unread x4) (D0 c i M hc0 x1 x5) (wh M.a11 M.u11 x9)) (by apply coverZ13)
  exact k.trans (by rw [M.u5.read_unread x3, M.u6.read_unread x4, es, e11])

theorem db_Z (v : View sig .tc .vmem S1x512x704 .bf16) (f : v.ty.Contents (Elt Ideal)) :
    v.read (Elt Ideal) (v.writes (Elt Ideal) f (RZ c i M hc0 hc1 hc2 x0 x1 x2 x3 x4 x5 x6 x7 x8 x9).2.1) = dbOut (up (sgd x1 x5) x9) x3 := by
  have e11 := load_whole M.a11 M.u11 x9
  have es := read_D0 c i M hc0 x1 x5
  have k := read_of_fits v f _ (RZ c i M hc0 hc1 hc2 x0 x1 x2 x3 x4 x5 x6 x7 x8 x9).2.1 (fits_L14 M.a5 M.a18 M.a20 (M.u5.unread x3) (D0 c i M hc0 x1 x5) (wh M.a11 M.u11 x9)) (by apply coverZ14)
  exact k.trans (by rw [M.u5.read_unread x3, es, e11])

theorem acc_Z (v : View sig .tc .vmem S512x2048 .f32) (f : v.ty.Contents (Elt Ideal)) :
    v.read (Elt Ideal) (v.writes (Elt Ideal) f (RZ c i M hc0 hc1 hc2 x0 x1 x2 x3 x4 x5 x6 x7 x8 x9).2.2.2.2.2.2.1)
      = back (fun _ => (0 : EReal)) (daOut (up (sgd x1 x5) x9) x3 x4) (dbOut (up (sgd x1 x5) x9) x3) x7 x8 := by
  have e9 := load_whole M.a9 M.u9 x7
  have e10 := load_whole M.a10 M.u10 x8
  have e11 := load_whole M.a11 M.u11 x9
  have es := read_D0 c i M hc0 x1 x5
  let Z : List (View.Piece (Elt Ideal) S512x2048 .f32) := [⟨Rect.unit (s := S512x2048) ![0, 0] S512x2048.size (by decide), k0_pay20 (F := Ideal)⟩]
  let w := (wh M.a11 M.u11 x9)
  let wg := (wh M.a9 M.u9 x7)
  let wu := (wh M.a10 M.u10 x8)
  let P : View.Piece (Elt Ideal) S512x2048 .f32 := ⟨Rect.unit (s := S512x2048) ![0, 0] S256x2048.size (by decide), k0_pay56
    (M.a19.view.readCov Z (Rect.unit (s := S512x2048) ![0, 0] S256x2048.size (by decide)).toLoadRect)
    (rows13 M.a5 M.a6 M.a13 M.a18 M.a20 (M.u5.unread x3) (M.u6.unread x4) (D0 c i M hc0 x1 x5) w 0 (by decide)) wg
    (rows14 M.a5 M.a14 M.a18 M.a20 (M.u5.unread x3) (D0 c i M hc0 x1 x5) w 0 (by decide)) wu⟩
  have hr1 : M.a19.view.readCov (P :: Z) (Rect.unit (s := S512x2048) ![256, 0] S256x2048.size (by decide)).toLoadRect
      = View.ld (fun _ => (0 : EReal)) (Rect.unit (s := S512x2048) ![256, 0] S256x2048.size (by decide)) := by
    refine Eq.trans (funext fun j => ?_) (zeros_ld 256 (by decide) M.a19.view M.a19.view.junk (by decide))
    refine View.read_writes_cons_miss_of_axis M.a19.view _ P Z _ 0 0 256 rfl rfl rfl (Or.inr ?_)
    exact Nat.le_trans (Nat.le_add_right 256 _) (Nat.le_of_eq (Rect.idx_unit_val (s := S512x2048) ![256, 0] S256x2048.size (by decide) j 0).symm)
  have k := read_L19 M.a5 M.a6 M.a13 M.a14 M.a18 M.a20 (M.u5.unread x3) (M.u6.unread x4) (D0 c i M hc0 x1 x5) w wg wu (fun _ => (0 : EReal))
    (M.a19.view.readCov Z (Rect.unit (s := S512x2048) ![0, 0] S256x2048.size (by decide)).toLoadRect)
    (M.a19.view.readCov (P :: Z) (Rect.unit (s := S512x2048) ![256, 0] S256x2048.size (by decide)).toLoadRect)
    (zeros_ld 0 (by decide) M.a19.view M.a19.view.junk (by decide)) hr1 v (v.writes (Elt Ideal) f Z)
  rw [← View.writes_append] at k
  refine Eq.trans ?_ (k.trans (by
    rw [show w = x9 from e11, show wg = x7 from e9, show wu = x8 from e10, M.u5.read_unread x3, M.u6.read_unread x4, es]))
  rfl

end caseZ

section caseA
variable (hc0 : first i) (hc1 : ¬zero i) (hc2 : ¬last i) (x0 x1 : Vec Ideal S512x2048 .f32) (x2 : Vec Ideal S512x2048 .bf16) (x3 x4 : Vec Ideal S1x512x704 .bf16) (x5 : Vec Ideal S1x3x2048 .f32) (x6 : Vec Ideal S1x2048 .f32) (x7 x8 x9 : Vec Ideal S1x704x2048 .bf16)

theorem dy_A (v : View sig .tc .vmem S512x2048 .bf16) (f : v.ty.Contents (Elt Ideal)) :
    v.read (Elt Ideal) (v.writes (Elt Ideal) f (RA c i M hc0 hc1 hc2 x0 x1 x2 x3 x4 x5 x6 x7 x8 x9).2.2.2.1) = sgd x1 x5 := by
  have k := read_of_fits v f _ (RA c i M hc0 hc1 hc2 x0 x1 x2 x3 x4 x5 x6 x7 x8 x9).2.2.2.1 (fits_loop1 c i M hc0 (M.u3.unread x1) (M.u7.unread x5) k0_t1_loop.trips le_rfl).1 (by apply coverA17)
  refine Eq.trans ?_ (k.trans (congr (congrArg sgd (M.u3.read_unread x1)) (M.u7.read_unread x5)))
  rfl

theorem dys_A (v : View sig .tc .vmem S512x2048 .bf16) (f : v.ty.Contents (Elt Ideal)) :
    v.read (Elt Ideal) (v.writes (Elt Ideal) f (RA c i M hc0 hc1 hc2 x0 x1 x2 x3 x4 x5 x6 x7 x8 x9).2.2.2.2.1) = sgd x1 x5 := by
  have k := read_of_fits v f _ (RA c i M hc0 hc1 hc2 x0 x1 x2 x3 x4 x5 x6 x7 x8 x9).2.2.2.2.1 (fits_loop1 c i M hc0 (M.u3.unread x1) (M.u7.unread x5) k0_t1_loop.trips le_rfl).2 (by apply coverA18)
  refine Eq.trans ?_ (k.trans (congr (congrArg sgd (M.u3.read_unread x1)) (M.u7.read_unread x5)))
  rfl

theorem s_A (v : View sig .tc .vmem S1x512x704 .bf16) (f : v.ty.Contents (Elt Ideal)) :
    v.read (Elt Ideal) (v.writes (Elt Ideal) f (RA c i M hc0 hc1 hc2 x0 x1 x2 x3 x4 x5 x6 x7 x8 x9).2.2.1) = sOut x3 x4 := by
  have k := read_of_fits v f _ (RA c i M hc0 hc1 hc2 x0 x1 x2 x3 x4 x5 x6 x7 x8 x9).2.2.1 (fits_L15 M.a5 M.a6 (M.u5.unread x3) (M.u6.unread x4)) (by apply coverA15)
  exact k.trans (congr (congrArg sOut (M.u5.read_unread x3)) (M.u6.read_unread x4))

theorem da_A (v : View sig .tc .vmem S1x512x704 .bf16) (f : v.ty.Contents (Elt Ideal)) :
    v.read (Elt Ideal) (v.writes (Elt Ideal) f (RA c i M hc0 hc1 hc2 x0 x1 x2 x3 x4 x5 x6 x7 x8 x9).1) = daOut (up (sgd x1 x5) x9) x3 x4 := by
  have e11 := load_whole M.a11 M.u11 x9
  have es := read_D0 c i M hc0 x1 x5
  have k := read_of_fits v f _ (RA c i M hc0 hc1 hc2 x0 x1 x2 x3 x4 x5 x6 x7 x8 x9).1 (fits_L13 M.a5 M.a6 M.a18 M.a20 (M.u5.unread x3) (M.u6.unread x4) (D0 c i M hc0 x1 x5) (wh M.a11 M.u11 x9)) (by apply coverA13)
  exact k.trans (by rw [M.u5.read_unread x3, M.u6.read_unread x4, es, e11])

theorem db_A (v : View sig .tc .vmem S1x512x704 .bf16) (f : v.ty.Contents (Elt Ideal)) :
    v.read (Elt Ideal) (v.writes (Elt Ideal) f (RA c i M hc0 hc1 hc2 x0 x1 x2 x3 x4 x5 x6 x7 x8 x9).2.1) = dbOut (up (sgd x1 x5) x9) x3 := by
  have e11 := load_whole M.a11 M.u11 x9
  have es := read_D0 c i M hc0 x1 x5
  have k := read_of_fits v f _ (RA c i M hc0 hc1 hc2 x0 x1 x2 x3 x4 x5 x6 x7 x8 x9).2.1 (fits_L14 M.a5 M.a18 M.a20 (M.u5.unread x3) (D0 c i M hc0 x1 x5) (wh M.a11 M.u11 x9)) (by apply coverA14)
  exact k.trans (by rw [M.u5.read_unread x3, es, e11])

theorem acc_A (v : View sig .tc .vmem S512x2048 .f32) (f : v.ty.Contents (Elt Ideal)) :
    v.read (Elt Ideal) (v.writes (Elt Ideal) f (RA c i M hc0 hc1 hc2 x0 x1 x2 x3 x4 x5 x6 x7 x8 x9).2.2.2.2.2.1)
      = back (fun _ => (0 : EReal)) (daOut (up (sgd x1 x5) x9) x3 x4) (dbOut (up (sgd x1 x5) x9) x3) x7 x8 := by
  have e9 := load_whole M.a9 M.u9 x7
  have e10 := load_whole M.a10 M.u10 x8
  have e11 := load_whole M.a11 M.u11 x9
  have es := read_D0 c i M hc0 x1 x5
  let Z : List (View.Piece (Elt Ideal) S512x2048 .f32) := [⟨Rect.unit (s := S512x2048) ![0, 0] S512x2048.size (by decide), k0_pay20 (F := Ideal)⟩]
  let w := (wh M.a11 M.u11 x9)
  let wg := (wh M.a9 M.u9 x7)
  let wu := (wh M.a10 M.u10 x8)
  let P : View.Piece (Elt Ideal) S512x2048 .f32 := ⟨Rect.unit (s := S512x2048) ![0, 0] S256x2048.size (by decide), k0_pay56
    (M.a19.view.readCov Z (Rect.unit (s := S512x2048) ![0, 0] S256x2048.size (by decide)).toLoadRect)
    (rows13 M.a5 M.a6 M.a13 M.a18 M.a20 (M.u5.unread x3) (M.u6.unread x4) (D0 c i M hc0 x1 x5) w 0 (by decide)) wg
    (rows14 M.a5 M.a14 M.a18 M.a20 (M.u5.unread x3) (D0 c i M hc0 x1 x5) w 0 (by decide)) wu⟩
  have hr1 : M.a19.view.readCov (P :: Z) (Rect.unit (s := S512x2048) ![256, 0] S256x2048.size (by decide)).toLoadRect
      = View.ld (fun _ => (0 : EReal)) (Rect.unit (s := S512x2048) ![256, 0] S256x2048.size (by decide)) := by
    refine Eq.trans (funext fun j => ?_) (zeros_ld 256 (by decide) M.a19.view M.a19.view.junk (by decide))
    refine View.read_writes_cons_miss_of_axis M.a19.view _ P Z _ 0 0 256 rfl rfl rfl (Or.inr ?_)
    exact Nat.le_trans (Nat.le_add_right 256 _) (Nat.le_of_eq (Rect.idx_unit_val (s := S512x2048) ![256, 0] S256x2048.size (by decide) j 0).symm)
  have k := read_L19 M.a5 M.a6 M.a13 M.a14 M.a18 M.a20 (M.u5.unread x3) (M.u6.unread x4) (D0 c i M hc0 x1 x5) w wg wu (fun _ => (0 : EReal))
    (M.a19.view.readCov Z (Rect.unit (s := S512x2048) ![0, 0] S256x2048.size (by decide)).toLoadRect)
    (M.a19.view.readCov (P :: Z) (Rect.unit (s := S512x2048) ![256, 0] S256x2048.size (by decide)).toLoadRect)
    (zeros_ld 0 (by decide) M.a19.view M.a19.view.junk (by decide)) hr1 v (v.writes (Elt Ideal) f Z)
  rw [← View.writes_append] at k
  refine Eq.trans ?_ (k.trans (by
    rw [show w = x9 from e11, show wg = x7 from e9, show wu = x8 from e10, M.u5.read_unread x3, M.u6.read_unread x4, es]))
  rfl

end caseA

section caseB
variable (hc0 : ¬first i) (hc1 : ¬zero i) (hc2 : ¬last i) (x0 x1 : Vec Ideal S512x2048 .f32) (x2 : Vec Ideal S512x2048 .bf16) (x3 x4 : Vec Ideal S1x512x704 .bf16) (x5 : Vec Ideal S1x3x2048 .f32) (x6 : Vec Ideal S1x2048 .f32) (x7 x8 x9 : Vec Ideal S1x704x2048 .bf16) (s0 : Vec Ideal S512x2048 .bf16) (s1 : Vec Ideal S512x2048 .f32)

theorem s_B (v : View sig .tc .vmem S1x512x704 .bf16) (f : v.ty.Contents (Elt Ideal)) :
    v.read (Elt Ideal) (v.writes (Elt Ideal) f (RB c i M hc0 hc1 hc2 x0 x1 x2 x3 x4 x5 x6 x7 x8 x9 s0 s1).2.2.1) = sOut x3 x4 := by
  have k := read_of_fits v f _ (RB c i M hc0 hc1 hc2 x0 x1 x2 x3 x4 x5 x6 x7 x8 x9 s0 s1).2.2.1 (fits_L15 M.a5 M.a6 (M.u5.unread x3) (M.u6.unread x4)) (by apply coverB15)
  exact k.trans (congr (congrArg sOut (M.u5.read_unread x3)) (M.u6.read_unread x4))

theorem da_B (v : View sig .tc .vmem S1x512x704 .bf16) (f : v.ty.Contents (Elt Ideal)) :
    v.read (Elt Ideal) (v.writes (Elt Ideal) f (RB c i M hc0 hc1 hc2 x0 x1 x2 x3 x4 x5 x6 x7 x8 x9 s0 s1).1) = daOut (up s0 x9) x3 x4 := by
  have e11 := load_whole M.a11 M.u11 x9
  have es := M.u18.read_unread s0
  have k := read_of_fits v f _ (RB c i M hc0 hc1 hc2 x0 x1 x2 x3 x4 x5 x6 x7 x8 x9 s0 s1).1 (fits_L13 M.a5 M.a6 M.a18 M.a20 (M.u5.unread x3) (M.u6.unread x4) (M.u18.unread s0) (wh M.a11 M.u11 x9)) (by apply coverB13)
  exact k.trans (by rw [M.u5.read_unread x3, M.u6.read_unread x4, es, e11])

theorem db_B (v : View sig .tc .vmem S1x512x704 .bf16) (f : v.ty.Contents (Elt Ideal)) :
    v.read (Elt Ideal) (v.writes (Elt Ideal) f (RB c i M hc0 hc1 hc2 x0 x1 x2 x3 x4 x5 x6 x7 x8 x9 s0 s1).2.1) = dbOut (up s0 x9) x3 := by
  have e11 := load_whole M.a11 M.u11 x9
  have es := M.u18.read_unread s0
  have k := read_of_fits v f _ (RB c i M hc0 hc1 hc2 x0 x1 x2 x3 x4 x5 x6 x7 x8 x9 s0 s1).2.1 (fits_L14 M.a5 M.a18 M.a20 (M.u5.unread x3) (M.u18.unread s0) (wh M.a11 M.u11 x9)) (by apply coverB14)
  exact k.trans (by rw [M.u5.read_unread x3, es, e11])

theorem acc_B (v : View sig .tc .vmem S512x2048 .f32) (f : v.ty.Contents (Elt Ideal)) :
    v.read (Elt Ideal) (v.writes (Elt Ideal) f (RB c i M hc0 hc1 hc2 x0 x1 x2 x3 x4 x5 x6 x7 x8 x9 s0 s1).2.2.2.1) = (back s1 (daOut (up s0 x9) x3 x4) (dbOut (up s0 x9) x3) x7 x8) := by
  have e9 := load_whole M.a9 M.u9 x7
  have e10 := load_whole M.a10 M.u10 x8
  have e11 := load_whole M.a11 M.u11 x9
  have es := M.u18.read_unread s0
  have k := read_L19 M.a5 M.a6 M.a13 M.a14 M.a18 M.a20 (M.u5.unread x3) (M.u6.unread x4) (M.u18.unread s0) (wh M.a11 M.u11 x9) (wh M.a9 M.u9 x7) (wh M.a10 M.u10 x8) s1
    (M.a19.view.readAt (Elt Ideal) (Rect.unit (s := S512x2048) ![0, 0] S256x2048.size (by decide)).toLoadRect (M.u19.unread s1))
    (M.a19.view.readAt (Elt Ideal) (Rect.unit (s := S512x2048) ![256, 0] S256x2048.size (by decide)).toLoadRect (M.u19.unread s1))
    (congrArg (fun X => View.ld X _) (M.u19.read_unread s1)) (congrArg (fun X => View.ld X _) (M.u19.read_unread s1)) v f
  refine Eq.trans ?_ (k.trans (by rw [M.u5.read_unread x3, M.u6.read_unread x4, es, e9, e10, e11]))
  rfl

end caseB

section caseC
variable (hc0 : ¬first i) (hc1 : ¬zero i) (hc2 : last i) (x0 x1 : Vec Ideal S512x2048 .f32) (x2 : Vec Ideal S512x2048 .bf16) (x3 x4 : Vec Ideal S1x512x704 .bf16) (x5 : Vec Ideal S1x3x2048 .f32) (x6 : Vec Ideal S1x2048 .f32) (x7 x8 x9 : Vec Ideal S1x704x2048 .bf16) (s0 : Vec Ideal S512x2048 .bf16) (s1 : Vec Ideal S512x2048 .f32) (r : Vec Ideal S1x8x2048 .f32)

theorem s_C (v : View sig .tc .vmem S1x512x704 .bf16) (f : v.ty.Contents (Elt Ideal)) :
    v.read (Elt Ideal) (v.writes (Elt Ideal) f (RC c i M hc0 hc1 hc2 x0 x1 x2 x3 x4 x5 x6 x7 x8 x9 s0 s1 r).2.2.2.1) = sOut x3 x4 := by
  have k := read_of_fits v f _ (RC c i M hc0 hc1 hc2 x0 x1 x2 x3 x4 x5 x6 x7 x8 x9 s0 s1 r).2.2.2.1 (fits_L15 M.a5 M.a6 (M.u5.unread x3) (M.u6.unread x4)) (by apply coverC15)
  exact k.trans (congr (congrArg sOut (M.u5.read_unread x3)) (M.u6.read_unread x4))

theorem da_C (v : View sig .tc .vmem S1x512x704 .bf16) (f : v.ty.Contents (Elt Ideal)) :
    v.read (Elt Ideal) (v.writes (Elt Ideal) f (RC c i M hc0 hc1 hc2 x0 x1 x2 x3 x4 x5 x6 x7 x8 x9 s0 s1 r).2.1) = daOut (up s0 x9) x3 x4 := by
  have e11 := load_whole M.a11 M.u11 x9
  have es := M.u18.read_unread s0
  have k := read_of_fits v f _ (RC c i M hc0 hc1 hc2 x0 x1 x2 x3 x4 x5 x6 x7 x8 x9 s0 s1 r).2.1 (fits_L13 M.a5 M.a6 M.a18 M.a20 (M.u5.unread x3) (M.u6.unread x4) (M.u18.unread s0) (wh M.a11 M.u11 x9)) (by apply coverC13)
  exact k.trans (by rw [M.u5.read_unread x3, M.u6.read_unread x4, es, e11])

theorem db_C (v : View sig .tc .vmem S1x512x704 .bf16) (f : v.ty.Contents (Elt Ideal)) :
    v.read (Elt Ideal) (v.writes (Elt Ideal) f (RC c i M hc0 hc1 hc2 x0 x1 x2 x3 x4 x5 x6 x7 x8 x9 s0 s1 r).2.2.1) = dbOut (up s0 x9) x3 := by
  have e11 := load_whole M.a11 M.u11 x9
  have es := M.u18.read_unread s0
  have k := read_of_fits v f _ (RC c i M hc0 hc1 hc2 x0 x1 x2 x3 x4 x5 x6 x7 x8 x9 s0 s1 r).2.2.1 (fits_L14 M.a5 M.a18 M.a20 (M.u5.unread x3) (M.u18.unread s0) (wh M.a11 M.u11 x9)) (by apply coverC14)
  exact k.trans (by rw [M.u5.read_unread x3, es, e11])

theorem acc_C (v : View sig .tc .vmem S512x2048 .f32) (f : v.ty.Contents (Elt Ideal)) :
    v.read (Elt Ideal) (v.writes (Elt Ideal) f (RC c i M hc0 hc1 hc2 x0 x1 x2 x3 x4 x5 x6 x7 x8 x9 s0 s1 r).2.2.2.2.2.1) = (back s1 (daOut (up s0 x9) x3 x4) (dbOut (up s0 x9) x3) x7 x8) := by
  have e9 := load_whole M.a9 M.u9 x7
  have e10 := load_whole M.a10 M.u10 x8
  have e11 := load_whole M.a11 M.u11 x9
  have es := M.u18.read_unread s0
  have k := read_L19 M.a5 M.a6 M.a13 M.a14 M.a18 M.a20 (M.u5.unread x3) (M.u6.unread x4) (M.u18.unread s0) (wh M.a11 M.u11 x9) (wh M.a9 M.u9 x7) (wh M.a10 M.u10 x8) s1
    (M.a19.view.readAt (Elt Ideal) (Rect.unit (s := S512x2048) ![0, 0] S256x2048.size (by decide)).toLoadRect (M.u19.unread s1))
    (M.a19.view.readAt (Elt Ideal) (Rect.unit (s := S512x2048) ![256, 0] S256x2048.size (by decide)).toLoadRect (M.u19.unread s1))
    (congrArg (fun X => View.ld X _) (M.u19.read_unread s1)) (congrArg (fun X => View.ld X _) (M.u19.read_unread s1)) v f
  refine Eq.trans ?_ (k.trans (by rw [M.u5.read_unread x3, M.u6.read_unread x4, es, e9, e10, e11]))
  rfl

theorem L12_C : (RC c i M hc0 hc1 hc2 x0 x1 x2 x3 x4 x5 x6 x7 x8 x9 s0 s1 r).1 = (B2 c i M hc2 (M.u2.unread x0) (M.u3.unread x1) (M.u4.unread x2) (M.u7.unread x5) (M.u8.unread x6) (M.a19.view.writes (Elt Ideal) M.a19.view.junk (RC c i M hc0 hc1 hc2 x0 x1 x2 x3 x4 x5 x6 x7 x8 x9 s0 s1 r).2.2.2.2.2.1) M.a12.view.junk (M.u16.unread r) k0_t2_loop.trips).1 := by
  unfold RC runC; rfl

theorem L16_C : (RC c i M hc0 hc1 hc2 x0 x1 x2 x3 x4 x5 x6 x7 x8 x9 s0 s1 r).2.2.2.2.1 = (B2 c i M hc2 (M.u2.unread x0) (M.u3.unread x1) (M.u4.unread x2) (M.u7.unread x5) (M.u8.unread x6) (M.a19.view.writes (Elt Ideal) M.a19.view.junk (RC c i M hc0 hc1 hc2 x0 x1 x2 x3 x4 x5 x6 x7 x8 x9 s0 s1 r).2.2.2.2.2.1) M.a12.view.junk (M.u16.unread r) k0_t2_loop.trips).2 := by
  unfold RC runC; rfl

theorem dx_C (v : View sig .tc .vmem S512x2048 .f32) (f : v.ty.Contents (Elt Ideal)) :
    v.read (Elt Ideal) (v.writes (Elt Ideal) f (RC c i M hc0 hc1 hc2 x0 x1 x2 x3 x4 x5 x6 x7 x8 x9 s0 s1 r).1) = dxOut x0 x1 (back s1 (daOut (up s0 x9) x3 x4) (dbOut (up s0 x9) x3) x7 x8) x5 x6 :=
  (congrArg (fun L => v.read (Elt Ideal) (v.writes (Elt Ideal) f L)) (L12_C c i M hc0 hc1 hc2 x0 x1 x2 x3 x4 x5 x6 x7 x8 x9 s0 s1 r)).trans
    (loop2_dx c i M hc2 (M.u2.unread x0) (M.u3.unread x1) (M.u4.unread x2) (M.u7.unread x5) (M.u8.unread x6) (M.a19.view.writes (Elt Ideal) M.a19.view.junk (RC c i M hc0 hc1 hc2 x0 x1 x2 x3 x4 x5 x6 x7 x8 x9 s0 s1 r).2.2.2.2.2.1) M.a12.view.junk (M.u16.unread r) x0 x1 (back s1 (daOut (up s0 x9) x3 x4) (dbOut (up s0 x9) x3) x7 x8) x2 x5 x6 r (M.u2.read_unread x0) (M.u3.read_unread x1) (acc_C c i M hc0 hc1 hc2 x0 x1 x2 x3 x4 x5 x6 x7 x8 x9 s0 s1 r M.a19.view M.a19.view.junk) (M.u4.read_unread x2) (M.u7.read_unread x5) (M.u8.read_unread x6) (M.u16.read_unread r) v f
      fun y => Eq.subst (motive := fun L => ∃ p ∈ L, y ∈ p.1.set) (L12_C c i M hc0 hc1 hc2 x0 x1 x2 x3 x4 x5 x6 x7 x8 x9 s0 s1 r) (coverC12 c _ _ _ _ _ _ _ _ _ _ _ _ _ _ _ _ _ _ _ _ _ _ _ _ _ _ _ _ _ _ _ _ _ _ _ _ _ _ _ _ _ _ _ _ _ _ _ _ _ _ _ _ _ _ _ y : ∃ p ∈ (RC c i M hc0 hc1 hc2 x0 x1 x2 x3 x4 x5 x6 x7 x8 x9 s0 s1 r).1, y ∈ p.1.set))

theorem red_C (q : Fin 8) (b : Fin 2048) :
    (M.a16.view.read (Elt Ideal) (M.a16.view.writes (Elt Ideal) (M.u16.unread r) (RC c i M hc0 hc1 hc2 x0 x1 x2 x3 x4 x5 x6 x7 x8 x9 s0 s1 r).2.2.2.2.1) (ix3 0 q b) : EReal)
      = r (ix3 0 q b) + ∑ a : Fin 512, con x0 x1 (back s1 (daOut (up s0 x9) x3 x4) (dbOut (up s0 x9) x3) x7 x8) x2 x5 x6 q.val a b :=
  (congrArg (fun L => M.a16.view.read (Elt Ideal) (M.a16.view.writes (Elt Ideal) (M.u16.unread r) L) (ix3 0 q b)) (L16_C c i M hc0 hc1 hc2 x0 x1 x2 x3 x4 x5 x6 x7 x8 x9 s0 s1 r)).trans
    (loop2_red c i M hc2 (M.u2.unread x0) (M.u3.unread x1) (M.u4.unread x2) (M.u7.unread x5) (M.u8.unread x6) (M.a19.view.writes (Elt Ideal) M.a19.view.junk (RC c i M hc0 hc1 hc2 x0 x1 x2 x3 x4 x5 x6 x7 x8 x9 s0 s1 r).2.2.2.2.2.1) M.a12.view.junk (M.u16.unread r) x0 x1 (back s1 (daOut (up s0 x9) x3 x4) (dbOut (up s0 x9) x3) x7 x8) x2 x5 x6 r (M.u2.read_unread x0) (M.u3.read_unread x1) (acc_C c i M hc0 hc1 hc2 x0 x1 x2 x3 x4 x5 x6 x7 x8 x9 s0 s1 r M.a19.view M.a19.view.junk) (M.u4.read_unread x2) (M.u7.read_unread x5) (M.u8.read_unread x6) (M.u16.read_unread r) q b)

end caseC

end Cert.Kernel7Ideal.Bwd

end
-- ==== Proof.BwdHost.lean ====
/-
  What the host hands the feed-forward's backward kernel as saved: the forward pass's output and its two hidden arrays.
-/
module

public import proofs.«01_k».proof.Proof.Gen.Kernel7Ideal.Frame
public import proofs.«01_k».proof.Proof.Gen.Reference6Ideal.Read

@[expose] public section

noncomputable section

namespace Cert.Kernel7Ideal.Bwd

open Idealize.ShloMosaic Idealize.ShloMosaic.TcCoe Idealize.SL.Sem Idealize.ShloMosaic.StableHlo
open Cert.Kernel7Ideal Cert.Kernel7Ideal.Gen

variable (m : (ℓ : Loc nD τ sig) → Buf (Elt Ideal) ℓ) (c : Dev nD)

set_option maxHeartbeats 1600000 in
theorem V45 : V m c main_v45 = Cert.Reference6Ideal.Read.val_main_v45 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) := by
  simp only [V, hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

set_option maxHeartbeats 1600000 in
theorem V48 : V m c main_v48 = Cert.Reference6Ideal.Read.val_main_v48 (F := Ideal) (m ((c : Thread nD τ).loc main_arg0)) (m ((c : Thread nD τ).loc main_arg2)) (m ((c : Thread nD τ).loc main_arg3)) (m ((c : Thread nD τ).loc main_arg4)) := by
  simp only [V, hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

set_option maxHeartbeats 1600000 in
theorem V51 : V m c main_v51 = Cert.Reference6Ideal.Read.val_main_v51 (F := Ideal) (m ((c : Thread nD τ).loc main_arg0)) (m ((c : Thread nD τ).loc main_arg2)) (m ((c : Thread nD τ).loc main_arg3)) (m ((c : Thread nD τ).loc main_arg5)) := by
  simp only [V, hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

end Cert.Kernel7Ideal.Bwd

end
-- ==== Proof.BwdValue.lean ====
/-
  The results of the feed-forward's backward kernel over the ideal numbers: what each grid point leaves, and the six
  arrays after the run.
-/
module

public import proofs.«01_k».proof.Proof.BwdBody
public import proofs.«01_k».proof.Proof.BwdFrame
public import proofs.«01_k».proof.Proof.BwdHost
public import proofs.«01_k».proof.Proof.FfnRef

@[expose] public section

set_option maxRecDepth 16384

noncomputable section

namespace Cert.Kernel7Ideal.Bwd

open Idealize.ShloMosaic Idealize.ShloMosaic.TcCoe Idealize.SL.Sem
open Idealize.ShloMosaic.Pipeline (Dat)
open Cert.Kernel7Ideal Cert.Kernel7Ideal.Gen

/-- The arguments: the tokens, the gradient that comes in, the modulation, the gain and the three weights. -/
structure Arrs where
  (X D : (⟨S2048x2048, .f32⟩ : BufTy).Contents (Elt Ideal)) (P : (⟨S1x3x2048, .f32⟩ : BufTy).Contents (Elt Ideal))
  (G : (⟨S1x2048, .f32⟩ : BufTy).Contents (Elt Ideal)) (A B C : (⟨S8x704x2048, .bf16⟩ : BufTy).Contents (Elt Ideal))

/-- What one token adds to the sums over the tokens, from its rows: of the tokens `x`, of the modulated row's gradient `d`,
of the incoming gradient `o`, of the saved output `y`, and the scale `sc` and the gain `g`. -/
def conE (x d o y sc g : Fin 2048 → EReal) : ℕ → Fin 2048 → EReal
  | 0, b => d b
  | 1, b => d b * (x b * rs x * g b)
  | 2, b => Ideal.ofBits FTy.f32 1056964608#32 * o b * y b
  | 3, b => d b * (1 + sc b) * (x b * rs x)
  | _, _ => 0

namespace Arrs
variable (S : Arrs)

/-- The forward pass's hidden columns and output. -/
def a (j : Fin 8) (r : Fin 2048) (n : Fin 704) : EReal := Cert.Kernel6Ideal.Ffn.hid S.X S.P S.G S.A j r n
def b (j : Fin 8) (r : Fin 2048) (n : Fin 704) : EReal := Cert.Kernel6Ideal.Ffn.hid S.X S.P S.G S.B j r n
def y (r k : Fin 2048) : EReal := Cert.Kernel6Ideal.Ffn.part S.X S.P S.G S.A S.B S.C 7 r k
/-- The gradient of the output, of the gated columns, and of the two hidden arrays. -/
def sg (r k : Fin 2048) : EReal := Ideal.ofBits FTy.f32 1056964608#32 * S.P (ix3 0 2 k) * S.D (ix2 r k)
def ds (j : Fin 8) (r : Fin 2048) (n : Fin 704) : EReal := ∑ k : Fin 2048, S.sg r k * S.C (ix3 j n k)
def da (j : Fin 8) (r : Fin 2048) (n : Fin 704) : EReal := daE (S.ds j r n) (S.a j r n) (S.b j r n)
def db (j : Fin 8) (r : Fin 2048) (n : Fin 704) : EReal := S.ds j r n * (S.a j r n * Ideal.logistic (S.a j r n))
/-- What block j adds to the gradient of the modulated tokens, and the blocks up to q. -/
def add (j : Fin 8) (r k : Fin 2048) : EReal := ∑ n : Fin 704, S.da j r n * S.A (ix3 j n k) + ∑ n : Fin 704, S.db j r n * S.B (ix3 j n k)
def part (q : ℕ) (r k : Fin 2048) : EReal := ∑ j ∈ Finset.range (q + 1), S.add ⟨j % 8, Nat.mod_lt _ (by decide)⟩ r k
/-- What the token r adds to the sums, and the sums over the first n tiles. -/
def con (q : ℕ) (r b : Fin 2048) : EReal :=
  conE (fun k => S.X (ix2 r k)) (fun k => S.part 7 r k) (fun k => S.D (ix2 r k)) (fun k => S.y r k) (fun k => S.P (ix3 0 1 k)) (fun k => S.G (ix2 0 k)) q b
def sums (n q : ℕ) (b : Fin 2048) : EReal :=
  ∑ i ∈ Finset.range n, ∑ a : Fin 512, S.con q ⟨(512 * i + a.val) % 2048, Nat.mod_lt _ (by decide)⟩ b

/-- The six results. -/
def dx (r k : Fin 2048) : EReal :=
  dxE (fun l => S.X (ix2 r l)) (fun l => S.part 7 r l) (fun l => S.P (ix3 0 1 l)) (fun l => S.G (ix2 0 l)) k (S.D (ix2 r k))
def resX : (⟨S2048x2048, .f32⟩ : BufTy).Contents (Elt Ideal) := fun i => (S.dx (i 0) (i 1) : EReal)
def resA : (⟨S8x2048x704, .bf16⟩ : BufTy).Contents (Elt Ideal) := fun i => (S.da (i 0) (i 1) (i 2) : EReal)
def resB : (⟨S8x2048x704, .bf16⟩ : BufTy).Contents (Elt Ideal) := fun i => (S.db (i 0) (i 1) (i 2) : EReal)
def resS : (⟨S8x2048x704, .bf16⟩ : BufTy).Contents (Elt Ideal) := fun i =>
  (S.a (i 0) (i 1) (i 2) * Ideal.logistic (S.a (i 0) (i 1) (i 2)) * S.b (i 0) (i 1) (i 2) : EReal)
def resR : (⟨S1x8x2048, .f32⟩ : BufTy).Contents (Elt Ideal) := fun i => (S.sums 4 (i 1).val (i 2) : EReal)
def resY : (⟨S2048x2048, .bf16⟩ : BufTy).Contents (Elt Ideal) := fun i => (S.sg (i 0) (i 1) : EReal)
end Arrs

variable (m : (ℓ : Loc nD τ sig) → Buf (Elt Ideal) ℓ) (ρ : Dev nD → PrngReg)

/-- The arguments in the memory. -/
abbrev ar (c : Dev nD) : Arrs where
  X := m ((c : Thread nD τ).loc main_arg0)
  D := m ((c : Thread nD τ).loc main_arg1)
  P := m ((c : Thread nD τ).loc main_arg2)
  G := m ((c : Thread nD τ).loc main_arg3)
  A := m ((c : Thread nD τ).loc main_arg4)
  B := m ((c : Thread nD τ).loc main_arg5)
  C := m ((c : Thread nD τ).loc main_arg6)

/-- The token of row a of the point's tile. -/
def row (t : Fin cfg0.N) (a : Fin 512) : Fin 2048 := ⟨512 * (t.val / 8) + a.val, by
  have ht : t.val < 32 := Nat.lt_of_lt_of_eq t.isLt N_0
  omega⟩
/-- The point's hidden block. -/
def blk (t : Fin cfg0.N) : Fin 8 := ⟨t.val % 8, Nat.mod_lt _ (by decide)⟩

theorem idx0 : ∀ t : Fin cfg0.N, win0_0.index t 0 = t.val / 8 ∧ win0_0.index t 1 = 0 := by decide +kernel
theorem idx1 : ∀ t : Fin cfg0.N, win0_1.index t 0 = t.val / 8 ∧ win0_1.index t 1 = 0 := by decide +kernel
theorem idx2 : ∀ t : Fin cfg0.N, win0_2.index t 0 = t.val / 8 ∧ win0_2.index t 1 = 0 := by decide +kernel
theorem idx3 : ∀ t : Fin cfg0.N, win0_3.index t 0 = t.val % 8 ∧ win0_3.index t 1 = t.val / 8 ∧ win0_3.index t 2 = 0 := by decide +kernel
theorem idx4 : ∀ t : Fin cfg0.N, win0_4.index t 0 = t.val % 8 ∧ win0_4.index t 1 = t.val / 8 ∧ win0_4.index t 2 = 0 := by decide +kernel
theorem idx5 : ∀ t : Fin cfg0.N, win0_5.index t 0 = 0 ∧ win0_5.index t 1 = 0 ∧ win0_5.index t 2 = 0 := by decide +kernel
theorem idx6 : ∀ t : Fin cfg0.N, win0_6.index t 0 = 0 ∧ win0_6.index t 1 = 0 := by decide +kernel
theorem idx7 : ∀ t : Fin cfg0.N, win0_7.index t 0 = t.val % 8 ∧ win0_7.index t 1 = 0 ∧ win0_7.index t 2 = 0 := by decide +kernel
theorem idx8 : ∀ t : Fin cfg0.N, win0_8.index t 0 = t.val % 8 ∧ win0_8.index t 1 = 0 ∧ win0_8.index t 2 = 0 := by decide +kernel
theorem idx9 : ∀ t : Fin cfg0.N, win0_9.index t 0 = t.val % 8 ∧ win0_9.index t 1 = 0 ∧ win0_9.index t 2 = 0 := by decide +kernel
theorem idx10 : ∀ t : Fin cfg0.N, win0_10.index t 0 = t.val / 8 ∧ win0_10.index t 1 = 0 := by decide +kernel
theorem idx11 : ∀ t : Fin cfg0.N, win0_11.index t 0 = t.val % 8 ∧ win0_11.index t 1 = t.val / 8 ∧ win0_11.index t 2 = 0 := by decide +kernel
theorem idx12 : ∀ t : Fin cfg0.N, win0_12.index t 0 = t.val % 8 ∧ win0_12.index t 1 = t.val / 8 ∧ win0_12.index t 2 = 0 := by decide +kernel
theorem idx13 : ∀ t : Fin cfg0.N, win0_13.index t 0 = t.val % 8 ∧ win0_13.index t 1 = t.val / 8 ∧ win0_13.index t 2 = 0 := by decide +kernel
theorem idx14 : ∀ t : Fin cfg0.N, win0_14.index t 0 = 0 ∧ win0_14.index t 1 = 0 ∧ win0_14.index t 2 = 0 := by decide +kernel
theorem idx15 : ∀ t : Fin cfg0.N, win0_15.index t 0 = t.val / 8 ∧ win0_15.index t 1 = 0 := by decide +kernel

variable (c : Dev nD) (t : Fin cfg0.N)

theorem block0 (a : Fin 512) (k : Fin 2048) :
    (iblk m c 0 t : Vec Ideal S512x2048 .f32) (ix2 a k) = (ar m c).X (ix2 (row t a) k) := by
  have hi := idx0 t
  unfold iblk
  rw [View.read_apply]
  show V m c main_arg0 _ = _
  rw [V_main_arg0]
  congr 1
  funext x
  apply Fin.ext
  match x with
  | ⟨0, _⟩ => show win0_0.index t 0 * 512 + 1 * a.val = 512 * (t.val / 8) + a.val; omega
  | ⟨1, _⟩ => show win0_0.index t 1 * 2048 + 1 * k.val = k.val; omega

theorem block1 (a : Fin 512) (k : Fin 2048) :
    (iblk m c 1 t : Vec Ideal S512x2048 .f32) (ix2 a k) = (ar m c).D (ix2 (row t a) k) := by
  have hi := idx1 t
  unfold iblk
  rw [View.read_apply]
  show V m c main_arg1 _ = _
  rw [V_main_arg1]
  congr 1
  funext x
  apply Fin.ext
  match x with
  | ⟨0, _⟩ => show win0_1.index t 0 * 512 + 1 * a.val = 512 * (t.val / 8) + a.val; omega
  | ⟨1, _⟩ => show win0_1.index t 1 * 2048 + 1 * k.val = k.val; omega

theorem block2 (a : Fin 512) (k : Fin 2048) :
    (iblk m c 2 t : Vec Ideal S512x2048 .bf16) (ix2 a k) = (ar m c).y (row t a) k := by
  have hi := idx2 t
  unfold iblk
  rw [View.read_apply]
  show V m c main_v45 _ = _
  rw [V45]
  refine (congrFun (Cert.Reference6Ideal.Ffn.fin45 _ _ _ _ _ _) _).trans (congrArg _ ?_ : _ = Cert.Kernel6Ideal.Ffn.resY (ar m c).X (ar m c).P (ar m c).G (ar m c).A (ar m c).B (ar m c).C (ix2 (row t a) k))
  funext x
  apply Fin.ext
  match x with
  | ⟨0, _⟩ => show win0_2.index t 0 * 512 + 1 * a.val = 512 * (t.val / 8) + a.val; omega
  | ⟨1, _⟩ => show win0_2.index t 1 * 2048 + 1 * k.val = k.val; omega

theorem block3 (a : Fin 512) (n : Fin 704) :
    (iblk m c 3 t : Vec Ideal S1x512x704 .bf16) (ix3 0 a n) = (ar m c).a (blk t) (row t a) n := by
  have hi := idx3 t
  unfold iblk
  rw [View.read_apply]
  show V m c main_v48 _ = _
  rw [V48]
  refine (congrFun (Cert.Reference6Ideal.Ffn.fin48 _ _ _ _) _).trans (congrArg _ ?_ : _ = Cert.Kernel6Ideal.Ffn.resA (ar m c).X (ar m c).P (ar m c).G (ar m c).A (ix3 (blk t) (row t a) n))
  funext x
  apply Fin.ext
  match x with
  | ⟨0, _⟩ => show win0_3.index t 0 * 1 + 1 * 0 = t.val % 8; omega
  | ⟨1, _⟩ => show win0_3.index t 1 * 512 + 1 * a.val = 512 * (t.val / 8) + a.val; omega
  | ⟨2, _⟩ => show win0_3.index t 2 * 704 + 1 * n.val = n.val; omega

theorem block4 (a : Fin 512) (n : Fin 704) :
    (iblk m c 4 t : Vec Ideal S1x512x704 .bf16) (ix3 0 a n) = (ar m c).b (blk t) (row t a) n := by
  have hi := idx4 t
  unfold iblk
  rw [View.read_apply]
  show V m c main_v51 _ = _
  rw [V51]
  refine (congrFun (Cert.Reference6Ideal.Ffn.fin51 _ _ _ _) _).trans (congrArg _ ?_ : _ = Cert.Kernel6Ideal.Ffn.resA (ar m c).X (ar m c).P (ar m c).G (ar m c).B (ix3 (blk t) (row t a) n))
  funext x
  apply Fin.ext
  match x with
  | ⟨0, _⟩ => show win0_4.index t 0 * 1 + 1 * 0 = t.val % 8; omega
  | ⟨1, _⟩ => show win0_4.index t 1 * 512 + 1 * a.val = 512 * (t.val / 8) + a.val; omega
  | ⟨2, _⟩ => show win0_4.index t 2 * 704 + 1 * n.val = n.val; omega

theorem block5 (s : Fin 3) (k : Fin 2048) :
    (iblk m c 5 t : Vec Ideal S1x3x2048 .f32) (ix3 0 s k) = (ar m c).P (ix3 0 s k) := by
  have hi := idx5 t
  unfold iblk
  rw [View.read_apply]
  show V m c main_arg2 _ = _
  rw [V_main_arg2]
  congr 1
  funext x
  apply Fin.ext
  match x with
  | ⟨0, _⟩ => show win0_5.index t 0 * 1 + 1 * 0 = 0; omega
  | ⟨1, _⟩ => show win0_5.index t 1 * 3 + 1 * s.val = s.val; omega
  | ⟨2, _⟩ => show win0_5.index t 2 * 2048 + 1 * k.val = k.val; omega

theorem block6 (k : Fin 2048) :
    (iblk m c 6 t : Vec Ideal S1x2048 .f32) (ix2 0 k) = (ar m c).G (ix2 0 k) := by
  have hi := idx6 t
  unfold iblk
  rw [View.read_apply]
  show V m c main_arg3 _ = _
  rw [V_main_arg3]
  congr 1
  funext x
  apply Fin.ext
  match x with
  | ⟨0, _⟩ => show win0_6.index t 0 * 1 + 1 * 0 = 0; omega
  | ⟨1, _⟩ => show win0_6.index t 1 * 2048 + 1 * k.val = k.val; omega

theorem block7 (n : Fin 704) (k : Fin 2048) :
    (iblk m c 7 t : Vec Ideal S1x704x2048 .bf16) (ix3 0 n k) = (ar m c).A (ix3 (blk t) n k) := by
  have hi := idx7 t
  unfold iblk
  rw [View.read_apply]
  show V m c main_arg4 _ = _
  rw [V_main_arg4]
  congr 1
  funext x
  apply Fin.ext
  match x with
  | ⟨0, _⟩ => show win0_7.index t 0 * 1 + 1 * 0 = t.val % 8; omega
  | ⟨1, _⟩ => show win0_7.index t 1 * 704 + 1 * n.val = n.val; omega
  | ⟨2, _⟩ => show win0_7.index t 2 * 2048 + 1 * k.val = k.val; omega

theorem block8 (n : Fin 704) (k : Fin 2048) :
    (iblk m c 8 t : Vec Ideal S1x704x2048 .bf16) (ix3 0 n k) = (ar m c).B (ix3 (blk t) n k) := by
  have hi := idx8 t
  unfold iblk
  rw [View.read_apply]
  show V m c main_arg5 _ = _
  rw [V_main_arg5]
  congr 1
  funext x
  apply Fin.ext
  match x with
  | ⟨0, _⟩ => show win0_8.index t 0 * 1 + 1 * 0 = t.val % 8; omega
  | ⟨1, _⟩ => show win0_8.index t 1 * 704 + 1 * n.val = n.val; omega
  | ⟨2, _⟩ => show win0_8.index t 2 * 2048 + 1 * k.val = k.val; omega

theorem block9 (n : Fin 704) (k : Fin 2048) :
    (iblk m c 9 t : Vec Ideal S1x704x2048 .bf16) (ix3 0 n k) = (ar m c).C (ix3 (blk t) n k) := by
  have hi := idx9 t
  unfold iblk
  rw [View.read_apply]
  show V m c main_arg6 _ = _
  rw [V_main_arg6]
  congr 1
  funext x
  apply Fin.ext
  match x with
  | ⟨0, _⟩ => show win0_9.index t 0 * 1 + 1 * 0 = t.val % 8; omega
  | ⟨1, _⟩ => show win0_9.index t 1 * 704 + 1 * n.val = n.val; omega
  | ⟨2, _⟩ => show win0_9.index t 2 * 2048 + 1 * k.val = k.val; omega

/-- The point's buffers. -/
abbrev MM (t : Fin cfg0.N) : Mems :=
  ⟨b0 t, hb0 t, b1 t, hb1 t, b2 t, hb2 t, b3 t, hb3 t, b4 t, hb4 t, b5 t, hb5 t, b6 t, hb6 t, b7 t, hb7 t, b8 t, hb8 t, b9 t, hb9 t, b10 t, hb10 t, b11 t, hb11 t, b12 t, hb12 t, b13 t, hb13 t, b14 t, hb14 t, b15 t, hb15 t, s0, Memref.isWhole_whole _, s1, Memref.isWhole_whole _, s2, Memref.isWhole_whole _⟩

theorem daE_congr {p q r p' q' r' : EReal} (h : p = p') (i : q = q') (k : r = r') : daE p q r = daE p' q' r' := by rw [h, i, k]

section point
variable (c : Dev nD) (t : Fin cfg0.N)
abbrev hsT : Vec Ideal S512x2048 .bf16 := sgd (iblk m c 1 t) (iblk m c 5 t)
abbrev daT (h : Vec Ideal S512x2048 .bf16) : Vec Ideal S1x512x704 .bf16 := daOut (up h (iblk m c 9 t)) (iblk m c 3 t) (iblk m c 4 t)
abbrev dbT (h : Vec Ideal S512x2048 .bf16) : Vec Ideal S1x512x704 .bf16 := dbOut (up h (iblk m c 9 t)) (iblk m c 3 t)
abbrev accT (h : Vec Ideal S512x2048 .bf16) (s : Vec Ideal S512x2048 .f32) : Vec Ideal S512x2048 .f32 :=
  back s (daT m c t h) (dbT m c t h) (iblk m c 7 t) (iblk m c 8 t)

theorem stZ_o11 (hz : t.val = 0) : (stZ m c t hz).o11 = daT m c t (hsT m c t) := by
  simp only [stZ, atZ]
  apply da_Z c (grid0.coords t) (MM t)
theorem stZ_o12 (hz : t.val = 0) : (stZ m c t hz).o12 = dbT m c t (hsT m c t) := by
  simp only [stZ, atZ]
  apply db_Z c (grid0.coords t) (MM t)
theorem stZ_o13 (hz : t.val = 0) : (stZ m c t hz).o13 = sOut (iblk m c 3 t) (iblk m c 4 t) := by
  simp only [stZ, atZ]
  apply s_Z c (grid0.coords t) (MM t)
theorem stZ_o14 (hz : t.val = 0) : (stZ m c t hz).o14 = fun _ => (0 : EReal) := by
  simp only [stZ, atZ]
  apply zero_Z c (grid0.coords t) (MM t)
theorem stZ_o15 (hz : t.val = 0) : (stZ m c t hz).o15 = hsT m c t := by
  simp only [stZ, atZ]
  apply dy_Z c (grid0.coords t) (MM t)
theorem stZ_hs (hz : t.val = 0) : (stZ m c t hz).hs = hsT m c t := by
  simp only [stZ, atZ]
  apply dys_Z c (grid0.coords t) (MM t)
theorem stZ_acc (hz : t.val = 0) : (stZ m c t hz).acc = accT m c t (hsT m c t) (fun _ => (0 : EReal)) := by
  simp only [stZ, atZ]
  apply acc_Z c (grid0.coords t) (MM t)
theorem stA_o11 (hz : ¬t.val = 0) (h0 : t.val % 8 = 0) (p : St Ideal) : (stA m c t hz h0 p).o11 = daT m c t (hsT m c t) := by
  simp only [stA, atA]
  apply da_A c (grid0.coords t) (MM t)
theorem stA_o12 (hz : ¬t.val = 0) (h0 : t.val % 8 = 0) (p : St Ideal) : (stA m c t hz h0 p).o12 = dbT m c t (hsT m c t) := by
  simp only [stA, atA]
  apply db_A c (grid0.coords t) (MM t)
theorem stA_o13 (hz : ¬t.val = 0) (h0 : t.val % 8 = 0) (p : St Ideal) : (stA m c t hz h0 p).o13 = sOut (iblk m c 3 t) (iblk m c 4 t) := by
  simp only [stA, atA]
  apply s_A c (grid0.coords t) (MM t)
theorem stA_o15 (hz : ¬t.val = 0) (h0 : t.val % 8 = 0) (p : St Ideal) : (stA m c t hz h0 p).o15 = hsT m c t := by
  simp only [stA, atA]
  apply dy_A c (grid0.coords t) (MM t)
theorem stA_hs (hz : ¬t.val = 0) (h0 : t.val % 8 = 0) (p : St Ideal) : (stA m c t hz h0 p).hs = hsT m c t := by
  simp only [stA, atA]
  apply dys_A c (grid0.coords t) (MM t)
theorem stA_acc (hz : ¬t.val = 0) (h0 : t.val % 8 = 0) (p : St Ideal) : (stA m c t hz h0 p).acc = accT m c t (hsT m c t) (fun _ => (0 : EReal)) := by
  simp only [stA, atA]
  apply acc_A c (grid0.coords t) (MM t)
theorem stB_o11 (h0 : ¬t.val % 8 = 0) (h1 : ¬t.val % 8 = 7) (p : St Ideal) : (stB m c t h0 h1 p).o11 = daT m c t p.hs := by
  simp only [stB, atB]
  apply da_B c (grid0.coords t) (MM t)
theorem stB_o12 (h0 : ¬t.val % 8 = 0) (h1 : ¬t.val % 8 = 7) (p : St Ideal) : (stB m c t h0 h1 p).o12 = dbT m c t p.hs := by
  simp only [stB, atB]
  apply db_B c (grid0.coords t) (MM t)
theorem stB_o13 (h0 : ¬t.val % 8 = 0) (h1 : ¬t.val % 8 = 7) (p : St Ideal) : (stB m c t h0 h1 p).o13 = sOut (iblk m c 3 t) (iblk m c 4 t) := by
  simp only [stB, atB]
  apply s_B c (grid0.coords t) (MM t)
theorem stB_acc (h0 : ¬t.val % 8 = 0) (h1 : ¬t.val % 8 = 7) (p : St Ideal) : (stB m c t h0 h1 p).acc = accT m c t p.hs p.acc := by
  simp only [stB, atB]
  apply acc_B c (grid0.coords t) (MM t)
theorem stC_o10 (h0 : ¬t.val % 8 = 0) (h1 : t.val % 8 = 7) (p : St Ideal) : (stC m c t h0 h1 p).o10 = dxOut (iblk m c 0 t) (iblk m c 1 t) (accT m c t p.hs p.acc) (iblk m c 5 t) (iblk m c 6 t) := by
  simp only [stC, atC]
  apply dx_C c (grid0.coords t) (MM t)
theorem stC_o11 (h0 : ¬t.val % 8 = 0) (h1 : t.val % 8 = 7) (p : St Ideal) : (stC m c t h0 h1 p).o11 = daT m c t p.hs := by
  simp only [stC, atC]
  apply da_C c (grid0.coords t) (MM t)
theorem stC_o12 (h0 : ¬t.val % 8 = 0) (h1 : t.val % 8 = 7) (p : St Ideal) : (stC m c t h0 h1 p).o12 = dbT m c t p.hs := by
  simp only [stC, atC]
  apply db_C c (grid0.coords t) (MM t)
theorem stC_o13 (h0 : ¬t.val % 8 = 0) (h1 : t.val % 8 = 7) (p : St Ideal) : (stC m c t h0 h1 p).o13 = sOut (iblk m c 3 t) (iblk m c 4 t) := by
  simp only [stC, atC]
  apply s_C c (grid0.coords t) (MM t)
theorem stC_acc (h0 : ¬t.val % 8 = 0) (h1 : t.val % 8 = 7) (p : St Ideal) : (stC m c t h0 h1 p).acc = accT m c t p.hs p.acc := by
  simp only [stC, atC]
  apply acc_C c (grid0.coords t) (MM t)
theorem stC_o14 (h0 : ¬t.val % 8 = 0) (h1 : t.val % 8 = 7) (p : St Ideal) (q : Fin 8) (b : Fin 2048) : ((stC m c t h0 h1 p).o14 (ix3 0 q b) : EReal)
    = p.o14 (ix3 0 q b) + ∑ a : Fin 512, con (iblk m c 0 t) (iblk m c 1 t) (accT m c t p.hs p.acc) (iblk m c 2 t) (iblk m c 5 t) (iblk m c 6 t) q.val a b := by
  simp only [stC, atC]
  apply red_C c (grid0.coords t) (MM t)

/-! The same in terms of the arguments. -/

/-- The rows of the tile, and the sums so far. -/
abbrev tileG : Vec Ideal S512x2048 .bf16 := fun y => (ar m c).sg (row t (y 0)) (y 1)
abbrev tileA : Vec Ideal S1x512x704 .bf16 := fun y => (ar m c).da (blk t) (row t (y 1)) (y 2)
abbrev tileB : Vec Ideal S1x512x704 .bf16 := fun y => (ar m c).db (blk t) (row t (y 1)) (y 2)
abbrev tileS : Vec Ideal S512x2048 .f32 := fun y => (ar m c).part (t.val % 8) (row t (y 0)) (y 1)
abbrev tileR : Vec Ideal S1x8x2048 .f32 := fun y => (ar m c).sums ((t.val + 1) / 8) (y 1).val (y 2)

theorem hs_tile : hsT m c t = tileG m c t := by
  funext y
  exact congrArg₂ (fun p q : EReal => Ideal.ofBits FTy.f32 1056964608#32 * p * q) (block5 m c t 2 (y 1)) ((congrArg _ (eq_ix2 y)).trans (block1 m c t (y 0) (y 1)))

theorem up_tile (a : Fin 512) (n : Fin 704) : (up (tileG m c t) (iblk m c 9 t) (ix2 a n) : EReal) = (ar m c).ds (blk t) (row t a) n :=
  Finset.sum_congr rfl fun k _ => congrArg (fun q : EReal => _ * q) (block9 m c t n k)

theorem eq3 (y : S1x512x704.Idx) : y = ix3 0 (y 1) (y 2) := by
  have h0 : (y 0).val < 1 := (y 0).isLt
  funext x
  match x with
  | ⟨0, _⟩ => exact Fin.ext (by show (y 0).val = 0; omega)
  | ⟨1, _⟩ => rfl
  | ⟨2, _⟩ => rfl

theorem a_at (y : S1x512x704.Idx) : (iblk m c 3 t : Vec Ideal S1x512x704 .bf16) y = (ar m c).a (blk t) (row t (y 1)) (y 2) :=
  (congrArg _ (eq3 y)).trans (block3 m c t (y 1) (y 2))
theorem b_at (y : S1x512x704.Idx) : (iblk m c 4 t : Vec Ideal S1x512x704 .bf16) y = (ar m c).b (blk t) (row t (y 1)) (y 2) :=
  (congrArg _ (eq3 y)).trans (block4 m c t (y 1) (y 2))

theorem da_tile : daT m c t (tileG m c t) = tileA m c t := by
  funext y
  exact daE_congr (up_tile m c t (y 1) (y 2)) (a_at m c t y) (b_at m c t y)

theorem db_tile : dbT m c t (tileG m c t) = tileB m c t := by
  funext y
  exact congrArg₂ (fun p q : EReal => p * (q * Ideal.logistic q)) (up_tile m c t (y 1) (y 2)) (a_at m c t y)

theorem acc_tile (s : Vec Ideal S512x2048 .f32) :
    accT m c t (tileG m c t) s = fun y => (s y + (ar m c).add (blk t) (row t (y 0)) (y 1) : EReal) := by
  unfold accT
  rw [da_tile, db_tile]
  funext y
  exact congrArg (fun q : EReal => s y + q) (congrArg₂ (fun p q : EReal => p + q)
    (Finset.sum_congr rfl fun n _ => congrArg (fun q : EReal => _ * q) (block7 m c t n (y 1)))
    (Finset.sum_congr rfl fun n _ => congrArg (fun q : EReal => _ * q) (block8 m c t n (y 1))))

theorem con_tile (h1 : t.val % 8 = 7) (q : Fin 8) (a : Fin 512) (b : Fin 2048) :
    con (iblk m c 0 t) (iblk m c 1 t) (tileS m c t) (iblk m c 2 t) (iblk m c 5 t) (iblk m c 6 t) q.val a b = (ar m c).con q.val (row t a) b := by
  have e : ∀ n, con (iblk m c 0 t) (iblk m c 1 t) (tileS m c t) (iblk m c 2 t) (iblk m c 5 t) (iblk m c 6 t) n a b
      = conE (fun k => (iblk m c 0 t : Vec Ideal S512x2048 .f32) (ix2 a k)) (fun k => (tileS m c t) (ix2 a k)) (fun k => (iblk m c 1 t : Vec Ideal S512x2048 .f32) (ix2 a k))
          (fun k => (iblk m c 2 t : Vec Ideal S512x2048 .bf16) (ix2 a k)) (fun k => (iblk m c 5 t : Vec Ideal S1x3x2048 .f32) (ix3 0 1 k)) (fun k => (iblk m c 6 t : Vec Ideal S1x2048 .f32) (ix2 0 k)) n b
    | 0 => rfl
    | 1 => rfl
    | 2 => rfl
    | 3 => rfl
    | _ + 4 => rfl
  rw [e, funext fun k => block0 m c t a k, funext fun k => block1 m c t a k, funext fun k => block2 m c t a k, funext fun k => block5 m c t 1 k, funext fun k => block6 m c t k]
  unfold Arrs.con tileS
  rw [h1]
  rfl

theorem dx_tile (h1 : t.val % 8 = 7) : dxOut (iblk m c 0 t) (iblk m c 1 t) (tileS m c t) (iblk m c 5 t) (iblk m c 6 t) = fun y => ((ar m c).dx (row t (y 0)) (y 1) : EReal) := by
  funext y
  unfold dxOut Arrs.dx
  rw [funext fun k => block0 m c t (y 0) k, funext fun k => block5 m c t 1 k, funext fun k => block6 m c t k,
    (congrArg _ (eq_ix2 y)).trans (block1 m c t (y 0) (y 1))]
  unfold tileS
  rw [h1]
  rfl

theorem tileS_first (h0 : t.val % 8 = 0) : (fun y => ((0 : EReal) + (ar m c).add (blk t) (row t (y 0)) (y 1) : EReal) : Vec Ideal S512x2048 .f32) = tileS m c t := by
  funext y
  unfold tileS Arrs.part
  rw [h0, Finset.sum_range_one, zero_add]
  exact congrArg (fun j => (ar m c).add j (row t (y 0)) (y 1)) (Fin.ext h0)

end point

theorem row_next (n : ℕ) (hn : n + 1 < cfg0.N) (hn' : n < cfg0.N) (h0 : ¬(n + 1) % 8 = 0) (a : Fin 512) : row ⟨n, hn'⟩ a = row ⟨n + 1, hn⟩ a :=
  Fin.ext (by
    show 512 * (n / 8) + a.val = 512 * ((n + 1) / 8) + a.val
    have : (n + 1) / 8 = n / 8 := by omega
    rw [this])

theorem tileS_next (c : Dev nD) (n : ℕ) (hn : n + 1 < cfg0.N) (hn' : n < cfg0.N) (h0 : ¬(n + 1) % 8 = 0) :
    (fun y => (tileS m c ⟨n, hn'⟩ y + (ar m c).add (blk ⟨n + 1, hn⟩) (row ⟨n + 1, hn⟩ (y 0)) (y 1) : EReal) : Vec Ideal S512x2048 .f32)
      = tileS m c ⟨n + 1, hn⟩ := by
  funext y
  have hr := row_next n hn hn' h0 (y 0)
  have hq : (n + 1) % 8 = n % 8 + 1 := by omega
  unfold tileS Arrs.part
  show (∑ j ∈ Finset.range (n % 8 + 1), (ar m c).add ⟨j % 8, Nat.mod_lt _ (by decide)⟩ (row ⟨n, hn'⟩ (y 0)) (y 1)) + _
    = ∑ j ∈ Finset.range ((n + 1) % 8 + 1), _
  rw [hq, Finset.sum_range_succ _ (n % 8 + 1), hr]
  have hb : blk ⟨n + 1, hn⟩ = ⟨(n % 8 + 1) % 8, Nat.mod_lt _ (by decide)⟩ := Fin.ext (by
    show (n + 1) % 8 = (n % 8 + 1) % 8
    omega)
  rw [hb]

theorem tileG_next (c : Dev nD) (n : ℕ) (hn : n + 1 < cfg0.N) (hn' : n < cfg0.N) (h0 : ¬(n + 1) % 8 = 0) :
    tileG m c ⟨n, hn'⟩ = tileG m c ⟨n + 1, hn⟩ := by
  funext y
  exact congrArg (fun r => (ar m c).sg r (y 1)) (row_next n hn hn' h0 (y 0))

theorem tileR_same (c : Dev nD) (n : ℕ) (hn : n + 1 < cfg0.N) (hn' : n < cfg0.N) (h1 : ¬(n + 1) % 8 = 7) :
    tileR m c ⟨n, hn'⟩ = tileR m c ⟨n + 1, hn⟩ := by
  have e : (n + 1 + 1) / 8 = (n + 1) / 8 := by omega
  funext y
  exact congrArg (fun k => (ar m c).sums k (y 1).val (y 2)) e.symm

theorem tileR_next (c : Dev nD) (n : ℕ) (hn : n + 1 < cfg0.N) (hn' : n < cfg0.N) (h1 : (n + 1) % 8 = 7) (q : Fin 8) (b : Fin 2048) :
    (tileR m c ⟨n, hn'⟩ (ix3 0 q b) : EReal) + ∑ a : Fin 512, (ar m c).con q.val (row ⟨n + 1, hn⟩ a) b = tileR m c ⟨n + 1, hn⟩ (ix3 0 q b) := by
  have e : (n + 1 + 1) / 8 = (n + 1) / 8 + 1 := by omega
  show (ar m c).sums ((n + 1) / 8) q.val b + _ = (ar m c).sums ((n + 1 + 1) / 8) q.val b
  rw [e]
  unfold Arrs.sums
  rw [Finset.sum_range_succ _ ((n + 1) / 8)]
  refine congrArg (fun q : EReal => _ + q) (Finset.sum_congr rfl fun a _ => congrArg (fun r => (ar m c).con q.val r b) (Fin.ext ?_))
  have hN : n + 1 < 32 := Nat.lt_of_lt_of_eq hn N_0
  show 512 * ((n + 1) / 8) + a.val = (512 * ((n + 1) / 8) + a.val) % 2048
  omega

/-- After every point the tile's gradient of the output lies in its output and in the scratch buffer, the sum over the
blocks so far in the other one, and the sums over the tokens of the tiles so far in their output. -/
theorem state (c : Dev nD) : ∀ (n : ℕ) (hn : n < cfg0.N),
    (outs m c n hn).hs = tileG m c ⟨n, hn⟩ ∧ (outs m c n hn).o15 = tileG m c ⟨n, hn⟩ ∧ (outs m c n hn).acc = tileS m c ⟨n, hn⟩
      ∧ (outs m c n hn).o14 = tileR m c ⟨n, hn⟩ := by
  intro n
  induction n with
  | zero =>
    intro hn
    rw [outs_Z m c ⟨0, hn⟩ rfl]
    refine ⟨(stZ_hs m c ⟨0, hn⟩ rfl).trans (hs_tile m c _), (stZ_o15 m c ⟨0, hn⟩ rfl).trans (hs_tile m c _),
      (stZ_acc m c ⟨0, hn⟩ rfl).trans ?_, (stZ_o14 m c ⟨0, hn⟩ rfl).trans ?_⟩
    · rw [hs_tile, acc_tile]
      exact tileS_first m c ⟨0, hn⟩ rfl
    · funext y
      show (0 : EReal) = (ar m c).sums ((0 + 1) / 8) (y 1).val (y 2)
      unfold Arrs.sums
      exact (Finset.sum_range_zero _).symm
  | succ n ih =>
    intro hn
    have hn' : n < cfg0.N := Nat.lt_of_succ_lt hn
    obtain ⟨i0, i1, i2, i3⟩ := ih hn'
    by_cases h0 : (n + 1) % 8 = 0
    · rw [outs_A m c ⟨n + 1, hn⟩ (Nat.succ_ne_zero n) h0]
      refine ⟨(stA_hs m c ⟨n + 1, hn⟩ (Nat.succ_ne_zero n) h0 _).trans (hs_tile m c _), (stA_o15 m c ⟨n + 1, hn⟩ (Nat.succ_ne_zero n) h0 _).trans (hs_tile m c _),
        (stA_acc m c ⟨n + 1, hn⟩ (Nat.succ_ne_zero n) h0 _).trans ?_, i3.trans (tileR_same m c n hn hn' (by omega))⟩
      rw [hs_tile, acc_tile]
      exact tileS_first m c ⟨n + 1, hn⟩ h0
    have e := tileG_next m c n hn hn' h0
    have ea : accT m c ⟨n + 1, hn⟩ (outs m c n hn').hs (outs m c n hn').acc = tileS m c ⟨n + 1, hn⟩ := by
      rw [i0, i2, e, acc_tile]
      exact tileS_next m c n hn hn' h0
    by_cases h1 : (n + 1) % 8 = 7
    · rw [outs_C m c ⟨n + 1, hn⟩ h0 h1]
      refine ⟨i0.trans e, i1.trans e, (stC_acc m c ⟨n + 1, hn⟩ h0 h1 _).trans ea, ?_⟩
      funext y
      have hy : y = ix3 0 (y 1) (y 2) := by
        have h0 : (y 0).val < 1 := (y 0).isLt
        funext x
        match x with
        | ⟨0, _⟩ => exact Fin.ext (by show (y 0).val = 0; omega)
        | ⟨1, _⟩ => rfl
        | ⟨2, _⟩ => rfl
      rw [hy]
      refine (stC_o14 m c ⟨n + 1, hn⟩ h0 h1 (prev m c ⟨n + 1, hn⟩) (y 1) (y 2)).trans (Eq.trans ?_ (tileR_next m c n hn hn' h1 (y 1) (y 2)))
      refine congrArg₂ (fun p q : EReal => p + q) (congrFun i3 _) (Finset.sum_congr rfl fun a _ => ?_)
      exact (congrArg (fun s => con _ _ s _ _ _ (y 1).val a (y 2)) ea).trans (con_tile m c ⟨n + 1, hn⟩ h1 (y 1) a (y 2))
    · rw [outs_B m c ⟨n + 1, hn⟩ h0 h1]
      exact ⟨i0.trans e, i1.trans e, (stB_acc m c ⟨n + 1, hn⟩ h0 h1 _).trans ea, i3.trans (tileR_same m c n hn hn' h1)⟩

/-- What a point leaves in the outputs of the hidden columns. -/
theorem left : (outs m c t.val t.isLt).o11 = tileA m c t ∧ (outs m c t.val t.isLt).o12 = tileB m c t
    ∧ (outs m c t.val t.isLt).o13 = sOut (iblk m c 3 t) (iblk m c 4 t) := by
  have st := (state m c t.val t.isLt).1
  rw [← da_tile, ← db_tile]
  by_cases hz : t.val = 0
  · rw [outs_Z m c t hz, stZ_o11, stZ_o12, stZ_o13, hs_tile]
    exact ⟨rfl, rfl, rfl⟩
  by_cases h0 : t.val % 8 = 0
  · rw [outs_A m c t hz h0, stA_o11, stA_o12, stA_o13, hs_tile]
    exact ⟨rfl, rfl, rfl⟩
  by_cases h1 : t.val % 8 = 7
  · rw [outs_C m c t h0 h1] at st ⊢
    rw [stC_o11, stC_o12, stC_o13, show (prev m c t).hs = tileG m c t from st]
    exact ⟨rfl, rfl, rfl⟩
  · rw [outs_B m c t h0 h1] at st ⊢
    rw [stB_o11, stB_o12, stB_o13, show (prev m c t).hs = tileG m c t from st]
    exact ⟨rfl, rfl, rfl⟩

/-- What the last point of a tile leaves in the gradient of the tokens. -/
theorem left10 (h1 : t.val % 8 = 7) :
    (outs m c t.val t.isLt).o10 = fun y => ((ar m c).dx (row t (y 0)) (y 1) : EReal) := by
  have st := (state m c t.val t.isLt).2.2.1
  have h0 : ¬t.val % 8 = 0 := by omega
  rw [outs_C m c t h0 h1] at st ⊢
  rw [stC_acc] at st
  rw [stC_o10, st]
  exact dx_tile m c t h1

/-! The arrays after the run. -/

theorem arr10 (c : Dev nD) : (dats m 0 c).arrAt 10 cfg0.N = (ar m c).resX := by
  refine (dats m 0 c).arrAt_eq_of_covers 10 _ (by decide +kernel) fun t hf y => ?_
  have hi := idx10 t
  have h7 := (flush0_10 t).mp hf
  blk_simp
  rw [after_10, left10 m c t h7]
  have e0 : ((win0_10.blk t).view.emb y : S2048x2048.Idx) = ix2 (row t (y 0)) (y 1) := by
    funext x
    apply Fin.ext
    match x with
    | ⟨0, _⟩ => show win0_10.index t 0 * 512 + 1 * (y 0).val = 512 * (t.val / 8) + (y 0).val; omega
    | ⟨1, _⟩ => show win0_10.index t 1 * 2048 + 1 * (y 1).val = (y 1).val; omega
  rw [e0]
  rfl

theorem arr11 (c : Dev nD) : (dats m 0 c).arrAt 11 cfg0.N = (ar m c).resA := by
  refine (dats m 0 c).arrAt_eq_of_covers 11 _ (by decide +kernel) fun t hf y => ?_
  have hi := idx11 t
  blk_simp
  rw [after_11, (left m c t).1]
  have e0 : ((win0_11.blk t).view.emb y : S8x2048x704.Idx) = ix3 (blk t) (row t (y 1)) (y 2) := by
    have hy : (y 0).val < 1 := (y 0).isLt
    funext x
    apply Fin.ext
    match x with
    | ⟨0, _⟩ => show win0_11.index t 0 * 1 + 1 * (y 0).val = t.val % 8; omega
    | ⟨1, _⟩ => show win0_11.index t 1 * 512 + 1 * (y 1).val = 512 * (t.val / 8) + (y 1).val; omega
    | ⟨2, _⟩ => show win0_11.index t 2 * 704 + 1 * (y 2).val = (y 2).val; omega
  rw [e0]
  rfl

theorem arr12 (c : Dev nD) : (dats m 0 c).arrAt 12 cfg0.N = (ar m c).resB := by
  refine (dats m 0 c).arrAt_eq_of_covers 12 _ (by decide +kernel) fun t hf y => ?_
  have hi := idx12 t
  blk_simp
  rw [after_12, (left m c t).2.1]
  have e0 : ((win0_12.blk t).view.emb y : S8x2048x704.Idx) = ix3 (blk t) (row t (y 1)) (y 2) := by
    have hy : (y 0).val < 1 := (y 0).isLt
    funext x
    apply Fin.ext
    match x with
    | ⟨0, _⟩ => show win0_12.index t 0 * 1 + 1 * (y 0).val = t.val % 8; omega
    | ⟨1, _⟩ => show win0_12.index t 1 * 512 + 1 * (y 1).val = 512 * (t.val / 8) + (y 1).val; omega
    | ⟨2, _⟩ => show win0_12.index t 2 * 704 + 1 * (y 2).val = (y 2).val; omega
  rw [e0]
  rfl

theorem arr13 (c : Dev nD) : (dats m 0 c).arrAt 13 cfg0.N = (ar m c).resS := by
  refine (dats m 0 c).arrAt_eq_of_covers 13 _ (by decide +kernel) fun t hf y => ?_
  have hi := idx13 t
  blk_simp
  rw [after_13, (left m c t).2.2]
  have e0 : ((win0_13.blk t).view.emb y : S8x2048x704.Idx) = ix3 (blk t) (row t (y 1)) (y 2) := by
    have hy : (y 0).val < 1 := (y 0).isLt
    funext x
    apply Fin.ext
    match x with
    | ⟨0, _⟩ => show win0_13.index t 0 * 1 + 1 * (y 0).val = t.val % 8; omega
    | ⟨1, _⟩ => show win0_13.index t 1 * 512 + 1 * (y 1).val = 512 * (t.val / 8) + (y 1).val; omega
    | ⟨2, _⟩ => show win0_13.index t 2 * 704 + 1 * (y 2).val = (y 2).val; omega
  rw [e0]
  exact congrArg₂ (fun p q : EReal => p * Ideal.logistic p * q) (a_at m c t y) (b_at m c t y)

theorem arr14 (c : Dev nD) : (dats m 0 c).arrAt 14 cfg0.N = (ar m c).resR := by
  refine (dats m 0 c).arrAt_eq_of_covers 14 _ (by decide +kernel) fun t hf y => ?_
  have hi := idx14 t
  have h7 := (flush0_14 t).mp hf
  blk_simp
  rw [after_14, (state m c t.val t.isLt).2.2.2]
  have e0 : ((win0_14.blk t).view.emb y : S1x8x2048.Idx) = ix3 0 (y 1) (y 2) := by
    have hy : (y 0).val < 1 := (y 0).isLt
    funext x
    apply Fin.ext
    match x with
    | ⟨0, _⟩ => show win0_14.index t 0 * 1 + 1 * (y 0).val = 0; omega
    | ⟨1, _⟩ => show win0_14.index t 1 * 8 + 1 * (y 1).val = (y 1).val; omega
    | ⟨2, _⟩ => show win0_14.index t 2 * 2048 + 1 * (y 2).val = (y 2).val; omega
  rw [e0]
  have hN : t.val < 32 := Nat.lt_of_lt_of_eq t.isLt N_0
  have e : (t.val + 1) / 8 = 4 := by omega
  exact congrArg (fun k => (ar m c).sums k (y 1).val (y 2)) e

theorem arr15 (c : Dev nD) : (dats m 0 c).arrAt 15 cfg0.N = (ar m c).resY := by
  refine (dats m 0 c).arrAt_eq_of_covers 15 _ (by decide +kernel) fun t hf y => ?_
  have hi := idx15 t
  blk_simp
  rw [after_15, (state m c t.val t.isLt).2.1]
  have e0 : ((win0_15.blk t).view.emb y : S2048x2048.Idx) = ix2 (row t (y 0)) (y 1) := by
    funext x
    apply Fin.ext
    match x with
    | ⟨0, _⟩ => show win0_15.index t 0 * 512 + 1 * (y 0).val = 512 * (t.val / 8) + (y 0).val; omega
    | ⟨1, _⟩ => show win0_15.index t 1 * 2048 + 1 * (y 1).val = (y 1).val; omega
  rw [e0]
  rfl

set_option maxHeartbeats 4000000 in
/-- The run: the six arrays, and the arguments as they were. -/
theorem run : θ_run defs (onTc (τ := τ) (main (F := Ideal))) ⟨m, fun _ => 0, ρ⟩ (fun r => ∀ c : Dev nD,
      r.2.mem ((c : Thread nD τ).loc main_v52_0) = (ar m c).resX
      ∧ r.2.mem ((c : Thread nD τ).loc main_v52_1) = (ar m c).resA
      ∧ r.2.mem ((c : Thread nD τ).loc main_v52_2) = (ar m c).resB
      ∧ r.2.mem ((c : Thread nD τ).loc main_v52_3) = (ar m c).resS
      ∧ r.2.mem ((c : Thread nD τ).loc main_v52_4) = (ar m c).resR
      ∧ r.2.mem ((c : Thread nD τ).loc main_v52_5) = (ar m c).resY
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) :=
  (θ_run defs _ _).mono (fun r h c => ⟨((h c).1 10).trans (arr10 m c), ((h c).1 11).trans (arr11 m c), ((h c).1 12).trans (arr12 m c), ((h c).1 13).trans (arr13 m c), ((h c).1 14).trans (arr14 m c), ((h c).1 15).trans (arr15 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 5).trans (((dats m 0 c).arrAt_in 5 rfl _).trans ((A_eq m c 5).trans (V_main_arg2 m c))),
    ((h c).1 6).trans (((dats m 0 c).arrAt_in 6 rfl _).trans ((A_eq m c 6).trans (V_main_arg3 m c))),
    ((h c).1 7).trans (((dats m 0 c).arrAt_in 7 rfl _).trans ((A_eq m c 7).trans (V_main_arg4 m c))),
    ((h c).1 8).trans (((dats m 0 c).arrAt_in 8 rfl _).trans ((A_eq m c 8).trans (V_main_arg5 m c))),
    ((h c).1 9).trans (((dats m 0 c).arrAt_in 9 rfl _).trans ((A_eq m c 9).trans (V_main_arg6 m c)))⟩) (run_main m ρ)

end Cert.Kernel7Ideal.Bwd

end
-- ==== Proof.BwdRef.lean ====
/-
  The reference's gradients of the feed-forward layer, read at an index.
-/
module

public import proofs.«01_k».proof.Proof.BwdReal
public import proofs.«01_k».proof.Proof.BwdValue
public import proofs.«01_k».proof.Proof.Gen.Reference7Ideal.Read

@[expose] public section

set_option maxRecDepth 16384

noncomputable section

namespace Cert.Reference7Ideal.Bwd

open Idealize.ShloMosaic Idealize.ShloMosaic.TcCoe Idealize.SL.Sem Idealize.ShloMosaic.StableHlo Cert.Ret
open Cert.Reference7Ideal Cert.Reference7Ideal.Gen Cert.Reference7Ideal.Read
open Cert.Kernel7Ideal.Bwd (Arrs daE dxE conE rs)
open Cert.Reference6Ideal.Ffn (col wt3 wt4 wt5 val34 val35 val38)
open Cert.Kernel6Ideal.Ffn (tok)

/-- Every number handed in is finite. -/
structure Ok (S : Arrs) : Prop where
  X : ∀ i, Fine (S.X i)
  D : ∀ i, Fine (S.D i)
  P : ∀ i, Fine (S.P i)
  G : ∀ i, Fine (S.G i)
  A : ∀ i, Fine (S.A i)
  B : ∀ i, Fine (S.B i)
  C : ∀ i, Fine (S.C i)

variable {S : Arrs} (H : Ok S)

section fine
include H
theorem tok_fine (r k : Fin 2048) : Fine (tok S.X S.P S.G r k) :=
  Cert.Bwd7.fine_nrm (fun _ => H.X _) (H.X _) (H.G _) (H.P _) (H.P _)
theorem a_fine (j : Fin 8) (r : Fin 2048) (n : Fin 704) : Fine (S.a j r n) := by
  unfold Arrs.a Cert.Kernel6Ideal.Ffn.hid
  exact Fine.sum _ fun k => Fine.mul (tok_fine H r k) (H.A _)
theorem b_fine (j : Fin 8) (r : Fin 2048) (n : Fin 704) : Fine (S.b j r n) := by
  unfold Arrs.b Cert.Kernel6Ideal.Ffn.hid
  exact Fine.sum _ fun k => Fine.mul (tok_fine H r k) (H.B _)
theorem y_fine (r k : Fin 2048) : Fine (S.y r k) := by
  unfold Arrs.y Cert.Kernel6Ideal.Ffn.part Cert.Kernel6Ideal.Ffn.add Cert.Kernel6Ideal.Ffn.gat
  exact Fine.sum _ fun j => Fine.sum _ fun n =>
    Fine.mul (Fine.mul (Fine.mul (a_fine H _ r n) (Fine.logistic (a_fine H _ r n))) (b_fine H _ r n)) (H.C _)
theorem sg_fine (r k : Fin 2048) : Fine (S.sg r k) := by
  unfold Arrs.sg
  rw [Cert.Bwd7.half_eq]
  exact Fine.mul (Fine.mul (Cert.Bwd7.fine_coe _) (H.P _)) (H.D _)
theorem ds_fine (j : Fin 8) (r : Fin 2048) (n : Fin 704) : Fine (S.ds j r n) := Fine.sum _ fun k => Fine.mul (sg_fine H r k) (H.C _)
theorem da_fine (j : Fin 8) (r : Fin 2048) (n : Fin 704) : Fine (S.da j r n) :=
  Fine.mul (Fine.mul (ds_fine H j r n) (b_fine H j r n)) (Fine.mul (Fine.logistic (a_fine H j r n))
    (Fine.add Fine.one (Fine.mul (a_fine H j r n) (Fine.sub Fine.one (Fine.logistic (a_fine H j r n))))))
theorem db_fine (j : Fin 8) (r : Fin 2048) (n : Fin 704) : Fine (S.db j r n) :=
  Fine.mul (ds_fine H j r n) (Fine.mul (a_fine H j r n) (Fine.logistic (a_fine H j r n)))
theorem dh_fine (r k : Fin 2048) : Fine (S.part 7 r k) :=
  Fine.sum _ fun j => Fine.add (Fine.sum _ fun n => Fine.mul (da_fine H _ r n) (H.A _)) (Fine.sum _ fun n => Fine.mul (db_fine H _ r n) (H.B _))
end fine

/-! The forward part is that of the other reference. -/

variable (S)

theorem f35 (j : Fin 8) (n : Fin 704) (k : Fin 2048) : val_main_v35 (F := Ideal) S.A (ix2 k (col j n)) = S.A (ix3 j n k) :=
  (congrFun (show val_main_v35 (F := Ideal) S.A = Cert.Reference6Ideal.Read.val_main_v13 S.A from rfl) _).trans (wt3 S.A j n k)
theorem f37 (j : Fin 8) (n : Fin 704) (k : Fin 2048) : val_main_v37 (F := Ideal) S.B (ix2 k (col j n)) = S.B (ix3 j n k) :=
  (congrFun (show val_main_v37 (F := Ideal) S.B = Cert.Reference6Ideal.Read.val_main_v14 S.B from rfl) _).trans (wt4 S.B j n k)
theorem f5 (j : Fin 8) (n : Fin 704) (k : Fin 2048) : val_main_v5 (F := Ideal) S.C (ix2 (col j n) k) = S.C (ix3 j n k) :=
  (congrFun (show val_main_v5 (F := Ideal) S.C = Cert.Reference6Ideal.Read.val_main_v5 S.C from rfl) _).trans (wt5 S.C j n k)
theorem f36 (j : Fin 8) (r : Fin 2048) (n : Fin 704) : val_main_v36 (F := Ideal) S.X S.P S.G S.A (ix2 r (col j n)) = S.a j r n :=
  (congrFun (show val_main_v36 (F := Ideal) S.X S.P S.G S.A = Cert.Reference6Ideal.Read.val_main_v34 S.X S.P S.G S.A from rfl) _).trans
    (val34 S.X S.P S.G S.A j r n)
theorem f38 (j : Fin 8) (r : Fin 2048) (n : Fin 704) : val_main_v38 (F := Ideal) S.X S.P S.G S.B (ix2 r (col j n)) = S.b j r n :=
  (congrFun (show val_main_v38 (F := Ideal) S.X S.P S.G S.B = Cert.Reference6Ideal.Read.val_main_v35 S.X S.P S.G S.B from rfl) _).trans
    (val35 S.X S.P S.G S.B j r n)
theorem f41 (r k : Fin 2048) : val_main_v41 (F := Ideal) S.X S.P S.G S.A S.B S.C (ix2 r k) = S.y r k :=
  (congrFun (show val_main_v41 (F := Ideal) S.X S.P S.G S.A S.B S.C = Cert.Reference6Ideal.Read.val_main_v38 S.X S.P S.G S.A S.B S.C from rfl) _).trans
    (val38 S.X S.P S.G S.A S.B S.C r k)

theorem f39_2 (j : Fin 8) (r : Fin 2048) (n : Fin 704) : val_main_v39_2 (F := Ideal) S.X S.P S.G S.A (ix2 r (col j n)) = Ideal.logistic (S.a j r n) := by
  rw [← f36]
  unfold val_main_v39_2 val_main_call0_v4 val_main_call0_cst_0 val_main_call0_v3 val_main_call0_v2 val_main_call0_cst val_main_call0_v1 val_main_call0_v0
  generalize val_main_v36 (F := Ideal) S.X S.P S.G S.A = y
  unfold Ideal.logistic
  pointwise

theorem f39_1 (j : Fin 8) (r : Fin 2048) (n : Fin 704) : val_main_v39_1 (F := Ideal) S.X S.P S.G S.A (ix2 r (col j n))
    = (Ideal.logistic (S.a j r n) * (1 - Ideal.logistic (S.a j r n)) : EReal) := by
  rw [← f39_2]
  unfold val_main_v39_1 val_main_call0_v7 val_main_call0_v6 val_main_call0_cst_1
  generalize val_main_v39_2 (F := Ideal) S.X S.P S.G S.A = y
  pointwise

theorem f39_0 (j : Fin 8) (r : Fin 2048) (n : Fin 704) : val_main_v39_0 (F := Ideal) S.X S.P S.G S.A (ix2 r (col j n))
    = (S.a j r n * Ideal.logistic (S.a j r n) : EReal) :=
  congrArg₂ (fun p q : EReal => p * q) (f36 S j r n) (f39_2 S j r n)

theorem f40 (j : Fin 8) (r : Fin 2048) (n : Fin 704) : val_main_v40 (F := Ideal) S.X S.P S.G S.A S.B (ix2 r (col j n))
    = (S.a j r n * Ideal.logistic (S.a j r n) * S.b j r n : EReal) :=
  congrArg₂ (fun p q : EReal => p * q) (f39_0 S j r n) (f38 S j r n)

/-! The gradients. -/

theorem f49 (r k : Fin 2048) : val_main_v49 (F := Ideal) S.D S.P (ix2 r k) = S.sg r k := by
  unfold val_main_v49 val_main_v48 val_main_v47 val_main_v43 val_main_v42 val_main_cst_4 val_main_v11 val_main_v10 Arrs.sg
  pointwise

theorem f55 (j : Fin 8) (r : Fin 2048) (n : Fin 704) : val_main_v55 (F := Ideal) S.D S.P S.C (ix2 r (col j n)) = S.ds j r n := by
  rw [val_main_v55_apply]
  refine Finset.sum_congr rfl fun k _ => ?_
  have el : lidx_main_v55 (ix2 r (col j n)) k = ix2 r k := eq_ix2 _
  have er : ridx_main_v55 (ix2 r (col j n)) k = ix2 (col j n) k := eq_ix2 _
  rw [el, er]
  exact congrArg₂ (fun a b : EReal => a * b) (f49 S r k) (f5 S j n k)

theorem f56 (j : Fin 8) (r : Fin 2048) (n : Fin 704) : val_main_v56 (F := Ideal) S.X S.D S.P S.G S.A S.C (ix2 r (col j n)) = S.db j r n :=
  (congrArg₂ (fun p q : EReal => p * q) (f39_0 S j r n) (f55 S j r n)).trans (mul_comm _ _)

variable {S}
include H

theorem f58 (j : Fin 8) (r : Fin 2048) (n : Fin 704) : val_main_v58 (F := Ideal) S.X S.D S.P S.G S.A S.B S.C (ix2 r (col j n)) = S.da j r n := by
  have t : val_main_v57 (F := Ideal) S.X S.D S.P S.G S.B S.C (ix2 r (col j n)) = (S.ds j r n * S.b j r n : EReal) :=
    congrArg₂ (fun p q : EReal => p * q) (f55 S j r n) (f38 S j r n)
  refine Eq.trans ?_ (Cert.Bwd7.da_eq (ds_fine H j r n) (b_fine H j r n) (a_fine H j r n))
  exact congrArg₂ (fun p q : EReal => p + q) (congrArg₂ (fun p q : EReal => p * q) t (f39_2 S j r n))
    (congrArg₂ (fun p q : EReal => p * q) (congrArg₂ (fun p q : EReal => p * q) (f36 S j r n) t) (f39_1 S j r n))

theorem f61 (r k : Fin 2048) : val_main_v61 (F := Ideal) S.X S.D S.P S.G S.A S.B S.C (ix2 r k) = S.part 7 r k := by
  have e : S.part 7 r k = ∑ j : Fin 8, S.add j r k :=
    (Fin.sum_univ_eq_sum_range (fun j => S.add ⟨j % 8, Nat.mod_lt _ (by decide)⟩ r k) 8).symm.trans
      (Finset.sum_congr rfl fun j _ => congrArg (fun j => S.add j r k) (Fin.ext (Nat.mod_eq_of_lt j.isLt)))
  have h59 : val_main_v59 (F := Ideal) S.X S.D S.P S.G S.A S.B S.C (ix2 r k) = ∑ j : Fin 8, ∑ n : Fin 704, (S.db j r n * S.B (ix3 j n k) : EReal) := by
    rw [val_main_v59_apply]
    refine (Fin.sum_univ_tiles 8 704 rfl _).trans (Finset.sum_congr rfl fun j _ => Finset.sum_congr rfl fun n _ => ?_)
    have el : lidx_main_v59 (ix2 r k) (col j n) = ix2 r (col j n) := eq_ix2 _
    have er : ridx_main_v59 (ix2 r k) (col j n) = ix2 k (col j n) := eq_ix2 _
    exact congrArg₂ (fun a b : EReal => a * b) ((congrArg _ el).trans (f56 S j r n)) ((congrArg _ er).trans (f37 S j n k))
  have h60 : val_main_v60 (F := Ideal) S.X S.D S.P S.G S.A S.B S.C (ix2 r k) = ∑ j : Fin 8, ∑ n : Fin 704, (S.da j r n * S.A (ix3 j n k) : EReal) := by
    rw [val_main_v60_apply]
    refine (Fin.sum_univ_tiles 8 704 rfl _).trans (Finset.sum_congr rfl fun j _ => Finset.sum_congr rfl fun n _ => ?_)
    have el : lidx_main_v60 (ix2 r k) (col j n) = ix2 r (col j n) := eq_ix2 _
    have er : ridx_main_v60 (ix2 r k) (col j n) = ix2 k (col j n) := eq_ix2 _
    exact congrArg₂ (fun a b : EReal => a * b) ((congrArg _ el).trans (f58 H j r n)) ((congrArg _ er).trans (f35 S j n k))
  rw [e]
  refine (congrArg₂ (fun p q : EReal => p + q) h59 h60).trans ?_
  rw [add_comm, ← Finset.sum_add_distrib]
  rfl

theorem f92 (r k : Fin 2048) : val_main_v92 (F := Ideal) S.X S.D S.P S.G S.A S.B S.C (ix2 r k) = S.dx r k := by
  refine Eq.trans ?_ (Cert.Bwd7.dx_eq (fun _ => H.X _) (fun l => dh_fine H r l) (fun _ => H.P _) (fun _ => H.G _) k (S.D (ix2 r k)))
  rw [← funext fun l => f61 H r l]
  unfold val_main_v92 val_main_v88 val_main_v87 val_main_v86 val_main_v85 val_main_v84 val_main_v83 val_main_cst_13 val_main_v82 val_main_v81 val_main_cst_12
    val_main_v80 val_main_v79 val_main_v78 val_main_v77 val_main_v76 val_main_cst_11 val_main_v75 val_main_v73 val_main_v72 val_main_v68 val_main_v67
    val_main_v30 val_main_v29 val_main_cst_3 val_main_v26 val_main_v23 val_main_v22 val_main_cst_2 val_main_v21 val_main_v20 val_main_v19 val_main_v18 val_main_cst_1
    val_main_v17 val_main_v16 val_main_cst_0 val_main_v15 val_main_v14 val_main_cst val_main_v13 val_main_v12 val_main_v9 val_main_v8 Cert.Bwd7.dxR
  generalize val_main_v61 (F := Ideal) S.X S.D S.P S.G S.A S.B S.C = d
  pointwise
  simp only [Fin.sum_univ_one]

/-! The sums over the tokens. -/

theorem f63 (b : Fin 2048) : (val_main_v63 (F := Ideal) S.X S.D S.P S.G S.A S.B S.C (ix2 0 b) : EReal) = ∑ r : Fin 2048, S.con 0 r b := by
  refine Eq.trans ?_ (Finset.sum_congr rfl fun r _ => f61 H r b)
  unfold val_main_v63 val_main_v62 val_main_cst_7
  generalize val_main_v61 (F := Ideal) S.X S.D S.P S.G S.A S.B S.C = d
  pointwise

theorem f66 (b : Fin 2048) : (val_main_v66 (F := Ideal) S.X S.D S.P S.G S.A S.B S.C (ix2 0 b) : EReal) = ∑ r : Fin 2048, S.con 1 r b := by
  refine Eq.trans ?_ (Finset.sum_congr rfl fun r _ => (mul_comm _ _).trans (congrArg (fun q : EReal => q * (S.X (ix2 r b) * rs (fun k => S.X (ix2 r k)) * S.G (ix2 0 b))) (f61 H r b)))
  unfold val_main_v66 val_main_v65 val_main_cst_8 val_main_v64 val_main_v28 val_main_v27 val_main_v26 val_main_v25 val_main_v24 val_main_v20 val_main_v19
    val_main_v18 val_main_cst_1 val_main_v17 val_main_v16 val_main_cst_0 val_main_v15 val_main_v14 val_main_cst val_main_v13 val_main_v12 rs
  generalize val_main_v61 (F := Ideal) S.X S.D S.P S.G S.A S.B S.C = d
  pointwise

theorem f54 (b : Fin 2048) : (val_main_v54 (F := Ideal) S.X S.D S.P S.G S.A S.B S.C (ix2 0 b) : EReal) = ∑ r : Fin 2048, S.con 2 r b := by
  refine Eq.trans ?_ (Cert.Bwd7.half_sum (d := fun r => S.D (ix2 r b)) (y := fun r => S.y r b) (fun _ => H.D _) (fun r => y_fine H r b))
  simp only [← f41 S]
  unfold val_main_v54 val_main_v53 val_main_cst_6 val_main_v52 val_main_v51 val_main_cst_5 val_main_v50 val_main_v47
  generalize val_main_v41 (F := Ideal) S.X S.P S.G S.A S.B S.C = y
  pointwise

theorem f89 (b : Fin 2048) : (val_main_v89 (F := Ideal) S.X S.D S.P S.G S.A S.B S.C (ix2 0 b) : EReal) = ∑ r : Fin 2048, S.con 3 r b := by
  refine Eq.trans ?_ (Finset.sum_congr rfl fun r _ => (mul_comm _ _).trans
    (congrArg (fun q : EReal => q * (1 + S.P (ix3 0 1 b)) * (S.X (ix2 r b) * rs (fun k => S.X (ix2 r k)))) (f61 H r b)))
  unfold val_main_v89 val_main_v74 val_main_cst_10 val_main_v71 val_main_v70 val_main_cst_9 val_main_v69 val_main_v68 val_main_v67 val_main_v30 val_main_v29
    val_main_cst_3 val_main_v9 val_main_v8 val_main_v25 val_main_v24 val_main_v20 val_main_v19
    val_main_v18 val_main_cst_1 val_main_v17 val_main_v16 val_main_cst_0 val_main_v15 val_main_v14 val_main_cst val_main_v13 rs
  generalize val_main_v61 (F := Ideal) S.X S.D S.P S.G S.A S.B S.C = d
  pointwise
  simp only [Fin.sum_univ_one]

omit H in
theorem sums_eq (q : ℕ) (b : Fin 2048) : S.sums 4 q b = ∑ r : Fin 2048, S.con q r b := by
  refine Eq.trans ?_ (Fin.sum_univ_tiles 4 512 rfl (fun r => S.con q r b)).symm
  refine (Fin.sum_univ_eq_sum_range (fun i => ∑ a : Fin 512, S.con q ⟨(512 * i + a.val) % 2048, Nat.mod_lt _ (by decide)⟩ b) 4).symm.trans
    (Finset.sum_congr rfl fun j _ => Finset.sum_congr rfl fun a _ => congrArg (fun r => S.con q r b) (Fin.ext ?_))
  show (512 * j.val + a.val) % 2048 = j.val * 512 + a.val
  omega

theorem f91 (q : Fin 8) (b : Fin 2048) : (val_main_v91 (F := Ideal) S.X S.D S.P S.G S.A S.B S.C (ix2 q b) : EReal) = S.sums 4 q.val b := by
  rw [sums_eq]
  have hoff : ∀ (p : Fin 8) (k : Fin 1) (d : Fin 2), d ≠ 0 → ((ix2 k b : S1x2048.Idx) d).val = ((ix2 p b : S8x2048.Idx) d).val := fun p k d hd =>
    match d with
    | ⟨0, _⟩ => absurd rfl hd
    | ⟨1, _⟩ => rfl
  unfold val_main_v91
  match q with
  | ⟨0, _⟩ =>
    refine Eq.trans (concatenate_apply_piece (t := S8x2048) 0 _ _ _ 0 ?_ S1x2048 (val_main_v63 (F := Ideal) S.X S.D S.P S.G S.A S.B S.C) ?_ rfl 0 ?_ (ix2 0 b) ?_ ?_) (f63 H b)
    · exact (by decide : 0 < 5)
    · rfl
    · rfl
    · exact hoff _ _
    · rfl
  | ⟨1, _⟩ =>
    refine Eq.trans (concatenate_apply_piece (t := S8x2048) 0 _ _ _ 1 ?_ S1x2048 (val_main_v66 (F := Ideal) S.X S.D S.P S.G S.A S.B S.C) ?_ rfl 1 ?_ (ix2 0 b) ?_ ?_) (f66 H b)
    · exact (by decide : 1 < 5)
    · rfl
    · rfl
    · exact hoff _ _
    · rfl
  | ⟨2, _⟩ =>
    refine Eq.trans (concatenate_apply_piece (t := S8x2048) 0 _ _ _ 2 ?_ S1x2048 (val_main_v54 (F := Ideal) S.X S.D S.P S.G S.A S.B S.C) ?_ rfl 2 ?_ (ix2 0 b) ?_ ?_) (f54 H b)
    · exact (by decide : 2 < 5)
    · rfl
    · rfl
    · exact hoff _ _
    · rfl
  | ⟨3, _⟩ =>
    refine Eq.trans (concatenate_apply_piece (t := S8x2048) 0 _ _ _ 3 ?_ S1x2048 (val_main_v89 (F := Ideal) S.X S.D S.P S.G S.A S.B S.C) ?_ rfl 3 ?_ (ix2 0 b) ?_ ?_) (f89 H b)
    · exact (by decide : 3 < 5)
    · rfl
    · rfl
    · exact hoff _ _
    · rfl
  | ⟨k + 4, hk⟩ =>
    refine Eq.trans (concatenate_apply_piece (t := S8x2048) 0 _ _ _ 4 ?_ S4x2048 (val_main_v90 (F := Ideal)) ?_ rfl 4 ?_ (ix2 ⟨k, by omega⟩ b) ?_ ?_) ?_
    · exact (by decide : 4 < 5)
    · rfl
    · rfl
    · exact fun d hd => match d with
        | ⟨0, _⟩ => absurd rfl hd
        | ⟨1, _⟩ => rfl
    · show 4 + k = k + 4
      omega
    · refine Eq.trans ?_ (Finset.sum_eq_zero fun r _ => rfl).symm
      unfold val_main_v90 val_main_cst_14
      pointwise

omit H in
/-- The blocked hidden columns are the columns of the flat matrix. -/
theorem back (i : S8x2048x704.Idx) : idx_main_v93 (idx_main_v94 i) = ix2 (i 1) (col (i 0) (i 2)) := by
  have h0 : (i 0).val < 8 := (i 0).isLt
  have h1 : (i 1).val < 2048 := (i 1).isLt
  have h2 : (i 2).val < 704 := (i 2).isLt
  funext x
  apply Fin.ext
  match x with
  | ⟨0, _⟩ => show (((i 1).val * 8 + (i 0).val) * 704 + (i 2).val) / 5632 = (i 1).val; omega
  | ⟨1, _⟩ => show (((i 1).val * 8 + (i 0).val) * 704 + (i 2).val) % 5632 = (i 0).val * 704 + (i 2).val; omega

include H in
theorem fin92 : val_main_v92 (F := Ideal) S.X S.D S.P S.G S.A S.B S.C = S.resX :=
  funext fun i => (congrArg _ (eq_ix2 i)).trans (f92 H (i 0) (i 1))

include H in
theorem fin95 : val_main_v95 (F := Ideal) S.X S.D S.P S.G S.A S.B S.C = S.resA := funext fun i => by
  rw [val_main_v95_apply, val_main_v94_apply, val_main_v93_apply]
  exact (congrArg _ (back i)).trans (f58 H (i 0) (i 1) (i 2))

omit H in
theorem fin98 (S : Arrs) : val_main_v98 (F := Ideal) S.X S.D S.P S.G S.A S.C = S.resB := funext fun i => by
  rw [val_main_v98_apply, val_main_v97_apply, val_main_v96_apply]
  exact (congrArg _ (back i)).trans (f56 S (i 0) (i 1) (i 2))

omit H in
theorem fin101 (S : Arrs) : val_main_v101 (F := Ideal) S.X S.P S.G S.A S.B = S.resS := funext fun i => by
  rw [val_main_v101_apply, val_main_v100_apply, val_main_v99_apply]
  exact (congrArg _ (back i)).trans (f40 S (i 0) (i 1) (i 2))

include H in
theorem fin102 : val_main_v102 (F := Ideal) S.X S.D S.P S.G S.A S.B S.C = S.resR := funext fun i => by
  rw [val_main_v102_apply]
  exact (congrArg _ (eq_ix2 _)).trans (f91 H (i 1) (i 2))

omit H in
theorem fin103 (S : Arrs) : val_main_v103 (F := Ideal) S.D S.P = S.resY :=
  funext fun i => (congrArg _ (eq_ix2 i)).trans (f49 S (i 0) (i 1))

end Cert.Reference7Ideal.Bwd

end
-- ==== Proof.BwdAlg.lean ====
/-
  The feed-forward layer's backward pass: the precondition read, the two runs' results compared.
-/
module

public import proofs.«01_k».proof.Defs
public import proofs.«01_k».proof.Proof.Claims
public import proofs.«01_k».proof.Proof.Gen.Kernel7Ideal
public import proofs.«01_k».proof.Proof.BwdRef

@[expose] public section

set_option maxRecDepth 16384

noncomputable section

namespace Cert.Bwd7

open Idealize.ShloMosaic Idealize.ShloMosaic.TcCoe Idealize.SL.Sem Cert.Ret
open Cert.Kernel7Ideal.Bwd (Arrs ar)
open Cert.Reference7Ideal.Bwd (Ok)

/-- The shapes the precondition broadcasts its bound to. -/
theorem preFacts : Cert.Pre_finite7.Facts := ⟨by decide, by decide, by decide, by decide⟩

theorem ok_of_pre (m : (ℓ : Loc Cert.Kernel7Ideal.nD Cert.Kernel7Ideal.τ Cert.Kernel7Ideal.sig) → Buf (Elt Ideal) ℓ)
    (h : Cert.Pre_Kernel7Ideal_finite7 (hPre_finite7 := preFacts) m) (c : Dev Cert.Kernel7Ideal.nD) : Ok (ar m c) := by
  obtain ⟨a0, a1, a2, a3, a4, a5, a6⟩ := h c
  have t32 := Cert.Claims.top32
  have t16 := Cert.Claims.top16
  exact {
    X := fun i => Cert.Claims.fine_of_lt (t32 ▸ congrFun a0 i)
    D := fun i => Cert.Claims.fine_of_lt (t32 ▸ congrFun a1 i)
    P := fun i => Cert.Claims.fine_of_lt (t32 ▸ congrFun a2 i)
    G := fun i => Cert.Claims.fine_of_lt (t32 ▸ congrFun a3 i)
    A := fun i => Cert.Claims.fine_of_lt (t16 ▸ congrFun a4 i)
    B := fun i => Cert.Claims.fine_of_lt (t16 ▸ congrFun a5 i)
    C := fun i => Cert.Claims.fine_of_lt (t16 ▸ congrFun a6 i) }

/-- From arguments that agree and are finite, both programs end with the same six gradients. -/
theorem algebraic : Cert.algebraic_Kernel7Ideal_Reference7Ideal_pre_finite7 (hKernel7Ideal := Cert.Kernel7Ideal.Gen.facts)
    (hReference7Ideal := Cert.Reference7Ideal.Gen.facts) (hPre_finite7 := preFacts) := by
  intro m ρ m' ρ' hpre hagree
  have H := ok_of_pre m hpre
  refine ⟨fun c => (ar m c).resX, fun c => (ar m c).resA, fun c => (ar m c).resB, fun c => (ar m c).resS, fun c => (ar m c).resR,
    fun c => (ar m c).resY, Cert.Kernel7Ideal.Bwd.run m ρ, ?_⟩
  refine (θ_run Cert.Reference7Ideal.defs _ _).mono (fun _ h c => ?_) (Cert.Reference7Ideal.Value.run (F := Ideal) m' ρ')
  obtain ⟨e0, e1, e2, e3, e4, e5, rest⟩ := h c
  obtain ⟨g0, g1, g2, g3, g4, g5, g6⟩ := hagree c
  refine ⟨e0.trans ?_, e1.trans ?_, e2.trans ?_, e3.trans ?_, e4.trans ?_, e5.trans ?_, rest⟩
  · refine (Cert.Reference7Ideal.Read.val_main_v92_eq m' c).trans (Eq.trans ?_ (Cert.Reference7Ideal.Bwd.fin92 (H c)))
    rw [g0, g1, g2, g3, g4, g5, g6]
  · refine (Cert.Reference7Ideal.Read.val_main_v95_eq m' c).trans (Eq.trans ?_ (Cert.Reference7Ideal.Bwd.fin95 (H c)))
    rw [g0, g1, g2, g3, g4, g5, g6]
  · refine (Cert.Reference7Ideal.Read.val_main_v98_eq m' c).trans (Eq.trans ?_ (Cert.Reference7Ideal.Bwd.fin98 (ar m c)))
    rw [g0, g1, g2, g3, g4, g6]
  · refine (Cert.Reference7Ideal.Read.val_main_v101_eq m' c).trans (Eq.trans ?_ (Cert.Reference7Ideal.Bwd.fin101 (ar m c)))
    rw [g0, g2, g3, g4, g5]
  · refine (Cert.Reference7Ideal.Read.val_main_v102_eq m' c).trans (Eq.trans ?_ (Cert.Reference7Ideal.Bwd.fin102 (H c)))
    rw [g0, g1, g2, g3, g4, g5, g6]
  · refine (Cert.Reference7Ideal.Read.val_main_v103_eq _ _).trans (Eq.trans ?_ (Cert.Reference7Ideal.Bwd.fin103 (ar m c)))
    rw [g1, g2]

end Cert.Bwd7

end
-- ==== Proof.OutProj.lean ====
/-
  The mixer's last product and the residual that takes it: the kernel makes 256 rows of each per grid point, the
  reference all 2048 at once.
-/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Pipeline.ValueKit
public import Idealize.ShloMosaic.Lib.Pointwise
public import Idealize.ShloMosaic.Lib.WritesUnit

@[expose] public section

noncomputable section

namespace Cert.Kernel8Ideal.Value

open Idealize.ShloMosaic Idealize.ShloMosaic.TcCoe Idealize.SL.Sem
open Idealize.ShloMosaic.Pipeline (Dat)
open Cert.Kernel8Ideal Cert.Kernel8Ideal.Gen

/-- The product. -/
def prod (Z W : (⟨S2048x2048, .bf16⟩ : BufTy).Contents (Elt Ideal)) : (⟨S2048x2048, .bf16⟩ : BufTy).Contents (Elt Ideal) :=
  fun i => ∑ k : Fin 2048, (Z (ix2 (i 0) k) * W (ix2 k (i 1)) : EReal)

/-- The residual: the stream and the gate's row times the product. -/
def res (Z W : (⟨S2048x2048, .bf16⟩ : BufTy).Contents (Elt Ideal)) (X : (⟨S2048x2048, .f32⟩ : BufTy).Contents (Elt Ideal))
    (P : (⟨S1x3x2048, .f32⟩ : BufTy).Contents (Elt Ideal)) : (⟨S2048x2048, .f32⟩ : BufTy).Contents (Elt Ideal) :=
  fun i => (X i + P (ix3 0 2 (i 1)) * (prod Z W i : EReal) : EReal)

variable (m : (ℓ : Loc nD τ sig) → Buf (Elt Ideal) ℓ) (ρ : Dev nD → PrngReg)

theorem pay1_apply (x : Vec Ideal S256x2048 .bf16) (y : Vec Ideal S2048x2048 .bf16) (a : Fin 256) (b : Fin 2048) :
    (k0_pay1 x y (ix2 a b) : EReal) = ∑ k : Fin 2048, (x (ix2 a k) * y (ix2 k b) : EReal) := by
  unfold k0_pay1
  pointwise

theorem pay3_apply (x : Vec Ideal S256x2048 .bf16) (y : Vec Ideal S2048x2048 .bf16) (s : Vec Ideal S256x2048 .f32) (p : Vec Ideal S1x1x2048 .f32)
    (a : Fin 256) (b : Fin 2048) :
    (k0_pay3 x y s p (ix2 a b) : EReal) = s (ix2 a b) + p (ix3 0 0 b) * ∑ k : Fin 2048, (x (ix2 a k) * y (ix2 k b) : EReal) := by
  unfold k0_pay3 k0_pay1
  pointwise

theorem idx0 : ∀ t : Fin cfg0.N, win0_0.index t = ![(grid0.coords t 0).val, 0] := by decide +kernel
theorem idx1 : ∀ t : Fin cfg0.N, win0_1.index t = ![0, 0] := by decide +kernel
theorem idx2 : ∀ t : Fin cfg0.N, win0_2.index t = ![(grid0.coords t 0).val, 0] := by decide +kernel
theorem idx3 : ∀ t : Fin cfg0.N, win0_3.index t = ![0, 0, 0] := by decide +kernel
theorem idx4 : ∀ t : Fin cfg0.N, win0_4.index t = ![(grid0.coords t 0).val, 0] := by decide +kernel
theorem idx5 : ∀ t : Fin cfg0.N, win0_5.index t = ![(grid0.coords t 0).val, 0] := by decide +kernel

theorem block0 (c : Dev nD) (t : Fin cfg0.N) (a : Fin 256) (k r : Fin 2048) (hr : r.val = (grid0.coords t 0).val * 256 + a.val) :
    (iblk m c 0 t : Vec Ideal S256x2048 .bf16) (ix2 a k) = m ((c : Thread nD τ).loc main_arg0) (ix2 r k) := by
  have hi := idx0 t
  unfold iblk
  rw [View.read_apply]
  show V m c main_arg0 _ = _
  rw [V_main_arg0]
  congr 1
  funext x
  apply Fin.ext
  match x with
  | ⟨0, _⟩ => show win0_0.index t 0 * 256 + 1 * a.val = r.val; rw [hi, hr]; show (grid0.coords t 0).val * 256 + 1 * a.val = _; omega
  | ⟨1, _⟩ => show win0_0.index t 1 * 2048 + 1 * k.val = k.val; rw [hi]; show 0 * 2048 + 1 * k.val = _; omega

theorem block1 (c : Dev nD) (t : Fin cfg0.N) (k b : Fin 2048) :
    (iblk m c 1 t : Vec Ideal S2048x2048 .bf16) (ix2 k b) = m ((c : Thread nD τ).loc main_arg1) (ix2 k b) := by
  have hi := idx1 t
  unfold iblk
  rw [View.read_apply]
  show V m c main_arg1 _ = _
  rw [V_main_arg1]
  congr 1
  funext x
  apply Fin.ext
  match x with
  | ⟨0, _⟩ => show win0_1.index t 0 * 2048 + 1 * k.val = k.val; rw [hi]; show 0 * 2048 + 1 * k.val = _; omega
  | ⟨1, _⟩ => show win0_1.index t 1 * 2048 + 1 * b.val = b.val; rw [hi]; show 0 * 2048 + 1 * b.val = _; omega

theorem block2 (c : Dev nD) (t : Fin cfg0.N) (a : Fin 256) (b r : Fin 2048) (hr : r.val = (grid0.coords t 0).val * 256 + a.val) :
    (iblk m c 2 t : Vec Ideal S256x2048 .f32) (ix2 a b) = m ((c : Thread nD τ).loc main_arg2) (ix2 r b) := by
  have hi := idx2 t
  unfold iblk
  rw [View.read_apply]
  show V m c main_arg2 _ = _
  rw [V_main_arg2]
  congr 1
  funext x
  apply Fin.ext
  match x with
  | ⟨0, _⟩ => show win0_2.index t 0 * 256 + 1 * a.val = r.val; rw [hi, hr]; show (grid0.coords t 0).val * 256 + 1 * a.val = _; omega
  | ⟨1, _⟩ => show win0_2.index t 1 * 2048 + 1 * b.val = b.val; rw [hi]; show 0 * 2048 + 1 * b.val = _; omega

theorem block3 (c : Dev nD) (t : Fin cfg0.N) (q : Fin 3) (b : Fin 2048) :
    (iblk m c 3 t : Vec Ideal S1x3x2048 .f32) (ix3 0 q b) = m ((c : Thread nD τ).loc main_arg3) (ix3 0 q b) := by
  have hi := idx3 t
  unfold iblk
  rw [View.read_apply]
  show V m c main_arg3 _ = _
  rw [V_main_arg3]
  congr 1
  funext x
  apply Fin.ext
  match x with
  | ⟨0, _⟩ => show win0_3.index t 0 * 1 + 1 * 0 = 0; rw [hi]; rfl
  | ⟨1, _⟩ => show win0_3.index t 1 * 3 + 1 * q.val = q.val; rw [hi]; show 0 * 3 + 1 * q.val = _; omega
  | ⟨2, _⟩ => show win0_3.index t 2 * 2048 + 1 * b.val = b.val; rw [hi]; show 0 * 2048 + 1 * b.val = _; omega

/-- One block's row and column of the product, and the place in the array. -/
theorem prod_at (c : Dev nD) (t : Fin cfg0.N) (a : Fin 256) (b r : Fin 2048) (hr : r.val = (grid0.coords t 0).val * 256 + a.val)
    (x : Vec Ideal S256x2048 .bf16) (y : Vec Ideal S2048x2048 .bf16) (hx : x = iblk m c 0 t) (hy : y = iblk m c 1 t) :
    ∑ k : Fin 2048, (x (ix2 a k) * y (ix2 k b) : EReal)
      = prod (m ((c : Thread nD τ).loc main_arg0)) (m ((c : Thread nD τ).loc main_arg1)) (ix2 r b) := by
  subst hx hy
  exact Finset.sum_congr rfl fun k _ => congrArg₂ (fun p q : EReal => p * q) (block0 m c t a k r hr) (block1 m c t k b)

/-- The product's array after the run. -/
theorem final5 (c : Dev nD) : (dats m 0 c).arrAt 5 cfg0.N
    = prod (m ((c : Thread nD τ).loc main_arg0)) (m ((c : Thread nD τ).loc main_arg1)) := by
  refine (dats m 0 c).arrAt_eq_of_covers 5 _ (by decide +kernel) fun t hf y => ?_
  have hi := idx5 t
  blk_simp
  rw [after0_5]
  frame_out
  have hy : (y : S256x2048.Idx) = ix2 (y 0) (y 1) := eq_ix2 _
  refine (congrArg (k0_pay2 (iblk m c 0 t) (iblk m c 1 t)) hy).trans ((pay1_apply _ _ (y 0) (y 1)).trans
    ((prod_at m c t (y 0) (y 1) ((((View.whole main_v0_1).slice (win0_5.rect t)).emb y) 0) ?_ _ _ rfl rfl).trans (congrArg _ ?_)))
  · show win0_5.index t 0 * 256 + 1 * (y 0).val = _
    rw [hi]
    show (grid0.coords t 0).val * 256 + 1 * (y 0).val = _
    omega
  · funext x
    match x with
    | ⟨0, _⟩ => rfl
    | ⟨1, _⟩ => exact Fin.ext (by show (y 1).val = win0_5.index t 1 * 2048 + 1 * (y 1).val; rw [hi]; show (y 1).val = 0 * 2048 + 1 * (y 1).val; omega)

/-- The residual's array after the run. -/
theorem final4 (c : Dev nD) : (dats m 0 c).arrAt 4 cfg0.N
    = res (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  have hi := idx4 t
  blk_simp
  rw [after0_4]
  frame_out
  have hy : (y : S256x2048.Idx) = ix2 (y 0) (y 1) := eq_ix2 _
  have h1 : ((((View.whole main_v0_0).slice (win0_4.rect t)).emb y) 1 : Fin 2048) = y 1 :=
    Fin.ext (by show win0_4.index t 1 * 2048 + 1 * (y 1).val = (y 1).val; rw [hi]; show 0 * 2048 + 1 * (y 1).val = _; omega)
  have h0 : ((((View.whole main_v0_0).slice (win0_4.rect t)).emb y) 0 : Fin 2048).val = (grid0.coords t 0).val * 256 + (y 0).val := by
    show win0_4.index t 0 * 256 + 1 * (y 0).val = _
    rw [hi]
    show (grid0.coords t 0).val * 256 + 1 * (y 0).val = _
    omega
  have he : (((View.whole main_v0_0).slice (win0_4.rect t)).emb y : S2048x2048.Idx) = ix2 ((((View.whole main_v0_0).slice (win0_4.rect t)).emb y) 0) (y 1) := by
    funext x
    match x with
    | ⟨0, _⟩ => rfl
    | ⟨1, _⟩ => exact h1
  refine (congrArg (k0_pay3 (iblk m c 0 t) (iblk m c 1 t) (iblk m c 2 t) (View.ld (iblk m c 3 t) r0_2)) hy).trans ((pay3_apply _ _ _ _ (y 0) (y 1)).trans
    (Eq.trans ?_ (congrArg _ he.symm)))
  refine congrArg₂ (fun p q : EReal => p + q) (block2 m c t _ _ _ h0) (congrArg₂ (fun p q : EReal => p * q) ?_ (prod_at m c t _ _ _ h0 _ _ rfl rfl))
  refine (congrArg (iblk m c 3 t : Vec Ideal S1x3x2048 .f32) ?_).trans (block3 m c t 2 (y 1))
  funext x
  match x with
  | ⟨0, _⟩ => rfl
  | ⟨1, _⟩ => rfl
  | ⟨2, _⟩ => exact Fin.ext (by show 0 + 1 * (y 1).val = (y 1).val; omega)

theorem run : θ_run defs (onTc (τ := τ) (main (F := Ideal))) ⟨m, fun _ => 0, ρ⟩ fun r => ∀ c : Dev nD,
      r.2.mem ((c : Thread nD τ).loc main_v0_0) = res (m ((c : Thread nD τ).loc main_arg0)) (m ((c : Thread nD τ).loc main_arg1)) (m ((c : Thread nD τ).loc main_arg2)) (m ((c : Thread nD τ).loc main_arg3))
      ∧ r.2.mem ((c : Thread nD τ).loc main_v0_1) = prod (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final4 m c), (h c).2.1.trans (final5 m c), (h c).2.2⟩) (run_blocks m ρ)

end Cert.Kernel8Ideal.Value

namespace Cert.Reference8Ideal.Value

open Idealize.ShloMosaic Idealize.ShloMosaic.TcCoe Idealize.SL.Sem
open Cert.Reference8Ideal Cert.Reference8Ideal.Gen

variable (Z W : (⟨S2048x2048, .bf16⟩ : BufTy).Contents (Elt Ideal)) (X : (⟨S2048x2048, .f32⟩ : BufTy).Contents (Elt Ideal))
  (P : (⟨S1x3x2048, .f32⟩ : BufTy).Contents (Elt Ideal))

theorem prod_apply (a b : Fin 2048) :
    (truncf .bf16 (Host.dotGeneral (F := Ideal) dot_S2048x2048_S2048x2048_S2048x2048_1_0_0_1_n_n none (extf .f32 Z bitsLt_bf16_f32) (extf .f32 W bitsLt_bf16_f32)) bitsLt_bf16_f32 : FVec Ideal S2048x2048 .bf16) (ix2 a b)
      = Cert.Kernel8Ideal.Value.prod Z W (ix2 a b) := by
  pointwise
  rfl

theorem res_apply (a b : Fin 2048) :
    (addf X (mulf (broadcastInDim S2048x2048 ![0, 1] bcast_S1x2048_S2048x2048_0_1 (shapeCast _ (extractStridedSlice S1x1x2048 ![0, 2, 0] P slices_S1x3x2048_S1x1x2048_0_2_0) shapeCasts_S1x1x2048_S1x2048)) (Host.dotGeneral dot_S2048x2048_S2048x2048_S2048x2048_1_0_0_1_n_n none (extf .f32 Z bitsLt_bf16_f32) (extf .f32 W bitsLt_bf16_f32))) : FVec Ideal S2048x2048 .f32) (ix2 a b)
      = Cert.Kernel8Ideal.Value.res Z W X P (ix2 a b) := by
  pointwise
  rfl

end Cert.Reference8Ideal.Value

namespace Cert.OutProj8

open Idealize.ShloMosaic Idealize.ShloMosaic.TcCoe Idealize.SL.Sem

theorem frame_ri : Cert.quiescent_Reference8Ideal (hReference8Ideal := Cert.Reference8Ideal.Gen.facts) := fun m ρ _ =>
  (θ_run Cert.Reference8Ideal.defs _ _).mono (fun r h => ⟨fun c => (h c).2.2, sem_eq_zero_of_no_sems (by decide) r.2⟩)
    (Cert.Reference8Ideal.Value.run (F := Ideal) m ρ)

/-- From arguments that agree both programs end with the same product and the same residual. -/
theorem algebraic : Cert.algebraic_Kernel8Ideal_Reference8Ideal (hKernel8Ideal := Cert.Kernel8Ideal.Gen.facts)
    (hReference8Ideal := Cert.Reference8Ideal.Gen.facts) := by
  intro m ρ m' ρ' _ hagree
  refine ⟨fun c => Cert.Kernel8Ideal.Value.res _ _ _ _, fun c => Cert.Kernel8Ideal.Value.prod _ _, Cert.Kernel8Ideal.Value.run m ρ, ?_⟩
  refine (θ_run Cert.Reference8Ideal.defs _ _).mono (fun _ h c => ?_) (Cert.Reference8Ideal.Value.run (F := Ideal) m' ρ')
  obtain ⟨g0, g1, g2, g3⟩ := hagree c
  refine ⟨(h c).1.trans (funext fun i => ?_), (h c).2.1.trans (funext fun i => ?_), (h c).2.2⟩
  · rw [g0, g1, g2, g3, eq_ix2 i]
    exact Cert.Reference8Ideal.Value.res_apply _ _ _ _ _ _
  · rw [g0, g1, eq_ix2 i]
    exact Cert.Reference8Ideal.Value.prod_apply _ _ _ _

end Cert.OutProj8

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Claims
public import proofs.«01_k».proof.Proof.Wgrad
public import proofs.«01_k».proof.Proof.Gen.Kernel3.Frame
public import proofs.«01_k».proof.Proof.Gen.Kernel3Ideal.Frame
public import proofs.«01_k».proof.Proof.WgradIn
public import proofs.«01_k».proof.Proof.Gen.Kernel4.Frame
public import proofs.«01_k».proof.Proof.Gen.Kernel4Ideal.Frame
public import proofs.«01_k».proof.Proof.WgradOut
public import proofs.«01_k».proof.Proof.Gen.Kernel5.Frame
public import proofs.«01_k».proof.Proof.Gen.Kernel5Ideal.Frame
public import proofs.«01_k».proof.Proof.WgradAll
public import proofs.«01_k».proof.Proof.Gen.Kernel6.Skeleton
public import proofs.«01_k».proof.Proof.FfnClaims
public import proofs.«01_k».proof.Proof.Gen.Kernel7.Skeleton
public import proofs.«01_k».proof.Proof.Gen.Kernel7Ideal.Skeleton
public import proofs.«01_k».proof.Proof.Gen.Kernel7Ideal.Frame
public import proofs.«01_k».proof.Proof.Gen.Kernel7Ideal.Loops
public import proofs.«01_k».proof.Proof.BwdClaims
public import proofs.«01_k».proof.Proof.BwdAlg
public import proofs.«01_k».proof.Proof.Gen.Kernel8.Frame
public import proofs.«01_k».proof.Proof.Gen.Kernel8Ideal.Value
public import proofs.«01_k».proof.Proof.OutProj
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts, Cert.Claims.preFacts, Cert.Bwd7.preFacts,
    fun m ρ _ => Cert.Kernel.Gen.frame m ρ, fun m ρ _ => Cert.KernelIdeal.Gen.frame m ρ, fun m ρ _ => Cert.KernelIdeal.Gen.frame m ρ,
    Cert.Claims.frame_ri, fun m ρ _ => Cert.Claims.frame_ri m ρ trivial,
    fun m ρ _ => Cert.Kernel2.Gen.frame m ρ, fun m ρ _ => Cert.Kernel2Ideal.Gen.frame m ρ, Cert.Wgrad.frame_ri,
    fun m ρ _ => Cert.Kernel3.Gen.frame m ρ, fun m ρ _ => Cert.Kernel3Ideal.Gen.frame m ρ, Cert.Wgrad3.frame_ri,
    fun m ρ _ => Cert.Kernel4.Gen.frame m ρ, fun m ρ _ => Cert.Kernel4Ideal.Gen.frame m ρ, Cert.Wgrad4.frame_ri,
    fun m ρ _ => Cert.Kernel5.Gen.frame m ρ, fun m ρ _ => Cert.Kernel5Ideal.Gen.frame m ρ, Cert.Wgrad5.frame_ri,
    Cert.Ffn6.frame_k, Cert.Ffn6.frame_ki, Cert.Ffn6.frame_ri,
    Cert.Bwd7.frame_k, Cert.Bwd7.frame_ki, fun m ρ _ => Cert.Bwd7.frame_ki m ρ trivial,
    Cert.Bwd7.frame_ri, fun m ρ _ => Cert.Bwd7.frame_ri m ρ trivial,
    fun m ρ _ => Cert.Kernel8.Gen.frame m ρ, fun m ρ _ => Cert.Kernel8Ideal.Gen.frame m ρ, Cert.OutProj8.frame_ri,
    trivial, Cert.Claims.algebraic, trivial, Cert.Wgrad.algebraic,
    trivial, Cert.Wgrad3.algebraic, trivial, Cert.Wgrad4.algebraic, trivial, Cert.Wgrad5.algebraic,
    trivial, Cert.Ffn6.algebraic, trivial, Cert.Bwd7.algebraic,
    trivial, Cert.OutProj8.algebraic⟩

end Cert.Proof

end
